-- ==== Defs.lean ====
def Pre_FfnDa (m : (ℓ : Loc Cert.FfnDa.nD Cert.FfnDa.τ Cert.FfnDa.sig) → Buf (Elt Bits) ℓ) : Prop :=
  True

def Pre_FfnDaIdeal (m : (ℓ : Loc Cert.FfnDaIdeal.nD Cert.FfnDaIdeal.τ Cert.FfnDaIdeal.sig) → Buf (Elt Ideal) ℓ) : Prop :=
  True

def Pre_RefDaIdeal (m : (ℓ : Loc Cert.RefDaIdeal.nD Cert.RefDaIdeal.τ Cert.RefDaIdeal.sig) → Buf (Elt Ideal) ℓ) : Prop :=
  True

def Pre_FfnGdown (m : (ℓ : Loc Cert.FfnGdown.nD Cert.FfnGdown.τ Cert.FfnGdown.sig) → Buf (Elt Bits) ℓ) : Prop :=
  True

def Pre_FfnGdownIdeal (m : (ℓ : Loc Cert.FfnGdownIdeal.nD Cert.FfnGdownIdeal.τ Cert.FfnGdownIdeal.sig) → Buf (Elt Ideal) ℓ) : Prop :=
  True

def Pre_RefGdownIdeal (m : (ℓ : Loc Cert.RefGdownIdeal.nD Cert.RefGdownIdeal.τ Cert.RefGdownIdeal.sig) → Buf (Elt Ideal) ℓ) : Prop :=
  True

def Pre_FfnDh (m : (ℓ : Loc Cert.FfnDh.nD Cert.FfnDh.τ Cert.FfnDh.sig) → Buf (Elt Bits) ℓ) : Prop :=
  True

def Pre_FfnDhIdeal (m : (ℓ : Loc Cert.FfnDhIdeal.nD Cert.FfnDhIdeal.τ Cert.FfnDhIdeal.sig) → Buf (Elt Ideal) ℓ) : Prop :=
  True

def Pre_RefDhIdeal (m : (ℓ : Loc Cert.RefDhIdeal.nD Cert.RefDhIdeal.τ Cert.RefDhIdeal.sig) → Buf (Elt Ideal) ℓ) : Prop :=
  True

def Pre_FfnGup (m : (ℓ : Loc Cert.FfnGup.nD Cert.FfnGup.τ Cert.FfnGup.sig) → Buf (Elt Bits) ℓ) : Prop :=
  True

def Pre_FfnGupIdeal (m : (ℓ : Loc Cert.FfnGupIdeal.nD Cert.FfnGupIdeal.τ Cert.FfnGupIdeal.sig) → Buf (Elt Ideal) ℓ) : Prop :=
  True

def Pre_RefGupIdeal (m : (ℓ : Loc Cert.RefGupIdeal.nD Cert.RefGupIdeal.τ Cert.RefGupIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_RefFfnUpIdeal (m : (ℓ : Loc Cert.RefFfnUpIdeal.nD Cert.RefFfnUpIdeal.τ Cert.RefFfnUpIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_RefFfnDownIdeal (m : (ℓ : Loc Cert.RefFfnDownIdeal.nD Cert.RefFfnDownIdeal.τ Cert.RefFfnDownIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_RefInProjIdeal (m : (ℓ : Loc Cert.RefInProjIdeal.nD Cert.RefInProjIdeal.τ Cert.RefInProjIdeal.sig) → Buf (Elt Ideal) ℓ) : Prop :=
  True

def Pre_InDh (m : (ℓ : Loc Cert.InDh.nD Cert.InDh.τ Cert.InDh.sig) → Buf (Elt Bits) ℓ) : Prop :=
  True

def Pre_InDhIdeal (m : (ℓ : Loc Cert.InDhIdeal.nD Cert.InDhIdeal.τ Cert.InDhIdeal.sig) → Buf (Elt Ideal) ℓ) : Prop :=
  True

def Pre_RefInDhIdeal (m : (ℓ : Loc Cert.RefInDhIdeal.nD Cert.RefInDhIdeal.τ Cert.RefInDhIdeal.sig) → Buf (Elt Ideal) ℓ) : Prop :=
  True

def Pre_InG (m : (ℓ : Loc Cert.InG.nD Cert.InG.τ Cert.InG.sig) → Buf (Elt Bits) ℓ) : Prop :=
  True

def Pre_InGIdeal (m : (ℓ : Loc Cert.InGIdeal.nD Cert.InGIdeal.τ Cert.InGIdeal.sig) → Buf (Elt Ideal) ℓ) : Prop :=
  True

def Pre_RefInGIdeal (m : (ℓ : Loc Cert.RefInGIdeal.nD Cert.RefInGIdeal.τ Cert.RefInGIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_RefOutProjIdeal (m : (ℓ : Loc Cert.RefOutProjIdeal.nD Cert.RefOutProjIdeal.τ Cert.RefOutProjIdeal.sig) → Buf (Elt Ideal) ℓ) : Prop :=
  True

def Pre_RowsT (m : (ℓ : Loc Cert.RowsT.nD Cert.RowsT.τ Cert.RowsT.sig) → Buf (Elt Bits) ℓ) : Prop :=
  True

def Pre_RowsTIdeal (m : (ℓ : Loc Cert.RowsTIdeal.nD Cert.RowsTIdeal.τ Cert.RowsTIdeal.sig) → Buf (Elt Ideal) ℓ) : Prop :=
  True

def Pre_RefRowsTIdeal (m : (ℓ : Loc Cert.RefRowsTIdeal.nD Cert.RefRowsTIdeal.τ Cert.RefRowsTIdeal.sig) → Buf (Elt Ideal) ℓ) : Prop :=
  True

def Pre_RowsG (m : (ℓ : Loc Cert.RowsG.nD Cert.RowsG.τ Cert.RowsG.sig) → Buf (Elt Bits) ℓ) : Prop :=
  True

def Pre_RowsGIdeal (m : (ℓ : Loc Cert.RowsGIdeal.nD Cert.RowsGIdeal.τ Cert.RowsGIdeal.sig) → Buf (Elt Ideal) ℓ) : Prop :=
  True

def Pre_RefRowsGIdeal (m : (ℓ : Loc Cert.RefRowsGIdeal.nD Cert.RefRowsGIdeal.τ Cert.RefRowsGIdeal.sig) → Buf (Elt Ideal) ℓ) : Prop :=
  True

def Pre_PoolIn (m : (ℓ : Loc Cert.PoolIn.nD Cert.PoolIn.τ Cert.PoolIn.sig) → Buf (Elt Bits) ℓ) : Prop :=
  True

def Pre_PoolInIdeal (m : (ℓ : Loc Cert.PoolInIdeal.nD Cert.PoolInIdeal.τ Cert.PoolInIdeal.sig) → Buf (Elt Ideal) ℓ) : Prop :=
  True

def Pre_RefPoolInIdeal (m : (ℓ : Loc Cert.RefPoolInIdeal.nD Cert.RefPoolInIdeal.τ Cert.RefPoolInIdeal.sig) → Buf (Elt Ideal) ℓ) : Prop :=
  True

def Pre_PoolGrp (m : (ℓ : Loc Cert.PoolGrp.nD Cert.PoolGrp.τ Cert.PoolGrp.sig) → Buf (Elt Bits) ℓ) : Prop :=
  True

def Pre_PoolGrpIdeal (m : (ℓ : Loc Cert.PoolGrpIdeal.nD Cert.PoolGrpIdeal.τ Cert.PoolGrpIdeal.sig) → Buf (Elt Ideal) ℓ) : Prop :=
  True

def Pre_RefPoolGrpIdeal (m : (ℓ : Loc Cert.RefPoolGrpIdeal.nD Cert.RefPoolGrpIdeal.τ Cert.RefPoolGrpIdeal.sig) → Buf (Elt Ideal) ℓ) : Prop :=
  True

def Pre_PoolGrpT (m : (ℓ : Loc Cert.PoolGrpT.nD Cert.PoolGrpT.τ Cert.PoolGrpT.sig) → Buf (Elt Bits) ℓ) : Prop :=
  True

def Pre_PoolGrpTIdeal (m : (ℓ : Loc Cert.PoolGrpTIdeal.nD Cert.PoolGrpTIdeal.τ Cert.PoolGrpTIdeal.sig) → Buf (Elt Ideal) ℓ) : Prop :=
  True

def Pre_RefPoolGrpTIdeal (m : (ℓ : Loc Cert.RefPoolGrpTIdeal.nD Cert.RefPoolGrpTIdeal.τ Cert.RefPoolGrpTIdeal.sig) → Buf (Elt Ideal) ℓ) : Prop :=
  True

def Pre_PoolGrpG (m : (ℓ : Loc Cert.PoolGrpG.nD Cert.PoolGrpG.τ Cert.PoolGrpG.sig) → Buf (Elt Bits) ℓ) : Prop :=
  True

def Pre_PoolGrpGIdeal (m : (ℓ : Loc Cert.PoolGrpGIdeal.nD Cert.PoolGrpGIdeal.τ Cert.PoolGrpGIdeal.sig) → Buf (Elt Ideal) ℓ) : Prop :=
  True

def Pre_RefPoolGrpGIdeal (m : (ℓ : Loc Cert.RefPoolGrpGIdeal.nD Cert.RefPoolGrpGIdeal.τ Cert.RefPoolGrpGIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_RefAdamSmallIdeal (m : (ℓ : Loc Cert.RefAdamSmallIdeal.nD Cert.RefAdamSmallIdeal.τ Cert.RefAdamSmallIdeal.sig) → Buf (Elt Ideal) ℓ) : Prop :=
  True

def Pre_AdaStep (m : (ℓ : Loc Cert.AdaStep.nD Cert.AdaStep.τ Cert.AdaStep.sig) → Buf (Elt Bits) ℓ) : Prop :=
  True

def Pre_AdaStepIdeal (m : (ℓ : Loc Cert.AdaStepIdeal.nD Cert.AdaStepIdeal.τ Cert.AdaStepIdeal.sig) → Buf (Elt Ideal) ℓ) : Prop :=
  True

def Pre_RefAdaStepIdeal (m : (ℓ : Loc Cert.RefAdaStepIdeal.nD Cert.RefAdaStepIdeal.τ Cert.RefAdaStepIdeal.sig) → Buf (Elt Ideal) ℓ) : Prop :=
  True

def Pre_AdamFfn (m : (ℓ : Loc Cert.AdamFfn.nD Cert.AdamFfn.τ Cert.AdamFfn.sig) → Buf (Elt Bits) ℓ) : Prop :=
  True

def Pre_AdamFfnIdeal (m : (ℓ : Loc Cert.AdamFfnIdeal.nD Cert.AdamFfnIdeal.τ Cert.AdamFfnIdeal.sig) → Buf (Elt Ideal) ℓ) : Prop :=
  True

def Pre_RefAdamFfnIdeal (m : (ℓ : Loc Cert.RefAdamFfnIdeal.nD Cert.RefAdamFfnIdeal.τ Cert.RefAdamFfnIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_RefAdamInIdeal (m : (ℓ : Loc Cert.RefAdamInIdeal.nD Cert.RefAdamInIdeal.τ Cert.RefAdamInIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_RefAdamOutIdeal (m : (ℓ : Loc Cert.RefAdamOutIdeal.nD Cert.RefAdamOutIdeal.τ Cert.RefAdamOutIdeal.sig) → Buf (Elt Ideal) ℓ) : Prop :=
  True

def Pre_AdamGrp (m : (ℓ : Loc Cert.AdamGrp.nD Cert.AdamGrp.τ Cert.AdamGrp.sig) → Buf (Elt Bits) ℓ) : Prop :=
  True

def Pre_AdamGrpIdeal (m : (ℓ : Loc Cert.AdamGrpIdeal.nD Cert.AdamGrpIdeal.τ Cert.AdamGrpIdeal.sig) → Buf (Elt Ideal) ℓ) : Prop :=
  True

def Pre_RefAdamGrpIdeal (m : (ℓ : Loc Cert.RefAdamGrpIdeal.nD Cert.RefAdamGrpIdeal.τ Cert.RefAdamGrpIdeal.sig) → Buf (Elt Ideal) ℓ) : Prop :=
  True

def Pre_Mods (m : (ℓ : Loc Cert.Mods.nD Cert.Mods.τ Cert.Mods.sig) → Buf (Elt Bits) ℓ) : Prop :=
  True

def Pre_ModsIdeal (m : (ℓ : Loc Cert.ModsIdeal.nD Cert.ModsIdeal.τ Cert.ModsIdeal.sig) → Buf (Elt Ideal) ℓ) : Prop :=
  True

def Pre_RefModsIdeal (m : (ℓ : Loc Cert.RefModsIdeal.nD Cert.RefModsIdeal.τ Cert.RefModsIdeal.sig) → Buf (Elt Ideal) ℓ) : Prop :=
  True

def Pre_NormMix (m : (ℓ : Loc Cert.NormMix.nD Cert.NormMix.τ Cert.NormMix.sig) → Buf (Elt Bits) ℓ) : Prop :=
  True

def Pre_NormMixIdeal (m : (ℓ : Loc Cert.NormMixIdeal.nD Cert.NormMixIdeal.τ Cert.NormMixIdeal.sig) → Buf (Elt Ideal) ℓ) : Prop :=
  True

def Pre_RefNormMixIdeal (m : (ℓ : Loc Cert.RefNormMixIdeal.nD Cert.RefNormMixIdeal.τ Cert.RefNormMixIdeal.sig) → Buf (Elt Ideal) ℓ) : Prop :=
  True

def Pre_NormFfn (m : (ℓ : Loc Cert.NormFfn.nD Cert.NormFfn.τ Cert.NormFfn.sig) → Buf (Elt Bits) ℓ) : Prop :=
  True

def Pre_NormFfnIdeal (m : (ℓ : Loc Cert.NormFfnIdeal.nD Cert.NormFfnIdeal.τ Cert.NormFfnIdeal.sig) → Buf (Elt Ideal) ℓ) : Prop :=
  True

def Pre_RefNormFfnIdeal (m : (ℓ : Loc Cert.RefNormFfnIdeal.nD Cert.RefNormFfnIdeal.τ Cert.RefNormFfnIdeal.sig) → Buf (Elt Ideal) ℓ) : Prop :=
  True

def Pre_Readout (m : (ℓ : Loc Cert.Readout.nD Cert.Readout.τ Cert.Readout.sig) → Buf (Elt Bits) ℓ) : Prop :=
  True

def Pre_ReadoutIdeal (m : (ℓ : Loc Cert.ReadoutIdeal.nD Cert.ReadoutIdeal.τ Cert.ReadoutIdeal.sig) → Buf (Elt Ideal) ℓ) : Prop :=
  True

def Pre_RefReadoutIdeal (m : (ℓ : Loc Cert.RefReadoutIdeal.nD Cert.RefReadoutIdeal.τ Cert.RefReadoutIdeal.sig) → Buf (Elt Ideal) ℓ) : Prop :=
  True

def Pre_ChunkMlp (m : (ℓ : Loc Cert.ChunkMlp.nD Cert.ChunkMlp.τ Cert.ChunkMlp.sig) → Buf (Elt Bits) ℓ) : Prop :=
  True

def Pre_ChunkMlpIdeal (m : (ℓ : Loc Cert.ChunkMlpIdeal.nD Cert.ChunkMlpIdeal.τ Cert.ChunkMlpIdeal.sig) → Buf (Elt Ideal) ℓ) : Prop :=
  True

def Pre_RefChunkMlpIdeal (m : (ℓ : Loc Cert.RefChunkMlpIdeal.nD Cert.RefChunkMlpIdeal.τ Cert.RefChunkMlpIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_RefSumSmallIdeal (m : (ℓ : Loc Cert.RefSumSmallIdeal.nD Cert.RefSumSmallIdeal.τ Cert.RefSumSmallIdeal.sig) → Buf (Elt Ideal) ℓ) : Prop :=
  True

def quiescent_FfnDa [hFfnDa : Cert.FfnDa.Facts] : Prop :=
  ∀ (m : (ℓ : Loc Cert.FfnDa.nD Cert.FfnDa.τ Cert.FfnDa.sig) → Buf (Elt Bits) ℓ) (g : Dev Cert.FfnDa.nD → PrngReg), Pre_FfnDa m →
    θ_run (Cert.FfnDa.defs (F := Bits)) (onTc (τ := Cert.FfnDa.τ) (Cert.FfnDa.main (F := Bits))) ⟨m, fun _ => 0, g⟩ (fun r => (∀ c : Dev Cert.FfnDa.nD,
      r.2.mem ((c.tc : Thread Cert.FfnDa.nD Cert.FfnDa.τ).loc Cert.FfnDa.main_arg0) = m ((c.tc : Thread Cert.FfnDa.nD Cert.FfnDa.τ).loc Cert.FfnDa.main_arg0)
      ∧ r.2.mem ((c.tc : Thread Cert.FfnDa.nD Cert.FfnDa.τ).loc Cert.FfnDa.main_arg1) = m ((c.tc : Thread Cert.FfnDa.nD Cert.FfnDa.τ).loc Cert.FfnDa.main_arg1)
      ∧ r.2.mem ((c.tc : Thread Cert.FfnDa.nD Cert.FfnDa.τ).loc Cert.FfnDa.main_arg2) = m ((c.tc : Thread Cert.FfnDa.nD Cert.FfnDa.τ).loc Cert.FfnDa.main_arg2))
      ∧ r.2.sem = fun _ => 0)

def quiescent_FfnDaIdeal [hFfnDaIdeal : Cert.FfnDaIdeal.Facts] : Prop :=
  ∀ (m : (ℓ : Loc Cert.FfnDaIdeal.nD Cert.FfnDaIdeal.τ Cert.FfnDaIdeal.sig) → Buf (Elt Ideal) ℓ) (g : Dev Cert.FfnDaIdeal.nD → PrngReg), Pre_FfnDaIdeal m →
    θ_run (Cert.FfnDaIdeal.defs (F := Ideal)) (onTc (τ := Cert.FfnDaIdeal.τ) (Cert.FfnDaIdeal.main (F := Ideal))) ⟨m, fun _ => 0, g⟩ (fun r => (∀ c : Dev Cert.FfnDaIdeal.nD,
      r.2.mem ((c.tc : Thread Cert.FfnDaIdeal.nD Cert.FfnDaIdeal.τ).loc Cert.FfnDaIdeal.main_arg0) = m ((c.tc : Thread Cert.FfnDaIdeal.nD Cert.FfnDaIdeal.τ).loc Cert.FfnDaIdeal.main_arg0)
      ∧ r.2.mem ((c.tc : Thread Cert.FfnDaIdeal.nD Cert.FfnDaIdeal.τ).loc Cert.FfnDaIdeal.main_arg1) = m ((c.tc : Thread Cert.FfnDaIdeal.nD Cert.FfnDaIdeal.τ).loc Cert.FfnDaIdeal.main_arg1)
      ∧ r.2.mem ((c.tc : Thread Cert.FfnDaIdeal.nD Cert.FfnDaIdeal.τ).loc Cert.FfnDaIdeal.main_arg2) = m ((c.tc : Thread Cert.FfnDaIdeal.nD Cert.FfnDaIdeal.τ).loc Cert.FfnDaIdeal.main_arg2))
      ∧ r.2.sem = fun _ => 0)

def quiescent_RefDaIdeal [hRefDaIdeal : Cert.RefDaIdeal.Facts] : Prop :=
  ∀ (m : (ℓ : Loc Cert.RefDaIdeal.nD Cert.RefDaIdeal.τ Cert.RefDaIdeal.sig) → Buf (Elt Ideal) ℓ) (g : Dev Cert.RefDaIdeal.nD → PrngReg), Pre_RefDaIdeal m →
    θ_run (Cert.RefDaIdeal.defs (F := Ideal)) (onTc (τ := Cert.RefDaIdeal.τ) (Cert.RefDaIdeal.main (F := Ideal))) ⟨m, fun _ => 0, g⟩ (fun r => (∀ c : Dev Cert.RefDaIdeal.nD,
      r.2.mem ((c.tc : Thread Cert.RefDaIdeal.nD Cert.RefDaIdeal.τ).loc Cert.RefDaIdeal.main_arg0) = m ((c.tc : Thread Cert.RefDaIdeal.nD Cert.RefDaIdeal.τ).loc Cert.RefDaIdeal.main_arg0)
      ∧ r.2.mem ((c.tc : Thread Cert.RefDaIdeal.nD Cert.RefDaIdeal.τ).loc Cert.RefDaIdeal.main_arg1) = m ((c.tc : Thread Cert.RefDaIdeal.nD Cert.RefDaIdeal.τ).loc Cert.RefDaIdeal.main_arg1)
      ∧ r.2.mem ((c.tc : Thread Cert.RefDaIdeal.nD Cert.RefDaIdeal.τ).loc Cert.RefDaIdeal.main_arg2) = m ((c.tc : Thread Cert.RefDaIdeal.nD Cert.RefDaIdeal.τ).loc Cert.RefDaIdeal.main_arg2))
      ∧ r.2.sem = fun _ => 0)

def quiescent_FfnGdown [hFfnGdown : Cert.FfnGdown.Facts] : Prop :=
  ∀ (m : (ℓ : Loc Cert.FfnGdown.nD Cert.FfnGdown.τ Cert.FfnGdown.sig) → Buf (Elt Bits) ℓ) (g : Dev Cert.FfnGdown.nD → PrngReg), Pre_FfnGdown m →
    θ_run (Cert.FfnGdown.defs (F := Bits)) (onTc (τ := Cert.FfnGdown.τ) (Cert.FfnGdown.main (F := Bits))) ⟨m, fun _ => 0, g⟩ (fun r => (∀ c : Dev Cert.FfnGdown.nD,
      r.2.mem ((c.tc : Thread Cert.FfnGdown.nD Cert.FfnGdown.τ).loc Cert.FfnGdown.main_arg0) = m ((c.tc : Thread Cert.FfnGdown.nD Cert.FfnGdown.τ).loc Cert.FfnGdown.main_arg0)
      ∧ r.2.mem ((c.tc : Thread Cert.FfnGdown.nD Cert.FfnGdown.τ).loc Cert.FfnGdown.main_arg1) = m ((c.tc : Thread Cert.FfnGdown.nD Cert.FfnGdown.τ).loc Cert.FfnGdown.main_arg1))
      ∧ r.2.sem = fun _ => 0)

def quiescent_FfnGdownIdeal [hFfnGdownIdeal : Cert.FfnGdownIdeal.Facts] : Prop :=
  ∀ (m : (ℓ : Loc Cert.FfnGdownIdeal.nD Cert.FfnGdownIdeal.τ Cert.FfnGdownIdeal.sig) → Buf (Elt Ideal) ℓ) (g : Dev Cert.FfnGdownIdeal.nD → PrngReg), Pre_FfnGdownIdeal m →
    θ_run (Cert.FfnGdownIdeal.defs (F := Ideal)) (onTc (τ := Cert.FfnGdownIdeal.τ) (Cert.FfnGdownIdeal.main (F := Ideal))) ⟨m, fun _ => 0, g⟩ (fun r => (∀ c : Dev Cert.FfnGdownIdeal.nD,
      r.2.mem ((c.tc : Thread Cert.FfnGdownIdeal.nD Cert.FfnGdownIdeal.τ).loc Cert.FfnGdownIdeal.main_arg0) = m ((c.tc : Thread Cert.FfnGdownIdeal.nD Cert.FfnGdownIdeal.τ).loc Cert.FfnGdownIdeal.main_arg0)
      ∧ r.2.mem ((c.tc : Thread Cert.FfnGdownIdeal.nD Cert.FfnGdownIdeal.τ).loc Cert.FfnGdownIdeal.main_arg1) = m ((c.tc : Thread Cert.FfnGdownIdeal.nD Cert.FfnGdownIdeal.τ).loc Cert.FfnGdownIdeal.main_arg1))
      ∧ r.2.sem = fun _ => 0)

def quiescent_RefGdownIdeal [hRefGdownIdeal : Cert.RefGdownIdeal.Facts] : Prop :=
  ∀ (m : (ℓ : Loc Cert.RefGdownIdeal.nD Cert.RefGdownIdeal.τ Cert.RefGdownIdeal.sig) → Buf (Elt Ideal) ℓ) (g : Dev Cert.RefGdownIdeal.nD → PrngReg), Pre_RefGdownIdeal m →
    θ_run (Cert.RefGdownIdeal.defs (F := Ideal)) (onTc (τ := Cert.RefGdownIdeal.τ) (Cert.RefGdownIdeal.main (F := Ideal))) ⟨m, fun _ => 0, g⟩ (fun r => (∀ c : Dev Cert.RefGdownIdeal.nD,
      r.2.mem ((c.tc : Thread Cert.RefGdownIdeal.nD Cert.RefGdownIdeal.τ).loc Cert.RefGdownIdeal.main_arg0) = m ((c.tc : Thread Cert.RefGdownIdeal.nD Cert.RefGdownIdeal.τ).loc Cert.RefGdownIdeal.main_arg0)
      ∧ r.2.mem ((c.tc : Thread Cert.RefGdownIdeal.nD Cert.RefGdownIdeal.τ).loc Cert.RefGdownIdeal.main_arg1) = m ((c.tc : Thread Cert.RefGdownIdeal.nD Cert.RefGdownIdeal.τ).loc Cert.RefGdownIdeal.main_arg1))
      ∧ r.2.sem = fun _ => 0)

def quiescent_FfnDh [hFfnDh : Cert.FfnDh.Facts] : Prop :=
  ∀ (m : (ℓ : Loc Cert.FfnDh.nD Cert.FfnDh.τ Cert.FfnDh.sig) → Buf (Elt Bits) ℓ) (g : Dev Cert.FfnDh.nD → PrngReg), Pre_FfnDh m →
    θ_run (Cert.FfnDh.defs (F := Bits)) (onTc (τ := Cert.FfnDh.τ) (Cert.FfnDh.main (F := Bits))) ⟨m, fun _ => 0, g⟩ (fun r => (∀ c : Dev Cert.FfnDh.nD,
      r.2.mem ((c.tc : Thread Cert.FfnDh.nD Cert.FfnDh.τ).loc Cert.FfnDh.main_arg0) = m ((c.tc : Thread Cert.FfnDh.nD Cert.FfnDh.τ).loc Cert.FfnDh.main_arg0)
      ∧ r.2.mem ((c.tc : Thread Cert.FfnDh.nD Cert.FfnDh.τ).loc Cert.FfnDh.main_arg1) = m ((c.tc : Thread Cert.FfnDh.nD Cert.FfnDh.τ).loc Cert.FfnDh.main_arg1))
      ∧ r.2.sem = fun _ => 0)

def quiescent_FfnDhIdeal [hFfnDhIdeal : Cert.FfnDhIdeal.Facts] : Prop :=
  ∀ (m : (ℓ : Loc Cert.FfnDhIdeal.nD Cert.FfnDhIdeal.τ Cert.FfnDhIdeal.sig) → Buf (Elt Ideal) ℓ) (g : Dev Cert.FfnDhIdeal.nD → PrngReg), Pre_FfnDhIdeal m →
    θ_run (Cert.FfnDhIdeal.defs (F := Ideal)) (onTc (τ := Cert.FfnDhIdeal.τ) (Cert.FfnDhIdeal.main (F := Ideal))) ⟨m, fun _ => 0, g⟩ (fun r => (∀ c : Dev Cert.FfnDhIdeal.nD,
      r.2.mem ((c.tc : Thread Cert.FfnDhIdeal.nD Cert.FfnDhIdeal.τ).loc Cert.FfnDhIdeal.main_arg0) = m ((c.tc : Thread Cert.FfnDhIdeal.nD Cert.FfnDhIdeal.τ).loc Cert.FfnDhIdeal.main_arg0)
      ∧ r.2.mem ((c.tc : Thread Cert.FfnDhIdeal.nD Cert.FfnDhIdeal.τ).loc Cert.FfnDhIdeal.main_arg1) = m ((c.tc : Thread Cert.FfnDhIdeal.nD Cert.FfnDhIdeal.τ).loc Cert.FfnDhIdeal.main_arg1))
      ∧ r.2.sem = fun _ => 0)

def quiescent_RefDhIdeal [hRefDhIdeal : Cert.RefDhIdeal.Facts] : Prop :=
  ∀ (m : (ℓ : Loc Cert.RefDhIdeal.nD Cert.RefDhIdeal.τ Cert.RefDhIdeal.sig) → Buf (Elt Ideal) ℓ) (g : Dev Cert.RefDhIdeal.nD → PrngReg), Pre_RefDhIdeal m →
    θ_run (Cert.RefDhIdeal.defs (F := Ideal)) (onTc (τ := Cert.RefDhIdeal.τ) (Cert.RefDhIdeal.main (F := Ideal))) ⟨m, fun _ => 0, g⟩ (fun r => (∀ c : Dev Cert.RefDhIdeal.nD,
      r.2.mem ((c.tc : Thread Cert.RefDhIdeal.nD Cert.RefDhIdeal.τ).loc Cert.RefDhIdeal.main_arg0) = m ((c.tc : Thread Cert.RefDhIdeal.nD Cert.RefDhIdeal.τ).loc Cert.RefDhIdeal.main_arg0)
      ∧ r.2.mem ((c.tc : Thread Cert.RefDhIdeal.nD Cert.RefDhIdeal.τ).loc Cert.RefDhIdeal.main_arg1) = m ((c.tc : Thread Cert.RefDhIdeal.nD Cert.RefDhIdeal.τ).loc Cert.RefDhIdeal.main_arg1))
      ∧ r.2.sem = fun _ => 0)

def quiescent_FfnGup [hFfnGup : Cert.FfnGup.Facts] : Prop :=
  ∀ (m : (ℓ : Loc Cert.FfnGup.nD Cert.FfnGup.τ Cert.FfnGup.sig) → Buf (Elt Bits) ℓ) (g : Dev Cert.FfnGup.nD → PrngReg), Pre_FfnGup m →
    θ_run (Cert.FfnGup.defs (F := Bits)) (onTc (τ := Cert.FfnGup.τ) (Cert.FfnGup.main (F := Bits))) ⟨m, fun _ => 0, g⟩ (fun r => (∀ c : Dev Cert.FfnGup.nD,
      r.2.mem ((c.tc : Thread Cert.FfnGup.nD Cert.FfnGup.τ).loc Cert.FfnGup.main_arg0) = m ((c.tc : Thread Cert.FfnGup.nD Cert.FfnGup.τ).loc Cert.FfnGup.main_arg0)
      ∧ r.2.mem ((c.tc : Thread Cert.FfnGup.nD Cert.FfnGup.τ).loc Cert.FfnGup.main_arg1) = m ((c.tc : Thread Cert.FfnGup.nD Cert.FfnGup.τ).loc Cert.FfnGup.main_arg1))
      ∧ r.2.sem = fun _ => 0)

def quiescent_FfnGupIdeal [hFfnGupIdeal : Cert.FfnGupIdeal.Facts] : Prop :=
  ∀ (m : (ℓ : Loc Cert.FfnGupIdeal.nD Cert.FfnGupIdeal.τ Cert.FfnGupIdeal.sig) → Buf (Elt Ideal) ℓ) (g : Dev Cert.FfnGupIdeal.nD → PrngReg), Pre_FfnGupIdeal m →
    θ_run (Cert.FfnGupIdeal.defs (F := Ideal)) (onTc (τ := Cert.FfnGupIdeal.τ) (Cert.FfnGupIdeal.main (F := Ideal))) ⟨m, fun _ => 0, g⟩ (fun r => (∀ c : Dev Cert.FfnGupIdeal.nD,
      r.2.mem ((c.tc : Thread Cert.FfnGupIdeal.nD Cert.FfnGupIdeal.τ).loc Cert.FfnGupIdeal.main_arg0) = m ((c.tc : Thread Cert.FfnGupIdeal.nD Cert.FfnGupIdeal.τ).loc Cert.FfnGupIdeal.main_arg0)
      ∧ r.2.mem ((c.tc : Thread Cert.FfnGupIdeal.nD Cert.FfnGupIdeal.τ).loc Cert.FfnGupIdeal.main_arg1) = m ((c.tc : Thread Cert.FfnGupIdeal.nD Cert.FfnGupIdeal.τ).loc Cert.FfnGupIdeal.main_arg1))
      ∧ r.2.sem = fun _ => 0)

def quiescent_RefGupIdeal [hRefGupIdeal : Cert.RefGupIdeal.Facts] : Prop :=
  ∀ (m : (ℓ : Loc Cert.RefGupIdeal.nD Cert.RefGupIdeal.τ Cert.RefGupIdeal.sig) → Buf (Elt Ideal) ℓ) (g : Dev Cert.RefGupIdeal.nD → PrngReg), Pre_RefGupIdeal m →
    θ_run (Cert.RefGupIdeal.defs (F := Ideal)) (onTc (τ := Cert.RefGupIdeal.τ) (Cert.RefGupIdeal.main (F := Ideal))) ⟨m, fun _ => 0, g⟩ (fun r => (∀ c : Dev Cert.RefGupIdeal.nD,
      r.2.mem ((c.tc : Thread Cert.RefGupIdeal.nD Cert.RefGupIdeal.τ).loc Cert.RefGupIdeal.main_arg0) = m ((c.tc : Thread Cert.RefGupIdeal.nD Cert.RefGupIdeal.τ).loc Cert.RefGupIdeal.main_arg0)
      ∧ r.2.mem ((c.tc : Thread Cert.RefGupIdeal.nD Cert.RefGupIdeal.τ).loc Cert.RefGupIdeal.main_arg1) = m ((c.tc : Thread Cert.RefGupIdeal.nD Cert.RefGupIdeal.τ).loc Cert.RefGupIdeal.main_arg1))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_RefFfnUpIdeal [hRefFfnUpIdeal : Cert.RefFfnUpIdeal.Facts] : Prop :=
  ∀ (m : (ℓ : Loc Cert.RefFfnUpIdeal.nD Cert.RefFfnUpIdeal.τ Cert.RefFfnUpIdeal.sig) → Buf (Elt Ideal) ℓ) (g : Dev Cert.RefFfnUpIdeal.nD → PrngReg), Pre_RefFfnUpIdeal m →
    θ_run (Cert.RefFfnUpIdeal.defs (F := Ideal)) (onTc (τ := Cert.RefFfnUpIdeal.τ) (Cert.RefFfnUpIdeal.main (F := Ideal))) ⟨m, fun _ => 0, g⟩ (fun r => (∀ c : Dev Cert.RefFfnUpIdeal.nD,
      r.2.mem ((c.tc : Thread Cert.RefFfnUpIdeal.nD Cert.RefFfnUpIdeal.τ).loc Cert.RefFfnUpIdeal.main_arg0) = m ((c.tc : Thread Cert.RefFfnUpIdeal.nD Cert.RefFfnUpIdeal.τ).loc Cert.RefFfnUpIdeal.main_arg0)
      ∧ r.2.mem ((c.tc : Thread Cert.RefFfnUpIdeal.nD Cert.RefFfnUpIdeal.τ).loc Cert.RefFfnUpIdeal.main_arg1) = m ((c.tc : Thread Cert.RefFfnUpIdeal.nD Cert.RefFfnUpIdeal.τ).loc Cert.RefFfnUpIdeal.main_arg1))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2)
      ∧ r.2.mem ((c.tc : Thread Cert.FfnDown.nD Cert.FfnDown.τ).loc Cert.FfnDown.main_arg3) = m ((c.tc : Thread Cert.FfnDown.nD Cert.FfnDown.τ).loc Cert.FfnDown.main_arg3))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ r.2.sem = fun _ => 0)

def quiescent_RefFfnDownIdeal [hRefFfnDownIdeal : Cert.RefFfnDownIdeal.Facts] : Prop :=
  ∀ (m : (ℓ : Loc Cert.RefFfnDownIdeal.nD Cert.RefFfnDownIdeal.τ Cert.RefFfnDownIdeal.sig) → Buf (Elt Ideal) ℓ) (g : Dev Cert.RefFfnDownIdeal.nD → PrngReg), Pre_RefFfnDownIdeal m →
    θ_run (Cert.RefFfnDownIdeal.defs (F := Ideal)) (onTc (τ := Cert.RefFfnDownIdeal.τ) (Cert.RefFfnDownIdeal.main (F := Ideal))) ⟨m, fun _ => 0, g⟩ (fun r => (∀ c : Dev Cert.RefFfnDownIdeal.nD,
      r.2.mem ((c.tc : Thread Cert.RefFfnDownIdeal.nD Cert.RefFfnDownIdeal.τ).loc Cert.RefFfnDownIdeal.main_arg0) = m ((c.tc : Thread Cert.RefFfnDownIdeal.nD Cert.RefFfnDownIdeal.τ).loc Cert.RefFfnDownIdeal.main_arg0)
      ∧ r.2.mem ((c.tc : Thread Cert.RefFfnDownIdeal.nD Cert.RefFfnDownIdeal.τ).loc Cert.RefFfnDownIdeal.main_arg1) = m ((c.tc : Thread Cert.RefFfnDownIdeal.nD Cert.RefFfnDownIdeal.τ).loc Cert.RefFfnDownIdeal.main_arg1)
      ∧ r.2.mem ((c.tc : Thread Cert.RefFfnDownIdeal.nD Cert.RefFfnDownIdeal.τ).loc Cert.RefFfnDownIdeal.main_arg2) = m ((c.tc : Thread Cert.RefFfnDownIdeal.nD Cert.RefFfnDownIdeal.τ).loc Cert.RefFfnDownIdeal.main_arg2)
      ∧ r.2.mem ((c.tc : Thread Cert.RefFfnDownIdeal.nD Cert.RefFfnDownIdeal.τ).loc Cert.RefFfnDownIdeal.main_arg3) = m ((c.tc : Thread Cert.RefFfnDownIdeal.nD Cert.RefFfnDownIdeal.τ).loc Cert.RefFfnDownIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_RefInProjIdeal [hRefInProjIdeal : Cert.RefInProjIdeal.Facts] : Prop :=
  ∀ (m : (ℓ : Loc Cert.RefInProjIdeal.nD Cert.RefInProjIdeal.τ Cert.RefInProjIdeal.sig) → Buf (Elt Ideal) ℓ) (g : Dev Cert.RefInProjIdeal.nD → PrngReg), Pre_RefInProjIdeal m →
    θ_run (Cert.RefInProjIdeal.defs (F := Ideal)) (onTc (τ := Cert.RefInProjIdeal.τ) (Cert.RefInProjIdeal.main (F := Ideal))) ⟨m, fun _ => 0, g⟩ (fun r => (∀ c : Dev Cert.RefInProjIdeal.nD,
      r.2.mem ((c.tc : Thread Cert.RefInProjIdeal.nD Cert.RefInProjIdeal.τ).loc Cert.RefInProjIdeal.main_arg0) = m ((c.tc : Thread Cert.RefInProjIdeal.nD Cert.RefInProjIdeal.τ).loc Cert.RefInProjIdeal.main_arg0)
      ∧ r.2.mem ((c.tc : Thread Cert.RefInProjIdeal.nD Cert.RefInProjIdeal.τ).loc Cert.RefInProjIdeal.main_arg1) = m ((c.tc : Thread Cert.RefInProjIdeal.nD Cert.RefInProjIdeal.τ).loc Cert.RefInProjIdeal.main_arg1))
      ∧ r.2.sem = fun _ => 0)

def quiescent_InDh [hInDh : Cert.InDh.Facts] : Prop :=
  ∀ (m : (ℓ : Loc Cert.InDh.nD Cert.InDh.τ Cert.InDh.sig) → Buf (Elt Bits) ℓ) (g : Dev Cert.InDh.nD → PrngReg), Pre_InDh m →
    θ_run (Cert.InDh.defs (F := Bits)) (onTc (τ := Cert.InDh.τ) (Cert.InDh.main (F := Bits))) ⟨m, fun _ => 0, g⟩ (fun r => (∀ c : Dev Cert.InDh.nD,
      r.2.mem ((c.tc : Thread Cert.InDh.nD Cert.InDh.τ).loc Cert.InDh.main_arg0) = m ((c.tc : Thread Cert.InDh.nD Cert.InDh.τ).loc Cert.InDh.main_arg0)
      ∧ r.2.mem ((c.tc : Thread Cert.InDh.nD Cert.InDh.τ).loc Cert.InDh.main_arg1) = m ((c.tc : Thread Cert.InDh.nD Cert.InDh.τ).loc Cert.InDh.main_arg1))
      ∧ r.2.sem = fun _ => 0)

def quiescent_InDhIdeal [hInDhIdeal : Cert.InDhIdeal.Facts] : Prop :=
  ∀ (m : (ℓ : Loc Cert.InDhIdeal.nD Cert.InDhIdeal.τ Cert.InDhIdeal.sig) → Buf (Elt Ideal) ℓ) (g : Dev Cert.InDhIdeal.nD → PrngReg), Pre_InDhIdeal m →
    θ_run (Cert.InDhIdeal.defs (F := Ideal)) (onTc (τ := Cert.InDhIdeal.τ) (Cert.InDhIdeal.main (F := Ideal))) ⟨m, fun _ => 0, g⟩ (fun r => (∀ c : Dev Cert.InDhIdeal.nD,
      r.2.mem ((c.tc : Thread Cert.InDhIdeal.nD Cert.InDhIdeal.τ).loc Cert.InDhIdeal.main_arg0) = m ((c.tc : Thread Cert.InDhIdeal.nD Cert.InDhIdeal.τ).loc Cert.InDhIdeal.main_arg0)
      ∧ r.2.mem ((c.tc : Thread Cert.InDhIdeal.nD Cert.InDhIdeal.τ).loc Cert.InDhIdeal.main_arg1) = m ((c.tc : Thread Cert.InDhIdeal.nD Cert.InDhIdeal.τ).loc Cert.InDhIdeal.main_arg1))
      ∧ r.2.sem = fun _ => 0)

def quiescent_RefInDhIdeal [hRefInDhIdeal : Cert.RefInDhIdeal.Facts] : Prop :=
  ∀ (m : (ℓ : Loc Cert.RefInDhIdeal.nD Cert.RefInDhIdeal.τ Cert.RefInDhIdeal.sig) → Buf (Elt Ideal) ℓ) (g : Dev Cert.RefInDhIdeal.nD → PrngReg), Pre_RefInDhIdeal m →
    θ_run (Cert.RefInDhIdeal.defs (F := Ideal)) (onTc (τ := Cert.RefInDhIdeal.τ) (Cert.RefInDhIdeal.main (F := Ideal))) ⟨m, fun _ => 0, g⟩ (fun r => (∀ c : Dev Cert.RefInDhIdeal.nD,
      r.2.mem ((c.tc : Thread Cert.RefInDhIdeal.nD Cert.RefInDhIdeal.τ).loc Cert.RefInDhIdeal.main_arg0) = m ((c.tc : Thread Cert.RefInDhIdeal.nD Cert.RefInDhIdeal.τ).loc Cert.RefInDhIdeal.main_arg0)
      ∧ r.2.mem ((c.tc : Thread Cert.RefInDhIdeal.nD Cert.RefInDhIdeal.τ).loc Cert.RefInDhIdeal.main_arg1) = m ((c.tc : Thread Cert.RefInDhIdeal.nD Cert.RefInDhIdeal.τ).loc Cert.RefInDhIdeal.main_arg1))
      ∧ r.2.sem = fun _ => 0)

def quiescent_InG [hInG : Cert.InG.Facts] : Prop :=
  ∀ (m : (ℓ : Loc Cert.InG.nD Cert.InG.τ Cert.InG.sig) → Buf (Elt Bits) ℓ) (g : Dev Cert.InG.nD → PrngReg), Pre_InG m →
    θ_run (Cert.InG.defs (F := Bits)) (onTc (τ := Cert.InG.τ) (Cert.InG.main (F := Bits))) ⟨m, fun _ => 0, g⟩ (fun r => (∀ c : Dev Cert.InG.nD,
      r.2.mem ((c.tc : Thread Cert.InG.nD Cert.InG.τ).loc Cert.InG.main_arg0) = m ((c.tc : Thread Cert.InG.nD Cert.InG.τ).loc Cert.InG.main_arg0)
      ∧ r.2.mem ((c.tc : Thread Cert.InG.nD Cert.InG.τ).loc Cert.InG.main_arg1) = m ((c.tc : Thread Cert.InG.nD Cert.InG.τ).loc Cert.InG.main_arg1))
      ∧ r.2.sem = fun _ => 0)

def quiescent_InGIdeal [hInGIdeal : Cert.InGIdeal.Facts] : Prop :=
  ∀ (m : (ℓ : Loc Cert.InGIdeal.nD Cert.InGIdeal.τ Cert.InGIdeal.sig) → Buf (Elt Ideal) ℓ) (g : Dev Cert.InGIdeal.nD → PrngReg), Pre_InGIdeal m →
    θ_run (Cert.InGIdeal.defs (F := Ideal)) (onTc (τ := Cert.InGIdeal.τ) (Cert.InGIdeal.main (F := Ideal))) ⟨m, fun _ => 0, g⟩ (fun r => (∀ c : Dev Cert.InGIdeal.nD,
      r.2.mem ((c.tc : Thread Cert.InGIdeal.nD Cert.InGIdeal.τ).loc Cert.InGIdeal.main_arg0) = m ((c.tc : Thread Cert.InGIdeal.nD Cert.InGIdeal.τ).loc Cert.InGIdeal.main_arg0)
      ∧ r.2.mem ((c.tc : Thread Cert.InGIdeal.nD Cert.InGIdeal.τ).loc Cert.InGIdeal.main_arg1) = m ((c.tc : Thread Cert.InGIdeal.nD Cert.InGIdeal.τ).loc Cert.InGIdeal.main_arg1))
      ∧ r.2.sem = fun _ => 0)

def quiescent_RefInGIdeal [hRefInGIdeal : Cert.RefInGIdeal.Facts] : Prop :=
  ∀ (m : (ℓ : Loc Cert.RefInGIdeal.nD Cert.RefInGIdeal.τ Cert.RefInGIdeal.sig) → Buf (Elt Ideal) ℓ) (g : Dev Cert.RefInGIdeal.nD → PrngReg), Pre_RefInGIdeal m →
    θ_run (Cert.RefInGIdeal.defs (F := Ideal)) (onTc (τ := Cert.RefInGIdeal.τ) (Cert.RefInGIdeal.main (F := Ideal))) ⟨m, fun _ => 0, g⟩ (fun r => (∀ c : Dev Cert.RefInGIdeal.nD,
      r.2.mem ((c.tc : Thread Cert.RefInGIdeal.nD Cert.RefInGIdeal.τ).loc Cert.RefInGIdeal.main_arg0) = m ((c.tc : Thread Cert.RefInGIdeal.nD Cert.RefInGIdeal.τ).loc Cert.RefInGIdeal.main_arg0)
      ∧ r.2.mem ((c.tc : Thread Cert.RefInGIdeal.nD Cert.RefInGIdeal.τ).loc Cert.RefInGIdeal.main_arg1) = m ((c.tc : Thread Cert.RefInGIdeal.nD Cert.RefInGIdeal.τ).loc Cert.RefInGIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_RefOutProjIdeal [hRefOutProjIdeal : Cert.RefOutProjIdeal.Facts] : Prop :=
  ∀ (m : (ℓ : Loc Cert.RefOutProjIdeal.nD Cert.RefOutProjIdeal.τ Cert.RefOutProjIdeal.sig) → Buf (Elt Ideal) ℓ) (g : Dev Cert.RefOutProjIdeal.nD → PrngReg), Pre_RefOutProjIdeal m →
    θ_run (Cert.RefOutProjIdeal.defs (F := Ideal)) (onTc (τ := Cert.RefOutProjIdeal.τ) (Cert.RefOutProjIdeal.main (F := Ideal))) ⟨m, fun _ => 0, g⟩ (fun r => (∀ c : Dev Cert.RefOutProjIdeal.nD,
      r.2.mem ((c.tc : Thread Cert.RefOutProjIdeal.nD Cert.RefOutProjIdeal.τ).loc Cert.RefOutProjIdeal.main_arg0) = m ((c.tc : Thread Cert.RefOutProjIdeal.nD Cert.RefOutProjIdeal.τ).loc Cert.RefOutProjIdeal.main_arg0)
      ∧ r.2.mem ((c.tc : Thread Cert.RefOutProjIdeal.nD Cert.RefOutProjIdeal.τ).loc Cert.RefOutProjIdeal.main_arg1) = m ((c.tc : Thread Cert.RefOutProjIdeal.nD Cert.RefOutProjIdeal.τ).loc Cert.RefOutProjIdeal.main_arg1)
      ∧ r.2.mem ((c.tc : Thread Cert.RefOutProjIdeal.nD Cert.RefOutProjIdeal.τ).loc Cert.RefOutProjIdeal.main_arg2) = m ((c.tc : Thread Cert.RefOutProjIdeal.nD Cert.RefOutProjIdeal.τ).loc Cert.RefOutProjIdeal.main_arg2)
      ∧ r.2.mem ((c.tc : Thread Cert.RefOutProjIdeal.nD Cert.RefOutProjIdeal.τ).loc Cert.RefOutProjIdeal.main_arg3) = m ((c.tc : Thread Cert.RefOutProjIdeal.nD Cert.RefOutProjIdeal.τ).loc Cert.RefOutProjIdeal.main_arg3))
      ∧ r.2.sem = fun _ => 0)

def quiescent_RowsT [hRowsT : Cert.RowsT.Facts] : Prop :=
  ∀ (m : (ℓ : Loc Cert.RowsT.nD Cert.RowsT.τ Cert.RowsT.sig) → Buf (Elt Bits) ℓ) (g : Dev Cert.RowsT.nD → PrngReg), Pre_RowsT m →
    θ_run (Cert.RowsT.defs (F := Bits)) (onTc (τ := Cert.RowsT.τ) (Cert.RowsT.main (F := Bits))) ⟨m, fun _ => 0, g⟩ (fun r => (∀ c : Dev Cert.RowsT.nD,
      r.2.mem ((c.tc : Thread Cert.RowsT.nD Cert.RowsT.τ).loc Cert.RowsT.main_arg0) = m ((c.tc : Thread Cert.RowsT.nD Cert.RowsT.τ).loc Cert.RowsT.main_arg0)
      ∧ r.2.mem ((c.tc : Thread Cert.RowsT.nD Cert.RowsT.τ).loc Cert.RowsT.main_arg1) = m ((c.tc : Thread Cert.RowsT.nD Cert.RowsT.τ).loc Cert.RowsT.main_arg1))
      ∧ r.2.sem = fun _ => 0)

def quiescent_RowsTIdeal [hRowsTIdeal : Cert.RowsTIdeal.Facts] : Prop :=
  ∀ (m : (ℓ : Loc Cert.RowsTIdeal.nD Cert.RowsTIdeal.τ Cert.RowsTIdeal.sig) → Buf (Elt Ideal) ℓ) (g : Dev Cert.RowsTIdeal.nD → PrngReg), Pre_RowsTIdeal m →
    θ_run (Cert.RowsTIdeal.defs (F := Ideal)) (onTc (τ := Cert.RowsTIdeal.τ) (Cert.RowsTIdeal.main (F := Ideal))) ⟨m, fun _ => 0, g⟩ (fun r => (∀ c : Dev Cert.RowsTIdeal.nD,
      r.2.mem ((c.tc : Thread Cert.RowsTIdeal.nD Cert.RowsTIdeal.τ).loc Cert.RowsTIdeal.main_arg0) = m ((c.tc : Thread Cert.RowsTIdeal.nD Cert.RowsTIdeal.τ).loc Cert.RowsTIdeal.main_arg0)
      ∧ r.2.mem ((c.tc : Thread Cert.RowsTIdeal.nD Cert.RowsTIdeal.τ).loc Cert.RowsTIdeal.main_arg1) = m ((c.tc : Thread Cert.RowsTIdeal.nD Cert.RowsTIdeal.τ).loc Cert.RowsTIdeal.main_arg1))
      ∧ r.2.sem = fun _ => 0)

def quiescent_RefRowsTIdeal [hRefRowsTIdeal : Cert.RefRowsTIdeal.Facts] : Prop :=
  ∀ (m : (ℓ : Loc Cert.RefRowsTIdeal.nD Cert.RefRowsTIdeal.τ Cert.RefRowsTIdeal.sig) → Buf (Elt Ideal) ℓ) (g : Dev Cert.RefRowsTIdeal.nD → PrngReg), Pre_RefRowsTIdeal m →
    θ_run (Cert.RefRowsTIdeal.defs (F := Ideal)) (onTc (τ := Cert.RefRowsTIdeal.τ) (Cert.RefRowsTIdeal.main (F := Ideal))) ⟨m, fun _ => 0, g⟩ (fun r => (∀ c : Dev Cert.RefRowsTIdeal.nD,
      r.2.mem ((c.tc : Thread Cert.RefRowsTIdeal.nD Cert.RefRowsTIdeal.τ).loc Cert.RefRowsTIdeal.main_arg0) = m ((c.tc : Thread Cert.RefRowsTIdeal.nD Cert.RefRowsTIdeal.τ).loc Cert.RefRowsTIdeal.main_arg0)
      ∧ r.2.mem ((c.tc : Thread Cert.RefRowsTIdeal.nD Cert.RefRowsTIdeal.τ).loc Cert.RefRowsTIdeal.main_arg1) = m ((c.tc : Thread Cert.RefRowsTIdeal.nD Cert.RefRowsTIdeal.τ).loc Cert.RefRowsTIdeal.main_arg1))
      ∧ r.2.sem = fun _ => 0)

def quiescent_RowsG [hRowsG : Cert.RowsG.Facts] : Prop :=
  ∀ (m : (ℓ : Loc Cert.RowsG.nD Cert.RowsG.τ Cert.RowsG.sig) → Buf (Elt Bits) ℓ) (g : Dev Cert.RowsG.nD → PrngReg), Pre_RowsG m →
    θ_run (Cert.RowsG.defs (F := Bits)) (onTc (τ := Cert.RowsG.τ) (Cert.RowsG.main (F := Bits))) ⟨m, fun _ => 0, g⟩ (fun r => (∀ c : Dev Cert.RowsG.nD,
      r.2.mem ((c.tc : Thread Cert.RowsG.nD Cert.RowsG.τ).loc Cert.RowsG.main_arg0) = m ((c.tc : Thread Cert.RowsG.nD Cert.RowsG.τ).loc Cert.RowsG.main_arg0)
      ∧ r.2.mem ((c.tc : Thread Cert.RowsG.nD Cert.RowsG.τ).loc Cert.RowsG.main_arg1) = m ((c.tc : Thread Cert.RowsG.nD Cert.RowsG.τ).loc Cert.RowsG.main_arg1))
      ∧ r.2.sem = fun _ => 0)

def quiescent_RowsGIdeal [hRowsGIdeal : Cert.RowsGIdeal.Facts] : Prop :=
  ∀ (m : (ℓ : Loc Cert.RowsGIdeal.nD Cert.RowsGIdeal.τ Cert.RowsGIdeal.sig) → Buf (Elt Ideal) ℓ) (g : Dev Cert.RowsGIdeal.nD → PrngReg), Pre_RowsGIdeal m →
    θ_run (Cert.RowsGIdeal.defs (F := Ideal)) (onTc (τ := Cert.RowsGIdeal.τ) (Cert.RowsGIdeal.main (F := Ideal))) ⟨m, fun _ => 0, g⟩ (fun r => (∀ c : Dev Cert.RowsGIdeal.nD,
      r.2.mem ((c.tc : Thread Cert.RowsGIdeal.nD Cert.RowsGIdeal.τ).loc Cert.RowsGIdeal.main_arg0) = m ((c.tc : Thread Cert.RowsGIdeal.nD Cert.RowsGIdeal.τ).loc Cert.RowsGIdeal.main_arg0)
      ∧ r.2.mem ((c.tc : Thread Cert.RowsGIdeal.nD Cert.RowsGIdeal.τ).loc Cert.RowsGIdeal.main_arg1) = m ((c.tc : Thread Cert.RowsGIdeal.nD Cert.RowsGIdeal.τ).loc Cert.RowsGIdeal.main_arg1))
      ∧ r.2.sem = fun _ => 0)

def quiescent_RefRowsGIdeal [hRefRowsGIdeal : Cert.RefRowsGIdeal.Facts] : Prop :=
  ∀ (m : (ℓ : Loc Cert.RefRowsGIdeal.nD Cert.RefRowsGIdeal.τ Cert.RefRowsGIdeal.sig) → Buf (Elt Ideal) ℓ) (g : Dev Cert.RefRowsGIdeal.nD → PrngReg), Pre_RefRowsGIdeal m →
    θ_run (Cert.RefRowsGIdeal.defs (F := Ideal)) (onTc (τ := Cert.RefRowsGIdeal.τ) (Cert.RefRowsGIdeal.main (F := Ideal))) ⟨m, fun _ => 0, g⟩ (fun r => (∀ c : Dev Cert.RefRowsGIdeal.nD,
      r.2.mem ((c.tc : Thread Cert.RefRowsGIdeal.nD Cert.RefRowsGIdeal.τ).loc Cert.RefRowsGIdeal.main_arg0) = m ((c.tc : Thread Cert.RefRowsGIdeal.nD Cert.RefRowsGIdeal.τ).loc Cert.RefRowsGIdeal.main_arg0)
      ∧ r.2.mem ((c.tc : Thread Cert.RefRowsGIdeal.nD Cert.RefRowsGIdeal.τ).loc Cert.RefRowsGIdeal.main_arg1) = m ((c.tc : Thread Cert.RefRowsGIdeal.nD Cert.RefRowsGIdeal.τ).loc Cert.RefRowsGIdeal.main_arg1))
      ∧ r.2.sem = fun _ => 0)

def quiescent_PoolIn [hPoolIn : Cert.PoolIn.Facts] : Prop :=
  ∀ (m : (ℓ : Loc Cert.PoolIn.nD Cert.PoolIn.τ Cert.PoolIn.sig) → Buf (Elt Bits) ℓ) (g : Dev Cert.PoolIn.nD → PrngReg), Pre_PoolIn m →
    θ_run (Cert.PoolIn.defs (F := Bits)) (onTc (τ := Cert.PoolIn.τ) (Cert.PoolIn.main (F := Bits))) ⟨m, fun _ => 0, g⟩ (fun r => (∀ c : Dev Cert.PoolIn.nD,
      r.2.mem ((c.tc : Thread Cert.PoolIn.nD Cert.PoolIn.τ).loc Cert.PoolIn.main_arg0) = m ((c.tc : Thread Cert.PoolIn.nD Cert.PoolIn.τ).loc Cert.PoolIn.main_arg0)
      ∧ r.2.mem ((c.tc : Thread Cert.PoolIn.nD Cert.PoolIn.τ).loc Cert.PoolIn.main_arg1) = m ((c.tc : Thread Cert.PoolIn.nD Cert.PoolIn.τ).loc Cert.PoolIn.main_arg1))
      ∧ r.2.sem = fun _ => 0)

def quiescent_PoolInIdeal [hPoolInIdeal : Cert.PoolInIdeal.Facts] : Prop :=
  ∀ (m : (ℓ : Loc Cert.PoolInIdeal.nD Cert.PoolInIdeal.τ Cert.PoolInIdeal.sig) → Buf (Elt Ideal) ℓ) (g : Dev Cert.PoolInIdeal.nD → PrngReg), Pre_PoolInIdeal m →
    θ_run (Cert.PoolInIdeal.defs (F := Ideal)) (onTc (τ := Cert.PoolInIdeal.τ) (Cert.PoolInIdeal.main (F := Ideal))) ⟨m, fun _ => 0, g⟩ (fun r => (∀ c : Dev Cert.PoolInIdeal.nD,
      r.2.mem ((c.tc : Thread Cert.PoolInIdeal.nD Cert.PoolInIdeal.τ).loc Cert.PoolInIdeal.main_arg0) = m ((c.tc : Thread Cert.PoolInIdeal.nD Cert.PoolInIdeal.τ).loc Cert.PoolInIdeal.main_arg0)
      ∧ r.2.mem ((c.tc : Thread Cert.PoolInIdeal.nD Cert.PoolInIdeal.τ).loc Cert.PoolInIdeal.main_arg1) = m ((c.tc : Thread Cert.PoolInIdeal.nD Cert.PoolInIdeal.τ).loc Cert.PoolInIdeal.main_arg1))
      ∧ r.2.sem = fun _ => 0)

def quiescent_RefPoolInIdeal [hRefPoolInIdeal : Cert.RefPoolInIdeal.Facts] : Prop :=
  ∀ (m : (ℓ : Loc Cert.RefPoolInIdeal.nD Cert.RefPoolInIdeal.τ Cert.RefPoolInIdeal.sig) → Buf (Elt Ideal) ℓ) (g : Dev Cert.RefPoolInIdeal.nD → PrngReg), Pre_RefPoolInIdeal m →
    θ_run (Cert.RefPoolInIdeal.defs (F := Ideal)) (onTc (τ := Cert.RefPoolInIdeal.τ) (Cert.RefPoolInIdeal.main (F := Ideal))) ⟨m, fun _ => 0, g⟩ (fun r => (∀ c : Dev Cert.RefPoolInIdeal.nD,
      r.2.mem ((c.tc : Thread Cert.RefPoolInIdeal.nD Cert.RefPoolInIdeal.τ).loc Cert.RefPoolInIdeal.main_arg0) = m ((c.tc : Thread Cert.RefPoolInIdeal.nD Cert.RefPoolInIdeal.τ).loc Cert.RefPoolInIdeal.main_arg0)
      ∧ r.2.mem ((c.tc : Thread Cert.RefPoolInIdeal.nD Cert.RefPoolInIdeal.τ).loc Cert.RefPoolInIdeal.main_arg1) = m ((c.tc : Thread Cert.RefPoolInIdeal.nD Cert.RefPoolInIdeal.τ).loc Cert.RefPoolInIdeal.main_arg1))
      ∧ r.2.sem = fun _ => 0)

def quiescent_PoolGrp [hPoolGrp : Cert.PoolGrp.Facts] : Prop :=
  ∀ (m : (ℓ : Loc Cert.PoolGrp.nD Cert.PoolGrp.τ Cert.PoolGrp.sig) → Buf (Elt Bits) ℓ) (g : Dev Cert.PoolGrp.nD → PrngReg), Pre_PoolGrp m →
    θ_run (Cert.PoolGrp.defs (F := Bits)) (onTc (τ := Cert.PoolGrp.τ) (Cert.PoolGrp.main (F := Bits))) ⟨m, fun _ => 0, g⟩ (fun r => (∀ c : Dev Cert.PoolGrp.nD,
      r.2.mem ((c.tc : Thread Cert.PoolGrp.nD Cert.PoolGrp.τ).loc Cert.PoolGrp.main_arg0) = m ((c.tc : Thread Cert.PoolGrp.nD Cert.PoolGrp.τ).loc Cert.PoolGrp.main_arg0)
      ∧ r.2.mem ((c.tc : Thread Cert.PoolGrp.nD Cert.PoolGrp.τ).loc Cert.PoolGrp.main_arg1) = m ((c.tc : Thread Cert.PoolGrp.nD Cert.PoolGrp.τ).loc Cert.PoolGrp.main_arg1)
      ∧ r.2.mem ((c.tc : Thread Cert.PoolGrp.nD Cert.PoolGrp.τ).loc Cert.PoolGrp.main_arg2) = m ((c.tc : Thread Cert.PoolGrp.nD Cert.PoolGrp.τ).loc Cert.PoolGrp.main_arg2)
      ∧ r.2.mem ((c.tc : Thread Cert.PoolGrp.nD Cert.PoolGrp.τ).loc Cert.PoolGrp.main_arg3) = m ((c.tc : Thread Cert.PoolGrp.nD Cert.PoolGrp.τ).loc Cert.PoolGrp.main_arg3)
      ∧ r.2.mem ((c.tc : Thread Cert.PoolGrp.nD Cert.PoolGrp.τ).loc Cert.PoolGrp.main_arg4) = m ((c.tc : Thread Cert.PoolGrp.nD Cert.PoolGrp.τ).loc Cert.PoolGrp.main_arg4)
      ∧ r.2.mem ((c.tc : Thread Cert.PoolGrp.nD Cert.PoolGrp.τ).loc Cert.PoolGrp.main_arg5) = m ((c.tc : Thread Cert.PoolGrp.nD Cert.PoolGrp.τ).loc Cert.PoolGrp.main_arg5))
      ∧ r.2.sem = fun _ => 0)

def quiescent_PoolGrpIdeal [hPoolGrpIdeal : Cert.PoolGrpIdeal.Facts] : Prop :=
  ∀ (m : (ℓ : Loc Cert.PoolGrpIdeal.nD Cert.PoolGrpIdeal.τ Cert.PoolGrpIdeal.sig) → Buf (Elt Ideal) ℓ) (g : Dev Cert.PoolGrpIdeal.nD → PrngReg), Pre_PoolGrpIdeal m →
    θ_run (Cert.PoolGrpIdeal.defs (F := Ideal)) (onTc (τ := Cert.PoolGrpIdeal.τ) (Cert.PoolGrpIdeal.main (F := Ideal))) ⟨m, fun _ => 0, g⟩ (fun r => (∀ c : Dev Cert.PoolGrpIdeal.nD,
      r.2.mem ((c.tc : Thread Cert.PoolGrpIdeal.nD Cert.PoolGrpIdeal.τ).loc Cert.PoolGrpIdeal.main_arg0) = m ((c.tc : Thread Cert.PoolGrpIdeal.nD Cert.PoolGrpIdeal.τ).loc Cert.PoolGrpIdeal.main_arg0)
      ∧ r.2.mem ((c.tc : Thread Cert.PoolGrpIdeal.nD Cert.PoolGrpIdeal.τ).loc Cert.PoolGrpIdeal.main_arg1) = m ((c.tc : Thread Cert.PoolGrpIdeal.nD Cert.PoolGrpIdeal.τ).loc Cert.PoolGrpIdeal.main_arg1)
      ∧ r.2.mem ((c.tc : Thread Cert.PoolGrpIdeal.nD Cert.PoolGrpIdeal.τ).loc Cert.PoolGrpIdeal.main_arg2) = m ((c.tc : Thread Cert.PoolGrpIdeal.nD Cert.PoolGrpIdeal.τ).loc Cert.PoolGrpIdeal.main_arg2)
      ∧ r.2.mem ((c.tc : Thread Cert.PoolGrpIdeal.nD Cert.PoolGrpIdeal.τ).loc Cert.PoolGrpIdeal.main_arg3) = m ((c.tc : Thread Cert.PoolGrpIdeal.nD Cert.PoolGrpIdeal.τ).loc Cert.PoolGrpIdeal.main_arg3)
      ∧ r.2.mem ((c.tc : Thread Cert.PoolGrpIdeal.nD Cert.PoolGrpIdeal.τ).loc Cert.PoolGrpIdeal.main_arg4) = m ((c.tc : Thread Cert.PoolGrpIdeal.nD Cert.PoolGrpIdeal.τ).loc Cert.PoolGrpIdeal.main_arg4)
      ∧ r.2.mem ((c.tc : Thread Cert.PoolGrpIdeal.nD Cert.PoolGrpIdeal.τ).loc Cert.PoolGrpIdeal.main_arg5) = m ((c.tc : Thread Cert.PoolGrpIdeal.nD Cert.PoolGrpIdeal.τ).loc Cert.PoolGrpIdeal.main_arg5))
      ∧ r.2.sem = fun _ => 0)

def quiescent_RefPoolGrpIdeal [hRefPoolGrpIdeal : Cert.RefPoolGrpIdeal.Facts] : Prop :=
  ∀ (m : (ℓ : Loc Cert.RefPoolGrpIdeal.nD Cert.RefPoolGrpIdeal.τ Cert.RefPoolGrpIdeal.sig) → Buf (Elt Ideal) ℓ) (g : Dev Cert.RefPoolGrpIdeal.nD → PrngReg), Pre_RefPoolGrpIdeal m →
    θ_run (Cert.RefPoolGrpIdeal.defs (F := Ideal)) (onTc (τ := Cert.RefPoolGrpIdeal.τ) (Cert.RefPoolGrpIdeal.main (F := Ideal))) ⟨m, fun _ => 0, g⟩ (fun r => (∀ c : Dev Cert.RefPoolGrpIdeal.nD,
      r.2.mem ((c.tc : Thread Cert.RefPoolGrpIdeal.nD Cert.RefPoolGrpIdeal.τ).loc Cert.RefPoolGrpIdeal.main_arg0) = m ((c.tc : Thread Cert.RefPoolGrpIdeal.nD Cert.RefPoolGrpIdeal.τ).loc Cert.RefPoolGrpIdeal.main_arg0)
      ∧ r.2.mem ((c.tc : Thread Cert.RefPoolGrpIdeal.nD Cert.RefPoolGrpIdeal.τ).loc Cert.RefPoolGrpIdeal.main_arg1) = m ((c.tc : Thread Cert.RefPoolGrpIdeal.nD Cert.RefPoolGrpIdeal.τ).loc Cert.RefPoolGrpIdeal.main_arg1)
      ∧ r.2.mem ((c.tc : Thread Cert.RefPoolGrpIdeal.nD Cert.RefPoolGrpIdeal.τ).loc Cert.RefPoolGrpIdeal.main_arg2) = m ((c.tc : Thread Cert.RefPoolGrpIdeal.nD Cert.RefPoolGrpIdeal.τ).loc Cert.RefPoolGrpIdeal.main_arg2)
      ∧ r.2.mem ((c.tc : Thread Cert.RefPoolGrpIdeal.nD Cert.RefPoolGrpIdeal.τ).loc Cert.RefPoolGrpIdeal.main_arg3) = m ((c.tc : Thread Cert.RefPoolGrpIdeal.nD Cert.RefPoolGrpIdeal.τ).loc Cert.RefPoolGrpIdeal.main_arg3)
      ∧ r.2.mem ((c.tc : Thread Cert.RefPoolGrpIdeal.nD Cert.RefPoolGrpIdeal.τ).loc Cert.RefPoolGrpIdeal.main_arg4) = m ((c.tc : Thread Cert.RefPoolGrpIdeal.nD Cert.RefPoolGrpIdeal.τ).loc Cert.RefPoolGrpIdeal.main_arg4)
      ∧ r.2.mem ((c.tc : Thread Cert.RefPoolGrpIdeal.nD Cert.RefPoolGrpIdeal.τ).loc Cert.RefPoolGrpIdeal.main_arg5) = m ((c.tc : Thread Cert.RefPoolGrpIdeal.nD Cert.RefPoolGrpIdeal.τ).loc Cert.RefPoolGrpIdeal.main_arg5))
      ∧ r.2.sem = fun _ => 0)

def quiescent_PoolGrpT [hPoolGrpT : Cert.PoolGrpT.Facts] : Prop :=
  ∀ (m : (ℓ : Loc Cert.PoolGrpT.nD Cert.PoolGrpT.τ Cert.PoolGrpT.sig) → Buf (Elt Bits) ℓ) (g : Dev Cert.PoolGrpT.nD → PrngReg), Pre_PoolGrpT m →
    θ_run (Cert.PoolGrpT.defs (F := Bits)) (onTc (τ := Cert.PoolGrpT.τ) (Cert.PoolGrpT.main (F := Bits))) ⟨m, fun _ => 0, g⟩ (fun r => (∀ c : Dev Cert.PoolGrpT.nD,
      r.2.mem ((c.tc : Thread Cert.PoolGrpT.nD Cert.PoolGrpT.τ).loc Cert.PoolGrpT.main_arg0) = m ((c.tc : Thread Cert.PoolGrpT.nD Cert.PoolGrpT.τ).loc Cert.PoolGrpT.main_arg0)
      ∧ r.2.mem ((c.tc : Thread Cert.PoolGrpT.nD Cert.PoolGrpT.τ).loc Cert.PoolGrpT.main_arg1) = m ((c.tc : Thread Cert.PoolGrpT.nD Cert.PoolGrpT.τ).loc Cert.PoolGrpT.main_arg1))
      ∧ r.2.sem = fun _ => 0)

def quiescent_PoolGrpTIdeal [hPoolGrpTIdeal : Cert.PoolGrpTIdeal.Facts] : Prop :=
  ∀ (m : (ℓ : Loc Cert.PoolGrpTIdeal.nD Cert.PoolGrpTIdeal.τ Cert.PoolGrpTIdeal.sig) → Buf (Elt Ideal) ℓ) (g : Dev Cert.PoolGrpTIdeal.nD → PrngReg), Pre_PoolGrpTIdeal m →
    θ_run (Cert.PoolGrpTIdeal.defs (F := Ideal)) (onTc (τ := Cert.PoolGrpTIdeal.τ) (Cert.PoolGrpTIdeal.main (F := Ideal))) ⟨m, fun _ => 0, g⟩ (fun r => (∀ c : Dev Cert.PoolGrpTIdeal.nD,
      r.2.mem ((c.tc : Thread Cert.PoolGrpTIdeal.nD Cert.PoolGrpTIdeal.τ).loc Cert.PoolGrpTIdeal.main_arg0) = m ((c.tc : Thread Cert.PoolGrpTIdeal.nD Cert.PoolGrpTIdeal.τ).loc Cert.PoolGrpTIdeal.main_arg0)
      ∧ r.2.mem ((c.tc : Thread Cert.PoolGrpTIdeal.nD Cert.PoolGrpTIdeal.τ).loc Cert.PoolGrpTIdeal.main_arg1) = m ((c.tc : Thread Cert.PoolGrpTIdeal.nD Cert.PoolGrpTIdeal.τ).loc Cert.PoolGrpTIdeal.main_arg1))
      ∧ r.2.sem = fun _ => 0)

def quiescent_RefPoolGrpTIdeal [hRefPoolGrpTIdeal : Cert.RefPoolGrpTIdeal.Facts] : Prop :=
  ∀ (m : (ℓ : Loc Cert.RefPoolGrpTIdeal.nD Cert.RefPoolGrpTIdeal.τ Cert.RefPoolGrpTIdeal.sig) → Buf (Elt Ideal) ℓ) (g : Dev Cert.RefPoolGrpTIdeal.nD → PrngReg), Pre_RefPoolGrpTIdeal m →
    θ_run (Cert.RefPoolGrpTIdeal.defs (F := Ideal)) (onTc (τ := Cert.RefPoolGrpTIdeal.τ) (Cert.RefPoolGrpTIdeal.main (F := Ideal))) ⟨m, fun _ => 0, g⟩ (fun r => (∀ c : Dev Cert.RefPoolGrpTIdeal.nD,
      r.2.mem ((c.tc : Thread Cert.RefPoolGrpTIdeal.nD Cert.RefPoolGrpTIdeal.τ).loc Cert.RefPoolGrpTIdeal.main_arg0) = m ((c.tc : Thread Cert.RefPoolGrpTIdeal.nD Cert.RefPoolGrpTIdeal.τ).loc Cert.RefPoolGrpTIdeal.main_arg0)
      ∧ r.2.mem ((c.tc : Thread Cert.RefPoolGrpTIdeal.nD Cert.RefPoolGrpTIdeal.τ).loc Cert.RefPoolGrpTIdeal.main_arg1) = m ((c.tc : Thread Cert.RefPoolGrpTIdeal.nD Cert.RefPoolGrpTIdeal.τ).loc Cert.RefPoolGrpTIdeal.main_arg1))
      ∧ r.2.sem = fun _ => 0)

def quiescent_PoolGrpG [hPoolGrpG : Cert.PoolGrpG.Facts] : Prop :=
  ∀ (m : (ℓ : Loc Cert.PoolGrpG.nD Cert.PoolGrpG.τ Cert.PoolGrpG.sig) → Buf (Elt Bits) ℓ) (g : Dev Cert.PoolGrpG.nD → PrngReg), Pre_PoolGrpG m →
    θ_run (Cert.PoolGrpG.defs (F := Bits)) (onTc (τ := Cert.PoolGrpG.τ) (Cert.PoolGrpG.main (F := Bits))) ⟨m, fun _ => 0, g⟩ (fun r => (∀ c : Dev Cert.PoolGrpG.nD,
      r.2.mem ((c.tc : Thread Cert.PoolGrpG.nD Cert.PoolGrpG.τ).loc Cert.PoolGrpG.main_arg0) = m ((c.tc : Thread Cert.PoolGrpG.nD Cert.PoolGrpG.τ).loc Cert.PoolGrpG.main_arg0)
      ∧ r.2.mem ((c.tc : Thread Cert.PoolGrpG.nD Cert.PoolGrpG.τ).loc Cert.PoolGrpG.main_arg1) = m ((c.tc : Thread Cert.PoolGrpG.nD Cert.PoolGrpG.τ).loc Cert.PoolGrpG.main_arg1))
      ∧ r.2.sem = fun _ => 0)

def quiescent_PoolGrpGIdeal [hPoolGrpGIdeal : Cert.PoolGrpGIdeal.Facts] : Prop :=
  ∀ (m : (ℓ : Loc Cert.PoolGrpGIdeal.nD Cert.PoolGrpGIdeal.τ Cert.PoolGrpGIdeal.sig) → Buf (Elt Ideal) ℓ) (g : Dev Cert.PoolGrpGIdeal.nD → PrngReg), Pre_PoolGrpGIdeal m →
    θ_run (Cert.PoolGrpGIdeal.defs (F := Ideal)) (onTc (τ := Cert.PoolGrpGIdeal.τ) (Cert.PoolGrpGIdeal.main (F := Ideal))) ⟨m, fun _ => 0, g⟩ (fun r => (∀ c : Dev Cert.PoolGrpGIdeal.nD,
      r.2.mem ((c.tc : Thread Cert.PoolGrpGIdeal.nD Cert.PoolGrpGIdeal.τ).loc Cert.PoolGrpGIdeal.main_arg0) = m ((c.tc : Thread Cert.PoolGrpGIdeal.nD Cert.PoolGrpGIdeal.τ).loc Cert.PoolGrpGIdeal.main_arg0)
      ∧ r.2.mem ((c.tc : Thread Cert.PoolGrpGIdeal.nD Cert.PoolGrpGIdeal.τ).loc Cert.PoolGrpGIdeal.main_arg1) = m ((c.tc : Thread Cert.PoolGrpGIdeal.nD Cert.PoolGrpGIdeal.τ).loc Cert.PoolGrpGIdeal.main_arg1))
      ∧ r.2.sem = fun _ => 0)

def quiescent_RefPoolGrpGIdeal [hRefPoolGrpGIdeal : Cert.RefPoolGrpGIdeal.Facts] : Prop :=
  ∀ (m : (ℓ : Loc Cert.RefPoolGrpGIdeal.nD Cert.RefPoolGrpGIdeal.τ Cert.RefPoolGrpGIdeal.sig) → Buf (Elt Ideal) ℓ) (g : Dev Cert.RefPoolGrpGIdeal.nD → PrngReg), Pre_RefPoolGrpGIdeal m →
    θ_run (Cert.RefPoolGrpGIdeal.defs (F := Ideal)) (onTc (τ := Cert.RefPoolGrpGIdeal.τ) (Cert.RefPoolGrpGIdeal.main (F := Ideal))) ⟨m, fun _ => 0, g⟩ (fun r => (∀ c : Dev Cert.RefPoolGrpGIdeal.nD,
      r.2.mem ((c.tc : Thread Cert.RefPoolGrpGIdeal.nD Cert.RefPoolGrpGIdeal.τ).loc Cert.RefPoolGrpGIdeal.main_arg0) = m ((c.tc : Thread Cert.RefPoolGrpGIdeal.nD Cert.RefPoolGrpGIdeal.τ).loc Cert.RefPoolGrpGIdeal.main_arg0)
      ∧ r.2.mem ((c.tc : Thread Cert.RefPoolGrpGIdeal.nD Cert.RefPoolGrpGIdeal.τ).loc Cert.RefPoolGrpGIdeal.main_arg1) = m ((c.tc : Thread Cert.RefPoolGrpGIdeal.nD Cert.RefPoolGrpGIdeal.τ).loc Cert.RefPoolGrpGIdeal.main_arg1))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3)
      ∧ r.2.mem ((c.tc : Thread Cert.AdamSmall.nD Cert.AdamSmall.τ).loc Cert.AdamSmall.main_arg4) = m ((c.tc : Thread Cert.AdamSmall.nD Cert.AdamSmall.τ).loc Cert.AdamSmall.main_arg4)
      ∧ r.2.mem ((c.tc : Thread Cert.AdamSmall.nD Cert.AdamSmall.τ).loc Cert.AdamSmall.main_arg5) = m ((c.tc : Thread Cert.AdamSmall.nD Cert.AdamSmall.τ).loc Cert.AdamSmall.main_arg5)
      ∧ r.2.mem ((c.tc : Thread Cert.AdamSmall.nD Cert.AdamSmall.τ).loc Cert.AdamSmall.main_arg6) = m ((c.tc : Thread Cert.AdamSmall.nD Cert.AdamSmall.τ).loc Cert.AdamSmall.main_arg6)
      ∧ r.2.mem ((c.tc : Thread Cert.AdamSmall.nD Cert.AdamSmall.τ).loc Cert.AdamSmall.main_arg7) = m ((c.tc : Thread Cert.AdamSmall.nD Cert.AdamSmall.τ).loc Cert.AdamSmall.main_arg7)
      ∧ r.2.mem ((c.tc : Thread Cert.AdamSmall.nD Cert.AdamSmall.τ).loc Cert.AdamSmall.main_arg8) = m ((c.tc : Thread Cert.AdamSmall.nD Cert.AdamSmall.τ).loc Cert.AdamSmall.main_arg8)
      ∧ r.2.mem ((c.tc : Thread Cert.AdamSmall.nD Cert.AdamSmall.τ).loc Cert.AdamSmall.main_arg9) = m ((c.tc : Thread Cert.AdamSmall.nD Cert.AdamSmall.τ).loc Cert.AdamSmall.main_arg9)
      ∧ r.2.mem ((c.tc : Thread Cert.AdamSmall.nD Cert.AdamSmall.τ).loc Cert.AdamSmall.main_arg10) = m ((c.tc : Thread Cert.AdamSmall.nD Cert.AdamSmall.τ).loc Cert.AdamSmall.main_arg10)
      ∧ r.2.mem ((c.tc : Thread Cert.AdamSmall.nD Cert.AdamSmall.τ).loc Cert.AdamSmall.main_arg11) = m ((c.tc : Thread Cert.AdamSmall.nD Cert.AdamSmall.τ).loc Cert.AdamSmall.main_arg11)
      ∧ r.2.mem ((c.tc : Thread Cert.AdamSmall.nD Cert.AdamSmall.τ).loc Cert.AdamSmall.main_arg12) = m ((c.tc : Thread Cert.AdamSmall.nD Cert.AdamSmall.τ).loc Cert.AdamSmall.main_arg12)
      ∧ r.2.mem ((c.tc : Thread Cert.AdamSmall.nD Cert.AdamSmall.τ).loc Cert.AdamSmall.main_arg13) = m ((c.tc : Thread Cert.AdamSmall.nD Cert.AdamSmall.τ).loc Cert.AdamSmall.main_arg13)
      ∧ r.2.mem ((c.tc : Thread Cert.AdamSmall.nD Cert.AdamSmall.τ).loc Cert.AdamSmall.main_arg14) = m ((c.tc : Thread Cert.AdamSmall.nD Cert.AdamSmall.τ).loc Cert.AdamSmall.main_arg14)
      ∧ r.2.mem ((c.tc : Thread Cert.AdamSmall.nD Cert.AdamSmall.τ).loc Cert.AdamSmall.main_arg15) = m ((c.tc : Thread Cert.AdamSmall.nD Cert.AdamSmall.τ).loc Cert.AdamSmall.main_arg15)
      ∧ r.2.mem ((c.tc : Thread Cert.AdamSmall.nD Cert.AdamSmall.τ).loc Cert.AdamSmall.main_arg16) = m ((c.tc : Thread Cert.AdamSmall.nD Cert.AdamSmall.τ).loc Cert.AdamSmall.main_arg16)
      ∧ r.2.mem ((c.tc : Thread Cert.AdamSmall.nD Cert.AdamSmall.τ).loc Cert.AdamSmall.main_arg17) = m ((c.tc : Thread Cert.AdamSmall.nD Cert.AdamSmall.τ).loc Cert.AdamSmall.main_arg17)
      ∧ r.2.mem ((c.tc : Thread Cert.AdamSmall.nD Cert.AdamSmall.τ).loc Cert.AdamSmall.main_arg18) = m ((c.tc : Thread Cert.AdamSmall.nD Cert.AdamSmall.τ).loc Cert.AdamSmall.main_arg18)
      ∧ r.2.mem ((c.tc : Thread Cert.AdamSmall.nD Cert.AdamSmall.τ).loc Cert.AdamSmall.main_arg19) = m ((c.tc : Thread Cert.AdamSmall.nD Cert.AdamSmall.τ).loc Cert.AdamSmall.main_arg19)
      ∧ r.2.mem ((c.tc : Thread Cert.AdamSmall.nD Cert.AdamSmall.τ).loc Cert.AdamSmall.main_arg20) = m ((c.tc : Thread Cert.AdamSmall.nD Cert.AdamSmall.τ).loc Cert.AdamSmall.main_arg20)
      ∧ r.2.mem ((c.tc : Thread Cert.AdamSmall.nD Cert.AdamSmall.τ).loc Cert.AdamSmall.main_arg21) = m ((c.tc : Thread Cert.AdamSmall.nD Cert.AdamSmall.τ).loc Cert.AdamSmall.main_arg21)
      ∧ r.2.mem ((c.tc : Thread Cert.AdamSmall.nD Cert.AdamSmall.τ).loc Cert.AdamSmall.main_arg22) = m ((c.tc : Thread Cert.AdamSmall.nD Cert.AdamSmall.τ).loc Cert.AdamSmall.main_arg22)
      ∧ r.2.mem ((c.tc : Thread Cert.AdamSmall.nD Cert.AdamSmall.τ).loc Cert.AdamSmall.main_arg23) = m ((c.tc : Thread Cert.AdamSmall.nD Cert.AdamSmall.τ).loc Cert.AdamSmall.main_arg23)
      ∧ r.2.mem ((c.tc : Thread Cert.AdamSmall.nD Cert.AdamSmall.τ).loc Cert.AdamSmall.main_arg24) = m ((c.tc : Thread Cert.AdamSmall.nD Cert.AdamSmall.τ).loc Cert.AdamSmall.main_arg24)
      ∧ r.2.mem ((c.tc : Thread Cert.AdamSmall.nD Cert.AdamSmall.τ).loc Cert.AdamSmall.main_arg25) = m ((c.tc : Thread Cert.AdamSmall.nD Cert.AdamSmall.τ).loc Cert.AdamSmall.main_arg25)
      ∧ r.2.mem ((c.tc : Thread Cert.AdamSmall.nD Cert.AdamSmall.τ).loc Cert.AdamSmall.main_arg26) = m ((c.tc : Thread Cert.AdamSmall.nD Cert.AdamSmall.τ).loc Cert.AdamSmall.main_arg26)
      ∧ r.2.mem ((c.tc : Thread Cert.AdamSmall.nD Cert.AdamSmall.τ).loc Cert.AdamSmall.main_arg27) = m ((c.tc : Thread Cert.AdamSmall.nD Cert.AdamSmall.τ).loc Cert.AdamSmall.main_arg27)
      ∧ r.2.mem ((c.tc : Thread Cert.AdamSmall.nD Cert.AdamSmall.τ).loc Cert.AdamSmall.main_arg28) = m ((c.tc : Thread Cert.AdamSmall.nD Cert.AdamSmall.τ).loc Cert.AdamSmall.main_arg28)
      ∧ r.2.mem ((c.tc : Thread Cert.AdamSmall.nD Cert.AdamSmall.τ).loc Cert.AdamSmall.main_arg29) = m ((c.tc : Thread Cert.AdamSmall.nD Cert.AdamSmall.τ).loc Cert.AdamSmall.main_arg29)
      ∧ r.2.mem ((c.tc : Thread Cert.AdamSmall.nD Cert.AdamSmall.τ).loc Cert.AdamSmall.main_arg30) = m ((c.tc : Thread Cert.AdamSmall.nD Cert.AdamSmall.τ).loc Cert.AdamSmall.main_arg30)
      ∧ r.2.mem ((c.tc : Thread Cert.AdamSmall.nD Cert.AdamSmall.τ).loc Cert.AdamSmall.main_arg31) = m ((c.tc : Thread Cert.AdamSmall.nD Cert.AdamSmall.τ).loc Cert.AdamSmall.main_arg31)
      ∧ r.2.mem ((c.tc : Thread Cert.AdamSmall.nD Cert.AdamSmall.τ).loc Cert.AdamSmall.main_arg32) = m ((c.tc : Thread Cert.AdamSmall.nD Cert.AdamSmall.τ).loc Cert.AdamSmall.main_arg32)
      ∧ r.2.mem ((c.tc : Thread Cert.AdamSmall.nD Cert.AdamSmall.τ).loc Cert.AdamSmall.main_arg33) = m ((c.tc : Thread Cert.AdamSmall.nD Cert.AdamSmall.τ).loc Cert.AdamSmall.main_arg33)
      ∧ r.2.mem ((c.tc : Thread Cert.AdamSmall.nD Cert.AdamSmall.τ).loc Cert.AdamSmall.main_arg34) = m ((c.tc : Thread Cert.AdamSmall.nD Cert.AdamSmall.τ).loc Cert.AdamSmall.main_arg34)
      ∧ r.2.mem ((c.tc : Thread Cert.AdamSmall.nD Cert.AdamSmall.τ).loc Cert.AdamSmall.main_arg35) = m ((c.tc : Thread Cert.AdamSmall.nD Cert.AdamSmall.τ).loc Cert.AdamSmall.main_arg35)
      ∧ r.2.mem ((c.tc : Thread Cert.AdamSmall.nD Cert.AdamSmall.τ).loc Cert.AdamSmall.main_arg36) = m ((c.tc : Thread Cert.AdamSmall.nD Cert.AdamSmall.τ).loc Cert.AdamSmall.main_arg36)
      ∧ r.2.mem ((c.tc : Thread Cert.AdamSmall.nD Cert.AdamSmall.τ).loc Cert.AdamSmall.main_arg37) = m ((c.tc : Thread Cert.AdamSmall.nD Cert.AdamSmall.τ).loc Cert.AdamSmall.main_arg37)
      ∧ r.2.mem ((c.tc : Thread Cert.AdamSmall.nD Cert.AdamSmall.τ).loc Cert.AdamSmall.main_arg38) = m ((c.tc : Thread Cert.AdamSmall.nD Cert.AdamSmall.τ).loc Cert.AdamSmall.main_arg38)
      ∧ r.2.mem ((c.tc : Thread Cert.AdamSmall.nD Cert.AdamSmall.τ).loc Cert.AdamSmall.main_arg39) = m ((c.tc : Thread Cert.AdamSmall.nD Cert.AdamSmall.τ).loc Cert.AdamSmall.main_arg39)
      ∧ r.2.mem ((c.tc : Thread Cert.AdamSmall.nD Cert.AdamSmall.τ).loc Cert.AdamSmall.main_arg40) = m ((c.tc : Thread Cert.AdamSmall.nD Cert.AdamSmall.τ).loc Cert.AdamSmall.main_arg40)
      ∧ r.2.mem ((c.tc : Thread Cert.AdamSmall.nD Cert.AdamSmall.τ).loc Cert.AdamSmall.main_arg41) = m ((c.tc : Thread Cert.AdamSmall.nD Cert.AdamSmall.τ).loc Cert.AdamSmall.main_arg41)
      ∧ r.2.mem ((c.tc : Thread Cert.AdamSmall.nD Cert.AdamSmall.τ).loc Cert.AdamSmall.main_arg42) = m ((c.tc : Thread Cert.AdamSmall.nD Cert.AdamSmall.τ).loc Cert.AdamSmall.main_arg42)
      ∧ r.2.mem ((c.tc : Thread Cert.AdamSmall.nD Cert.AdamSmall.τ).loc Cert.AdamSmall.main_arg43) = m ((c.tc : Thread Cert.AdamSmall.nD Cert.AdamSmall.τ).loc Cert.AdamSmall.main_arg43)
      ∧ r.2.mem ((c.tc : Thread Cert.AdamSmall.nD Cert.AdamSmall.τ).loc Cert.AdamSmall.main_arg44) = m ((c.tc : Thread Cert.AdamSmall.nD Cert.AdamSmall.τ).loc Cert.AdamSmall.main_arg44)
      ∧ r.2.mem ((c.tc : Thread Cert.AdamSmall.nD Cert.AdamSmall.τ).loc Cert.AdamSmall.main_arg45) = m ((c.tc : Thread Cert.AdamSmall.nD Cert.AdamSmall.τ).loc Cert.AdamSmall.main_arg45)
      ∧ r.2.mem ((c.tc : Thread Cert.AdamSmall.nD Cert.AdamSmall.τ).loc Cert.AdamSmall.main_arg46) = m ((c.tc : Thread Cert.AdamSmall.nD Cert.AdamSmall.τ).loc Cert.AdamSmall.main_arg46)
      ∧ r.2.mem ((c.tc : Thread Cert.AdamSmall.nD Cert.AdamSmall.τ).loc Cert.AdamSmall.main_arg47) = m ((c.tc : Thread Cert.AdamSmall.nD Cert.AdamSmall.τ).loc Cert.AdamSmall.main_arg47))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
      ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
      ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
      ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
      ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
      ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
      ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
      ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
      ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
      ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
      ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
      ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
      ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
      ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
      ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
      ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
      ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
      ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
      ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
      ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
      ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
      ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
      ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
      ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
      ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27)
      ∧ r.2.mem ((c.tc : Thread Cert.AdamSmallIdeal.nD Cert.AdamSmallIdeal.τ).loc Cert.AdamSmallIdeal.main_arg28) = m ((c.tc : Thread Cert.AdamSmallIdeal.nD Cert.AdamSmallIdeal.τ).loc Cert.AdamSmallIdeal.main_arg28)
      ∧ r.2.mem ((c.tc : Thread Cert.AdamSmallIdeal.nD Cert.AdamSmallIdeal.τ).loc Cert.AdamSmallIdeal.main_arg29) = m ((c.tc : Thread Cert.AdamSmallIdeal.nD Cert.AdamSmallIdeal.τ).loc Cert.AdamSmallIdeal.main_arg29)
      ∧ r.2.mem ((c.tc : Thread Cert.AdamSmallIdeal.nD Cert.AdamSmallIdeal.τ).loc Cert.AdamSmallIdeal.main_arg30) = m ((c.tc : Thread Cert.AdamSmallIdeal.nD Cert.AdamSmallIdeal.τ).loc Cert.AdamSmallIdeal.main_arg30)
      ∧ r.2.mem ((c.tc : Thread Cert.AdamSmallIdeal.nD Cert.AdamSmallIdeal.τ).loc Cert.AdamSmallIdeal.main_arg31) = m ((c.tc : Thread Cert.AdamSmallIdeal.nD Cert.AdamSmallIdeal.τ).loc Cert.AdamSmallIdeal.main_arg31)
      ∧ r.2.mem ((c.tc : Thread Cert.AdamSmallIdeal.nD Cert.AdamSmallIdeal.τ).loc Cert.AdamSmallIdeal.main_arg32) = m ((c.tc : Thread Cert.AdamSmallIdeal.nD Cert.AdamSmallIdeal.τ).loc Cert.AdamSmallIdeal.main_arg32)
      ∧ r.2.mem ((c.tc : Thread Cert.AdamSmallIdeal.nD Cert.AdamSmallIdeal.τ).loc Cert.AdamSmallIdeal.main_arg33) = m ((c.tc : Thread Cert.AdamSmallIdeal.nD Cert.AdamSmallIdeal.τ).loc Cert.AdamSmallIdeal.main_arg33)
      ∧ r.2.mem ((c.tc : Thread Cert.AdamSmallIdeal.nD Cert.AdamSmallIdeal.τ).loc Cert.AdamSmallIdeal.main_arg34) = m ((c.tc : Thread Cert.AdamSmallIdeal.nD Cert.AdamSmallIdeal.τ).loc Cert.AdamSmallIdeal.main_arg34)
      ∧ r.2.mem ((c.tc : Thread Cert.AdamSmallIdeal.nD Cert.AdamSmallIdeal.τ).loc Cert.AdamSmallIdeal.main_arg35) = m ((c.tc : Thread Cert.AdamSmallIdeal.nD Cert.AdamSmallIdeal.τ).loc Cert.AdamSmallIdeal.main_arg35)
      ∧ r.2.mem ((c.tc : Thread Cert.AdamSmallIdeal.nD Cert.AdamSmallIdeal.τ).loc Cert.AdamSmallIdeal.main_arg36) = m ((c.tc : Thread Cert.AdamSmallIdeal.nD Cert.AdamSmallIdeal.τ).loc Cert.AdamSmallIdeal.main_arg36)
      ∧ r.2.mem ((c.tc : Thread Cert.AdamSmallIdeal.nD Cert.AdamSmallIdeal.τ).loc Cert.AdamSmallIdeal.main_arg37) = m ((c.tc : Thread Cert.AdamSmallIdeal.nD Cert.AdamSmallIdeal.τ).loc Cert.AdamSmallIdeal.main_arg37)
      ∧ r.2.mem ((c.tc : Thread Cert.AdamSmallIdeal.nD Cert.AdamSmallIdeal.τ).loc Cert.AdamSmallIdeal.main_arg38) = m ((c.tc : Thread Cert.AdamSmallIdeal.nD Cert.AdamSmallIdeal.τ).loc Cert.AdamSmallIdeal.main_arg38)
      ∧ r.2.mem ((c.tc : Thread Cert.AdamSmallIdeal.nD Cert.AdamSmallIdeal.τ).loc Cert.AdamSmallIdeal.main_arg39) = m ((c.tc : Thread Cert.AdamSmallIdeal.nD Cert.AdamSmallIdeal.τ).loc Cert.AdamSmallIdeal.main_arg39)
      ∧ r.2.mem ((c.tc : Thread Cert.AdamSmallIdeal.nD Cert.AdamSmallIdeal.τ).loc Cert.AdamSmallIdeal.main_arg40) = m ((c.tc : Thread Cert.AdamSmallIdeal.nD Cert.AdamSmallIdeal.τ).loc Cert.AdamSmallIdeal.main_arg40)
      ∧ r.2.mem ((c.tc : Thread Cert.AdamSmallIdeal.nD Cert.AdamSmallIdeal.τ).loc Cert.AdamSmallIdeal.main_arg41) = m ((c.tc : Thread Cert.AdamSmallIdeal.nD Cert.AdamSmallIdeal.τ).loc Cert.AdamSmallIdeal.main_arg41)
      ∧ r.2.mem ((c.tc : Thread Cert.AdamSmallIdeal.nD Cert.AdamSmallIdeal.τ).loc Cert.AdamSmallIdeal.main_arg42) = m ((c.tc : Thread Cert.AdamSmallIdeal.nD Cert.AdamSmallIdeal.τ).loc Cert.AdamSmallIdeal.main_arg42)
      ∧ r.2.mem ((c.tc : Thread Cert.AdamSmallIdeal.nD Cert.AdamSmallIdeal.τ).loc Cert.AdamSmallIdeal.main_arg43) = m ((c.tc : Thread Cert.AdamSmallIdeal.nD Cert.AdamSmallIdeal.τ).loc Cert.AdamSmallIdeal.main_arg43)
      ∧ r.2.mem ((c.tc : Thread Cert.AdamSmallIdeal.nD Cert.AdamSmallIdeal.τ).loc Cert.AdamSmallIdeal.main_arg44) = m ((c.tc : Thread Cert.AdamSmallIdeal.nD Cert.AdamSmallIdeal.τ).loc Cert.AdamSmallIdeal.main_arg44)
      ∧ r.2.mem ((c.tc : Thread Cert.AdamSmallIdeal.nD Cert.AdamSmallIdeal.τ).loc Cert.AdamSmallIdeal.main_arg45) = m ((c.tc : Thread Cert.AdamSmallIdeal.nD Cert.AdamSmallIdeal.τ).loc Cert.AdamSmallIdeal.main_arg45)
      ∧ r.2.mem ((c.tc : Thread Cert.AdamSmallIdeal.nD Cert.AdamSmallIdeal.τ).loc Cert.AdamSmallIdeal.main_arg46) = m ((c.tc : Thread Cert.AdamSmallIdeal.nD Cert.AdamSmallIdeal.τ).loc Cert.AdamSmallIdeal.main_arg46)
      ∧ r.2.mem ((c.tc : Thread Cert.AdamSmallIdeal.nD Cert.AdamSmallIdeal.τ).loc Cert.AdamSmallIdeal.main_arg47) = m ((c.tc : Thread Cert.AdamSmallIdeal.nD Cert.AdamSmallIdeal.τ).loc Cert.AdamSmallIdeal.main_arg47))
      ∧ r.2.sem = fun _ => 0)

def quiescent_RefAdamSmallIdeal [hRefAdamSmallIdeal : Cert.RefAdamSmallIdeal.Facts] : Prop :=
  ∀ (m : (ℓ : Loc Cert.RefAdamSmallIdeal.nD Cert.RefAdamSmallIdeal.τ Cert.RefAdamSmallIdeal.sig) → Buf (Elt Ideal) ℓ) (g : Dev Cert.RefAdamSmallIdeal.nD → PrngReg), Pre_RefAdamSmallIdeal m →
    θ_run (Cert.RefAdamSmallIdeal.defs (F := Ideal)) (onTc (τ := Cert.RefAdamSmallIdeal.τ) (Cert.RefAdamSmallIdeal.main (F := Ideal))) ⟨m, fun _ => 0, g⟩ (fun r => (∀ c : Dev Cert.RefAdamSmallIdeal.nD,
      r.2.mem ((c.tc : Thread Cert.RefAdamSmallIdeal.nD Cert.RefAdamSmallIdeal.τ).loc Cert.RefAdamSmallIdeal.main_arg0) = m ((c.tc : Thread Cert.RefAdamSmallIdeal.nD Cert.RefAdamSmallIdeal.τ).loc Cert.RefAdamSmallIdeal.main_arg0)
      ∧ r.2.mem ((c.tc : Thread Cert.RefAdamSmallIdeal.nD Cert.RefAdamSmallIdeal.τ).loc Cert.RefAdamSmallIdeal.main_arg1) = m ((c.tc : Thread Cert.RefAdamSmallIdeal.nD Cert.RefAdamSmallIdeal.τ).loc Cert.RefAdamSmallIdeal.main_arg1)
      ∧ r.2.mem ((c.tc : Thread Cert.RefAdamSmallIdeal.nD Cert.RefAdamSmallIdeal.τ).loc Cert.RefAdamSmallIdeal.main_arg2) = m ((c.tc : Thread Cert.RefAdamSmallIdeal.nD Cert.RefAdamSmallIdeal.τ).loc Cert.RefAdamSmallIdeal.main_arg2)
      ∧ r.2.mem ((c.tc : Thread Cert.RefAdamSmallIdeal.nD Cert.RefAdamSmallIdeal.τ).loc Cert.RefAdamSmallIdeal.main_arg3) = m ((c.tc : Thread Cert.RefAdamSmallIdeal.nD Cert.RefAdamSmallIdeal.τ).loc Cert.RefAdamSmallIdeal.main_arg3)
      ∧ r.2.mem ((c.tc : Thread Cert.RefAdamSmallIdeal.nD Cert.RefAdamSmallIdeal.τ).loc Cert.RefAdamSmallIdeal.main_arg4) = m ((c.tc : Thread Cert.RefAdamSmallIdeal.nD Cert.RefAdamSmallIdeal.τ).loc Cert.RefAdamSmallIdeal.main_arg4)
      ∧ r.2.mem ((c.tc : Thread Cert.RefAdamSmallIdeal.nD Cert.RefAdamSmallIdeal.τ).loc Cert.RefAdamSmallIdeal.main_arg5) = m ((c.tc : Thread Cert.RefAdamSmallIdeal.nD Cert.RefAdamSmallIdeal.τ).loc Cert.RefAdamSmallIdeal.main_arg5)
      ∧ r.2.mem ((c.tc : Thread Cert.RefAdamSmallIdeal.nD Cert.RefAdamSmallIdeal.τ).loc Cert.RefAdamSmallIdeal.main_arg6) = m ((c.tc : Thread Cert.RefAdamSmallIdeal.nD Cert.RefAdamSmallIdeal.τ).loc Cert.RefAdamSmallIdeal.main_arg6)
      ∧ r.2.mem ((c.tc : Thread Cert.RefAdamSmallIdeal.nD Cert.RefAdamSmallIdeal.τ).loc Cert.RefAdamSmallIdeal.main_arg7) = m ((c.tc : Thread Cert.RefAdamSmallIdeal.nD Cert.RefAdamSmallIdeal.τ).loc Cert.RefAdamSmallIdeal.main_arg7)
      ∧ r.2.mem ((c.tc : Thread Cert.RefAdamSmallIdeal.nD Cert.RefAdamSmallIdeal.τ).loc Cert.RefAdamSmallIdeal.main_arg8) = m ((c.tc : Thread Cert.RefAdamSmallIdeal.nD Cert.RefAdamSmallIdeal.τ).loc Cert.RefAdamSmallIdeal.main_arg8)
      ∧ r.2.mem ((c.tc : Thread Cert.RefAdamSmallIdeal.nD Cert.RefAdamSmallIdeal.τ).loc Cert.RefAdamSmallIdeal.main_arg9) = m ((c.tc : Thread Cert.RefAdamSmallIdeal.nD Cert.RefAdamSmallIdeal.τ).loc Cert.RefAdamSmallIdeal.main_arg9)
      ∧ r.2.mem ((c.tc : Thread Cert.RefAdamSmallIdeal.nD Cert.RefAdamSmallIdeal.τ).loc Cert.RefAdamSmallIdeal.main_arg10) = m ((c.tc : Thread Cert.RefAdamSmallIdeal.nD Cert.RefAdamSmallIdeal.τ).loc Cert.RefAdamSmallIdeal.main_arg10)
      ∧ r.2.mem ((c.tc : Thread Cert.RefAdamSmallIdeal.nD Cert.RefAdamSmallIdeal.τ).loc Cert.RefAdamSmallIdeal.main_arg11) = m ((c.tc : Thread Cert.RefAdamSmallIdeal.nD Cert.RefAdamSmallIdeal.τ).loc Cert.RefAdamSmallIdeal.main_arg11)
      ∧ r.2.mem ((c.tc : Thread Cert.RefAdamSmallIdeal.nD Cert.RefAdamSmallIdeal.τ).loc Cert.RefAdamSmallIdeal.main_arg12) = m ((c.tc : Thread Cert.RefAdamSmallIdeal.nD Cert.RefAdamSmallIdeal.τ).loc Cert.RefAdamSmallIdeal.main_arg12)
      ∧ r.2.mem ((c.tc : Thread Cert.RefAdamSmallIdeal.nD Cert.RefAdamSmallIdeal.τ).loc Cert.RefAdamSmallIdeal.main_arg13) = m ((c.tc : Thread Cert.RefAdamSmallIdeal.nD Cert.RefAdamSmallIdeal.τ).loc Cert.RefAdamSmallIdeal.main_arg13)
      ∧ r.2.mem ((c.tc : Thread Cert.RefAdamSmallIdeal.nD Cert.RefAdamSmallIdeal.τ).loc Cert.RefAdamSmallIdeal.main_arg14) = m ((c.tc : Thread Cert.RefAdamSmallIdeal.nD Cert.RefAdamSmallIdeal.τ).loc Cert.RefAdamSmallIdeal.main_arg14)
      ∧ r.2.mem ((c.tc : Thread Cert.RefAdamSmallIdeal.nD Cert.RefAdamSmallIdeal.τ).loc Cert.RefAdamSmallIdeal.main_arg15) = m ((c.tc : Thread Cert.RefAdamSmallIdeal.nD Cert.RefAdamSmallIdeal.τ).loc Cert.RefAdamSmallIdeal.main_arg15)
      ∧ r.2.mem ((c.tc : Thread Cert.RefAdamSmallIdeal.nD Cert.RefAdamSmallIdeal.τ).loc Cert.RefAdamSmallIdeal.main_arg16) = m ((c.tc : Thread Cert.RefAdamSmallIdeal.nD Cert.RefAdamSmallIdeal.τ).loc Cert.RefAdamSmallIdeal.main_arg16)
      ∧ r.2.mem ((c.tc : Thread Cert.RefAdamSmallIdeal.nD Cert.RefAdamSmallIdeal.τ).loc Cert.RefAdamSmallIdeal.main_arg17) = m ((c.tc : Thread Cert.RefAdamSmallIdeal.nD Cert.RefAdamSmallIdeal.τ).loc Cert.RefAdamSmallIdeal.main_arg17)
      ∧ r.2.mem ((c.tc : Thread Cert.RefAdamSmallIdeal.nD Cert.RefAdamSmallIdeal.τ).loc Cert.RefAdamSmallIdeal.main_arg18) = m ((c.tc : Thread Cert.RefAdamSmallIdeal.nD Cert.RefAdamSmallIdeal.τ).loc Cert.RefAdamSmallIdeal.main_arg18)
      ∧ r.2.mem ((c.tc : Thread Cert.RefAdamSmallIdeal.nD Cert.RefAdamSmallIdeal.τ).loc Cert.RefAdamSmallIdeal.main_arg19) = m ((c.tc : Thread Cert.RefAdamSmallIdeal.nD Cert.RefAdamSmallIdeal.τ).loc Cert.RefAdamSmallIdeal.main_arg19)
      ∧ r.2.mem ((c.tc : Thread Cert.RefAdamSmallIdeal.nD Cert.RefAdamSmallIdeal.τ).loc Cert.RefAdamSmallIdeal.main_arg20) = m ((c.tc : Thread Cert.RefAdamSmallIdeal.nD Cert.RefAdamSmallIdeal.τ).loc Cert.RefAdamSmallIdeal.main_arg20)
      ∧ r.2.mem ((c.tc : Thread Cert.RefAdamSmallIdeal.nD Cert.RefAdamSmallIdeal.τ).loc Cert.RefAdamSmallIdeal.main_arg21) = m ((c.tc : Thread Cert.RefAdamSmallIdeal.nD Cert.RefAdamSmallIdeal.τ).loc Cert.RefAdamSmallIdeal.main_arg21)
      ∧ r.2.mem ((c.tc : Thread Cert.RefAdamSmallIdeal.nD Cert.RefAdamSmallIdeal.τ).loc Cert.RefAdamSmallIdeal.main_arg22) = m ((c.tc : Thread Cert.RefAdamSmallIdeal.nD Cert.RefAdamSmallIdeal.τ).loc Cert.RefAdamSmallIdeal.main_arg22)
      ∧ r.2.mem ((c.tc : Thread Cert.RefAdamSmallIdeal.nD Cert.RefAdamSmallIdeal.τ).loc Cert.RefAdamSmallIdeal.main_arg23) = m ((c.tc : Thread Cert.RefAdamSmallIdeal.nD Cert.RefAdamSmallIdeal.τ).loc Cert.RefAdamSmallIdeal.main_arg23)
      ∧ r.2.mem ((c.tc : Thread Cert.RefAdamSmallIdeal.nD Cert.RefAdamSmallIdeal.τ).loc Cert.RefAdamSmallIdeal.main_arg24) = m ((c.tc : Thread Cert.RefAdamSmallIdeal.nD Cert.RefAdamSmallIdeal.τ).loc Cert.RefAdamSmallIdeal.main_arg24)
      ∧ r.2.mem ((c.tc : Thread Cert.RefAdamSmallIdeal.nD Cert.RefAdamSmallIdeal.τ).loc Cert.RefAdamSmallIdeal.main_arg25) = m ((c.tc : Thread Cert.RefAdamSmallIdeal.nD Cert.RefAdamSmallIdeal.τ).loc Cert.RefAdamSmallIdeal.main_arg25)
      ∧ r.2.mem ((c.tc : Thread Cert.RefAdamSmallIdeal.nD Cert.RefAdamSmallIdeal.τ).loc Cert.RefAdamSmallIdeal.main_arg26) = m ((c.tc : Thread Cert.RefAdamSmallIdeal.nD Cert.RefAdamSmallIdeal.τ).loc Cert.RefAdamSmallIdeal.main_arg26)
      ∧ r.2.mem ((c.tc : Thread Cert.RefAdamSmallIdeal.nD Cert.RefAdamSmallIdeal.τ).loc Cert.RefAdamSmallIdeal.main_arg27) = m ((c.tc : Thread Cert.RefAdamSmallIdeal.nD Cert.RefAdamSmallIdeal.τ).loc Cert.RefAdamSmallIdeal.main_arg27)
      ∧ r.2.mem ((c.tc : Thread Cert.RefAdamSmallIdeal.nD Cert.RefAdamSmallIdeal.τ).loc Cert.RefAdamSmallIdeal.main_arg28) = m ((c.tc : Thread Cert.RefAdamSmallIdeal.nD Cert.RefAdamSmallIdeal.τ).loc Cert.RefAdamSmallIdeal.main_arg28)
      ∧ r.2.mem ((c.tc : Thread Cert.RefAdamSmallIdeal.nD Cert.RefAdamSmallIdeal.τ).loc Cert.RefAdamSmallIdeal.main_arg29) = m ((c.tc : Thread Cert.RefAdamSmallIdeal.nD Cert.RefAdamSmallIdeal.τ).loc Cert.RefAdamSmallIdeal.main_arg29)
      ∧ r.2.mem ((c.tc : Thread Cert.RefAdamSmallIdeal.nD Cert.RefAdamSmallIdeal.τ).loc Cert.RefAdamSmallIdeal.main_arg30) = m ((c.tc : Thread Cert.RefAdamSmallIdeal.nD Cert.RefAdamSmallIdeal.τ).loc Cert.RefAdamSmallIdeal.main_arg30)
      ∧ r.2.mem ((c.tc : Thread Cert.RefAdamSmallIdeal.nD Cert.RefAdamSmallIdeal.τ).loc Cert.RefAdamSmallIdeal.main_arg31) = m ((c.tc : Thread Cert.RefAdamSmallIdeal.nD Cert.RefAdamSmallIdeal.τ).loc Cert.RefAdamSmallIdeal.main_arg31)
      ∧ r.2.mem ((c.tc : Thread Cert.RefAdamSmallIdeal.nD Cert.RefAdamSmallIdeal.τ).loc Cert.RefAdamSmallIdeal.main_arg32) = m ((c.tc : Thread Cert.RefAdamSmallIdeal.nD Cert.RefAdamSmallIdeal.τ).loc Cert.RefAdamSmallIdeal.main_arg32)
      ∧ r.2.mem ((c.tc : Thread Cert.RefAdamSmallIdeal.nD Cert.RefAdamSmallIdeal.τ).loc Cert.RefAdamSmallIdeal.main_arg33) = m ((c.tc : Thread Cert.RefAdamSmallIdeal.nD Cert.RefAdamSmallIdeal.τ).loc Cert.RefAdamSmallIdeal.main_arg33)
      ∧ r.2.mem ((c.tc : Thread Cert.RefAdamSmallIdeal.nD Cert.RefAdamSmallIdeal.τ).loc Cert.RefAdamSmallIdeal.main_arg34) = m ((c.tc : Thread Cert.RefAdamSmallIdeal.nD Cert.RefAdamSmallIdeal.τ).loc Cert.RefAdamSmallIdeal.main_arg34)
      ∧ r.2.mem ((c.tc : Thread Cert.RefAdamSmallIdeal.nD Cert.RefAdamSmallIdeal.τ).loc Cert.RefAdamSmallIdeal.main_arg35) = m ((c.tc : Thread Cert.RefAdamSmallIdeal.nD Cert.RefAdamSmallIdeal.τ).loc Cert.RefAdamSmallIdeal.main_arg35)
      ∧ r.2.mem ((c.tc : Thread Cert.RefAdamSmallIdeal.nD Cert.RefAdamSmallIdeal.τ).loc Cert.RefAdamSmallIdeal.main_arg36) = m ((c.tc : Thread Cert.RefAdamSmallIdeal.nD Cert.RefAdamSmallIdeal.τ).loc Cert.RefAdamSmallIdeal.main_arg36)
      ∧ r.2.mem ((c.tc : Thread Cert.RefAdamSmallIdeal.nD Cert.RefAdamSmallIdeal.τ).loc Cert.RefAdamSmallIdeal.main_arg37) = m ((c.tc : Thread Cert.RefAdamSmallIdeal.nD Cert.RefAdamSmallIdeal.τ).loc Cert.RefAdamSmallIdeal.main_arg37)
      ∧ r.2.mem ((c.tc : Thread Cert.RefAdamSmallIdeal.nD Cert.RefAdamSmallIdeal.τ).loc Cert.RefAdamSmallIdeal.main_arg38) = m ((c.tc : Thread Cert.RefAdamSmallIdeal.nD Cert.RefAdamSmallIdeal.τ).loc Cert.RefAdamSmallIdeal.main_arg38)
      ∧ r.2.mem ((c.tc : Thread Cert.RefAdamSmallIdeal.nD Cert.RefAdamSmallIdeal.τ).loc Cert.RefAdamSmallIdeal.main_arg39) = m ((c.tc : Thread Cert.RefAdamSmallIdeal.nD Cert.RefAdamSmallIdeal.τ).loc Cert.RefAdamSmallIdeal.main_arg39)
      ∧ r.2.mem ((c.tc : Thread Cert.RefAdamSmallIdeal.nD Cert.RefAdamSmallIdeal.τ).loc Cert.RefAdamSmallIdeal.main_arg40) = m ((c.tc : Thread Cert.RefAdamSmallIdeal.nD Cert.RefAdamSmallIdeal.τ).loc Cert.RefAdamSmallIdeal.main_arg40)
      ∧ r.2.mem ((c.tc : Thread Cert.RefAdamSmallIdeal.nD Cert.RefAdamSmallIdeal.τ).loc Cert.RefAdamSmallIdeal.main_arg41) = m ((c.tc : Thread Cert.RefAdamSmallIdeal.nD Cert.RefAdamSmallIdeal.τ).loc Cert.RefAdamSmallIdeal.main_arg41)
      ∧ r.2.mem ((c.tc : Thread Cert.RefAdamSmallIdeal.nD Cert.RefAdamSmallIdeal.τ).loc Cert.RefAdamSmallIdeal.main_arg42) = m ((c.tc : Thread Cert.RefAdamSmallIdeal.nD Cert.RefAdamSmallIdeal.τ).loc Cert.RefAdamSmallIdeal.main_arg42)
      ∧ r.2.mem ((c.tc : Thread Cert.RefAdamSmallIdeal.nD Cert.RefAdamSmallIdeal.τ).loc Cert.RefAdamSmallIdeal.main_arg43) = m ((c.tc : Thread Cert.RefAdamSmallIdeal.nD Cert.RefAdamSmallIdeal.τ).loc Cert.RefAdamSmallIdeal.main_arg43)
      ∧ r.2.mem ((c.tc : Thread Cert.RefAdamSmallIdeal.nD Cert.RefAdamSmallIdeal.τ).loc Cert.RefAdamSmallIdeal.main_arg44) = m ((c.tc : Thread Cert.RefAdamSmallIdeal.nD Cert.RefAdamSmallIdeal.τ).loc Cert.RefAdamSmallIdeal.main_arg44)
      ∧ r.2.mem ((c.tc : Thread Cert.RefAdamSmallIdeal.nD Cert.RefAdamSmallIdeal.τ).loc Cert.RefAdamSmallIdeal.main_arg45) = m ((c.tc : Thread Cert.RefAdamSmallIdeal.nD Cert.RefAdamSmallIdeal.τ).loc Cert.RefAdamSmallIdeal.main_arg45)
      ∧ r.2.mem ((c.tc : Thread Cert.RefAdamSmallIdeal.nD Cert.RefAdamSmallIdeal.τ).loc Cert.RefAdamSmallIdeal.main_arg46) = m ((c.tc : Thread Cert.RefAdamSmallIdeal.nD Cert.RefAdamSmallIdeal.τ).loc Cert.RefAdamSmallIdeal.main_arg46)
      ∧ r.2.mem ((c.tc : Thread Cert.RefAdamSmallIdeal.nD Cert.RefAdamSmallIdeal.τ).loc Cert.RefAdamSmallIdeal.main_arg47) = m ((c.tc : Thread Cert.RefAdamSmallIdeal.nD Cert.RefAdamSmallIdeal.τ).loc Cert.RefAdamSmallIdeal.main_arg47))
      ∧ r.2.sem = fun _ => 0)

def quiescent_AdaStep [hAdaStep : Cert.AdaStep.Facts] : Prop :=
  ∀ (m : (ℓ : Loc Cert.AdaStep.nD Cert.AdaStep.τ Cert.AdaStep.sig) → Buf (Elt Bits) ℓ) (g : Dev Cert.AdaStep.nD → PrngReg), Pre_AdaStep m →
    θ_run (Cert.AdaStep.defs (F := Bits)) (onTc (τ := Cert.AdaStep.τ) (Cert.AdaStep.main (F := Bits))) ⟨m, fun _ => 0, g⟩ (fun r => (∀ c : Dev Cert.AdaStep.nD,
      r.2.mem ((c.tc : Thread Cert.AdaStep.nD Cert.AdaStep.τ).loc Cert.AdaStep.main_arg0) = m ((c.tc : Thread Cert.AdaStep.nD Cert.AdaStep.τ).loc Cert.AdaStep.main_arg0)
      ∧ r.2.mem ((c.tc : Thread Cert.AdaStep.nD Cert.AdaStep.τ).loc Cert.AdaStep.main_arg1) = m ((c.tc : Thread Cert.AdaStep.nD Cert.AdaStep.τ).loc Cert.AdaStep.main_arg1)
      ∧ r.2.mem ((c.tc : Thread Cert.AdaStep.nD Cert.AdaStep.τ).loc Cert.AdaStep.main_arg2) = m ((c.tc : Thread Cert.AdaStep.nD Cert.AdaStep.τ).loc Cert.AdaStep.main_arg2)
      ∧ r.2.mem ((c.tc : Thread Cert.AdaStep.nD Cert.AdaStep.τ).loc Cert.AdaStep.main_arg3) = m ((c.tc : Thread Cert.AdaStep.nD Cert.AdaStep.τ).loc Cert.AdaStep.main_arg3)
      ∧ r.2.mem ((c.tc : Thread Cert.AdaStep.nD Cert.AdaStep.τ).loc Cert.AdaStep.main_arg4) = m ((c.tc : Thread Cert.AdaStep.nD Cert.AdaStep.τ).loc Cert.AdaStep.main_arg4))
      ∧ r.2.sem = fun _ => 0)

def quiescent_AdaStepIdeal [hAdaStepIdeal : Cert.AdaStepIdeal.Facts] : Prop :=
  ∀ (m : (ℓ : Loc Cert.AdaStepIdeal.nD Cert.AdaStepIdeal.τ Cert.AdaStepIdeal.sig) → Buf (Elt Ideal) ℓ) (g : Dev Cert.AdaStepIdeal.nD → PrngReg), Pre_AdaStepIdeal m →
    θ_run (Cert.AdaStepIdeal.defs (F := Ideal)) (onTc (τ := Cert.AdaStepIdeal.τ) (Cert.AdaStepIdeal.main (F := Ideal))) ⟨m, fun _ => 0, g⟩ (fun r => (∀ c : Dev Cert.AdaStepIdeal.nD,
      r.2.mem ((c.tc : Thread Cert.AdaStepIdeal.nD Cert.AdaStepIdeal.τ).loc Cert.AdaStepIdeal.main_arg0) = m ((c.tc : Thread Cert.AdaStepIdeal.nD Cert.AdaStepIdeal.τ).loc Cert.AdaStepIdeal.main_arg0)
      ∧ r.2.mem ((c.tc : Thread Cert.AdaStepIdeal.nD Cert.AdaStepIdeal.τ).loc Cert.AdaStepIdeal.main_arg1) = m ((c.tc : Thread Cert.AdaStepIdeal.nD Cert.AdaStepIdeal.τ).loc Cert.AdaStepIdeal.main_arg1)
      ∧ r.2.mem ((c.tc : Thread Cert.AdaStepIdeal.nD Cert.AdaStepIdeal.τ).loc Cert.AdaStepIdeal.main_arg2) = m ((c.tc : Thread Cert.AdaStepIdeal.nD Cert.AdaStepIdeal.τ).loc Cert.AdaStepIdeal.main_arg2)
      ∧ r.2.mem ((c.tc : Thread Cert.AdaStepIdeal.nD Cert.AdaStepIdeal.τ).loc Cert.AdaStepIdeal.main_arg3) = m ((c.tc : Thread Cert.AdaStepIdeal.nD Cert.AdaStepIdeal.τ).loc Cert.AdaStepIdeal.main_arg3)
      ∧ r.2.mem ((c.tc : Thread Cert.AdaStepIdeal.nD Cert.AdaStepIdeal.τ).loc Cert.AdaStepIdeal.main_arg4) = m ((c.tc : Thread Cert.AdaStepIdeal.nD Cert.AdaStepIdeal.τ).loc Cert.AdaStepIdeal.main_arg4))
      ∧ r.2.sem = fun _ => 0)

def quiescent_RefAdaStepIdeal [hRefAdaStepIdeal : Cert.RefAdaStepIdeal.Facts] : Prop :=
  ∀ (m : (ℓ : Loc Cert.RefAdaStepIdeal.nD Cert.RefAdaStepIdeal.τ Cert.RefAdaStepIdeal.sig) → Buf (Elt Ideal) ℓ) (g : Dev Cert.RefAdaStepIdeal.nD → PrngReg), Pre_RefAdaStepIdeal m →
    θ_run (Cert.RefAdaStepIdeal.defs (F := Ideal)) (onTc (τ := Cert.RefAdaStepIdeal.τ) (Cert.RefAdaStepIdeal.main (F := Ideal))) ⟨m, fun _ => 0, g⟩ (fun r => (∀ c : Dev Cert.RefAdaStepIdeal.nD,
      r.2.mem ((c.tc : Thread Cert.RefAdaStepIdeal.nD Cert.RefAdaStepIdeal.τ).loc Cert.RefAdaStepIdeal.main_arg0) = m ((c.tc : Thread Cert.RefAdaStepIdeal.nD Cert.RefAdaStepIdeal.τ).loc Cert.RefAdaStepIdeal.main_arg0)
      ∧ r.2.mem ((c.tc : Thread Cert.RefAdaStepIdeal.nD Cert.RefAdaStepIdeal.τ).loc Cert.RefAdaStepIdeal.main_arg1) = m ((c.tc : Thread Cert.RefAdaStepIdeal.nD Cert.RefAdaStepIdeal.τ).loc Cert.RefAdaStepIdeal.main_arg1)
      ∧ r.2.mem ((c.tc : Thread Cert.RefAdaStepIdeal.nD Cert.RefAdaStepIdeal.τ).loc Cert.RefAdaStepIdeal.main_arg2) = m ((c.tc : Thread Cert.RefAdaStepIdeal.nD Cert.RefAdaStepIdeal.τ).loc Cert.RefAdaStepIdeal.main_arg2)
      ∧ r.2.mem ((c.tc : Thread Cert.RefAdaStepIdeal.nD Cert.RefAdaStepIdeal.τ).loc Cert.RefAdaStepIdeal.main_arg3) = m ((c.tc : Thread Cert.RefAdaStepIdeal.nD Cert.RefAdaStepIdeal.τ).loc Cert.RefAdaStepIdeal.main_arg3)
      ∧ r.2.mem ((c.tc : Thread Cert.RefAdaStepIdeal.nD Cert.RefAdaStepIdeal.τ).loc Cert.RefAdaStepIdeal.main_arg4) = m ((c.tc : Thread Cert.RefAdaStepIdeal.nD Cert.RefAdaStepIdeal.τ).loc Cert.RefAdaStepIdeal.main_arg4))
      ∧ r.2.sem = fun _ => 0)

def quiescent_AdamFfn [hAdamFfn : Cert.AdamFfn.Facts] : Prop :=
  ∀ (m : (ℓ : Loc Cert.AdamFfn.nD Cert.AdamFfn.τ Cert.AdamFfn.sig) → Buf (Elt Bits) ℓ) (g : Dev Cert.AdamFfn.nD → PrngReg), Pre_AdamFfn m →
    θ_run (Cert.AdamFfn.defs (F := Bits)) (onTc (τ := Cert.AdamFfn.τ) (Cert.AdamFfn.main (F := Bits))) ⟨m, fun _ => 0, g⟩ (fun r => (∀ c : Dev Cert.AdamFfn.nD,
      r.2.mem ((c.tc : Thread Cert.AdamFfn.nD Cert.AdamFfn.τ).loc Cert.AdamFfn.main_arg0) = m ((c.tc : Thread Cert.AdamFfn.nD Cert.AdamFfn.τ).loc Cert.AdamFfn.main_arg0)
      ∧ r.2.mem ((c.tc : Thread Cert.AdamFfn.nD Cert.AdamFfn.τ).loc Cert.AdamFfn.main_arg1) = m ((c.tc : Thread Cert.AdamFfn.nD Cert.AdamFfn.τ).loc Cert.AdamFfn.main_arg1)
      ∧ r.2.mem ((c.tc : Thread Cert.AdamFfn.nD Cert.AdamFfn.τ).loc Cert.AdamFfn.main_arg2) = m ((c.tc : Thread Cert.AdamFfn.nD Cert.AdamFfn.τ).loc Cert.AdamFfn.main_arg2)
      ∧ r.2.mem ((c.tc : Thread Cert.AdamFfn.nD Cert.AdamFfn.τ).loc Cert.AdamFfn.main_arg3) = m ((c.tc : Thread Cert.AdamFfn.nD Cert.AdamFfn.τ).loc Cert.AdamFfn.main_arg3)
      ∧ r.2.mem ((c.tc : Thread Cert.AdamFfn.nD Cert.AdamFfn.τ).loc Cert.AdamFfn.main_arg4) = m ((c.tc : Thread Cert.AdamFfn.nD Cert.AdamFfn.τ).loc Cert.AdamFfn.main_arg4)
      ∧ r.2.mem ((c.tc : Thread Cert.AdamFfn.nD Cert.AdamFfn.τ).loc Cert.AdamFfn.main_arg5) = m ((c.tc : Thread Cert.AdamFfn.nD Cert.AdamFfn.τ).loc Cert.AdamFfn.main_arg5)
      ∧ r.2.mem ((c.tc : Thread Cert.AdamFfn.nD Cert.AdamFfn.τ).loc Cert.AdamFfn.main_arg6) = m ((c.tc : Thread Cert.AdamFfn.nD Cert.AdamFfn.τ).loc Cert.AdamFfn.main_arg6)
      ∧ r.2.mem ((c.tc : Thread Cert.AdamFfn.nD Cert.AdamFfn.τ).loc Cert.AdamFfn.main_arg7) = m ((c.tc : Thread Cert.AdamFfn.nD Cert.AdamFfn.τ).loc Cert.AdamFfn.main_arg7)
      ∧ r.2.mem ((c.tc : Thread Cert.AdamFfn.nD Cert.AdamFfn.τ).loc Cert.AdamFfn.main_arg8) = m ((c.tc : Thread Cert.AdamFfn.nD Cert.AdamFfn.τ).loc Cert.AdamFfn.main_arg8))
      ∧ r.2.sem = fun _ => 0)

def quiescent_AdamFfnIdeal [hAdamFfnIdeal : Cert.AdamFfnIdeal.Facts] : Prop :=
  ∀ (m : (ℓ : Loc Cert.AdamFfnIdeal.nD Cert.AdamFfnIdeal.τ Cert.AdamFfnIdeal.sig) → Buf (Elt Ideal) ℓ) (g : Dev Cert.AdamFfnIdeal.nD → PrngReg), Pre_AdamFfnIdeal m →
    θ_run (Cert.AdamFfnIdeal.defs (F := Ideal)) (onTc (τ := Cert.AdamFfnIdeal.τ) (Cert.AdamFfnIdeal.main (F := Ideal))) ⟨m, fun _ => 0, g⟩ (fun r => (∀ c : Dev Cert.AdamFfnIdeal.nD,
      r.2.mem ((c.tc : Thread Cert.AdamFfnIdeal.nD Cert.AdamFfnIdeal.τ).loc Cert.AdamFfnIdeal.main_arg0) = m ((c.tc : Thread Cert.AdamFfnIdeal.nD Cert.AdamFfnIdeal.τ).loc Cert.AdamFfnIdeal.main_arg0)
      ∧ r.2.mem ((c.tc : Thread Cert.AdamFfnIdeal.nD Cert.AdamFfnIdeal.τ).loc Cert.AdamFfnIdeal.main_arg1) = m ((c.tc : Thread Cert.AdamFfnIdeal.nD Cert.AdamFfnIdeal.τ).loc Cert.AdamFfnIdeal.main_arg1)
      ∧ r.2.mem ((c.tc : Thread Cert.AdamFfnIdeal.nD Cert.AdamFfnIdeal.τ).loc Cert.AdamFfnIdeal.main_arg2) = m ((c.tc : Thread Cert.AdamFfnIdeal.nD Cert.AdamFfnIdeal.τ).loc Cert.AdamFfnIdeal.main_arg2)
      ∧ r.2.mem ((c.tc : Thread Cert.AdamFfnIdeal.nD Cert.AdamFfnIdeal.τ).loc Cert.AdamFfnIdeal.main_arg3) = m ((c.tc : Thread Cert.AdamFfnIdeal.nD Cert.AdamFfnIdeal.τ).loc Cert.AdamFfnIdeal.main_arg3)
      ∧ r.2.mem ((c.tc : Thread Cert.AdamFfnIdeal.nD Cert.AdamFfnIdeal.τ).loc Cert.AdamFfnIdeal.main_arg4) = m ((c.tc : Thread Cert.AdamFfnIdeal.nD Cert.AdamFfnIdeal.τ).loc Cert.AdamFfnIdeal.main_arg4)
      ∧ r.2.mem ((c.tc : Thread Cert.AdamFfnIdeal.nD Cert.AdamFfnIdeal.τ).loc Cert.AdamFfnIdeal.main_arg5) = m ((c.tc : Thread Cert.AdamFfnIdeal.nD Cert.AdamFfnIdeal.τ).loc Cert.AdamFfnIdeal.main_arg5)
      ∧ r.2.mem ((c.tc : Thread Cert.AdamFfnIdeal.nD Cert.AdamFfnIdeal.τ).loc Cert.AdamFfnIdeal.main_arg6) = m ((c.tc : Thread Cert.AdamFfnIdeal.nD Cert.AdamFfnIdeal.τ).loc Cert.AdamFfnIdeal.main_arg6)
      ∧ r.2.mem ((c.tc : Thread Cert.AdamFfnIdeal.nD Cert.AdamFfnIdeal.τ).loc Cert.AdamFfnIdeal.main_arg7) = m ((c.tc : Thread Cert.AdamFfnIdeal.nD Cert.AdamFfnIdeal.τ).loc Cert.AdamFfnIdeal.main_arg7)
      ∧ r.2.mem ((c.tc : Thread Cert.AdamFfnIdeal.nD Cert.AdamFfnIdeal.τ).loc Cert.AdamFfnIdeal.main_arg8) = m ((c.tc : Thread Cert.AdamFfnIdeal.nD Cert.AdamFfnIdeal.τ).loc Cert.AdamFfnIdeal.main_arg8))
      ∧ r.2.sem = fun _ => 0)

def quiescent_RefAdamFfnIdeal [hRefAdamFfnIdeal : Cert.RefAdamFfnIdeal.Facts] : Prop :=
  ∀ (m : (ℓ : Loc Cert.RefAdamFfnIdeal.nD Cert.RefAdamFfnIdeal.τ Cert.RefAdamFfnIdeal.sig) → Buf (Elt Ideal) ℓ) (g : Dev Cert.RefAdamFfnIdeal.nD → PrngReg), Pre_RefAdamFfnIdeal m →
    θ_run (Cert.RefAdamFfnIdeal.defs (F := Ideal)) (onTc (τ := Cert.RefAdamFfnIdeal.τ) (Cert.RefAdamFfnIdeal.main (F := Ideal))) ⟨m, fun _ => 0, g⟩ (fun r => (∀ c : Dev Cert.RefAdamFfnIdeal.nD,
      r.2.mem ((c.tc : Thread Cert.RefAdamFfnIdeal.nD Cert.RefAdamFfnIdeal.τ).loc Cert.RefAdamFfnIdeal.main_arg0) = m ((c.tc : Thread Cert.RefAdamFfnIdeal.nD Cert.RefAdamFfnIdeal.τ).loc Cert.RefAdamFfnIdeal.main_arg0)
      ∧ r.2.mem ((c.tc : Thread Cert.RefAdamFfnIdeal.nD Cert.RefAdamFfnIdeal.τ).loc Cert.RefAdamFfnIdeal.main_arg1) = m ((c.tc : Thread Cert.RefAdamFfnIdeal.nD Cert.RefAdamFfnIdeal.τ).loc Cert.RefAdamFfnIdeal.main_arg1)
      ∧ r.2.mem ((c.tc : Thread Cert.RefAdamFfnIdeal.nD Cert.RefAdamFfnIdeal.τ).loc Cert.RefAdamFfnIdeal.main_arg2) = m ((c.tc : Thread Cert.RefAdamFfnIdeal.nD Cert.RefAdamFfnIdeal.τ).loc Cert.RefAdamFfnIdeal.main_arg2)
      ∧ r.2.mem ((c.tc : Thread Cert.RefAdamFfnIdeal.nD Cert.RefAdamFfnIdeal.τ).loc Cert.RefAdamFfnIdeal.main_arg3) = m ((c.tc : Thread Cert.RefAdamFfnIdeal.nD Cert.RefAdamFfnIdeal.τ).loc Cert.RefAdamFfnIdeal.main_arg3)
      ∧ r.2.mem ((c.tc : Thread Cert.RefAdamFfnIdeal.nD Cert.RefAdamFfnIdeal.τ).loc Cert.RefAdamFfnIdeal.main_arg4) = m ((c.tc : Thread Cert.RefAdamFfnIdeal.nD Cert.RefAdamFfnIdeal.τ).loc Cert.RefAdamFfnIdeal.main_arg4)
      ∧ r.2.mem ((c.tc : Thread Cert.RefAdamFfnIdeal.nD Cert.RefAdamFfnIdeal.τ).loc Cert.RefAdamFfnIdeal.main_arg5) = m ((c.tc : Thread Cert.RefAdamFfnIdeal.nD Cert.RefAdamFfnIdeal.τ).loc Cert.RefAdamFfnIdeal.main_arg5)
      ∧ r.2.mem ((c.tc : Thread Cert.RefAdamFfnIdeal.nD Cert.RefAdamFfnIdeal.τ).loc Cert.RefAdamFfnIdeal.main_arg6) = m ((c.tc : Thread Cert.RefAdamFfnIdeal.nD Cert.RefAdamFfnIdeal.τ).loc Cert.RefAdamFfnIdeal.main_arg6)
      ∧ r.2.mem ((c.tc : Thread Cert.RefAdamFfnIdeal.nD Cert.RefAdamFfnIdeal.τ).loc Cert.RefAdamFfnIdeal.main_arg7) = m ((c.tc : Thread Cert.RefAdamFfnIdeal.nD Cert.RefAdamFfnIdeal.τ).loc Cert.RefAdamFfnIdeal.main_arg7)
      ∧ r.2.mem ((c.tc : Thread Cert.RefAdamFfnIdeal.nD Cert.RefAdamFfnIdeal.τ).loc Cert.RefAdamFfnIdeal.main_arg8) = m ((c.tc : Thread Cert.RefAdamFfnIdeal.nD Cert.RefAdamFfnIdeal.τ).loc Cert.RefAdamFfnIdeal.main_arg8))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4)
      ∧ r.2.mem ((c.tc : Thread Cert.AdamIn.nD Cert.AdamIn.τ).loc Cert.AdamIn.main_arg5) = m ((c.tc : Thread Cert.AdamIn.nD Cert.AdamIn.τ).loc Cert.AdamIn.main_arg5)
      ∧ r.2.mem ((c.tc : Thread Cert.AdamIn.nD Cert.AdamIn.τ).loc Cert.AdamIn.main_arg6) = m ((c.tc : Thread Cert.AdamIn.nD Cert.AdamIn.τ).loc Cert.AdamIn.main_arg6)
      ∧ r.2.mem ((c.tc : Thread Cert.AdamIn.nD Cert.AdamIn.τ).loc Cert.AdamIn.main_arg7) = m ((c.tc : Thread Cert.AdamIn.nD Cert.AdamIn.τ).loc Cert.AdamIn.main_arg7)
      ∧ r.2.mem ((c.tc : Thread Cert.AdamIn.nD Cert.AdamIn.τ).loc Cert.AdamIn.main_arg8) = m ((c.tc : Thread Cert.AdamIn.nD Cert.AdamIn.τ).loc Cert.AdamIn.main_arg8))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
      ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5)
      ∧ r.2.mem ((c.tc : Thread Cert.AdamInIdeal.nD Cert.AdamInIdeal.τ).loc Cert.AdamInIdeal.main_arg6) = m ((c.tc : Thread Cert.AdamInIdeal.nD Cert.AdamInIdeal.τ).loc Cert.AdamInIdeal.main_arg6)
      ∧ r.2.mem ((c.tc : Thread Cert.AdamInIdeal.nD Cert.AdamInIdeal.τ).loc Cert.AdamInIdeal.main_arg7) = m ((c.tc : Thread Cert.AdamInIdeal.nD Cert.AdamInIdeal.τ).loc Cert.AdamInIdeal.main_arg7)
      ∧ r.2.mem ((c.tc : Thread Cert.AdamInIdeal.nD Cert.AdamInIdeal.τ).loc Cert.AdamInIdeal.main_arg8) = m ((c.tc : Thread Cert.AdamInIdeal.nD Cert.AdamInIdeal.τ).loc Cert.AdamInIdeal.main_arg8))
      ∧ r.2.sem = fun _ => 0)

def quiescent_RefAdamInIdeal [hRefAdamInIdeal : Cert.RefAdamInIdeal.Facts] : Prop :=
  ∀ (m : (ℓ : Loc Cert.RefAdamInIdeal.nD Cert.RefAdamInIdeal.τ Cert.RefAdamInIdeal.sig) → Buf (Elt Ideal) ℓ) (g : Dev Cert.RefAdamInIdeal.nD → PrngReg), Pre_RefAdamInIdeal m →
    θ_run (Cert.RefAdamInIdeal.defs (F := Ideal)) (onTc (τ := Cert.RefAdamInIdeal.τ) (Cert.RefAdamInIdeal.main (F := Ideal))) ⟨m, fun _ => 0, g⟩ (fun r => (∀ c : Dev Cert.RefAdamInIdeal.nD,
      r.2.mem ((c.tc : Thread Cert.RefAdamInIdeal.nD Cert.RefAdamInIdeal.τ).loc Cert.RefAdamInIdeal.main_arg0) = m ((c.tc : Thread Cert.RefAdamInIdeal.nD Cert.RefAdamInIdeal.τ).loc Cert.RefAdamInIdeal.main_arg0)
      ∧ r.2.mem ((c.tc : Thread Cert.RefAdamInIdeal.nD Cert.RefAdamInIdeal.τ).loc Cert.RefAdamInIdeal.main_arg1) = m ((c.tc : Thread Cert.RefAdamInIdeal.nD Cert.RefAdamInIdeal.τ).loc Cert.RefAdamInIdeal.main_arg1)
      ∧ r.2.mem ((c.tc : Thread Cert.RefAdamInIdeal.nD Cert.RefAdamInIdeal.τ).loc Cert.RefAdamInIdeal.main_arg2) = m ((c.tc : Thread Cert.RefAdamInIdeal.nD Cert.RefAdamInIdeal.τ).loc Cert.RefAdamInIdeal.main_arg2)
      ∧ r.2.mem ((c.tc : Thread Cert.RefAdamInIdeal.nD Cert.RefAdamInIdeal.τ).loc Cert.RefAdamInIdeal.main_arg3) = m ((c.tc : Thread Cert.RefAdamInIdeal.nD Cert.RefAdamInIdeal.τ).loc Cert.RefAdamInIdeal.main_arg3)
      ∧ r.2.mem ((c.tc : Thread Cert.RefAdamInIdeal.nD Cert.RefAdamInIdeal.τ).loc Cert.RefAdamInIdeal.main_arg4) = m ((c.tc : Thread Cert.RefAdamInIdeal.nD Cert.RefAdamInIdeal.τ).loc Cert.RefAdamInIdeal.main_arg4)
      ∧ r.2.mem ((c.tc : Thread Cert.RefAdamInIdeal.nD Cert.RefAdamInIdeal.τ).loc Cert.RefAdamInIdeal.main_arg5) = m ((c.tc : Thread Cert.RefAdamInIdeal.nD Cert.RefAdamInIdeal.τ).loc Cert.RefAdamInIdeal.main_arg5)
      ∧ r.2.mem ((c.tc : Thread Cert.RefAdamInIdeal.nD Cert.RefAdamInIdeal.τ).loc Cert.RefAdamInIdeal.main_arg6) = m ((c.tc : Thread Cert.RefAdamInIdeal.nD Cert.RefAdamInIdeal.τ).loc Cert.RefAdamInIdeal.main_arg6)
      ∧ r.2.mem ((c.tc : Thread Cert.RefAdamInIdeal.nD Cert.RefAdamInIdeal.τ).loc Cert.RefAdamInIdeal.main_arg7) = m ((c.tc : Thread Cert.RefAdamInIdeal.nD Cert.RefAdamInIdeal.τ).loc Cert.RefAdamInIdeal.main_arg7)
      ∧ r.2.mem ((c.tc : Thread Cert.RefAdamInIdeal.nD Cert.RefAdamInIdeal.τ).loc Cert.RefAdamInIdeal.main_arg8) = m ((c.tc : Thread Cert.RefAdamInIdeal.nD Cert.RefAdamInIdeal.τ).loc Cert.RefAdamInIdeal.main_arg8))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4)
      ∧ r.2.mem ((c.tc : Thread Cert.AdamOut.nD Cert.AdamOut.τ).loc Cert.AdamOut.main_arg5) = m ((c.tc : Thread Cert.AdamOut.nD Cert.AdamOut.τ).loc Cert.AdamOut.main_arg5)
      ∧ r.2.mem ((c.tc : Thread Cert.AdamOut.nD Cert.AdamOut.τ).loc Cert.AdamOut.main_arg6) = m ((c.tc : Thread Cert.AdamOut.nD Cert.AdamOut.τ).loc Cert.AdamOut.main_arg6)
      ∧ r.2.mem ((c.tc : Thread Cert.AdamOut.nD Cert.AdamOut.τ).loc Cert.AdamOut.main_arg7) = m ((c.tc : Thread Cert.AdamOut.nD Cert.AdamOut.τ).loc Cert.AdamOut.main_arg7)
      ∧ r.2.mem ((c.tc : Thread Cert.AdamOut.nD Cert.AdamOut.τ).loc Cert.AdamOut.main_arg8) = m ((c.tc : Thread Cert.AdamOut.nD Cert.AdamOut.τ).loc Cert.AdamOut.main_arg8))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
      ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5)
      ∧ r.2.mem ((c.tc : Thread Cert.AdamOutIdeal.nD Cert.AdamOutIdeal.τ).loc Cert.AdamOutIdeal.main_arg6) = m ((c.tc : Thread Cert.AdamOutIdeal.nD Cert.AdamOutIdeal.τ).loc Cert.AdamOutIdeal.main_arg6)
      ∧ r.2.mem ((c.tc : Thread Cert.AdamOutIdeal.nD Cert.AdamOutIdeal.τ).loc Cert.AdamOutIdeal.main_arg7) = m ((c.tc : Thread Cert.AdamOutIdeal.nD Cert.AdamOutIdeal.τ).loc Cert.AdamOutIdeal.main_arg7)
      ∧ r.2.mem ((c.tc : Thread Cert.AdamOutIdeal.nD Cert.AdamOutIdeal.τ).loc Cert.AdamOutIdeal.main_arg8) = m ((c.tc : Thread Cert.AdamOutIdeal.nD Cert.AdamOutIdeal.τ).loc Cert.AdamOutIdeal.main_arg8))
      ∧ r.2.sem = fun _ => 0)

def quiescent_RefAdamOutIdeal [hRefAdamOutIdeal : Cert.RefAdamOutIdeal.Facts] : Prop :=
  ∀ (m : (ℓ : Loc Cert.RefAdamOutIdeal.nD Cert.RefAdamOutIdeal.τ Cert.RefAdamOutIdeal.sig) → Buf (Elt Ideal) ℓ) (g : Dev Cert.RefAdamOutIdeal.nD → PrngReg), Pre_RefAdamOutIdeal m →
    θ_run (Cert.RefAdamOutIdeal.defs (F := Ideal)) (onTc (τ := Cert.RefAdamOutIdeal.τ) (Cert.RefAdamOutIdeal.main (F := Ideal))) ⟨m, fun _ => 0, g⟩ (fun r => (∀ c : Dev Cert.RefAdamOutIdeal.nD,
      r.2.mem ((c.tc : Thread Cert.RefAdamOutIdeal.nD Cert.RefAdamOutIdeal.τ).loc Cert.RefAdamOutIdeal.main_arg0) = m ((c.tc : Thread Cert.RefAdamOutIdeal.nD Cert.RefAdamOutIdeal.τ).loc Cert.RefAdamOutIdeal.main_arg0)
      ∧ r.2.mem ((c.tc : Thread Cert.RefAdamOutIdeal.nD Cert.RefAdamOutIdeal.τ).loc Cert.RefAdamOutIdeal.main_arg1) = m ((c.tc : Thread Cert.RefAdamOutIdeal.nD Cert.RefAdamOutIdeal.τ).loc Cert.RefAdamOutIdeal.main_arg1)
      ∧ r.2.mem ((c.tc : Thread Cert.RefAdamOutIdeal.nD Cert.RefAdamOutIdeal.τ).loc Cert.RefAdamOutIdeal.main_arg2) = m ((c.tc : Thread Cert.RefAdamOutIdeal.nD Cert.RefAdamOutIdeal.τ).loc Cert.RefAdamOutIdeal.main_arg2)
      ∧ r.2.mem ((c.tc : Thread Cert.RefAdamOutIdeal.nD Cert.RefAdamOutIdeal.τ).loc Cert.RefAdamOutIdeal.main_arg3) = m ((c.tc : Thread Cert.RefAdamOutIdeal.nD Cert.RefAdamOutIdeal.τ).loc Cert.RefAdamOutIdeal.main_arg3)
      ∧ r.2.mem ((c.tc : Thread Cert.RefAdamOutIdeal.nD Cert.RefAdamOutIdeal.τ).loc Cert.RefAdamOutIdeal.main_arg4) = m ((c.tc : Thread Cert.RefAdamOutIdeal.nD Cert.RefAdamOutIdeal.τ).loc Cert.RefAdamOutIdeal.main_arg4)
      ∧ r.2.mem ((c.tc : Thread Cert.RefAdamOutIdeal.nD Cert.RefAdamOutIdeal.τ).loc Cert.RefAdamOutIdeal.main_arg5) = m ((c.tc : Thread Cert.RefAdamOutIdeal.nD Cert.RefAdamOutIdeal.τ).loc Cert.RefAdamOutIdeal.main_arg5)
      ∧ r.2.mem ((c.tc : Thread Cert.RefAdamOutIdeal.nD Cert.RefAdamOutIdeal.τ).loc Cert.RefAdamOutIdeal.main_arg6) = m ((c.tc : Thread Cert.RefAdamOutIdeal.nD Cert.RefAdamOutIdeal.τ).loc Cert.RefAdamOutIdeal.main_arg6)
      ∧ r.2.mem ((c.tc : Thread Cert.RefAdamOutIdeal.nD Cert.RefAdamOutIdeal.τ).loc Cert.RefAdamOutIdeal.main_arg7) = m ((c.tc : Thread Cert.RefAdamOutIdeal.nD Cert.RefAdamOutIdeal.τ).loc Cert.RefAdamOutIdeal.main_arg7)
      ∧ r.2.mem ((c.tc : Thread Cert.RefAdamOutIdeal.nD Cert.RefAdamOutIdeal.τ).loc Cert.RefAdamOutIdeal.main_arg8) = m ((c.tc : Thread Cert.RefAdamOutIdeal.nD Cert.RefAdamOutIdeal.τ).loc Cert.RefAdamOutIdeal.main_arg8))
      ∧ r.2.sem = fun _ => 0)

def quiescent_AdamGrp [hAdamGrp : Cert.AdamGrp.Facts] : Prop :=
  ∀ (m : (ℓ : Loc Cert.AdamGrp.nD Cert.AdamGrp.τ Cert.AdamGrp.sig) → Buf (Elt Bits) ℓ) (g : Dev Cert.AdamGrp.nD → PrngReg), Pre_AdamGrp m →
    θ_run (Cert.AdamGrp.defs (F := Bits)) (onTc (τ := Cert.AdamGrp.τ) (Cert.AdamGrp.main (F := Bits))) ⟨m, fun _ => 0, g⟩ (fun r => (∀ c : Dev Cert.AdamGrp.nD,
      r.2.mem ((c.tc : Thread Cert.AdamGrp.nD Cert.AdamGrp.τ).loc Cert.AdamGrp.main_arg0) = m ((c.tc : Thread Cert.AdamGrp.nD Cert.AdamGrp.τ).loc Cert.AdamGrp.main_arg0)
      ∧ r.2.mem ((c.tc : Thread Cert.AdamGrp.nD Cert.AdamGrp.τ).loc Cert.AdamGrp.main_arg1) = m ((c.tc : Thread Cert.AdamGrp.nD Cert.AdamGrp.τ).loc Cert.AdamGrp.main_arg1)
      ∧ r.2.mem ((c.tc : Thread Cert.AdamGrp.nD Cert.AdamGrp.τ).loc Cert.AdamGrp.main_arg2) = m ((c.tc : Thread Cert.AdamGrp.nD Cert.AdamGrp.τ).loc Cert.AdamGrp.main_arg2)
      ∧ r.2.mem ((c.tc : Thread Cert.AdamGrp.nD Cert.AdamGrp.τ).loc Cert.AdamGrp.main_arg3) = m ((c.tc : Thread Cert.AdamGrp.nD Cert.AdamGrp.τ).loc Cert.AdamGrp.main_arg3)
      ∧ r.2.mem ((c.tc : Thread Cert.AdamGrp.nD Cert.AdamGrp.τ).loc Cert.AdamGrp.main_arg4) = m ((c.tc : Thread Cert.AdamGrp.nD Cert.AdamGrp.τ).loc Cert.AdamGrp.main_arg4)
      ∧ r.2.mem ((c.tc : Thread Cert.AdamGrp.nD Cert.AdamGrp.τ).loc Cert.AdamGrp.main_arg5) = m ((c.tc : Thread Cert.AdamGrp.nD Cert.AdamGrp.τ).loc Cert.AdamGrp.main_arg5)
      ∧ r.2.mem ((c.tc : Thread Cert.AdamGrp.nD Cert.AdamGrp.τ).loc Cert.AdamGrp.main_arg6) = m ((c.tc : Thread Cert.AdamGrp.nD Cert.AdamGrp.τ).loc Cert.AdamGrp.main_arg6)
      ∧ r.2.mem ((c.tc : Thread Cert.AdamGrp.nD Cert.AdamGrp.τ).loc Cert.AdamGrp.main_arg7) = m ((c.tc : Thread Cert.AdamGrp.nD Cert.AdamGrp.τ).loc Cert.AdamGrp.main_arg7)
      ∧ r.2.mem ((c.tc : Thread Cert.AdamGrp.nD Cert.AdamGrp.τ).loc Cert.AdamGrp.main_arg8) = m ((c.tc : Thread Cert.AdamGrp.nD Cert.AdamGrp.τ).loc Cert.AdamGrp.main_arg8))
      ∧ r.2.sem = fun _ => 0)

def quiescent_AdamGrpIdeal [hAdamGrpIdeal : Cert.AdamGrpIdeal.Facts] : Prop :=
  ∀ (m : (ℓ : Loc Cert.AdamGrpIdeal.nD Cert.AdamGrpIdeal.τ Cert.AdamGrpIdeal.sig) → Buf (Elt Ideal) ℓ) (g : Dev Cert.AdamGrpIdeal.nD → PrngReg), Pre_AdamGrpIdeal m →
    θ_run (Cert.AdamGrpIdeal.defs (F := Ideal)) (onTc (τ := Cert.AdamGrpIdeal.τ) (Cert.AdamGrpIdeal.main (F := Ideal))) ⟨m, fun _ => 0, g⟩ (fun r => (∀ c : Dev Cert.AdamGrpIdeal.nD,
      r.2.mem ((c.tc : Thread Cert.AdamGrpIdeal.nD Cert.AdamGrpIdeal.τ).loc Cert.AdamGrpIdeal.main_arg0) = m ((c.tc : Thread Cert.AdamGrpIdeal.nD Cert.AdamGrpIdeal.τ).loc Cert.AdamGrpIdeal.main_arg0)
      ∧ r.2.mem ((c.tc : Thread Cert.AdamGrpIdeal.nD Cert.AdamGrpIdeal.τ).loc Cert.AdamGrpIdeal.main_arg1) = m ((c.tc : Thread Cert.AdamGrpIdeal.nD Cert.AdamGrpIdeal.τ).loc Cert.AdamGrpIdeal.main_arg1)
      ∧ r.2.mem ((c.tc : Thread Cert.AdamGrpIdeal.nD Cert.AdamGrpIdeal.τ).loc Cert.AdamGrpIdeal.main_arg2) = m ((c.tc : Thread Cert.AdamGrpIdeal.nD Cert.AdamGrpIdeal.τ).loc Cert.AdamGrpIdeal.main_arg2)
      ∧ r.2.mem ((c.tc : Thread Cert.AdamGrpIdeal.nD Cert.AdamGrpIdeal.τ).loc Cert.AdamGrpIdeal.main_arg3) = m ((c.tc : Thread Cert.AdamGrpIdeal.nD Cert.AdamGrpIdeal.τ).loc Cert.AdamGrpIdeal.main_arg3)
      ∧ r.2.mem ((c.tc : Thread Cert.AdamGrpIdeal.nD Cert.AdamGrpIdeal.τ).loc Cert.AdamGrpIdeal.main_arg4) = m ((c.tc : Thread Cert.AdamGrpIdeal.nD Cert.AdamGrpIdeal.τ).loc Cert.AdamGrpIdeal.main_arg4)
      ∧ r.2.mem ((c.tc : Thread Cert.AdamGrpIdeal.nD Cert.AdamGrpIdeal.τ).loc Cert.AdamGrpIdeal.main_arg5) = m ((c.tc : Thread Cert.AdamGrpIdeal.nD Cert.AdamGrpIdeal.τ).loc Cert.AdamGrpIdeal.main_arg5)
      ∧ r.2.mem ((c.tc : Thread Cert.AdamGrpIdeal.nD Cert.AdamGrpIdeal.τ).loc Cert.AdamGrpIdeal.main_arg6) = m ((c.tc : Thread Cert.AdamGrpIdeal.nD Cert.AdamGrpIdeal.τ).loc Cert.AdamGrpIdeal.main_arg6)
      ∧ r.2.mem ((c.tc : Thread Cert.AdamGrpIdeal.nD Cert.AdamGrpIdeal.τ).loc Cert.AdamGrpIdeal.main_arg7) = m ((c.tc : Thread Cert.AdamGrpIdeal.nD Cert.AdamGrpIdeal.τ).loc Cert.AdamGrpIdeal.main_arg7)
      ∧ r.2.mem ((c.tc : Thread Cert.AdamGrpIdeal.nD Cert.AdamGrpIdeal.τ).loc Cert.AdamGrpIdeal.main_arg8) = m ((c.tc : Thread Cert.AdamGrpIdeal.nD Cert.AdamGrpIdeal.τ).loc Cert.AdamGrpIdeal.main_arg8))
      ∧ r.2.sem = fun _ => 0)

def quiescent_RefAdamGrpIdeal [hRefAdamGrpIdeal : Cert.RefAdamGrpIdeal.Facts] : Prop :=
  ∀ (m : (ℓ : Loc Cert.RefAdamGrpIdeal.nD Cert.RefAdamGrpIdeal.τ Cert.RefAdamGrpIdeal.sig) → Buf (Elt Ideal) ℓ) (g : Dev Cert.RefAdamGrpIdeal.nD → PrngReg), Pre_RefAdamGrpIdeal m →
    θ_run (Cert.RefAdamGrpIdeal.defs (F := Ideal)) (onTc (τ := Cert.RefAdamGrpIdeal.τ) (Cert.RefAdamGrpIdeal.main (F := Ideal))) ⟨m, fun _ => 0, g⟩ (fun r => (∀ c : Dev Cert.RefAdamGrpIdeal.nD,
      r.2.mem ((c.tc : Thread Cert.RefAdamGrpIdeal.nD Cert.RefAdamGrpIdeal.τ).loc Cert.RefAdamGrpIdeal.main_arg0) = m ((c.tc : Thread Cert.RefAdamGrpIdeal.nD Cert.RefAdamGrpIdeal.τ).loc Cert.RefAdamGrpIdeal.main_arg0)
      ∧ r.2.mem ((c.tc : Thread Cert.RefAdamGrpIdeal.nD Cert.RefAdamGrpIdeal.τ).loc Cert.RefAdamGrpIdeal.main_arg1) = m ((c.tc : Thread Cert.RefAdamGrpIdeal.nD Cert.RefAdamGrpIdeal.τ).loc Cert.RefAdamGrpIdeal.main_arg1)
      ∧ r.2.mem ((c.tc : Thread Cert.RefAdamGrpIdeal.nD Cert.RefAdamGrpIdeal.τ).loc Cert.RefAdamGrpIdeal.main_arg2) = m ((c.tc : Thread Cert.RefAdamGrpIdeal.nD Cert.RefAdamGrpIdeal.τ).loc Cert.RefAdamGrpIdeal.main_arg2)
      ∧ r.2.mem ((c.tc : Thread Cert.RefAdamGrpIdeal.nD Cert.RefAdamGrpIdeal.τ).loc Cert.RefAdamGrpIdeal.main_arg3) = m ((c.tc : Thread Cert.RefAdamGrpIdeal.nD Cert.RefAdamGrpIdeal.τ).loc Cert.RefAdamGrpIdeal.main_arg3)
      ∧ r.2.mem ((c.tc : Thread Cert.RefAdamGrpIdeal.nD Cert.RefAdamGrpIdeal.τ).loc Cert.RefAdamGrpIdeal.main_arg4) = m ((c.tc : Thread Cert.RefAdamGrpIdeal.nD Cert.RefAdamGrpIdeal.τ).loc Cert.RefAdamGrpIdeal.main_arg4)
      ∧ r.2.mem ((c.tc : Thread Cert.RefAdamGrpIdeal.nD Cert.RefAdamGrpIdeal.τ).loc Cert.RefAdamGrpIdeal.main_arg5) = m ((c.tc : Thread Cert.RefAdamGrpIdeal.nD Cert.RefAdamGrpIdeal.τ).loc Cert.RefAdamGrpIdeal.main_arg5)
      ∧ r.2.mem ((c.tc : Thread Cert.RefAdamGrpIdeal.nD Cert.RefAdamGrpIdeal.τ).loc Cert.RefAdamGrpIdeal.main_arg6) = m ((c.tc : Thread Cert.RefAdamGrpIdeal.nD Cert.RefAdamGrpIdeal.τ).loc Cert.RefAdamGrpIdeal.main_arg6)
      ∧ r.2.mem ((c.tc : Thread Cert.RefAdamGrpIdeal.nD Cert.RefAdamGrpIdeal.τ).loc Cert.RefAdamGrpIdeal.main_arg7) = m ((c.tc : Thread Cert.RefAdamGrpIdeal.nD Cert.RefAdamGrpIdeal.τ).loc Cert.RefAdamGrpIdeal.main_arg7)
      ∧ r.2.mem ((c.tc : Thread Cert.RefAdamGrpIdeal.nD Cert.RefAdamGrpIdeal.τ).loc Cert.RefAdamGrpIdeal.main_arg8) = m ((c.tc : Thread Cert.RefAdamGrpIdeal.nD Cert.RefAdamGrpIdeal.τ).loc Cert.RefAdamGrpIdeal.main_arg8))
      ∧ r.2.sem = fun _ => 0)

def quiescent_Mods [hMods : Cert.Mods.Facts] : Prop :=
  ∀ (m : (ℓ : Loc Cert.Mods.nD Cert.Mods.τ Cert.Mods.sig) → Buf (Elt Bits) ℓ) (g : Dev Cert.Mods.nD → PrngReg), Pre_Mods m →
    θ_run (Cert.Mods.defs (F := Bits)) (onTc (τ := Cert.Mods.τ) (Cert.Mods.main (F := Bits))) ⟨m, fun _ => 0, g⟩ (fun r => (∀ c : Dev Cert.Mods.nD,
      r.2.mem ((c.tc : Thread Cert.Mods.nD Cert.Mods.τ).loc Cert.Mods.main_arg0) = m ((c.tc : Thread Cert.Mods.nD Cert.Mods.τ).loc Cert.Mods.main_arg0)
      ∧ r.2.mem ((c.tc : Thread Cert.Mods.nD Cert.Mods.τ).loc Cert.Mods.main_arg1) = m ((c.tc : Thread Cert.Mods.nD Cert.Mods.τ).loc Cert.Mods.main_arg1)
      ∧ r.2.mem ((c.tc : Thread Cert.Mods.nD Cert.Mods.τ).loc Cert.Mods.main_arg2) = m ((c.tc : Thread Cert.Mods.nD Cert.Mods.τ).loc Cert.Mods.main_arg2))
      ∧ r.2.sem = fun _ => 0)

def quiescent_ModsIdeal [hModsIdeal : Cert.ModsIdeal.Facts] : Prop :=
  ∀ (m : (ℓ : Loc Cert.ModsIdeal.nD Cert.ModsIdeal.τ Cert.ModsIdeal.sig) → Buf (Elt Ideal) ℓ) (g : Dev Cert.ModsIdeal.nD → PrngReg), Pre_ModsIdeal m →
    θ_run (Cert.ModsIdeal.defs (F := Ideal)) (onTc (τ := Cert.ModsIdeal.τ) (Cert.ModsIdeal.main (F := Ideal))) ⟨m, fun _ => 0, g⟩ (fun r => (∀ c : Dev Cert.ModsIdeal.nD,
      r.2.mem ((c.tc : Thread Cert.ModsIdeal.nD Cert.ModsIdeal.τ).loc Cert.ModsIdeal.main_arg0) = m ((c.tc : Thread Cert.ModsIdeal.nD Cert.ModsIdeal.τ).loc Cert.ModsIdeal.main_arg0)
      ∧ r.2.mem ((c.tc : Thread Cert.ModsIdeal.nD Cert.ModsIdeal.τ).loc Cert.ModsIdeal.main_arg1) = m ((c.tc : Thread Cert.ModsIdeal.nD Cert.ModsIdeal.τ).loc Cert.ModsIdeal.main_arg1)
      ∧ r.2.mem ((c.tc : Thread Cert.ModsIdeal.nD Cert.ModsIdeal.τ).loc Cert.ModsIdeal.main_arg2) = m ((c.tc : Thread Cert.ModsIdeal.nD Cert.ModsIdeal.τ).loc Cert.ModsIdeal.main_arg2))
      ∧ r.2.sem = fun _ => 0)

def quiescent_RefModsIdeal [hRefModsIdeal : Cert.RefModsIdeal.Facts] : Prop :=
  ∀ (m : (ℓ : Loc Cert.RefModsIdeal.nD Cert.RefModsIdeal.τ Cert.RefModsIdeal.sig) → Buf (Elt Ideal) ℓ) (g : Dev Cert.RefModsIdeal.nD → PrngReg), Pre_RefModsIdeal m →
    θ_run (Cert.RefModsIdeal.defs (F := Ideal)) (onTc (τ := Cert.RefModsIdeal.τ) (Cert.RefModsIdeal.main (F := Ideal))) ⟨m, fun _ => 0, g⟩ (fun r => (∀ c : Dev Cert.RefModsIdeal.nD,
      r.2.mem ((c.tc : Thread Cert.RefModsIdeal.nD Cert.RefModsIdeal.τ).loc Cert.RefModsIdeal.main_arg0) = m ((c.tc : Thread Cert.RefModsIdeal.nD Cert.RefModsIdeal.τ).loc Cert.RefModsIdeal.main_arg0)
      ∧ r.2.mem ((c.tc : Thread Cert.RefModsIdeal.nD Cert.RefModsIdeal.τ).loc Cert.RefModsIdeal.main_arg1) = m ((c.tc : Thread Cert.RefModsIdeal.nD Cert.RefModsIdeal.τ).loc Cert.RefModsIdeal.main_arg1)
      ∧ r.2.mem ((c.tc : Thread Cert.RefModsIdeal.nD Cert.RefModsIdeal.τ).loc Cert.RefModsIdeal.main_arg2) = m ((c.tc : Thread Cert.RefModsIdeal.nD Cert.RefModsIdeal.τ).loc Cert.RefModsIdeal.main_arg2))
      ∧ r.2.sem = fun _ => 0)

def quiescent_NormMix [hNormMix : Cert.NormMix.Facts] : Prop :=
  ∀ (m : (ℓ : Loc Cert.NormMix.nD Cert.NormMix.τ Cert.NormMix.sig) → Buf (Elt Bits) ℓ) (g : Dev Cert.NormMix.nD → PrngReg), Pre_NormMix m →
    θ_run (Cert.NormMix.defs (F := Bits)) (onTc (τ := Cert.NormMix.τ) (Cert.NormMix.main (F := Bits))) ⟨m, fun _ => 0, g⟩ (fun r => (∀ c : Dev Cert.NormMix.nD,
      r.2.mem ((c.tc : Thread Cert.NormMix.nD Cert.NormMix.τ).loc Cert.NormMix.main_arg0) = m ((c.tc : Thread Cert.NormMix.nD Cert.NormMix.τ).loc Cert.NormMix.main_arg0)
      ∧ r.2.mem ((c.tc : Thread Cert.NormMix.nD Cert.NormMix.τ).loc Cert.NormMix.main_arg1) = m ((c.tc : Thread Cert.NormMix.nD Cert.NormMix.τ).loc Cert.NormMix.main_arg1)
      ∧ r.2.mem ((c.tc : Thread Cert.NormMix.nD Cert.NormMix.τ).loc Cert.NormMix.main_arg2) = m ((c.tc : Thread Cert.NormMix.nD Cert.NormMix.τ).loc Cert.NormMix.main_arg2))
      ∧ r.2.sem = fun _ => 0)

def quiescent_NormMixIdeal [hNormMixIdeal : Cert.NormMixIdeal.Facts] : Prop :=
  ∀ (m : (ℓ : Loc Cert.NormMixIdeal.nD Cert.NormMixIdeal.τ Cert.NormMixIdeal.sig) → Buf (Elt Ideal) ℓ) (g : Dev Cert.NormMixIdeal.nD → PrngReg), Pre_NormMixIdeal m →
    θ_run (Cert.NormMixIdeal.defs (F := Ideal)) (onTc (τ := Cert.NormMixIdeal.τ) (Cert.NormMixIdeal.main (F := Ideal))) ⟨m, fun _ => 0, g⟩ (fun r => (∀ c : Dev Cert.NormMixIdeal.nD,
      r.2.mem ((c.tc : Thread Cert.NormMixIdeal.nD Cert.NormMixIdeal.τ).loc Cert.NormMixIdeal.main_arg0) = m ((c.tc : Thread Cert.NormMixIdeal.nD Cert.NormMixIdeal.τ).loc Cert.NormMixIdeal.main_arg0)
      ∧ r.2.mem ((c.tc : Thread Cert.NormMixIdeal.nD Cert.NormMixIdeal.τ).loc Cert.NormMixIdeal.main_arg1) = m ((c.tc : Thread Cert.NormMixIdeal.nD Cert.NormMixIdeal.τ).loc Cert.NormMixIdeal.main_arg1)
      ∧ r.2.mem ((c.tc : Thread Cert.NormMixIdeal.nD Cert.NormMixIdeal.τ).loc Cert.NormMixIdeal.main_arg2) = m ((c.tc : Thread Cert.NormMixIdeal.nD Cert.NormMixIdeal.τ).loc Cert.NormMixIdeal.main_arg2))
      ∧ r.2.sem = fun _ => 0)

def quiescent_RefNormMixIdeal [hRefNormMixIdeal : Cert.RefNormMixIdeal.Facts] : Prop :=
  ∀ (m : (ℓ : Loc Cert.RefNormMixIdeal.nD Cert.RefNormMixIdeal.τ Cert.RefNormMixIdeal.sig) → Buf (Elt Ideal) ℓ) (g : Dev Cert.RefNormMixIdeal.nD → PrngReg), Pre_RefNormMixIdeal m →
    θ_run (Cert.RefNormMixIdeal.defs (F := Ideal)) (onTc (τ := Cert.RefNormMixIdeal.τ) (Cert.RefNormMixIdeal.main (F := Ideal))) ⟨m, fun _ => 0, g⟩ (fun r => (∀ c : Dev Cert.RefNormMixIdeal.nD,
      r.2.mem ((c.tc : Thread Cert.RefNormMixIdeal.nD Cert.RefNormMixIdeal.τ).loc Cert.RefNormMixIdeal.main_arg0) = m ((c.tc : Thread Cert.RefNormMixIdeal.nD Cert.RefNormMixIdeal.τ).loc Cert.RefNormMixIdeal.main_arg0)
      ∧ r.2.mem ((c.tc : Thread Cert.RefNormMixIdeal.nD Cert.RefNormMixIdeal.τ).loc Cert.RefNormMixIdeal.main_arg1) = m ((c.tc : Thread Cert.RefNormMixIdeal.nD Cert.RefNormMixIdeal.τ).loc Cert.RefNormMixIdeal.main_arg1)
      ∧ r.2.mem ((c.tc : Thread Cert.RefNormMixIdeal.nD Cert.RefNormMixIdeal.τ).loc Cert.RefNormMixIdeal.main_arg2) = m ((c.tc : Thread Cert.RefNormMixIdeal.nD Cert.RefNormMixIdeal.τ).loc Cert.RefNormMixIdeal.main_arg2))
      ∧ r.2.sem = fun _ => 0)

def quiescent_NormFfn [hNormFfn : Cert.NormFfn.Facts] : Prop :=
  ∀ (m : (ℓ : Loc Cert.NormFfn.nD Cert.NormFfn.τ Cert.NormFfn.sig) → Buf (Elt Bits) ℓ) (g : Dev Cert.NormFfn.nD → PrngReg), Pre_NormFfn m →
    θ_run (Cert.NormFfn.defs (F := Bits)) (onTc (τ := Cert.NormFfn.τ) (Cert.NormFfn.main (F := Bits))) ⟨m, fun _ => 0, g⟩ (fun r => (∀ c : Dev Cert.NormFfn.nD,
      r.2.mem ((c.tc : Thread Cert.NormFfn.nD Cert.NormFfn.τ).loc Cert.NormFfn.main_arg0) = m ((c.tc : Thread Cert.NormFfn.nD Cert.NormFfn.τ).loc Cert.NormFfn.main_arg0)
      ∧ r.2.mem ((c.tc : Thread Cert.NormFfn.nD Cert.NormFfn.τ).loc Cert.NormFfn.main_arg1) = m ((c.tc : Thread Cert.NormFfn.nD Cert.NormFfn.τ).loc Cert.NormFfn.main_arg1)
      ∧ r.2.mem ((c.tc : Thread Cert.NormFfn.nD Cert.NormFfn.τ).loc Cert.NormFfn.main_arg2) = m ((c.tc : Thread Cert.NormFfn.nD Cert.NormFfn.τ).loc Cert.NormFfn.main_arg2))
      ∧ r.2.sem = fun _ => 0)

def quiescent_NormFfnIdeal [hNormFfnIdeal : Cert.NormFfnIdeal.Facts] : Prop :=
  ∀ (m : (ℓ : Loc Cert.NormFfnIdeal.nD Cert.NormFfnIdeal.τ Cert.NormFfnIdeal.sig) → Buf (Elt Ideal) ℓ) (g : Dev Cert.NormFfnIdeal.nD → PrngReg), Pre_NormFfnIdeal m →
    θ_run (Cert.NormFfnIdeal.defs (F := Ideal)) (onTc (τ := Cert.NormFfnIdeal.τ) (Cert.NormFfnIdeal.main (F := Ideal))) ⟨m, fun _ => 0, g⟩ (fun r => (∀ c : Dev Cert.NormFfnIdeal.nD,
      r.2.mem ((c.tc : Thread Cert.NormFfnIdeal.nD Cert.NormFfnIdeal.τ).loc Cert.NormFfnIdeal.main_arg0) = m ((c.tc : Thread Cert.NormFfnIdeal.nD Cert.NormFfnIdeal.τ).loc Cert.NormFfnIdeal.main_arg0)
      ∧ r.2.mem ((c.tc : Thread Cert.NormFfnIdeal.nD Cert.NormFfnIdeal.τ).loc Cert.NormFfnIdeal.main_arg1) = m ((c.tc : Thread Cert.NormFfnIdeal.nD Cert.NormFfnIdeal.τ).loc Cert.NormFfnIdeal.main_arg1)
      ∧ r.2.mem ((c.tc : Thread Cert.NormFfnIdeal.nD Cert.NormFfnIdeal.τ).loc Cert.NormFfnIdeal.main_arg2) = m ((c.tc : Thread Cert.NormFfnIdeal.nD Cert.NormFfnIdeal.τ).loc Cert.NormFfnIdeal.main_arg2))
      ∧ r.2.sem = fun _ => 0)

def quiescent_RefNormFfnIdeal [hRefNormFfnIdeal : Cert.RefNormFfnIdeal.Facts] : Prop :=
  ∀ (m : (ℓ : Loc Cert.RefNormFfnIdeal.nD Cert.RefNormFfnIdeal.τ Cert.RefNormFfnIdeal.sig) → Buf (Elt Ideal) ℓ) (g : Dev Cert.RefNormFfnIdeal.nD → PrngReg), Pre_RefNormFfnIdeal m →
    θ_run (Cert.RefNormFfnIdeal.defs (F := Ideal)) (onTc (τ := Cert.RefNormFfnIdeal.τ) (Cert.RefNormFfnIdeal.main (F := Ideal))) ⟨m, fun _ => 0, g⟩ (fun r => (∀ c : Dev Cert.RefNormFfnIdeal.nD,
      r.2.mem ((c.tc : Thread Cert.RefNormFfnIdeal.nD Cert.RefNormFfnIdeal.τ).loc Cert.RefNormFfnIdeal.main_arg0) = m ((c.tc : Thread Cert.RefNormFfnIdeal.nD Cert.RefNormFfnIdeal.τ).loc Cert.RefNormFfnIdeal.main_arg0)
      ∧ r.2.mem ((c.tc : Thread Cert.RefNormFfnIdeal.nD Cert.RefNormFfnIdeal.τ).loc Cert.RefNormFfnIdeal.main_arg1) = m ((c.tc : Thread Cert.RefNormFfnIdeal.nD Cert.RefNormFfnIdeal.τ).loc Cert.RefNormFfnIdeal.main_arg1)
      ∧ r.2.mem ((c.tc : Thread Cert.RefNormFfnIdeal.nD Cert.RefNormFfnIdeal.τ).loc Cert.RefNormFfnIdeal.main_arg2) = m ((c.tc : Thread Cert.RefNormFfnIdeal.nD Cert.RefNormFfnIdeal.τ).loc Cert.RefNormFfnIdeal.main_arg2))
      ∧ r.2.sem = fun _ => 0)

def quiescent_Readout [hReadout : Cert.Readout.Facts] : Prop :=
  ∀ (m : (ℓ : Loc Cert.Readout.nD Cert.Readout.τ Cert.Readout.sig) → Buf (Elt Bits) ℓ) (g : Dev Cert.Readout.nD → PrngReg), Pre_Readout m →
    θ_run (Cert.Readout.defs (F := Bits)) (onTc (τ := Cert.Readout.τ) (Cert.Readout.main (F := Bits))) ⟨m, fun _ => 0, g⟩ (fun r => (∀ c : Dev Cert.Readout.nD,
      r.2.mem ((c.tc : Thread Cert.Readout.nD Cert.Readout.τ).loc Cert.Readout.main_arg0) = m ((c.tc : Thread Cert.Readout.nD Cert.Readout.τ).loc Cert.Readout.main_arg0)
      ∧ r.2.mem ((c.tc : Thread Cert.Readout.nD Cert.Readout.τ).loc Cert.Readout.main_arg1) = m ((c.tc : Thread Cert.Readout.nD Cert.Readout.τ).loc Cert.Readout.main_arg1)
      ∧ r.2.mem ((c.tc : Thread Cert.Readout.nD Cert.Readout.τ).loc Cert.Readout.main_arg2) = m ((c.tc : Thread Cert.Readout.nD Cert.Readout.τ).loc Cert.Readout.main_arg2)
      ∧ r.2.mem ((c.tc : Thread Cert.Readout.nD Cert.Readout.τ).loc Cert.Readout.main_arg3) = m ((c.tc : Thread Cert.Readout.nD Cert.Readout.τ).loc Cert.Readout.main_arg3))
      ∧ r.2.sem = fun _ => 0)

def quiescent_ReadoutIdeal [hReadoutIdeal : Cert.ReadoutIdeal.Facts] : Prop :=
  ∀ (m : (ℓ : Loc Cert.ReadoutIdeal.nD Cert.ReadoutIdeal.τ Cert.ReadoutIdeal.sig) → Buf (Elt Ideal) ℓ) (g : Dev Cert.ReadoutIdeal.nD → PrngReg), Pre_ReadoutIdeal m →
    θ_run (Cert.ReadoutIdeal.defs (F := Ideal)) (onTc (τ := Cert.ReadoutIdeal.τ) (Cert.ReadoutIdeal.main (F := Ideal))) ⟨m, fun _ => 0, g⟩ (fun r => (∀ c : Dev Cert.ReadoutIdeal.nD,
      r.2.mem ((c.tc : Thread Cert.ReadoutIdeal.nD Cert.ReadoutIdeal.τ).loc Cert.ReadoutIdeal.main_arg0) = m ((c.tc : Thread Cert.ReadoutIdeal.nD Cert.ReadoutIdeal.τ).loc Cert.ReadoutIdeal.main_arg0)
      ∧ r.2.mem ((c.tc : Thread Cert.ReadoutIdeal.nD Cert.ReadoutIdeal.τ).loc Cert.ReadoutIdeal.main_arg1) = m ((c.tc : Thread Cert.ReadoutIdeal.nD Cert.ReadoutIdeal.τ).loc Cert.ReadoutIdeal.main_arg1)
      ∧ r.2.mem ((c.tc : Thread Cert.ReadoutIdeal.nD Cert.ReadoutIdeal.τ).loc Cert.ReadoutIdeal.main_arg2) = m ((c.tc : Thread Cert.ReadoutIdeal.nD Cert.ReadoutIdeal.τ).loc Cert.ReadoutIdeal.main_arg2)
      ∧ r.2.mem ((c.tc : Thread Cert.ReadoutIdeal.nD Cert.ReadoutIdeal.τ).loc Cert.ReadoutIdeal.main_arg3) = m ((c.tc : Thread Cert.ReadoutIdeal.nD Cert.ReadoutIdeal.τ).loc Cert.ReadoutIdeal.main_arg3))
      ∧ r.2.sem = fun _ => 0)

def quiescent_RefReadoutIdeal [hRefReadoutIdeal : Cert.RefReadoutIdeal.Facts] : Prop :=
  ∀ (m : (ℓ : Loc Cert.RefReadoutIdeal.nD Cert.RefReadoutIdeal.τ Cert.RefReadoutIdeal.sig) → Buf (Elt Ideal) ℓ) (g : Dev Cert.RefReadoutIdeal.nD → PrngReg), Pre_RefReadoutIdeal m →
    θ_run (Cert.RefReadoutIdeal.defs (F := Ideal)) (onTc (τ := Cert.RefReadoutIdeal.τ) (Cert.RefReadoutIdeal.main (F := Ideal))) ⟨m, fun _ => 0, g⟩ (fun r => (∀ c : Dev Cert.RefReadoutIdeal.nD,
      r.2.mem ((c.tc : Thread Cert.RefReadoutIdeal.nD Cert.RefReadoutIdeal.τ).loc Cert.RefReadoutIdeal.main_arg0) = m ((c.tc : Thread Cert.RefReadoutIdeal.nD Cert.RefReadoutIdeal.τ).loc Cert.RefReadoutIdeal.main_arg0)
      ∧ r.2.mem ((c.tc : Thread Cert.RefReadoutIdeal.nD Cert.RefReadoutIdeal.τ).loc Cert.RefReadoutIdeal.main_arg1) = m ((c.tc : Thread Cert.RefReadoutIdeal.nD Cert.RefReadoutIdeal.τ).loc Cert.RefReadoutIdeal.main_arg1)
      ∧ r.2.mem ((c.tc : Thread Cert.RefReadoutIdeal.nD Cert.RefReadoutIdeal.τ).loc Cert.RefReadoutIdeal.main_arg2) = m ((c.tc : Thread Cert.RefReadoutIdeal.nD Cert.RefReadoutIdeal.τ).loc Cert.RefReadoutIdeal.main_arg2)
      ∧ r.2.mem ((c.tc : Thread Cert.RefReadoutIdeal.nD Cert.RefReadoutIdeal.τ).loc Cert.RefReadoutIdeal.main_arg3) = m ((c.tc : Thread Cert.RefReadoutIdeal.nD Cert.RefReadoutIdeal.τ).loc Cert.RefReadoutIdeal.main_arg3))
      ∧ r.2.sem = fun _ => 0)

def quiescent_ChunkMlp [hChunkMlp : Cert.ChunkMlp.Facts] : Prop :=
  ∀ (m : (ℓ : Loc Cert.ChunkMlp.nD Cert.ChunkMlp.τ Cert.ChunkMlp.sig) → Buf (Elt Bits) ℓ) (g : Dev Cert.ChunkMlp.nD → PrngReg), Pre_ChunkMlp m →
    θ_run (Cert.ChunkMlp.defs (F := Bits)) (onTc (τ := Cert.ChunkMlp.τ) (Cert.ChunkMlp.main (F := Bits))) ⟨m, fun _ => 0, g⟩ (fun r => (∀ c : Dev Cert.ChunkMlp.nD,
      r.2.mem ((c.tc : Thread Cert.ChunkMlp.nD Cert.ChunkMlp.τ).loc Cert.ChunkMlp.main_arg0) = m ((c.tc : Thread Cert.ChunkMlp.nD Cert.ChunkMlp.τ).loc Cert.ChunkMlp.main_arg0)
      ∧ r.2.mem ((c.tc : Thread Cert.ChunkMlp.nD Cert.ChunkMlp.τ).loc Cert.ChunkMlp.main_arg1) = m ((c.tc : Thread Cert.ChunkMlp.nD Cert.ChunkMlp.τ).loc Cert.ChunkMlp.main_arg1)
      ∧ r.2.mem ((c.tc : Thread Cert.ChunkMlp.nD Cert.ChunkMlp.τ).loc Cert.ChunkMlp.main_arg2) = m ((c.tc : Thread Cert.ChunkMlp.nD Cert.ChunkMlp.τ).loc Cert.ChunkMlp.main_arg2)
      ∧ r.2.mem ((c.tc : Thread Cert.ChunkMlp.nD Cert.ChunkMlp.τ).loc Cert.ChunkMlp.main_arg3) = m ((c.tc : Thread Cert.ChunkMlp.nD Cert.ChunkMlp.τ).loc Cert.ChunkMlp.main_arg3))
      ∧ r.2.sem = fun _ => 0)

def quiescent_ChunkMlpIdeal [hChunkMlpIdeal : Cert.ChunkMlpIdeal.Facts] : Prop :=
  ∀ (m : (ℓ : Loc Cert.ChunkMlpIdeal.nD Cert.ChunkMlpIdeal.τ Cert.ChunkMlpIdeal.sig) → Buf (Elt Ideal) ℓ) (g : Dev Cert.ChunkMlpIdeal.nD → PrngReg), Pre_ChunkMlpIdeal m →
    θ_run (Cert.ChunkMlpIdeal.defs (F := Ideal)) (onTc (τ := Cert.ChunkMlpIdeal.τ) (Cert.ChunkMlpIdeal.main (F := Ideal))) ⟨m, fun _ => 0, g⟩ (fun r => (∀ c : Dev Cert.ChunkMlpIdeal.nD,
      r.2.mem ((c.tc : Thread Cert.ChunkMlpIdeal.nD Cert.ChunkMlpIdeal.τ).loc Cert.ChunkMlpIdeal.main_arg0) = m ((c.tc : Thread Cert.ChunkMlpIdeal.nD Cert.ChunkMlpIdeal.τ).loc Cert.ChunkMlpIdeal.main_arg0)
      ∧ r.2.mem ((c.tc : Thread Cert.ChunkMlpIdeal.nD Cert.ChunkMlpIdeal.τ).loc Cert.ChunkMlpIdeal.main_arg1) = m ((c.tc : Thread Cert.ChunkMlpIdeal.nD Cert.ChunkMlpIdeal.τ).loc Cert.ChunkMlpIdeal.main_arg1)
      ∧ r.2.mem ((c.tc : Thread Cert.ChunkMlpIdeal.nD Cert.ChunkMlpIdeal.τ).loc Cert.ChunkMlpIdeal.main_arg2) = m ((c.tc : Thread Cert.ChunkMlpIdeal.nD Cert.ChunkMlpIdeal.τ).loc Cert.ChunkMlpIdeal.main_arg2)
      ∧ r.2.mem ((c.tc : Thread Cert.ChunkMlpIdeal.nD Cert.ChunkMlpIdeal.τ).loc Cert.ChunkMlpIdeal.main_arg3) = m ((c.tc : Thread Cert.ChunkMlpIdeal.nD Cert.ChunkMlpIdeal.τ).loc Cert.ChunkMlpIdeal.main_arg3))
      ∧ r.2.sem = fun _ => 0)

def quiescent_RefChunkMlpIdeal [hRefChunkMlpIdeal : Cert.RefChunkMlpIdeal.Facts] : Prop :=
  ∀ (m : (ℓ : Loc Cert.RefChunkMlpIdeal.nD Cert.RefChunkMlpIdeal.τ Cert.RefChunkMlpIdeal.sig) → Buf (Elt Ideal) ℓ) (g : Dev Cert.RefChunkMlpIdeal.nD → PrngReg), Pre_RefChunkMlpIdeal m →
    θ_run (Cert.RefChunkMlpIdeal.defs (F := Ideal)) (onTc (τ := Cert.RefChunkMlpIdeal.τ) (Cert.RefChunkMlpIdeal.main (F := Ideal))) ⟨m, fun _ => 0, g⟩ (fun r => (∀ c : Dev Cert.RefChunkMlpIdeal.nD,
      r.2.mem ((c.tc : Thread Cert.RefChunkMlpIdeal.nD Cert.RefChunkMlpIdeal.τ).loc Cert.RefChunkMlpIdeal.main_arg0) = m ((c.tc : Thread Cert.RefChunkMlpIdeal.nD Cert.RefChunkMlpIdeal.τ).loc Cert.RefChunkMlpIdeal.main_arg0)
      ∧ r.2.mem ((c.tc : Thread Cert.RefChunkMlpIdeal.nD Cert.RefChunkMlpIdeal.τ).loc Cert.RefChunkMlpIdeal.main_arg1) = m ((c.tc : Thread Cert.RefChunkMlpIdeal.nD Cert.RefChunkMlpIdeal.τ).loc Cert.RefChunkMlpIdeal.main_arg1)
      ∧ r.2.mem ((c.tc : Thread Cert.RefChunkMlpIdeal.nD Cert.RefChunkMlpIdeal.τ).loc Cert.RefChunkMlpIdeal.main_arg2) = m ((c.tc : Thread Cert.RefChunkMlpIdeal.nD Cert.RefChunkMlpIdeal.τ).loc Cert.RefChunkMlpIdeal.main_arg2)
      ∧ r.2.mem ((c.tc : Thread Cert.RefChunkMlpIdeal.nD Cert.RefChunkMlpIdeal.τ).loc Cert.RefChunkMlpIdeal.main_arg3) = m ((c.tc : Thread Cert.RefChunkMlpIdeal.nD Cert.RefChunkMlpIdeal.τ).loc Cert.RefChunkMlpIdeal.main_arg3))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_RefSumSmallIdeal [hRefSumSmallIdeal : Cert.RefSumSmallIdeal.Facts] : Prop :=
  ∀ (m : (ℓ : Loc Cert.RefSumSmallIdeal.nD Cert.RefSumSmallIdeal.τ Cert.RefSumSmallIdeal.sig) → Buf (Elt Ideal) ℓ) (g : Dev Cert.RefSumSmallIdeal.nD → PrngReg), Pre_RefSumSmallIdeal m →
    θ_run (Cert.RefSumSmallIdeal.defs (F := Ideal)) (onTc (τ := Cert.RefSumSmallIdeal.τ) (Cert.RefSumSmallIdeal.main (F := Ideal))) ⟨m, fun _ => 0, g⟩ (fun r => (∀ c : Dev Cert.RefSumSmallIdeal.nD,
      r.2.mem ((c.tc : Thread Cert.RefSumSmallIdeal.nD Cert.RefSumSmallIdeal.τ).loc Cert.RefSumSmallIdeal.main_arg0) = m ((c.tc : Thread Cert.RefSumSmallIdeal.nD Cert.RefSumSmallIdeal.τ).loc Cert.RefSumSmallIdeal.main_arg0))
      ∧ r.2.sem = fun _ => 0)

def preserves_FfnDa_FfnDaIdeal : Prop :=
  True

def algebraic_FfnDaIdeal_RefDaIdeal [hFfnDaIdeal : Cert.FfnDaIdeal.Facts] [hRefDaIdeal : Cert.RefDaIdeal.Facts] : Prop :=
  ∀ (m : (ℓ : Loc Cert.FfnDaIdeal.nD Cert.FfnDaIdeal.τ Cert.FfnDaIdeal.sig) → Buf (Elt Ideal) ℓ) (g : Dev Cert.FfnDaIdeal.nD → PrngReg)
    (m' : (ℓ : Loc Cert.RefDaIdeal.nD Cert.RefDaIdeal.τ Cert.RefDaIdeal.sig) → Buf (Elt Ideal) ℓ) (g' : Dev Cert.RefDaIdeal.nD → PrngReg), Pre_FfnDaIdeal m →
    (∀ c : Dev Cert.FfnDaIdeal.nD,
      m' ((c.tc : Thread Cert.RefDaIdeal.nD Cert.RefDaIdeal.τ).loc Cert.RefDaIdeal.main_arg0) = m ((c.tc : Thread Cert.FfnDaIdeal.nD Cert.FfnDaIdeal.τ).loc Cert.FfnDaIdeal.main_arg0)
      ∧ m' ((c.tc : Thread Cert.RefDaIdeal.nD Cert.RefDaIdeal.τ).loc Cert.RefDaIdeal.main_arg1) = m ((c.tc : Thread Cert.FfnDaIdeal.nD Cert.FfnDaIdeal.τ).loc Cert.FfnDaIdeal.main_arg1)
      ∧ m' ((c.tc : Thread Cert.RefDaIdeal.nD Cert.RefDaIdeal.τ).loc Cert.RefDaIdeal.main_arg2) = m ((c.tc : Thread Cert.FfnDaIdeal.nD Cert.FfnDaIdeal.τ).loc Cert.FfnDaIdeal.main_arg2)) →
    ∃ (v0 : (c : Dev Cert.FfnDaIdeal.nD) → Buf (Elt Ideal) ((c.tc : Thread Cert.FfnDaIdeal.nD Cert.FfnDaIdeal.τ).loc Cert.FfnDaIdeal.main_v5)),
      θ_run (Cert.FfnDaIdeal.defs (F := Ideal)) (onTc (τ := Cert.FfnDaIdeal.τ) (Cert.FfnDaIdeal.main (F := Ideal))) ⟨m, fun _ => 0, g⟩ (fun r => ∀ c : Dev Cert.FfnDaIdeal.nD,
          r.2.mem ((c.tc : Thread Cert.FfnDaIdeal.nD Cert.FfnDaIdeal.τ).loc Cert.FfnDaIdeal.main_v5) = v0 c
          ∧ r.2.mem ((c.tc : Thread Cert.FfnDaIdeal.nD Cert.FfnDaIdeal.τ).loc Cert.FfnDaIdeal.main_arg0) = m ((c.tc : Thread Cert.FfnDaIdeal.nD Cert.FfnDaIdeal.τ).loc Cert.FfnDaIdeal.main_arg0)
          ∧ r.2.mem ((c.tc : Thread Cert.FfnDaIdeal.nD Cert.FfnDaIdeal.τ).loc Cert.FfnDaIdeal.main_arg1) = m ((c.tc : Thread Cert.FfnDaIdeal.nD Cert.FfnDaIdeal.τ).loc Cert.FfnDaIdeal.main_arg1)
          ∧ r.2.mem ((c.tc : Thread Cert.FfnDaIdeal.nD Cert.FfnDaIdeal.τ).loc Cert.FfnDaIdeal.main_arg2) = m ((c.tc : Thread Cert.FfnDaIdeal.nD Cert.FfnDaIdeal.τ).loc Cert.FfnDaIdeal.main_arg2))
      ∧ θ_run (Cert.RefDaIdeal.defs (F := Ideal)) (onTc (τ := Cert.RefDaIdeal.τ) (Cert.RefDaIdeal.main (F := Ideal))) ⟨m', fun _ => 0, g'⟩ (fun r => ∀ c : Dev Cert.RefDaIdeal.nD,
          r.2.mem ((c.tc : Thread Cert.RefDaIdeal.nD Cert.RefDaIdeal.τ).loc Cert.RefDaIdeal.main_v13) = v0 c
          ∧ r.2.mem ((c.tc : Thread Cert.RefDaIdeal.nD Cert.RefDaIdeal.τ).loc Cert.RefDaIdeal.main_arg0) = m' ((c.tc : Thread Cert.RefDaIdeal.nD Cert.RefDaIdeal.τ).loc Cert.RefDaIdeal.main_arg0)
          ∧ r.2.mem ((c.tc : Thread Cert.RefDaIdeal.nD Cert.RefDaIdeal.τ).loc Cert.RefDaIdeal.main_arg1) = m' ((c.tc : Thread Cert.RefDaIdeal.nD Cert.RefDaIdeal.τ).loc Cert.RefDaIdeal.main_arg1)
          ∧ r.2.mem ((c.tc : Thread Cert.RefDaIdeal.nD Cert.RefDaIdeal.τ).loc Cert.RefDaIdeal.main_arg2) = m' ((c.tc : Thread Cert.RefDaIdeal.nD Cert.RefDaIdeal.τ).loc Cert.RefDaIdeal.main_arg2))

def preserves_FfnGdown_FfnGdownIdeal : Prop :=
  True

def algebraic_FfnGdownIdeal_RefGdownIdeal [hFfnGdownIdeal : Cert.FfnGdownIdeal.Facts] [hRefGdownIdeal : Cert.RefGdownIdeal.Facts] : Prop :=
  ∀ (m : (ℓ : Loc Cert.FfnGdownIdeal.nD Cert.FfnGdownIdeal.τ Cert.FfnGdownIdeal.sig) → Buf (Elt Ideal) ℓ) (g : Dev Cert.FfnGdownIdeal.nD → PrngReg)
    (m' : (ℓ : Loc Cert.RefGdownIdeal.nD Cert.RefGdownIdeal.τ Cert.RefGdownIdeal.sig) → Buf (Elt Ideal) ℓ) (g' : Dev Cert.RefGdownIdeal.nD → PrngReg), Pre_FfnGdownIdeal m →
    (∀ c : Dev Cert.FfnGdownIdeal.nD,
      m' ((c.tc : Thread Cert.RefGdownIdeal.nD Cert.RefGdownIdeal.τ).loc Cert.RefGdownIdeal.main_arg0) = m ((c.tc : Thread Cert.FfnGdownIdeal.nD Cert.FfnGdownIdeal.τ).loc Cert.FfnGdownIdeal.main_arg0)
      ∧ m' ((c.tc : Thread Cert.RefGdownIdeal.nD Cert.RefGdownIdeal.τ).loc Cert.RefGdownIdeal.main_arg1) = m ((c.tc : Thread Cert.FfnGdownIdeal.nD Cert.FfnGdownIdeal.τ).loc Cert.FfnGdownIdeal.main_arg1)) →
    ∃ (v0 : (c : Dev Cert.FfnGdownIdeal.nD) → Buf (Elt Ideal) ((c.tc : Thread Cert.FfnGdownIdeal.nD Cert.FfnGdownIdeal.τ).loc Cert.FfnGdownIdeal.main_v3)),
      θ_run (Cert.FfnGdownIdeal.defs (F := Ideal)) (onTc (τ := Cert.FfnGdownIdeal.τ) (Cert.FfnGdownIdeal.main (F := Ideal))) ⟨m, fun _ => 0, g⟩ (fun r => ∀ c : Dev Cert.FfnGdownIdeal.nD,
          r.2.mem ((c.tc : Thread Cert.FfnGdownIdeal.nD Cert.FfnGdownIdeal.τ).loc Cert.FfnGdownIdeal.main_v3) = v0 c
          ∧ r.2.mem ((c.tc : Thread Cert.FfnGdownIdeal.nD Cert.FfnGdownIdeal.τ).loc Cert.FfnGdownIdeal.main_arg0) = m ((c.tc : Thread Cert.FfnGdownIdeal.nD Cert.FfnGdownIdeal.τ).loc Cert.FfnGdownIdeal.main_arg0)
          ∧ r.2.mem ((c.tc : Thread Cert.FfnGdownIdeal.nD Cert.FfnGdownIdeal.τ).loc Cert.FfnGdownIdeal.main_arg1) = m ((c.tc : Thread Cert.FfnGdownIdeal.nD Cert.FfnGdownIdeal.τ).loc Cert.FfnGdownIdeal.main_arg1))
      ∧ θ_run (Cert.RefGdownIdeal.defs (F := Ideal)) (onTc (τ := Cert.RefGdownIdeal.τ) (Cert.RefGdownIdeal.main (F := Ideal))) ⟨m', fun _ => 0, g'⟩ (fun r => ∀ c : Dev Cert.RefGdownIdeal.nD,
          r.2.mem ((c.tc : Thread Cert.RefGdownIdeal.nD Cert.RefGdownIdeal.τ).loc Cert.RefGdownIdeal.main_v8) = v0 c
          ∧ r.2.mem ((c.tc : Thread Cert.RefGdownIdeal.nD Cert.RefGdownIdeal.τ).loc Cert.RefGdownIdeal.main_arg0) = m' ((c.tc : Thread Cert.RefGdownIdeal.nD Cert.RefGdownIdeal.τ).loc Cert.RefGdownIdeal.main_arg0)
          ∧ r.2.mem ((c.tc : Thread Cert.RefGdownIdeal.nD Cert.RefGdownIdeal.τ).loc Cert.RefGdownIdeal.main_arg1) = m' ((c.tc : Thread Cert.RefGdownIdeal.nD Cert.RefGdownIdeal.τ).loc Cert.RefGdownIdeal.main_arg1))

def preserves_FfnDh_FfnDhIdeal : Prop :=
  True

def algebraic_FfnDhIdeal_RefDhIdeal [hFfnDhIdeal : Cert.FfnDhIdeal.Facts] [hRefDhIdeal : Cert.RefDhIdeal.Facts] : Prop :=
  ∀ (m : (ℓ : Loc Cert.FfnDhIdeal.nD Cert.FfnDhIdeal.τ Cert.FfnDhIdeal.sig) → Buf (Elt Ideal) ℓ) (g : Dev Cert.FfnDhIdeal.nD → PrngReg)
    (m' : (ℓ : Loc Cert.RefDhIdeal.nD Cert.RefDhIdeal.τ Cert.RefDhIdeal.sig) → Buf (Elt Ideal) ℓ) (g' : Dev Cert.RefDhIdeal.nD → PrngReg), Pre_FfnDhIdeal m →
    (∀ c : Dev Cert.FfnDhIdeal.nD,
      m' ((c.tc : Thread Cert.RefDhIdeal.nD Cert.RefDhIdeal.τ).loc Cert.RefDhIdeal.main_arg0) = m ((c.tc : Thread Cert.FfnDhIdeal.nD Cert.FfnDhIdeal.τ).loc Cert.FfnDhIdeal.main_arg0)
      ∧ m' ((c.tc : Thread Cert.RefDhIdeal.nD Cert.RefDhIdeal.τ).loc Cert.RefDhIdeal.main_arg1) = m ((c.tc : Thread Cert.FfnDhIdeal.nD Cert.FfnDhIdeal.τ).loc Cert.FfnDhIdeal.main_arg1)) →
    ∃ (v0 : (c : Dev Cert.FfnDhIdeal.nD) → Buf (Elt Ideal) ((c.tc : Thread Cert.FfnDhIdeal.nD Cert.FfnDhIdeal.τ).loc Cert.FfnDhIdeal.main_v4)),
      θ_run (Cert.FfnDhIdeal.defs (F := Ideal)) (onTc (τ := Cert.FfnDhIdeal.τ) (Cert.FfnDhIdeal.main (F := Ideal))) ⟨m, fun _ => 0, g⟩ (fun r => ∀ c : Dev Cert.FfnDhIdeal.nD,
          r.2.mem ((c.tc : Thread Cert.FfnDhIdeal.nD Cert.FfnDhIdeal.τ).loc Cert.FfnDhIdeal.main_v4) = v0 c
          ∧ r.2.mem ((c.tc : Thread Cert.FfnDhIdeal.nD Cert.FfnDhIdeal.τ).loc Cert.FfnDhIdeal.main_arg0) = m ((c.tc : Thread Cert.FfnDhIdeal.nD Cert.FfnDhIdeal.τ).loc Cert.FfnDhIdeal.main_arg0)
          ∧ r.2.mem ((c.tc : Thread Cert.FfnDhIdeal.nD Cert.FfnDhIdeal.τ).loc Cert.FfnDhIdeal.main_arg1) = m ((c.tc : Thread Cert.FfnDhIdeal.nD Cert.FfnDhIdeal.τ).loc Cert.FfnDhIdeal.main_arg1))
      ∧ θ_run (Cert.RefDhIdeal.defs (F := Ideal)) (onTc (τ := Cert.RefDhIdeal.τ) (Cert.RefDhIdeal.main (F := Ideal))) ⟨m', fun _ => 0, g'⟩ (fun r => ∀ c : Dev Cert.RefDhIdeal.nD,
          r.2.mem ((c.tc : Thread Cert.RefDhIdeal.nD Cert.RefDhIdeal.τ).loc Cert.RefDhIdeal.main_v3) = v0 c
          ∧ r.2.mem ((c.tc : Thread Cert.RefDhIdeal.nD Cert.RefDhIdeal.τ).loc Cert.RefDhIdeal.main_arg0) = m' ((c.tc : Thread Cert.RefDhIdeal.nD Cert.RefDhIdeal.τ).loc Cert.RefDhIdeal.main_arg0)
          ∧ r.2.mem ((c.tc : Thread Cert.RefDhIdeal.nD Cert.RefDhIdeal.τ).loc Cert.RefDhIdeal.main_arg1) = m' ((c.tc : Thread Cert.RefDhIdeal.nD Cert.RefDhIdeal.τ).loc Cert.RefDhIdeal.main_arg1))

def preserves_FfnGup_FfnGupIdeal : Prop :=
  True

def algebraic_FfnGupIdeal_RefGupIdeal [hFfnGupIdeal : Cert.FfnGupIdeal.Facts] [hRefGupIdeal : Cert.RefGupIdeal.Facts] : Prop :=
  ∀ (m : (ℓ : Loc Cert.FfnGupIdeal.nD Cert.FfnGupIdeal.τ Cert.FfnGupIdeal.sig) → Buf (Elt Ideal) ℓ) (g : Dev Cert.FfnGupIdeal.nD → PrngReg)
    (m' : (ℓ : Loc Cert.RefGupIdeal.nD Cert.RefGupIdeal.τ Cert.RefGupIdeal.sig) → Buf (Elt Ideal) ℓ) (g' : Dev Cert.RefGupIdeal.nD → PrngReg), Pre_FfnGupIdeal m →
    (∀ c : Dev Cert.FfnGupIdeal.nD,
      m' ((c.tc : Thread Cert.RefGupIdeal.nD Cert.RefGupIdeal.τ).loc Cert.RefGupIdeal.main_arg0) = m ((c.tc : Thread Cert.FfnGupIdeal.nD Cert.FfnGupIdeal.τ).loc Cert.FfnGupIdeal.main_arg0)
      ∧ m' ((c.tc : Thread Cert.RefGupIdeal.nD Cert.RefGupIdeal.τ).loc Cert.RefGupIdeal.main_arg1) = m ((c.tc : Thread Cert.FfnGupIdeal.nD Cert.FfnGupIdeal.τ).loc Cert.FfnGupIdeal.main_arg1)) →
    ∃ (v0 : (c : Dev Cert.FfnGupIdeal.nD) → Buf (Elt Ideal) ((c.tc : Thread Cert.FfnGupIdeal.nD Cert.FfnGupIdeal.τ).loc Cert.FfnGupIdeal.main_v0)),
      θ_run (Cert.FfnGupIdeal.defs (F := Ideal)) (onTc (τ := Cert.FfnGupIdeal.τ) (Cert.FfnGupIdeal.main (F := Ideal))) ⟨m, fun _ => 0, g⟩ (fun r => ∀ c : Dev Cert.FfnGupIdeal.nD,
          r.2.mem ((c.tc : Thread Cert.FfnGupIdeal.nD Cert.FfnGupIdeal.τ).loc Cert.FfnGupIdeal.main_v0) = v0 c
          ∧ r.2.mem ((c.tc : Thread Cert.FfnGupIdeal.nD Cert.FfnGupIdeal.τ).loc Cert.FfnGupIdeal.main_arg0) = m ((c.tc : Thread Cert.FfnGupIdeal.nD Cert.FfnGupIdeal.τ).loc Cert.FfnGupIdeal.main_arg0)
          ∧ r.2.mem ((c.tc : Thread Cert.FfnGupIdeal.nD Cert.FfnGupIdeal.τ).loc Cert.FfnGupIdeal.main_arg1) = m ((c.tc : Thread Cert.FfnGupIdeal.nD Cert.FfnGupIdeal.τ).loc Cert.FfnGupIdeal.main_arg1))
      ∧ θ_run (Cert.RefGupIdeal.defs (F := Ideal)) (onTc (τ := Cert.RefGupIdeal.τ) (Cert.RefGupIdeal.main (F := Ideal))) ⟨m', fun _ => 0, g'⟩ (fun r => ∀ c : Dev Cert.RefGupIdeal.nD,
          r.2.mem ((c.tc : Thread Cert.RefGupIdeal.nD Cert.RefGupIdeal.τ).loc Cert.RefGupIdeal.main_v9) = v0 c
          ∧ r.2.mem ((c.tc : Thread Cert.RefGupIdeal.nD Cert.RefGupIdeal.τ).loc Cert.RefGupIdeal.main_arg0) = m' ((c.tc : Thread Cert.RefGupIdeal.nD Cert.RefGupIdeal.τ).loc Cert.RefGupIdeal.main_arg0)
          ∧ r.2.mem ((c.tc : Thread Cert.RefGupIdeal.nD Cert.RefGupIdeal.τ).loc Cert.RefGupIdeal.main_arg1) = m' ((c.tc : Thread Cert.RefGupIdeal.nD Cert.RefGupIdeal.τ).loc Cert.RefGupIdeal.main_arg1))

def preserves_FfnUp_FfnUpIdeal : Prop :=
  True

def algebraic_FfnUpIdeal_RefFfnUpIdeal [hFfnUpIdeal : Cert.FfnUpIdeal.Facts] [hRefFfnUpIdeal : Cert.RefFfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.RefFfnUpIdeal.nD Cert.RefFfnUpIdeal.τ Cert.RefFfnUpIdeal.sig) → Buf (Elt Ideal) ℓ) (g' : Dev Cert.RefFfnUpIdeal.nD → PrngReg), Pre_FfnUpIdeal m →
    (∀ c : Dev Cert.FfnUpIdeal.nD,
      m' ((c.tc : Thread Cert.RefFfnUpIdeal.nD Cert.RefFfnUpIdeal.τ).loc Cert.RefFfnUpIdeal.main_arg0) = m ((c.tc : Thread Cert.FfnUpIdeal.nD Cert.FfnUpIdeal.τ).loc Cert.FfnUpIdeal.main_arg0)
      ∧ m' ((c.tc : Thread Cert.RefFfnUpIdeal.nD Cert.RefFfnUpIdeal.τ).loc Cert.RefFfnUpIdeal.main_arg1) = m ((c.tc : Thread Cert.FfnUpIdeal.nD Cert.FfnUpIdeal.τ).loc Cert.FfnUpIdeal.main_arg1)) →
    ∃ (v0 : (c : Dev Cert.FfnUpIdeal.nD) → Buf (Elt Ideal) ((c.tc : Thread Cert.FfnUpIdeal.nD Cert.FfnUpIdeal.τ).loc Cert.FfnUpIdeal.main_v4)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v4) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ θ_run (Cert.RefFfnUpIdeal.defs (F := Ideal)) (onTc (τ := Cert.RefFfnUpIdeal.τ) (Cert.RefFfnUpIdeal.main (F := Ideal))) ⟨m', fun _ => 0, g'⟩ (fun r => ∀ c : Dev Cert.RefFfnUpIdeal.nD,
          r.2.mem ((c.tc : Thread Cert.RefFfnUpIdeal.nD Cert.RefFfnUpIdeal.τ).loc Cert.RefFfnUpIdeal.main_v4) = v0 c
          ∧ r.2.mem ((c.tc : Thread Cert.RefFfnUpIdeal.nD Cert.RefFfnUpIdeal.τ).loc Cert.RefFfnUpIdeal.main_arg0) = m' ((c.tc : Thread Cert.RefFfnUpIdeal.nD Cert.RefFfnUpIdeal.τ).loc Cert.RefFfnUpIdeal.main_arg0)
          ∧ r.2.mem ((c.tc : Thread Cert.RefFfnUpIdeal.nD Cert.RefFfnUpIdeal.τ).loc Cert.RefFfnUpIdeal.main_arg1) = m' ((c.tc : Thread Cert.RefFfnUpIdeal.nD Cert.RefFfnUpIdeal.τ).loc Cert.RefFfnUpIdeal.main_arg1))

def preserves_FfnDown_FfnDownIdeal : Prop :=
  True

def algebraic_FfnDownIdeal_RefFfnDownIdeal [hFfnDownIdeal : Cert.FfnDownIdeal.Facts] [hRefFfnDownIdeal : Cert.RefFfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.RefFfnDownIdeal.nD Cert.RefFfnDownIdeal.τ Cert.RefFfnDownIdeal.sig) → Buf (Elt Ideal) ℓ) (g' : Dev Cert.RefFfnDownIdeal.nD → PrngReg), Pre_FfnDownIdeal m →
    (∀ c : Dev Cert.FfnDownIdeal.nD,
      m' ((c.tc : Thread Cert.RefFfnDownIdeal.nD Cert.RefFfnDownIdeal.τ).loc Cert.RefFfnDownIdeal.main_arg0) = m ((c.tc : Thread Cert.FfnDownIdeal.nD Cert.FfnDownIdeal.τ).loc Cert.FfnDownIdeal.main_arg0)
      ∧ m' ((c.tc : Thread Cert.RefFfnDownIdeal.nD Cert.RefFfnDownIdeal.τ).loc Cert.RefFfnDownIdeal.main_arg1) = m ((c.tc : Thread Cert.FfnDownIdeal.nD Cert.FfnDownIdeal.τ).loc Cert.FfnDownIdeal.main_arg1)
      ∧ m' ((c.tc : Thread Cert.RefFfnDownIdeal.nD Cert.RefFfnDownIdeal.τ).loc Cert.RefFfnDownIdeal.main_arg2) = m ((c.tc : Thread Cert.FfnDownIdeal.nD Cert.FfnDownIdeal.τ).loc Cert.FfnDownIdeal.main_arg2)
      ∧ m' ((c.tc : Thread Cert.RefFfnDownIdeal.nD Cert.RefFfnDownIdeal.τ).loc Cert.RefFfnDownIdeal.main_arg3) = m ((c.tc : Thread Cert.FfnDownIdeal.nD Cert.FfnDownIdeal.τ).loc Cert.FfnDownIdeal.main_arg3)) →
    ∃ (v0 : (c : Dev Cert.FfnDownIdeal.nD) → Buf (Elt Ideal) ((c.tc : Thread Cert.FfnDownIdeal.nD Cert.FfnDownIdeal.τ).loc Cert.FfnDownIdeal.main_v2_0)) (v1 : (c : Dev Cert.FfnDownIdeal.nD) → Buf (Elt Ideal) ((c.tc : Thread Cert.FfnDownIdeal.nD Cert.FfnDownIdeal.τ).loc Cert.FfnDownIdeal.main_v2_1)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v2_0) = v0 c
          ∧ r.2.mem ((c.tc : Thread Cert.FfnDownIdeal.nD Cert.FfnDownIdeal.τ).loc Cert.FfnDownIdeal.main_v2_1) = v1 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
          ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ θ_run (Cert.RefFfnDownIdeal.defs (F := Ideal)) (onTc (τ := Cert.RefFfnDownIdeal.τ) (Cert.RefFfnDownIdeal.main (F := Ideal))) ⟨m', fun _ => 0, g'⟩ (fun r => ∀ c : Dev Cert.RefFfnDownIdeal.nD,
          r.2.mem ((c.tc : Thread Cert.RefFfnDownIdeal.nD Cert.RefFfnDownIdeal.τ).loc Cert.RefFfnDownIdeal.main_v18) = v0 c
          ∧ r.2.mem ((c.tc : Thread Cert.RefFfnDownIdeal.nD Cert.RefFfnDownIdeal.τ).loc Cert.RefFfnDownIdeal.main_v19) = v1 c
          ∧ r.2.mem ((c.tc : Thread Cert.RefFfnDownIdeal.nD Cert.RefFfnDownIdeal.τ).loc Cert.RefFfnDownIdeal.main_arg0) = m' ((c.tc : Thread Cert.RefFfnDownIdeal.nD Cert.RefFfnDownIdeal.τ).loc Cert.RefFfnDownIdeal.main_arg0)
          ∧ r.2.mem ((c.tc : Thread Cert.RefFfnDownIdeal.nD Cert.RefFfnDownIdeal.τ).loc Cert.RefFfnDownIdeal.main_arg1) = m' ((c.tc : Thread Cert.RefFfnDownIdeal.nD Cert.RefFfnDownIdeal.τ).loc Cert.RefFfnDownIdeal.main_arg1)
          ∧ r.2.mem ((c.tc : Thread Cert.RefFfnDownIdeal.nD Cert.RefFfnDownIdeal.τ).loc Cert.RefFfnDownIdeal.main_arg2) = m' ((c.tc : Thread Cert.RefFfnDownIdeal.nD Cert.RefFfnDownIdeal.τ).loc Cert.RefFfnDownIdeal.main_arg2)
          ∧ r.2.mem ((c.tc : Thread Cert.RefFfnDownIdeal.nD Cert.RefFfnDownIdeal.τ).loc Cert.RefFfnDownIdeal.main_arg3) = m' ((c.tc : Thread Cert.RefFfnDownIdeal.nD Cert.RefFfnDownIdeal.τ).loc Cert.RefFfnDownIdeal.main_arg3))

def preserves_InProj_InProjIdeal : Prop :=
  True

def algebraic_InProjIdeal_RefInProjIdeal [hInProjIdeal : Cert.InProjIdeal.Facts] [hRefInProjIdeal : Cert.RefInProjIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.RefInProjIdeal.nD Cert.RefInProjIdeal.τ Cert.RefInProjIdeal.sig) → Buf (Elt Ideal) ℓ) (g' : Dev Cert.RefInProjIdeal.nD → PrngReg), Pre_InProjIdeal m →
    (∀ c : Dev Cert.InProjIdeal.nD,
      m' ((c.tc : Thread Cert.RefInProjIdeal.nD Cert.RefInProjIdeal.τ).loc Cert.RefInProjIdeal.main_arg0) = m ((c.tc : Thread Cert.InProjIdeal.nD Cert.InProjIdeal.τ).loc Cert.InProjIdeal.main_arg0)
      ∧ m' ((c.tc : Thread Cert.RefInProjIdeal.nD Cert.RefInProjIdeal.τ).loc Cert.RefInProjIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v4)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v4) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.RefInProjIdeal.defs (F := Ideal)) (onTc (τ := Cert.RefInProjIdeal.τ) (Cert.RefInProjIdeal.main (F := Ideal))) ⟨m', fun _ => 0, g'⟩ (fun r => ∀ c : Dev Cert.RefInProjIdeal.nD,
          r.2.mem ((c.tc : Thread Cert.RefInProjIdeal.nD Cert.RefInProjIdeal.τ).loc Cert.RefInProjIdeal.main_v1) = v0 c
          ∧ r.2.mem ((c.tc : Thread Cert.RefInProjIdeal.nD Cert.RefInProjIdeal.τ).loc Cert.RefInProjIdeal.main_arg0) = m' ((c.tc : Thread Cert.RefInProjIdeal.nD Cert.RefInProjIdeal.τ).loc Cert.RefInProjIdeal.main_arg0)
          ∧ r.2.mem ((c.tc : Thread Cert.RefInProjIdeal.nD Cert.RefInProjIdeal.τ).loc Cert.RefInProjIdeal.main_arg1) = m' ((c.tc : Thread Cert.RefInProjIdeal.nD Cert.RefInProjIdeal.τ).loc Cert.RefInProjIdeal.main_arg1))

def preserves_InDh_InDhIdeal : Prop :=
  True

def algebraic_InDhIdeal_RefInDhIdeal [hInDhIdeal : Cert.InDhIdeal.Facts] [hRefInDhIdeal : Cert.RefInDhIdeal.Facts] : Prop :=
  ∀ (m : (ℓ : Loc Cert.InDhIdeal.nD Cert.InDhIdeal.τ Cert.InDhIdeal.sig) → Buf (Elt Ideal) ℓ) (g : Dev Cert.InDhIdeal.nD → PrngReg)
    (m' : (ℓ : Loc Cert.RefInDhIdeal.nD Cert.RefInDhIdeal.τ Cert.RefInDhIdeal.sig) → Buf (Elt Ideal) ℓ) (g' : Dev Cert.RefInDhIdeal.nD → PrngReg), Pre_InDhIdeal m →
    (∀ c : Dev Cert.InDhIdeal.nD,
      m' ((c.tc : Thread Cert.RefInDhIdeal.nD Cert.RefInDhIdeal.τ).loc Cert.RefInDhIdeal.main_arg0) = m ((c.tc : Thread Cert.InDhIdeal.nD Cert.InDhIdeal.τ).loc Cert.InDhIdeal.main_arg0)
      ∧ m' ((c.tc : Thread Cert.RefInDhIdeal.nD Cert.RefInDhIdeal.τ).loc Cert.RefInDhIdeal.main_arg1) = m ((c.tc : Thread Cert.InDhIdeal.nD Cert.InDhIdeal.τ).loc Cert.InDhIdeal.main_arg1)) →
    ∃ (v0 : (c : Dev Cert.InDhIdeal.nD) → Buf (Elt Ideal) ((c.tc : Thread Cert.InDhIdeal.nD Cert.InDhIdeal.τ).loc Cert.InDhIdeal.main_v4)),
      θ_run (Cert.InDhIdeal.defs (F := Ideal)) (onTc (τ := Cert.InDhIdeal.τ) (Cert.InDhIdeal.main (F := Ideal))) ⟨m, fun _ => 0, g⟩ (fun r => ∀ c : Dev Cert.InDhIdeal.nD,
          r.2.mem ((c.tc : Thread Cert.InDhIdeal.nD Cert.InDhIdeal.τ).loc Cert.InDhIdeal.main_v4) = v0 c
          ∧ r.2.mem ((c.tc : Thread Cert.InDhIdeal.nD Cert.InDhIdeal.τ).loc Cert.InDhIdeal.main_arg0) = m ((c.tc : Thread Cert.InDhIdeal.nD Cert.InDhIdeal.τ).loc Cert.InDhIdeal.main_arg0)
          ∧ r.2.mem ((c.tc : Thread Cert.InDhIdeal.nD Cert.InDhIdeal.τ).loc Cert.InDhIdeal.main_arg1) = m ((c.tc : Thread Cert.InDhIdeal.nD Cert.InDhIdeal.τ).loc Cert.InDhIdeal.main_arg1))
      ∧ θ_run (Cert.RefInDhIdeal.defs (F := Ideal)) (onTc (τ := Cert.RefInDhIdeal.τ) (Cert.RefInDhIdeal.main (F := Ideal))) ⟨m', fun _ => 0, g'⟩ (fun r => ∀ c : Dev Cert.RefInDhIdeal.nD,
          r.2.mem ((c.tc : Thread Cert.RefInDhIdeal.nD Cert.RefInDhIdeal.τ).loc Cert.RefInDhIdeal.main_v3) = v0 c
          ∧ r.2.mem ((c.tc : Thread Cert.RefInDhIdeal.nD Cert.RefInDhIdeal.τ).loc Cert.RefInDhIdeal.main_arg0) = m' ((c.tc : Thread Cert.RefInDhIdeal.nD Cert.RefInDhIdeal.τ).loc Cert.RefInDhIdeal.main_arg0)
          ∧ r.2.mem ((c.tc : Thread Cert.RefInDhIdeal.nD Cert.RefInDhIdeal.τ).loc Cert.RefInDhIdeal.main_arg1) = m' ((c.tc : Thread Cert.RefInDhIdeal.nD Cert.RefInDhIdeal.τ).loc Cert.RefInDhIdeal.main_arg1))

def preserves_InG_InGIdeal : Prop :=
  True

def algebraic_InGIdeal_RefInGIdeal [hInGIdeal : Cert.InGIdeal.Facts] [hRefInGIdeal : Cert.RefInGIdeal.Facts] : Prop :=
  ∀ (m : (ℓ : Loc Cert.InGIdeal.nD Cert.InGIdeal.τ Cert.InGIdeal.sig) → Buf (Elt Ideal) ℓ) (g : Dev Cert.InGIdeal.nD → PrngReg)
    (m' : (ℓ : Loc Cert.RefInGIdeal.nD Cert.RefInGIdeal.τ Cert.RefInGIdeal.sig) → Buf (Elt Ideal) ℓ) (g' : Dev Cert.RefInGIdeal.nD → PrngReg), Pre_InGIdeal m →
    (∀ c : Dev Cert.InGIdeal.nD,
      m' ((c.tc : Thread Cert.RefInGIdeal.nD Cert.RefInGIdeal.τ).loc Cert.RefInGIdeal.main_arg0) = m ((c.tc : Thread Cert.InGIdeal.nD Cert.InGIdeal.τ).loc Cert.InGIdeal.main_arg0)
      ∧ m' ((c.tc : Thread Cert.RefInGIdeal.nD Cert.RefInGIdeal.τ).loc Cert.RefInGIdeal.main_arg1) = m ((c.tc : Thread Cert.InGIdeal.nD Cert.InGIdeal.τ).loc Cert.InGIdeal.main_arg1)) →
    ∃ (v0 : (c : Dev Cert.InGIdeal.nD) → Buf (Elt Ideal) ((c.tc : Thread Cert.InGIdeal.nD Cert.InGIdeal.τ).loc Cert.InGIdeal.main_v0)),
      θ_run (Cert.InGIdeal.defs (F := Ideal)) (onTc (τ := Cert.InGIdeal.τ) (Cert.InGIdeal.main (F := Ideal))) ⟨m, fun _ => 0, g⟩ (fun r => ∀ c : Dev Cert.InGIdeal.nD,
          r.2.mem ((c.tc : Thread Cert.InGIdeal.nD Cert.InGIdeal.τ).loc Cert.InGIdeal.main_v0) = v0 c
          ∧ r.2.mem ((c.tc : Thread Cert.InGIdeal.nD Cert.InGIdeal.τ).loc Cert.InGIdeal.main_arg0) = m ((c.tc : Thread Cert.InGIdeal.nD Cert.InGIdeal.τ).loc Cert.InGIdeal.main_arg0)
          ∧ r.2.mem ((c.tc : Thread Cert.InGIdeal.nD Cert.InGIdeal.τ).loc Cert.InGIdeal.main_arg1) = m ((c.tc : Thread Cert.InGIdeal.nD Cert.InGIdeal.τ).loc Cert.InGIdeal.main_arg1))
      ∧ θ_run (Cert.RefInGIdeal.defs (F := Ideal)) (onTc (τ := Cert.RefInGIdeal.τ) (Cert.RefInGIdeal.main (F := Ideal))) ⟨m', fun _ => 0, g'⟩ (fun r => ∀ c : Dev Cert.RefInGIdeal.nD,
          r.2.mem ((c.tc : Thread Cert.RefInGIdeal.nD Cert.RefInGIdeal.τ).loc Cert.RefInGIdeal.main_v9) = v0 c
          ∧ r.2.mem ((c.tc : Thread Cert.RefInGIdeal.nD Cert.RefInGIdeal.τ).loc Cert.RefInGIdeal.main_arg0) = m' ((c.tc : Thread Cert.RefInGIdeal.nD Cert.RefInGIdeal.τ).loc Cert.RefInGIdeal.main_arg0)
          ∧ r.2.mem ((c.tc : Thread Cert.RefInGIdeal.nD Cert.RefInGIdeal.τ).loc Cert.RefInGIdeal.main_arg1) = m' ((c.tc : Thread Cert.RefInGIdeal.nD Cert.RefInGIdeal.τ).loc Cert.RefInGIdeal.main_arg1))

def preserves_OutProj_OutProjIdeal : Prop :=
  True

def algebraic_OutProjIdeal_RefOutProjIdeal [hOutProjIdeal : Cert.OutProjIdeal.Facts] [hRefOutProjIdeal : Cert.RefOutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.RefOutProjIdeal.nD Cert.RefOutProjIdeal.τ Cert.RefOutProjIdeal.sig) → Buf (Elt Ideal) ℓ) (g' : Dev Cert.RefOutProjIdeal.nD → PrngReg), Pre_OutProjIdeal m →
    (∀ c : Dev Cert.OutProjIdeal.nD,
      m' ((c.tc : Thread Cert.RefOutProjIdeal.nD Cert.RefOutProjIdeal.τ).loc Cert.RefOutProjIdeal.main_arg0) = m ((c.tc : Thread Cert.OutProjIdeal.nD Cert.OutProjIdeal.τ).loc Cert.OutProjIdeal.main_arg0)
      ∧ m' ((c.tc : Thread Cert.RefOutProjIdeal.nD Cert.RefOutProjIdeal.τ).loc Cert.RefOutProjIdeal.main_arg1) = m ((c.tc : Thread Cert.OutProjIdeal.nD Cert.OutProjIdeal.τ).loc Cert.OutProjIdeal.main_arg1)
      ∧ m' ((c.tc : Thread Cert.RefOutProjIdeal.nD Cert.RefOutProjIdeal.τ).loc Cert.RefOutProjIdeal.main_arg2) = m ((c.tc : Thread Cert.OutProjIdeal.nD Cert.OutProjIdeal.τ).loc Cert.OutProjIdeal.main_arg2)
      ∧ m' ((c.tc : Thread Cert.RefOutProjIdeal.nD Cert.RefOutProjIdeal.τ).loc Cert.RefOutProjIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v2_0)) (v1 : (c : Dev Cert.OutProjIdeal.nD) → Buf (Elt Ideal) ((c.tc : Thread Cert.OutProjIdeal.nD Cert.OutProjIdeal.τ).loc Cert.OutProjIdeal.main_v2_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v2_0) = v0 c
          ∧ r.2.mem ((c.tc : Thread Cert.OutProjIdeal.nD Cert.OutProjIdeal.τ).loc Cert.OutProjIdeal.main_v2_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.RefOutProjIdeal.defs (F := Ideal)) (onTc (τ := Cert.RefOutProjIdeal.τ) (Cert.RefOutProjIdeal.main (F := Ideal))) ⟨m', fun _ => 0, g'⟩ (fun r => ∀ c : Dev Cert.RefOutProjIdeal.nD,
          r.2.mem ((c.tc : Thread Cert.RefOutProjIdeal.nD Cert.RefOutProjIdeal.τ).loc Cert.RefOutProjIdeal.main_v18) = v0 c
          ∧ r.2.mem ((c.tc : Thread Cert.RefOutProjIdeal.nD Cert.RefOutProjIdeal.τ).loc Cert.RefOutProjIdeal.main_v19) = v1 c
          ∧ r.2.mem ((c.tc : Thread Cert.RefOutProjIdeal.nD Cert.RefOutProjIdeal.τ).loc Cert.RefOutProjIdeal.main_arg0) = m' ((c.tc : Thread Cert.RefOutProjIdeal.nD Cert.RefOutProjIdeal.τ).loc Cert.RefOutProjIdeal.main_arg0)
          ∧ r.2.mem ((c.tc : Thread Cert.RefOutProjIdeal.nD Cert.RefOutProjIdeal.τ).loc Cert.RefOutProjIdeal.main_arg1) = m' ((c.tc : Thread Cert.RefOutProjIdeal.nD Cert.RefOutProjIdeal.τ).loc Cert.RefOutProjIdeal.main_arg1)
          ∧ r.2.mem ((c.tc : Thread Cert.RefOutProjIdeal.nD Cert.RefOutProjIdeal.τ).loc Cert.RefOutProjIdeal.main_arg2) = m' ((c.tc : Thread Cert.RefOutProjIdeal.nD Cert.RefOutProjIdeal.τ).loc Cert.RefOutProjIdeal.main_arg2)
          ∧ r.2.mem ((c.tc : Thread Cert.RefOutProjIdeal.nD Cert.RefOutProjIdeal.τ).loc Cert.RefOutProjIdeal.main_arg3) = m' ((c.tc : Thread Cert.RefOutProjIdeal.nD Cert.RefOutProjIdeal.τ).loc Cert.RefOutProjIdeal.main_arg3))

def preserves_RowsT_RowsTIdeal : Prop :=
  True

def algebraic_RowsTIdeal_RefRowsTIdeal [hRowsTIdeal : Cert.RowsTIdeal.Facts] [hRefRowsTIdeal : Cert.RefRowsTIdeal.Facts] : Prop :=
  ∀ (m : (ℓ : Loc Cert.RowsTIdeal.nD Cert.RowsTIdeal.τ Cert.RowsTIdeal.sig) → Buf (Elt Ideal) ℓ) (g : Dev Cert.RowsTIdeal.nD → PrngReg)
    (m' : (ℓ : Loc Cert.RefRowsTIdeal.nD Cert.RefRowsTIdeal.τ Cert.RefRowsTIdeal.sig) → Buf (Elt Ideal) ℓ) (g' : Dev Cert.RefRowsTIdeal.nD → PrngReg), Pre_RowsTIdeal m →
    (∀ c : Dev Cert.RowsTIdeal.nD,
      m' ((c.tc : Thread Cert.RefRowsTIdeal.nD Cert.RefRowsTIdeal.τ).loc Cert.RefRowsTIdeal.main_arg0) = m ((c.tc : Thread Cert.RowsTIdeal.nD Cert.RowsTIdeal.τ).loc Cert.RowsTIdeal.main_arg0)
      ∧ m' ((c.tc : Thread Cert.RefRowsTIdeal.nD Cert.RefRowsTIdeal.τ).loc Cert.RefRowsTIdeal.main_arg1) = m ((c.tc : Thread Cert.RowsTIdeal.nD Cert.RowsTIdeal.τ).loc Cert.RowsTIdeal.main_arg1)) →
    ∃ (v0 : (c : Dev Cert.RowsTIdeal.nD) → Buf (Elt Ideal) ((c.tc : Thread Cert.RowsTIdeal.nD Cert.RowsTIdeal.τ).loc Cert.RowsTIdeal.main_v2)),
      θ_run (Cert.RowsTIdeal.defs (F := Ideal)) (onTc (τ := Cert.RowsTIdeal.τ) (Cert.RowsTIdeal.main (F := Ideal))) ⟨m, fun _ => 0, g⟩ (fun r => ∀ c : Dev Cert.RowsTIdeal.nD,
          r.2.mem ((c.tc : Thread Cert.RowsTIdeal.nD Cert.RowsTIdeal.τ).loc Cert.RowsTIdeal.main_v2) = v0 c
          ∧ r.2.mem ((c.tc : Thread Cert.RowsTIdeal.nD Cert.RowsTIdeal.τ).loc Cert.RowsTIdeal.main_arg0) = m ((c.tc : Thread Cert.RowsTIdeal.nD Cert.RowsTIdeal.τ).loc Cert.RowsTIdeal.main_arg0)
          ∧ r.2.mem ((c.tc : Thread Cert.RowsTIdeal.nD Cert.RowsTIdeal.τ).loc Cert.RowsTIdeal.main_arg1) = m ((c.tc : Thread Cert.RowsTIdeal.nD Cert.RowsTIdeal.τ).loc Cert.RowsTIdeal.main_arg1))
      ∧ θ_run (Cert.RefRowsTIdeal.defs (F := Ideal)) (onTc (τ := Cert.RefRowsTIdeal.τ) (Cert.RefRowsTIdeal.main (F := Ideal))) ⟨m', fun _ => 0, g'⟩ (fun r => ∀ c : Dev Cert.RefRowsTIdeal.nD,
          r.2.mem ((c.tc : Thread Cert.RefRowsTIdeal.nD Cert.RefRowsTIdeal.τ).loc Cert.RefRowsTIdeal.main_v3) = v0 c
          ∧ r.2.mem ((c.tc : Thread Cert.RefRowsTIdeal.nD Cert.RefRowsTIdeal.τ).loc Cert.RefRowsTIdeal.main_arg0) = m' ((c.tc : Thread Cert.RefRowsTIdeal.nD Cert.RefRowsTIdeal.τ).loc Cert.RefRowsTIdeal.main_arg0)
          ∧ r.2.mem ((c.tc : Thread Cert.RefRowsTIdeal.nD Cert.RefRowsTIdeal.τ).loc Cert.RefRowsTIdeal.main_arg1) = m' ((c.tc : Thread Cert.RefRowsTIdeal.nD Cert.RefRowsTIdeal.τ).loc Cert.RefRowsTIdeal.main_arg1))

def preserves_RowsG_RowsGIdeal : Prop :=
  True

def algebraic_RowsGIdeal_RefRowsGIdeal [hRowsGIdeal : Cert.RowsGIdeal.Facts] [hRefRowsGIdeal : Cert.RefRowsGIdeal.Facts] : Prop :=
  ∀ (m : (ℓ : Loc Cert.RowsGIdeal.nD Cert.RowsGIdeal.τ Cert.RowsGIdeal.sig) → Buf (Elt Ideal) ℓ) (g : Dev Cert.RowsGIdeal.nD → PrngReg)
    (m' : (ℓ : Loc Cert.RefRowsGIdeal.nD Cert.RefRowsGIdeal.τ Cert.RefRowsGIdeal.sig) → Buf (Elt Ideal) ℓ) (g' : Dev Cert.RefRowsGIdeal.nD → PrngReg), Pre_RowsGIdeal m →
    (∀ c : Dev Cert.RowsGIdeal.nD,
      m' ((c.tc : Thread Cert.RefRowsGIdeal.nD Cert.RefRowsGIdeal.τ).loc Cert.RefRowsGIdeal.main_arg0) = m ((c.tc : Thread Cert.RowsGIdeal.nD Cert.RowsGIdeal.τ).loc Cert.RowsGIdeal.main_arg0)
      ∧ m' ((c.tc : Thread Cert.RefRowsGIdeal.nD Cert.RefRowsGIdeal.τ).loc Cert.RefRowsGIdeal.main_arg1) = m ((c.tc : Thread Cert.RowsGIdeal.nD Cert.RowsGIdeal.τ).loc Cert.RowsGIdeal.main_arg1)) →
    ∃ (v0 : (c : Dev Cert.RowsGIdeal.nD) → Buf (Elt Ideal) ((c.tc : Thread Cert.RowsGIdeal.nD Cert.RowsGIdeal.τ).loc Cert.RowsGIdeal.main_v0)),
      θ_run (Cert.RowsGIdeal.defs (F := Ideal)) (onTc (τ := Cert.RowsGIdeal.τ) (Cert.RowsGIdeal.main (F := Ideal))) ⟨m, fun _ => 0, g⟩ (fun r => ∀ c : Dev Cert.RowsGIdeal.nD,
          r.2.mem ((c.tc : Thread Cert.RowsGIdeal.nD Cert.RowsGIdeal.τ).loc Cert.RowsGIdeal.main_v0) = v0 c
          ∧ r.2.mem ((c.tc : Thread Cert.RowsGIdeal.nD Cert.RowsGIdeal.τ).loc Cert.RowsGIdeal.main_arg0) = m ((c.tc : Thread Cert.RowsGIdeal.nD Cert.RowsGIdeal.τ).loc Cert.RowsGIdeal.main_arg0)
          ∧ r.2.mem ((c.tc : Thread Cert.RowsGIdeal.nD Cert.RowsGIdeal.τ).loc Cert.RowsGIdeal.main_arg1) = m ((c.tc : Thread Cert.RowsGIdeal.nD Cert.RowsGIdeal.τ).loc Cert.RowsGIdeal.main_arg1))
      ∧ θ_run (Cert.RefRowsGIdeal.defs (F := Ideal)) (onTc (τ := Cert.RefRowsGIdeal.τ) (Cert.RefRowsGIdeal.main (F := Ideal))) ⟨m', fun _ => 0, g'⟩ (fun r => ∀ c : Dev Cert.RefRowsGIdeal.nD,
          r.2.mem ((c.tc : Thread Cert.RefRowsGIdeal.nD Cert.RefRowsGIdeal.τ).loc Cert.RefRowsGIdeal.main_v7) = v0 c
          ∧ r.2.mem ((c.tc : Thread Cert.RefRowsGIdeal.nD Cert.RefRowsGIdeal.τ).loc Cert.RefRowsGIdeal.main_arg0) = m' ((c.tc : Thread Cert.RefRowsGIdeal.nD Cert.RefRowsGIdeal.τ).loc Cert.RefRowsGIdeal.main_arg0)
          ∧ r.2.mem ((c.tc : Thread Cert.RefRowsGIdeal.nD Cert.RefRowsGIdeal.τ).loc Cert.RefRowsGIdeal.main_arg1) = m' ((c.tc : Thread Cert.RefRowsGIdeal.nD Cert.RefRowsGIdeal.τ).loc Cert.RefRowsGIdeal.main_arg1))

def preserves_PoolIn_PoolInIdeal : Prop :=
  True

def algebraic_PoolInIdeal_RefPoolInIdeal [hPoolInIdeal : Cert.PoolInIdeal.Facts] [hRefPoolInIdeal : Cert.RefPoolInIdeal.Facts] : Prop :=
  ∀ (m : (ℓ : Loc Cert.PoolInIdeal.nD Cert.PoolInIdeal.τ Cert.PoolInIdeal.sig) → Buf (Elt Ideal) ℓ) (g : Dev Cert.PoolInIdeal.nD → PrngReg)
    (m' : (ℓ : Loc Cert.RefPoolInIdeal.nD Cert.RefPoolInIdeal.τ Cert.RefPoolInIdeal.sig) → Buf (Elt Ideal) ℓ) (g' : Dev Cert.RefPoolInIdeal.nD → PrngReg), Pre_PoolInIdeal m →
    (∀ c : Dev Cert.PoolInIdeal.nD,
      m' ((c.tc : Thread Cert.RefPoolInIdeal.nD Cert.RefPoolInIdeal.τ).loc Cert.RefPoolInIdeal.main_arg0) = m ((c.tc : Thread Cert.PoolInIdeal.nD Cert.PoolInIdeal.τ).loc Cert.PoolInIdeal.main_arg0)
      ∧ m' ((c.tc : Thread Cert.RefPoolInIdeal.nD Cert.RefPoolInIdeal.τ).loc Cert.RefPoolInIdeal.main_arg1) = m ((c.tc : Thread Cert.PoolInIdeal.nD Cert.PoolInIdeal.τ).loc Cert.PoolInIdeal.main_arg1)) →
    ∃ (v0 : (c : Dev Cert.PoolInIdeal.nD) → Buf (Elt Ideal) ((c.tc : Thread Cert.PoolInIdeal.nD Cert.PoolInIdeal.τ).loc Cert.PoolInIdeal.main_v2)),
      θ_run (Cert.PoolInIdeal.defs (F := Ideal)) (onTc (τ := Cert.PoolInIdeal.τ) (Cert.PoolInIdeal.main (F := Ideal))) ⟨m, fun _ => 0, g⟩ (fun r => ∀ c : Dev Cert.PoolInIdeal.nD,
          r.2.mem ((c.tc : Thread Cert.PoolInIdeal.nD Cert.PoolInIdeal.τ).loc Cert.PoolInIdeal.main_v2) = v0 c
          ∧ r.2.mem ((c.tc : Thread Cert.PoolInIdeal.nD Cert.PoolInIdeal.τ).loc Cert.PoolInIdeal.main_arg0) = m ((c.tc : Thread Cert.PoolInIdeal.nD Cert.PoolInIdeal.τ).loc Cert.PoolInIdeal.main_arg0)
          ∧ r.2.mem ((c.tc : Thread Cert.PoolInIdeal.nD Cert.PoolInIdeal.τ).loc Cert.PoolInIdeal.main_arg1) = m ((c.tc : Thread Cert.PoolInIdeal.nD Cert.PoolInIdeal.τ).loc Cert.PoolInIdeal.main_arg1))
      ∧ θ_run (Cert.RefPoolInIdeal.defs (F := Ideal)) (onTc (τ := Cert.RefPoolInIdeal.τ) (Cert.RefPoolInIdeal.main (F := Ideal))) ⟨m', fun _ => 0, g'⟩ (fun r => ∀ c : Dev Cert.RefPoolInIdeal.nD,
          r.2.mem ((c.tc : Thread Cert.RefPoolInIdeal.nD Cert.RefPoolInIdeal.τ).loc Cert.RefPoolInIdeal.main_v1) = v0 c
          ∧ r.2.mem ((c.tc : Thread Cert.RefPoolInIdeal.nD Cert.RefPoolInIdeal.τ).loc Cert.RefPoolInIdeal.main_arg0) = m' ((c.tc : Thread Cert.RefPoolInIdeal.nD Cert.RefPoolInIdeal.τ).loc Cert.RefPoolInIdeal.main_arg0)
          ∧ r.2.mem ((c.tc : Thread Cert.RefPoolInIdeal.nD Cert.RefPoolInIdeal.τ).loc Cert.RefPoolInIdeal.main_arg1) = m' ((c.tc : Thread Cert.RefPoolInIdeal.nD Cert.RefPoolInIdeal.τ).loc Cert.RefPoolInIdeal.main_arg1))

def preserves_PoolGrp_PoolGrpIdeal : Prop :=
  True

def algebraic_PoolGrpIdeal_RefPoolGrpIdeal [hPoolGrpIdeal : Cert.PoolGrpIdeal.Facts] [hRefPoolGrpIdeal : Cert.RefPoolGrpIdeal.Facts] : Prop :=
  ∀ (m : (ℓ : Loc Cert.PoolGrpIdeal.nD Cert.PoolGrpIdeal.τ Cert.PoolGrpIdeal.sig) → Buf (Elt Ideal) ℓ) (g : Dev Cert.PoolGrpIdeal.nD → PrngReg)
    (m' : (ℓ : Loc Cert.RefPoolGrpIdeal.nD Cert.RefPoolGrpIdeal.τ Cert.RefPoolGrpIdeal.sig) → Buf (Elt Ideal) ℓ) (g' : Dev Cert.RefPoolGrpIdeal.nD → PrngReg), Pre_PoolGrpIdeal m →
    (∀ c : Dev Cert.PoolGrpIdeal.nD,
      m' ((c.tc : Thread Cert.RefPoolGrpIdeal.nD Cert.RefPoolGrpIdeal.τ).loc Cert.RefPoolGrpIdeal.main_arg0) = m ((c.tc : Thread Cert.PoolGrpIdeal.nD Cert.PoolGrpIdeal.τ).loc Cert.PoolGrpIdeal.main_arg0)
      ∧ m' ((c.tc : Thread Cert.RefPoolGrpIdeal.nD Cert.RefPoolGrpIdeal.τ).loc Cert.RefPoolGrpIdeal.main_arg1) = m ((c.tc : Thread Cert.PoolGrpIdeal.nD Cert.PoolGrpIdeal.τ).loc Cert.PoolGrpIdeal.main_arg1)
      ∧ m' ((c.tc : Thread Cert.RefPoolGrpIdeal.nD Cert.RefPoolGrpIdeal.τ).loc Cert.RefPoolGrpIdeal.main_arg2) = m ((c.tc : Thread Cert.PoolGrpIdeal.nD Cert.PoolGrpIdeal.τ).loc Cert.PoolGrpIdeal.main_arg2)
      ∧ m' ((c.tc : Thread Cert.RefPoolGrpIdeal.nD Cert.RefPoolGrpIdeal.τ).loc Cert.RefPoolGrpIdeal.main_arg3) = m ((c.tc : Thread Cert.PoolGrpIdeal.nD Cert.PoolGrpIdeal.τ).loc Cert.PoolGrpIdeal.main_arg3)
      ∧ m' ((c.tc : Thread Cert.RefPoolGrpIdeal.nD Cert.RefPoolGrpIdeal.τ).loc Cert.RefPoolGrpIdeal.main_arg4) = m ((c.tc : Thread Cert.PoolGrpIdeal.nD Cert.PoolGrpIdeal.τ).loc Cert.PoolGrpIdeal.main_arg4)
      ∧ m' ((c.tc : Thread Cert.RefPoolGrpIdeal.nD Cert.RefPoolGrpIdeal.τ).loc Cert.RefPoolGrpIdeal.main_arg5) = m ((c.tc : Thread Cert.PoolGrpIdeal.nD Cert.PoolGrpIdeal.τ).loc Cert.PoolGrpIdeal.main_arg5)) →
    ∃ (v0 : (c : Dev Cert.PoolGrpIdeal.nD) → Buf (Elt Ideal) ((c.tc : Thread Cert.PoolGrpIdeal.nD Cert.PoolGrpIdeal.τ).loc Cert.PoolGrpIdeal.main_v6_0)) (v1 : (c : Dev Cert.PoolGrpIdeal.nD) → Buf (Elt Ideal) ((c.tc : Thread Cert.PoolGrpIdeal.nD Cert.PoolGrpIdeal.τ).loc Cert.PoolGrpIdeal.main_v6_1)),
      θ_run (Cert.PoolGrpIdeal.defs (F := Ideal)) (onTc (τ := Cert.PoolGrpIdeal.τ) (Cert.PoolGrpIdeal.main (F := Ideal))) ⟨m, fun _ => 0, g⟩ (fun r => ∀ c : Dev Cert.PoolGrpIdeal.nD,
          r.2.mem ((c.tc : Thread Cert.PoolGrpIdeal.nD Cert.PoolGrpIdeal.τ).loc Cert.PoolGrpIdeal.main_v6_0) = v0 c
          ∧ r.2.mem ((c.tc : Thread Cert.PoolGrpIdeal.nD Cert.PoolGrpIdeal.τ).loc Cert.PoolGrpIdeal.main_v6_1) = v1 c
          ∧ r.2.mem ((c.tc : Thread Cert.PoolGrpIdeal.nD Cert.PoolGrpIdeal.τ).loc Cert.PoolGrpIdeal.main_arg0) = m ((c.tc : Thread Cert.PoolGrpIdeal.nD Cert.PoolGrpIdeal.τ).loc Cert.PoolGrpIdeal.main_arg0)
          ∧ r.2.mem ((c.tc : Thread Cert.PoolGrpIdeal.nD Cert.PoolGrpIdeal.τ).loc Cert.PoolGrpIdeal.main_arg1) = m ((c.tc : Thread Cert.PoolGrpIdeal.nD Cert.PoolGrpIdeal.τ).loc Cert.PoolGrpIdeal.main_arg1)
          ∧ r.2.mem ((c.tc : Thread Cert.PoolGrpIdeal.nD Cert.PoolGrpIdeal.τ).loc Cert.PoolGrpIdeal.main_arg2) = m ((c.tc : Thread Cert.PoolGrpIdeal.nD Cert.PoolGrpIdeal.τ).loc Cert.PoolGrpIdeal.main_arg2)
          ∧ r.2.mem ((c.tc : Thread Cert.PoolGrpIdeal.nD Cert.PoolGrpIdeal.τ).loc Cert.PoolGrpIdeal.main_arg3) = m ((c.tc : Thread Cert.PoolGrpIdeal.nD Cert.PoolGrpIdeal.τ).loc Cert.PoolGrpIdeal.main_arg3)
          ∧ r.2.mem ((c.tc : Thread Cert.PoolGrpIdeal.nD Cert.PoolGrpIdeal.τ).loc Cert.PoolGrpIdeal.main_arg4) = m ((c.tc : Thread Cert.PoolGrpIdeal.nD Cert.PoolGrpIdeal.τ).loc Cert.PoolGrpIdeal.main_arg4)
          ∧ r.2.mem ((c.tc : Thread Cert.PoolGrpIdeal.nD Cert.PoolGrpIdeal.τ).loc Cert.PoolGrpIdeal.main_arg5) = m ((c.tc : Thread Cert.PoolGrpIdeal.nD Cert.PoolGrpIdeal.τ).loc Cert.PoolGrpIdeal.main_arg5))
      ∧ θ_run (Cert.RefPoolGrpIdeal.defs (F := Ideal)) (onTc (τ := Cert.RefPoolGrpIdeal.τ) (Cert.RefPoolGrpIdeal.main (F := Ideal))) ⟨m', fun _ => 0, g'⟩ (fun r => ∀ c : Dev Cert.RefPoolGrpIdeal.nD,
          r.2.mem ((c.tc : Thread Cert.RefPoolGrpIdeal.nD Cert.RefPoolGrpIdeal.τ).loc Cert.RefPoolGrpIdeal.main_v27) = v0 c
          ∧ r.2.mem ((c.tc : Thread Cert.RefPoolGrpIdeal.nD Cert.RefPoolGrpIdeal.τ).loc Cert.RefPoolGrpIdeal.main_v28) = v1 c
          ∧ r.2.mem ((c.tc : Thread Cert.RefPoolGrpIdeal.nD Cert.RefPoolGrpIdeal.τ).loc Cert.RefPoolGrpIdeal.main_arg0) = m' ((c.tc : Thread Cert.RefPoolGrpIdeal.nD Cert.RefPoolGrpIdeal.τ).loc Cert.RefPoolGrpIdeal.main_arg0)
          ∧ r.2.mem ((c.tc : Thread Cert.RefPoolGrpIdeal.nD Cert.RefPoolGrpIdeal.τ).loc Cert.RefPoolGrpIdeal.main_arg1) = m' ((c.tc : Thread Cert.RefPoolGrpIdeal.nD Cert.RefPoolGrpIdeal.τ).loc Cert.RefPoolGrpIdeal.main_arg1)
          ∧ r.2.mem ((c.tc : Thread Cert.RefPoolGrpIdeal.nD Cert.RefPoolGrpIdeal.τ).loc Cert.RefPoolGrpIdeal.main_arg2) = m' ((c.tc : Thread Cert.RefPoolGrpIdeal.nD Cert.RefPoolGrpIdeal.τ).loc Cert.RefPoolGrpIdeal.main_arg2)
          ∧ r.2.mem ((c.tc : Thread Cert.RefPoolGrpIdeal.nD Cert.RefPoolGrpIdeal.τ).loc Cert.RefPoolGrpIdeal.main_arg3) = m' ((c.tc : Thread Cert.RefPoolGrpIdeal.nD Cert.RefPoolGrpIdeal.τ).loc Cert.RefPoolGrpIdeal.main_arg3)
          ∧ r.2.mem ((c.tc : Thread Cert.RefPoolGrpIdeal.nD Cert.RefPoolGrpIdeal.τ).loc Cert.RefPoolGrpIdeal.main_arg4) = m' ((c.tc : Thread Cert.RefPoolGrpIdeal.nD Cert.RefPoolGrpIdeal.τ).loc Cert.RefPoolGrpIdeal.main_arg4)
          ∧ r.2.mem ((c.tc : Thread Cert.RefPoolGrpIdeal.nD Cert.RefPoolGrpIdeal.τ).loc Cert.RefPoolGrpIdeal.main_arg5) = m' ((c.tc : Thread Cert.RefPoolGrpIdeal.nD Cert.RefPoolGrpIdeal.τ).loc Cert.RefPoolGrpIdeal.main_arg5))

def preserves_PoolGrpT_PoolGrpTIdeal : Prop :=
  True

def algebraic_PoolGrpTIdeal_RefPoolGrpTIdeal [hPoolGrpTIdeal : Cert.PoolGrpTIdeal.Facts] [hRefPoolGrpTIdeal : Cert.RefPoolGrpTIdeal.Facts] : Prop :=
  ∀ (m : (ℓ : Loc Cert.PoolGrpTIdeal.nD Cert.PoolGrpTIdeal.τ Cert.PoolGrpTIdeal.sig) → Buf (Elt Ideal) ℓ) (g : Dev Cert.PoolGrpTIdeal.nD → PrngReg)
    (m' : (ℓ : Loc Cert.RefPoolGrpTIdeal.nD Cert.RefPoolGrpTIdeal.τ Cert.RefPoolGrpTIdeal.sig) → Buf (Elt Ideal) ℓ) (g' : Dev Cert.RefPoolGrpTIdeal.nD → PrngReg), Pre_PoolGrpTIdeal m →
    (∀ c : Dev Cert.PoolGrpTIdeal.nD,
      m' ((c.tc : Thread Cert.RefPoolGrpTIdeal.nD Cert.RefPoolGrpTIdeal.τ).loc Cert.RefPoolGrpTIdeal.main_arg0) = m ((c.tc : Thread Cert.PoolGrpTIdeal.nD Cert.PoolGrpTIdeal.τ).loc Cert.PoolGrpTIdeal.main_arg0)
      ∧ m' ((c.tc : Thread Cert.RefPoolGrpTIdeal.nD Cert.RefPoolGrpTIdeal.τ).loc Cert.RefPoolGrpTIdeal.main_arg1) = m ((c.tc : Thread Cert.PoolGrpTIdeal.nD Cert.PoolGrpTIdeal.τ).loc Cert.PoolGrpTIdeal.main_arg1)) →
    ∃ (v0 : (c : Dev Cert.PoolGrpTIdeal.nD) → Buf (Elt Ideal) ((c.tc : Thread Cert.PoolGrpTIdeal.nD Cert.PoolGrpTIdeal.τ).loc Cert.PoolGrpTIdeal.main_v4)),
      θ_run (Cert.PoolGrpTIdeal.defs (F := Ideal)) (onTc (τ := Cert.PoolGrpTIdeal.τ) (Cert.PoolGrpTIdeal.main (F := Ideal))) ⟨m, fun _ => 0, g⟩ (fun r => ∀ c : Dev Cert.PoolGrpTIdeal.nD,
          r.2.mem ((c.tc : Thread Cert.PoolGrpTIdeal.nD Cert.PoolGrpTIdeal.τ).loc Cert.PoolGrpTIdeal.main_v4) = v0 c
          ∧ r.2.mem ((c.tc : Thread Cert.PoolGrpTIdeal.nD Cert.PoolGrpTIdeal.τ).loc Cert.PoolGrpTIdeal.main_arg0) = m ((c.tc : Thread Cert.PoolGrpTIdeal.nD Cert.PoolGrpTIdeal.τ).loc Cert.PoolGrpTIdeal.main_arg0)
          ∧ r.2.mem ((c.tc : Thread Cert.PoolGrpTIdeal.nD Cert.PoolGrpTIdeal.τ).loc Cert.PoolGrpTIdeal.main_arg1) = m ((c.tc : Thread Cert.PoolGrpTIdeal.nD Cert.PoolGrpTIdeal.τ).loc Cert.PoolGrpTIdeal.main_arg1))
      ∧ θ_run (Cert.RefPoolGrpTIdeal.defs (F := Ideal)) (onTc (τ := Cert.RefPoolGrpTIdeal.τ) (Cert.RefPoolGrpTIdeal.main (F := Ideal))) ⟨m', fun _ => 0, g'⟩ (fun r => ∀ c : Dev Cert.RefPoolGrpTIdeal.nD,
          r.2.mem ((c.tc : Thread Cert.RefPoolGrpTIdeal.nD Cert.RefPoolGrpTIdeal.τ).loc Cert.RefPoolGrpTIdeal.main_v10) = v0 c
          ∧ r.2.mem ((c.tc : Thread Cert.RefPoolGrpTIdeal.nD Cert.RefPoolGrpTIdeal.τ).loc Cert.RefPoolGrpTIdeal.main_arg0) = m' ((c.tc : Thread Cert.RefPoolGrpTIdeal.nD Cert.RefPoolGrpTIdeal.τ).loc Cert.RefPoolGrpTIdeal.main_arg0)
          ∧ r.2.mem ((c.tc : Thread Cert.RefPoolGrpTIdeal.nD Cert.RefPoolGrpTIdeal.τ).loc Cert.RefPoolGrpTIdeal.main_arg1) = m' ((c.tc : Thread Cert.RefPoolGrpTIdeal.nD Cert.RefPoolGrpTIdeal.τ).loc Cert.RefPoolGrpTIdeal.main_arg1))

def preserves_PoolGrpG_PoolGrpGIdeal : Prop :=
  True

def algebraic_PoolGrpGIdeal_RefPoolGrpGIdeal [hPoolGrpGIdeal : Cert.PoolGrpGIdeal.Facts] [hRefPoolGrpGIdeal : Cert.RefPoolGrpGIdeal.Facts] : Prop :=
  ∀ (m : (ℓ : Loc Cert.PoolGrpGIdeal.nD Cert.PoolGrpGIdeal.τ Cert.PoolGrpGIdeal.sig) → Buf (Elt Ideal) ℓ) (g : Dev Cert.PoolGrpGIdeal.nD → PrngReg)
    (m' : (ℓ : Loc Cert.RefPoolGrpGIdeal.nD Cert.RefPoolGrpGIdeal.τ Cert.RefPoolGrpGIdeal.sig) → Buf (Elt Ideal) ℓ) (g' : Dev Cert.RefPoolGrpGIdeal.nD → PrngReg), Pre_PoolGrpGIdeal m →
    (∀ c : Dev Cert.PoolGrpGIdeal.nD,
      m' ((c.tc : Thread Cert.RefPoolGrpGIdeal.nD Cert.RefPoolGrpGIdeal.τ).loc Cert.RefPoolGrpGIdeal.main_arg0) = m ((c.tc : Thread Cert.PoolGrpGIdeal.nD Cert.PoolGrpGIdeal.τ).loc Cert.PoolGrpGIdeal.main_arg0)
      ∧ m' ((c.tc : Thread Cert.RefPoolGrpGIdeal.nD Cert.RefPoolGrpGIdeal.τ).loc Cert.RefPoolGrpGIdeal.main_arg1) = m ((c.tc : Thread Cert.PoolGrpGIdeal.nD Cert.PoolGrpGIdeal.τ).loc Cert.PoolGrpGIdeal.main_arg1)) →
    ∃ (v0 : (c : Dev Cert.PoolGrpGIdeal.nD) → Buf (Elt Ideal) ((c.tc : Thread Cert.PoolGrpGIdeal.nD Cert.PoolGrpGIdeal.τ).loc Cert.PoolGrpGIdeal.main_v0)),
      θ_run (Cert.PoolGrpGIdeal.defs (F := Ideal)) (onTc (τ := Cert.PoolGrpGIdeal.τ) (Cert.PoolGrpGIdeal.main (F := Ideal))) ⟨m, fun _ => 0, g⟩ (fun r => ∀ c : Dev Cert.PoolGrpGIdeal.nD,
          r.2.mem ((c.tc : Thread Cert.PoolGrpGIdeal.nD Cert.PoolGrpGIdeal.τ).loc Cert.PoolGrpGIdeal.main_v0) = v0 c
          ∧ r.2.mem ((c.tc : Thread Cert.PoolGrpGIdeal.nD Cert.PoolGrpGIdeal.τ).loc Cert.PoolGrpGIdeal.main_arg0) = m ((c.tc : Thread Cert.PoolGrpGIdeal.nD Cert.PoolGrpGIdeal.τ).loc Cert.PoolGrpGIdeal.main_arg0)
          ∧ r.2.mem ((c.tc : Thread Cert.PoolGrpGIdeal.nD Cert.PoolGrpGIdeal.τ).loc Cert.PoolGrpGIdeal.main_arg1) = m ((c.tc : Thread Cert.PoolGrpGIdeal.nD Cert.PoolGrpGIdeal.τ).loc Cert.PoolGrpGIdeal.main_arg1))
      ∧ θ_run (Cert.RefPoolGrpGIdeal.defs (F := Ideal)) (onTc (τ := Cert.RefPoolGrpGIdeal.τ) (Cert.RefPoolGrpGIdeal.main (F := Ideal))) ⟨m', fun _ => 0, g'⟩ (fun r => ∀ c : Dev Cert.RefPoolGrpGIdeal.nD,
          r.2.mem ((c.tc : Thread Cert.RefPoolGrpGIdeal.nD Cert.RefPoolGrpGIdeal.τ).loc Cert.RefPoolGrpGIdeal.main_v14) = v0 c
          ∧ r.2.mem ((c.tc : Thread Cert.RefPoolGrpGIdeal.nD Cert.RefPoolGrpGIdeal.τ).loc Cert.RefPoolGrpGIdeal.main_arg0) = m' ((c.tc : Thread Cert.RefPoolGrpGIdeal.nD Cert.RefPoolGrpGIdeal.τ).loc Cert.RefPoolGrpGIdeal.main_arg0)
          ∧ r.2.mem ((c.tc : Thread Cert.RefPoolGrpGIdeal.nD Cert.RefPoolGrpGIdeal.τ).loc Cert.RefPoolGrpGIdeal.main_arg1) = m' ((c.tc : Thread Cert.RefPoolGrpGIdeal.nD Cert.RefPoolGrpGIdeal.τ).loc Cert.RefPoolGrpGIdeal.main_arg1))

def preserves_AdamSmall_AdamSmallIdeal : Prop :=
  True

def algebraic_AdamSmallIdeal_RefAdamSmallIdeal [hAdamSmallIdeal : Cert.AdamSmallIdeal.Facts] [hRefAdamSmallIdeal : Cert.RefAdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.RefAdamSmallIdeal.nD Cert.RefAdamSmallIdeal.τ Cert.RefAdamSmallIdeal.sig) → Buf (Elt Ideal) ℓ) (g' : Dev Cert.RefAdamSmallIdeal.nD → PrngReg), Pre_AdamSmallIdeal m →
    (∀ c : Dev Cert.AdamSmallIdeal.nD,
      m' ((c.tc : Thread Cert.RefAdamSmallIdeal.nD Cert.RefAdamSmallIdeal.τ).loc Cert.RefAdamSmallIdeal.main_arg0) = m ((c.tc : Thread Cert.AdamSmallIdeal.nD Cert.AdamSmallIdeal.τ).loc Cert.AdamSmallIdeal.main_arg0)
      ∧ m' ((c.tc : Thread Cert.RefAdamSmallIdeal.nD Cert.RefAdamSmallIdeal.τ).loc Cert.RefAdamSmallIdeal.main_arg1) = m ((c.tc : Thread Cert.AdamSmallIdeal.nD Cert.AdamSmallIdeal.τ).loc Cert.AdamSmallIdeal.main_arg1)
      ∧ m' ((c.tc : Thread Cert.RefAdamSmallIdeal.nD Cert.RefAdamSmallIdeal.τ).loc Cert.RefAdamSmallIdeal.main_arg2) = m ((c.tc : Thread Cert.AdamSmallIdeal.nD Cert.AdamSmallIdeal.τ).loc Cert.AdamSmallIdeal.main_arg2)
      ∧ m' ((c.tc : Thread Cert.RefAdamSmallIdeal.nD Cert.RefAdamSmallIdeal.τ).loc Cert.RefAdamSmallIdeal.main_arg3) = m ((c.tc : Thread Cert.AdamSmallIdeal.nD Cert.AdamSmallIdeal.τ).loc Cert.AdamSmallIdeal.main_arg3)
      ∧ m' ((c.tc : Thread Cert.RefAdamSmallIdeal.nD Cert.RefAdamSmallIdeal.τ).loc Cert.RefAdamSmallIdeal.main_arg4) = m ((c.tc : Thread Cert.AdamSmallIdeal.nD Cert.AdamSmallIdeal.τ).loc Cert.AdamSmallIdeal.main_arg4)
      ∧ m' ((c.tc : Thread Cert.RefAdamSmallIdeal.nD Cert.RefAdamSmallIdeal.τ).loc Cert.RefAdamSmallIdeal.main_arg5) = m ((c.tc : Thread Cert.AdamSmallIdeal.nD Cert.AdamSmallIdeal.τ).loc Cert.AdamSmallIdeal.main_arg5)
      ∧ m' ((c.tc : Thread Cert.RefAdamSmallIdeal.nD Cert.RefAdamSmallIdeal.τ).loc Cert.RefAdamSmallIdeal.main_arg6) = m ((c.tc : Thread Cert.AdamSmallIdeal.nD Cert.AdamSmallIdeal.τ).loc Cert.AdamSmallIdeal.main_arg6)
      ∧ m' ((c.tc : Thread Cert.RefAdamSmallIdeal.nD Cert.RefAdamSmallIdeal.τ).loc Cert.RefAdamSmallIdeal.main_arg7) = m ((c.tc : Thread Cert.AdamSmallIdeal.nD Cert.AdamSmallIdeal.τ).loc Cert.AdamSmallIdeal.main_arg7)
      ∧ m' ((c.tc : Thread Cert.RefAdamSmallIdeal.nD Cert.RefAdamSmallIdeal.τ).loc Cert.RefAdamSmallIdeal.main_arg8) = m ((c.tc : Thread Cert.AdamSmallIdeal.nD Cert.AdamSmallIdeal.τ).loc Cert.AdamSmallIdeal.main_arg8)
      ∧ m' ((c.tc : Thread Cert.RefAdamSmallIdeal.nD Cert.RefAdamSmallIdeal.τ).loc Cert.RefAdamSmallIdeal.main_arg9) = m ((c.tc : Thread Cert.AdamSmallIdeal.nD Cert.AdamSmallIdeal.τ).loc Cert.AdamSmallIdeal.main_arg9)
      ∧ m' ((c.tc : Thread Cert.RefAdamSmallIdeal.nD Cert.RefAdamSmallIdeal.τ).loc Cert.RefAdamSmallIdeal.main_arg10) = m ((c.tc : Thread Cert.AdamSmallIdeal.nD Cert.AdamSmallIdeal.τ).loc Cert.AdamSmallIdeal.main_arg10)
      ∧ m' ((c.tc : Thread Cert.RefAdamSmallIdeal.nD Cert.RefAdamSmallIdeal.τ).loc Cert.RefAdamSmallIdeal.main_arg11) = m ((c.tc : Thread Cert.AdamSmallIdeal.nD Cert.AdamSmallIdeal.τ).loc Cert.AdamSmallIdeal.main_arg11)
      ∧ m' ((c.tc : Thread Cert.RefAdamSmallIdeal.nD Cert.RefAdamSmallIdeal.τ).loc Cert.RefAdamSmallIdeal.main_arg12) = m ((c.tc : Thread Cert.AdamSmallIdeal.nD Cert.AdamSmallIdeal.τ).loc Cert.AdamSmallIdeal.main_arg12)
      ∧ m' ((c.tc : Thread Cert.RefAdamSmallIdeal.nD Cert.RefAdamSmallIdeal.τ).loc Cert.RefAdamSmallIdeal.main_arg13) = m ((c.tc : Thread Cert.AdamSmallIdeal.nD Cert.AdamSmallIdeal.τ).loc Cert.AdamSmallIdeal.main_arg13)
      ∧ m' ((c.tc : Thread Cert.RefAdamSmallIdeal.nD Cert.RefAdamSmallIdeal.τ).loc Cert.RefAdamSmallIdeal.main_arg14) = m ((c.tc : Thread Cert.AdamSmallIdeal.nD Cert.AdamSmallIdeal.τ).loc Cert.AdamSmallIdeal.main_arg14)
      ∧ m' ((c.tc : Thread Cert.RefAdamSmallIdeal.nD Cert.RefAdamSmallIdeal.τ).loc Cert.RefAdamSmallIdeal.main_arg15) = m ((c.tc : Thread Cert.AdamSmallIdeal.nD Cert.AdamSmallIdeal.τ).loc Cert.AdamSmallIdeal.main_arg15)
      ∧ m' ((c.tc : Thread Cert.RefAdamSmallIdeal.nD Cert.RefAdamSmallIdeal.τ).loc Cert.RefAdamSmallIdeal.main_arg16) = m ((c.tc : Thread Cert.AdamSmallIdeal.nD Cert.AdamSmallIdeal.τ).loc Cert.AdamSmallIdeal.main_arg16)
      ∧ m' ((c.tc : Thread Cert.RefAdamSmallIdeal.nD Cert.RefAdamSmallIdeal.τ).loc Cert.RefAdamSmallIdeal.main_arg17) = m ((c.tc : Thread Cert.AdamSmallIdeal.nD Cert.AdamSmallIdeal.τ).loc Cert.AdamSmallIdeal.main_arg17)
      ∧ m' ((c.tc : Thread Cert.RefAdamSmallIdeal.nD Cert.RefAdamSmallIdeal.τ).loc Cert.RefAdamSmallIdeal.main_arg18) = m ((c.tc : Thread Cert.AdamSmallIdeal.nD Cert.AdamSmallIdeal.τ).loc Cert.AdamSmallIdeal.main_arg18)
      ∧ m' ((c.tc : Thread Cert.RefAdamSmallIdeal.nD Cert.RefAdamSmallIdeal.τ).loc Cert.RefAdamSmallIdeal.main_arg19) = m ((c.tc : Thread Cert.AdamSmallIdeal.nD Cert.AdamSmallIdeal.τ).loc Cert.AdamSmallIdeal.main_arg19)
      ∧ m' ((c.tc : Thread Cert.RefAdamSmallIdeal.nD Cert.RefAdamSmallIdeal.τ).loc Cert.RefAdamSmallIdeal.main_arg20) = m ((c.tc : Thread Cert.AdamSmallIdeal.nD Cert.AdamSmallIdeal.τ).loc Cert.AdamSmallIdeal.main_arg20)
      ∧ m' ((c.tc : Thread Cert.RefAdamSmallIdeal.nD Cert.RefAdamSmallIdeal.τ).loc Cert.RefAdamSmallIdeal.main_arg21) = m ((c.tc : Thread Cert.AdamSmallIdeal.nD Cert.AdamSmallIdeal.τ).loc Cert.AdamSmallIdeal.main_arg21)
      ∧ m' ((c.tc : Thread Cert.RefAdamSmallIdeal.nD Cert.RefAdamSmallIdeal.τ).loc Cert.RefAdamSmallIdeal.main_arg22) = m ((c.tc : Thread Cert.AdamSmallIdeal.nD Cert.AdamSmallIdeal.τ).loc Cert.AdamSmallIdeal.main_arg22)
      ∧ m' ((c.tc : Thread Cert.RefAdamSmallIdeal.nD Cert.RefAdamSmallIdeal.τ).loc Cert.RefAdamSmallIdeal.main_arg23) = m ((c.tc : Thread Cert.AdamSmallIdeal.nD Cert.AdamSmallIdeal.τ).loc Cert.AdamSmallIdeal.main_arg23)
      ∧ m' ((c.tc : Thread Cert.RefAdamSmallIdeal.nD Cert.RefAdamSmallIdeal.τ).loc Cert.RefAdamSmallIdeal.main_arg24) = m ((c.tc : Thread Cert.AdamSmallIdeal.nD Cert.AdamSmallIdeal.τ).loc Cert.AdamSmallIdeal.main_arg24)
      ∧ m' ((c.tc : Thread Cert.RefAdamSmallIdeal.nD Cert.RefAdamSmallIdeal.τ).loc Cert.RefAdamSmallIdeal.main_arg25) = m ((c.tc : Thread Cert.AdamSmallIdeal.nD Cert.AdamSmallIdeal.τ).loc Cert.AdamSmallIdeal.main_arg25)
      ∧ m' ((c.tc : Thread Cert.RefAdamSmallIdeal.nD Cert.RefAdamSmallIdeal.τ).loc Cert.RefAdamSmallIdeal.main_arg26) = m ((c.tc : Thread Cert.AdamSmallIdeal.nD Cert.AdamSmallIdeal.τ).loc Cert.AdamSmallIdeal.main_arg26)
      ∧ m' ((c.tc : Thread Cert.RefAdamSmallIdeal.nD Cert.RefAdamSmallIdeal.τ).loc Cert.RefAdamSmallIdeal.main_arg27) = m ((c.tc : Thread Cert.AdamSmallIdeal.nD Cert.AdamSmallIdeal.τ).loc Cert.AdamSmallIdeal.main_arg27)
      ∧ m' ((c.tc : Thread Cert.RefAdamSmallIdeal.nD Cert.RefAdamSmallIdeal.τ).loc Cert.RefAdamSmallIdeal.main_arg28) = m ((c.tc : Thread Cert.AdamSmallIdeal.nD Cert.AdamSmallIdeal.τ).loc Cert.AdamSmallIdeal.main_arg28)
      ∧ m' ((c.tc : Thread Cert.RefAdamSmallIdeal.nD Cert.RefAdamSmallIdeal.τ).loc Cert.RefAdamSmallIdeal.main_arg29) = m ((c.tc : Thread Cert.AdamSmallIdeal.nD Cert.AdamSmallIdeal.τ).loc Cert.AdamSmallIdeal.main_arg29)
      ∧ m' ((c.tc : Thread Cert.RefAdamSmallIdeal.nD Cert.RefAdamSmallIdeal.τ).loc Cert.RefAdamSmallIdeal.main_arg30) = m ((c.tc : Thread Cert.AdamSmallIdeal.nD Cert.AdamSmallIdeal.τ).loc Cert.AdamSmallIdeal.main_arg30)
      ∧ m' ((c.tc : Thread Cert.RefAdamSmallIdeal.nD Cert.RefAdamSmallIdeal.τ).loc Cert.RefAdamSmallIdeal.main_arg31) = m ((c.tc : Thread Cert.AdamSmallIdeal.nD Cert.AdamSmallIdeal.τ).loc Cert.AdamSmallIdeal.main_arg31)
      ∧ m' ((c.tc : Thread Cert.RefAdamSmallIdeal.nD Cert.RefAdamSmallIdeal.τ).loc Cert.RefAdamSmallIdeal.main_arg32) = m ((c.tc : Thread Cert.AdamSmallIdeal.nD Cert.AdamSmallIdeal.τ).loc Cert.AdamSmallIdeal.main_arg32)
      ∧ m' ((c.tc : Thread Cert.RefAdamSmallIdeal.nD Cert.RefAdamSmallIdeal.τ).loc Cert.RefAdamSmallIdeal.main_arg33) = m ((c.tc : Thread Cert.AdamSmallIdeal.nD Cert.AdamSmallIdeal.τ).loc Cert.AdamSmallIdeal.main_arg33)
      ∧ m' ((c.tc : Thread Cert.RefAdamSmallIdeal.nD Cert.RefAdamSmallIdeal.τ).loc Cert.RefAdamSmallIdeal.main_arg34) = m ((c.tc : Thread Cert.AdamSmallIdeal.nD Cert.AdamSmallIdeal.τ).loc Cert.AdamSmallIdeal.main_arg34)
      ∧ m' ((c.tc : Thread Cert.RefAdamSmallIdeal.nD Cert.RefAdamSmallIdeal.τ).loc Cert.RefAdamSmallIdeal.main_arg35) = m ((c.tc : Thread Cert.AdamSmallIdeal.nD Cert.AdamSmallIdeal.τ).loc Cert.AdamSmallIdeal.main_arg35)
      ∧ m' ((c.tc : Thread Cert.RefAdamSmallIdeal.nD Cert.RefAdamSmallIdeal.τ).loc Cert.RefAdamSmallIdeal.main_arg36) = m ((c.tc : Thread Cert.AdamSmallIdeal.nD Cert.AdamSmallIdeal.τ).loc Cert.AdamSmallIdeal.main_arg36)
      ∧ m' ((c.tc : Thread Cert.RefAdamSmallIdeal.nD Cert.RefAdamSmallIdeal.τ).loc Cert.RefAdamSmallIdeal.main_arg37) = m ((c.tc : Thread Cert.AdamSmallIdeal.nD Cert.AdamSmallIdeal.τ).loc Cert.AdamSmallIdeal.main_arg37)
      ∧ m' ((c.tc : Thread Cert.RefAdamSmallIdeal.nD Cert.RefAdamSmallIdeal.τ).loc Cert.RefAdamSmallIdeal.main_arg38) = m ((c.tc : Thread Cert.AdamSmallIdeal.nD Cert.AdamSmallIdeal.τ).loc Cert.AdamSmallIdeal.main_arg38)
      ∧ m' ((c.tc : Thread Cert.RefAdamSmallIdeal.nD Cert.RefAdamSmallIdeal.τ).loc Cert.RefAdamSmallIdeal.main_arg39) = m ((c.tc : Thread Cert.AdamSmallIdeal.nD Cert.AdamSmallIdeal.τ).loc Cert.AdamSmallIdeal.main_arg39)
      ∧ m' ((c.tc : Thread Cert.RefAdamSmallIdeal.nD Cert.RefAdamSmallIdeal.τ).loc Cert.RefAdamSmallIdeal.main_arg40) = m ((c.tc : Thread Cert.AdamSmallIdeal.nD Cert.AdamSmallIdeal.τ).loc Cert.AdamSmallIdeal.main_arg40)
      ∧ m' ((c.tc : Thread Cert.RefAdamSmallIdeal.nD Cert.RefAdamSmallIdeal.τ).loc Cert.RefAdamSmallIdeal.main_arg41) = m ((c.tc : Thread Cert.AdamSmallIdeal.nD Cert.AdamSmallIdeal.τ).loc Cert.AdamSmallIdeal.main_arg41)
      ∧ m' ((c.tc : Thread Cert.RefAdamSmallIdeal.nD Cert.RefAdamSmallIdeal.τ).loc Cert.RefAdamSmallIdeal.main_arg42) = m ((c.tc : Thread Cert.AdamSmallIdeal.nD Cert.AdamSmallIdeal.τ).loc Cert.AdamSmallIdeal.main_arg42)
      ∧ m' ((c.tc : Thread Cert.RefAdamSmallIdeal.nD Cert.RefAdamSmallIdeal.τ).loc Cert.RefAdamSmallIdeal.main_arg43) = m ((c.tc : Thread Cert.AdamSmallIdeal.nD Cert.AdamSmallIdeal.τ).loc Cert.AdamSmallIdeal.main_arg43)
      ∧ m' ((c.tc : Thread Cert.RefAdamSmallIdeal.nD Cert.RefAdamSmallIdeal.τ).loc Cert.RefAdamSmallIdeal.main_arg44) = m ((c.tc : Thread Cert.AdamSmallIdeal.nD Cert.AdamSmallIdeal.τ).loc Cert.AdamSmallIdeal.main_arg44)
      ∧ m' ((c.tc : Thread Cert.RefAdamSmallIdeal.nD Cert.RefAdamSmallIdeal.τ).loc Cert.RefAdamSmallIdeal.main_arg45) = m ((c.tc : Thread Cert.AdamSmallIdeal.nD Cert.AdamSmallIdeal.τ).loc Cert.AdamSmallIdeal.main_arg45)
      ∧ m' ((c.tc : Thread Cert.RefAdamSmallIdeal.nD Cert.RefAdamSmallIdeal.τ).loc Cert.RefAdamSmallIdeal.main_arg46) = m ((c.tc : Thread Cert.AdamSmallIdeal.nD Cert.AdamSmallIdeal.τ).loc Cert.AdamSmallIdeal.main_arg46)
      ∧ m' ((c.tc : Thread Cert.RefAdamSmallIdeal.nD Cert.RefAdamSmallIdeal.τ).loc Cert.RefAdamSmallIdeal.main_arg47) = m ((c.tc : Thread Cert.AdamSmallIdeal.nD Cert.AdamSmallIdeal.τ).loc Cert.AdamSmallIdeal.main_arg47)) →
    ∃ (v0 : (c : Dev Cert.AdamSmallIdeal.nD) → Buf (Elt Ideal) ((c.tc : Thread Cert.AdamSmallIdeal.nD Cert.AdamSmallIdeal.τ).loc Cert.AdamSmallIdeal.main_v52_0)) (v1 : (c : Dev Cert.AdamSmallIdeal.nD) → Buf (Elt Ideal) ((c.tc : Thread Cert.AdamSmallIdeal.nD Cert.AdamSmallIdeal.τ).loc Cert.AdamSmallIdeal.main_v52_1)) (v2 : (c : Dev Cert.AdamSmallIdeal.nD) → Buf (Elt Ideal) ((c.tc : Thread Cert.AdamSmallIdeal.nD Cert.AdamSmallIdeal.τ).loc Cert.AdamSmallIdeal.main_v52_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v52_0) = v0 c
          ∧ r.2.mem ((c.tc : Thread Cert.AdamSmallIdeal.nD Cert.AdamSmallIdeal.τ).loc Cert.AdamSmallIdeal.main_v52_1) = v1 c
          ∧ r.2.mem ((c.tc : Thread Cert.AdamSmallIdeal.nD Cert.AdamSmallIdeal.τ).loc Cert.AdamSmallIdeal.main_v52_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
          ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
          ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
          ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
          ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
          ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
          ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
          ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
          ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
          ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
          ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
          ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
          ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
          ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
          ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
          ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
          ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
          ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
          ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
          ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
          ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
          ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
          ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
          ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
          ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27)
          ∧ r.2.mem ((c.tc : Thread Cert.AdamSmallIdeal.nD Cert.AdamSmallIdeal.τ).loc Cert.AdamSmallIdeal.main_arg28) = m ((c.tc : Thread Cert.AdamSmallIdeal.nD Cert.AdamSmallIdeal.τ).loc Cert.AdamSmallIdeal.main_arg28)
          ∧ r.2.mem ((c.tc : Thread Cert.AdamSmallIdeal.nD Cert.AdamSmallIdeal.τ).loc Cert.AdamSmallIdeal.main_arg29) = m ((c.tc : Thread Cert.AdamSmallIdeal.nD Cert.AdamSmallIdeal.τ).loc Cert.AdamSmallIdeal.main_arg29)
          ∧ r.2.mem ((c.tc : Thread Cert.AdamSmallIdeal.nD Cert.AdamSmallIdeal.τ).loc Cert.AdamSmallIdeal.main_arg30) = m ((c.tc : Thread Cert.AdamSmallIdeal.nD Cert.AdamSmallIdeal.τ).loc Cert.AdamSmallIdeal.main_arg30)
          ∧ r.2.mem ((c.tc : Thread Cert.AdamSmallIdeal.nD Cert.AdamSmallIdeal.τ).loc Cert.AdamSmallIdeal.main_arg31) = m ((c.tc : Thread Cert.AdamSmallIdeal.nD Cert.AdamSmallIdeal.τ).loc Cert.AdamSmallIdeal.main_arg31)
          ∧ r.2.mem ((c.tc : Thread Cert.AdamSmallIdeal.nD Cert.AdamSmallIdeal.τ).loc Cert.AdamSmallIdeal.main_arg32) = m ((c.tc : Thread Cert.AdamSmallIdeal.nD Cert.AdamSmallIdeal.τ).loc Cert.AdamSmallIdeal.main_arg32)
          ∧ r.2.mem ((c.tc : Thread Cert.AdamSmallIdeal.nD Cert.AdamSmallIdeal.τ).loc Cert.AdamSmallIdeal.main_arg33) = m ((c.tc : Thread Cert.AdamSmallIdeal.nD Cert.AdamSmallIdeal.τ).loc Cert.AdamSmallIdeal.main_arg33)
          ∧ r.2.mem ((c.tc : Thread Cert.AdamSmallIdeal.nD Cert.AdamSmallIdeal.τ).loc Cert.AdamSmallIdeal.main_arg34) = m ((c.tc : Thread Cert.AdamSmallIdeal.nD Cert.AdamSmallIdeal.τ).loc Cert.AdamSmallIdeal.main_arg34)
          ∧ r.2.mem ((c.tc : Thread Cert.AdamSmallIdeal.nD Cert.AdamSmallIdeal.τ).loc Cert.AdamSmallIdeal.main_arg35) = m ((c.tc : Thread Cert.AdamSmallIdeal.nD Cert.AdamSmallIdeal.τ).loc Cert.AdamSmallIdeal.main_arg35)
          ∧ r.2.mem ((c.tc : Thread Cert.AdamSmallIdeal.nD Cert.AdamSmallIdeal.τ).loc Cert.AdamSmallIdeal.main_arg36) = m ((c.tc : Thread Cert.AdamSmallIdeal.nD Cert.AdamSmallIdeal.τ).loc Cert.AdamSmallIdeal.main_arg36)
          ∧ r.2.mem ((c.tc : Thread Cert.AdamSmallIdeal.nD Cert.AdamSmallIdeal.τ).loc Cert.AdamSmallIdeal.main_arg37) = m ((c.tc : Thread Cert.AdamSmallIdeal.nD Cert.AdamSmallIdeal.τ).loc Cert.AdamSmallIdeal.main_arg37)
          ∧ r.2.mem ((c.tc : Thread Cert.AdamSmallIdeal.nD Cert.AdamSmallIdeal.τ).loc Cert.AdamSmallIdeal.main_arg38) = m ((c.tc : Thread Cert.AdamSmallIdeal.nD Cert.AdamSmallIdeal.τ).loc Cert.AdamSmallIdeal.main_arg38)
          ∧ r.2.mem ((c.tc : Thread Cert.AdamSmallIdeal.nD Cert.AdamSmallIdeal.τ).loc Cert.AdamSmallIdeal.main_arg39) = m ((c.tc : Thread Cert.AdamSmallIdeal.nD Cert.AdamSmallIdeal.τ).loc Cert.AdamSmallIdeal.main_arg39)
          ∧ r.2.mem ((c.tc : Thread Cert.AdamSmallIdeal.nD Cert.AdamSmallIdeal.τ).loc Cert.AdamSmallIdeal.main_arg40) = m ((c.tc : Thread Cert.AdamSmallIdeal.nD Cert.AdamSmallIdeal.τ).loc Cert.AdamSmallIdeal.main_arg40)
          ∧ r.2.mem ((c.tc : Thread Cert.AdamSmallIdeal.nD Cert.AdamSmallIdeal.τ).loc Cert.AdamSmallIdeal.main_arg41) = m ((c.tc : Thread Cert.AdamSmallIdeal.nD Cert.AdamSmallIdeal.τ).loc Cert.AdamSmallIdeal.main_arg41)
          ∧ r.2.mem ((c.tc : Thread Cert.AdamSmallIdeal.nD Cert.AdamSmallIdeal.τ).loc Cert.AdamSmallIdeal.main_arg42) = m ((c.tc : Thread Cert.AdamSmallIdeal.nD Cert.AdamSmallIdeal.τ).loc Cert.AdamSmallIdeal.main_arg42)
          ∧ r.2.mem ((c.tc : Thread Cert.AdamSmallIdeal.nD Cert.AdamSmallIdeal.τ).loc Cert.AdamSmallIdeal.main_arg43) = m ((c.tc : Thread Cert.AdamSmallIdeal.nD Cert.AdamSmallIdeal.τ).loc Cert.AdamSmallIdeal.main_arg43)
          ∧ r.2.mem ((c.tc : Thread Cert.AdamSmallIdeal.nD Cert.AdamSmallIdeal.τ).loc Cert.AdamSmallIdeal.main_arg44) = m ((c.tc : Thread Cert.AdamSmallIdeal.nD Cert.AdamSmallIdeal.τ).loc Cert.AdamSmallIdeal.main_arg44)
          ∧ r.2.mem ((c.tc : Thread Cert.AdamSmallIdeal.nD Cert.AdamSmallIdeal.τ).loc Cert.AdamSmallIdeal.main_arg45) = m ((c.tc : Thread Cert.AdamSmallIdeal.nD Cert.AdamSmallIdeal.τ).loc Cert.AdamSmallIdeal.main_arg45)
          ∧ r.2.mem ((c.tc : Thread Cert.AdamSmallIdeal.nD Cert.AdamSmallIdeal.τ).loc Cert.AdamSmallIdeal.main_arg46) = m ((c.tc : Thread Cert.AdamSmallIdeal.nD Cert.AdamSmallIdeal.τ).loc Cert.AdamSmallIdeal.main_arg46)
          ∧ r.2.mem ((c.tc : Thread Cert.AdamSmallIdeal.nD Cert.AdamSmallIdeal.τ).loc Cert.AdamSmallIdeal.main_arg47) = m ((c.tc : Thread Cert.AdamSmallIdeal.nD Cert.AdamSmallIdeal.τ).loc Cert.AdamSmallIdeal.main_arg47))
      ∧ θ_run (Cert.RefAdamSmallIdeal.defs (F := Ideal)) (onTc (τ := Cert.RefAdamSmallIdeal.τ) (Cert.RefAdamSmallIdeal.main (F := Ideal))) ⟨m', fun _ => 0, g'⟩ (fun r => ∀ c : Dev Cert.RefAdamSmallIdeal.nD,
          r.2.mem ((c.tc : Thread Cert.RefAdamSmallIdeal.nD Cert.RefAdamSmallIdeal.τ).loc Cert.RefAdamSmallIdeal.main_v299) = v0 c
          ∧ r.2.mem ((c.tc : Thread Cert.RefAdamSmallIdeal.nD Cert.RefAdamSmallIdeal.τ).loc Cert.RefAdamSmallIdeal.main_v311) = v1 c
          ∧ r.2.mem ((c.tc : Thread Cert.RefAdamSmallIdeal.nD Cert.RefAdamSmallIdeal.τ).loc Cert.RefAdamSmallIdeal.main_v323) = v2 c
          ∧ r.2.mem ((c.tc : Thread Cert.RefAdamSmallIdeal.nD Cert.RefAdamSmallIdeal.τ).loc Cert.RefAdamSmallIdeal.main_arg0) = m' ((c.tc : Thread Cert.RefAdamSmallIdeal.nD Cert.RefAdamSmallIdeal.τ).loc Cert.RefAdamSmallIdeal.main_arg0)
          ∧ r.2.mem ((c.tc : Thread Cert.RefAdamSmallIdeal.nD Cert.RefAdamSmallIdeal.τ).loc Cert.RefAdamSmallIdeal.main_arg1) = m' ((c.tc : Thread Cert.RefAdamSmallIdeal.nD Cert.RefAdamSmallIdeal.τ).loc Cert.RefAdamSmallIdeal.main_arg1)
          ∧ r.2.mem ((c.tc : Thread Cert.RefAdamSmallIdeal.nD Cert.RefAdamSmallIdeal.τ).loc Cert.RefAdamSmallIdeal.main_arg2) = m' ((c.tc : Thread Cert.RefAdamSmallIdeal.nD Cert.RefAdamSmallIdeal.τ).loc Cert.RefAdamSmallIdeal.main_arg2)
          ∧ r.2.mem ((c.tc : Thread Cert.RefAdamSmallIdeal.nD Cert.RefAdamSmallIdeal.τ).loc Cert.RefAdamSmallIdeal.main_arg3) = m' ((c.tc : Thread Cert.RefAdamSmallIdeal.nD Cert.RefAdamSmallIdeal.τ).loc Cert.RefAdamSmallIdeal.main_arg3)
          ∧ r.2.mem ((c.tc : Thread Cert.RefAdamSmallIdeal.nD Cert.RefAdamSmallIdeal.τ).loc Cert.RefAdamSmallIdeal.main_arg4) = m' ((c.tc : Thread Cert.RefAdamSmallIdeal.nD Cert.RefAdamSmallIdeal.τ).loc Cert.RefAdamSmallIdeal.main_arg4)
          ∧ r.2.mem ((c.tc : Thread Cert.RefAdamSmallIdeal.nD Cert.RefAdamSmallIdeal.τ).loc Cert.RefAdamSmallIdeal.main_arg5) = m' ((c.tc : Thread Cert.RefAdamSmallIdeal.nD Cert.RefAdamSmallIdeal.τ).loc Cert.RefAdamSmallIdeal.main_arg5)
          ∧ r.2.mem ((c.tc : Thread Cert.RefAdamSmallIdeal.nD Cert.RefAdamSmallIdeal.τ).loc Cert.RefAdamSmallIdeal.main_arg6) = m' ((c.tc : Thread Cert.RefAdamSmallIdeal.nD Cert.RefAdamSmallIdeal.τ).loc Cert.RefAdamSmallIdeal.main_arg6)
          ∧ r.2.mem ((c.tc : Thread Cert.RefAdamSmallIdeal.nD Cert.RefAdamSmallIdeal.τ).loc Cert.RefAdamSmallIdeal.main_arg7) = m' ((c.tc : Thread Cert.RefAdamSmallIdeal.nD Cert.RefAdamSmallIdeal.τ).loc Cert.RefAdamSmallIdeal.main_arg7)
          ∧ r.2.mem ((c.tc : Thread Cert.RefAdamSmallIdeal.nD Cert.RefAdamSmallIdeal.τ).loc Cert.RefAdamSmallIdeal.main_arg8) = m' ((c.tc : Thread Cert.RefAdamSmallIdeal.nD Cert.RefAdamSmallIdeal.τ).loc Cert.RefAdamSmallIdeal.main_arg8)
          ∧ r.2.mem ((c.tc : Thread Cert.RefAdamSmallIdeal.nD Cert.RefAdamSmallIdeal.τ).loc Cert.RefAdamSmallIdeal.main_arg9) = m' ((c.tc : Thread Cert.RefAdamSmallIdeal.nD Cert.RefAdamSmallIdeal.τ).loc Cert.RefAdamSmallIdeal.main_arg9)
          ∧ r.2.mem ((c.tc : Thread Cert.RefAdamSmallIdeal.nD Cert.RefAdamSmallIdeal.τ).loc Cert.RefAdamSmallIdeal.main_arg10) = m' ((c.tc : Thread Cert.RefAdamSmallIdeal.nD Cert.RefAdamSmallIdeal.τ).loc Cert.RefAdamSmallIdeal.main_arg10)
          ∧ r.2.mem ((c.tc : Thread Cert.RefAdamSmallIdeal.nD Cert.RefAdamSmallIdeal.τ).loc Cert.RefAdamSmallIdeal.main_arg11) = m' ((c.tc : Thread Cert.RefAdamSmallIdeal.nD Cert.RefAdamSmallIdeal.τ).loc Cert.RefAdamSmallIdeal.main_arg11)
          ∧ r.2.mem ((c.tc : Thread Cert.RefAdamSmallIdeal.nD Cert.RefAdamSmallIdeal.τ).loc Cert.RefAdamSmallIdeal.main_arg12) = m' ((c.tc : Thread Cert.RefAdamSmallIdeal.nD Cert.RefAdamSmallIdeal.τ).loc Cert.RefAdamSmallIdeal.main_arg12)
          ∧ r.2.mem ((c.tc : Thread Cert.RefAdamSmallIdeal.nD Cert.RefAdamSmallIdeal.τ).loc Cert.RefAdamSmallIdeal.main_arg13) = m' ((c.tc : Thread Cert.RefAdamSmallIdeal.nD Cert.RefAdamSmallIdeal.τ).loc Cert.RefAdamSmallIdeal.main_arg13)
          ∧ r.2.mem ((c.tc : Thread Cert.RefAdamSmallIdeal.nD Cert.RefAdamSmallIdeal.τ).loc Cert.RefAdamSmallIdeal.main_arg14) = m' ((c.tc : Thread Cert.RefAdamSmallIdeal.nD Cert.RefAdamSmallIdeal.τ).loc Cert.RefAdamSmallIdeal.main_arg14)
          ∧ r.2.mem ((c.tc : Thread Cert.RefAdamSmallIdeal.nD Cert.RefAdamSmallIdeal.τ).loc Cert.RefAdamSmallIdeal.main_arg15) = m' ((c.tc : Thread Cert.RefAdamSmallIdeal.nD Cert.RefAdamSmallIdeal.τ).loc Cert.RefAdamSmallIdeal.main_arg15)
          ∧ r.2.mem ((c.tc : Thread Cert.RefAdamSmallIdeal.nD Cert.RefAdamSmallIdeal.τ).loc Cert.RefAdamSmallIdeal.main_arg16) = m' ((c.tc : Thread Cert.RefAdamSmallIdeal.nD Cert.RefAdamSmallIdeal.τ).loc Cert.RefAdamSmallIdeal.main_arg16)
          ∧ r.2.mem ((c.tc : Thread Cert.RefAdamSmallIdeal.nD Cert.RefAdamSmallIdeal.τ).loc Cert.RefAdamSmallIdeal.main_arg17) = m' ((c.tc : Thread Cert.RefAdamSmallIdeal.nD Cert.RefAdamSmallIdeal.τ).loc Cert.RefAdamSmallIdeal.main_arg17)
          ∧ r.2.mem ((c.tc : Thread Cert.RefAdamSmallIdeal.nD Cert.RefAdamSmallIdeal.τ).loc Cert.RefAdamSmallIdeal.main_arg18) = m' ((c.tc : Thread Cert.RefAdamSmallIdeal.nD Cert.RefAdamSmallIdeal.τ).loc Cert.RefAdamSmallIdeal.main_arg18)
          ∧ r.2.mem ((c.tc : Thread Cert.RefAdamSmallIdeal.nD Cert.RefAdamSmallIdeal.τ).loc Cert.RefAdamSmallIdeal.main_arg19) = m' ((c.tc : Thread Cert.RefAdamSmallIdeal.nD Cert.RefAdamSmallIdeal.τ).loc Cert.RefAdamSmallIdeal.main_arg19)
          ∧ r.2.mem ((c.tc : Thread Cert.RefAdamSmallIdeal.nD Cert.RefAdamSmallIdeal.τ).loc Cert.RefAdamSmallIdeal.main_arg20) = m' ((c.tc : Thread Cert.RefAdamSmallIdeal.nD Cert.RefAdamSmallIdeal.τ).loc Cert.RefAdamSmallIdeal.main_arg20)
          ∧ r.2.mem ((c.tc : Thread Cert.RefAdamSmallIdeal.nD Cert.RefAdamSmallIdeal.τ).loc Cert.RefAdamSmallIdeal.main_arg21) = m' ((c.tc : Thread Cert.RefAdamSmallIdeal.nD Cert.RefAdamSmallIdeal.τ).loc Cert.RefAdamSmallIdeal.main_arg21)
          ∧ r.2.mem ((c.tc : Thread Cert.RefAdamSmallIdeal.nD Cert.RefAdamSmallIdeal.τ).loc Cert.RefAdamSmallIdeal.main_arg22) = m' ((c.tc : Thread Cert.RefAdamSmallIdeal.nD Cert.RefAdamSmallIdeal.τ).loc Cert.RefAdamSmallIdeal.main_arg22)
          ∧ r.2.mem ((c.tc : Thread Cert.RefAdamSmallIdeal.nD Cert.RefAdamSmallIdeal.τ).loc Cert.RefAdamSmallIdeal.main_arg23) = m' ((c.tc : Thread Cert.RefAdamSmallIdeal.nD Cert.RefAdamSmallIdeal.τ).loc Cert.RefAdamSmallIdeal.main_arg23)
          ∧ r.2.mem ((c.tc : Thread Cert.RefAdamSmallIdeal.nD Cert.RefAdamSmallIdeal.τ).loc Cert.RefAdamSmallIdeal.main_arg24) = m' ((c.tc : Thread Cert.RefAdamSmallIdeal.nD Cert.RefAdamSmallIdeal.τ).loc Cert.RefAdamSmallIdeal.main_arg24)
          ∧ r.2.mem ((c.tc : Thread Cert.RefAdamSmallIdeal.nD Cert.RefAdamSmallIdeal.τ).loc Cert.RefAdamSmallIdeal.main_arg25) = m' ((c.tc : Thread Cert.RefAdamSmallIdeal.nD Cert.RefAdamSmallIdeal.τ).loc Cert.RefAdamSmallIdeal.main_arg25)
          ∧ r.2.mem ((c.tc : Thread Cert.RefAdamSmallIdeal.nD Cert.RefAdamSmallIdeal.τ).loc Cert.RefAdamSmallIdeal.main_arg26) = m' ((c.tc : Thread Cert.RefAdamSmallIdeal.nD Cert.RefAdamSmallIdeal.τ).loc Cert.RefAdamSmallIdeal.main_arg26)
          ∧ r.2.mem ((c.tc : Thread Cert.RefAdamSmallIdeal.nD Cert.RefAdamSmallIdeal.τ).loc Cert.RefAdamSmallIdeal.main_arg27) = m' ((c.tc : Thread Cert.RefAdamSmallIdeal.nD Cert.RefAdamSmallIdeal.τ).loc Cert.RefAdamSmallIdeal.main_arg27)
          ∧ r.2.mem ((c.tc : Thread Cert.RefAdamSmallIdeal.nD Cert.RefAdamSmallIdeal.τ).loc Cert.RefAdamSmallIdeal.main_arg28) = m' ((c.tc : Thread Cert.RefAdamSmallIdeal.nD Cert.RefAdamSmallIdeal.τ).loc Cert.RefAdamSmallIdeal.main_arg28)
          ∧ r.2.mem ((c.tc : Thread Cert.RefAdamSmallIdeal.nD Cert.RefAdamSmallIdeal.τ).loc Cert.RefAdamSmallIdeal.main_arg29) = m' ((c.tc : Thread Cert.RefAdamSmallIdeal.nD Cert.RefAdamSmallIdeal.τ).loc Cert.RefAdamSmallIdeal.main_arg29)
          ∧ r.2.mem ((c.tc : Thread Cert.RefAdamSmallIdeal.nD Cert.RefAdamSmallIdeal.τ).loc Cert.RefAdamSmallIdeal.main_arg30) = m' ((c.tc : Thread Cert.RefAdamSmallIdeal.nD Cert.RefAdamSmallIdeal.τ).loc Cert.RefAdamSmallIdeal.main_arg30)
          ∧ r.2.mem ((c.tc : Thread Cert.RefAdamSmallIdeal.nD Cert.RefAdamSmallIdeal.τ).loc Cert.RefAdamSmallIdeal.main_arg31) = m' ((c.tc : Thread Cert.RefAdamSmallIdeal.nD Cert.RefAdamSmallIdeal.τ).loc Cert.RefAdamSmallIdeal.main_arg31)
          ∧ r.2.mem ((c.tc : Thread Cert.RefAdamSmallIdeal.nD Cert.RefAdamSmallIdeal.τ).loc Cert.RefAdamSmallIdeal.main_arg32) = m' ((c.tc : Thread Cert.RefAdamSmallIdeal.nD Cert.RefAdamSmallIdeal.τ).loc Cert.RefAdamSmallIdeal.main_arg32)
          ∧ r.2.mem ((c.tc : Thread Cert.RefAdamSmallIdeal.nD Cert.RefAdamSmallIdeal.τ).loc Cert.RefAdamSmallIdeal.main_arg33) = m' ((c.tc : Thread Cert.RefAdamSmallIdeal.nD Cert.RefAdamSmallIdeal.τ).loc Cert.RefAdamSmallIdeal.main_arg33)
          ∧ r.2.mem ((c.tc : Thread Cert.RefAdamSmallIdeal.nD Cert.RefAdamSmallIdeal.τ).loc Cert.RefAdamSmallIdeal.main_arg34) = m' ((c.tc : Thread Cert.RefAdamSmallIdeal.nD Cert.RefAdamSmallIdeal.τ).loc Cert.RefAdamSmallIdeal.main_arg34)
          ∧ r.2.mem ((c.tc : Thread Cert.RefAdamSmallIdeal.nD Cert.RefAdamSmallIdeal.τ).loc Cert.RefAdamSmallIdeal.main_arg35) = m' ((c.tc : Thread Cert.RefAdamSmallIdeal.nD Cert.RefAdamSmallIdeal.τ).loc Cert.RefAdamSmallIdeal.main_arg35)
          ∧ r.2.mem ((c.tc : Thread Cert.RefAdamSmallIdeal.nD Cert.RefAdamSmallIdeal.τ).loc Cert.RefAdamSmallIdeal.main_arg36) = m' ((c.tc : Thread Cert.RefAdamSmallIdeal.nD Cert.RefAdamSmallIdeal.τ).loc Cert.RefAdamSmallIdeal.main_arg36)
          ∧ r.2.mem ((c.tc : Thread Cert.RefAdamSmallIdeal.nD Cert.RefAdamSmallIdeal.τ).loc Cert.RefAdamSmallIdeal.main_arg37) = m' ((c.tc : Thread Cert.RefAdamSmallIdeal.nD Cert.RefAdamSmallIdeal.τ).loc Cert.RefAdamSmallIdeal.main_arg37)
          ∧ r.2.mem ((c.tc : Thread Cert.RefAdamSmallIdeal.nD Cert.RefAdamSmallIdeal.τ).loc Cert.RefAdamSmallIdeal.main_arg38) = m' ((c.tc : Thread Cert.RefAdamSmallIdeal.nD Cert.RefAdamSmallIdeal.τ).loc Cert.RefAdamSmallIdeal.main_arg38)
          ∧ r.2.mem ((c.tc : Thread Cert.RefAdamSmallIdeal.nD Cert.RefAdamSmallIdeal.τ).loc Cert.RefAdamSmallIdeal.main_arg39) = m' ((c.tc : Thread Cert.RefAdamSmallIdeal.nD Cert.RefAdamSmallIdeal.τ).loc Cert.RefAdamSmallIdeal.main_arg39)
          ∧ r.2.mem ((c.tc : Thread Cert.RefAdamSmallIdeal.nD Cert.RefAdamSmallIdeal.τ).loc Cert.RefAdamSmallIdeal.main_arg40) = m' ((c.tc : Thread Cert.RefAdamSmallIdeal.nD Cert.RefAdamSmallIdeal.τ).loc Cert.RefAdamSmallIdeal.main_arg40)
          ∧ r.2.mem ((c.tc : Thread Cert.RefAdamSmallIdeal.nD Cert.RefAdamSmallIdeal.τ).loc Cert.RefAdamSmallIdeal.main_arg41) = m' ((c.tc : Thread Cert.RefAdamSmallIdeal.nD Cert.RefAdamSmallIdeal.τ).loc Cert.RefAdamSmallIdeal.main_arg41)
          ∧ r.2.mem ((c.tc : Thread Cert.RefAdamSmallIdeal.nD Cert.RefAdamSmallIdeal.τ).loc Cert.RefAdamSmallIdeal.main_arg42) = m' ((c.tc : Thread Cert.RefAdamSmallIdeal.nD Cert.RefAdamSmallIdeal.τ).loc Cert.RefAdamSmallIdeal.main_arg42)
          ∧ r.2.mem ((c.tc : Thread Cert.RefAdamSmallIdeal.nD Cert.RefAdamSmallIdeal.τ).loc Cert.RefAdamSmallIdeal.main_arg43) = m' ((c.tc : Thread Cert.RefAdamSmallIdeal.nD Cert.RefAdamSmallIdeal.τ).loc Cert.RefAdamSmallIdeal.main_arg43)
          ∧ r.2.mem ((c.tc : Thread Cert.RefAdamSmallIdeal.nD Cert.RefAdamSmallIdeal.τ).loc Cert.RefAdamSmallIdeal.main_arg44) = m' ((c.tc : Thread Cert.RefAdamSmallIdeal.nD Cert.RefAdamSmallIdeal.τ).loc Cert.RefAdamSmallIdeal.main_arg44)
          ∧ r.2.mem ((c.tc : Thread Cert.RefAdamSmallIdeal.nD Cert.RefAdamSmallIdeal.τ).loc Cert.RefAdamSmallIdeal.main_arg45) = m' ((c.tc : Thread Cert.RefAdamSmallIdeal.nD Cert.RefAdamSmallIdeal.τ).loc Cert.RefAdamSmallIdeal.main_arg45)
          ∧ r.2.mem ((c.tc : Thread Cert.RefAdamSmallIdeal.nD Cert.RefAdamSmallIdeal.τ).loc Cert.RefAdamSmallIdeal.main_arg46) = m' ((c.tc : Thread Cert.RefAdamSmallIdeal.nD Cert.RefAdamSmallIdeal.τ).loc Cert.RefAdamSmallIdeal.main_arg46)
          ∧ r.2.mem ((c.tc : Thread Cert.RefAdamSmallIdeal.nD Cert.RefAdamSmallIdeal.τ).loc Cert.RefAdamSmallIdeal.main_arg47) = m' ((c.tc : Thread Cert.RefAdamSmallIdeal.nD Cert.RefAdamSmallIdeal.τ).loc Cert.RefAdamSmallIdeal.main_arg47))

def preserves_AdaStep_AdaStepIdeal : Prop :=
  True

def algebraic_AdaStepIdeal_RefAdaStepIdeal [hAdaStepIdeal : Cert.AdaStepIdeal.Facts] [hRefAdaStepIdeal : Cert.RefAdaStepIdeal.Facts] : Prop :=
  ∀ (m : (ℓ : Loc Cert.AdaStepIdeal.nD Cert.AdaStepIdeal.τ Cert.AdaStepIdeal.sig) → Buf (Elt Ideal) ℓ) (g : Dev Cert.AdaStepIdeal.nD → PrngReg)
    (m' : (ℓ : Loc Cert.RefAdaStepIdeal.nD Cert.RefAdaStepIdeal.τ Cert.RefAdaStepIdeal.sig) → Buf (Elt Ideal) ℓ) (g' : Dev Cert.RefAdaStepIdeal.nD → PrngReg), Pre_AdaStepIdeal m →
    (∀ c : Dev Cert.AdaStepIdeal.nD,
      m' ((c.tc : Thread Cert.RefAdaStepIdeal.nD Cert.RefAdaStepIdeal.τ).loc Cert.RefAdaStepIdeal.main_arg0) = m ((c.tc : Thread Cert.AdaStepIdeal.nD Cert.AdaStepIdeal.τ).loc Cert.AdaStepIdeal.main_arg0)
      ∧ m' ((c.tc : Thread Cert.RefAdaStepIdeal.nD Cert.RefAdaStepIdeal.τ).loc Cert.RefAdaStepIdeal.main_arg1) = m ((c.tc : Thread Cert.AdaStepIdeal.nD Cert.AdaStepIdeal.τ).loc Cert.AdaStepIdeal.main_arg1)
      ∧ m' ((c.tc : Thread Cert.RefAdaStepIdeal.nD Cert.RefAdaStepIdeal.τ).loc Cert.RefAdaStepIdeal.main_arg2) = m ((c.tc : Thread Cert.AdaStepIdeal.nD Cert.AdaStepIdeal.τ).loc Cert.AdaStepIdeal.main_arg2)
      ∧ m' ((c.tc : Thread Cert.RefAdaStepIdeal.nD Cert.RefAdaStepIdeal.τ).loc Cert.RefAdaStepIdeal.main_arg3) = m ((c.tc : Thread Cert.AdaStepIdeal.nD Cert.AdaStepIdeal.τ).loc Cert.AdaStepIdeal.main_arg3)
      ∧ m' ((c.tc : Thread Cert.RefAdaStepIdeal.nD Cert.RefAdaStepIdeal.τ).loc Cert.RefAdaStepIdeal.main_arg4) = m ((c.tc : Thread Cert.AdaStepIdeal.nD Cert.AdaStepIdeal.τ).loc Cert.AdaStepIdeal.main_arg4)) →
    ∃ (v0 : (c : Dev Cert.AdaStepIdeal.nD) → Buf (Elt Ideal) ((c.tc : Thread Cert.AdaStepIdeal.nD Cert.AdaStepIdeal.τ).loc Cert.AdaStepIdeal.main_v0_0)) (v1 : (c : Dev Cert.AdaStepIdeal.nD) → Buf (Elt Ideal) ((c.tc : Thread Cert.AdaStepIdeal.nD Cert.AdaStepIdeal.τ).loc Cert.AdaStepIdeal.main_v0_1)) (v2 : (c : Dev Cert.AdaStepIdeal.nD) → Buf (Elt Ideal) ((c.tc : Thread Cert.AdaStepIdeal.nD Cert.AdaStepIdeal.τ).loc Cert.AdaStepIdeal.main_v0_2)) (v3 : (c : Dev Cert.AdaStepIdeal.nD) → Buf (Elt Ideal) ((c.tc : Thread Cert.AdaStepIdeal.nD Cert.AdaStepIdeal.τ).loc Cert.AdaStepIdeal.main_v0_3)) (v4 : (c : Dev Cert.AdaStepIdeal.nD) → Buf (Elt Ideal) ((c.tc : Thread Cert.AdaStepIdeal.nD Cert.AdaStepIdeal.τ).loc Cert.AdaStepIdeal.main_v0_4)),
      θ_run (Cert.AdaStepIdeal.defs (F := Ideal)) (onTc (τ := Cert.AdaStepIdeal.τ) (Cert.AdaStepIdeal.main (F := Ideal))) ⟨m, fun _ => 0, g⟩ (fun r => ∀ c : Dev Cert.AdaStepIdeal.nD,
          r.2.mem ((c.tc : Thread Cert.AdaStepIdeal.nD Cert.AdaStepIdeal.τ).loc Cert.AdaStepIdeal.main_v0_0) = v0 c
          ∧ r.2.mem ((c.tc : Thread Cert.AdaStepIdeal.nD Cert.AdaStepIdeal.τ).loc Cert.AdaStepIdeal.main_v0_1) = v1 c
          ∧ r.2.mem ((c.tc : Thread Cert.AdaStepIdeal.nD Cert.AdaStepIdeal.τ).loc Cert.AdaStepIdeal.main_v0_2) = v2 c
          ∧ r.2.mem ((c.tc : Thread Cert.AdaStepIdeal.nD Cert.AdaStepIdeal.τ).loc Cert.AdaStepIdeal.main_v0_3) = v3 c
          ∧ r.2.mem ((c.tc : Thread Cert.AdaStepIdeal.nD Cert.AdaStepIdeal.τ).loc Cert.AdaStepIdeal.main_v0_4) = v4 c
          ∧ r.2.mem ((c.tc : Thread Cert.AdaStepIdeal.nD Cert.AdaStepIdeal.τ).loc Cert.AdaStepIdeal.main_arg0) = m ((c.tc : Thread Cert.AdaStepIdeal.nD Cert.AdaStepIdeal.τ).loc Cert.AdaStepIdeal.main_arg0)
          ∧ r.2.mem ((c.tc : Thread Cert.AdaStepIdeal.nD Cert.AdaStepIdeal.τ).loc Cert.AdaStepIdeal.main_arg1) = m ((c.tc : Thread Cert.AdaStepIdeal.nD Cert.AdaStepIdeal.τ).loc Cert.AdaStepIdeal.main_arg1)
          ∧ r.2.mem ((c.tc : Thread Cert.AdaStepIdeal.nD Cert.AdaStepIdeal.τ).loc Cert.AdaStepIdeal.main_arg2) = m ((c.tc : Thread Cert.AdaStepIdeal.nD Cert.AdaStepIdeal.τ).loc Cert.AdaStepIdeal.main_arg2)
          ∧ r.2.mem ((c.tc : Thread Cert.AdaStepIdeal.nD Cert.AdaStepIdeal.τ).loc Cert.AdaStepIdeal.main_arg3) = m ((c.tc : Thread Cert.AdaStepIdeal.nD Cert.AdaStepIdeal.τ).loc Cert.AdaStepIdeal.main_arg3)
          ∧ r.2.mem ((c.tc : Thread Cert.AdaStepIdeal.nD Cert.AdaStepIdeal.τ).loc Cert.AdaStepIdeal.main_arg4) = m ((c.tc : Thread Cert.AdaStepIdeal.nD Cert.AdaStepIdeal.τ).loc Cert.AdaStepIdeal.main_arg4))
      ∧ θ_run (Cert.RefAdaStepIdeal.defs (F := Ideal)) (onTc (τ := Cert.RefAdaStepIdeal.τ) (Cert.RefAdaStepIdeal.main (F := Ideal))) ⟨m', fun _ => 0, g'⟩ (fun r => ∀ c : Dev Cert.RefAdaStepIdeal.nD,
          r.2.mem ((c.tc : Thread Cert.RefAdaStepIdeal.nD Cert.RefAdaStepIdeal.τ).loc Cert.RefAdaStepIdeal.main_v6) = v0 c
          ∧ r.2.mem ((c.tc : Thread Cert.RefAdaStepIdeal.nD Cert.RefAdaStepIdeal.τ).loc Cert.RefAdaStepIdeal.main_v30) = v1 c
          ∧ r.2.mem ((c.tc : Thread Cert.RefAdaStepIdeal.nD Cert.RefAdaStepIdeal.τ).loc Cert.RefAdaStepIdeal.main_v11) = v2 c
          ∧ r.2.mem ((c.tc : Thread Cert.RefAdaStepIdeal.nD Cert.RefAdaStepIdeal.τ).loc Cert.RefAdaStepIdeal.main_v17) = v3 c
          ∧ r.2.mem ((c.tc : Thread Cert.RefAdaStepIdeal.nD Cert.RefAdaStepIdeal.τ).loc Cert.RefAdaStepIdeal.main_v4) = v4 c
          ∧ r.2.mem ((c.tc : Thread Cert.RefAdaStepIdeal.nD Cert.RefAdaStepIdeal.τ).loc Cert.RefAdaStepIdeal.main_arg0) = m' ((c.tc : Thread Cert.RefAdaStepIdeal.nD Cert.RefAdaStepIdeal.τ).loc Cert.RefAdaStepIdeal.main_arg0)
          ∧ r.2.mem ((c.tc : Thread Cert.RefAdaStepIdeal.nD Cert.RefAdaStepIdeal.τ).loc Cert.RefAdaStepIdeal.main_arg1) = m' ((c.tc : Thread Cert.RefAdaStepIdeal.nD Cert.RefAdaStepIdeal.τ).loc Cert.RefAdaStepIdeal.main_arg1)
          ∧ r.2.mem ((c.tc : Thread Cert.RefAdaStepIdeal.nD Cert.RefAdaStepIdeal.τ).loc Cert.RefAdaStepIdeal.main_arg2) = m' ((c.tc : Thread Cert.RefAdaStepIdeal.nD Cert.RefAdaStepIdeal.τ).loc Cert.RefAdaStepIdeal.main_arg2)
          ∧ r.2.mem ((c.tc : Thread Cert.RefAdaStepIdeal.nD Cert.RefAdaStepIdeal.τ).loc Cert.RefAdaStepIdeal.main_arg3) = m' ((c.tc : Thread Cert.RefAdaStepIdeal.nD Cert.RefAdaStepIdeal.τ).loc Cert.RefAdaStepIdeal.main_arg3)
          ∧ r.2.mem ((c.tc : Thread Cert.RefAdaStepIdeal.nD Cert.RefAdaStepIdeal.τ).loc Cert.RefAdaStepIdeal.main_arg4) = m' ((c.tc : Thread Cert.RefAdaStepIdeal.nD Cert.RefAdaStepIdeal.τ).loc Cert.RefAdaStepIdeal.main_arg4))

def preserves_AdamFfn_AdamFfnIdeal : Prop :=
  True

def algebraic_AdamFfnIdeal_RefAdamFfnIdeal [hAdamFfnIdeal : Cert.AdamFfnIdeal.Facts] [hRefAdamFfnIdeal : Cert.RefAdamFfnIdeal.Facts] : Prop :=
  ∀ (m : (ℓ : Loc Cert.AdamFfnIdeal.nD Cert.AdamFfnIdeal.τ Cert.AdamFfnIdeal.sig) → Buf (Elt Ideal) ℓ) (g : Dev Cert.AdamFfnIdeal.nD → PrngReg)
    (m' : (ℓ : Loc Cert.RefAdamFfnIdeal.nD Cert.RefAdamFfnIdeal.τ Cert.RefAdamFfnIdeal.sig) → Buf (Elt Ideal) ℓ) (g' : Dev Cert.RefAdamFfnIdeal.nD → PrngReg), Pre_AdamFfnIdeal m →
    (∀ c : Dev Cert.AdamFfnIdeal.nD,
      m' ((c.tc : Thread Cert.RefAdamFfnIdeal.nD Cert.RefAdamFfnIdeal.τ).loc Cert.RefAdamFfnIdeal.main_arg0) = m ((c.tc : Thread Cert.AdamFfnIdeal.nD Cert.AdamFfnIdeal.τ).loc Cert.AdamFfnIdeal.main_arg0)
      ∧ m' ((c.tc : Thread Cert.RefAdamFfnIdeal.nD Cert.RefAdamFfnIdeal.τ).loc Cert.RefAdamFfnIdeal.main_arg1) = m ((c.tc : Thread Cert.AdamFfnIdeal.nD Cert.AdamFfnIdeal.τ).loc Cert.AdamFfnIdeal.main_arg1)
      ∧ m' ((c.tc : Thread Cert.RefAdamFfnIdeal.nD Cert.RefAdamFfnIdeal.τ).loc Cert.RefAdamFfnIdeal.main_arg2) = m ((c.tc : Thread Cert.AdamFfnIdeal.nD Cert.AdamFfnIdeal.τ).loc Cert.AdamFfnIdeal.main_arg2)
      ∧ m' ((c.tc : Thread Cert.RefAdamFfnIdeal.nD Cert.RefAdamFfnIdeal.τ).loc Cert.RefAdamFfnIdeal.main_arg3) = m ((c.tc : Thread Cert.AdamFfnIdeal.nD Cert.AdamFfnIdeal.τ).loc Cert.AdamFfnIdeal.main_arg3)
      ∧ m' ((c.tc : Thread Cert.RefAdamFfnIdeal.nD Cert.RefAdamFfnIdeal.τ).loc Cert.RefAdamFfnIdeal.main_arg4) = m ((c.tc : Thread Cert.AdamFfnIdeal.nD Cert.AdamFfnIdeal.τ).loc Cert.AdamFfnIdeal.main_arg4)
      ∧ m' ((c.tc : Thread Cert.RefAdamFfnIdeal.nD Cert.RefAdamFfnIdeal.τ).loc Cert.RefAdamFfnIdeal.main_arg5) = m ((c.tc : Thread Cert.AdamFfnIdeal.nD Cert.AdamFfnIdeal.τ).loc Cert.AdamFfnIdeal.main_arg5)
      ∧ m' ((c.tc : Thread Cert.RefAdamFfnIdeal.nD Cert.RefAdamFfnIdeal.τ).loc Cert.RefAdamFfnIdeal.main_arg6) = m ((c.tc : Thread Cert.AdamFfnIdeal.nD Cert.AdamFfnIdeal.τ).loc Cert.AdamFfnIdeal.main_arg6)
      ∧ m' ((c.tc : Thread Cert.RefAdamFfnIdeal.nD Cert.RefAdamFfnIdeal.τ).loc Cert.RefAdamFfnIdeal.main_arg7) = m ((c.tc : Thread Cert.AdamFfnIdeal.nD Cert.AdamFfnIdeal.τ).loc Cert.AdamFfnIdeal.main_arg7)
      ∧ m' ((c.tc : Thread Cert.RefAdamFfnIdeal.nD Cert.RefAdamFfnIdeal.τ).loc Cert.RefAdamFfnIdeal.main_arg8) = m ((c.tc : Thread Cert.AdamFfnIdeal.nD Cert.AdamFfnIdeal.τ).loc Cert.AdamFfnIdeal.main_arg8)) →
    ∃ (v0 : (c : Dev Cert.AdamFfnIdeal.nD) → Buf (Elt Ideal) ((c.tc : Thread Cert.AdamFfnIdeal.nD Cert.AdamFfnIdeal.τ).loc Cert.AdamFfnIdeal.main_v0_0)) (v1 : (c : Dev Cert.AdamFfnIdeal.nD) → Buf (Elt Ideal) ((c.tc : Thread Cert.AdamFfnIdeal.nD Cert.AdamFfnIdeal.τ).loc Cert.AdamFfnIdeal.main_v0_1)) (v2 : (c : Dev Cert.AdamFfnIdeal.nD) → Buf (Elt Ideal) ((c.tc : Thread Cert.AdamFfnIdeal.nD Cert.AdamFfnIdeal.τ).loc Cert.AdamFfnIdeal.main_v0_2)) (v3 : (c : Dev Cert.AdamFfnIdeal.nD) → Buf (Elt Ideal) ((c.tc : Thread Cert.AdamFfnIdeal.nD Cert.AdamFfnIdeal.τ).loc Cert.AdamFfnIdeal.main_v0_3)),
      θ_run (Cert.AdamFfnIdeal.defs (F := Ideal)) (onTc (τ := Cert.AdamFfnIdeal.τ) (Cert.AdamFfnIdeal.main (F := Ideal))) ⟨m, fun _ => 0, g⟩ (fun r => ∀ c : Dev Cert.AdamFfnIdeal.nD,
          r.2.mem ((c.tc : Thread Cert.AdamFfnIdeal.nD Cert.AdamFfnIdeal.τ).loc Cert.AdamFfnIdeal.main_v0_0) = v0 c
          ∧ r.2.mem ((c.tc : Thread Cert.AdamFfnIdeal.nD Cert.AdamFfnIdeal.τ).loc Cert.AdamFfnIdeal.main_v0_1) = v1 c
          ∧ r.2.mem ((c.tc : Thread Cert.AdamFfnIdeal.nD Cert.AdamFfnIdeal.τ).loc Cert.AdamFfnIdeal.main_v0_2) = v2 c
          ∧ r.2.mem ((c.tc : Thread Cert.AdamFfnIdeal.nD Cert.AdamFfnIdeal.τ).loc Cert.AdamFfnIdeal.main_v0_3) = v3 c
          ∧ r.2.mem ((c.tc : Thread Cert.AdamFfnIdeal.nD Cert.AdamFfnIdeal.τ).loc Cert.AdamFfnIdeal.main_arg0) = m ((c.tc : Thread Cert.AdamFfnIdeal.nD Cert.AdamFfnIdeal.τ).loc Cert.AdamFfnIdeal.main_arg0)
          ∧ r.2.mem ((c.tc : Thread Cert.AdamFfnIdeal.nD Cert.AdamFfnIdeal.τ).loc Cert.AdamFfnIdeal.main_arg1) = m ((c.tc : Thread Cert.AdamFfnIdeal.nD Cert.AdamFfnIdeal.τ).loc Cert.AdamFfnIdeal.main_arg1)
          ∧ r.2.mem ((c.tc : Thread Cert.AdamFfnIdeal.nD Cert.AdamFfnIdeal.τ).loc Cert.AdamFfnIdeal.main_arg2) = m ((c.tc : Thread Cert.AdamFfnIdeal.nD Cert.AdamFfnIdeal.τ).loc Cert.AdamFfnIdeal.main_arg2)
          ∧ r.2.mem ((c.tc : Thread Cert.AdamFfnIdeal.nD Cert.AdamFfnIdeal.τ).loc Cert.AdamFfnIdeal.main_arg3) = m ((c.tc : Thread Cert.AdamFfnIdeal.nD Cert.AdamFfnIdeal.τ).loc Cert.AdamFfnIdeal.main_arg3)
          ∧ r.2.mem ((c.tc : Thread Cert.AdamFfnIdeal.nD Cert.AdamFfnIdeal.τ).loc Cert.AdamFfnIdeal.main_arg4) = m ((c.tc : Thread Cert.AdamFfnIdeal.nD Cert.AdamFfnIdeal.τ).loc Cert.AdamFfnIdeal.main_arg4)
          ∧ r.2.mem ((c.tc : Thread Cert.AdamFfnIdeal.nD Cert.AdamFfnIdeal.τ).loc Cert.AdamFfnIdeal.main_arg5) = m ((c.tc : Thread Cert.AdamFfnIdeal.nD Cert.AdamFfnIdeal.τ).loc Cert.AdamFfnIdeal.main_arg5)
          ∧ r.2.mem ((c.tc : Thread Cert.AdamFfnIdeal.nD Cert.AdamFfnIdeal.τ).loc Cert.AdamFfnIdeal.main_arg6) = m ((c.tc : Thread Cert.AdamFfnIdeal.nD Cert.AdamFfnIdeal.τ).loc Cert.AdamFfnIdeal.main_arg6)
          ∧ r.2.mem ((c.tc : Thread Cert.AdamFfnIdeal.nD Cert.AdamFfnIdeal.τ).loc Cert.AdamFfnIdeal.main_arg7) = m ((c.tc : Thread Cert.AdamFfnIdeal.nD Cert.AdamFfnIdeal.τ).loc Cert.AdamFfnIdeal.main_arg7)
          ∧ r.2.mem ((c.tc : Thread Cert.AdamFfnIdeal.nD Cert.AdamFfnIdeal.τ).loc Cert.AdamFfnIdeal.main_arg8) = m ((c.tc : Thread Cert.AdamFfnIdeal.nD Cert.AdamFfnIdeal.τ).loc Cert.AdamFfnIdeal.main_arg8))
      ∧ θ_run (Cert.RefAdamFfnIdeal.defs (F := Ideal)) (onTc (τ := Cert.RefAdamFfnIdeal.τ) (Cert.RefAdamFfnIdeal.main (F := Ideal))) ⟨m', fun _ => 0, g'⟩ (fun r => ∀ c : Dev Cert.RefAdamFfnIdeal.nD,
          r.2.mem ((c.tc : Thread Cert.RefAdamFfnIdeal.nD Cert.RefAdamFfnIdeal.τ).loc Cert.RefAdamFfnIdeal.main_v35) = v0 c
          ∧ r.2.mem ((c.tc : Thread Cert.RefAdamFfnIdeal.nD Cert.RefAdamFfnIdeal.τ).loc Cert.RefAdamFfnIdeal.main_v38) = v1 c
          ∧ r.2.mem ((c.tc : Thread Cert.RefAdamFfnIdeal.nD Cert.RefAdamFfnIdeal.τ).loc Cert.RefAdamFfnIdeal.main_v41) = v2 c
          ∧ r.2.mem ((c.tc : Thread Cert.RefAdamFfnIdeal.nD Cert.RefAdamFfnIdeal.τ).loc Cert.RefAdamFfnIdeal.main_v44) = v3 c
          ∧ r.2.mem ((c.tc : Thread Cert.RefAdamFfnIdeal.nD Cert.RefAdamFfnIdeal.τ).loc Cert.RefAdamFfnIdeal.main_arg0) = m' ((c.tc : Thread Cert.RefAdamFfnIdeal.nD Cert.RefAdamFfnIdeal.τ).loc Cert.RefAdamFfnIdeal.main_arg0)
          ∧ r.2.mem ((c.tc : Thread Cert.RefAdamFfnIdeal.nD Cert.RefAdamFfnIdeal.τ).loc Cert.RefAdamFfnIdeal.main_arg1) = m' ((c.tc : Thread Cert.RefAdamFfnIdeal.nD Cert.RefAdamFfnIdeal.τ).loc Cert.RefAdamFfnIdeal.main_arg1)
          ∧ r.2.mem ((c.tc : Thread Cert.RefAdamFfnIdeal.nD Cert.RefAdamFfnIdeal.τ).loc Cert.RefAdamFfnIdeal.main_arg2) = m' ((c.tc : Thread Cert.RefAdamFfnIdeal.nD Cert.RefAdamFfnIdeal.τ).loc Cert.RefAdamFfnIdeal.main_arg2)
          ∧ r.2.mem ((c.tc : Thread Cert.RefAdamFfnIdeal.nD Cert.RefAdamFfnIdeal.τ).loc Cert.RefAdamFfnIdeal.main_arg3) = m' ((c.tc : Thread Cert.RefAdamFfnIdeal.nD Cert.RefAdamFfnIdeal.τ).loc Cert.RefAdamFfnIdeal.main_arg3)
          ∧ r.2.mem ((c.tc : Thread Cert.RefAdamFfnIdeal.nD Cert.RefAdamFfnIdeal.τ).loc Cert.RefAdamFfnIdeal.main_arg4) = m' ((c.tc : Thread Cert.RefAdamFfnIdeal.nD Cert.RefAdamFfnIdeal.τ).loc Cert.RefAdamFfnIdeal.main_arg4)
          ∧ r.2.mem ((c.tc : Thread Cert.RefAdamFfnIdeal.nD Cert.RefAdamFfnIdeal.τ).loc Cert.RefAdamFfnIdeal.main_arg5) = m' ((c.tc : Thread Cert.RefAdamFfnIdeal.nD Cert.RefAdamFfnIdeal.τ).loc Cert.RefAdamFfnIdeal.main_arg5)
          ∧ r.2.mem ((c.tc : Thread Cert.RefAdamFfnIdeal.nD Cert.RefAdamFfnIdeal.τ).loc Cert.RefAdamFfnIdeal.main_arg6) = m' ((c.tc : Thread Cert.RefAdamFfnIdeal.nD Cert.RefAdamFfnIdeal.τ).loc Cert.RefAdamFfnIdeal.main_arg6)
          ∧ r.2.mem ((c.tc : Thread Cert.RefAdamFfnIdeal.nD Cert.RefAdamFfnIdeal.τ).loc Cert.RefAdamFfnIdeal.main_arg7) = m' ((c.tc : Thread Cert.RefAdamFfnIdeal.nD Cert.RefAdamFfnIdeal.τ).loc Cert.RefAdamFfnIdeal.main_arg7)
          ∧ r.2.mem ((c.tc : Thread Cert.RefAdamFfnIdeal.nD Cert.RefAdamFfnIdeal.τ).loc Cert.RefAdamFfnIdeal.main_arg8) = m' ((c.tc : Thread Cert.RefAdamFfnIdeal.nD Cert.RefAdamFfnIdeal.τ).loc Cert.RefAdamFfnIdeal.main_arg8))

def preserves_AdamIn_AdamInIdeal : Prop :=
  True

def algebraic_AdamInIdeal_RefAdamInIdeal [hAdamInIdeal : Cert.AdamInIdeal.Facts] [hRefAdamInIdeal : Cert.RefAdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.RefAdamInIdeal.nD Cert.RefAdamInIdeal.τ Cert.RefAdamInIdeal.sig) → Buf (Elt Ideal) ℓ) (g' : Dev Cert.RefAdamInIdeal.nD → PrngReg), Pre_AdamInIdeal m →
    (∀ c : Dev Cert.AdamInIdeal.nD,
      m' ((c.tc : Thread Cert.RefAdamInIdeal.nD Cert.RefAdamInIdeal.τ).loc Cert.RefAdamInIdeal.main_arg0) = m ((c.tc : Thread Cert.AdamInIdeal.nD Cert.AdamInIdeal.τ).loc Cert.AdamInIdeal.main_arg0)
      ∧ m' ((c.tc : Thread Cert.RefAdamInIdeal.nD Cert.RefAdamInIdeal.τ).loc Cert.RefAdamInIdeal.main_arg1) = m ((c.tc : Thread Cert.AdamInIdeal.nD Cert.AdamInIdeal.τ).loc Cert.AdamInIdeal.main_arg1)
      ∧ m' ((c.tc : Thread Cert.RefAdamInIdeal.nD Cert.RefAdamInIdeal.τ).loc Cert.RefAdamInIdeal.main_arg2) = m ((c.tc : Thread Cert.AdamInIdeal.nD Cert.AdamInIdeal.τ).loc Cert.AdamInIdeal.main_arg2)
      ∧ m' ((c.tc : Thread Cert.RefAdamInIdeal.nD Cert.RefAdamInIdeal.τ).loc Cert.RefAdamInIdeal.main_arg3) = m ((c.tc : Thread Cert.AdamInIdeal.nD Cert.AdamInIdeal.τ).loc Cert.AdamInIdeal.main_arg3)
      ∧ m' ((c.tc : Thread Cert.RefAdamInIdeal.nD Cert.RefAdamInIdeal.τ).loc Cert.RefAdamInIdeal.main_arg4) = m ((c.tc : Thread Cert.AdamInIdeal.nD Cert.AdamInIdeal.τ).loc Cert.AdamInIdeal.main_arg4)
      ∧ m' ((c.tc : Thread Cert.RefAdamInIdeal.nD Cert.RefAdamInIdeal.τ).loc Cert.RefAdamInIdeal.main_arg5) = m ((c.tc : Thread Cert.AdamInIdeal.nD Cert.AdamInIdeal.τ).loc Cert.AdamInIdeal.main_arg5)
      ∧ m' ((c.tc : Thread Cert.RefAdamInIdeal.nD Cert.RefAdamInIdeal.τ).loc Cert.RefAdamInIdeal.main_arg6) = m ((c.tc : Thread Cert.AdamInIdeal.nD Cert.AdamInIdeal.τ).loc Cert.AdamInIdeal.main_arg6)
      ∧ m' ((c.tc : Thread Cert.RefAdamInIdeal.nD Cert.RefAdamInIdeal.τ).loc Cert.RefAdamInIdeal.main_arg7) = m ((c.tc : Thread Cert.AdamInIdeal.nD Cert.AdamInIdeal.τ).loc Cert.AdamInIdeal.main_arg7)
      ∧ m' ((c.tc : Thread Cert.RefAdamInIdeal.nD Cert.RefAdamInIdeal.τ).loc Cert.RefAdamInIdeal.main_arg8) = m ((c.tc : Thread Cert.AdamInIdeal.nD Cert.AdamInIdeal.τ).loc Cert.AdamInIdeal.main_arg8)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
          ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5)
          ∧ r.2.mem ((c.tc : Thread Cert.AdamInIdeal.nD Cert.AdamInIdeal.τ).loc Cert.AdamInIdeal.main_arg6) = m ((c.tc : Thread Cert.AdamInIdeal.nD Cert.AdamInIdeal.τ).loc Cert.AdamInIdeal.main_arg6)
          ∧ r.2.mem ((c.tc : Thread Cert.AdamInIdeal.nD Cert.AdamInIdeal.τ).loc Cert.AdamInIdeal.main_arg7) = m ((c.tc : Thread Cert.AdamInIdeal.nD Cert.AdamInIdeal.τ).loc Cert.AdamInIdeal.main_arg7)
          ∧ r.2.mem ((c.tc : Thread Cert.AdamInIdeal.nD Cert.AdamInIdeal.τ).loc Cert.AdamInIdeal.main_arg8) = m ((c.tc : Thread Cert.AdamInIdeal.nD Cert.AdamInIdeal.τ).loc Cert.AdamInIdeal.main_arg8))
      ∧ θ_run (Cert.RefAdamInIdeal.defs (F := Ideal)) (onTc (τ := Cert.RefAdamInIdeal.τ) (Cert.RefAdamInIdeal.main (F := Ideal))) ⟨m', fun _ => 0, g'⟩ (fun r => ∀ c : Dev Cert.RefAdamInIdeal.nD,
          r.2.mem ((c.tc : Thread Cert.RefAdamInIdeal.nD Cert.RefAdamInIdeal.τ).loc Cert.RefAdamInIdeal.main_v35) = v0 c
          ∧ r.2.mem ((c.tc : Thread Cert.RefAdamInIdeal.nD Cert.RefAdamInIdeal.τ).loc Cert.RefAdamInIdeal.main_v38) = v1 c
          ∧ r.2.mem ((c.tc : Thread Cert.RefAdamInIdeal.nD Cert.RefAdamInIdeal.τ).loc Cert.RefAdamInIdeal.main_v41) = v2 c
          ∧ r.2.mem ((c.tc : Thread Cert.RefAdamInIdeal.nD Cert.RefAdamInIdeal.τ).loc Cert.RefAdamInIdeal.main_v44) = v3 c
          ∧ r.2.mem ((c.tc : Thread Cert.RefAdamInIdeal.nD Cert.RefAdamInIdeal.τ).loc Cert.RefAdamInIdeal.main_arg0) = m' ((c.tc : Thread Cert.RefAdamInIdeal.nD Cert.RefAdamInIdeal.τ).loc Cert.RefAdamInIdeal.main_arg0)
          ∧ r.2.mem ((c.tc : Thread Cert.RefAdamInIdeal.nD Cert.RefAdamInIdeal.τ).loc Cert.RefAdamInIdeal.main_arg1) = m' ((c.tc : Thread Cert.RefAdamInIdeal.nD Cert.RefAdamInIdeal.τ).loc Cert.RefAdamInIdeal.main_arg1)
          ∧ r.2.mem ((c.tc : Thread Cert.RefAdamInIdeal.nD Cert.RefAdamInIdeal.τ).loc Cert.RefAdamInIdeal.main_arg2) = m' ((c.tc : Thread Cert.RefAdamInIdeal.nD Cert.RefAdamInIdeal.τ).loc Cert.RefAdamInIdeal.main_arg2)
          ∧ r.2.mem ((c.tc : Thread Cert.RefAdamInIdeal.nD Cert.RefAdamInIdeal.τ).loc Cert.RefAdamInIdeal.main_arg3) = m' ((c.tc : Thread Cert.RefAdamInIdeal.nD Cert.RefAdamInIdeal.τ).loc Cert.RefAdamInIdeal.main_arg3)
          ∧ r.2.mem ((c.tc : Thread Cert.RefAdamInIdeal.nD Cert.RefAdamInIdeal.τ).loc Cert.RefAdamInIdeal.main_arg4) = m' ((c.tc : Thread Cert.RefAdamInIdeal.nD Cert.RefAdamInIdeal.τ).loc Cert.RefAdamInIdeal.main_arg4)
          ∧ r.2.mem ((c.tc : Thread Cert.RefAdamInIdeal.nD Cert.RefAdamInIdeal.τ).loc Cert.RefAdamInIdeal.main_arg5) = m' ((c.tc : Thread Cert.RefAdamInIdeal.nD Cert.RefAdamInIdeal.τ).loc Cert.RefAdamInIdeal.main_arg5)
          ∧ r.2.mem ((c.tc : Thread Cert.RefAdamInIdeal.nD Cert.RefAdamInIdeal.τ).loc Cert.RefAdamInIdeal.main_arg6) = m' ((c.tc : Thread Cert.RefAdamInIdeal.nD Cert.RefAdamInIdeal.τ).loc Cert.RefAdamInIdeal.main_arg6)
          ∧ r.2.mem ((c.tc : Thread Cert.RefAdamInIdeal.nD Cert.RefAdamInIdeal.τ).loc Cert.RefAdamInIdeal.main_arg7) = m' ((c.tc : Thread Cert.RefAdamInIdeal.nD Cert.RefAdamInIdeal.τ).loc Cert.RefAdamInIdeal.main_arg7)
          ∧ r.2.mem ((c.tc : Thread Cert.RefAdamInIdeal.nD Cert.RefAdamInIdeal.τ).loc Cert.RefAdamInIdeal.main_arg8) = m' ((c.tc : Thread Cert.RefAdamInIdeal.nD Cert.RefAdamInIdeal.τ).loc Cert.RefAdamInIdeal.main_arg8))

def preserves_AdamOut_AdamOutIdeal : Prop :=
  True

def algebraic_AdamOutIdeal_RefAdamOutIdeal [hAdamOutIdeal : Cert.AdamOutIdeal.Facts] [hRefAdamOutIdeal : Cert.RefAdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.RefAdamOutIdeal.nD Cert.RefAdamOutIdeal.τ Cert.RefAdamOutIdeal.sig) → Buf (Elt Ideal) ℓ) (g' : Dev Cert.RefAdamOutIdeal.nD → PrngReg), Pre_AdamOutIdeal m →
    (∀ c : Dev Cert.AdamOutIdeal.nD,
      m' ((c.tc : Thread Cert.RefAdamOutIdeal.nD Cert.RefAdamOutIdeal.τ).loc Cert.RefAdamOutIdeal.main_arg0) = m ((c.tc : Thread Cert.AdamOutIdeal.nD Cert.AdamOutIdeal.τ).loc Cert.AdamOutIdeal.main_arg0)
      ∧ m' ((c.tc : Thread Cert.RefAdamOutIdeal.nD Cert.RefAdamOutIdeal.τ).loc Cert.RefAdamOutIdeal.main_arg1) = m ((c.tc : Thread Cert.AdamOutIdeal.nD Cert.AdamOutIdeal.τ).loc Cert.AdamOutIdeal.main_arg1)
      ∧ m' ((c.tc : Thread Cert.RefAdamOutIdeal.nD Cert.RefAdamOutIdeal.τ).loc Cert.RefAdamOutIdeal.main_arg2) = m ((c.tc : Thread Cert.AdamOutIdeal.nD Cert.AdamOutIdeal.τ).loc Cert.AdamOutIdeal.main_arg2)
      ∧ m' ((c.tc : Thread Cert.RefAdamOutIdeal.nD Cert.RefAdamOutIdeal.τ).loc Cert.RefAdamOutIdeal.main_arg3) = m ((c.tc : Thread Cert.AdamOutIdeal.nD Cert.AdamOutIdeal.τ).loc Cert.AdamOutIdeal.main_arg3)
      ∧ m' ((c.tc : Thread Cert.RefAdamOutIdeal.nD Cert.RefAdamOutIdeal.τ).loc Cert.RefAdamOutIdeal.main_arg4) = m ((c.tc : Thread Cert.AdamOutIdeal.nD Cert.AdamOutIdeal.τ).loc Cert.AdamOutIdeal.main_arg4)
      ∧ m' ((c.tc : Thread Cert.RefAdamOutIdeal.nD Cert.RefAdamOutIdeal.τ).loc Cert.RefAdamOutIdeal.main_arg5) = m ((c.tc : Thread Cert.AdamOutIdeal.nD Cert.AdamOutIdeal.τ).loc Cert.AdamOutIdeal.main_arg5)
      ∧ m' ((c.tc : Thread Cert.RefAdamOutIdeal.nD Cert.RefAdamOutIdeal.τ).loc Cert.RefAdamOutIdeal.main_arg6) = m ((c.tc : Thread Cert.AdamOutIdeal.nD Cert.AdamOutIdeal.τ).loc Cert.AdamOutIdeal.main_arg6)
      ∧ m' ((c.tc : Thread Cert.RefAdamOutIdeal.nD Cert.RefAdamOutIdeal.τ).loc Cert.RefAdamOutIdeal.main_arg7) = m ((c.tc : Thread Cert.AdamOutIdeal.nD Cert.AdamOutIdeal.τ).loc Cert.AdamOutIdeal.main_arg7)
      ∧ m' ((c.tc : Thread Cert.RefAdamOutIdeal.nD Cert.RefAdamOutIdeal.τ).loc Cert.RefAdamOutIdeal.main_arg8) = m ((c.tc : Thread Cert.AdamOutIdeal.nD Cert.AdamOutIdeal.τ).loc Cert.AdamOutIdeal.main_arg8)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
          ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5)
          ∧ r.2.mem ((c.tc : Thread Cert.AdamOutIdeal.nD Cert.AdamOutIdeal.τ).loc Cert.AdamOutIdeal.main_arg6) = m ((c.tc : Thread Cert.AdamOutIdeal.nD Cert.AdamOutIdeal.τ).loc Cert.AdamOutIdeal.main_arg6)
          ∧ r.2.mem ((c.tc : Thread Cert.AdamOutIdeal.nD Cert.AdamOutIdeal.τ).loc Cert.AdamOutIdeal.main_arg7) = m ((c.tc : Thread Cert.AdamOutIdeal.nD Cert.AdamOutIdeal.τ).loc Cert.AdamOutIdeal.main_arg7)
          ∧ r.2.mem ((c.tc : Thread Cert.AdamOutIdeal.nD Cert.AdamOutIdeal.τ).loc Cert.AdamOutIdeal.main_arg8) = m ((c.tc : Thread Cert.AdamOutIdeal.nD Cert.AdamOutIdeal.τ).loc Cert.AdamOutIdeal.main_arg8))
      ∧ θ_run (Cert.RefAdamOutIdeal.defs (F := Ideal)) (onTc (τ := Cert.RefAdamOutIdeal.τ) (Cert.RefAdamOutIdeal.main (F := Ideal))) ⟨m', fun _ => 0, g'⟩ (fun r => ∀ c : Dev Cert.RefAdamOutIdeal.nD,
          r.2.mem ((c.tc : Thread Cert.RefAdamOutIdeal.nD Cert.RefAdamOutIdeal.τ).loc Cert.RefAdamOutIdeal.main_v35) = v0 c
          ∧ r.2.mem ((c.tc : Thread Cert.RefAdamOutIdeal.nD Cert.RefAdamOutIdeal.τ).loc Cert.RefAdamOutIdeal.main_v38) = v1 c
          ∧ r.2.mem ((c.tc : Thread Cert.RefAdamOutIdeal.nD Cert.RefAdamOutIdeal.τ).loc Cert.RefAdamOutIdeal.main_v41) = v2 c
          ∧ r.2.mem ((c.tc : Thread Cert.RefAdamOutIdeal.nD Cert.RefAdamOutIdeal.τ).loc Cert.RefAdamOutIdeal.main_v44) = v3 c
          ∧ r.2.mem ((c.tc : Thread Cert.RefAdamOutIdeal.nD Cert.RefAdamOutIdeal.τ).loc Cert.RefAdamOutIdeal.main_arg0) = m' ((c.tc : Thread Cert.RefAdamOutIdeal.nD Cert.RefAdamOutIdeal.τ).loc Cert.RefAdamOutIdeal.main_arg0)
          ∧ r.2.mem ((c.tc : Thread Cert.RefAdamOutIdeal.nD Cert.RefAdamOutIdeal.τ).loc Cert.RefAdamOutIdeal.main_arg1) = m' ((c.tc : Thread Cert.RefAdamOutIdeal.nD Cert.RefAdamOutIdeal.τ).loc Cert.RefAdamOutIdeal.main_arg1)
          ∧ r.2.mem ((c.tc : Thread Cert.RefAdamOutIdeal.nD Cert.RefAdamOutIdeal.τ).loc Cert.RefAdamOutIdeal.main_arg2) = m' ((c.tc : Thread Cert.RefAdamOutIdeal.nD Cert.RefAdamOutIdeal.τ).loc Cert.RefAdamOutIdeal.main_arg2)
          ∧ r.2.mem ((c.tc : Thread Cert.RefAdamOutIdeal.nD Cert.RefAdamOutIdeal.τ).loc Cert.RefAdamOutIdeal.main_arg3) = m' ((c.tc : Thread Cert.RefAdamOutIdeal.nD Cert.RefAdamOutIdeal.τ).loc Cert.RefAdamOutIdeal.main_arg3)
          ∧ r.2.mem ((c.tc : Thread Cert.RefAdamOutIdeal.nD Cert.RefAdamOutIdeal.τ).loc Cert.RefAdamOutIdeal.main_arg4) = m' ((c.tc : Thread Cert.RefAdamOutIdeal.nD Cert.RefAdamOutIdeal.τ).loc Cert.RefAdamOutIdeal.main_arg4)
          ∧ r.2.mem ((c.tc : Thread Cert.RefAdamOutIdeal.nD Cert.RefAdamOutIdeal.τ).loc Cert.RefAdamOutIdeal.main_arg5) = m' ((c.tc : Thread Cert.RefAdamOutIdeal.nD Cert.RefAdamOutIdeal.τ).loc Cert.RefAdamOutIdeal.main_arg5)
          ∧ r.2.mem ((c.tc : Thread Cert.RefAdamOutIdeal.nD Cert.RefAdamOutIdeal.τ).loc Cert.RefAdamOutIdeal.main_arg6) = m' ((c.tc : Thread Cert.RefAdamOutIdeal.nD Cert.RefAdamOutIdeal.τ).loc Cert.RefAdamOutIdeal.main_arg6)
          ∧ r.2.mem ((c.tc : Thread Cert.RefAdamOutIdeal.nD Cert.RefAdamOutIdeal.τ).loc Cert.RefAdamOutIdeal.main_arg7) = m' ((c.tc : Thread Cert.RefAdamOutIdeal.nD Cert.RefAdamOutIdeal.τ).loc Cert.RefAdamOutIdeal.main_arg7)
          ∧ r.2.mem ((c.tc : Thread Cert.RefAdamOutIdeal.nD Cert.RefAdamOutIdeal.τ).loc Cert.RefAdamOutIdeal.main_arg8) = m' ((c.tc : Thread Cert.RefAdamOutIdeal.nD Cert.RefAdamOutIdeal.τ).loc Cert.RefAdamOutIdeal.main_arg8))

def preserves_AdamGrp_AdamGrpIdeal : Prop :=
  True

def algebraic_AdamGrpIdeal_RefAdamGrpIdeal [hAdamGrpIdeal : Cert.AdamGrpIdeal.Facts] [hRefAdamGrpIdeal : Cert.RefAdamGrpIdeal.Facts] : Prop :=
  ∀ (m : (ℓ : Loc Cert.AdamGrpIdeal.nD Cert.AdamGrpIdeal.τ Cert.AdamGrpIdeal.sig) → Buf (Elt Ideal) ℓ) (g : Dev Cert.AdamGrpIdeal.nD → PrngReg)
    (m' : (ℓ : Loc Cert.RefAdamGrpIdeal.nD Cert.RefAdamGrpIdeal.τ Cert.RefAdamGrpIdeal.sig) → Buf (Elt Ideal) ℓ) (g' : Dev Cert.RefAdamGrpIdeal.nD → PrngReg), Pre_AdamGrpIdeal m →
    (∀ c : Dev Cert.AdamGrpIdeal.nD,
      m' ((c.tc : Thread Cert.RefAdamGrpIdeal.nD Cert.RefAdamGrpIdeal.τ).loc Cert.RefAdamGrpIdeal.main_arg0) = m ((c.tc : Thread Cert.AdamGrpIdeal.nD Cert.AdamGrpIdeal.τ).loc Cert.AdamGrpIdeal.main_arg0)
      ∧ m' ((c.tc : Thread Cert.RefAdamGrpIdeal.nD Cert.RefAdamGrpIdeal.τ).loc Cert.RefAdamGrpIdeal.main_arg1) = m ((c.tc : Thread Cert.AdamGrpIdeal.nD Cert.AdamGrpIdeal.τ).loc Cert.AdamGrpIdeal.main_arg1)
      ∧ m' ((c.tc : Thread Cert.RefAdamGrpIdeal.nD Cert.RefAdamGrpIdeal.τ).loc Cert.RefAdamGrpIdeal.main_arg2) = m ((c.tc : Thread Cert.AdamGrpIdeal.nD Cert.AdamGrpIdeal.τ).loc Cert.AdamGrpIdeal.main_arg2)
      ∧ m' ((c.tc : Thread Cert.RefAdamGrpIdeal.nD Cert.RefAdamGrpIdeal.τ).loc Cert.RefAdamGrpIdeal.main_arg3) = m ((c.tc : Thread Cert.AdamGrpIdeal.nD Cert.AdamGrpIdeal.τ).loc Cert.AdamGrpIdeal.main_arg3)
      ∧ m' ((c.tc : Thread Cert.RefAdamGrpIdeal.nD Cert.RefAdamGrpIdeal.τ).loc Cert.RefAdamGrpIdeal.main_arg4) = m ((c.tc : Thread Cert.AdamGrpIdeal.nD Cert.AdamGrpIdeal.τ).loc Cert.AdamGrpIdeal.main_arg4)
      ∧ m' ((c.tc : Thread Cert.RefAdamGrpIdeal.nD Cert.RefAdamGrpIdeal.τ).loc Cert.RefAdamGrpIdeal.main_arg5) = m ((c.tc : Thread Cert.AdamGrpIdeal.nD Cert.AdamGrpIdeal.τ).loc Cert.AdamGrpIdeal.main_arg5)
      ∧ m' ((c.tc : Thread Cert.RefAdamGrpIdeal.nD Cert.RefAdamGrpIdeal.τ).loc Cert.RefAdamGrpIdeal.main_arg6) = m ((c.tc : Thread Cert.AdamGrpIdeal.nD Cert.AdamGrpIdeal.τ).loc Cert.AdamGrpIdeal.main_arg6)
      ∧ m' ((c.tc : Thread Cert.RefAdamGrpIdeal.nD Cert.RefAdamGrpIdeal.τ).loc Cert.RefAdamGrpIdeal.main_arg7) = m ((c.tc : Thread Cert.AdamGrpIdeal.nD Cert.AdamGrpIdeal.τ).loc Cert.AdamGrpIdeal.main_arg7)
      ∧ m' ((c.tc : Thread Cert.RefAdamGrpIdeal.nD Cert.RefAdamGrpIdeal.τ).loc Cert.RefAdamGrpIdeal.main_arg8) = m ((c.tc : Thread Cert.AdamGrpIdeal.nD Cert.AdamGrpIdeal.τ).loc Cert.AdamGrpIdeal.main_arg8)) →
    ∃ (v0 : (c : Dev Cert.AdamGrpIdeal.nD) → Buf (Elt Ideal) ((c.tc : Thread Cert.AdamGrpIdeal.nD Cert.AdamGrpIdeal.τ).loc Cert.AdamGrpIdeal.main_v3_0)) (v1 : (c : Dev Cert.AdamGrpIdeal.nD) → Buf (Elt Ideal) ((c.tc : Thread Cert.AdamGrpIdeal.nD Cert.AdamGrpIdeal.τ).loc Cert.AdamGrpIdeal.main_v3_1)) (v2 : (c : Dev Cert.AdamGrpIdeal.nD) → Buf (Elt Ideal) ((c.tc : Thread Cert.AdamGrpIdeal.nD Cert.AdamGrpIdeal.τ).loc Cert.AdamGrpIdeal.main_v3_2)) (v3 : (c : Dev Cert.AdamGrpIdeal.nD) → Buf (Elt Ideal) ((c.tc : Thread Cert.AdamGrpIdeal.nD Cert.AdamGrpIdeal.τ).loc Cert.AdamGrpIdeal.main_v3_3)),
      θ_run (Cert.AdamGrpIdeal.defs (F := Ideal)) (onTc (τ := Cert.AdamGrpIdeal.τ) (Cert.AdamGrpIdeal.main (F := Ideal))) ⟨m, fun _ => 0, g⟩ (fun r => ∀ c : Dev Cert.AdamGrpIdeal.nD,
          r.2.mem ((c.tc : Thread Cert.AdamGrpIdeal.nD Cert.AdamGrpIdeal.τ).loc Cert.AdamGrpIdeal.main_v3_0) = v0 c
          ∧ r.2.mem ((c.tc : Thread Cert.AdamGrpIdeal.nD Cert.AdamGrpIdeal.τ).loc Cert.AdamGrpIdeal.main_v3_1) = v1 c
          ∧ r.2.mem ((c.tc : Thread Cert.AdamGrpIdeal.nD Cert.AdamGrpIdeal.τ).loc Cert.AdamGrpIdeal.main_v3_2) = v2 c
          ∧ r.2.mem ((c.tc : Thread Cert.AdamGrpIdeal.nD Cert.AdamGrpIdeal.τ).loc Cert.AdamGrpIdeal.main_v3_3) = v3 c
          ∧ r.2.mem ((c.tc : Thread Cert.AdamGrpIdeal.nD Cert.AdamGrpIdeal.τ).loc Cert.AdamGrpIdeal.main_arg0) = m ((c.tc : Thread Cert.AdamGrpIdeal.nD Cert.AdamGrpIdeal.τ).loc Cert.AdamGrpIdeal.main_arg0)
          ∧ r.2.mem ((c.tc : Thread Cert.AdamGrpIdeal.nD Cert.AdamGrpIdeal.τ).loc Cert.AdamGrpIdeal.main_arg1) = m ((c.tc : Thread Cert.AdamGrpIdeal.nD Cert.AdamGrpIdeal.τ).loc Cert.AdamGrpIdeal.main_arg1)
          ∧ r.2.mem ((c.tc : Thread Cert.AdamGrpIdeal.nD Cert.AdamGrpIdeal.τ).loc Cert.AdamGrpIdeal.main_arg2) = m ((c.tc : Thread Cert.AdamGrpIdeal.nD Cert.AdamGrpIdeal.τ).loc Cert.AdamGrpIdeal.main_arg2)
          ∧ r.2.mem ((c.tc : Thread Cert.AdamGrpIdeal.nD Cert.AdamGrpIdeal.τ).loc Cert.AdamGrpIdeal.main_arg3) = m ((c.tc : Thread Cert.AdamGrpIdeal.nD Cert.AdamGrpIdeal.τ).loc Cert.AdamGrpIdeal.main_arg3)
          ∧ r.2.mem ((c.tc : Thread Cert.AdamGrpIdeal.nD Cert.AdamGrpIdeal.τ).loc Cert.AdamGrpIdeal.main_arg4) = m ((c.tc : Thread Cert.AdamGrpIdeal.nD Cert.AdamGrpIdeal.τ).loc Cert.AdamGrpIdeal.main_arg4)
          ∧ r.2.mem ((c.tc : Thread Cert.AdamGrpIdeal.nD Cert.AdamGrpIdeal.τ).loc Cert.AdamGrpIdeal.main_arg5) = m ((c.tc : Thread Cert.AdamGrpIdeal.nD Cert.AdamGrpIdeal.τ).loc Cert.AdamGrpIdeal.main_arg5)
          ∧ r.2.mem ((c.tc : Thread Cert.AdamGrpIdeal.nD Cert.AdamGrpIdeal.τ).loc Cert.AdamGrpIdeal.main_arg6) = m ((c.tc : Thread Cert.AdamGrpIdeal.nD Cert.AdamGrpIdeal.τ).loc Cert.AdamGrpIdeal.main_arg6)
          ∧ r.2.mem ((c.tc : Thread Cert.AdamGrpIdeal.nD Cert.AdamGrpIdeal.τ).loc Cert.AdamGrpIdeal.main_arg7) = m ((c.tc : Thread Cert.AdamGrpIdeal.nD Cert.AdamGrpIdeal.τ).loc Cert.AdamGrpIdeal.main_arg7)
          ∧ r.2.mem ((c.tc : Thread Cert.AdamGrpIdeal.nD Cert.AdamGrpIdeal.τ).loc Cert.AdamGrpIdeal.main_arg8) = m ((c.tc : Thread Cert.AdamGrpIdeal.nD Cert.AdamGrpIdeal.τ).loc Cert.AdamGrpIdeal.main_arg8))
      ∧ θ_run (Cert.RefAdamGrpIdeal.defs (F := Ideal)) (onTc (τ := Cert.RefAdamGrpIdeal.τ) (Cert.RefAdamGrpIdeal.main (F := Ideal))) ⟨m', fun _ => 0, g'⟩ (fun r => ∀ c : Dev Cert.RefAdamGrpIdeal.nD,
          r.2.mem ((c.tc : Thread Cert.RefAdamGrpIdeal.nD Cert.RefAdamGrpIdeal.τ).loc Cert.RefAdamGrpIdeal.main_v38) = v0 c
          ∧ r.2.mem ((c.tc : Thread Cert.RefAdamGrpIdeal.nD Cert.RefAdamGrpIdeal.τ).loc Cert.RefAdamGrpIdeal.main_v41) = v1 c
          ∧ r.2.mem ((c.tc : Thread Cert.RefAdamGrpIdeal.nD Cert.RefAdamGrpIdeal.τ).loc Cert.RefAdamGrpIdeal.main_v44) = v2 c
          ∧ r.2.mem ((c.tc : Thread Cert.RefAdamGrpIdeal.nD Cert.RefAdamGrpIdeal.τ).loc Cert.RefAdamGrpIdeal.main_v47) = v3 c
          ∧ r.2.mem ((c.tc : Thread Cert.RefAdamGrpIdeal.nD Cert.RefAdamGrpIdeal.τ).loc Cert.RefAdamGrpIdeal.main_arg0) = m' ((c.tc : Thread Cert.RefAdamGrpIdeal.nD Cert.RefAdamGrpIdeal.τ).loc Cert.RefAdamGrpIdeal.main_arg0)
          ∧ r.2.mem ((c.tc : Thread Cert.RefAdamGrpIdeal.nD Cert.RefAdamGrpIdeal.τ).loc Cert.RefAdamGrpIdeal.main_arg1) = m' ((c.tc : Thread Cert.RefAdamGrpIdeal.nD Cert.RefAdamGrpIdeal.τ).loc Cert.RefAdamGrpIdeal.main_arg1)
          ∧ r.2.mem ((c.tc : Thread Cert.RefAdamGrpIdeal.nD Cert.RefAdamGrpIdeal.τ).loc Cert.RefAdamGrpIdeal.main_arg2) = m' ((c.tc : Thread Cert.RefAdamGrpIdeal.nD Cert.RefAdamGrpIdeal.τ).loc Cert.RefAdamGrpIdeal.main_arg2)
          ∧ r.2.mem ((c.tc : Thread Cert.RefAdamGrpIdeal.nD Cert.RefAdamGrpIdeal.τ).loc Cert.RefAdamGrpIdeal.main_arg3) = m' ((c.tc : Thread Cert.RefAdamGrpIdeal.nD Cert.RefAdamGrpIdeal.τ).loc Cert.RefAdamGrpIdeal.main_arg3)
          ∧ r.2.mem ((c.tc : Thread Cert.RefAdamGrpIdeal.nD Cert.RefAdamGrpIdeal.τ).loc Cert.RefAdamGrpIdeal.main_arg4) = m' ((c.tc : Thread Cert.RefAdamGrpIdeal.nD Cert.RefAdamGrpIdeal.τ).loc Cert.RefAdamGrpIdeal.main_arg4)
          ∧ r.2.mem ((c.tc : Thread Cert.RefAdamGrpIdeal.nD Cert.RefAdamGrpIdeal.τ).loc Cert.RefAdamGrpIdeal.main_arg5) = m' ((c.tc : Thread Cert.RefAdamGrpIdeal.nD Cert.RefAdamGrpIdeal.τ).loc Cert.RefAdamGrpIdeal.main_arg5)
          ∧ r.2.mem ((c.tc : Thread Cert.RefAdamGrpIdeal.nD Cert.RefAdamGrpIdeal.τ).loc Cert.RefAdamGrpIdeal.main_arg6) = m' ((c.tc : Thread Cert.RefAdamGrpIdeal.nD Cert.RefAdamGrpIdeal.τ).loc Cert.RefAdamGrpIdeal.main_arg6)
          ∧ r.2.mem ((c.tc : Thread Cert.RefAdamGrpIdeal.nD Cert.RefAdamGrpIdeal.τ).loc Cert.RefAdamGrpIdeal.main_arg7) = m' ((c.tc : Thread Cert.RefAdamGrpIdeal.nD Cert.RefAdamGrpIdeal.τ).loc Cert.RefAdamGrpIdeal.main_arg7)
          ∧ r.2.mem ((c.tc : Thread Cert.RefAdamGrpIdeal.nD Cert.RefAdamGrpIdeal.τ).loc Cert.RefAdamGrpIdeal.main_arg8) = m' ((c.tc : Thread Cert.RefAdamGrpIdeal.nD Cert.RefAdamGrpIdeal.τ).loc Cert.RefAdamGrpIdeal.main_arg8))

def preserves_Mods_ModsIdeal : Prop :=
  True

def algebraic_ModsIdeal_RefModsIdeal [hModsIdeal : Cert.ModsIdeal.Facts] [hRefModsIdeal : Cert.RefModsIdeal.Facts] : Prop :=
  ∀ (m : (ℓ : Loc Cert.ModsIdeal.nD Cert.ModsIdeal.τ Cert.ModsIdeal.sig) → Buf (Elt Ideal) ℓ) (g : Dev Cert.ModsIdeal.nD → PrngReg)
    (m' : (ℓ : Loc Cert.RefModsIdeal.nD Cert.RefModsIdeal.τ Cert.RefModsIdeal.sig) → Buf (Elt Ideal) ℓ) (g' : Dev Cert.RefModsIdeal.nD → PrngReg), Pre_ModsIdeal m →
    (∀ c : Dev Cert.ModsIdeal.nD,
      m' ((c.tc : Thread Cert.RefModsIdeal.nD Cert.RefModsIdeal.τ).loc Cert.RefModsIdeal.main_arg0) = m ((c.tc : Thread Cert.ModsIdeal.nD Cert.ModsIdeal.τ).loc Cert.ModsIdeal.main_arg0)
      ∧ m' ((c.tc : Thread Cert.RefModsIdeal.nD Cert.RefModsIdeal.τ).loc Cert.RefModsIdeal.main_arg1) = m ((c.tc : Thread Cert.ModsIdeal.nD Cert.ModsIdeal.τ).loc Cert.ModsIdeal.main_arg1)
      ∧ m' ((c.tc : Thread Cert.RefModsIdeal.nD Cert.RefModsIdeal.τ).loc Cert.RefModsIdeal.main_arg2) = m ((c.tc : Thread Cert.ModsIdeal.nD Cert.ModsIdeal.τ).loc Cert.ModsIdeal.main_arg2)) →
    ∃ (v0 : (c : Dev Cert.ModsIdeal.nD) → Buf (Elt Ideal) ((c.tc : Thread Cert.ModsIdeal.nD Cert.ModsIdeal.τ).loc Cert.ModsIdeal.main_v1)),
      θ_run (Cert.ModsIdeal.defs (F := Ideal)) (onTc (τ := Cert.ModsIdeal.τ) (Cert.ModsIdeal.main (F := Ideal))) ⟨m, fun _ => 0, g⟩ (fun r => ∀ c : Dev Cert.ModsIdeal.nD,
          r.2.mem ((c.tc : Thread Cert.ModsIdeal.nD Cert.ModsIdeal.τ).loc Cert.ModsIdeal.main_v1) = v0 c
          ∧ r.2.mem ((c.tc : Thread Cert.ModsIdeal.nD Cert.ModsIdeal.τ).loc Cert.ModsIdeal.main_arg0) = m ((c.tc : Thread Cert.ModsIdeal.nD Cert.ModsIdeal.τ).loc Cert.ModsIdeal.main_arg0)
          ∧ r.2.mem ((c.tc : Thread Cert.ModsIdeal.nD Cert.ModsIdeal.τ).loc Cert.ModsIdeal.main_arg1) = m ((c.tc : Thread Cert.ModsIdeal.nD Cert.ModsIdeal.τ).loc Cert.ModsIdeal.main_arg1)
          ∧ r.2.mem ((c.tc : Thread Cert.ModsIdeal.nD Cert.ModsIdeal.τ).loc Cert.ModsIdeal.main_arg2) = m ((c.tc : Thread Cert.ModsIdeal.nD Cert.ModsIdeal.τ).loc Cert.ModsIdeal.main_arg2))
      ∧ θ_run (Cert.RefModsIdeal.defs (F := Ideal)) (onTc (τ := Cert.RefModsIdeal.τ) (Cert.RefModsIdeal.main (F := Ideal))) ⟨m', fun _ => 0, g'⟩ (fun r => ∀ c : Dev Cert.RefModsIdeal.nD,
          r.2.mem ((c.tc : Thread Cert.RefModsIdeal.nD Cert.RefModsIdeal.τ).loc Cert.RefModsIdeal.main_v5) = v0 c
          ∧ r.2.mem ((c.tc : Thread Cert.RefModsIdeal.nD Cert.RefModsIdeal.τ).loc Cert.RefModsIdeal.main_arg0) = m' ((c.tc : Thread Cert.RefModsIdeal.nD Cert.RefModsIdeal.τ).loc Cert.RefModsIdeal.main_arg0)
          ∧ r.2.mem ((c.tc : Thread Cert.RefModsIdeal.nD Cert.RefModsIdeal.τ).loc Cert.RefModsIdeal.main_arg1) = m' ((c.tc : Thread Cert.RefModsIdeal.nD Cert.RefModsIdeal.τ).loc Cert.RefModsIdeal.main_arg1)
          ∧ r.2.mem ((c.tc : Thread Cert.RefModsIdeal.nD Cert.RefModsIdeal.τ).loc Cert.RefModsIdeal.main_arg2) = m' ((c.tc : Thread Cert.RefModsIdeal.nD Cert.RefModsIdeal.τ).loc Cert.RefModsIdeal.main_arg2))

def preserves_NormMix_NormMixIdeal : Prop :=
  True

def algebraic_NormMixIdeal_RefNormMixIdeal [hNormMixIdeal : Cert.NormMixIdeal.Facts] [hRefNormMixIdeal : Cert.RefNormMixIdeal.Facts] : Prop :=
  ∀ (m : (ℓ : Loc Cert.NormMixIdeal.nD Cert.NormMixIdeal.τ Cert.NormMixIdeal.sig) → Buf (Elt Ideal) ℓ) (g : Dev Cert.NormMixIdeal.nD → PrngReg)
    (m' : (ℓ : Loc Cert.RefNormMixIdeal.nD Cert.RefNormMixIdeal.τ Cert.RefNormMixIdeal.sig) → Buf (Elt Ideal) ℓ) (g' : Dev Cert.RefNormMixIdeal.nD → PrngReg), Pre_NormMixIdeal m →
    (∀ c : Dev Cert.NormMixIdeal.nD,
      m' ((c.tc : Thread Cert.RefNormMixIdeal.nD Cert.RefNormMixIdeal.τ).loc Cert.RefNormMixIdeal.main_arg0) = m ((c.tc : Thread Cert.NormMixIdeal.nD Cert.NormMixIdeal.τ).loc Cert.NormMixIdeal.main_arg0)
      ∧ m' ((c.tc : Thread Cert.RefNormMixIdeal.nD Cert.RefNormMixIdeal.τ).loc Cert.RefNormMixIdeal.main_arg1) = m ((c.tc : Thread Cert.NormMixIdeal.nD Cert.NormMixIdeal.τ).loc Cert.NormMixIdeal.main_arg1)
      ∧ m' ((c.tc : Thread Cert.RefNormMixIdeal.nD Cert.RefNormMixIdeal.τ).loc Cert.RefNormMixIdeal.main_arg2) = m ((c.tc : Thread Cert.NormMixIdeal.nD Cert.NormMixIdeal.τ).loc Cert.NormMixIdeal.main_arg2)) →
    ∃ (v0 : (c : Dev Cert.NormMixIdeal.nD) → Buf (Elt Ideal) ((c.tc : Thread Cert.NormMixIdeal.nD Cert.NormMixIdeal.τ).loc Cert.NormMixIdeal.main_v1)),
      θ_run (Cert.NormMixIdeal.defs (F := Ideal)) (onTc (τ := Cert.NormMixIdeal.τ) (Cert.NormMixIdeal.main (F := Ideal))) ⟨m, fun _ => 0, g⟩ (fun r => ∀ c : Dev Cert.NormMixIdeal.nD,
          r.2.mem ((c.tc : Thread Cert.NormMixIdeal.nD Cert.NormMixIdeal.τ).loc Cert.NormMixIdeal.main_v1) = v0 c
          ∧ r.2.mem ((c.tc : Thread Cert.NormMixIdeal.nD Cert.NormMixIdeal.τ).loc Cert.NormMixIdeal.main_arg0) = m ((c.tc : Thread Cert.NormMixIdeal.nD Cert.NormMixIdeal.τ).loc Cert.NormMixIdeal.main_arg0)
          ∧ r.2.mem ((c.tc : Thread Cert.NormMixIdeal.nD Cert.NormMixIdeal.τ).loc Cert.NormMixIdeal.main_arg1) = m ((c.tc : Thread Cert.NormMixIdeal.nD Cert.NormMixIdeal.τ).loc Cert.NormMixIdeal.main_arg1)
          ∧ r.2.mem ((c.tc : Thread Cert.NormMixIdeal.nD Cert.NormMixIdeal.τ).loc Cert.NormMixIdeal.main_arg2) = m ((c.tc : Thread Cert.NormMixIdeal.nD Cert.NormMixIdeal.τ).loc Cert.NormMixIdeal.main_arg2))
      ∧ θ_run (Cert.RefNormMixIdeal.defs (F := Ideal)) (onTc (τ := Cert.RefNormMixIdeal.τ) (Cert.RefNormMixIdeal.main (F := Ideal))) ⟨m', fun _ => 0, g'⟩ (fun r => ∀ c : Dev Cert.RefNormMixIdeal.nD,
          r.2.mem ((c.tc : Thread Cert.RefNormMixIdeal.nD Cert.RefNormMixIdeal.τ).loc Cert.RefNormMixIdeal.main_v40) = v0 c
          ∧ r.2.mem ((c.tc : Thread Cert.RefNormMixIdeal.nD Cert.RefNormMixIdeal.τ).loc Cert.RefNormMixIdeal.main_arg0) = m' ((c.tc : Thread Cert.RefNormMixIdeal.nD Cert.RefNormMixIdeal.τ).loc Cert.RefNormMixIdeal.main_arg0)
          ∧ r.2.mem ((c.tc : Thread Cert.RefNormMixIdeal.nD Cert.RefNormMixIdeal.τ).loc Cert.RefNormMixIdeal.main_arg1) = m' ((c.tc : Thread Cert.RefNormMixIdeal.nD Cert.RefNormMixIdeal.τ).loc Cert.RefNormMixIdeal.main_arg1)
          ∧ r.2.mem ((c.tc : Thread Cert.RefNormMixIdeal.nD Cert.RefNormMixIdeal.τ).loc Cert.RefNormMixIdeal.main_arg2) = m' ((c.tc : Thread Cert.RefNormMixIdeal.nD Cert.RefNormMixIdeal.τ).loc Cert.RefNormMixIdeal.main_arg2))

def preserves_NormFfn_NormFfnIdeal : Prop :=
  True

def algebraic_NormFfnIdeal_RefNormFfnIdeal [hNormFfnIdeal : Cert.NormFfnIdeal.Facts] [hRefNormFfnIdeal : Cert.RefNormFfnIdeal.Facts] : Prop :=
  ∀ (m : (ℓ : Loc Cert.NormFfnIdeal.nD Cert.NormFfnIdeal.τ Cert.NormFfnIdeal.sig) → Buf (Elt Ideal) ℓ) (g : Dev Cert.NormFfnIdeal.nD → PrngReg)
    (m' : (ℓ : Loc Cert.RefNormFfnIdeal.nD Cert.RefNormFfnIdeal.τ Cert.RefNormFfnIdeal.sig) → Buf (Elt Ideal) ℓ) (g' : Dev Cert.RefNormFfnIdeal.nD → PrngReg), Pre_NormFfnIdeal m →
    (∀ c : Dev Cert.NormFfnIdeal.nD,
      m' ((c.tc : Thread Cert.RefNormFfnIdeal.nD Cert.RefNormFfnIdeal.τ).loc Cert.RefNormFfnIdeal.main_arg0) = m ((c.tc : Thread Cert.NormFfnIdeal.nD Cert.NormFfnIdeal.τ).loc Cert.NormFfnIdeal.main_arg0)
      ∧ m' ((c.tc : Thread Cert.RefNormFfnIdeal.nD Cert.RefNormFfnIdeal.τ).loc Cert.RefNormFfnIdeal.main_arg1) = m ((c.tc : Thread Cert.NormFfnIdeal.nD Cert.NormFfnIdeal.τ).loc Cert.NormFfnIdeal.main_arg1)
      ∧ m' ((c.tc : Thread Cert.RefNormFfnIdeal.nD Cert.RefNormFfnIdeal.τ).loc Cert.RefNormFfnIdeal.main_arg2) = m ((c.tc : Thread Cert.NormFfnIdeal.nD Cert.NormFfnIdeal.τ).loc Cert.NormFfnIdeal.main_arg2)) →
    ∃ (v0 : (c : Dev Cert.NormFfnIdeal.nD) → Buf (Elt Ideal) ((c.tc : Thread Cert.NormFfnIdeal.nD Cert.NormFfnIdeal.τ).loc Cert.NormFfnIdeal.main_v1)),
      θ_run (Cert.NormFfnIdeal.defs (F := Ideal)) (onTc (τ := Cert.NormFfnIdeal.τ) (Cert.NormFfnIdeal.main (F := Ideal))) ⟨m, fun _ => 0, g⟩ (fun r => ∀ c : Dev Cert.NormFfnIdeal.nD,
          r.2.mem ((c.tc : Thread Cert.NormFfnIdeal.nD Cert.NormFfnIdeal.τ).loc Cert.NormFfnIdeal.main_v1) = v0 c
          ∧ r.2.mem ((c.tc : Thread Cert.NormFfnIdeal.nD Cert.NormFfnIdeal.τ).loc Cert.NormFfnIdeal.main_arg0) = m ((c.tc : Thread Cert.NormFfnIdeal.nD Cert.NormFfnIdeal.τ).loc Cert.NormFfnIdeal.main_arg0)
          ∧ r.2.mem ((c.tc : Thread Cert.NormFfnIdeal.nD Cert.NormFfnIdeal.τ).loc Cert.NormFfnIdeal.main_arg1) = m ((c.tc : Thread Cert.NormFfnIdeal.nD Cert.NormFfnIdeal.τ).loc Cert.NormFfnIdeal.main_arg1)
          ∧ r.2.mem ((c.tc : Thread Cert.NormFfnIdeal.nD Cert.NormFfnIdeal.τ).loc Cert.NormFfnIdeal.main_arg2) = m ((c.tc : Thread Cert.NormFfnIdeal.nD Cert.NormFfnIdeal.τ).loc Cert.NormFfnIdeal.main_arg2))
      ∧ θ_run (Cert.RefNormFfnIdeal.defs (F := Ideal)) (onTc (τ := Cert.RefNormFfnIdeal.τ) (Cert.RefNormFfnIdeal.main (F := Ideal))) ⟨m', fun _ => 0, g'⟩ (fun r => ∀ c : Dev Cert.RefNormFfnIdeal.nD,
          r.2.mem ((c.tc : Thread Cert.RefNormFfnIdeal.nD Cert.RefNormFfnIdeal.τ).loc Cert.RefNormFfnIdeal.main_v40) = v0 c
          ∧ r.2.mem ((c.tc : Thread Cert.RefNormFfnIdeal.nD Cert.RefNormFfnIdeal.τ).loc Cert.RefNormFfnIdeal.main_arg0) = m' ((c.tc : Thread Cert.RefNormFfnIdeal.nD Cert.RefNormFfnIdeal.τ).loc Cert.RefNormFfnIdeal.main_arg0)
          ∧ r.2.mem ((c.tc : Thread Cert.RefNormFfnIdeal.nD Cert.RefNormFfnIdeal.τ).loc Cert.RefNormFfnIdeal.main_arg1) = m' ((c.tc : Thread Cert.RefNormFfnIdeal.nD Cert.RefNormFfnIdeal.τ).loc Cert.RefNormFfnIdeal.main_arg1)
          ∧ r.2.mem ((c.tc : Thread Cert.RefNormFfnIdeal.nD Cert.RefNormFfnIdeal.τ).loc Cert.RefNormFfnIdeal.main_arg2) = m' ((c.tc : Thread Cert.RefNormFfnIdeal.nD Cert.RefNormFfnIdeal.τ).loc Cert.RefNormFfnIdeal.main_arg2))

def preserves_Readout_ReadoutIdeal : Prop :=
  True

def algebraic_ReadoutIdeal_RefReadoutIdeal [hReadoutIdeal : Cert.ReadoutIdeal.Facts] [hRefReadoutIdeal : Cert.RefReadoutIdeal.Facts] : Prop :=
  ∀ (m : (ℓ : Loc Cert.ReadoutIdeal.nD Cert.ReadoutIdeal.τ Cert.ReadoutIdeal.sig) → Buf (Elt Ideal) ℓ) (g : Dev Cert.ReadoutIdeal.nD → PrngReg)
    (m' : (ℓ : Loc Cert.RefReadoutIdeal.nD Cert.RefReadoutIdeal.τ Cert.RefReadoutIdeal.sig) → Buf (Elt Ideal) ℓ) (g' : Dev Cert.RefReadoutIdeal.nD → PrngReg), Pre_ReadoutIdeal m →
    (∀ c : Dev Cert.ReadoutIdeal.nD,
      m' ((c.tc : Thread Cert.RefReadoutIdeal.nD Cert.RefReadoutIdeal.τ).loc Cert.RefReadoutIdeal.main_arg0) = m ((c.tc : Thread Cert.ReadoutIdeal.nD Cert.ReadoutIdeal.τ).loc Cert.ReadoutIdeal.main_arg0)
      ∧ m' ((c.tc : Thread Cert.RefReadoutIdeal.nD Cert.RefReadoutIdeal.τ).loc Cert.RefReadoutIdeal.main_arg1) = m ((c.tc : Thread Cert.ReadoutIdeal.nD Cert.ReadoutIdeal.τ).loc Cert.ReadoutIdeal.main_arg1)
      ∧ m' ((c.tc : Thread Cert.RefReadoutIdeal.nD Cert.RefReadoutIdeal.τ).loc Cert.RefReadoutIdeal.main_arg2) = m ((c.tc : Thread Cert.ReadoutIdeal.nD Cert.ReadoutIdeal.τ).loc Cert.ReadoutIdeal.main_arg2)
      ∧ m' ((c.tc : Thread Cert.RefReadoutIdeal.nD Cert.RefReadoutIdeal.τ).loc Cert.RefReadoutIdeal.main_arg3) = m ((c.tc : Thread Cert.ReadoutIdeal.nD Cert.ReadoutIdeal.τ).loc Cert.ReadoutIdeal.main_arg3)) →
    ∃ (v0 : (c : Dev Cert.ReadoutIdeal.nD) → Buf (Elt Ideal) ((c.tc : Thread Cert.ReadoutIdeal.nD Cert.ReadoutIdeal.τ).loc Cert.ReadoutIdeal.main_v1)),
      θ_run (Cert.ReadoutIdeal.defs (F := Ideal)) (onTc (τ := Cert.ReadoutIdeal.τ) (Cert.ReadoutIdeal.main (F := Ideal))) ⟨m, fun _ => 0, g⟩ (fun r => ∀ c : Dev Cert.ReadoutIdeal.nD,
          r.2.mem ((c.tc : Thread Cert.ReadoutIdeal.nD Cert.ReadoutIdeal.τ).loc Cert.ReadoutIdeal.main_v1) = v0 c
          ∧ r.2.mem ((c.tc : Thread Cert.ReadoutIdeal.nD Cert.ReadoutIdeal.τ).loc Cert.ReadoutIdeal.main_arg0) = m ((c.tc : Thread Cert.ReadoutIdeal.nD Cert.ReadoutIdeal.τ).loc Cert.ReadoutIdeal.main_arg0)
          ∧ r.2.mem ((c.tc : Thread Cert.ReadoutIdeal.nD Cert.ReadoutIdeal.τ).loc Cert.ReadoutIdeal.main_arg1) = m ((c.tc : Thread Cert.ReadoutIdeal.nD Cert.ReadoutIdeal.τ).loc Cert.ReadoutIdeal.main_arg1)
          ∧ r.2.mem ((c.tc : Thread Cert.ReadoutIdeal.nD Cert.ReadoutIdeal.τ).loc Cert.ReadoutIdeal.main_arg2) = m ((c.tc : Thread Cert.ReadoutIdeal.nD Cert.ReadoutIdeal.τ).loc Cert.ReadoutIdeal.main_arg2)
          ∧ r.2.mem ((c.tc : Thread Cert.ReadoutIdeal.nD Cert.ReadoutIdeal.τ).loc Cert.ReadoutIdeal.main_arg3) = m ((c.tc : Thread Cert.ReadoutIdeal.nD Cert.ReadoutIdeal.τ).loc Cert.ReadoutIdeal.main_arg3))
      ∧ θ_run (Cert.RefReadoutIdeal.defs (F := Ideal)) (onTc (τ := Cert.RefReadoutIdeal.τ) (Cert.RefReadoutIdeal.main (F := Ideal))) ⟨m', fun _ => 0, g'⟩ (fun r => ∀ c : Dev Cert.RefReadoutIdeal.nD,
          r.2.mem ((c.tc : Thread Cert.RefReadoutIdeal.nD Cert.RefReadoutIdeal.τ).loc Cert.RefReadoutIdeal.main_v19) = v0 c
          ∧ r.2.mem ((c.tc : Thread Cert.RefReadoutIdeal.nD Cert.RefReadoutIdeal.τ).loc Cert.RefReadoutIdeal.main_arg0) = m' ((c.tc : Thread Cert.RefReadoutIdeal.nD Cert.RefReadoutIdeal.τ).loc Cert.RefReadoutIdeal.main_arg0)
          ∧ r.2.mem ((c.tc : Thread Cert.RefReadoutIdeal.nD Cert.RefReadoutIdeal.τ).loc Cert.RefReadoutIdeal.main_arg1) = m' ((c.tc : Thread Cert.RefReadoutIdeal.nD Cert.RefReadoutIdeal.τ).loc Cert.RefReadoutIdeal.main_arg1)
          ∧ r.2.mem ((c.tc : Thread Cert.RefReadoutIdeal.nD Cert.RefReadoutIdeal.τ).loc Cert.RefReadoutIdeal.main_arg2) = m' ((c.tc : Thread Cert.RefReadoutIdeal.nD Cert.RefReadoutIdeal.τ).loc Cert.RefReadoutIdeal.main_arg2)
          ∧ r.2.mem ((c.tc : Thread Cert.RefReadoutIdeal.nD Cert.RefReadoutIdeal.τ).loc Cert.RefReadoutIdeal.main_arg3) = m' ((c.tc : Thread Cert.RefReadoutIdeal.nD Cert.RefReadoutIdeal.τ).loc Cert.RefReadoutIdeal.main_arg3))

def preserves_ChunkMlp_ChunkMlpIdeal : Prop :=
  True

def algebraic_ChunkMlpIdeal_RefChunkMlpIdeal [hChunkMlpIdeal : Cert.ChunkMlpIdeal.Facts] [hRefChunkMlpIdeal : Cert.RefChunkMlpIdeal.Facts] : Prop :=
  ∀ (m : (ℓ : Loc Cert.ChunkMlpIdeal.nD Cert.ChunkMlpIdeal.τ Cert.ChunkMlpIdeal.sig) → Buf (Elt Ideal) ℓ) (g : Dev Cert.ChunkMlpIdeal.nD → PrngReg)
    (m' : (ℓ : Loc Cert.RefChunkMlpIdeal.nD Cert.RefChunkMlpIdeal.τ Cert.RefChunkMlpIdeal.sig) → Buf (Elt Ideal) ℓ) (g' : Dev Cert.RefChunkMlpIdeal.nD → PrngReg), Pre_ChunkMlpIdeal m →
    (∀ c : Dev Cert.ChunkMlpIdeal.nD,
      m' ((c.tc : Thread Cert.RefChunkMlpIdeal.nD Cert.RefChunkMlpIdeal.τ).loc Cert.RefChunkMlpIdeal.main_arg0) = m ((c.tc : Thread Cert.ChunkMlpIdeal.nD Cert.ChunkMlpIdeal.τ).loc Cert.ChunkMlpIdeal.main_arg0)
      ∧ m' ((c.tc : Thread Cert.RefChunkMlpIdeal.nD Cert.RefChunkMlpIdeal.τ).loc Cert.RefChunkMlpIdeal.main_arg1) = m ((c.tc : Thread Cert.ChunkMlpIdeal.nD Cert.ChunkMlpIdeal.τ).loc Cert.ChunkMlpIdeal.main_arg1)
      ∧ m' ((c.tc : Thread Cert.RefChunkMlpIdeal.nD Cert.RefChunkMlpIdeal.τ).loc Cert.RefChunkMlpIdeal.main_arg2) = m ((c.tc : Thread Cert.ChunkMlpIdeal.nD Cert.ChunkMlpIdeal.τ).loc Cert.ChunkMlpIdeal.main_arg2)
      ∧ m' ((c.tc : Thread Cert.RefChunkMlpIdeal.nD Cert.RefChunkMlpIdeal.τ).loc Cert.RefChunkMlpIdeal.main_arg3) = m ((c.tc : Thread Cert.ChunkMlpIdeal.nD Cert.ChunkMlpIdeal.τ).loc Cert.ChunkMlpIdeal.main_arg3)) →
    ∃ (v0 : (c : Dev Cert.ChunkMlpIdeal.nD) → Buf (Elt Ideal) ((c.tc : Thread Cert.ChunkMlpIdeal.nD Cert.ChunkMlpIdeal.τ).loc Cert.ChunkMlpIdeal.main_v2)),
      θ_run (Cert.ChunkMlpIdeal.defs (F := Ideal)) (onTc (τ := Cert.ChunkMlpIdeal.τ) (Cert.ChunkMlpIdeal.main (F := Ideal))) ⟨m, fun _ => 0, g⟩ (fun r => ∀ c : Dev Cert.ChunkMlpIdeal.nD,
          r.2.mem ((c.tc : Thread Cert.ChunkMlpIdeal.nD Cert.ChunkMlpIdeal.τ).loc Cert.ChunkMlpIdeal.main_v2) = v0 c
          ∧ r.2.mem ((c.tc : Thread Cert.ChunkMlpIdeal.nD Cert.ChunkMlpIdeal.τ).loc Cert.ChunkMlpIdeal.main_arg0) = m ((c.tc : Thread Cert.ChunkMlpIdeal.nD Cert.ChunkMlpIdeal.τ).loc Cert.ChunkMlpIdeal.main_arg0)
          ∧ r.2.mem ((c.tc : Thread Cert.ChunkMlpIdeal.nD Cert.ChunkMlpIdeal.τ).loc Cert.ChunkMlpIdeal.main_arg1) = m ((c.tc : Thread Cert.ChunkMlpIdeal.nD Cert.ChunkMlpIdeal.τ).loc Cert.ChunkMlpIdeal.main_arg1)
          ∧ r.2.mem ((c.tc : Thread Cert.ChunkMlpIdeal.nD Cert.ChunkMlpIdeal.τ).loc Cert.ChunkMlpIdeal.main_arg2) = m ((c.tc : Thread Cert.ChunkMlpIdeal.nD Cert.ChunkMlpIdeal.τ).loc Cert.ChunkMlpIdeal.main_arg2)
          ∧ r.2.mem ((c.tc : Thread Cert.ChunkMlpIdeal.nD Cert.ChunkMlpIdeal.τ).loc Cert.ChunkMlpIdeal.main_arg3) = m ((c.tc : Thread Cert.ChunkMlpIdeal.nD Cert.ChunkMlpIdeal.τ).loc Cert.ChunkMlpIdeal.main_arg3))
      ∧ θ_run (Cert.RefChunkMlpIdeal.defs (F := Ideal)) (onTc (τ := Cert.RefChunkMlpIdeal.τ) (Cert.RefChunkMlpIdeal.main (F := Ideal))) ⟨m', fun _ => 0, g'⟩ (fun r => ∀ c : Dev Cert.RefChunkMlpIdeal.nD,
          r.2.mem ((c.tc : Thread Cert.RefChunkMlpIdeal.nD Cert.RefChunkMlpIdeal.τ).loc Cert.RefChunkMlpIdeal.main_v49) = v0 c
          ∧ r.2.mem ((c.tc : Thread Cert.RefChunkMlpIdeal.nD Cert.RefChunkMlpIdeal.τ).loc Cert.RefChunkMlpIdeal.main_arg0) = m' ((c.tc : Thread Cert.RefChunkMlpIdeal.nD Cert.RefChunkMlpIdeal.τ).loc Cert.RefChunkMlpIdeal.main_arg0)
          ∧ r.2.mem ((c.tc : Thread Cert.RefChunkMlpIdeal.nD Cert.RefChunkMlpIdeal.τ).loc Cert.RefChunkMlpIdeal.main_arg1) = m' ((c.tc : Thread Cert.RefChunkMlpIdeal.nD Cert.RefChunkMlpIdeal.τ).loc Cert.RefChunkMlpIdeal.main_arg1)
          ∧ r.2.mem ((c.tc : Thread Cert.RefChunkMlpIdeal.nD Cert.RefChunkMlpIdeal.τ).loc Cert.RefChunkMlpIdeal.main_arg2) = m' ((c.tc : Thread Cert.RefChunkMlpIdeal.nD Cert.RefChunkMlpIdeal.τ).loc Cert.RefChunkMlpIdeal.main_arg2)
          ∧ r.2.mem ((c.tc : Thread Cert.RefChunkMlpIdeal.nD Cert.RefChunkMlpIdeal.τ).loc Cert.RefChunkMlpIdeal.main_arg3) = m' ((c.tc : Thread Cert.RefChunkMlpIdeal.nD Cert.RefChunkMlpIdeal.τ).loc Cert.RefChunkMlpIdeal.main_arg3))

def preserves_SumSmall_SumSmallIdeal : Prop :=
  True

def algebraic_SumSmallIdeal_RefSumSmallIdeal [hSumSmallIdeal : Cert.SumSmallIdeal.Facts] [hRefSumSmallIdeal : Cert.RefSumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.RefSumSmallIdeal.nD Cert.RefSumSmallIdeal.τ Cert.RefSumSmallIdeal.sig) → Buf (Elt Ideal) ℓ) (g' : Dev Cert.RefSumSmallIdeal.nD → PrngReg), Pre_SumSmallIdeal m →
    (∀ c : Dev Cert.SumSmallIdeal.nD,
      m' ((c.tc : Thread Cert.RefSumSmallIdeal.nD Cert.RefSumSmallIdeal.τ).loc Cert.RefSumSmallIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v0)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.RefSumSmallIdeal.defs (F := Ideal)) (onTc (τ := Cert.RefSumSmallIdeal.τ) (Cert.RefSumSmallIdeal.main (F := Ideal))) ⟨m', fun _ => 0, g'⟩ (fun r => ∀ c : Dev Cert.RefSumSmallIdeal.nD,
          r.2.mem ((c.tc : Thread Cert.RefSumSmallIdeal.nD Cert.RefSumSmallIdeal.τ).loc Cert.RefSumSmallIdeal.main_v0) = v0 c
          ∧ r.2.mem ((c.tc : Thread Cert.RefSumSmallIdeal.nD Cert.RefSumSmallIdeal.τ).loc Cert.RefSumSmallIdeal.main_arg0) = m' ((c.tc : Thread Cert.RefSumSmallIdeal.nD Cert.RefSumSmallIdeal.τ).loc Cert.RefSumSmallIdeal.main_arg0))

def Claim : Prop :=
  ∃ (hFfnDa : Cert.FfnDa.Facts) (hFfnDaIdeal : Cert.FfnDaIdeal.Facts) (hRefDaIdeal : Cert.RefDaIdeal.Facts) (hFfnGdown : Cert.FfnGdown.Facts) (hFfnGdownIdeal : Cert.FfnGdownIdeal.Facts) (hRefGdownIdeal : Cert.RefGdownIdeal.Facts) (hFfnDh : Cert.FfnDh.Facts) (hFfnDhIdeal : Cert.FfnDhIdeal.Facts) (hRefDhIdeal : Cert.RefDhIdeal.Facts) (hFfnGup : Cert.FfnGup.Facts) (hFfnGupIdeal : Cert.FfnGupIdeal.Facts) (hRefGupIdeal : Cert.RefGupIdeal.Facts) (hFfnUp : Cert.FfnUp.Facts) (hFfnUpIdeal : Cert.FfnUpIdeal.Facts) (hRefFfnUpIdeal : Cert.RefFfnUpIdeal.Facts) (hFfnDown : Cert.FfnDown.Facts) (hFfnDownIdeal : Cert.FfnDownIdeal.Facts) (hRefFfnDownIdeal : Cert.RefFfnDownIdeal.Facts) (hInProj : Cert.InProj.Facts) (hInProjIdeal : Cert.InProjIdeal.Facts) (hRefInProjIdeal : Cert.RefInProjIdeal.Facts) (hInDh : Cert.InDh.Facts) (hInDhIdeal : Cert.InDhIdeal.Facts) (hRefInDhIdeal : Cert.RefInDhIdeal.Facts) (hInG : Cert.InG.Facts) (hInGIdeal : Cert.InGIdeal.Facts) (hRefInGIdeal : Cert.RefInGIdeal.Facts) (hOutProj : Cert.OutProj.Facts) (hOutProjIdeal : Cert.OutProjIdeal.Facts) (hRefOutProjIdeal : Cert.RefOutProjIdeal.Facts) (hRowsT : Cert.RowsT.Facts) (hRowsTIdeal : Cert.RowsTIdeal.Facts) (hRefRowsTIdeal : Cert.RefRowsTIdeal.Facts) (hRowsG : Cert.RowsG.Facts) (hRowsGIdeal : Cert.RowsGIdeal.Facts) (hRefRowsGIdeal : Cert.RefRowsGIdeal.Facts) (hPoolIn : Cert.PoolIn.Facts) (hPoolInIdeal : Cert.PoolInIdeal.Facts) (hRefPoolInIdeal : Cert.RefPoolInIdeal.Facts) (hPoolGrp : Cert.PoolGrp.Facts) (hPoolGrpIdeal : Cert.PoolGrpIdeal.Facts) (hRefPoolGrpIdeal : Cert.RefPoolGrpIdeal.Facts) (hPoolGrpT : Cert.PoolGrpT.Facts) (hPoolGrpTIdeal : Cert.PoolGrpTIdeal.Facts) (hRefPoolGrpTIdeal : Cert.RefPoolGrpTIdeal.Facts) (hPoolGrpG : Cert.PoolGrpG.Facts) (hPoolGrpGIdeal : Cert.PoolGrpGIdeal.Facts) (hRefPoolGrpGIdeal : Cert.RefPoolGrpGIdeal.Facts) (hAdamSmall : Cert.AdamSmall.Facts) (hAdamSmallIdeal : Cert.AdamSmallIdeal.Facts) (hRefAdamSmallIdeal : Cert.RefAdamSmallIdeal.Facts) (hAdaStep : Cert.AdaStep.Facts) (hAdaStepIdeal : Cert.AdaStepIdeal.Facts) (hRefAdaStepIdeal : Cert.RefAdaStepIdeal.Facts) (hAdamFfn : Cert.AdamFfn.Facts) (hAdamFfnIdeal : Cert.AdamFfnIdeal.Facts) (hRefAdamFfnIdeal : Cert.RefAdamFfnIdeal.Facts) (hAdamIn : Cert.AdamIn.Facts) (hAdamInIdeal : Cert.AdamInIdeal.Facts) (hRefAdamInIdeal : Cert.RefAdamInIdeal.Facts) (hAdamOut : Cert.AdamOut.Facts) (hAdamOutIdeal : Cert.AdamOutIdeal.Facts) (hRefAdamOutIdeal : Cert.RefAdamOutIdeal.Facts) (hAdamGrp : Cert.AdamGrp.Facts) (hAdamGrpIdeal : Cert.AdamGrpIdeal.Facts) (hRefAdamGrpIdeal : Cert.RefAdamGrpIdeal.Facts) (hMods : Cert.Mods.Facts) (hModsIdeal : Cert.ModsIdeal.Facts) (hRefModsIdeal : Cert.RefModsIdeal.Facts) (hNormMix : Cert.NormMix.Facts) (hNormMixIdeal : Cert.NormMixIdeal.Facts) (hRefNormMixIdeal : Cert.RefNormMixIdeal.Facts) (hNormFfn : Cert.NormFfn.Facts) (hNormFfnIdeal : Cert.NormFfnIdeal.Facts) (hRefNormFfnIdeal : Cert.RefNormFfnIdeal.Facts) (hReadout : Cert.Readout.Facts) (hReadoutIdeal : Cert.ReadoutIdeal.Facts) (hRefReadoutIdeal : Cert.RefReadoutIdeal.Facts) (hChunkMlp : Cert.ChunkMlp.Facts) (hChunkMlpIdeal : Cert.ChunkMlpIdeal.Facts) (hRefChunkMlpIdeal : Cert.RefChunkMlpIdeal.Facts) (hSumSmall : Cert.SumSmall.Facts) (hSumSmallIdeal : Cert.SumSmallIdeal.Facts) (hRefSumSmallIdeal : Cert.RefSumSmallIdeal.Facts),
    quiescent_FfnDa (hFfnDa := hFfnDa)
    ∧ quiescent_FfnDaIdeal (hFfnDaIdeal := hFfnDaIdeal)
    ∧ quiescent_RefDaIdeal (hRefDaIdeal := hRefDaIdeal)
    ∧ quiescent_FfnGdown (hFfnGdown := hFfnGdown)
    ∧ quiescent_FfnGdownIdeal (hFfnGdownIdeal := hFfnGdownIdeal)
    ∧ quiescent_RefGdownIdeal (hRefGdownIdeal := hRefGdownIdeal)
    ∧ quiescent_FfnDh (hFfnDh := hFfnDh)
    ∧ quiescent_FfnDhIdeal (hFfnDhIdeal := hFfnDhIdeal)
    ∧ quiescent_RefDhIdeal (hRefDhIdeal := hRefDhIdeal)
    ∧ quiescent_FfnGup (hFfnGup := hFfnGup)
    ∧ quiescent_FfnGupIdeal (hFfnGupIdeal := hFfnGupIdeal)
    ∧ quiescent_RefGupIdeal (hRefGupIdeal := hRefGupIdeal)
    ∧ quiescent_FfnUp (hFfnUp := hFfnUp)
    ∧ quiescent_FfnUpIdeal (hFfnUpIdeal := hFfnUpIdeal)
    ∧ quiescent_RefFfnUpIdeal (hRefFfnUpIdeal := hRefFfnUpIdeal)
    ∧ quiescent_FfnDown (hFfnDown := hFfnDown)
    ∧ quiescent_FfnDownIdeal (hFfnDownIdeal := hFfnDownIdeal)
    ∧ quiescent_RefFfnDownIdeal (hRefFfnDownIdeal := hRefFfnDownIdeal)
    ∧ quiescent_InProj (hInProj := hInProj)
    ∧ quiescent_InProjIdeal (hInProjIdeal := hInProjIdeal)
    ∧ quiescent_RefInProjIdeal (hRefInProjIdeal := hRefInProjIdeal)
    ∧ quiescent_InDh (hInDh := hInDh)
    ∧ quiescent_InDhIdeal (hInDhIdeal := hInDhIdeal)
    ∧ quiescent_RefInDhIdeal (hRefInDhIdeal := hRefInDhIdeal)
    ∧ quiescent_InG (hInG := hInG)
    ∧ quiescent_InGIdeal (hInGIdeal := hInGIdeal)
    ∧ quiescent_RefInGIdeal (hRefInGIdeal := hRefInGIdeal)
    ∧ quiescent_OutProj (hOutProj := hOutProj)
    ∧ quiescent_OutProjIdeal (hOutProjIdeal := hOutProjIdeal)
    ∧ quiescent_RefOutProjIdeal (hRefOutProjIdeal := hRefOutProjIdeal)
    ∧ quiescent_RowsT (hRowsT := hRowsT)
    ∧ quiescent_RowsTIdeal (hRowsTIdeal := hRowsTIdeal)
    ∧ quiescent_RefRowsTIdeal (hRefRowsTIdeal := hRefRowsTIdeal)
    ∧ quiescent_RowsG (hRowsG := hRowsG)
    ∧ quiescent_RowsGIdeal (hRowsGIdeal := hRowsGIdeal)
    ∧ quiescent_RefRowsGIdeal (hRefRowsGIdeal := hRefRowsGIdeal)
    ∧ quiescent_PoolIn (hPoolIn := hPoolIn)
    ∧ quiescent_PoolInIdeal (hPoolInIdeal := hPoolInIdeal)
    ∧ quiescent_RefPoolInIdeal (hRefPoolInIdeal := hRefPoolInIdeal)
    ∧ quiescent_PoolGrp (hPoolGrp := hPoolGrp)
    ∧ quiescent_PoolGrpIdeal (hPoolGrpIdeal := hPoolGrpIdeal)
    ∧ quiescent_RefPoolGrpIdeal (hRefPoolGrpIdeal := hRefPoolGrpIdeal)
    ∧ quiescent_PoolGrpT (hPoolGrpT := hPoolGrpT)
    ∧ quiescent_PoolGrpTIdeal (hPoolGrpTIdeal := hPoolGrpTIdeal)
    ∧ quiescent_RefPoolGrpTIdeal (hRefPoolGrpTIdeal := hRefPoolGrpTIdeal)
    ∧ quiescent_PoolGrpG (hPoolGrpG := hPoolGrpG)
    ∧ quiescent_PoolGrpGIdeal (hPoolGrpGIdeal := hPoolGrpGIdeal)
    ∧ quiescent_RefPoolGrpGIdeal (hRefPoolGrpGIdeal := hRefPoolGrpGIdeal)
    ∧ quiescent_AdamSmall (hAdamSmall := hAdamSmall)
    ∧ quiescent_AdamSmallIdeal (hAdamSmallIdeal := hAdamSmallIdeal)
    ∧ quiescent_RefAdamSmallIdeal (hRefAdamSmallIdeal := hRefAdamSmallIdeal)
    ∧ quiescent_AdaStep (hAdaStep := hAdaStep)
    ∧ quiescent_AdaStepIdeal (hAdaStepIdeal := hAdaStepIdeal)
    ∧ quiescent_RefAdaStepIdeal (hRefAdaStepIdeal := hRefAdaStepIdeal)
    ∧ quiescent_AdamFfn (hAdamFfn := hAdamFfn)
    ∧ quiescent_AdamFfnIdeal (hAdamFfnIdeal := hAdamFfnIdeal)
    ∧ quiescent_RefAdamFfnIdeal (hRefAdamFfnIdeal := hRefAdamFfnIdeal)
    ∧ quiescent_AdamIn (hAdamIn := hAdamIn)
    ∧ quiescent_AdamInIdeal (hAdamInIdeal := hAdamInIdeal)
    ∧ quiescent_RefAdamInIdeal (hRefAdamInIdeal := hRefAdamInIdeal)
    ∧ quiescent_AdamOut (hAdamOut := hAdamOut)
    ∧ quiescent_AdamOutIdeal (hAdamOutIdeal := hAdamOutIdeal)
    ∧ quiescent_RefAdamOutIdeal (hRefAdamOutIdeal := hRefAdamOutIdeal)
    ∧ quiescent_AdamGrp (hAdamGrp := hAdamGrp)
    ∧ quiescent_AdamGrpIdeal (hAdamGrpIdeal := hAdamGrpIdeal)
    ∧ quiescent_RefAdamGrpIdeal (hRefAdamGrpIdeal := hRefAdamGrpIdeal)
    ∧ quiescent_Mods (hMods := hMods)
    ∧ quiescent_ModsIdeal (hModsIdeal := hModsIdeal)
    ∧ quiescent_RefModsIdeal (hRefModsIdeal := hRefModsIdeal)
    ∧ quiescent_NormMix (hNormMix := hNormMix)
    ∧ quiescent_NormMixIdeal (hNormMixIdeal := hNormMixIdeal)
    ∧ quiescent_RefNormMixIdeal (hRefNormMixIdeal := hRefNormMixIdeal)
    ∧ quiescent_NormFfn (hNormFfn := hNormFfn)
    ∧ quiescent_NormFfnIdeal (hNormFfnIdeal := hNormFfnIdeal)
    ∧ quiescent_RefNormFfnIdeal (hRefNormFfnIdeal := hRefNormFfnIdeal)
    ∧ quiescent_Readout (hReadout := hReadout)
    ∧ quiescent_ReadoutIdeal (hReadoutIdeal := hReadoutIdeal)
    ∧ quiescent_RefReadoutIdeal (hRefReadoutIdeal := hRefReadoutIdeal)
    ∧ quiescent_ChunkMlp (hChunkMlp := hChunkMlp)
    ∧ quiescent_ChunkMlpIdeal (hChunkMlpIdeal := hChunkMlpIdeal)
    ∧ quiescent_RefChunkMlpIdeal (hRefChunkMlpIdeal := hRefChunkMlpIdeal)
    ∧ quiescent_SumSmall (hSumSmall := hSumSmall)
    ∧ quiescent_SumSmallIdeal (hSumSmallIdeal := hSumSmallIdeal)
    ∧ quiescent_RefSumSmallIdeal (hRefSumSmallIdeal := hRefSumSmallIdeal)
    ∧ preserves_FfnDa_FfnDaIdeal
    ∧ algebraic_FfnDaIdeal_RefDaIdeal (hFfnDaIdeal := hFfnDaIdeal) (hRefDaIdeal := hRefDaIdeal)
    ∧ preserves_FfnGdown_FfnGdownIdeal
    ∧ algebraic_FfnGdownIdeal_RefGdownIdeal (hFfnGdownIdeal := hFfnGdownIdeal) (hRefGdownIdeal := hRefGdownIdeal)
    ∧ preserves_FfnDh_FfnDhIdeal
    ∧ algebraic_FfnDhIdeal_RefDhIdeal (hFfnDhIdeal := hFfnDhIdeal) (hRefDhIdeal := hRefDhIdeal)
    ∧ preserves_FfnGup_FfnGupIdeal
    ∧ algebraic_FfnGupIdeal_RefGupIdeal (hFfnGupIdeal := hFfnGupIdeal) (hRefGupIdeal := hRefGupIdeal)
    ∧ preserves_FfnUp_FfnUpIdeal
    ∧ algebraic_FfnUpIdeal_RefFfnUpIdeal (hFfnUpIdeal := hFfnUpIdeal) (hRefFfnUpIdeal := hRefFfnUpIdeal)
    ∧ preserves_FfnDown_FfnDownIdeal
    ∧ algebraic_FfnDownIdeal_RefFfnDownIdeal (hFfnDownIdeal := hFfnDownIdeal) (hRefFfnDownIdeal := hRefFfnDownIdeal)
    ∧ preserves_InProj_InProjIdeal
    ∧ algebraic_InProjIdeal_RefInProjIdeal (hInProjIdeal := hInProjIdeal) (hRefInProjIdeal := hRefInProjIdeal)
    ∧ preserves_InDh_InDhIdeal
    ∧ algebraic_InDhIdeal_RefInDhIdeal (hInDhIdeal := hInDhIdeal) (hRefInDhIdeal := hRefInDhIdeal)
    ∧ preserves_InG_InGIdeal
    ∧ algebraic_InGIdeal_RefInGIdeal (hInGIdeal := hInGIdeal) (hRefInGIdeal := hRefInGIdeal)
    ∧ preserves_OutProj_OutProjIdeal
    ∧ algebraic_OutProjIdeal_RefOutProjIdeal (hOutProjIdeal := hOutProjIdeal) (hRefOutProjIdeal := hRefOutProjIdeal)
    ∧ preserves_RowsT_RowsTIdeal
    ∧ algebraic_RowsTIdeal_RefRowsTIdeal (hRowsTIdeal := hRowsTIdeal) (hRefRowsTIdeal := hRefRowsTIdeal)
    ∧ preserves_RowsG_RowsGIdeal
    ∧ algebraic_RowsGIdeal_RefRowsGIdeal (hRowsGIdeal := hRowsGIdeal) (hRefRowsGIdeal := hRefRowsGIdeal)
    ∧ preserves_PoolIn_PoolInIdeal
    ∧ algebraic_PoolInIdeal_RefPoolInIdeal (hPoolInIdeal := hPoolInIdeal) (hRefPoolInIdeal := hRefPoolInIdeal)
    ∧ preserves_PoolGrp_PoolGrpIdeal
    ∧ algebraic_PoolGrpIdeal_RefPoolGrpIdeal (hPoolGrpIdeal := hPoolGrpIdeal) (hRefPoolGrpIdeal := hRefPoolGrpIdeal)
    ∧ preserves_PoolGrpT_PoolGrpTIdeal
    ∧ algebraic_PoolGrpTIdeal_RefPoolGrpTIdeal (hPoolGrpTIdeal := hPoolGrpTIdeal) (hRefPoolGrpTIdeal := hRefPoolGrpTIdeal)
    ∧ preserves_PoolGrpG_PoolGrpGIdeal
    ∧ algebraic_PoolGrpGIdeal_RefPoolGrpGIdeal (hPoolGrpGIdeal := hPoolGrpGIdeal) (hRefPoolGrpGIdeal := hRefPoolGrpGIdeal)
    ∧ preserves_AdamSmall_AdamSmallIdeal
    ∧ algebraic_AdamSmallIdeal_RefAdamSmallIdeal (hAdamSmallIdeal := hAdamSmallIdeal) (hRefAdamSmallIdeal := hRefAdamSmallIdeal)
    ∧ preserves_AdaStep_AdaStepIdeal
    ∧ algebraic_AdaStepIdeal_RefAdaStepIdeal (hAdaStepIdeal := hAdaStepIdeal) (hRefAdaStepIdeal := hRefAdaStepIdeal)
    ∧ preserves_AdamFfn_AdamFfnIdeal
    ∧ algebraic_AdamFfnIdeal_RefAdamFfnIdeal (hAdamFfnIdeal := hAdamFfnIdeal) (hRefAdamFfnIdeal := hRefAdamFfnIdeal)
    ∧ preserves_AdamIn_AdamInIdeal
    ∧ algebraic_AdamInIdeal_RefAdamInIdeal (hAdamInIdeal := hAdamInIdeal) (hRefAdamInIdeal := hRefAdamInIdeal)
    ∧ preserves_AdamOut_AdamOutIdeal
    ∧ algebraic_AdamOutIdeal_RefAdamOutIdeal (hAdamOutIdeal := hAdamOutIdeal) (hRefAdamOutIdeal := hRefAdamOutIdeal)
    ∧ preserves_AdamGrp_AdamGrpIdeal
    ∧ algebraic_AdamGrpIdeal_RefAdamGrpIdeal (hAdamGrpIdeal := hAdamGrpIdeal) (hRefAdamGrpIdeal := hRefAdamGrpIdeal)
    ∧ preserves_Mods_ModsIdeal
    ∧ algebraic_ModsIdeal_RefModsIdeal (hModsIdeal := hModsIdeal) (hRefModsIdeal := hRefModsIdeal)
    ∧ preserves_NormMix_NormMixIdeal
    ∧ algebraic_NormMixIdeal_RefNormMixIdeal (hNormMixIdeal := hNormMixIdeal) (hRefNormMixIdeal := hRefNormMixIdeal)
    ∧ preserves_NormFfn_NormFfnIdeal
    ∧ algebraic_NormFfnIdeal_RefNormFfnIdeal (hNormFfnIdeal := hNormFfnIdeal) (hRefNormFfnIdeal := hRefNormFfnIdeal)
    ∧ preserves_Readout_ReadoutIdeal
    ∧ algebraic_ReadoutIdeal_RefReadoutIdeal (hReadoutIdeal := hReadoutIdeal) (hRefReadoutIdeal := hRefReadoutIdeal)
    ∧ preserves_ChunkMlp_ChunkMlpIdeal
    ∧ algebraic_ChunkMlpIdeal_RefChunkMlpIdeal (hChunkMlpIdeal := hChunkMlpIdeal) (hRefChunkMlpIdeal := hRefChunkMlpIdeal)
    ∧ preserves_SumSmall_SumSmallIdeal
    ∧ algebraic_SumSmallIdeal_RefSumSmallIdeal (hSumSmallIdeal := hSumSmallIdeal) (hRefSumSmallIdeal := hRefSumSmallIdeal)
-- ==== FfnDa.lean ====
abbrev S8448x2048 : Shape := ⟨2, ![8448, 2048]⟩
abbrev S8192x2048 : Shape := ⟨2, ![8192, 2048]⟩
abbrev S8448x8192 : Shape := ⟨2, ![8448, 8192]⟩
abbrev S_ : Shape := ⟨0, ![]⟩
abbrev S4x1x2048x2048 : Shape := ⟨4, ![4, 1, 2048, 2048]⟩
abbrev S1408x2048 : Shape := ⟨2, ![1408, 2048]⟩
abbrev S1x1x1024x2048 : Shape := ⟨4, ![1, 1, 1024, 2048]⟩
abbrev S1408x1024 : Shape := ⟨2, ![1408, 1024]⟩
abbrev S1024x2048 : Shape := ⟨2, ![1024, 2048]⟩

abbrev nBuf : Space → Nat
  | .hbm => 11
  | .vmem => 8
  | .smem => 0
  | _ => 0

abbrev bufTy : (tb : Table) → Fin (tcTables nBuf tb) → BufTy
  | .hbm, ⟨0, _⟩ => ⟨S8448x2048, .bf16⟩
  | .hbm, ⟨1, _⟩ => ⟨S8192x2048, .f32⟩
  | .hbm, ⟨2, _⟩ => ⟨S8448x8192, .f32⟩
  | .hbm, ⟨3, _⟩ => ⟨S_, .f32⟩
  | .hbm, ⟨4, _⟩ => ⟨S8448x8192, .f32⟩
  | .hbm, ⟨5, _⟩ => ⟨S8448x8192, .f32⟩
  | .hbm, ⟨6, _⟩ => ⟨S8448x8192, .f32⟩
  | .hbm, ⟨7, _⟩ => ⟨S8448x8192, .bf16⟩
  | .hbm, ⟨8, _⟩ => ⟨S4x1x2048x2048, .f32⟩
  | .hbm, ⟨9, _⟩ => ⟨S4x1x2048x2048, .bf16⟩
  | .hbm, ⟨10, _⟩ => ⟨S8448x8192, .bf16⟩
  | .local _ .vmem, ⟨0, _⟩ => ⟨S1408x2048, .bf16⟩
  | .local _ .vmem, ⟨1, _⟩ => ⟨S1408x2048, .bf16⟩
  | .local _ .vmem, ⟨2, _⟩ => ⟨S1x1x1024x2048, .bf16⟩
  | .local _ .vmem, ⟨3, _⟩ => ⟨S1x1x1024x2048, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .bf16⟩
  | .local _ .vmem, ⟨7, _⟩ => ⟨S1408x1024, .bf16⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![6, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefDaIdeal.lean ====
abbrev S8448x2048 : Shape := ⟨2, ![8448, 2048]⟩
abbrev S8192x2048 : Shape := ⟨2, ![8192, 2048]⟩
abbrev S8448x8192 : Shape := ⟨2, ![8448, 8192]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S8192x2048, .f32⟩
  | .hbm, ⟨2, _⟩ => ⟨S8448x8192, .f32⟩
  | .hbm, ⟨3, _⟩ => ⟨S_, .f32⟩
  | .hbm, ⟨4, _⟩ => ⟨S8448x8192, .f32⟩
  | .hbm, ⟨5, _⟩ => ⟨S8448x8192, .f32⟩
  | .hbm, ⟨6, _⟩ => ⟨S_, .f32⟩
  | .hbm, ⟨7, _⟩ => ⟨S8448x8192, .f32⟩
  | .hbm, ⟨8, _⟩ => ⟨S8448x8192, .i1⟩
  | .hbm, ⟨9, _⟩ => ⟨S_, .f32⟩
  | .hbm, ⟨10, _⟩ => ⟨S8448x8192, .f32⟩
  | .hbm, ⟨11, _⟩ => ⟨S8448x8192, .f32⟩
  | .hbm, ⟨12, _⟩ => ⟨S_, .f32⟩
  | .hbm, ⟨13, _⟩ => ⟨S8448x8192, .f32⟩
  | .hbm, ⟨14, _⟩ => ⟨S8448x8192, .f32⟩
  | .hbm, ⟨15, _⟩ => ⟨S8448x2048, .f32⟩
  | .hbm, ⟨16, _⟩ => ⟨S8448x2048, .f32⟩
  | .hbm, ⟨17, _⟩ => ⟨S8448x8192, .f32⟩
  | .hbm, ⟨18, _⟩ => ⟨S8448x8192, .f32⟩
  | .hbm, ⟨19, _⟩ => ⟨S_, .f32⟩
  | .hbm, ⟨20, _⟩ => ⟨S8448x8192, .f32⟩
  | .hbm, ⟨21, _⟩ => ⟨S8448x8192, .f32⟩
  | .hbm, ⟨22, _⟩ => ⟨S8448x8192, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]
-- ==== FfnGdown.lean ====
abbrev S8448x2048 : Shape := ⟨2, ![8448, 2048]⟩
abbrev S8448x8192 : Shape := ⟨2, ![8448, 8192]⟩
abbrev S_ : Shape := ⟨0, ![]⟩
abbrev S4x1x2048x2048 : Shape := ⟨4, ![4, 1, 2048, 2048]⟩
abbrev S768x1024 : Shape := ⟨2, ![768, 1024]⟩
abbrev S768x2048 : Shape := ⟨2, ![768, 2048]⟩
abbrev S1x1x1024x2048 : Shape := ⟨4, ![1, 1, 1024, 2048]⟩
abbrev S1024x2048 : Shape := ⟨2, ![1024, 2048]⟩

abbrev nBuf : Space → Nat
  | .hbm => 8
  | .vmem => 7
  | .smem => 0
  | _ => 0

abbrev bufTy : (tb : Table) → Fin (tcTables nBuf tb) → BufTy
  | .hbm, ⟨0, _⟩ => ⟨S8448x2048, .bf16⟩
  | .hbm, ⟨1, _⟩ => ⟨S8448x8192, .f32⟩
  | .hbm, ⟨2, _⟩ => ⟨S_, .f32⟩
  | .hbm, ⟨3, _⟩ => ⟨S8448x8192, .f32⟩
  | .hbm, ⟨4, _⟩ => ⟨S8448x8192, .f32⟩
  | .hbm, ⟨5, _⟩ => ⟨S8448x8192, .f32⟩
  | .hbm, ⟨6, _⟩ => ⟨S8448x8192, .bf16⟩
  | .hbm, ⟨7, _⟩ => ⟨S4x1x2048x2048, .bf16⟩
  | .local _ .vmem, ⟨0, _⟩ => ⟨S768x1024, .bf16⟩
  | .local _ .vmem, ⟨1, _⟩ => ⟨S768x1024, .bf16⟩
  | .local _ .vmem, ⟨2, _⟩ => ⟨S768x2048, .bf16⟩
  | .local _ .vmem, ⟨3, _⟩ => ⟨S768x2048, .bf16⟩
  | .local _ .vmem, ⟨4, _⟩ => ⟨S1x1x1024x2048, .bf16⟩
  | .local _ .vmem, ⟨5, _⟩ => ⟨S1x1x1024x2048, .bf16⟩
  | .local _ .vmem, ⟨6, _⟩ => ⟨S1024x2048, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 2, 1, 11], ![false, false, false, false]⟩

def k0_cond2 (i : grid0.Coords) : BitVec 1 :=
  let arg3 : BitVec 32 := BitVec.ofNat 32 (i 3).val
  let c10_i32 : BitVec 32 := 10#32
  let v12 : BitVec 1 := Scalar.cmpi .eq arg3 c10_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let v1 : BitVec 32 := Scalar.addi v0 arg1
  let c0_i32 : BitVec 32 := 0#32
  ![arg3.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat, arg1.toNat, arg2.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S768x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1x1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== RefGdownIdeal.lean ====
abbrev S8448x2048 : Shape := ⟨2, ![8448, 2048]⟩
abbrev S8448x8192 : Shape := ⟨2, ![8448, 8192]⟩
abbrev S_ : Shape := ⟨0, ![]⟩
abbrev S8192x2048 : Shape := ⟨2, ![8192, 2048]⟩
abbrev S2048x8192 : Shape := ⟨2, ![2048, 8192]⟩
abbrev S4x1x2048x2048 : Shape := ⟨4, ![4, 1, 2048, 2048]⟩

abbrev nBuf : Space → Nat
  | .hbm => 14
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S8448x8192, .f32⟩
  | .hbm, ⟨2, _⟩ => ⟨S_, .f32⟩
  | .hbm, ⟨3, _⟩ => ⟨S8192x2048, .f32⟩
  | .hbm, ⟨4, _⟩ => ⟨S_, .f32⟩
  | .hbm, ⟨5, _⟩ => ⟨S8448x8192, .f32⟩
  | .hbm, ⟨6, _⟩ => ⟨S8448x8192, .f32⟩
  | .hbm, ⟨7, _⟩ => ⟨S8448x8192, .f32⟩
  | .hbm, ⟨8, _⟩ => ⟨S8448x2048, .f32⟩
  | .hbm, ⟨9, _⟩ => ⟨S8448x2048, .f32⟩
  | .hbm, ⟨10, _⟩ => ⟨S2048x8192, .f32⟩
  | .hbm, ⟨11, _⟩ => ⟨S8192x2048, .f32⟩
  | .hbm, ⟨12, _⟩ => ⟨S4x1x2048x2048, .f32⟩
  | .hbm, ⟨13, _⟩ => ⟨S4x1x2048x2048, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== FfnDh.lean ====
abbrev S8448x8192 : Shape := ⟨2, ![8448, 8192]⟩
abbrev S2048x8192 : Shape := ⟨2, ![2048, 8192]⟩
abbrev S2048x4x2048 : Shape := ⟨3, ![2048, 4, 2048]⟩
abbrev S4x2048x2048 : Shape := ⟨3, ![4, 2048, 2048]⟩
abbrev S4x1x2048x2048 : Shape := ⟨4, ![4, 1, 2048, 2048]⟩
abbrev S8448x2048 : Shape := ⟨2, ![8448, 2048]⟩
abbrev S1408x2048 : Shape := ⟨2, ![1408, 2048]⟩
abbrev S1x1x1024x2048 : Shape := ⟨4, ![1, 1, 1024, 2048]⟩
abbrev S1408x1024 : Shape := ⟨2, ![1408, 1024]⟩
abbrev S1024x2048 : Shape := ⟨2, ![1024, 2048]⟩

abbrev nBuf : Space → Nat
  | .hbm => 7
  | .vmem => 7
  | .smem => 0
  | _ => 0

abbrev bufTy : (tb : Table) → Fin (tcTables nBuf tb) → BufTy
  | .hbm, ⟨0, _⟩ => ⟨S8448x8192, .bf16⟩
  | .hbm, ⟨1, _⟩ => ⟨S2048x8192, .f32⟩
  | .hbm, ⟨2, _⟩ => ⟨S2048x4x2048, .f32⟩
  | .hbm, ⟨3, _⟩ => ⟨S4x2048x2048, .f32⟩
  | .hbm, ⟨4, _⟩ => ⟨S4x1x2048x2048, .f32⟩
  | .hbm, ⟨5, _⟩ => ⟨S4x1x2048x2048, .bf16⟩
  | .hbm, ⟨6, _⟩ => ⟨S8448x2048, .f32⟩
  | .local _ .vmem, ⟨0, _⟩ => ⟨S1408x2048, .bf16⟩
  | .local _ .vmem, ⟨1, _⟩ => ⟨S1408x2048, .bf16⟩
  | .local _ .vmem, ⟨2, _⟩ => ⟨S1x1x1024x2048, .bf16⟩
  | .local _ .vmem, ⟨3, _⟩ => ⟨S1x1x1024x2048, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8448x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDhIdeal.lean ====
abbrev S8448x8192 : Shape := ⟨2, ![8448, 8192]⟩
abbrev S2048x8192 : Shape := ⟨2, ![2048, 8192]⟩
abbrev S_ : Shape := ⟨0, ![]⟩
abbrev S8448x2048 : Shape := ⟨2, ![8448, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8448x8192, .bf16⟩
  | .hbm, ⟨1, _⟩ => ⟨S2048x8192, .f32⟩
  | .hbm, ⟨2, _⟩ => ⟨S_, .f32⟩
  | .hbm, ⟨3, _⟩ => ⟨S8448x2048, .f32⟩
  | .hbm, ⟨4, _⟩ => ⟨S8448x8192, .f32⟩
  | .hbm, ⟨5, _⟩ => ⟨S8448x8192, .f32⟩
  | .hbm, ⟨6, _⟩ => ⟨S8448x2048, .f32⟩
  | _, _ => ⟨S8448x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FfnGup.lean ====
abbrev S8448x2048 : Shape := ⟨2, ![8448, 2048]⟩
abbrev S8448x8192 : Shape := ⟨2, ![8448, 8192]⟩
abbrev S4x1x2048x2048 : Shape := ⟨4, ![4, 1, 2048, 2048]⟩
abbrev S768x1024 : Shape := ⟨2, ![768, 1024]⟩
abbrev S768x2048 : Shape := ⟨2, ![768, 2048]⟩
abbrev S1x1x1024x2048 : Shape := ⟨4, ![1, 1, 1024, 2048]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8448x2048, .bf16⟩
  | .hbm, ⟨1, _⟩ => ⟨S8448x8192, .bf16⟩
  | .hbm, ⟨2, _⟩ => ⟨S4x1x2048x2048, .bf16⟩
  | .local _ .vmem, ⟨0, _⟩ => ⟨S768x1024, .bf16⟩
  | .local _ .vmem, ⟨1, _⟩ => ⟨S768x1024, .bf16⟩
  | .local _ .vmem, ⟨2, _⟩ => ⟨S768x2048, .bf16⟩
  | .local _ .vmem, ⟨3, _⟩ => ⟨S768x2048, .bf16⟩
  | .local _ .vmem, ⟨4, _⟩ => ⟨S1x1x1024x2048, .bf16⟩
  | .local _ .vmem, ⟨5, _⟩ => ⟨S1x1x1024x2048, .bf16⟩
  | .local _ .vmem, ⟨6, _⟩ => ⟨S1024x2048, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 2, 1, 11], ![false, false, false, false]⟩

def k0_cond2 (i : grid0.Coords) : BitVec 1 :=
  let arg3 : BitVec 32 := BitVec.ofNat 32 (i 3).val
  let c10_i32 : BitVec 32 := 10#32
  let v11 : BitVec 1 := Scalar.cmpi .eq arg3 c10_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg2
  let c0_i32 : BitVec 32 := 0#32
  ![arg3.toNat, v1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat, arg1.toNat, arg2.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S768x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== RefGupIdeal.lean ====
abbrev S8448x2048 : Shape := ⟨2, ![8448, 2048]⟩
abbrev S8448x8192 : Shape := ⟨2, ![8448, 8192]⟩
abbrev S_ : Shape := ⟨0, ![]⟩
abbrev S2048x8192 : Shape := ⟨2, ![2048, 8192]⟩
abbrev S8192x2048 : Shape := ⟨2, ![8192, 2048]⟩
abbrev S2048x4x2048 : Shape := ⟨3, ![2048, 4, 2048]⟩
abbrev S4x2048x2048 : Shape := ⟨3, ![4, 2048, 2048]⟩
abbrev S4x1x2048x2048 : Shape := ⟨4, ![4, 1, 2048, 2048]⟩

abbrev nBuf : Space → Nat
  | .hbm => 13
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S8448x8192, .bf16⟩
  | .hbm, ⟨2, _⟩ => ⟨S_, .f32⟩
  | .hbm, ⟨3, _⟩ => ⟨S2048x8192, .f32⟩
  | .hbm, ⟨4, _⟩ => ⟨S8448x2048, .f32⟩
  | .hbm, ⟨5, _⟩ => ⟨S8448x8192, .f32⟩
  | .hbm, ⟨6, _⟩ => ⟨S8448x8192, .f32⟩
  | .hbm, ⟨7, _⟩ => ⟨S8192x2048, .f32⟩
  | .hbm, ⟨8, _⟩ => ⟨S2048x8192, .f32⟩
  | .hbm, ⟨9, _⟩ => ⟨S2048x4x2048, .f32⟩
  | .hbm, ⟨10, _⟩ => ⟨S4x2048x2048, .f32⟩
  | .hbm, ⟨11, _⟩ => ⟨S4x1x2048x2048, .f32⟩
  | .hbm, ⟨12, _⟩ => ⟨S4x1x2048x2048, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== FfnUp.lean ====
abbrev S8448x2048 : Shape := ⟨2, ![8448, 2048]⟩
abbrev S2048x8192 : Shape := ⟨2, ![2048, 8192]⟩
abbrev S2048x4x2048 : Shape := ⟨3, ![2048, 4, 2048]⟩
abbrev S4x2048x2048 : Shape := ⟨3, ![4, 2048, 2048]⟩
abbrev S4x1x2048x2048 : Shape := ⟨4, ![4, 1, 2048, 2048]⟩
abbrev S8448x8192 : Shape := ⟨2, ![8448, 8192]⟩
abbrev S1408x2048 : Shape := ⟨2, ![1408, 2048]⟩
abbrev S1x1x2048x1024 : Shape := ⟨4, ![1, 1, 2048, 1024]⟩
abbrev S1408x1024 : Shape := ⟨2, ![1408, 1024]⟩
abbrev S2048x1024 : Shape := ⟨2, ![2048, 1024]⟩

abbrev nBuf : Space → Nat
  | .hbm => 7
  | .vmem => 6
  | .smem => 0
  | _ => 0

abbrev bufTy : (tb : Table) → Fin (tcTables nBuf tb) → BufTy
  | .hbm, ⟨0, _⟩ => ⟨S8448x2048, .bf16⟩
  | .hbm, ⟨1, _⟩ => ⟨S2048x8192, .f32⟩
  | .hbm, ⟨2, _⟩ => ⟨S2048x4x2048, .f32⟩
  | .hbm, ⟨3, _⟩ => ⟨S4x2048x2048, .f32⟩
  | .hbm, ⟨4, _⟩ => ⟨S4x1x2048x2048, .f32⟩
  | .hbm, ⟨5, _⟩ => ⟨S4x1x2048x2048, .bf16⟩
  | .hbm, ⟨6, _⟩ => ⟨S8448x8192, .bf16⟩
  | .local _ .vmem, ⟨0, _⟩ => ⟨S1408x2048, .bf16⟩
  | .local _ .vmem, ⟨1, _⟩ => ⟨S1408x2048, .bf16⟩
  | .local _ .vmem, ⟨2, _⟩ => ⟨S1x1x2048x1024, .bf16⟩
  | .local _ .vmem, ⟨3, _⟩ => ⟨S1x1x2048x1024, .bf16⟩
  | .local _ .vmem, ⟨4, _⟩ => ⟨S1408x1024, .bf16⟩
  | .local _ .vmem, ⟨5, _⟩ => ⟨S1408x1024, .bf16⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefFfnUpIdeal.lean ====
abbrev S8448x2048 : Shape := ⟨2, ![8448, 2048]⟩
abbrev S2048x8192 : Shape := ⟨2, ![2048, 8192]⟩
abbrev S8448x8192 : Shape := ⟨2, ![8448, 8192]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S2048x8192, .f32⟩
  | .hbm, ⟨2, _⟩ => ⟨S8448x2048, .f32⟩
  | .hbm, ⟨3, _⟩ => ⟨S8448x8192, .f32⟩
  | .hbm, ⟨4, _⟩ => ⟨S_, .f32⟩
  | .hbm, ⟨5, _⟩ => ⟨S8448x8192, .f32⟩
  | .hbm, ⟨6, _⟩ => ⟨S8448x8192, .f32⟩
  | .hbm, ⟨7, _⟩ => ⟨S8448x8192, .f32⟩
  | .hbm, ⟨8, _⟩ => ⟨S8448x8192, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== FfnDown.lean ====
abbrev S8448x8192 : Shape := ⟨2, ![8448, 8192]⟩
abbrev S8192x2048 : Shape := ⟨2, ![8192, 2048]⟩
abbrev S8448x2048 : Shape := ⟨2, ![8448, 2048]⟩
abbrev S2x6x2048 : Shape := ⟨3, ![2, 6, 2048]⟩
abbrev S4x1x2048x2048 : Shape := ⟨4, ![4, 1, 2048, 2048]⟩
abbrev S1056x2048 : Shape := ⟨2, ![1056, 2048]⟩
abbrev S1x1x2048x1024 : Shape := ⟨4, ![1, 1, 2048, 1024]⟩
abbrev S1056x1024 : Shape := ⟨2, ![1056, 1024]⟩
abbrev S2x6x1024 : Shape := ⟨3, ![2, 6, 1024]⟩
abbrev S2048x1024 : Shape := ⟨2, ![2048, 1024]⟩
abbrev S1x1x1024 : Shape := ⟨3, ![1, 1, 1024]⟩
abbrev S1x1024 : Shape := ⟨2, ![1, 1024]⟩

abbrev nBuf : Space → Nat
  | .hbm => 8
  | .vmem => 13
  | .smem => 0
  | _ => 0

abbrev bufTy : (tb : Table) → Fin (tcTables nBuf tb) → BufTy
  | .hbm, ⟨0, _⟩ => ⟨S8448x8192, .bf16⟩
  | .hbm, ⟨1, _⟩ => ⟨S8192x2048, .f32⟩
  | .hbm, ⟨2, _⟩ => ⟨S8448x2048, .f32⟩
  | .hbm, ⟨3, _⟩ => ⟨S2x6x2048, .f32⟩
  | .hbm, ⟨4, _⟩ => ⟨S4x1x2048x2048, .f32⟩
  | .hbm, ⟨5, _⟩ => ⟨S4x1x2048x2048, .bf16⟩
  | .hbm, ⟨6, _⟩ => ⟨S8448x2048, .f32⟩
  | .hbm, ⟨7, _⟩ => ⟨S8448x2048, .bf16⟩
  | .local _ .vmem, ⟨0, _⟩ => ⟨S1056x2048, .bf16⟩
  | .local _ .vmem, ⟨1, _⟩ => ⟨S1056x2048, .bf16⟩
  | .local _ .vmem, ⟨2, _⟩ => ⟨S1x1x2048x1024, .bf16⟩
  | .local _ .vmem, ⟨3, _⟩ => ⟨S1x1x2048x1024, .bf16⟩
  | .local _ .vmem, ⟨4, _⟩ => ⟨S1056x1024, .f32⟩
  | .local _ .vmem, ⟨5, _⟩ => ⟨S1056x1024, .f32⟩
  | .local _ .vmem, ⟨6, _⟩ => ⟨S2x6x1024, .f32⟩
  | .local _ .vmem, ⟨7, _⟩ => ⟨S2x6x1024, .f32⟩
  | .local _ .vmem, ⟨8, _⟩ => ⟨S1056x1024, .f32⟩
  | .local _ .vmem, ⟨9, _⟩ => ⟨S1056x1024, .f32⟩
  | .local _ .vmem, ⟨10, _⟩ => ⟨S1056x1024, .bf16⟩
  | .local _ .vmem, ⟨11, _⟩ => ⟨S1056x1024, .bf16⟩
  | .local _ .vmem, ⟨12, _⟩ => ⟨S1056x1024, .f32⟩
  | _, _ => ⟨S8448x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1056x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1056x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== RefFfnDownIdeal.lean ====
abbrev S8448x8192 : Shape := ⟨2, ![8448, 8192]⟩
abbrev S8192x2048 : Shape := ⟨2, ![8192, 2048]⟩
abbrev S8448x2048 : Shape := ⟨2, ![8448, 2048]⟩
abbrev S2x6x2048 : Shape := ⟨3, ![2, 6, 2048]⟩
abbrev S256x2048 : Shape := ⟨2, ![256, 2048]⟩
abbrev S1x1x2048 : Shape := ⟨3, ![1, 1, 2048]⟩
abbrev S2048 : Shape := ⟨1, ![2048]⟩
abbrev S1x2048 : Shape := ⟨2, ![1, 2048]⟩

abbrev nBuf : Space → Nat
  | .hbm => 24
  | .vmem => 0
  | .smem => 0
  | _ => 0

abbrev bufTy : (tb : Table) → Fin (tcTables nBuf tb) → BufTy
  | .hbm, ⟨0, _⟩ => ⟨S8448x8192, .bf16⟩
  | .hbm, ⟨1, _⟩ => ⟨S8192x2048, .f32⟩
  | .hbm, ⟨2, _⟩ => ⟨S8448x2048, .f32⟩
  | .hbm, ⟨3, _⟩ => ⟨S2x6x2048, .f32⟩
  | .hbm, ⟨4, _⟩ => ⟨S8448x8192, .f32⟩
  | .hbm, ⟨5, _⟩ => ⟨S8448x2048, .f32⟩
  | .hbm, ⟨6, _⟩ => ⟨S256x2048, .f32⟩
  | .hbm, ⟨7, _⟩ => ⟨S1x1x2048, .f32⟩
  | .hbm, ⟨8, _⟩ => ⟨S2048, .f32⟩
  | .hbm, ⟨9, _⟩ => ⟨S256x2048, .f32⟩
  | .hbm, ⟨10, _⟩ => ⟨S1x2048, .f32⟩
  | .hbm, ⟨11, _⟩ => ⟨S256x2048, .f32⟩
  | .hbm, ⟨12, _⟩ => ⟨S256x2048, .f32⟩
  | .hbm, ⟨13, _⟩ => ⟨S256x2048, .f32⟩
  | .hbm, ⟨14, _⟩ => ⟨S8192x2048, .f32⟩
  | .hbm, ⟨15, _⟩ => ⟨S1x1x2048, .f32⟩
  | .hbm, ⟨16, _⟩ => ⟨S2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8448x2048, .f32⟩
  | .hbm, ⟨23, _⟩ => ⟨S8448x2048, .bf16⟩
  | _, _ => ⟨S8448x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩

abbrev nD : Nat := 1
abbrev τ : Topo := Topo.v7x

variable {F : FTy → Type} [FloatOps F]
-- ==== InProj.lean ====
abbrev S8448x2048 : Shape := ⟨2, ![8448, 2048]⟩
abbrev S2048x7168 : Shape := ⟨2, ![2048, 7168]⟩
abbrev S2048x4x1792 : Shape := ⟨3, ![2048, 4, 1792]⟩
abbrev S4x2048x1792 : Shape := ⟨3, ![4, 2048, 1792]⟩
abbrev S4x1x2048x1792 : Shape := ⟨4, ![4, 1, 2048, 1792]⟩
abbrev S8448x7168 : Shape := ⟨2, ![8448, 7168]⟩
abbrev S1408x2048 : Shape := ⟨2, ![1408, 2048]⟩
abbrev S1x1x2048x1792 : Shape := ⟨4, ![1, 1, 2048, 1792]⟩
abbrev S1408x1792 : Shape := ⟨2, ![1408, 1792]⟩
abbrev S2048x1792 : Shape := ⟨2, ![2048, 1792]⟩

abbrev nBuf : Space → Nat
  | .hbm => 7
  | .vmem => 6
  | .smem => 0
  | _ => 0

abbrev bufTy : (tb : Table) → Fin (tcTables nBuf tb) → BufTy
  | .hbm, ⟨0, _⟩ => ⟨S8448x2048, .bf16⟩
  | .hbm, ⟨1, _⟩ => ⟨S2048x7168, .f32⟩
  | .hbm, ⟨2, _⟩ => ⟨S2048x4x1792, .f32⟩
  | .hbm, ⟨3, _⟩ => ⟨S4x2048x1792, .f32⟩
  | .hbm, ⟨4, _⟩ => ⟨S4x1x2048x1792, .f32⟩
  | .hbm, ⟨5, _⟩ => ⟨S4x1x2048x1792, .bf16⟩
  | .hbm, ⟨6, _⟩ => ⟨S8448x7168, .f32⟩
  | .local _ .vmem, ⟨0, _⟩ => ⟨S1408x2048, .bf16⟩
  | .local _ .vmem, ⟨1, _⟩ => ⟨S1408x2048, .bf16⟩
  | .local _ .vmem, ⟨2, _⟩ => ⟨S1x1x2048x1792, .bf16⟩
  | .local _ .vmem, ⟨3, _⟩ => ⟨S1x1x2048x1792, .bf16⟩
  | .local _ .vmem, ⟨4, _⟩ => ⟨S1408x1792, .f32⟩
  | .local _ .vmem, ⟨5, _⟩ => ⟨S1408x1792, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![v16.toNat, c0_i32_11.toNat, c0_i32_12.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefInProjIdeal.lean ====
abbrev S8448x2048 : Shape := ⟨2, ![8448, 2048]⟩
abbrev S2048x7168 : Shape := ⟨2, ![2048, 7168]⟩
abbrev S8448x7168 : Shape := ⟨2, ![8448, 7168]⟩

abbrev nBuf : Space → Nat
  | .hbm => 4
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S2048x7168, .f32⟩
  | .hbm, ⟨2, _⟩ => ⟨S8448x2048, .f32⟩
  | .hbm, ⟨3, _⟩ => ⟨S8448x7168, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== InDh.lean ====
abbrev S8448x7168 : Shape := ⟨2, ![8448, 7168]⟩
abbrev S2048x7168 : Shape := ⟨2, ![2048, 7168]⟩
abbrev S2048x4x1792 : Shape := ⟨3, ![2048, 4, 1792]⟩
abbrev S4x2048x1792 : Shape := ⟨3, ![4, 2048, 1792]⟩
abbrev S4x1x2048x1792 : Shape := ⟨4, ![4, 1, 2048, 1792]⟩
abbrev S8448x2048 : Shape := ⟨2, ![8448, 2048]⟩
abbrev S1408x1792 : Shape := ⟨2, ![1408, 1792]⟩
abbrev S1x1x1024x1792 : Shape := ⟨4, ![1, 1, 1024, 1792]⟩
abbrev S1408x1024 : Shape := ⟨2, ![1408, 1024]⟩
abbrev S1024x1792 : Shape := ⟨2, ![1024, 1792]⟩

abbrev nBuf : Space → Nat
  | .hbm => 7
  | .vmem => 7
  | .smem => 0
  | _ => 0

abbrev bufTy : (tb : Table) → Fin (tcTables nBuf tb) → BufTy
  | .hbm, ⟨0, _⟩ => ⟨S8448x7168, .bf16⟩
  | .hbm, ⟨1, _⟩ => ⟨S2048x7168, .f32⟩
  | .hbm, ⟨2, _⟩ => ⟨S2048x4x1792, .f32⟩
  | .hbm, ⟨3, _⟩ => ⟨S4x2048x1792, .f32⟩
  | .hbm, ⟨4, _⟩ => ⟨S4x1x2048x1792, .f32⟩
  | .hbm, ⟨5, _⟩ => ⟨S4x1x2048x1792, .bf16⟩
  | .hbm, ⟨6, _⟩ => ⟨S8448x2048, .f32⟩
  | .local _ .vmem, ⟨0, _⟩ => ⟨S1408x1792, .bf16⟩
  | .local _ .vmem, ⟨1, _⟩ => ⟨S1408x1792, .bf16⟩
  | .local _ .vmem, ⟨2, _⟩ => ⟨S1x1x1024x1792, .bf16⟩
  | .local _ .vmem, ⟨3, _⟩ => ⟨S1x1x1024x1792, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8448x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefInDhIdeal.lean ====
abbrev S8448x7168 : Shape := ⟨2, ![8448, 7168]⟩
abbrev S2048x7168 : Shape := ⟨2, ![2048, 7168]⟩
abbrev S_ : Shape := ⟨0, ![]⟩
abbrev S8448x2048 : Shape := ⟨2, ![8448, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8448x7168, .bf16⟩
  | .hbm, ⟨1, _⟩ => ⟨S2048x7168, .f32⟩
  | .hbm, ⟨2, _⟩ => ⟨S_, .f32⟩
  | .hbm, ⟨3, _⟩ => ⟨S8448x2048, .f32⟩
  | .hbm, ⟨4, _⟩ => ⟨S8448x7168, .f32⟩
  | .hbm, ⟨5, _⟩ => ⟨S8448x7168, .f32⟩
  | .hbm, ⟨6, _⟩ => ⟨S8448x2048, .f32⟩
  | _, _ => ⟨S8448x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== InG.lean ====
abbrev S8448x2048 : Shape := ⟨2, ![8448, 2048]⟩
abbrev S8448x7168 : Shape := ⟨2, ![8448, 7168]⟩
abbrev S4x1x2048x1792 : Shape := ⟨4, ![4, 1, 2048, 1792]⟩
abbrev S768x1024 : Shape := ⟨2, ![768, 1024]⟩
abbrev S768x1792 : Shape := ⟨2, ![768, 1792]⟩
abbrev S1x1x1024x1792 : Shape := ⟨4, ![1, 1, 1024, 1792]⟩
abbrev S1024x1792 : Shape := ⟨2, ![1024, 1792]⟩

abbrev nBuf : Space → Nat
  | .hbm => 3
  | .vmem => 7
  | .smem => 0
  | _ => 0

abbrev bufTy : (tb : Table) → Fin (tcTables nBuf tb) → BufTy
  | .hbm, ⟨0, _⟩ => ⟨S8448x2048, .bf16⟩
  | .hbm, ⟨1, _⟩ => ⟨S8448x7168, .bf16⟩
  | .hbm, ⟨2, _⟩ => ⟨S4x1x2048x1792, .bf16⟩
  | .local _ .vmem, ⟨0, _⟩ => ⟨S768x1024, .bf16⟩
  | .local _ .vmem, ⟨1, _⟩ => ⟨S768x1024, .bf16⟩
  | .local _ .vmem, ⟨2, _⟩ => ⟨S768x1792, .bf16⟩
  | .local _ .vmem, ⟨3, _⟩ => ⟨S768x1792, .bf16⟩
  | .local _ .vmem, ⟨4, _⟩ => ⟨S1x1x1024x1792, .bf16⟩
  | .local _ .vmem, ⟨5, _⟩ => ⟨S1x1x1024x1792, .bf16⟩
  | .local _ .vmem, ⟨6, _⟩ => ⟨S1024x1792, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 2, 1, 11], ![false, false, false, false]⟩

def k0_cond2 (i : grid0.Coords) : BitVec 1 :=
  let arg3 : BitVec 32 := BitVec.ofNat 32 (i 3).val
  let c10_i32 : BitVec 32 := 10#32
  let v11 : BitVec 1 := Scalar.cmpi .eq arg3 c10_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg2
  let c0_i32 : BitVec 32 := 0#32
  ![arg3.toNat, v1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat, arg1.toNat, arg2.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S768x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1x1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== RefInGIdeal.lean ====
abbrev S8448x2048 : Shape := ⟨2, ![8448, 2048]⟩
abbrev S8448x7168 : Shape := ⟨2, ![8448, 7168]⟩
abbrev S_ : Shape := ⟨0, ![]⟩
abbrev S2048x7168 : Shape := ⟨2, ![2048, 7168]⟩
abbrev S7168x2048 : Shape := ⟨2, ![7168, 2048]⟩
abbrev S2048x4x1792 : Shape := ⟨3, ![2048, 4, 1792]⟩
abbrev S4x2048x1792 : Shape := ⟨3, ![4, 2048, 1792]⟩
abbrev S4x1x2048x1792 : Shape := ⟨4, ![4, 1, 2048, 1792]⟩

abbrev nBuf : Space → Nat
  | .hbm => 13
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S8448x7168, .bf16⟩
  | .hbm, ⟨2, _⟩ => ⟨S_, .f32⟩
  | .hbm, ⟨3, _⟩ => ⟨S2048x7168, .f32⟩
  | .hbm, ⟨4, _⟩ => ⟨S8448x2048, .f32⟩
  | .hbm, ⟨5, _⟩ => ⟨S8448x7168, .f32⟩
  | .hbm, ⟨6, _⟩ => ⟨S8448x7168, .f32⟩
  | .hbm, ⟨7, _⟩ => ⟨S7168x2048, .f32⟩
  | .hbm, ⟨8, _⟩ => ⟨S2048x7168, .f32⟩
  | .hbm, ⟨9, _⟩ => ⟨S2048x4x1792, .f32⟩
  | .hbm, ⟨10, _⟩ => ⟨S4x2048x1792, .f32⟩
  | .hbm, ⟨11, _⟩ => ⟨S4x1x2048x1792, .f32⟩
  | .hbm, ⟨12, _⟩ => ⟨S4x1x2048x1792, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== OutProj.lean ====
abbrev S8448x2048 : Shape := ⟨2, ![8448, 2048]⟩
abbrev S2048x2048 : Shape := ⟨2, ![2048, 2048]⟩
abbrev S2x6x2048 : Shape := ⟨3, ![2, 6, 2048]⟩
abbrev S4x1x512x2048 : Shape := ⟨4, ![4, 1, 512, 2048]⟩
abbrev S1056x512 : Shape := ⟨2, ![1056, 512]⟩
abbrev S1x1x512x1024 : Shape := ⟨4, ![1, 1, 512, 1024]⟩
abbrev S1056x1024 : Shape := ⟨2, ![1056, 1024]⟩
abbrev S2x6x1024 : Shape := ⟨3, ![2, 6, 1024]⟩
abbrev S512x1024 : Shape := ⟨2, ![512, 1024]⟩
abbrev S1x1x1024 : Shape := ⟨3, ![1, 1, 1024]⟩
abbrev S1x1024 : Shape := ⟨2, ![1, 1024]⟩

abbrev nBuf : Space → Nat
  | .hbm => 8
  | .vmem => 13
  | .smem => 0
  | _ => 0

abbrev bufTy : (tb : Table) → Fin (tcTables nBuf tb) → BufTy
  | .hbm, ⟨0, _⟩ => ⟨S8448x2048, .bf16⟩
  | .hbm, ⟨1, _⟩ => ⟨S2048x2048, .f32⟩
  | .hbm, ⟨2, _⟩ => ⟨S8448x2048, .f32⟩
  | .hbm, ⟨3, _⟩ => ⟨S2x6x2048, .f32⟩
  | .hbm, ⟨4, _⟩ => ⟨S4x1x512x2048, .f32⟩
  | .hbm, ⟨5, _⟩ => ⟨S4x1x512x2048, .bf16⟩
  | .hbm, ⟨6, _⟩ => ⟨S8448x2048, .f32⟩
  | .hbm, ⟨7, _⟩ => ⟨S8448x2048, .bf16⟩
  | .local _ .vmem, ⟨0, _⟩ => ⟨S1056x512, .bf16⟩
  | .local _ .vmem, ⟨1, _⟩ => ⟨S1056x512, .bf16⟩
  | .local _ .vmem, ⟨2, _⟩ => ⟨S1x1x512x1024, .bf16⟩
  | .local _ .vmem, ⟨3, _⟩ => ⟨S1x1x512x1024, .bf16⟩
  | .local _ .vmem, ⟨4, _⟩ => ⟨S1056x1024, .f32⟩
  | .local _ .vmem, ⟨5, _⟩ => ⟨S1056x1024, .f32⟩
  | .local _ .vmem, ⟨6, _⟩ => ⟨S2x6x1024, .f32⟩
  | .local _ .vmem, ⟨7, _⟩ => ⟨S2x6x1024, .f32⟩
  | .local _ .vmem, ⟨8, _⟩ => ⟨S1056x1024, .f32⟩
  | .local _ .vmem, ⟨9, _⟩ => ⟨S1056x1024, .f32⟩
  | .local _ .vmem, ⟨10, _⟩ => ⟨S1056x1024, .bf16⟩
  | .local _ .vmem, ⟨11, _⟩ => ⟨S1056x1024, .bf16⟩
  | .local _ .vmem, ⟨12, _⟩ => ⟨S1056x1024, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1056x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1056x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== RefOutProjIdeal.lean ====
abbrev S8448x2048 : Shape := ⟨2, ![8448, 2048]⟩
abbrev S2048x2048 : Shape := ⟨2, ![2048, 2048]⟩
abbrev S2x6x2048 : Shape := ⟨3, ![2, 6, 2048]⟩
abbrev S256x2048 : Shape := ⟨2, ![256, 2048]⟩
abbrev S1x1x2048 : Shape := ⟨3, ![1, 1, 2048]⟩
abbrev S2048 : Shape := ⟨1, ![2048]⟩
abbrev S1x2048 : Shape := ⟨2, ![1, 2048]⟩
abbrev S8192x2048 : Shape := ⟨2, ![8192, 2048]⟩

abbrev nBuf : Space → Nat
  | .hbm => 24
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S2048x2048, .f32⟩
  | .hbm, ⟨2, _⟩ => ⟨S8448x2048, .f32⟩
  | .hbm, ⟨3, _⟩ => ⟨S2x6x2048, .f32⟩
  | .hbm, ⟨4, _⟩ => ⟨S8448x2048, .f32⟩
  | .hbm, ⟨5, _⟩ => ⟨S8448x2048, .f32⟩
  | .hbm, ⟨6, _⟩ => ⟨S256x2048, .f32⟩
  | .hbm, ⟨7, _⟩ => ⟨S1x1x2048, .f32⟩
  | .hbm, ⟨8, _⟩ => ⟨S2048, .f32⟩
  | .hbm, ⟨9, _⟩ => ⟨S256x2048, .f32⟩
  | .hbm, ⟨10, _⟩ => ⟨S1x2048, .f32⟩
  | .hbm, ⟨11, _⟩ => ⟨S256x2048, .f32⟩
  | .hbm, ⟨12, _⟩ => ⟨S256x2048, .f32⟩
  | .hbm, ⟨13, _⟩ => ⟨S256x2048, .f32⟩
  | .hbm, ⟨14, _⟩ => ⟨S8192x2048, .f32⟩
  | .hbm, ⟨15, _⟩ => ⟨S1x1x2048, .f32⟩
  | .hbm, ⟨16, _⟩ => ⟨S2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8448x2048, .f32⟩
  | .hbm, ⟨23, _⟩ => ⟨S8448x2048, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩

abbrev nD : Nat := 1
abbrev τ : Topo := Topo.v7x

variable {F : FTy → Type} [FloatOps F]
-- ==== RowsT.lean ====
abbrev S8448x2048 : Shape := ⟨2, ![8448, 2048]⟩
abbrev S2048x2048 : Shape := ⟨2, ![2048, 2048]⟩
abbrev S4x1x512x2048 : Shape := ⟨4, ![4, 1, 512, 2048]⟩
abbrev S1408x2048 : Shape := ⟨2, ![1408, 2048]⟩
abbrev S1x1x512x2048 : Shape := ⟨4, ![1, 1, 512, 2048]⟩
abbrev S1408x512 : Shape := ⟨2, ![1408, 512]⟩
abbrev S512x2048 : Shape := ⟨2, ![512, 2048]⟩

abbrev nBuf : Space → Nat
  | .hbm => 5
  | .vmem => 6
  | .smem => 0
  | _ => 0

abbrev bufTy : (tb : Table) → Fin (tcTables nBuf tb) → BufTy
  | .hbm, ⟨0, _⟩ => ⟨S8448x2048, .bf16⟩
  | .hbm, ⟨1, _⟩ => ⟨S2048x2048, .f32⟩
  | .hbm, ⟨2, _⟩ => ⟨S4x1x512x2048, .f32⟩
  | .hbm, ⟨3, _⟩ => ⟨S4x1x512x2048, .bf16⟩
  | .hbm, ⟨4, _⟩ => ⟨S8448x2048, .f32⟩
  | .local _ .vmem, ⟨0, _⟩ => ⟨S1408x2048, .bf16⟩
  | .local _ .vmem, ⟨1, _⟩ => ⟨S1408x2048, .bf16⟩
  | .local _ .vmem, ⟨2, _⟩ => ⟨S1x1x512x2048, .bf16⟩
  | .local _ .vmem, ⟨3, _⟩ => ⟨S1x1x512x2048, .bf16⟩
  | .local _ .vmem, ⟨4, _⟩ => ⟨S1408x512, .f32⟩
  | .local _ .vmem, ⟨5, _⟩ => ⟨S1408x512, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![v16.toNat, c0_i32_11.toNat, v26.toNat, c0_i32_12.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefRowsTIdeal.lean ====
abbrev S8448x2048 : Shape := ⟨2, ![8448, 2048]⟩
abbrev S2048x2048 : Shape := ⟨2, ![2048, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S2048x2048, .f32⟩
  | .hbm, ⟨2, _⟩ => ⟨S_, .f32⟩
  | .hbm, ⟨3, _⟩ => ⟨S8448x2048, .f32⟩
  | .hbm, ⟨4, _⟩ => ⟨S8448x2048, .f32⟩
  | .hbm, ⟨5, _⟩ => ⟨S8448x2048, .f32⟩
  | .hbm, ⟨6, _⟩ => ⟨S8448x2048, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== RowsG.lean ====
abbrev S8448x2048 : Shape := ⟨2, ![8448, 2048]⟩
abbrev S4x1x512x2048 : Shape := ⟨4, ![4, 1, 512, 2048]⟩
abbrev S768x512 : Shape := ⟨2, ![768, 512]⟩
abbrev S768x2048 : Shape := ⟨2, ![768, 2048]⟩
abbrev S1x1x512x2048 : Shape := ⟨4, ![1, 1, 512, 2048]⟩
abbrev S512x2048 : Shape := ⟨2, ![512, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8448x2048, .bf16⟩
  | .hbm, ⟨1, _⟩ => ⟨S8448x2048, .bf16⟩
  | .hbm, ⟨2, _⟩ => ⟨S4x1x512x2048, .bf16⟩
  | .local _ .vmem, ⟨0, _⟩ => ⟨S768x512, .bf16⟩
  | .local _ .vmem, ⟨1, _⟩ => ⟨S768x512, .bf16⟩
  | .local _ .vmem, ⟨2, _⟩ => ⟨S768x2048, .bf16⟩
  | .local _ .vmem, ⟨3, _⟩ => ⟨S768x2048, .bf16⟩
  | .local _ .vmem, ⟨4, _⟩ => ⟨S1x1x512x2048, .bf16⟩
  | .local _ .vmem, ⟨5, _⟩ => ⟨S1x1x512x2048, .bf16⟩
  | .local _ .vmem, ⟨6, _⟩ => ⟨S512x2048, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 1, 1, 11], ![false, false, false, false]⟩

def k0_cond2 (i : grid0.Coords) : BitVec 1 :=
  let arg3 : BitVec 32 := BitVec.ofNat 32 (i 3).val
  let c10_i32 : BitVec 32 := 10#32
  let v11 : BitVec 1 := Scalar.cmpi .eq arg3 c10_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg1
  let c0_i32 : BitVec 32 := 0#32
  ![arg3.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat, arg1.toNat, arg2.toNat]

abbrev stage0_0 : Fin 2 → Memref sig .tc .vmem S768x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S768x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1x1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== RefRowsGIdeal.lean ====
abbrev S8448x2048 : Shape := ⟨2, ![8448, 2048]⟩
abbrev S_ : Shape := ⟨0, ![]⟩
abbrev S2048x2048 : Shape := ⟨2, ![2048, 2048]⟩
abbrev S4x1x512x2048 : Shape := ⟨4, ![4, 1, 512, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S8448x2048, .bf16⟩
  | .hbm, ⟨2, _⟩ => ⟨S_, .f32⟩
  | .hbm, ⟨3, _⟩ => ⟨S2048x2048, .f32⟩
  | .hbm, ⟨4, _⟩ => ⟨S8448x2048, .f32⟩
  | .hbm, ⟨5, _⟩ => ⟨S8448x2048, .f32⟩
  | .hbm, ⟨6, _⟩ => ⟨S8448x2048, .f32⟩
  | .hbm, ⟨7, _⟩ => ⟨S2048x2048, .f32⟩
  | .hbm, ⟨8, _⟩ => ⟨S2048x2048, .f32⟩
  | .hbm, ⟨9, _⟩ => ⟨S4x1x512x2048, .f32⟩
  | .hbm, ⟨10, _⟩ => ⟨S4x1x512x2048, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== PoolIn.lean ====
abbrev S8448x2048 : Shape := ⟨2, ![8448, 2048]⟩
abbrev S2048x2048 : Shape := ⟨2, ![2048, 2048]⟩
abbrev S4x1x512x2048 : Shape := ⟨4, ![4, 1, 512, 2048]⟩
abbrev S768x512 : Shape := ⟨2, ![768, 512]⟩
abbrev S1x1x512x1024 : Shape := ⟨4, ![1, 1, 512, 1024]⟩
abbrev S768x1024 : Shape := ⟨2, ![768, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8448x2048, .bf16⟩
  | .hbm, ⟨1, _⟩ => ⟨S2048x2048, .f32⟩
  | .hbm, ⟨2, _⟩ => ⟨S4x1x512x2048, .f32⟩
  | .hbm, ⟨3, _⟩ => ⟨S4x1x512x2048, .bf16⟩
  | .hbm, ⟨4, _⟩ => ⟨S8448x2048, .f32⟩
  | .local _ .vmem, ⟨0, _⟩ => ⟨S768x512, .bf16⟩
  | .local _ .vmem, ⟨1, _⟩ => ⟨S768x512, .bf16⟩
  | .local _ .vmem, ⟨2, _⟩ => ⟨S1x1x512x1024, .bf16⟩
  | .local _ .vmem, ⟨3, _⟩ => ⟨S1x1x512x1024, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefPoolInIdeal.lean ====
abbrev S8448x2048 : Shape := ⟨2, ![8448, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S2048x2048, .f32⟩
  | .hbm, ⟨2, _⟩ => ⟨S8448x2048, .f32⟩
  | .hbm, ⟨3, _⟩ => ⟨S8448x2048, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== PoolGrp.lean ====
abbrev S8448x2048 : Shape := ⟨2, ![8448, 2048]⟩
abbrev S4x512x512 : Shape := ⟨3, ![4, 512, 512]⟩
abbrev S4x512 : Shape := ⟨2, ![4, 512]⟩
abbrev S2048 : Shape := ⟨1, ![2048]⟩
abbrev S2x6x2048 : Shape := ⟨3, ![2, 6, 2048]⟩
abbrev S4x4x128x512 : Shape := ⟨4, ![4, 4, 128, 512]⟩
abbrev S4x1x4x128x512 : Shape := ⟨5, ![4, 1, 4, 128, 512]⟩
abbrev S1x2048 : Shape := ⟨2, ![1, 2048]⟩
abbrev S768x512 : Shape := ⟨2, ![768, 512]⟩
abbrev S4x1x1x128x512 : Shape := ⟨5, ![4, 1, 1, 128, 512]⟩
abbrev S2x6x512 : Shape := ⟨3, ![2, 6, 512]⟩
abbrev S1x512 : Shape := ⟨2, ![1, 512]⟩
abbrev S4x128x512 : Shape := ⟨3, ![4, 128, 512]⟩
abbrev S512x512 : Shape := ⟨2, ![512, 512]⟩
abbrev S1x1x512 : Shape := ⟨3, ![1, 1, 512]⟩

abbrev nBuf : Space → Nat
  | .hbm => 14
  | .vmem => 16
  | .smem => 0
  | _ => 0

abbrev bufTy : (tb : Table) → Fin (tcTables nBuf tb) → BufTy
  | .hbm, ⟨0, _⟩ => ⟨S8448x2048, .bf16⟩
  | .hbm, ⟨1, _⟩ => ⟨S4x512x512, .f32⟩
  | .hbm, ⟨2, _⟩ => ⟨S4x512, .f32⟩
  | .hbm, ⟨3, _⟩ => ⟨S2048, .f32⟩
  | .hbm, ⟨4, _⟩ => ⟨S8448x2048, .f32⟩
  | .hbm, ⟨5, _⟩ => ⟨S2x6x2048, .f32⟩
  | .hbm, ⟨6, _⟩ => ⟨S4x4x128x512, .f32⟩
  | .hbm, ⟨7, _⟩ => ⟨S4x4x128x512, .f32⟩
  | .hbm, ⟨8, _⟩ => ⟨S4x1x4x128x512, .f32⟩
  | .hbm, ⟨9, _⟩ => ⟨S4x1x4x128x512, .bf16⟩
  | .hbm, ⟨10, _⟩ => ⟨S1x2048, .f32⟩
  | .hbm, ⟨11, _⟩ => ⟨S1x2048, .f32⟩
  | .hbm, ⟨12, _⟩ => ⟨S8448x2048, .f32⟩
  | .hbm, ⟨13, _⟩ => ⟨S8448x2048, .bf16⟩
  | .local _ .vmem, ⟨0, _⟩ => ⟨S768x512, .bf16⟩
  | .local _ .vmem, ⟨1, _⟩ => ⟨S768x512, .bf16⟩
  | .local _ .vmem, ⟨2, _⟩ => ⟨S4x1x1x128x512, .bf16⟩
  | .local _ .vmem, ⟨3, _⟩ => ⟨S4x1x1x128x512, .bf16⟩
  | .local _ .vmem, ⟨4, _⟩ => ⟨S768x512, .f32⟩
  | .local _ .vmem, ⟨5, _⟩ => ⟨S768x512, .f32⟩
  | .local _ .vmem, ⟨6, _⟩ => ⟨S2x6x512, .f32⟩
  | .local _ .vmem, ⟨7, _⟩ => ⟨S2x6x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S768x512, .f32⟩
  | .local _ .vmem, ⟨13, _⟩ => ⟨S768x512, .f32⟩
  | .local _ .vmem, ⟨14, _⟩ => ⟨S768x512, .bf16⟩
  | .local _ .vmem, ⟨15, _⟩ => ⟨S768x512, .bf16⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![11, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg1.toNat, c0_i32_1.toNat, c0_i32_2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x1x1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x6x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S768x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S768x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== RefPoolGrpIdeal.lean ====
abbrev S8448x2048 : Shape := ⟨2, ![8448, 2048]⟩
abbrev S4x512x512 : Shape := ⟨3, ![4, 512, 512]⟩
abbrev S4x512 : Shape := ⟨2, ![4, 512]⟩
abbrev S2048 : Shape := ⟨1, ![2048]⟩
abbrev S2x6x2048 : Shape := ⟨3, ![2, 6, 2048]⟩
abbrev S8448x4x512 : Shape := ⟨3, ![8448, 4, 512]⟩
abbrev S4x512x8448 : Shape := ⟨3, ![4, 512, 8448]⟩
abbrev S1x4x512 : Shape := ⟨3, ![1, 4, 512]⟩
abbrev S1x2048 : Shape := ⟨2, ![1, 2048]⟩
abbrev S256x2048 : Shape := ⟨2, ![256, 2048]⟩
abbrev S1x1x2048 : Shape := ⟨3, ![1, 1, 2048]⟩
abbrev S8192x2048 : Shape := ⟨2, ![8192, 2048]⟩

abbrev nBuf : Space → Nat
  | .hbm => 35
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S4x512x512, .f32⟩
  | .hbm, ⟨2, _⟩ => ⟨S4x512, .f32⟩
  | .hbm, ⟨3, _⟩ => ⟨S2048, .f32⟩
  | .hbm, ⟨4, _⟩ => ⟨S8448x2048, .f32⟩
  | .hbm, ⟨5, _⟩ => ⟨S2x6x2048, .f32⟩
  | .hbm, ⟨6, _⟩ => ⟨S8448x2048, .f32⟩
  | .hbm, ⟨7, _⟩ => ⟨S8448x4x512, .f32⟩
  | .hbm, ⟨8, _⟩ => ⟨S4x512x8448, .f32⟩
  | .hbm, ⟨9, _⟩ => ⟨S8448x4x512, .f32⟩
  | .hbm, ⟨10, _⟩ => ⟨S1x4x512, .f32⟩
  | .hbm, ⟨11, _⟩ => ⟨S8448x4x512, .f32⟩
  | .hbm, ⟨12, _⟩ => ⟨S8448x4x512, .f32⟩
  | .hbm, ⟨13, _⟩ => ⟨S8448x2048, .f32⟩
  | .hbm, ⟨14, _⟩ => ⟨S1x2048, .f32⟩
  | .hbm, ⟨15, _⟩ => ⟨S8448x2048, .f32⟩
  | .hbm, ⟨16, _⟩ => ⟨S8448x2048, .f32⟩
  | .hbm, ⟨17, _⟩ => ⟨S256x2048, .f32⟩
  | .hbm, ⟨18, _⟩ => ⟨S1x1x2048, .f32⟩
  | .hbm, ⟨19, _⟩ => ⟨S2048, .f32⟩
  | .hbm, ⟨20, _⟩ => ⟨S256x2048, .f32⟩
  | .hbm, ⟨21, _⟩ => ⟨S1x2048, .f32⟩
  | .hbm, ⟨22, _⟩ => ⟨S256x2048, .f32⟩
  | .hbm, ⟨23, _⟩ => ⟨S256x2048, .f32⟩
  | .hbm, ⟨24, _⟩ => ⟨S256x2048, .f32⟩
  | .hbm, ⟨25, _⟩ => ⟨S8192x2048, .f32⟩
  | .hbm, ⟨26, _⟩ => ⟨S1x1x2048, .f32⟩
  | .hbm, ⟨27, _⟩ => ⟨S2048, .f32⟩
  | .hbm, ⟨28, _⟩ => ⟨S8192x2048, .f32⟩
  | .hbm, ⟨29, _⟩ => ⟨S1x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8448x2048, .f32⟩
  | .hbm, ⟨34, _⟩ => ⟨S8448x2048, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩

abbrev nD : Nat := 1
abbrev τ : Topo := Topo.v7x

variable {F : FTy → Type} [FloatOps F]
-- ==== PoolGrpT.lean ====
abbrev S8448x2048 : Shape := ⟨2, ![8448, 2048]⟩
abbrev S4x512x512 : Shape := ⟨3, ![4, 512, 512]⟩
abbrev S4x4x128x512 : Shape := ⟨4, ![4, 4, 128, 512]⟩
abbrev S4x1x4x128x512 : Shape := ⟨5, ![4, 1, 4, 128, 512]⟩
abbrev S768x512 : Shape := ⟨2, ![768, 512]⟩
abbrev S4x1x1x128x512 : Shape := ⟨5, ![4, 1, 1, 128, 512]⟩
abbrev S4x128x512 : Shape := ⟨3, ![4, 128, 512]⟩
abbrev S512x512 : Shape := ⟨2, ![512, 512]⟩

abbrev nBuf : Space → Nat
  | .hbm => 7
  | .vmem => 6
  | .smem => 0
  | _ => 0

abbrev bufTy : (tb : Table) → Fin (tcTables nBuf tb) → BufTy
  | .hbm, ⟨0, _⟩ => ⟨S8448x2048, .bf16⟩
  | .hbm, ⟨1, _⟩ => ⟨S4x512x512, .f32⟩
  | .hbm, ⟨2, _⟩ => ⟨S4x4x128x512, .f32⟩
  | .hbm, ⟨3, _⟩ => ⟨S4x4x128x512, .f32⟩
  | .hbm, ⟨4, _⟩ => ⟨S4x1x4x128x512, .f32⟩
  | .hbm, ⟨5, _⟩ => ⟨S4x1x4x128x512, .bf16⟩
  | .hbm, ⟨6, _⟩ => ⟨S8448x2048, .f32⟩
  | .local _ .vmem, ⟨0, _⟩ => ⟨S768x512, .bf16⟩
  | .local _ .vmem, ⟨1, _⟩ => ⟨S768x512, .bf16⟩
  | .local _ .vmem, ⟨2, _⟩ => ⟨S4x1x1x128x512, .bf16⟩
  | .local _ .vmem, ⟨3, _⟩ => ⟨S4x1x1x128x512, .bf16⟩
  | .local _ .vmem, ⟨4, _⟩ => ⟨S768x512, .f32⟩
  | .local _ .vmem, ⟨5, _⟩ => ⟨S768x512, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![11, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg1.toNat, c0_i32_1.toNat, c0_i32_2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x1x1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefPoolGrpTIdeal.lean ====
abbrev S8448x2048 : Shape := ⟨2, ![8448, 2048]⟩
abbrev S4x512x512 : Shape := ⟨3, ![4, 512, 512]⟩
abbrev S_ : Shape := ⟨0, ![]⟩
abbrev S8448x4x512 : Shape := ⟨3, ![8448, 4, 512]⟩
abbrev S4x512x8448 : Shape := ⟨3, ![4, 512, 8448]⟩
abbrev S4x8448x512 : Shape := ⟨3, ![4, 8448, 512]⟩

abbrev nBuf : Space → Nat
  | .hbm => 14
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S4x512x512, .f32⟩
  | .hbm, ⟨2, _⟩ => ⟨S_, .f32⟩
  | .hbm, ⟨3, _⟩ => ⟨S8448x2048, .f32⟩
  | .hbm, ⟨4, _⟩ => ⟨S8448x4x512, .f32⟩
  | .hbm, ⟨5, _⟩ => ⟨S4x512x8448, .f32⟩
  | .hbm, ⟨6, _⟩ => ⟨S8448x4x512, .f32⟩
  | .hbm, ⟨7, _⟩ => ⟨S8448x2048, .f32⟩
  | .hbm, ⟨8, _⟩ => ⟨S8448x2048, .f32⟩
  | .hbm, ⟨9, _⟩ => ⟨S8448x4x512, .f32⟩
  | .hbm, ⟨10, _⟩ => ⟨S4x512x8448, .f32⟩
  | .hbm, ⟨11, _⟩ => ⟨S4x8448x512, .f32⟩
  | .hbm, ⟨12, _⟩ => ⟨S8448x4x512, .f32⟩
  | .hbm, ⟨13, _⟩ => ⟨S8448x2048, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== PoolGrpG.lean ====
abbrev S8448x2048 : Shape := ⟨2, ![8448, 2048]⟩
abbrev S4x1x4x128x512 : Shape := ⟨5, ![4, 1, 4, 128, 512]⟩
abbrev S768x512 : Shape := ⟨2, ![768, 512]⟩
abbrev S4x1x1x128x512 : Shape := ⟨5, ![4, 1, 1, 128, 512]⟩
abbrev S512x512 : Shape := ⟨2, ![512, 512]⟩
abbrev S128x512 : Shape := ⟨2, ![128, 512]⟩
abbrev S1x1x1x128x512 : Shape := ⟨5, ![1, 1, 1, 128, 512]⟩

abbrev nBuf : Space → Nat
  | .hbm => 3
  | .vmem => 7
  | .smem => 0
  | _ => 0

abbrev bufTy : (tb : Table) → Fin (tcTables nBuf tb) → BufTy
  | .hbm, ⟨0, _⟩ => ⟨S8448x2048, .bf16⟩
  | .hbm, ⟨1, _⟩ => ⟨S8448x2048, .bf16⟩
  | .hbm, ⟨2, _⟩ => ⟨S4x1x4x128x512, .bf16⟩
  | .local _ .vmem, ⟨0, _⟩ => ⟨S768x512, .bf16⟩
  | .local _ .vmem, ⟨1, _⟩ => ⟨S768x512, .bf16⟩
  | .local _ .vmem, ⟨2, _⟩ => ⟨S768x512, .bf16⟩
  | .local _ .vmem, ⟨3, _⟩ => ⟨S768x512, .bf16⟩
  | .local _ .vmem, ⟨4, _⟩ => ⟨S4x1x1x128x512, .bf16⟩
  | .local _ .vmem, ⟨5, _⟩ => ⟨S4x1x1x128x512, .bf16⟩
  | .local _ .vmem, ⟨6, _⟩ => ⟨S512x512, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 11], ![false, false]⟩

def k0_cond2 (i : grid0.Coords) : BitVec 1 :=
  let arg1 : BitVec 32 := BitVec.ofNat 32 (i 1).val
  let c10_i32 : BitVec 32 := 10#32
  let v11 : BitVec 1 := Scalar.cmpi .eq arg1 c10_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg0.toNat, c0_i32_1.toNat, c0_i32_2.toNat]

abbrev stage0_0 : Fin 2 → Memref sig .tc .vmem S768x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S768x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1x1x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== RefPoolGrpGIdeal.lean ====
abbrev S8448x2048 : Shape := ⟨2, ![8448, 2048]⟩
abbrev S_ : Shape := ⟨0, ![]⟩
abbrev S4x512x512 : Shape := ⟨3, ![4, 512, 512]⟩
abbrev S8448x4x512 : Shape := ⟨3, ![8448, 4, 512]⟩
abbrev S4x512x8448 : Shape := ⟨3, ![4, 512, 8448]⟩
abbrev S4x4x128x512 : Shape := ⟨4, ![4, 4, 128, 512]⟩
abbrev S4x1x4x128x512 : Shape := ⟨5, ![4, 1, 4, 128, 512]⟩

abbrev nBuf : Space → Nat
  | .hbm => 18
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S8448x2048, .bf16⟩
  | .hbm, ⟨2, _⟩ => ⟨S_, .f32⟩
  | .hbm, ⟨3, _⟩ => ⟨S4x512x512, .f32⟩
  | .hbm, ⟨4, _⟩ => ⟨S8448x2048, .f32⟩
  | .hbm, ⟨5, _⟩ => ⟨S8448x4x512, .f32⟩
  | .hbm, ⟨6, _⟩ => ⟨S4x512x8448, .f32⟩
  | .hbm, ⟨7, _⟩ => ⟨S8448x4x512, .f32⟩
  | .hbm, ⟨8, _⟩ => ⟨S8448x2048, .f32⟩
  | .hbm, ⟨9, _⟩ => ⟨S8448x2048, .f32⟩
  | .hbm, ⟨10, _⟩ => ⟨S8448x4x512, .f32⟩
  | .hbm, ⟨11, _⟩ => ⟨S4x512x8448, .f32⟩
  | .hbm, ⟨12, _⟩ => ⟨S4x512x512, .f32⟩
  | .hbm, ⟨13, _⟩ => ⟨S4x512x512, .f32⟩
  | .hbm, ⟨14, _⟩ => ⟨S4x4x128x512, .f32⟩
  | .hbm, ⟨15, _⟩ => ⟨S4x4x128x512, .f32⟩
  | .hbm, ⟨16, _⟩ => ⟨S4x1x4x128x512, .f32⟩
  | .hbm, ⟨17, _⟩ => ⟨S4x1x4x128x512, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== AdamSmall.lean ====
abbrev S2048 : Shape := ⟨1, ![2048]⟩
abbrev S4x12288 : Shape := ⟨2, ![4, 12288]⟩
abbrev S4x2048 : Shape := ⟨2, ![4, 2048]⟩
abbrev S2x2x256 : Shape := ⟨3, ![2, 2, 256]⟩
abbrev S2x1024 : Shape := ⟨2, ![2, 1024]⟩
abbrev S2x8x128x128 : Shape := ⟨4, ![2, 8, 128, 128]⟩
abbrev S2x8x128 : Shape := ⟨3, ![2, 8, 128]⟩
abbrev S2x4x128 : Shape := ⟨3, ![2, 4, 128]⟩
abbrev S2x512 : Shape := ⟨2, ![2, 512]⟩
abbrev S49152 : Shape := ⟨1, ![49152]⟩
abbrev S8192 : Shape := ⟨1, ![8192]⟩
abbrev S1024 : Shape := ⟨1, ![1024]⟩
abbrev S262144 : Shape := ⟨1, ![262144]⟩
abbrev S340992 : Shape := ⟨1, ![340992]⟩
abbrev S_ : Shape := ⟨0, ![]⟩
abbrev S2664x128 : Shape := ⟨2, ![2664, 128]⟩

abbrev nBuf : Space → Nat
  | .hbm => 111
  | .vmem => 7
  | .smem => 0
  | _ => 0

abbrev bufTy : (tb : Table) → Fin (tcTables nBuf tb) → BufTy
  | .hbm, ⟨0, _⟩ => ⟨S2048, .f32⟩
  | .hbm, ⟨1, _⟩ => ⟨S4x12288, .f32⟩
  | .hbm, ⟨2, _⟩ => ⟨S4x2048, .f32⟩
  | .hbm, ⟨3, _⟩ => ⟨S4x2048, .f32⟩
  | .hbm, ⟨4, _⟩ => ⟨S2x2x256, .f32⟩
  | .hbm, ⟨5, _⟩ => ⟨S2x1024, .f32⟩
  | .hbm, ⟨6, _⟩ => ⟨S2x8x128x128, .f32⟩
  | .hbm, ⟨7, _⟩ => ⟨S2x8x128, .f32⟩
  | .hbm, ⟨8, _⟩ => ⟨S2x1024, .f32⟩
  | .hbm, ⟨9, _⟩ => ⟨S2x4x128, .f32⟩
  | .hbm, ⟨10, _⟩ => ⟨S2x512, .f32⟩
  | .hbm, ⟨11, _⟩ => ⟨S2048, .f32⟩
  | .hbm, ⟨12, _⟩ => ⟨S2048, .f32⟩
  | .hbm, ⟨13, _⟩ => ⟨S4x12288, .f32⟩
  | .hbm, ⟨14, _⟩ => ⟨S4x2048, .f32⟩
  | .hbm, ⟨15, _⟩ => ⟨S4x2048, .f32⟩
  | .hbm, ⟨16, _⟩ => ⟨S2x2x256, .f32⟩
  | .hbm, ⟨17, _⟩ => ⟨S2x1024, .f32⟩
  | .hbm, ⟨18, _⟩ => ⟨S2x8x128x128, .f32⟩
  | .hbm, ⟨19, _⟩ => ⟨S2x8x128, .f32⟩
  | .hbm, ⟨20, _⟩ => ⟨S2x1024, .f32⟩
  | .hbm, ⟨21, _⟩ => ⟨S2x4x128, .f32⟩
  | .hbm, ⟨22, _⟩ => ⟨S2x512, .f32⟩
  | .hbm, ⟨23, _⟩ => ⟨S2048, .f32⟩
  | .hbm, ⟨24, _⟩ => ⟨S2048, .f32⟩
  | .hbm, ⟨25, _⟩ => ⟨S4x12288, .f32⟩
  | .hbm, ⟨26, _⟩ => ⟨S4x2048, .f32⟩
  | .hbm, ⟨27, _⟩ => ⟨S4x2048, .f32⟩
  | .hbm, ⟨28, _⟩ => ⟨S2x2x256, .f32⟩
  | .hbm, ⟨29, _⟩ => ⟨S2x1024, .f32⟩
  | .hbm, ⟨30, _⟩ => ⟨S2x8x128x128, .f32⟩
  | .hbm, ⟨31, _⟩ => ⟨S2x8x128, .f32⟩
  | .hbm, ⟨32, _⟩ => ⟨S2x1024, .f32⟩
  | .hbm, ⟨33, _⟩ => ⟨S2x4x128, .f32⟩
  | .hbm, ⟨34, _⟩ => ⟨S2x512, .f32⟩
  | .hbm, ⟨35, _⟩ => ⟨S2048, .f32⟩
  | .hbm, ⟨36, _⟩ => ⟨S2048, .f32⟩
  | .hbm, ⟨37, _⟩ => ⟨S4x12288, .f32⟩
  | .hbm, ⟨38, _⟩ => ⟨S4x2048, .f32⟩
  | .hbm, ⟨39, _⟩ => ⟨S4x2048, .f32⟩
  | .hbm, ⟨40, _⟩ => ⟨S2x2x256, .f32⟩
  | .hbm, ⟨41, _⟩ => ⟨S2x1024, .f32⟩
  | .hbm, ⟨42, _⟩ => ⟨S2x8x128x128, .f32⟩
  | .hbm, ⟨43, _⟩ => ⟨S2x8x128, .f32⟩
  | .hbm, ⟨44, _⟩ => ⟨S2x1024, .f32⟩
  | .hbm, ⟨45, _⟩ => ⟨S2x4x128, .f32⟩
  | .hbm, ⟨46, _⟩ => ⟨S2x512, .f32⟩
  | .hbm, ⟨47, _⟩ => ⟨S2048, .f32⟩
  | .hbm, ⟨48, _⟩ => ⟨S49152, .f32⟩
  | .hbm, ⟨49, _⟩ => ⟨S8192, .f32⟩
  | .hbm, ⟨50, _⟩ => ⟨S8192, .f32⟩
  | .hbm, ⟨51, _⟩ => ⟨S1024, .f32⟩
  | .hbm, ⟨52, _⟩ => ⟨S2048, .f32⟩
  | .hbm, ⟨53, _⟩ => ⟨S262144, .f32⟩
  | .hbm, ⟨54, _⟩ => ⟨S2048, .f32⟩
  | .hbm, ⟨55, _⟩ => ⟨S2048, .f32⟩
  | .hbm, ⟨56, _⟩ => ⟨S1024, .f32⟩
  | .hbm, ⟨57, _⟩ => ⟨S1024, .f32⟩
  | .hbm, ⟨58, _⟩ => ⟨S340992, .f32⟩
  | .hbm, ⟨59, _⟩ => ⟨S_, .i32⟩
  | .hbm, ⟨60, _⟩ => ⟨S_, .f32⟩
  | .hbm, ⟨61, _⟩ => ⟨S340992, .f32⟩
  | .hbm, ⟨62, _⟩ => ⟨S2664x128, .f32⟩
  | .hbm, ⟨63, _⟩ => ⟨S49152, .f32⟩
  | .hbm, ⟨64, _⟩ => ⟨S8192, .f32⟩
  | .hbm, ⟨65, _⟩ => ⟨S8192, .f32⟩
  | .hbm, ⟨66, _⟩ => ⟨S1024, .f32⟩
  | .hbm, ⟨67, _⟩ => ⟨S2048, .f32⟩
  | .hbm, ⟨68, _⟩ => ⟨S262144, .f32⟩
  | .hbm, ⟨69, _⟩ => ⟨S2048, .f32⟩
  | .hbm, ⟨70, _⟩ => ⟨S2048, .f32⟩
  | .hbm, ⟨71, _⟩ => ⟨S1024, .f32⟩
  | .hbm, ⟨72, _⟩ => ⟨S1024, .f32⟩
  | .hbm, ⟨73, _⟩ => ⟨S340992, .f32⟩
  | .hbm, ⟨74, _⟩ => ⟨S_, .i32⟩
  | .hbm, ⟨75, _⟩ => ⟨S_, .f32⟩
  | .hbm, ⟨76, _⟩ => ⟨S340992, .f32⟩
  | .hbm, ⟨77, _⟩ => ⟨S2664x128, .f32⟩
  | .hbm, ⟨78, _⟩ => ⟨S49152, .f32⟩
  | .hbm, ⟨79, _⟩ => ⟨S8192, .f32⟩
  | .hbm, ⟨80, _⟩ => ⟨S8192, .f32⟩
  | .hbm, ⟨81, _⟩ => ⟨S1024, .f32⟩
  | .hbm, ⟨82, _⟩ => ⟨S2048, .f32⟩
  | .hbm, ⟨83, _⟩ => ⟨S262144, .f32⟩
  | .hbm, ⟨84, _⟩ => ⟨S2048, .f32⟩
  | .hbm, ⟨85, _⟩ => ⟨S2048, .f32⟩
  | .hbm, ⟨86, _⟩ => ⟨S1024, .f32⟩
  | .hbm, ⟨87, _⟩ => ⟨S1024, .f32⟩
  | .hbm, ⟨88, _⟩ => ⟨S340992, .f32⟩
  | .hbm, ⟨89, _⟩ => ⟨S_, .i32⟩
  | .hbm, ⟨90, _⟩ => ⟨S_, .f32⟩
  | .hbm, ⟨91, _⟩ => ⟨S340992, .f32⟩
  | .hbm, ⟨92, _⟩ => ⟨S2664x128, .f32⟩
  | .hbm, ⟨93, _⟩ => ⟨S49152, .f32⟩
  | .hbm, ⟨94, _⟩ => ⟨S8192, .f32⟩
  | .hbm, ⟨95, _⟩ => ⟨S8192, .f32⟩
  | .hbm, ⟨96, _⟩ => ⟨S1024, .f32⟩
  | .hbm, ⟨97, _⟩ => ⟨S2048, .f32⟩
  | .hbm, ⟨98, _⟩ => ⟨S262144, .f32⟩
  | .hbm, ⟨99, _⟩ => ⟨S2048, .f32⟩
  | .hbm, ⟨100, _⟩ => ⟨S2048, .f32⟩
  | .hbm, ⟨101, _⟩ => ⟨S1024, .f32⟩
  | .hbm, ⟨102, _⟩ => ⟨S1024, .f32⟩
  | .hbm, ⟨103, _⟩ => ⟨S340992, .f32⟩
  | .hbm, ⟨104, _⟩ => ⟨S_, .i32⟩
  | .hbm, ⟨105, _⟩ => ⟨S_, .f32⟩
  | .hbm, ⟨106, _⟩ => ⟨S340992, .f32⟩
  | .hbm, ⟨107, _⟩ => ⟨S2664x128, .f32⟩
  | .hbm, ⟨108, _⟩ => ⟨S2664x128, .f32⟩
  | .hbm, ⟨109, _⟩ => ⟨S2664x128, .f32⟩
  | .hbm, ⟨110, _⟩ => ⟨S2664x128, .f32⟩
  | .local _ .vmem, ⟨0, _⟩ => ⟨S2664x128, .f32⟩
  | .local _ .vmem, ⟨1, _⟩ => ⟨S2664x128, .f32⟩
  | .local _ .vmem, ⟨2, _⟩ => ⟨S2664x128, .f32⟩
  | .local _ .vmem, ⟨3, _⟩ => ⟨S2664x128, .f32⟩
  | .local _ .vmem, ⟨4, _⟩ => ⟨S2664x128, .f32⟩
  | .local _ .vmem, ⟨5, _⟩ => ⟨S2664x128, .f32⟩
  | .local _ .vmem, ⟨6, _⟩ => ⟨S2664x128, .f32⟩
  | _, _ => ⟨S2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_v0 : Ref sig .tc := ⟨.hbm, 48, rfl⟩
abbrev main_v1 : Ref sig .tc := ⟨.hbm, 49, rfl⟩
abbrev main_v2 : Ref sig .tc := ⟨.hbm, 50, rfl⟩
abbrev main_v3 : Ref sig .tc := ⟨.hbm, 51, rfl⟩
abbrev main_v4 : Ref sig .tc := ⟨.hbm, 52, rfl⟩
abbrev main_v5 : Ref sig .tc := ⟨.hbm, 53, rfl⟩
abbrev main_v6 : Ref sig .tc := ⟨.hbm, 54, rfl⟩
abbrev main_v7 : Ref sig .tc := ⟨.hbm, 55, rfl⟩
abbrev main_v8 : Ref sig .tc := ⟨.hbm, 56, rfl⟩
abbrev main_v9 : Ref sig .tc := ⟨.hbm, 57, rfl⟩
abbrev main_v10 : Ref sig .tc := ⟨.hbm, 58, rfl⟩
abbrev main_c : Ref sig .tc := ⟨.hbm, 59, rfl⟩
abbrev main_call0_v0 : Ref sig .tc := ⟨.hbm, 60, rfl⟩
abbrev main_v11 : Ref sig .tc := ⟨.hbm, 61, rfl⟩
abbrev main_v12 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_c_0 : Ref sig .tc := ⟨.hbm, 74, rfl⟩
abbrev main_call1_v0 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_c_1 : Ref sig .tc := ⟨.hbm, 89, rfl⟩
abbrev main_call2_v0 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_c_2 : Ref sig .tc := ⟨.hbm, 104, rfl⟩
abbrev main_call3_v0 : Ref sig .tc := ⟨.hbm, 105, rfl⟩
abbrev main_v50 : Ref sig .tc := ⟨.hbm, 106, rfl⟩
abbrev main_v51 : Ref sig .tc := ⟨.hbm, 107, rfl⟩
abbrev main_v52_0 : Ref sig .tc := ⟨.hbm, 108, rfl⟩
abbrev main_v52_1 : Ref sig .tc := ⟨.hbm, 109, rfl⟩
abbrev main_v52_2 : Ref sig .tc := ⟨.hbm, 110, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2664x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2664x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2664x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2664x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2664x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2664x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2664x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RefAdamSmallIdeal.lean ====
abbrev S2048 : Shape := ⟨1, ![2048]⟩
abbrev S4x12288 : Shape := ⟨2, ![4, 12288]⟩
abbrev S4x2048 : Shape := ⟨2, ![4, 2048]⟩
abbrev S2x2x256 : Shape := ⟨3, ![2, 2, 256]⟩
abbrev S2x1024 : Shape := ⟨2, ![2, 1024]⟩
abbrev S2x8x128x128 : Shape := ⟨4, ![2, 8, 128, 128]⟩
abbrev S2x8x128 : Shape := ⟨3, ![2, 8, 128]⟩
abbrev S2x4x128 : Shape := ⟨3, ![2, 4, 128]⟩
abbrev S2x512 : Shape := ⟨2, ![2, 512]⟩
abbrev S_ : Shape := ⟨0, ![]⟩
abbrev S49152 : Shape := ⟨1, ![49152]⟩
abbrev S8192 : Shape := ⟨1, ![8192]⟩
abbrev S1024 : Shape := ⟨1, ![1024]⟩
abbrev S262144 : Shape := ⟨1, ![262144]⟩
abbrev S340992 : Shape := ⟨1, ![340992]⟩
abbrev S2664x128 : Shape := ⟨2, ![2664, 128]⟩

abbrev nBuf : Space → Nat
  | .hbm => 480
  | .vmem => 0
  | .smem => 0
  | _ => 0

abbrev hbmTy0_0 (i : Nat) : BufTy := match i % 128 with
  | 0 => ⟨S2048, .f32⟩
  | 1 => ⟨S4x12288, .f32⟩
  | 2 => ⟨S4x2048, .f32⟩
  | 3 => ⟨S4x2048, .f32⟩
  | 4 => ⟨S2x2x256, .f32⟩
  | 5 => ⟨S2x1024, .f32⟩
  | 6 => ⟨S2x8x128x128, .f32⟩
  | 7 => ⟨S2x8x128, .f32⟩
  | 8 => ⟨S2x1024, .f32⟩
  | 9 => ⟨S2x4x128, .f32⟩
  | 10 => ⟨S2x512, .f32⟩
  | 11 => ⟨S2048, .f32⟩
  | 12 => ⟨S2048, .f32⟩
  | 13 => ⟨S4x12288, .f32⟩
  | 14 => ⟨S4x2048, .f32⟩
  | 15 => ⟨S4x2048, .f32⟩
  | 16 => ⟨S2x2x256, .f32⟩
  | 17 => ⟨S2x1024, .f32⟩
  | 18 => ⟨S2x8x128x128, .f32⟩
  | 19 => ⟨S2x8x128, .f32⟩
  | 20 => ⟨S2x1024, .f32⟩
  | 21 => ⟨S2x4x128, .f32⟩
  | 22 => ⟨S2x512, .f32⟩
  | 23 => ⟨S2048, .f32⟩
  | 24 => ⟨S2048, .f32⟩
  | 25 => ⟨S4x12288, .f32⟩
  | 26 => ⟨S4x2048, .f32⟩
  | 27 => ⟨S4x2048, .f32⟩
  | 28 => ⟨S2x2x256, .f32⟩
  | 29 => ⟨S2x1024, .f32⟩
  | 30 => ⟨S2x8x128x128, .f32⟩
  | 31 => ⟨S2x8x128, .f32⟩
  | 32 => ⟨S2x1024, .f32⟩
  | 33 => ⟨S2x4x128, .f32⟩
  | 34 => ⟨S2x512, .f32⟩
  | 35 => ⟨S2048, .f32⟩
  | 36 => ⟨S2048, .f32⟩
  | 37 => ⟨S4x12288, .f32⟩
  | 38 => ⟨S4x2048, .f32⟩
  | 39 => ⟨S4x2048, .f32⟩
  | 40 => ⟨S2x2x256, .f32⟩
  | 41 => ⟨S2x1024, .f32⟩
  | 42 => ⟨S2x8x128x128, .f32⟩
  | 43 => ⟨S2x8x128, .f32⟩
  | 44 => ⟨S2x1024, .f32⟩
  | 45 => ⟨S2x4x128, .f32⟩
  | 46 => ⟨S2x512, .f32⟩
  | 47 => ⟨S2048, .f32⟩
  | 48 => ⟨S_, .f32⟩
  | 49 => ⟨S2048, .f32⟩
  | 50 => ⟨S2048, .f32⟩
  | 51 => ⟨S_, .f32⟩
  | 52 => ⟨S2048, .f32⟩
  | 53 => ⟨S2048, .f32⟩
  | 54 => ⟨S2048, .f32⟩
  | 55 => ⟨S_, .f32⟩
  | 56 => ⟨S2048, .f32⟩
  | 57 => ⟨S2048, .f32⟩
  | 58 => ⟨S2048, .f32⟩
  | 59 => ⟨S_, .f32⟩
  | 60 => ⟨S2048, .f32⟩
  | 61 => ⟨S2048, .f32⟩
  | 62 => ⟨S2048, .f32⟩
  | 63 => ⟨S_, .f32⟩
  | 64 => ⟨S2048, .f32⟩
  | 65 => ⟨S2048, .f32⟩
  | 66 => ⟨S_, .f32⟩
  | 67 => ⟨S2048, .f32⟩
  | 68 => ⟨S2048, .f32⟩
  | 69 => ⟨S2048, .f32⟩
  | 70 => ⟨S_, .f32⟩
  | 71 => ⟨S2048, .f32⟩
  | 72 => ⟨S2048, .f32⟩
  | 73 => ⟨S2048, .f32⟩
  | 74 => ⟨S_, .f32⟩
  | 75 => ⟨S2048, .f32⟩
  | 76 => ⟨S2048, .f32⟩
  | 77 => ⟨S2048, .f32⟩
  | 78 => ⟨S_, .f32⟩
  | 79 => ⟨S2048, .f32⟩
  | 80 => ⟨S2048, .f32⟩
  | 81 => ⟨S_, .f32⟩
  | 82 => ⟨S4x12288, .f32⟩
  | 83 => ⟨S4x12288, .f32⟩
  | 84 => ⟨S_, .f32⟩
  | 85 => ⟨S4x12288, .f32⟩
  | 86 => ⟨S4x12288, .f32⟩
  | 87 => ⟨S4x12288, .f32⟩
  | 88 => ⟨S_, .f32⟩
  | 89 => ⟨S4x12288, .f32⟩
  | 90 => ⟨S4x12288, .f32⟩
  | 91 => ⟨S4x12288, .f32⟩
  | 92 => ⟨S_, .f32⟩
  | 93 => ⟨S4x12288, .f32⟩
  | 94 => ⟨S4x12288, .f32⟩
  | 95 => ⟨S4x12288, .f32⟩
  | 96 => ⟨S_, .f32⟩
  | 97 => ⟨S4x12288, .f32⟩
  | 98 => ⟨S4x12288, .f32⟩
  | 99 => ⟨S_, .f32⟩
  | 100 => ⟨S4x12288, .f32⟩
  | 101 => ⟨S4x12288, .f32⟩
  | 102 => ⟨S4x12288, .f32⟩
  | 103 => ⟨S_, .f32⟩
  | 104 => ⟨S4x12288, .f32⟩
  | 105 => ⟨S4x12288, .f32⟩
  | 106 => ⟨S4x12288, .f32⟩
  | 107 => ⟨S_, .f32⟩
  | 108 => ⟨S4x12288, .f32⟩
  | 109 => ⟨S4x12288, .f32⟩
  | 110 => ⟨S4x12288, .f32⟩
  | 111 => ⟨S_, .f32⟩
  | 112 => ⟨S4x12288, .f32⟩
  | 113 => ⟨S4x12288, .f32⟩
  | 114 => ⟨S_, .f32⟩
  | 115 => ⟨S4x2048, .f32⟩
  | 116 => ⟨S4x2048, .f32⟩
  | 117 => ⟨S_, .f32⟩
  | 118 => ⟨S4x2048, .f32⟩
  | 119 => ⟨S4x2048, .f32⟩
  | 120 => ⟨S4x2048, .f32⟩
  | 121 => ⟨S_, .f32⟩
  | 122 => ⟨S4x2048, .f32⟩
  | 123 => ⟨S4x2048, .f32⟩
  | 124 => ⟨S4x2048, .f32⟩
  | 125 => ⟨S_, .f32⟩
  | 126 => ⟨S4x2048, .f32⟩
  | 127 => ⟨S4x2048, .f32⟩
  | _ => ⟨S2048, .f32⟩

abbrev hbmTy0_1 (i : Nat) : BufTy := match i % 128 with
  | 0 => ⟨S4x2048, .f32⟩
  | 1 => ⟨S_, .f32⟩
  | 2 => ⟨S4x2048, .f32⟩
  | 3 => ⟨S4x2048, .f32⟩
  | 4 => ⟨S_, .f32⟩
  | 5 => ⟨S4x2048, .f32⟩
  | 6 => ⟨S4x2048, .f32⟩
  | 7 => ⟨S4x2048, .f32⟩
  | 8 => ⟨S_, .f32⟩
  | 9 => ⟨S4x2048, .f32⟩
  | 10 => ⟨S4x2048, .f32⟩
  | 11 => ⟨S4x2048, .f32⟩
  | 12 => ⟨S_, .f32⟩
  | 13 => ⟨S4x2048, .f32⟩
  | 14 => ⟨S4x2048, .f32⟩
  | 15 => ⟨S4x2048, .f32⟩
  | 16 => ⟨S_, .f32⟩
  | 17 => ⟨S4x2048, .f32⟩
  | 18 => ⟨S4x2048, .f32⟩
  | 19 => ⟨S_, .f32⟩
  | 20 => ⟨S4x2048, .f32⟩
  | 21 => ⟨S4x2048, .f32⟩
  | 22 => ⟨S_, .f32⟩
  | 23 => ⟨S4x2048, .f32⟩
  | 24 => ⟨S4x2048, .f32⟩
  | 25 => ⟨S4x2048, .f32⟩
  | 26 => ⟨S_, .f32⟩
  | 27 => ⟨S4x2048, .f32⟩
  | 28 => ⟨S4x2048, .f32⟩
  | 29 => ⟨S4x2048, .f32⟩
  | 30 => ⟨S_, .f32⟩
  | 31 => ⟨S4x2048, .f32⟩
  | 32 => ⟨S4x2048, .f32⟩
  | 33 => ⟨S4x2048, .f32⟩
  | 34 => ⟨S_, .f32⟩
  | 35 => ⟨S4x2048, .f32⟩
  | 36 => ⟨S4x2048, .f32⟩
  | 37 => ⟨S_, .f32⟩
  | 38 => ⟨S4x2048, .f32⟩
  | 39 => ⟨S4x2048, .f32⟩
  | 40 => ⟨S4x2048, .f32⟩
  | 41 => ⟨S_, .f32⟩
  | 42 => ⟨S4x2048, .f32⟩
  | 43 => ⟨S4x2048, .f32⟩
  | 44 => ⟨S4x2048, .f32⟩
  | 45 => ⟨S_, .f32⟩
  | 46 => ⟨S4x2048, .f32⟩
  | 47 => ⟨S4x2048, .f32⟩
  | 48 => ⟨S4x2048, .f32⟩
  | 49 => ⟨S_, .f32⟩
  | 50 => ⟨S4x2048, .f32⟩
  | 51 => ⟨S4x2048, .f32⟩
  | 52 => ⟨S_, .f32⟩
  | 53 => ⟨S2x2x256, .f32⟩
  | 54 => ⟨S2x2x256, .f32⟩
  | 55 => ⟨S_, .f32⟩
  | 56 => ⟨S2x2x256, .f32⟩
  | 57 => ⟨S2x2x256, .f32⟩
  | 58 => ⟨S2x2x256, .f32⟩
  | 59 => ⟨S_, .f32⟩
  | 60 => ⟨S2x2x256, .f32⟩
  | 61 => ⟨S2x2x256, .f32⟩
  | 62 => ⟨S2x2x256, .f32⟩
  | 63 => ⟨S_, .f32⟩
  | 64 => ⟨S2x2x256, .f32⟩
  | 65 => ⟨S2x2x256, .f32⟩
  | 66 => ⟨S2x2x256, .f32⟩
  | 67 => ⟨S_, .f32⟩
  | 68 => ⟨S2x2x256, .f32⟩
  | 69 => ⟨S2x2x256, .f32⟩
  | 70 => ⟨S_, .f32⟩
  | 71 => ⟨S2x2x256, .f32⟩
  | 72 => ⟨S2x2x256, .f32⟩
  | 73 => ⟨S2x2x256, .f32⟩
  | 74 => ⟨S_, .f32⟩
  | 75 => ⟨S2x2x256, .f32⟩
  | 76 => ⟨S2x2x256, .f32⟩
  | 77 => ⟨S2x2x256, .f32⟩
  | 78 => ⟨S_, .f32⟩
  | 79 => ⟨S2x2x256, .f32⟩
  | 80 => ⟨S2x2x256, .f32⟩
  | 81 => ⟨S2x2x256, .f32⟩
  | 82 => ⟨S_, .f32⟩
  | 83 => ⟨S2x2x256, .f32⟩
  | 84 => ⟨S2x2x256, .f32⟩
  | 85 => ⟨S_, .f32⟩
  | 86 => ⟨S2x1024, .f32⟩
  | 87 => ⟨S2x1024, .f32⟩
  | 88 => ⟨S_, .f32⟩
  | 89 => ⟨S2x1024, .f32⟩
  | 90 => ⟨S2x1024, .f32⟩
  | 91 => ⟨S2x1024, .f32⟩
  | 92 => ⟨S_, .f32⟩
  | 93 => ⟨S2x1024, .f32⟩
  | 94 => ⟨S2x1024, .f32⟩
  | 95 => ⟨S2x1024, .f32⟩
  | 96 => ⟨S_, .f32⟩
  | 97 => ⟨S2x1024, .f32⟩
  | 98 => ⟨S2x1024, .f32⟩
  | 99 => ⟨S2x1024, .f32⟩
  | 100 => ⟨S_, .f32⟩
  | 101 => ⟨S2x1024, .f32⟩
  | 102 => ⟨S2x1024, .f32⟩
  | 103 => ⟨S_, .f32⟩
  | 104 => ⟨S2x1024, .f32⟩
  | 105 => ⟨S2x1024, .f32⟩
  | 106 => ⟨S2x1024, .f32⟩
  | 107 => ⟨S_, .f32⟩
  | 108 => ⟨S2x1024, .f32⟩
  | 109 => ⟨S2x1024, .f32⟩
  | 110 => ⟨S2x1024, .f32⟩
  | 111 => ⟨S_, .f32⟩
  | 112 => ⟨S2x1024, .f32⟩
  | 113 => ⟨S2x1024, .f32⟩
  | 114 => ⟨S2x1024, .f32⟩
  | 115 => ⟨S_, .f32⟩
  | 116 => ⟨S2x1024, .f32⟩
  | 117 => ⟨S2x1024, .f32⟩
  | 118 => ⟨S_, .f32⟩
  | 119 => ⟨S2x8x128x128, .f32⟩
  | 120 => ⟨S2x8x128x128, .f32⟩
  | 121 => ⟨S_, .f32⟩
  | 122 => ⟨S2x8x128x128, .f32⟩
  | 123 => ⟨S2x8x128x128, .f32⟩
  | 124 => ⟨S2x8x128x128, .f32⟩
  | 125 => ⟨S_, .f32⟩
  | 126 => ⟨S2x8x128x128, .f32⟩
  | 127 => ⟨S2x8x128x128, .f32⟩
  | _ => ⟨S2048, .f32⟩

abbrev hbmTy0_2 (i : Nat) : BufTy := match i % 128 with
  | 0 => ⟨S2x8x128x128, .f32⟩
  | 1 => ⟨S_, .f32⟩
  | 2 => ⟨S2x8x128x128, .f32⟩
  | 3 => ⟨S2x8x128x128, .f32⟩
  | 4 => ⟨S2x8x128x128, .f32⟩
  | 5 => ⟨S_, .f32⟩
  | 6 => ⟨S2x8x128x128, .f32⟩
  | 7 => ⟨S2x8x128x128, .f32⟩
  | 8 => ⟨S_, .f32⟩
  | 9 => ⟨S2x8x128x128, .f32⟩
  | 10 => ⟨S2x8x128x128, .f32⟩
  | 11 => ⟨S2x8x128x128, .f32⟩
  | 12 => ⟨S_, .f32⟩
  | 13 => ⟨S2x8x128x128, .f32⟩
  | 14 => ⟨S2x8x128x128, .f32⟩
  | 15 => ⟨S2x8x128x128, .f32⟩
  | 16 => ⟨S_, .f32⟩
  | 17 => ⟨S2x8x128x128, .f32⟩
  | 18 => ⟨S2x8x128x128, .f32⟩
  | 19 => ⟨S2x8x128x128, .f32⟩
  | 20 => ⟨S_, .f32⟩
  | 21 => ⟨S2x8x128x128, .f32⟩
  | 22 => ⟨S2x8x128x128, .f32⟩
  | 23 => ⟨S_, .f32⟩
  | 24 => ⟨S2x8x128, .f32⟩
  | 25 => ⟨S2x8x128, .f32⟩
  | 26 => ⟨S_, .f32⟩
  | 27 => ⟨S2x8x128, .f32⟩
  | 28 => ⟨S2x8x128, .f32⟩
  | 29 => ⟨S2x8x128, .f32⟩
  | 30 => ⟨S_, .f32⟩
  | 31 => ⟨S2x8x128, .f32⟩
  | 32 => ⟨S2x8x128, .f32⟩
  | 33 => ⟨S2x8x128, .f32⟩
  | 34 => ⟨S_, .f32⟩
  | 35 => ⟨S2x8x128, .f32⟩
  | 36 => ⟨S2x8x128, .f32⟩
  | 37 => ⟨S2x8x128, .f32⟩
  | 38 => ⟨S_, .f32⟩
  | 39 => ⟨S2x8x128, .f32⟩
  | 40 => ⟨S2x8x128, .f32⟩
  | 41 => ⟨S_, .f32⟩
  | 42 => ⟨S2x8x128, .f32⟩
  | 43 => ⟨S2x8x128, .f32⟩
  | 44 => ⟨S2x8x128, .f32⟩
  | 45 => ⟨S_, .f32⟩
  | 46 => ⟨S2x8x128, .f32⟩
  | 47 => ⟨S2x8x128, .f32⟩
  | 48 => ⟨S2x8x128, .f32⟩
  | 49 => ⟨S_, .f32⟩
  | 50 => ⟨S2x8x128, .f32⟩
  | 51 => ⟨S2x8x128, .f32⟩
  | 52 => ⟨S2x8x128, .f32⟩
  | 53 => ⟨S_, .f32⟩
  | 54 => ⟨S2x8x128, .f32⟩
  | 55 => ⟨S2x8x128, .f32⟩
  | 56 => ⟨S_, .f32⟩
  | 57 => ⟨S2x1024, .f32⟩
  | 58 => ⟨S2x1024, .f32⟩
  | 59 => ⟨S_, .f32⟩
  | 60 => ⟨S2x1024, .f32⟩
  | 61 => ⟨S2x1024, .f32⟩
  | 62 => ⟨S2x1024, .f32⟩
  | 63 => ⟨S_, .f32⟩
  | 64 => ⟨S2x1024, .f32⟩
  | 65 => ⟨S2x1024, .f32⟩
  | 66 => ⟨S2x1024, .f32⟩
  | 67 => ⟨S_, .f32⟩
  | 68 => ⟨S2x1024, .f32⟩
  | 69 => ⟨S2x1024, .f32⟩
  | 70 => ⟨S2x1024, .f32⟩
  | 71 => ⟨S_, .f32⟩
  | 72 => ⟨S2x1024, .f32⟩
  | 73 => ⟨S2x1024, .f32⟩
  | 74 => ⟨S_, .f32⟩
  | 75 => ⟨S2x1024, .f32⟩
  | 76 => ⟨S2x1024, .f32⟩
  | 77 => ⟨S2x1024, .f32⟩
  | 78 => ⟨S_, .f32⟩
  | 79 => ⟨S2x1024, .f32⟩
  | 80 => ⟨S2x1024, .f32⟩
  | 81 => ⟨S2x1024, .f32⟩
  | 82 => ⟨S_, .f32⟩
  | 83 => ⟨S2x1024, .f32⟩
  | 84 => ⟨S2x1024, .f32⟩
  | 85 => ⟨S2x1024, .f32⟩
  | 86 => ⟨S_, .f32⟩
  | 87 => ⟨S2x1024, .f32⟩
  | 88 => ⟨S2x1024, .f32⟩
  | 89 => ⟨S_, .f32⟩
  | 90 => ⟨S2x4x128, .f32⟩
  | 91 => ⟨S2x4x128, .f32⟩
  | 92 => ⟨S_, .f32⟩
  | 93 => ⟨S2x4x128, .f32⟩
  | 94 => ⟨S2x4x128, .f32⟩
  | 95 => ⟨S2x4x128, .f32⟩
  | 96 => ⟨S_, .f32⟩
  | 97 => ⟨S2x4x128, .f32⟩
  | 98 => ⟨S2x4x128, .f32⟩
  | 99 => ⟨S2x4x128, .f32⟩
  | 100 => ⟨S_, .f32⟩
  | 101 => ⟨S2x4x128, .f32⟩
  | 102 => ⟨S2x4x128, .f32⟩
  | 103 => ⟨S2x4x128, .f32⟩
  | 104 => ⟨S_, .f32⟩
  | 105 => ⟨S2x4x128, .f32⟩
  | 106 => ⟨S2x4x128, .f32⟩
  | 107 => ⟨S_, .f32⟩
  | 108 => ⟨S2x4x128, .f32⟩
  | 109 => ⟨S2x4x128, .f32⟩
  | 110 => ⟨S2x4x128, .f32⟩
  | 111 => ⟨S_, .f32⟩
  | 112 => ⟨S2x4x128, .f32⟩
  | 113 => ⟨S2x4x128, .f32⟩
  | 114 => ⟨S2x4x128, .f32⟩
  | 115 => ⟨S_, .f32⟩
  | 116 => ⟨S2x4x128, .f32⟩
  | 117 => ⟨S2x4x128, .f32⟩
  | 118 => ⟨S2x4x128, .f32⟩
  | 119 => ⟨S_, .f32⟩
  | 120 => ⟨S2x4x128, .f32⟩
  | 121 => ⟨S2x4x128, .f32⟩
  | 122 => ⟨S_, .f32⟩
  | 123 => ⟨S2x512, .f32⟩
  | 124 => ⟨S2x512, .f32⟩
  | 125 => ⟨S_, .f32⟩
  | 126 => ⟨S2x512, .f32⟩
  | 127 => ⟨S2x512, .f32⟩
  | _ => ⟨S2048, .f32⟩

abbrev hbmTy0_3 (i : Nat) : BufTy := match i % 128 with
  | 0 => ⟨S2x512, .f32⟩
  | 1 => ⟨S_, .f32⟩
  | 2 => ⟨S2x512, .f32⟩
  | 3 => ⟨S2x512, .f32⟩
  | 4 => ⟨S2x512, .f32⟩
  | 5 => ⟨S_, .f32⟩
  | 6 => ⟨S2x512, .f32⟩
  | 7 => ⟨S2x512, .f32⟩
  | 8 => ⟨S2x512, .f32⟩
  | 9 => ⟨S_, .f32⟩
  | 10 => ⟨S2x512, .f32⟩
  | 11 => ⟨S2x512, .f32⟩
  | 12 => ⟨S_, .f32⟩
  | 13 => ⟨S2x512, .f32⟩
  | 14 => ⟨S2x512, .f32⟩
  | 15 => ⟨S2x512, .f32⟩
  | 16 => ⟨S_, .f32⟩
  | 17 => ⟨S2x512, .f32⟩
  | 18 => ⟨S2x512, .f32⟩
  | 19 => ⟨S2x512, .f32⟩
  | 20 => ⟨S_, .f32⟩
  | 21 => ⟨S2x512, .f32⟩
  | 22 => ⟨S2x512, .f32⟩
  | 23 => ⟨S2x512, .f32⟩
  | 24 => ⟨S_, .f32⟩
  | 25 => ⟨S2x512, .f32⟩
  | 26 => ⟨S2x512, .f32⟩
  | 27 => ⟨S_, .f32⟩
  | 28 => ⟨S2048, .f32⟩
  | 29 => ⟨S2048, .f32⟩
  | 30 => ⟨S_, .f32⟩
  | 31 => ⟨S2048, .f32⟩
  | 32 => ⟨S2048, .f32⟩
  | 33 => ⟨S2048, .f32⟩
  | 34 => ⟨S_, .f32⟩
  | 35 => ⟨S2048, .f32⟩
  | 36 => ⟨S2048, .f32⟩
  | 37 => ⟨S2048, .f32⟩
  | 38 => ⟨S_, .f32⟩
  | 39 => ⟨S2048, .f32⟩
  | 40 => ⟨S2048, .f32⟩
  | 41 => ⟨S2048, .f32⟩
  | 42 => ⟨S_, .f32⟩
  | 43 => ⟨S2048, .f32⟩
  | 44 => ⟨S2048, .f32⟩
  | 45 => ⟨S_, .f32⟩
  | 46 => ⟨S2048, .f32⟩
  | 47 => ⟨S2048, .f32⟩
  | 48 => ⟨S2048, .f32⟩
  | 49 => ⟨S_, .f32⟩
  | 50 => ⟨S2048, .f32⟩
  | 51 => ⟨S2048, .f32⟩
  | 52 => ⟨S2048, .f32⟩
  | 53 => ⟨S_, .f32⟩
  | 54 => ⟨S2048, .f32⟩
  | 55 => ⟨S2048, .f32⟩
  | 56 => ⟨S2048, .f32⟩
  | 57 => ⟨S_, .f32⟩
  | 58 => ⟨S2048, .f32⟩
  | 59 => ⟨S2048, .f32⟩
  | 60 => ⟨S49152, .f32⟩
  | 61 => ⟨S8192, .f32⟩
  | 62 => ⟨S8192, .f32⟩
  | 63 => ⟨S1024, .f32⟩
  | 64 => ⟨S2048, .f32⟩
  | 65 => ⟨S262144, .f32⟩
  | 66 => ⟨S2048, .f32⟩
  | 67 => ⟨S2048, .f32⟩
  | 68 => ⟨S1024, .f32⟩
  | 69 => ⟨S1024, .f32⟩
  | 70 => ⟨S340992, .f32⟩
  | 71 => ⟨S2664x128, .f32⟩
  | 72 => ⟨S49152, .f32⟩
  | 73 => ⟨S8192, .f32⟩
  | 74 => ⟨S8192, .f32⟩
  | 75 => ⟨S1024, .f32⟩
  | 76 => ⟨S2048, .f32⟩
  | 77 => ⟨S262144, .f32⟩
  | 78 => ⟨S2048, .f32⟩
  | 79 => ⟨S2048, .f32⟩
  | 80 => ⟨S1024, .f32⟩
  | 81 => ⟨S1024, .f32⟩
  | 82 => ⟨S340992, .f32⟩
  | 83 => ⟨S2664x128, .f32⟩
  | 84 => ⟨S49152, .f32⟩
  | 85 => ⟨S8192, .f32⟩
  | 86 => ⟨S8192, .f32⟩
  | 87 => ⟨S1024, .f32⟩
  | 88 => ⟨S2048, .f32⟩
  | 89 => ⟨S262144, .f32⟩
  | 90 => ⟨S2048, .f32⟩
  | 91 => ⟨S2048, .f32⟩
  | 92 => ⟨S1024, .f32⟩
  | 93 => ⟨S1024, .f32⟩
  | 94 => ⟨S340992, .f32⟩
  | 95 => ⟨S2664x128, .f32⟩
  | _ => ⟨S2048, .f32⟩

abbrev hbmTy (i : Nat) : BufTy := match i / 128 with
  | 0 => hbmTy0_0 i
  | 1 => hbmTy0_1 i
  | 2 => hbmTy0_2 i
  | 3 => hbmTy0_3 i
  | _ => ⟨S2048, .f32⟩

abbrev bufTy : (tb : Table) → Fin (tcTables nBuf tb) → BufTy
  | .hbm, ⟨i, _⟩ => hbmTy i
  | _, _ => ⟨S2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_cst : Ref sig .tc := ⟨.hbm, 48, rfl⟩
abbrev main_v0 : Ref sig .tc := ⟨.hbm, 49, rfl⟩
abbrev main_v1 : Ref sig .tc := ⟨.hbm, 50, rfl⟩
abbrev main_cst_0 : Ref sig .tc := ⟨.hbm, 51, rfl⟩
abbrev main_v2 : Ref sig .tc := ⟨.hbm, 52, rfl⟩
abbrev main_v3 : Ref sig .tc := ⟨.hbm, 53, rfl⟩
abbrev main_v4 : Ref sig .tc := ⟨.hbm, 54, rfl⟩
abbrev main_cst_1 : Ref sig .tc := ⟨.hbm, 55, rfl⟩
abbrev main_v5 : Ref sig .tc := ⟨.hbm, 56, rfl⟩
abbrev main_v6 : Ref sig .tc := ⟨.hbm, 57, rfl⟩
abbrev main_v7 : Ref sig .tc := ⟨.hbm, 58, rfl⟩
abbrev main_cst_2 : Ref sig .tc := ⟨.hbm, 59, rfl⟩
abbrev main_v8 : Ref sig .tc := ⟨.hbm, 60, rfl⟩
abbrev main_v9 : Ref sig .tc := ⟨.hbm, 61, rfl⟩
abbrev main_v10 : Ref sig .tc := ⟨.hbm, 62, rfl⟩
abbrev main_cst_3 : Ref sig .tc := ⟨.hbm, 63, rfl⟩
abbrev main_v11 : Ref sig .tc := ⟨.hbm, 64, rfl⟩
abbrev main_v12 : Ref sig .tc := ⟨.hbm, 65, rfl⟩
abbrev main_cst_4 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_cst_5 : Ref sig .tc := ⟨.hbm, 70, rfl⟩
abbrev main_v16 : Ref sig .tc := ⟨.hbm, 71, rfl⟩
abbrev main_v17 : Ref sig .tc := ⟨.hbm, 72, rfl⟩
abbrev main_v18 : Ref sig .tc := ⟨.hbm, 73, rfl⟩
abbrev main_cst_6 : Ref sig .tc := ⟨.hbm, 74, rfl⟩
abbrev main_v19 : Ref sig .tc := ⟨.hbm, 75, rfl⟩
abbrev main_v20 : Ref sig .tc := ⟨.hbm, 76, rfl⟩
abbrev main_v21 : Ref sig .tc := ⟨.hbm, 77, rfl⟩
abbrev main_cst_7 : Ref sig .tc := ⟨.hbm, 78, rfl⟩
abbrev main_v22 : Ref sig .tc := ⟨.hbm, 79, rfl⟩
abbrev main_v23 : Ref sig .tc := ⟨.hbm, 80, rfl⟩
abbrev main_cst_8 : Ref sig .tc := ⟨.hbm, 81, rfl⟩
abbrev main_v24 : Ref sig .tc := ⟨.hbm, 82, rfl⟩
abbrev main_v25 : Ref sig .tc := ⟨.hbm, 83, rfl⟩
abbrev main_cst_9 : Ref sig .tc := ⟨.hbm, 84, rfl⟩
abbrev main_v26 : Ref sig .tc := ⟨.hbm, 85, rfl⟩
abbrev main_v27 : Ref sig .tc := ⟨.hbm, 86, rfl⟩
abbrev main_v28 : Ref sig .tc := ⟨.hbm, 87, rfl⟩
abbrev main_cst_10 : Ref sig .tc := ⟨.hbm, 88, rfl⟩
abbrev main_v29 : Ref sig .tc := ⟨.hbm, 89, rfl⟩
abbrev main_v30 : Ref sig .tc := ⟨.hbm, 90, rfl⟩
abbrev main_v31 : Ref sig .tc := ⟨.hbm, 91, rfl⟩
abbrev main_cst_11 : Ref sig .tc := ⟨.hbm, 92, rfl⟩
abbrev main_v32 : Ref sig .tc := ⟨.hbm, 93, rfl⟩
abbrev main_v33 : Ref sig .tc := ⟨.hbm, 94, rfl⟩
abbrev main_v34 : Ref sig .tc := ⟨.hbm, 95, rfl⟩
abbrev main_cst_12 : Ref sig .tc := ⟨.hbm, 96, rfl⟩
abbrev main_v35 : Ref sig .tc := ⟨.hbm, 97, rfl⟩
abbrev main_v36 : Ref sig .tc := ⟨.hbm, 98, rfl⟩
abbrev main_cst_13 : Ref sig .tc := ⟨.hbm, 99, rfl⟩
abbrev main_v37 : Ref sig .tc := ⟨.hbm, 100, rfl⟩
abbrev main_v38 : Ref sig .tc := ⟨.hbm, 101, rfl⟩
abbrev main_v39 : Ref sig .tc := ⟨.hbm, 102, rfl⟩
abbrev main_cst_14 : Ref sig .tc := ⟨.hbm, 103, rfl⟩
abbrev main_v40 : Ref sig .tc := ⟨.hbm, 104, rfl⟩
abbrev main_v41 : Ref sig .tc := ⟨.hbm, 105, rfl⟩
abbrev main_v42 : Ref sig .tc := ⟨.hbm, 106, rfl⟩
abbrev main_cst_15 : Ref sig .tc := ⟨.hbm, 107, rfl⟩
abbrev main_v43 : Ref sig .tc := ⟨.hbm, 108, rfl⟩
abbrev main_v44 : Ref sig .tc := ⟨.hbm, 109, rfl⟩
abbrev main_v45 : Ref sig .tc := ⟨.hbm, 110, rfl⟩
abbrev main_cst_16 : Ref sig .tc := ⟨.hbm, 111, rfl⟩
abbrev main_v46 : Ref sig .tc := ⟨.hbm, 112, rfl⟩
abbrev main_v47 : Ref sig .tc := ⟨.hbm, 113, rfl⟩
abbrev main_cst_17 : Ref sig .tc := ⟨.hbm, 114, rfl⟩
abbrev main_v48 : Ref sig .tc := ⟨.hbm, 115, rfl⟩
abbrev main_v49 : Ref sig .tc := ⟨.hbm, 116, rfl⟩
abbrev main_cst_18 : Ref sig .tc := ⟨.hbm, 117, rfl⟩
abbrev main_v50 : Ref sig .tc := ⟨.hbm, 118, rfl⟩
abbrev main_v51 : Ref sig .tc := ⟨.hbm, 119, rfl⟩
abbrev main_v52 : Ref sig .tc := ⟨.hbm, 120, rfl⟩
abbrev main_cst_19 : Ref sig .tc := ⟨.hbm, 121, rfl⟩
abbrev main_v53 : Ref sig .tc := ⟨.hbm, 122, rfl⟩
abbrev main_v54 : Ref sig .tc := ⟨.hbm, 123, rfl⟩
abbrev main_v55 : Ref sig .tc := ⟨.hbm, 124, rfl⟩
abbrev main_cst_20 : Ref sig .tc := ⟨.hbm, 125, rfl⟩
abbrev main_v56 : Ref sig .tc := ⟨.hbm, 126, rfl⟩
abbrev main_v57 : Ref sig .tc := ⟨.hbm, 127, rfl⟩
abbrev main_v58 : Ref sig .tc := ⟨.hbm, 128, rfl⟩
abbrev main_cst_21 : Ref sig .tc := ⟨.hbm, 129, rfl⟩
abbrev main_v59 : Ref sig .tc := ⟨.hbm, 130, rfl⟩
abbrev main_v60 : Ref sig .tc := ⟨.hbm, 131, rfl⟩
abbrev main_cst_22 : Ref sig .tc := ⟨.hbm, 132, rfl⟩
abbrev main_v61 : Ref sig .tc := ⟨.hbm, 133, rfl⟩
abbrev main_v62 : Ref sig .tc := ⟨.hbm, 134, rfl⟩
abbrev main_v63 : Ref sig .tc := ⟨.hbm, 135, rfl⟩
abbrev main_cst_23 : Ref sig .tc := ⟨.hbm, 136, rfl⟩
abbrev main_v64 : Ref sig .tc := ⟨.hbm, 137, rfl⟩
abbrev main_v65 : Ref sig .tc := ⟨.hbm, 138, rfl⟩
abbrev main_v66 : Ref sig .tc := ⟨.hbm, 139, rfl⟩
abbrev main_cst_24 : Ref sig .tc := ⟨.hbm, 140, rfl⟩
abbrev main_v67 : Ref sig .tc := ⟨.hbm, 141, rfl⟩
abbrev main_v68 : Ref sig .tc := ⟨.hbm, 142, rfl⟩
abbrev main_v69 : Ref sig .tc := ⟨.hbm, 143, rfl⟩
abbrev main_cst_25 : Ref sig .tc := ⟨.hbm, 144, rfl⟩
abbrev main_v70 : Ref sig .tc := ⟨.hbm, 145, rfl⟩
abbrev main_v71 : Ref sig .tc := ⟨.hbm, 146, rfl⟩
abbrev main_cst_26 : Ref sig .tc := ⟨.hbm, 147, rfl⟩
abbrev main_v72 : Ref sig .tc := ⟨.hbm, 148, rfl⟩
abbrev main_v73 : Ref sig .tc := ⟨.hbm, 149, rfl⟩
abbrev main_cst_27 : Ref sig .tc := ⟨.hbm, 150, rfl⟩
abbrev main_v74 : Ref sig .tc := ⟨.hbm, 151, rfl⟩
abbrev main_v75 : Ref sig .tc := ⟨.hbm, 152, rfl⟩
abbrev main_v76 : Ref sig .tc := ⟨.hbm, 153, rfl⟩
abbrev main_cst_28 : Ref sig .tc := ⟨.hbm, 154, rfl⟩
abbrev main_v77 : Ref sig .tc := ⟨.hbm, 155, rfl⟩
abbrev main_v78 : Ref sig .tc := ⟨.hbm, 156, rfl⟩
abbrev main_v79 : Ref sig .tc := ⟨.hbm, 157, rfl⟩
abbrev main_cst_29 : Ref sig .tc := ⟨.hbm, 158, rfl⟩
abbrev main_v80 : Ref sig .tc := ⟨.hbm, 159, rfl⟩
abbrev main_v81 : Ref sig .tc := ⟨.hbm, 160, rfl⟩
abbrev main_v82 : Ref sig .tc := ⟨.hbm, 161, rfl⟩
abbrev main_cst_30 : Ref sig .tc := ⟨.hbm, 162, rfl⟩
abbrev main_v83 : Ref sig .tc := ⟨.hbm, 163, rfl⟩
abbrev main_v84 : Ref sig .tc := ⟨.hbm, 164, rfl⟩
abbrev main_cst_31 : Ref sig .tc := ⟨.hbm, 165, rfl⟩
abbrev main_v85 : Ref sig .tc := ⟨.hbm, 166, rfl⟩
abbrev main_v86 : Ref sig .tc := ⟨.hbm, 167, rfl⟩
abbrev main_v87 : Ref sig .tc := ⟨.hbm, 168, rfl⟩
abbrev main_cst_32 : Ref sig .tc := ⟨.hbm, 169, rfl⟩
abbrev main_v88 : Ref sig .tc := ⟨.hbm, 170, rfl⟩
abbrev main_v89 : Ref sig .tc := ⟨.hbm, 171, rfl⟩
abbrev main_v90 : Ref sig .tc := ⟨.hbm, 172, rfl⟩
abbrev main_cst_33 : Ref sig .tc := ⟨.hbm, 173, rfl⟩
abbrev main_v91 : Ref sig .tc := ⟨.hbm, 174, rfl⟩
abbrev main_v92 : Ref sig .tc := ⟨.hbm, 175, rfl⟩
abbrev main_v93 : Ref sig .tc := ⟨.hbm, 176, rfl⟩
abbrev main_cst_34 : Ref sig .tc := ⟨.hbm, 177, rfl⟩
abbrev main_v94 : Ref sig .tc := ⟨.hbm, 178, rfl⟩
abbrev main_v95 : Ref sig .tc := ⟨.hbm, 179, rfl⟩
abbrev main_cst_35 : Ref sig .tc := ⟨.hbm, 180, rfl⟩
abbrev main_v96 : Ref sig .tc := ⟨.hbm, 181, rfl⟩
abbrev main_v97 : Ref sig .tc := ⟨.hbm, 182, rfl⟩
abbrev main_cst_36 : Ref sig .tc := ⟨.hbm, 183, rfl⟩
abbrev main_v98 : Ref sig .tc := ⟨.hbm, 184, rfl⟩
abbrev main_v99 : Ref sig .tc := ⟨.hbm, 185, rfl⟩
abbrev main_v100 : Ref sig .tc := ⟨.hbm, 186, rfl⟩
abbrev main_cst_37 : Ref sig .tc := ⟨.hbm, 187, rfl⟩
abbrev main_v101 : Ref sig .tc := ⟨.hbm, 188, rfl⟩
abbrev main_v102 : Ref sig .tc := ⟨.hbm, 189, rfl⟩
abbrev main_v103 : Ref sig .tc := ⟨.hbm, 190, rfl⟩
abbrev main_cst_38 : Ref sig .tc := ⟨.hbm, 191, rfl⟩
abbrev main_v104 : Ref sig .tc := ⟨.hbm, 192, rfl⟩
abbrev main_v105 : Ref sig .tc := ⟨.hbm, 193, rfl⟩
abbrev main_v106 : Ref sig .tc := ⟨.hbm, 194, rfl⟩
abbrev main_cst_39 : Ref sig .tc := ⟨.hbm, 195, rfl⟩
abbrev main_v107 : Ref sig .tc := ⟨.hbm, 196, rfl⟩
abbrev main_v108 : Ref sig .tc := ⟨.hbm, 197, rfl⟩
abbrev main_cst_40 : Ref sig .tc := ⟨.hbm, 198, rfl⟩
abbrev main_v109 : Ref sig .tc := ⟨.hbm, 199, rfl⟩
abbrev main_v110 : Ref sig .tc := ⟨.hbm, 200, rfl⟩
abbrev main_v111 : Ref sig .tc := ⟨.hbm, 201, rfl⟩
abbrev main_cst_41 : Ref sig .tc := ⟨.hbm, 202, rfl⟩
abbrev main_v112 : Ref sig .tc := ⟨.hbm, 203, rfl⟩
abbrev main_v113 : Ref sig .tc := ⟨.hbm, 204, rfl⟩
abbrev main_v114 : Ref sig .tc := ⟨.hbm, 205, rfl⟩
abbrev main_cst_42 : Ref sig .tc := ⟨.hbm, 206, rfl⟩
abbrev main_v115 : Ref sig .tc := ⟨.hbm, 207, rfl⟩
abbrev main_v116 : Ref sig .tc := ⟨.hbm, 208, rfl⟩
abbrev main_v117 : Ref sig .tc := ⟨.hbm, 209, rfl⟩
abbrev main_cst_43 : Ref sig .tc := ⟨.hbm, 210, rfl⟩
abbrev main_v118 : Ref sig .tc := ⟨.hbm, 211, rfl⟩
abbrev main_v119 : Ref sig .tc := ⟨.hbm, 212, rfl⟩
abbrev main_cst_44 : Ref sig .tc := ⟨.hbm, 213, rfl⟩
abbrev main_v120 : Ref sig .tc := ⟨.hbm, 214, rfl⟩
abbrev main_v121 : Ref sig .tc := ⟨.hbm, 215, rfl⟩
abbrev main_cst_45 : Ref sig .tc := ⟨.hbm, 216, rfl⟩
abbrev main_v122 : Ref sig .tc := ⟨.hbm, 217, rfl⟩
abbrev main_v123 : Ref sig .tc := ⟨.hbm, 218, rfl⟩
abbrev main_v124 : Ref sig .tc := ⟨.hbm, 219, rfl⟩
abbrev main_cst_46 : Ref sig .tc := ⟨.hbm, 220, rfl⟩
abbrev main_v125 : Ref sig .tc := ⟨.hbm, 221, rfl⟩
abbrev main_v126 : Ref sig .tc := ⟨.hbm, 222, rfl⟩
abbrev main_v127 : Ref sig .tc := ⟨.hbm, 223, rfl⟩
abbrev main_cst_47 : Ref sig .tc := ⟨.hbm, 224, rfl⟩
abbrev main_v128 : Ref sig .tc := ⟨.hbm, 225, rfl⟩
abbrev main_v129 : Ref sig .tc := ⟨.hbm, 226, rfl⟩
abbrev main_v130 : Ref sig .tc := ⟨.hbm, 227, rfl⟩
abbrev main_cst_48 : Ref sig .tc := ⟨.hbm, 228, rfl⟩
abbrev main_v131 : Ref sig .tc := ⟨.hbm, 229, rfl⟩
abbrev main_v132 : Ref sig .tc := ⟨.hbm, 230, rfl⟩
abbrev main_cst_49 : Ref sig .tc := ⟨.hbm, 231, rfl⟩
abbrev main_v133 : Ref sig .tc := ⟨.hbm, 232, rfl⟩
abbrev main_v134 : Ref sig .tc := ⟨.hbm, 233, rfl⟩
abbrev main_v135 : Ref sig .tc := ⟨.hbm, 234, rfl⟩
abbrev main_cst_50 : Ref sig .tc := ⟨.hbm, 235, rfl⟩
abbrev main_v136 : Ref sig .tc := ⟨.hbm, 236, rfl⟩
abbrev main_v137 : Ref sig .tc := ⟨.hbm, 237, rfl⟩
abbrev main_v138 : Ref sig .tc := ⟨.hbm, 238, rfl⟩
abbrev main_cst_51 : Ref sig .tc := ⟨.hbm, 239, rfl⟩
abbrev main_v139 : Ref sig .tc := ⟨.hbm, 240, rfl⟩
abbrev main_v140 : Ref sig .tc := ⟨.hbm, 241, rfl⟩
abbrev main_v141 : Ref sig .tc := ⟨.hbm, 242, rfl⟩
abbrev main_cst_52 : Ref sig .tc := ⟨.hbm, 243, rfl⟩
abbrev main_v142 : Ref sig .tc := ⟨.hbm, 244, rfl⟩
abbrev main_v143 : Ref sig .tc := ⟨.hbm, 245, rfl⟩
abbrev main_cst_53 : Ref sig .tc := ⟨.hbm, 246, rfl⟩
abbrev main_v144 : Ref sig .tc := ⟨.hbm, 247, rfl⟩
abbrev main_v145 : Ref sig .tc := ⟨.hbm, 248, rfl⟩
abbrev main_cst_54 : Ref sig .tc := ⟨.hbm, 249, rfl⟩
abbrev main_v146 : Ref sig .tc := ⟨.hbm, 250, rfl⟩
abbrev main_v147 : Ref sig .tc := ⟨.hbm, 251, rfl⟩
abbrev main_v148 : Ref sig .tc := ⟨.hbm, 252, rfl⟩
abbrev main_cst_55 : Ref sig .tc := ⟨.hbm, 253, rfl⟩
abbrev main_v149 : Ref sig .tc := ⟨.hbm, 254, rfl⟩
abbrev main_v150 : Ref sig .tc := ⟨.hbm, 255, rfl⟩
abbrev main_v151 : Ref sig .tc := ⟨.hbm, 256, rfl⟩
abbrev main_cst_56 : Ref sig .tc := ⟨.hbm, 257, rfl⟩
abbrev main_v152 : Ref sig .tc := ⟨.hbm, 258, rfl⟩
abbrev main_v153 : Ref sig .tc := ⟨.hbm, 259, rfl⟩
abbrev main_v154 : Ref sig .tc := ⟨.hbm, 260, rfl⟩
abbrev main_cst_57 : Ref sig .tc := ⟨.hbm, 261, rfl⟩
abbrev main_v155 : Ref sig .tc := ⟨.hbm, 262, rfl⟩
abbrev main_v156 : Ref sig .tc := ⟨.hbm, 263, rfl⟩
abbrev main_cst_58 : Ref sig .tc := ⟨.hbm, 264, rfl⟩
abbrev main_v157 : Ref sig .tc := ⟨.hbm, 265, rfl⟩
abbrev main_v158 : Ref sig .tc := ⟨.hbm, 266, rfl⟩
abbrev main_v159 : Ref sig .tc := ⟨.hbm, 267, rfl⟩
abbrev main_cst_59 : Ref sig .tc := ⟨.hbm, 268, rfl⟩
abbrev main_v160 : Ref sig .tc := ⟨.hbm, 269, rfl⟩
abbrev main_v161 : Ref sig .tc := ⟨.hbm, 270, rfl⟩
abbrev main_v162 : Ref sig .tc := ⟨.hbm, 271, rfl⟩
abbrev main_cst_60 : Ref sig .tc := ⟨.hbm, 272, rfl⟩
abbrev main_v163 : Ref sig .tc := ⟨.hbm, 273, rfl⟩
abbrev main_v164 : Ref sig .tc := ⟨.hbm, 274, rfl⟩
abbrev main_v165 : Ref sig .tc := ⟨.hbm, 275, rfl⟩
abbrev main_cst_61 : Ref sig .tc := ⟨.hbm, 276, rfl⟩
abbrev main_v166 : Ref sig .tc := ⟨.hbm, 277, rfl⟩
abbrev main_v167 : Ref sig .tc := ⟨.hbm, 278, rfl⟩
abbrev main_cst_62 : Ref sig .tc := ⟨.hbm, 279, rfl⟩
abbrev main_v168 : Ref sig .tc := ⟨.hbm, 280, rfl⟩
abbrev main_v169 : Ref sig .tc := ⟨.hbm, 281, rfl⟩
abbrev main_cst_63 : Ref sig .tc := ⟨.hbm, 282, rfl⟩
abbrev main_v170 : Ref sig .tc := ⟨.hbm, 283, rfl⟩
abbrev main_v171 : Ref sig .tc := ⟨.hbm, 284, rfl⟩
abbrev main_v172 : Ref sig .tc := ⟨.hbm, 285, rfl⟩
abbrev main_cst_64 : Ref sig .tc := ⟨.hbm, 286, rfl⟩
abbrev main_v173 : Ref sig .tc := ⟨.hbm, 287, rfl⟩
abbrev main_v174 : Ref sig .tc := ⟨.hbm, 288, rfl⟩
abbrev main_v175 : Ref sig .tc := ⟨.hbm, 289, rfl⟩
abbrev main_cst_65 : Ref sig .tc := ⟨.hbm, 290, rfl⟩
abbrev main_v176 : Ref sig .tc := ⟨.hbm, 291, rfl⟩
abbrev main_v177 : Ref sig .tc := ⟨.hbm, 292, rfl⟩
abbrev main_v178 : Ref sig .tc := ⟨.hbm, 293, rfl⟩
abbrev main_cst_66 : Ref sig .tc := ⟨.hbm, 294, rfl⟩
abbrev main_v179 : Ref sig .tc := ⟨.hbm, 295, rfl⟩
abbrev main_v180 : Ref sig .tc := ⟨.hbm, 296, rfl⟩
abbrev main_cst_67 : Ref sig .tc := ⟨.hbm, 297, rfl⟩
abbrev main_v181 : Ref sig .tc := ⟨.hbm, 298, rfl⟩
abbrev main_v182 : Ref sig .tc := ⟨.hbm, 299, rfl⟩
abbrev main_v183 : Ref sig .tc := ⟨.hbm, 300, rfl⟩
abbrev main_cst_68 : Ref sig .tc := ⟨.hbm, 301, rfl⟩
abbrev main_v184 : Ref sig .tc := ⟨.hbm, 302, rfl⟩
abbrev main_v185 : Ref sig .tc := ⟨.hbm, 303, rfl⟩
abbrev main_v186 : Ref sig .tc := ⟨.hbm, 304, rfl⟩
abbrev main_cst_69 : Ref sig .tc := ⟨.hbm, 305, rfl⟩
abbrev main_v187 : Ref sig .tc := ⟨.hbm, 306, rfl⟩
abbrev main_v188 : Ref sig .tc := ⟨.hbm, 307, rfl⟩
abbrev main_v189 : Ref sig .tc := ⟨.hbm, 308, rfl⟩
abbrev main_cst_70 : Ref sig .tc := ⟨.hbm, 309, rfl⟩
abbrev main_v190 : Ref sig .tc := ⟨.hbm, 310, rfl⟩
abbrev main_v191 : Ref sig .tc := ⟨.hbm, 311, rfl⟩
abbrev main_cst_71 : Ref sig .tc := ⟨.hbm, 312, rfl⟩
abbrev main_v192 : Ref sig .tc := ⟨.hbm, 313, rfl⟩
abbrev main_v193 : Ref sig .tc := ⟨.hbm, 314, rfl⟩
abbrev main_cst_72 : Ref sig .tc := ⟨.hbm, 315, rfl⟩
abbrev main_v194 : Ref sig .tc := ⟨.hbm, 316, rfl⟩
abbrev main_v195 : Ref sig .tc := ⟨.hbm, 317, rfl⟩
abbrev main_v196 : Ref sig .tc := ⟨.hbm, 318, rfl⟩
abbrev main_cst_73 : Ref sig .tc := ⟨.hbm, 319, rfl⟩
abbrev main_v197 : Ref sig .tc := ⟨.hbm, 320, rfl⟩
abbrev main_v198 : Ref sig .tc := ⟨.hbm, 321, rfl⟩
abbrev main_v199 : Ref sig .tc := ⟨.hbm, 322, rfl⟩
abbrev main_cst_74 : Ref sig .tc := ⟨.hbm, 323, rfl⟩
abbrev main_v200 : Ref sig .tc := ⟨.hbm, 324, rfl⟩
abbrev main_v201 : Ref sig .tc := ⟨.hbm, 325, rfl⟩
abbrev main_v202 : Ref sig .tc := ⟨.hbm, 326, rfl⟩
abbrev main_cst_75 : Ref sig .tc := ⟨.hbm, 327, rfl⟩
abbrev main_v203 : Ref sig .tc := ⟨.hbm, 328, rfl⟩
abbrev main_v204 : Ref sig .tc := ⟨.hbm, 329, rfl⟩
abbrev main_cst_76 : Ref sig .tc := ⟨.hbm, 330, rfl⟩
abbrev main_v205 : Ref sig .tc := ⟨.hbm, 331, rfl⟩
abbrev main_v206 : Ref sig .tc := ⟨.hbm, 332, rfl⟩
abbrev main_v207 : Ref sig .tc := ⟨.hbm, 333, rfl⟩
abbrev main_cst_77 : Ref sig .tc := ⟨.hbm, 334, rfl⟩
abbrev main_v208 : Ref sig .tc := ⟨.hbm, 335, rfl⟩
abbrev main_v209 : Ref sig .tc := ⟨.hbm, 336, rfl⟩
abbrev main_v210 : Ref sig .tc := ⟨.hbm, 337, rfl⟩
abbrev main_cst_78 : Ref sig .tc := ⟨.hbm, 338, rfl⟩
abbrev main_v211 : Ref sig .tc := ⟨.hbm, 339, rfl⟩
abbrev main_v212 : Ref sig .tc := ⟨.hbm, 340, rfl⟩
abbrev main_v213 : Ref sig .tc := ⟨.hbm, 341, rfl⟩
abbrev main_cst_79 : Ref sig .tc := ⟨.hbm, 342, rfl⟩
abbrev main_v214 : Ref sig .tc := ⟨.hbm, 343, rfl⟩
abbrev main_v215 : Ref sig .tc := ⟨.hbm, 344, rfl⟩
abbrev main_cst_80 : Ref sig .tc := ⟨.hbm, 345, rfl⟩
abbrev main_v216 : Ref sig .tc := ⟨.hbm, 346, rfl⟩
abbrev main_v217 : Ref sig .tc := ⟨.hbm, 347, rfl⟩
abbrev main_cst_81 : Ref sig .tc := ⟨.hbm, 348, rfl⟩
abbrev main_v218 : Ref sig .tc := ⟨.hbm, 349, rfl⟩
abbrev main_v219 : Ref sig .tc := ⟨.hbm, 350, rfl⟩
abbrev main_v220 : Ref sig .tc := ⟨.hbm, 351, rfl⟩
abbrev main_cst_82 : Ref sig .tc := ⟨.hbm, 352, rfl⟩
abbrev main_v221 : Ref sig .tc := ⟨.hbm, 353, rfl⟩
abbrev main_v222 : Ref sig .tc := ⟨.hbm, 354, rfl⟩
abbrev main_v223 : Ref sig .tc := ⟨.hbm, 355, rfl⟩
abbrev main_cst_83 : Ref sig .tc := ⟨.hbm, 356, rfl⟩
abbrev main_v224 : Ref sig .tc := ⟨.hbm, 357, rfl⟩
abbrev main_v225 : Ref sig .tc := ⟨.hbm, 358, rfl⟩
abbrev main_v226 : Ref sig .tc := ⟨.hbm, 359, rfl⟩
abbrev main_cst_84 : Ref sig .tc := ⟨.hbm, 360, rfl⟩
abbrev main_v227 : Ref sig .tc := ⟨.hbm, 361, rfl⟩
abbrev main_v228 : Ref sig .tc := ⟨.hbm, 362, rfl⟩
abbrev main_cst_85 : Ref sig .tc := ⟨.hbm, 363, rfl⟩
abbrev main_v229 : Ref sig .tc := ⟨.hbm, 364, rfl⟩
abbrev main_v230 : Ref sig .tc := ⟨.hbm, 365, rfl⟩
abbrev main_v231 : Ref sig .tc := ⟨.hbm, 366, rfl⟩
abbrev main_cst_86 : Ref sig .tc := ⟨.hbm, 367, rfl⟩
abbrev main_v232 : Ref sig .tc := ⟨.hbm, 368, rfl⟩
abbrev main_v233 : Ref sig .tc := ⟨.hbm, 369, rfl⟩
abbrev main_v234 : Ref sig .tc := ⟨.hbm, 370, rfl⟩
abbrev main_cst_87 : Ref sig .tc := ⟨.hbm, 371, rfl⟩
abbrev main_v235 : Ref sig .tc := ⟨.hbm, 372, rfl⟩
abbrev main_v236 : Ref sig .tc := ⟨.hbm, 373, rfl⟩
abbrev main_v237 : Ref sig .tc := ⟨.hbm, 374, rfl⟩
abbrev main_cst_88 : Ref sig .tc := ⟨.hbm, 375, rfl⟩
abbrev main_v238 : Ref sig .tc := ⟨.hbm, 376, rfl⟩
abbrev main_v239 : Ref sig .tc := ⟨.hbm, 377, rfl⟩
abbrev main_cst_89 : Ref sig .tc := ⟨.hbm, 378, rfl⟩
abbrev main_v240 : Ref sig .tc := ⟨.hbm, 379, rfl⟩
abbrev main_v241 : Ref sig .tc := ⟨.hbm, 380, rfl⟩
abbrev main_cst_90 : Ref sig .tc := ⟨.hbm, 381, rfl⟩
abbrev main_v242 : Ref sig .tc := ⟨.hbm, 382, rfl⟩
abbrev main_v243 : Ref sig .tc := ⟨.hbm, 383, rfl⟩
abbrev main_v244 : Ref sig .tc := ⟨.hbm, 384, rfl⟩
abbrev main_cst_91 : Ref sig .tc := ⟨.hbm, 385, rfl⟩
abbrev main_v245 : Ref sig .tc := ⟨.hbm, 386, rfl⟩
abbrev main_v246 : Ref sig .tc := ⟨.hbm, 387, rfl⟩
abbrev main_v247 : Ref sig .tc := ⟨.hbm, 388, rfl⟩
abbrev main_cst_92 : Ref sig .tc := ⟨.hbm, 389, rfl⟩
abbrev main_v248 : Ref sig .tc := ⟨.hbm, 390, rfl⟩
abbrev main_v249 : Ref sig .tc := ⟨.hbm, 391, rfl⟩
abbrev main_v250 : Ref sig .tc := ⟨.hbm, 392, rfl⟩
abbrev main_cst_93 : Ref sig .tc := ⟨.hbm, 393, rfl⟩
abbrev main_v251 : Ref sig .tc := ⟨.hbm, 394, rfl⟩
abbrev main_v252 : Ref sig .tc := ⟨.hbm, 395, rfl⟩
abbrev main_cst_94 : Ref sig .tc := ⟨.hbm, 396, rfl⟩
abbrev main_v253 : Ref sig .tc := ⟨.hbm, 397, rfl⟩
abbrev main_v254 : Ref sig .tc := ⟨.hbm, 398, rfl⟩
abbrev main_v255 : Ref sig .tc := ⟨.hbm, 399, rfl⟩
abbrev main_cst_95 : Ref sig .tc := ⟨.hbm, 400, rfl⟩
abbrev main_v256 : Ref sig .tc := ⟨.hbm, 401, rfl⟩
abbrev main_v257 : Ref sig .tc := ⟨.hbm, 402, rfl⟩
abbrev main_v258 : Ref sig .tc := ⟨.hbm, 403, rfl⟩
abbrev main_cst_96 : Ref sig .tc := ⟨.hbm, 404, rfl⟩
abbrev main_v259 : Ref sig .tc := ⟨.hbm, 405, rfl⟩
abbrev main_v260 : Ref sig .tc := ⟨.hbm, 406, rfl⟩
abbrev main_v261 : Ref sig .tc := ⟨.hbm, 407, rfl⟩
abbrev main_cst_97 : Ref sig .tc := ⟨.hbm, 408, rfl⟩
abbrev main_v262 : Ref sig .tc := ⟨.hbm, 409, rfl⟩
abbrev main_v263 : Ref sig .tc := ⟨.hbm, 410, rfl⟩
abbrev main_cst_98 : Ref sig .tc := ⟨.hbm, 411, rfl⟩
abbrev main_v264 : Ref sig .tc := ⟨.hbm, 412, rfl⟩
abbrev main_v265 : Ref sig .tc := ⟨.hbm, 413, rfl⟩
abbrev main_cst_99 : Ref sig .tc := ⟨.hbm, 414, rfl⟩
abbrev main_v266 : Ref sig .tc := ⟨.hbm, 415, rfl⟩
abbrev main_v267 : Ref sig .tc := ⟨.hbm, 416, rfl⟩
abbrev main_v268 : Ref sig .tc := ⟨.hbm, 417, rfl⟩
abbrev main_cst_100 : Ref sig .tc := ⟨.hbm, 418, rfl⟩
abbrev main_v269 : Ref sig .tc := ⟨.hbm, 419, rfl⟩
abbrev main_v270 : Ref sig .tc := ⟨.hbm, 420, rfl⟩
abbrev main_v271 : Ref sig .tc := ⟨.hbm, 421, rfl⟩
abbrev main_cst_101 : Ref sig .tc := ⟨.hbm, 422, rfl⟩
abbrev main_v272 : Ref sig .tc := ⟨.hbm, 423, rfl⟩
abbrev main_v273 : Ref sig .tc := ⟨.hbm, 424, rfl⟩
abbrev main_v274 : Ref sig .tc := ⟨.hbm, 425, rfl⟩
abbrev main_cst_102 : Ref sig .tc := ⟨.hbm, 426, rfl⟩
abbrev main_v275 : Ref sig .tc := ⟨.hbm, 427, rfl⟩
abbrev main_v276 : Ref sig .tc := ⟨.hbm, 428, rfl⟩
abbrev main_cst_103 : Ref sig .tc := ⟨.hbm, 429, rfl⟩
abbrev main_v277 : Ref sig .tc := ⟨.hbm, 430, rfl⟩
abbrev main_v278 : Ref sig .tc := ⟨.hbm, 431, rfl⟩
abbrev main_v279 : Ref sig .tc := ⟨.hbm, 432, rfl⟩
abbrev main_cst_104 : Ref sig .tc := ⟨.hbm, 433, rfl⟩
abbrev main_v280 : Ref sig .tc := ⟨.hbm, 434, rfl⟩
abbrev main_v281 : Ref sig .tc := ⟨.hbm, 435, rfl⟩
abbrev main_v282 : Ref sig .tc := ⟨.hbm, 436, rfl⟩
abbrev main_cst_105 : Ref sig .tc := ⟨.hbm, 437, rfl⟩
abbrev main_v283 : Ref sig .tc := ⟨.hbm, 438, rfl⟩
abbrev main_v284 : Ref sig .tc := ⟨.hbm, 439, rfl⟩
abbrev main_v285 : Ref sig .tc := ⟨.hbm, 440, rfl⟩
abbrev main_cst_106 : Ref sig .tc := ⟨.hbm, 441, rfl⟩
abbrev main_v286 : Ref sig .tc := ⟨.hbm, 442, rfl⟩
abbrev main_v287 : Ref sig .tc := ⟨.hbm, 443, rfl⟩
abbrev main_v288 : Ref sig .tc := ⟨.hbm, 444, rfl⟩
abbrev main_v289 : Ref sig .tc := ⟨.hbm, 445, rfl⟩
abbrev main_v290 : Ref sig .tc := ⟨.hbm, 446, rfl⟩
abbrev main_v291 : Ref sig .tc := ⟨.hbm, 447, rfl⟩
abbrev main_v292 : Ref sig .tc := ⟨.hbm, 448, rfl⟩
abbrev main_v293 : Ref sig .tc := ⟨.hbm, 449, rfl⟩
abbrev main_v294 : Ref sig .tc := ⟨.hbm, 450, rfl⟩
abbrev main_v295 : Ref sig .tc := ⟨.hbm, 451, rfl⟩
abbrev main_v296 : Ref sig .tc := ⟨.hbm, 452, rfl⟩
abbrev main_v297 : Ref sig .tc := ⟨.hbm, 453, rfl⟩
abbrev main_v298 : Ref sig .tc := ⟨.hbm, 454, rfl⟩
abbrev main_v299 : Ref sig .tc := ⟨.hbm, 455, rfl⟩
abbrev main_v300 : Ref sig .tc := ⟨.hbm, 456, rfl⟩
abbrev main_v301 : Ref sig .tc := ⟨.hbm, 457, rfl⟩
abbrev main_v302 : Ref sig .tc := ⟨.hbm, 458, rfl⟩
abbrev main_v303 : Ref sig .tc := ⟨.hbm, 459, rfl⟩
abbrev main_v304 : Ref sig .tc := ⟨.hbm, 460, rfl⟩
abbrev main_v305 : Ref sig .tc := ⟨.hbm, 461, rfl⟩
abbrev main_v306 : Ref sig .tc := ⟨.hbm, 462, rfl⟩
abbrev main_v307 : Ref sig .tc := ⟨.hbm, 463, rfl⟩
abbrev main_v308 : Ref sig .tc := ⟨.hbm, 464, rfl⟩
abbrev main_v309 : Ref sig .tc := ⟨.hbm, 465, rfl⟩
abbrev main_v310 : Ref sig .tc := ⟨.hbm, 466, rfl⟩
abbrev main_v311 : Ref sig .tc := ⟨.hbm, 467, rfl⟩
abbrev main_v312 : Ref sig .tc := ⟨.hbm, 468, rfl⟩
abbrev main_v313 : Ref sig .tc := ⟨.hbm, 469, rfl⟩
abbrev main_v314 : Ref sig .tc := ⟨.hbm, 470, rfl⟩
abbrev main_v315 : Ref sig .tc := ⟨.hbm, 471, rfl⟩
abbrev main_v316 : Ref sig .tc := ⟨.hbm, 472, rfl⟩
abbrev main_v317 : Ref sig .tc := ⟨.hbm, 473, rfl⟩
abbrev main_v318 : Ref sig .tc := ⟨.hbm, 474, rfl⟩
abbrev main_v319 : Ref sig .tc := ⟨.hbm, 475, rfl⟩
abbrev main_v320 : Ref sig .tc := ⟨.hbm, 476, rfl⟩
abbrev main_v321 : Ref sig .tc := ⟨.hbm, 477, rfl⟩
abbrev main_v322 : Ref sig .tc := ⟨.hbm, 478, rfl⟩
abbrev main_v323 : Ref sig .tc := ⟨.hbm, 479, rfl⟩

abbrev nD : Nat := 1
abbrev τ : Topo := Topo.v7x

variable {F : FTy → Type} [FloatOps F]
-- ==== AdaStep.lean ====
abbrev S16x2048 : Shape := ⟨2, ![16, 2048]⟩
abbrev S4x16x3072 : Shape := ⟨3, ![4, 16, 3072]⟩
abbrev S4x2048x3072 : Shape := ⟨3, ![4, 2048, 3072]⟩
abbrev S16x256 : Shape := ⟨2, ![16, 256]⟩
abbrev S1x16x1024 : Shape := ⟨3, ![1, 16, 1024]⟩
abbrev S1x256x1024 : Shape := ⟨3, ![1, 256, 1024]⟩
abbrev S16x1024 : Shape := ⟨2, ![16, 1024]⟩
abbrev S256x1024 : Shape := ⟨2, ![256, 1024]⟩

abbrev nBuf : Space → Nat
  | .hbm => 10
  | .vmem => 20
  | .smem => 0
  | _ => 0

abbrev bufTy : (tb : Table) → Fin (tcTables nBuf tb) → BufTy
  | .hbm, ⟨0, _⟩ => ⟨S16x2048, .f32⟩
  | .hbm, ⟨1, _⟩ => ⟨S4x16x3072, .f32⟩
  | .hbm, ⟨2, _⟩ => ⟨S4x2048x3072, .f32⟩
  | .hbm, ⟨3, _⟩ => ⟨S4x2048x3072, .f32⟩
  | .hbm, ⟨4, _⟩ => ⟨S4x2048x3072, .f32⟩
  | .hbm, ⟨5, _⟩ => ⟨S4x2048x3072, .f32⟩
  | .hbm, ⟨6, _⟩ => ⟨S4x2048x3072, .f32⟩
  | .hbm, ⟨7, _⟩ => ⟨S4x2048x3072, .f32⟩
  | .hbm, ⟨8, _⟩ => ⟨S4x2048x3072, .f32⟩
  | .hbm, ⟨9, _⟩ => ⟨S16x2048, .f32⟩
  | .local _ .vmem, ⟨0, _⟩ => ⟨S16x256, .f32⟩
  | .local _ .vmem, ⟨1, _⟩ => ⟨S16x256, .f32⟩
  | .local _ .vmem, ⟨2, _⟩ => ⟨S1x16x1024, .f32⟩
  | .local _ .vmem, ⟨3, _⟩ => ⟨S1x16x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .vmem, ⟨18, _⟩ => ⟨S16x256, .f32⟩
  | .local _ .vmem, ⟨19, _⟩ => ⟨S16x256, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![8, 4, 3], ![false, false, false]⟩

def k0_cond1 (i : grid0.Coords) : BitVec 1 :=
  let arg1 : BitVec 32 := BitVec.ofNat 32 (i 1).val
  let c0_i32 : BitVec 32 := 0#32
  let v52 : BitVec 1 := Scalar.cmpi .eq arg1 c0_i32
  let arg2 : BitVec 32 := BitVec.ofNat 32 (i 2).val
  let c0_i32_35 : BitVec 32 := 0#32
  let v53 : BitVec 1 := Scalar.cmpi .eq arg2 c0_i32_35
  let v54 : BitVec 1 := Scalar.andi v52 v53
  let v55 : BitVec 32 := Scalar.extui v54
  let c0_i32_36 : BitVec 32 := 0#32
  let v56 : BitVec 1 := Scalar.cmpi .ne v55 c0_i32_36
  v56

def k0_cond2 (i : grid0.Coords) : BitVec 1 :=
  let arg1 : BitVec 32 := BitVec.ofNat 32 (i 1).val
  let c0_i32 : BitVec 32 := 0#32
  let v52 : BitVec 1 := Scalar.cmpi .eq arg1 c0_i32
  let arg2 : BitVec 32 := BitVec.ofNat 32 (i 2).val
  let c0_i32_35 : BitVec 32 := 0#32
  let v53 : BitVec 1 := Scalar.cmpi .eq arg2 c0_i32_35
  let v54 : BitVec 1 := Scalar.andi v52 v53
  let v_true : BitVec 1 := 1#1
  let v57 : BitVec 1 := Scalar.xori v54 v_true
  let v58 : BitVec 32 := Scalar.extui v57
  let c0_i32_37 : BitVec 32 := 0#32
  let v59 : BitVec 1 := Scalar.cmpi .ne v58 c0_i32_37
  v59

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat, arg2.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S16x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]
-- ==== RefAdaStepIdeal.lean ====
abbrev S16x2048 : Shape := ⟨2, ![16, 2048]⟩
abbrev S4x16x3072 : Shape := ⟨3, ![4, 16, 3072]⟩
abbrev S4x2048x3072 : Shape := ⟨3, ![4, 2048, 3072]⟩
abbrev S_ : Shape := ⟨0, ![]⟩
abbrev S4x3072x16 : Shape := ⟨3, ![4, 3072, 16]⟩
abbrev S4x3072x2048 : Shape := ⟨3, ![4, 3072, 2048]⟩

abbrev nBuf : Space → Nat
  | .hbm => 53
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S4x16x3072, .f32⟩
  | .hbm, ⟨2, _⟩ => ⟨S4x2048x3072, .f32⟩
  | .hbm, ⟨3, _⟩ => ⟨S4x2048x3072, .f32⟩
  | .hbm, ⟨4, _⟩ => ⟨S4x2048x3072, .f32⟩
  | .hbm, ⟨5, _⟩ => ⟨S16x2048, .f32⟩
  | .hbm, ⟨6, _⟩ => ⟨S16x2048, .f32⟩
  | .hbm, ⟨7, _⟩ => ⟨S_, .f32⟩
  | .hbm, ⟨8, _⟩ => ⟨S16x2048, .f32⟩
  | .hbm, ⟨9, _⟩ => ⟨S16x2048, .f32⟩
  | .hbm, ⟨10, _⟩ => ⟨S_, .f32⟩
  | .hbm, ⟨11, _⟩ => ⟨S16x2048, .f32⟩
  | .hbm, ⟨12, _⟩ => ⟨S16x2048, .f32⟩
  | .hbm, ⟨13, _⟩ => ⟨S16x2048, .f32⟩
  | .hbm, ⟨14, _⟩ => ⟨S4x3072x16, .f32⟩
  | .hbm, ⟨15, _⟩ => ⟨S4x16x3072, .f32⟩
  | .hbm, ⟨16, _⟩ => ⟨S4x3072x16, .f32⟩
  | .hbm, ⟨17, _⟩ => ⟨S16x2048, .f32⟩
  | .hbm, ⟨18, _⟩ => ⟨S4x3072x2048, .f32⟩
  | .hbm, ⟨19, _⟩ => ⟨S4x2048x3072, .f32⟩
  | .hbm, ⟨20, _⟩ => ⟨S_, .f32⟩
  | .hbm, ⟨21, _⟩ => ⟨S4x2048x3072, .f32⟩
  | .hbm, ⟨22, _⟩ => ⟨S4x2048x3072, .f32⟩
  | .hbm, ⟨23, _⟩ => ⟨S_, .f32⟩
  | .hbm, ⟨24, _⟩ => ⟨S4x2048x3072, .f32⟩
  | .hbm, ⟨25, _⟩ => ⟨S4x2048x3072, .f32⟩
  | .hbm, ⟨26, _⟩ => ⟨S4x2048x3072, .f32⟩
  | .hbm, ⟨27, _⟩ => ⟨S_, .f32⟩
  | .hbm, ⟨28, _⟩ => ⟨S4x2048x3072, .f32⟩
  | .hbm, ⟨29, _⟩ => ⟨S4x2048x3072, .f32⟩
  | .hbm, ⟨30, _⟩ => ⟨S4x2048x3072, .f32⟩
  | .hbm, ⟨31, _⟩ => ⟨S_, .f32⟩
  | .hbm, ⟨32, _⟩ => ⟨S4x2048x3072, .f32⟩
  | .hbm, ⟨33, _⟩ => ⟨S4x2048x3072, .f32⟩
  | .hbm, ⟨34, _⟩ => ⟨S4x2048x3072, .f32⟩
  | .hbm, ⟨35, _⟩ => ⟨S_, .f32⟩
  | .hbm, ⟨36, _⟩ => ⟨S4x2048x3072, .f32⟩
  | .hbm, ⟨37, _⟩ => ⟨S4x2048x3072, .f32⟩
  | .hbm, ⟨38, _⟩ => ⟨S_, .f32⟩
  | .hbm, ⟨39, _⟩ => ⟨S4x2048x3072, .f32⟩
  | .hbm, ⟨40, _⟩ => ⟨S4x2048x3072, .f32⟩
  | .hbm, ⟨41, _⟩ => ⟨S4x2048x3072, .f32⟩
  | .hbm, ⟨42, _⟩ => ⟨S_, .f32⟩
  | .hbm, ⟨43, _⟩ => ⟨S4x2048x3072, .f32⟩
  | .hbm, ⟨44, _⟩ => ⟨S4x2048x3072, .f32⟩
  | .hbm, ⟨45, _⟩ => ⟨S4x2048x3072, .f32⟩
  | .hbm, ⟨46, _⟩ => ⟨S_, .f32⟩
  | .hbm, ⟨47, _⟩ => ⟨S4x2048x3072, .f32⟩
  | .hbm, ⟨48, _⟩ => ⟨S4x2048x3072, .f32⟩
  | .hbm, ⟨49, _⟩ => ⟨S4x2048x3072, .f32⟩
  | .hbm, ⟨50, _⟩ => ⟨S_, .f32⟩
  | .hbm, ⟨51, _⟩ => ⟨S4x2048x3072, .f32⟩
  | .hbm, ⟨52, _⟩ => ⟨S4x2048x3072, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_5 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_7 : Ref sig .tc := ⟨.hbm, 50, rfl⟩
abbrev main_v29 : Ref sig .tc := ⟨.hbm, 51, rfl⟩
abbrev main_v30 : Ref sig .tc := ⟨.hbm, 52, rfl⟩

abbrev nD : Nat := 1
abbrev τ : Topo := Topo.v7x

variable {F : FTy → Type} [FloatOps F]
-- ==== AdamFfn.lean ====
abbrev S2048x2048 : Shape := ⟨2, ![2048, 2048]⟩
abbrev S4x2048x2048 : Shape := ⟨3, ![4, 2048, 2048]⟩
abbrev S256x2048 : Shape := ⟨2, ![256, 2048]⟩
abbrev S1x256x2048 : Shape := ⟨3, ![1, 256, 2048]⟩

abbrev nBuf : Space → Nat
  | .hbm => 13
  | .vmem => 18
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S4x2048x2048, .f32⟩
  | .hbm, ⟨3, _⟩ => ⟨S4x2048x2048, .f32⟩
  | .hbm, ⟨4, _⟩ => ⟨S4x2048x2048, .f32⟩
  | .hbm, ⟨5, _⟩ => ⟨S4x2048x2048, .f32⟩
  | .hbm, ⟨6, _⟩ => ⟨S4x2048x2048, .f32⟩
  | .hbm, ⟨7, _⟩ => ⟨S4x2048x2048, .f32⟩
  | .hbm, ⟨8, _⟩ => ⟨S4x2048x2048, .f32⟩
  | .hbm, ⟨9, _⟩ => ⟨S4x2048x2048, .f32⟩
  | .hbm, ⟨10, _⟩ => ⟨S4x2048x2048, .f32⟩
  | .hbm, ⟨11, _⟩ => ⟨S4x2048x2048, .f32⟩
  | .hbm, ⟨12, _⟩ => ⟨S4x2048x2048, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .f32⟩
  | .local _ .vmem, ⟨15, _⟩ => ⟨S1x256x2048, .f32⟩
  | .local _ .vmem, ⟨16, _⟩ => ⟨S1x256x2048, .f32⟩
  | .local _ .vmem, ⟨17, _⟩ => ⟨S1x256x2048, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamFfnIdeal.lean ====
abbrev S2048x2048 : Shape := ⟨2, ![2048, 2048]⟩
abbrev S4x2048x2048 : Shape := ⟨3, ![4, 2048, 2048]⟩
abbrev S256x2048 : Shape := ⟨2, ![256, 2048]⟩
abbrev S1x256x2048 : Shape := ⟨3, ![1, 256, 2048]⟩

abbrev nBuf : Space → Nat
  | .hbm => 13
  | .vmem => 18
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S4x2048x2048, .f32⟩
  | .hbm, ⟨3, _⟩ => ⟨S4x2048x2048, .f32⟩
  | .hbm, ⟨4, _⟩ => ⟨S4x2048x2048, .f32⟩
  | .hbm, ⟨5, _⟩ => ⟨S4x2048x2048, .f32⟩
  | .hbm, ⟨6, _⟩ => ⟨S4x2048x2048, .f32⟩
  | .hbm, ⟨7, _⟩ => ⟨S4x2048x2048, .f32⟩
  | .hbm, ⟨8, _⟩ => ⟨S4x2048x2048, .f32⟩
  | .hbm, ⟨9, _⟩ => ⟨S4x2048x2048, .f32⟩
  | .hbm, ⟨10, _⟩ => ⟨S4x2048x2048, .f32⟩
  | .hbm, ⟨11, _⟩ => ⟨S4x2048x2048, .f32⟩
  | .hbm, ⟨12, _⟩ => ⟨S4x2048x2048, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .f32⟩
  | .local _ .vmem, ⟨15, _⟩ => ⟨S1x256x2048, .f32⟩
  | .local _ .vmem, ⟨16, _⟩ => ⟨S1x256x2048, .f32⟩
  | .local _ .vmem, ⟨17, _⟩ => ⟨S1x256x2048, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== RefAdamFfnIdeal.lean ====
abbrev S2048x2048 : Shape := ⟨2, ![2048, 2048]⟩
abbrev S4x2048x2048 : Shape := ⟨3, ![4, 2048, 2048]⟩
abbrev S1x2048x2048 : Shape := ⟨3, ![1, 2048, 2048]⟩
abbrev S_ : Shape := ⟨0, ![]⟩
abbrev S3x2048x2048 : Shape := ⟨3, ![3, 2048, 2048]⟩

abbrev nBuf : Space → Nat
  | .hbm => 63
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S4x2048x2048, .f32⟩
  | .hbm, ⟨3, _⟩ => ⟨S4x2048x2048, .f32⟩
  | .hbm, ⟨4, _⟩ => ⟨S4x2048x2048, .f32⟩
  | .hbm, ⟨5, _⟩ => ⟨S4x2048x2048, .f32⟩
  | .hbm, ⟨6, _⟩ => ⟨S4x2048x2048, .f32⟩
  | .hbm, ⟨7, _⟩ => ⟨S4x2048x2048, .f32⟩
  | .hbm, ⟨8, _⟩ => ⟨S4x2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S1x2048x2048, .f32⟩
  | .hbm, ⟨13, _⟩ => ⟨S2048x2048, .f32⟩
  | .hbm, ⟨14, _⟩ => ⟨S1x2048x2048, .f32⟩
  | .hbm, ⟨15, _⟩ => ⟨S2048x2048, .f32⟩
  | .hbm, ⟨16, _⟩ => ⟨S1x2048x2048, .f32⟩
  | .hbm, ⟨17, _⟩ => ⟨S2048x2048, .f32⟩
  | .hbm, ⟨18, _⟩ => ⟨S_, .f32⟩
  | .hbm, ⟨19, _⟩ => ⟨S2048x2048, .f32⟩
  | .hbm, ⟨20, _⟩ => ⟨S2048x2048, .f32⟩
  | .hbm, ⟨21, _⟩ => ⟨S_, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S_, .f32⟩
  | .hbm, ⟨34, _⟩ => ⟨S2048x2048, .f32⟩
  | .hbm, ⟨35, _⟩ => ⟨S2048x2048, .f32⟩
  | .hbm, ⟨36, _⟩ => ⟨S_, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S_, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S_, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S_, .f32⟩
  | .hbm, ⟨49, _⟩ => ⟨S2048x2048, .f32⟩
  | .hbm, ⟨50, _⟩ => ⟨S2048x2048, .f32⟩
  | .hbm, ⟨51, _⟩ => ⟨S1x2048x2048, .f32⟩
  | .hbm, ⟨52, _⟩ => ⟨S3x2048x2048, .f32⟩
  | .hbm, ⟨53, _⟩ => ⟨S4x2048x2048, .f32⟩
  | .hbm, ⟨54, _⟩ => ⟨S1x2048x2048, .f32⟩
  | .hbm, ⟨55, _⟩ => ⟨S3x2048x2048, .f32⟩
  | .hbm, ⟨56, _⟩ => ⟨S4x2048x2048, .f32⟩
  | .hbm, ⟨57, _⟩ => ⟨S1x2048x2048, .f32⟩
  | .hbm, ⟨58, _⟩ => ⟨S3x2048x2048, .f32⟩
  | .hbm, ⟨59, _⟩ => ⟨S4x2048x2048, .f32⟩
  | .hbm, ⟨60, _⟩ => ⟨S1x2048x2048, .f32⟩
  | .hbm, ⟨61, _⟩ => ⟨S3x2048x2048, .f32⟩
  | .hbm, ⟨62, _⟩ => ⟨S4x2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩

abbrev nD : Nat := 1
abbrev τ : Topo := Topo.v7x

variable {F : FTy → Type} [FloatOps F]
-- ==== AdamIn.lean ====
abbrev S2048x1792 : Shape := ⟨2, ![2048, 1792]⟩
abbrev S2x2048x1792 : Shape := ⟨3, ![2, 2048, 1792]⟩
abbrev S256x1792 : Shape := ⟨2, ![256, 1792]⟩
abbrev S1x256x1792 : Shape := ⟨3, ![1, 256, 1792]⟩

abbrev nBuf : Space → Nat
  | .hbm => 13
  | .vmem => 18
  | .smem => 0
  | _ => 0

abbrev bufTy : (tb : Table) → Fin (tcTables nBuf tb) → BufTy
  | .hbm, ⟨0, _⟩ => ⟨S2048x1792, .bf16⟩
  | .hbm, ⟨1, _⟩ => ⟨S2048x1792, .bf16⟩
  | .hbm, ⟨2, _⟩ => ⟨S2x2048x1792, .f32⟩
  | .hbm, ⟨3, _⟩ => ⟨S2x2048x1792, .f32⟩
  | .hbm, ⟨4, _⟩ => ⟨S2x2048x1792, .f32⟩
  | .hbm, ⟨5, _⟩ => ⟨S2x2048x1792, .f32⟩
  | .hbm, ⟨6, _⟩ => ⟨S2x2048x1792, .f32⟩
  | .hbm, ⟨7, _⟩ => ⟨S2x2048x1792, .f32⟩
  | .hbm, ⟨8, _⟩ => ⟨S2x2048x1792, .f32⟩
  | .hbm, ⟨9, _⟩ => ⟨S2x2048x1792, .f32⟩
  | .hbm, ⟨10, _⟩ => ⟨S2x2048x1792, .f32⟩
  | .hbm, ⟨11, _⟩ => ⟨S2x2048x1792, .f32⟩
  | .hbm, ⟨12, _⟩ => ⟨S2x2048x1792, .f32⟩
  | .local _ .vmem, ⟨0, _⟩ => ⟨S256x1792, .bf16⟩
  | .local _ .vmem, ⟨1, _⟩ => ⟨S256x1792, .bf16⟩
  | .local _ .vmem, ⟨2, _⟩ => ⟨S256x1792, .bf16⟩
  | .local _ .vmem, ⟨3, _⟩ => ⟨S256x1792, .bf16⟩
  | .local _ .vmem, ⟨4, _⟩ => ⟨S1x256x1792, .f32⟩
  | .local _ .vmem, ⟨5, _⟩ => ⟨S1x256x1792, .f32⟩
  | .local _ .vmem, ⟨6, _⟩ => ⟨S1x256x1792, .f32⟩
  | .local _ .vmem, ⟨7, _⟩ => ⟨S1x256x1792, .f32⟩
  | .local _ .vmem, ⟨8, _⟩ => ⟨S1x256x1792, .f32⟩
  | .local _ .vmem, ⟨9, _⟩ => ⟨S1x256x1792, .f32⟩
  | .local _ .vmem, ⟨10, _⟩ => ⟨S1x256x1792, .f32⟩
  | .local _ .vmem, ⟨11, _⟩ => ⟨S1x256x1792, .f32⟩
  | .local _ .vmem, ⟨12, _⟩ => ⟨S1x256x1792, .f32⟩
  | .local _ .vmem, ⟨13, _⟩ => ⟨S1x256x1792, .f32⟩
  | .local _ .vmem, ⟨14, _⟩ => ⟨S1x256x1792, .f32⟩
  | .local _ .vmem, ⟨15, _⟩ => ⟨S1x256x1792, .f32⟩
  | .local _ .vmem, ⟨16, _⟩ => ⟨S1x256x1792, .f32⟩
  | .local _ .vmem, ⟨17, _⟩ => ⟨S1x256x1792, .f32⟩
  | _, _ => ⟨S2048x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1792 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1792 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x1792 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamInIdeal.lean ====
abbrev S2048x1792 : Shape := ⟨2, ![2048, 1792]⟩
abbrev S2x2048x1792 : Shape := ⟨3, ![2, 2048, 1792]⟩
abbrev S256x1792 : Shape := ⟨2, ![256, 1792]⟩
abbrev S1x256x1792 : Shape := ⟨3, ![1, 256, 1792]⟩

abbrev nBuf : Space → Nat
  | .hbm => 13
  | .vmem => 18
  | .smem => 0
  | _ => 0

abbrev bufTy : (tb : Table) → Fin (tcTables nBuf tb) → BufTy
  | .hbm, ⟨0, _⟩ => ⟨S2048x1792, .bf16⟩
  | .hbm, ⟨1, _⟩ => ⟨S2048x1792, .bf16⟩
  | .hbm, ⟨2, _⟩ => ⟨S2x2048x1792, .f32⟩
  | .hbm, ⟨3, _⟩ => ⟨S2x2048x1792, .f32⟩
  | .hbm, ⟨4, _⟩ => ⟨S2x2048x1792, .f32⟩
  | .hbm, ⟨5, _⟩ => ⟨S2x2048x1792, .f32⟩
  | .hbm, ⟨6, _⟩ => ⟨S2x2048x1792, .f32⟩
  | .hbm, ⟨7, _⟩ => ⟨S2x2048x1792, .f32⟩
  | .hbm, ⟨8, _⟩ => ⟨S2x2048x1792, .f32⟩
  | .hbm, ⟨9, _⟩ => ⟨S2x2048x1792, .f32⟩
  | .hbm, ⟨10, _⟩ => ⟨S2x2048x1792, .f32⟩
  | .hbm, ⟨11, _⟩ => ⟨S2x2048x1792, .f32⟩
  | .hbm, ⟨12, _⟩ => ⟨S2x2048x1792, .f32⟩
  | .local _ .vmem, ⟨0, _⟩ => ⟨S256x1792, .bf16⟩
  | .local _ .vmem, ⟨1, _⟩ => ⟨S256x1792, .bf16⟩
  | .local _ .vmem, ⟨2, _⟩ => ⟨S256x1792, .bf16⟩
  | .local _ .vmem, ⟨3, _⟩ => ⟨S256x1792, .bf16⟩
  | .local _ .vmem, ⟨4, _⟩ => ⟨S1x256x1792, .f32⟩
  | .local _ .vmem, ⟨5, _⟩ => ⟨S1x256x1792, .f32⟩
  | .local _ .vmem, ⟨6, _⟩ => ⟨S1x256x1792, .f32⟩
  | .local _ .vmem, ⟨7, _⟩ => ⟨S1x256x1792, .f32⟩
  | .local _ .vmem, ⟨8, _⟩ => ⟨S1x256x1792, .f32⟩
  | .local _ .vmem, ⟨9, _⟩ => ⟨S1x256x1792, .f32⟩
  | .local _ .vmem, ⟨10, _⟩ => ⟨S1x256x1792, .f32⟩
  | .local _ .vmem, ⟨11, _⟩ => ⟨S1x256x1792, .f32⟩
  | .local _ .vmem, ⟨12, _⟩ => ⟨S1x256x1792, .f32⟩
  | .local _ .vmem, ⟨13, _⟩ => ⟨S1x256x1792, .f32⟩
  | .local _ .vmem, ⟨14, _⟩ => ⟨S1x256x1792, .f32⟩
  | .local _ .vmem, ⟨15, _⟩ => ⟨S1x256x1792, .f32⟩
  | .local _ .vmem, ⟨16, _⟩ => ⟨S1x256x1792, .f32⟩
  | .local _ .vmem, ⟨17, _⟩ => ⟨S1x256x1792, .f32⟩
  | _, _ => ⟨S2048x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1792 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1792 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x1792 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== RefAdamInIdeal.lean ====
abbrev S2048x1792 : Shape := ⟨2, ![2048, 1792]⟩
abbrev S2x2048x1792 : Shape := ⟨3, ![2, 2048, 1792]⟩
abbrev S1x2048x1792 : Shape := ⟨3, ![1, 2048, 1792]⟩
abbrev S_ : Shape := ⟨0, ![]⟩

abbrev nBuf : Space → Nat
  | .hbm => 63
  | .vmem => 0
  | .smem => 0
  | _ => 0

abbrev bufTy : (tb : Table) → Fin (tcTables nBuf tb) → BufTy
  | .hbm, ⟨0, _⟩ => ⟨S2048x1792, .bf16⟩
  | .hbm, ⟨1, _⟩ => ⟨S2048x1792, .bf16⟩
  | .hbm, ⟨2, _⟩ => ⟨S2x2048x1792, .f32⟩
  | .hbm, ⟨3, _⟩ => ⟨S2x2048x1792, .f32⟩
  | .hbm, ⟨4, _⟩ => ⟨S2x2048x1792, .f32⟩
  | .hbm, ⟨5, _⟩ => ⟨S2x2048x1792, .f32⟩
  | .hbm, ⟨6, _⟩ => ⟨S2x2048x1792, .f32⟩
  | .hbm, ⟨7, _⟩ => ⟨S2x2048x1792, .f32⟩
  | .hbm, ⟨8, _⟩ => ⟨S2x2048x1792, .f32⟩
  | .hbm, ⟨9, _⟩ => ⟨S2048x1792, .f32⟩
  | .hbm, ⟨10, _⟩ => ⟨S2048x1792, .f32⟩
  | .hbm, ⟨11, _⟩ => ⟨S2048x1792, .f32⟩
  | .hbm, ⟨12, _⟩ => ⟨S1x2048x1792, .f32⟩
  | .hbm, ⟨13, _⟩ => ⟨S2048x1792, .f32⟩
  | .hbm, ⟨14, _⟩ => ⟨S1x2048x1792, .f32⟩
  | .hbm, ⟨15, _⟩ => ⟨S2048x1792, .f32⟩
  | .hbm, ⟨16, _⟩ => ⟨S1x2048x1792, .f32⟩
  | .hbm, ⟨17, _⟩ => ⟨S2048x1792, .f32⟩
  | .hbm, ⟨18, _⟩ => ⟨S_, .f32⟩
  | .hbm, ⟨19, _⟩ => ⟨S2048x1792, .f32⟩
  | .hbm, ⟨20, _⟩ => ⟨S2048x1792, .f32⟩
  | .hbm, ⟨21, _⟩ => ⟨S_, .f32⟩
  | .hbm, ⟨22, _⟩ => ⟨S2048x1792, .f32⟩
  | .hbm, ⟨23, _⟩ => ⟨S2048x1792, .f32⟩
  | .hbm, ⟨24, _⟩ => ⟨S2048x1792, .f32⟩
  | .hbm, ⟨25, _⟩ => ⟨S_, .f32⟩
  | .hbm, ⟨26, _⟩ => ⟨S2048x1792, .f32⟩
  | .hbm, ⟨27, _⟩ => ⟨S2048x1792, .f32⟩
  | .hbm, ⟨28, _⟩ => ⟨S2048x1792, .f32⟩
  | .hbm, ⟨29, _⟩ => ⟨S_, .f32⟩
  | .hbm, ⟨30, _⟩ => ⟨S2048x1792, .f32⟩
  | .hbm, ⟨31, _⟩ => ⟨S2048x1792, .f32⟩
  | .hbm, ⟨32, _⟩ => ⟨S2048x1792, .f32⟩
  | .hbm, ⟨33, _⟩ => ⟨S_, .f32⟩
  | .hbm, ⟨34, _⟩ => ⟨S2048x1792, .f32⟩
  | .hbm, ⟨35, _⟩ => ⟨S2048x1792, .f32⟩
  | .hbm, ⟨36, _⟩ => ⟨S_, .f32⟩
  | .hbm, ⟨37, _⟩ => ⟨S2048x1792, .f32⟩
  | .hbm, ⟨38, _⟩ => ⟨S2048x1792, .f32⟩
  | .hbm, ⟨39, _⟩ => ⟨S2048x1792, .f32⟩
  | .hbm, ⟨40, _⟩ => ⟨S_, .f32⟩
  | .hbm, ⟨41, _⟩ => ⟨S2048x1792, .f32⟩
  | .hbm, ⟨42, _⟩ => ⟨S2048x1792, .f32⟩
  | .hbm, ⟨43, _⟩ => ⟨S2048x1792, .f32⟩
  | .hbm, ⟨44, _⟩ => ⟨S_, .f32⟩
  | .hbm, ⟨45, _⟩ => ⟨S2048x1792, .f32⟩
  | .hbm, ⟨46, _⟩ => ⟨S2048x1792, .f32⟩
  | .hbm, ⟨47, _⟩ => ⟨S2048x1792, .f32⟩
  | .hbm, ⟨48, _⟩ => ⟨S_, .f32⟩
  | .hbm, ⟨49, _⟩ => ⟨S2048x1792, .f32⟩
  | .hbm, ⟨50, _⟩ => ⟨S2048x1792, .f32⟩
  | .hbm, ⟨51, _⟩ => ⟨S1x2048x1792, .f32⟩
  | .hbm, ⟨52, _⟩ => ⟨S1x2048x1792, .f32⟩
  | .hbm, ⟨53, _⟩ => ⟨S2x2048x1792, .f32⟩
  | .hbm, ⟨54, _⟩ => ⟨S1x2048x1792, .f32⟩
  | .hbm, ⟨55, _⟩ => ⟨S1x2048x1792, .f32⟩
  | .hbm, ⟨56, _⟩ => ⟨S2x2048x1792, .f32⟩
  | .hbm, ⟨57, _⟩ => ⟨S1x2048x1792, .f32⟩
  | .hbm, ⟨58, _⟩ => ⟨S1x2048x1792, .f32⟩
  | .hbm, ⟨59, _⟩ => ⟨S2x2048x1792, .f32⟩
  | .hbm, ⟨60, _⟩ => ⟨S1x2048x1792, .f32⟩
  | .hbm, ⟨61, _⟩ => ⟨S1x2048x1792, .f32⟩
  | .hbm, ⟨62, _⟩ => ⟨S2x2048x1792, .f32⟩
  | _, _ => ⟨S2048x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩

abbrev nD : Nat := 1
abbrev τ : Topo := Topo.v7x

variable {F : FTy → Type} [FloatOps F]
-- ==== AdamOut.lean ====
abbrev S512x2048 : Shape := ⟨2, ![512, 2048]⟩
abbrev S2x512x2048 : Shape := ⟨3, ![2, 512, 2048]⟩
abbrev S256x2048 : Shape := ⟨2, ![256, 2048]⟩
abbrev S1x256x2048 : Shape := ⟨3, ![1, 256, 2048]⟩

abbrev nBuf : Space → Nat
  | .hbm => 13
  | .vmem => 18
  | .smem => 0
  | _ => 0

abbrev bufTy : (tb : Table) → Fin (tcTables nBuf tb) → BufTy
  | .hbm, ⟨0, _⟩ => ⟨S512x2048, .bf16⟩
  | .hbm, ⟨1, _⟩ => ⟨S512x2048, .bf16⟩
  | .hbm, ⟨2, _⟩ => ⟨S2x512x2048, .f32⟩
  | .hbm, ⟨3, _⟩ => ⟨S2x512x2048, .f32⟩
  | .hbm, ⟨4, _⟩ => ⟨S2x512x2048, .f32⟩
  | .hbm, ⟨5, _⟩ => ⟨S2x512x2048, .f32⟩
  | .hbm, ⟨6, _⟩ => ⟨S2x512x2048, .f32⟩
  | .hbm, ⟨7, _⟩ => ⟨S2x512x2048, .f32⟩
  | .hbm, ⟨8, _⟩ => ⟨S2x512x2048, .f32⟩
  | .hbm, ⟨9, _⟩ => ⟨S2x512x2048, .f32⟩
  | .hbm, ⟨10, _⟩ => ⟨S2x512x2048, .f32⟩
  | .hbm, ⟨11, _⟩ => ⟨S2x512x2048, .f32⟩
  | .hbm, ⟨12, _⟩ => ⟨S2x512x2048, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .f32⟩
  | .local _ .vmem, ⟨15, _⟩ => ⟨S1x256x2048, .f32⟩
  | .local _ .vmem, ⟨16, _⟩ => ⟨S1x256x2048, .f32⟩
  | .local _ .vmem, ⟨17, _⟩ => ⟨S1x256x2048, .f32⟩
  | _, _ => ⟨S512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamOutIdeal.lean ====
abbrev S512x2048 : Shape := ⟨2, ![512, 2048]⟩
abbrev S2x512x2048 : Shape := ⟨3, ![2, 512, 2048]⟩
abbrev S256x2048 : Shape := ⟨2, ![256, 2048]⟩
abbrev S1x256x2048 : Shape := ⟨3, ![1, 256, 2048]⟩

abbrev nBuf : Space → Nat
  | .hbm => 13
  | .vmem => 18
  | .smem => 0
  | _ => 0

abbrev bufTy : (tb : Table) → Fin (tcTables nBuf tb) → BufTy
  | .hbm, ⟨0, _⟩ => ⟨S512x2048, .bf16⟩
  | .hbm, ⟨1, _⟩ => ⟨S512x2048, .bf16⟩
  | .hbm, ⟨2, _⟩ => ⟨S2x512x2048, .f32⟩
  | .hbm, ⟨3, _⟩ => ⟨S2x512x2048, .f32⟩
  | .hbm, ⟨4, _⟩ => ⟨S2x512x2048, .f32⟩
  | .hbm, ⟨5, _⟩ => ⟨S2x512x2048, .f32⟩
  | .hbm, ⟨6, _⟩ => ⟨S2x512x2048, .f32⟩
  | .hbm, ⟨7, _⟩ => ⟨S2x512x2048, .f32⟩
  | .hbm, ⟨8, _⟩ => ⟨S2x512x2048, .f32⟩
  | .hbm, ⟨9, _⟩ => ⟨S2x512x2048, .f32⟩
  | .hbm, ⟨10, _⟩ => ⟨S2x512x2048, .f32⟩
  | .hbm, ⟨11, _⟩ => ⟨S2x512x2048, .f32⟩
  | .hbm, ⟨12, _⟩ => ⟨S2x512x2048, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .f32⟩
  | .local _ .vmem, ⟨15, _⟩ => ⟨S1x256x2048, .f32⟩
  | .local _ .vmem, ⟨16, _⟩ => ⟨S1x256x2048, .f32⟩
  | .local _ .vmem, ⟨17, _⟩ => ⟨S1x256x2048, .f32⟩
  | _, _ => ⟨S512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== RefAdamOutIdeal.lean ====
abbrev S512x2048 : Shape := ⟨2, ![512, 2048]⟩
abbrev S2x512x2048 : Shape := ⟨3, ![2, 512, 2048]⟩
abbrev S1x512x2048 : Shape := ⟨3, ![1, 512, 2048]⟩
abbrev S_ : Shape := ⟨0, ![]⟩

abbrev nBuf : Space → Nat
  | .hbm => 63
  | .vmem => 0
  | .smem => 0
  | _ => 0

abbrev bufTy : (tb : Table) → Fin (tcTables nBuf tb) → BufTy
  | .hbm, ⟨0, _⟩ => ⟨S512x2048, .bf16⟩
  | .hbm, ⟨1, _⟩ => ⟨S512x2048, .bf16⟩
  | .hbm, ⟨2, _⟩ => ⟨S2x512x2048, .f32⟩
  | .hbm, ⟨3, _⟩ => ⟨S2x512x2048, .f32⟩
  | .hbm, ⟨4, _⟩ => ⟨S2x512x2048, .f32⟩
  | .hbm, ⟨5, _⟩ => ⟨S2x512x2048, .f32⟩
  | .hbm, ⟨6, _⟩ => ⟨S2x512x2048, .f32⟩
  | .hbm, ⟨7, _⟩ => ⟨S2x512x2048, .f32⟩
  | .hbm, ⟨8, _⟩ => ⟨S2x512x2048, .f32⟩
  | .hbm, ⟨9, _⟩ => ⟨S512x2048, .f32⟩
  | .hbm, ⟨10, _⟩ => ⟨S512x2048, .f32⟩
  | .hbm, ⟨11, _⟩ => ⟨S512x2048, .f32⟩
  | .hbm, ⟨12, _⟩ => ⟨S1x512x2048, .f32⟩
  | .hbm, ⟨13, _⟩ => ⟨S512x2048, .f32⟩
  | .hbm, ⟨14, _⟩ => ⟨S1x512x2048, .f32⟩
  | .hbm, ⟨15, _⟩ => ⟨S512x2048, .f32⟩
  | .hbm, ⟨16, _⟩ => ⟨S1x512x2048, .f32⟩
  | .hbm, ⟨17, _⟩ => ⟨S512x2048, .f32⟩
  | .hbm, ⟨18, _⟩ => ⟨S_, .f32⟩
  | .hbm, ⟨19, _⟩ => ⟨S512x2048, .f32⟩
  | .hbm, ⟨20, _⟩ => ⟨S512x2048, .f32⟩
  | .hbm, ⟨21, _⟩ => ⟨S_, .f32⟩
  | .hbm, ⟨22, _⟩ => ⟨S512x2048, .f32⟩
  | .hbm, ⟨23, _⟩ => ⟨S512x2048, .f32⟩
  | .hbm, ⟨24, _⟩ => ⟨S512x2048, .f32⟩
  | .hbm, ⟨25, _⟩ => ⟨S_, .f32⟩
  | .hbm, ⟨26, _⟩ => ⟨S512x2048, .f32⟩
  | .hbm, ⟨27, _⟩ => ⟨S512x2048, .f32⟩
  | .hbm, ⟨28, _⟩ => ⟨S512x2048, .f32⟩
  | .hbm, ⟨29, _⟩ => ⟨S_, .f32⟩
  | .hbm, ⟨30, _⟩ => ⟨S512x2048, .f32⟩
  | .hbm, ⟨31, _⟩ => ⟨S512x2048, .f32⟩
  | .hbm, ⟨32, _⟩ => ⟨S512x2048, .f32⟩
  | .hbm, ⟨33, _⟩ => ⟨S_, .f32⟩
  | .hbm, ⟨34, _⟩ => ⟨S512x2048, .f32⟩
  | .hbm, ⟨35, _⟩ => ⟨S512x2048, .f32⟩
  | .hbm, ⟨36, _⟩ => ⟨S_, .f32⟩
  | .hbm, ⟨37, _⟩ => ⟨S512x2048, .f32⟩
  | .hbm, ⟨38, _⟩ => ⟨S512x2048, .f32⟩
  | .hbm, ⟨39, _⟩ => ⟨S512x2048, .f32⟩
  | .hbm, ⟨40, _⟩ => ⟨S_, .f32⟩
  | .hbm, ⟨41, _⟩ => ⟨S512x2048, .f32⟩
  | .hbm, ⟨42, _⟩ => ⟨S512x2048, .f32⟩
  | .hbm, ⟨43, _⟩ => ⟨S512x2048, .f32⟩
  | .hbm, ⟨44, _⟩ => ⟨S_, .f32⟩
  | .hbm, ⟨45, _⟩ => ⟨S512x2048, .f32⟩
  | .hbm, ⟨46, _⟩ => ⟨S512x2048, .f32⟩
  | .hbm, ⟨47, _⟩ => ⟨S512x2048, .f32⟩
  | .hbm, ⟨48, _⟩ => ⟨S_, .f32⟩
  | .hbm, ⟨49, _⟩ => ⟨S512x2048, .f32⟩
  | .hbm, ⟨50, _⟩ => ⟨S512x2048, .f32⟩
  | .hbm, ⟨51, _⟩ => ⟨S1x512x2048, .f32⟩
  | .hbm, ⟨52, _⟩ => ⟨S1x512x2048, .f32⟩
  | .hbm, ⟨53, _⟩ => ⟨S2x512x2048, .f32⟩
  | .hbm, ⟨54, _⟩ => ⟨S1x512x2048, .f32⟩
  | .hbm, ⟨55, _⟩ => ⟨S1x512x2048, .f32⟩
  | .hbm, ⟨56, _⟩ => ⟨S2x512x2048, .f32⟩
  | .hbm, ⟨57, _⟩ => ⟨S1x512x2048, .f32⟩
  | .hbm, ⟨58, _⟩ => ⟨S1x512x2048, .f32⟩
  | .hbm, ⟨59, _⟩ => ⟨S2x512x2048, .f32⟩
  | .hbm, ⟨60, _⟩ => ⟨S1x512x2048, .f32⟩
  | .hbm, ⟨61, _⟩ => ⟨S1x512x2048, .f32⟩
  | .hbm, ⟨62, _⟩ => ⟨S2x512x2048, .f32⟩
  | _, _ => ⟨S512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩

abbrev nD : Nat := 1
abbrev τ : Topo := Topo.v7x

variable {F : FTy → Type} [FloatOps F]
-- ==== AdamGrp.lean ====
abbrev S512x512 : Shape := ⟨2, ![512, 512]⟩
abbrev S2x4x128x512 : Shape := ⟨4, ![2, 4, 128, 512]⟩
abbrev S2x512x512 : Shape := ⟨3, ![2, 512, 512]⟩
abbrev S256x512 : Shape := ⟨2, ![256, 512]⟩
abbrev S1x256x512 : Shape := ⟨3, ![1, 256, 512]⟩

abbrev nBuf : Space → Nat
  | .hbm => 16
  | .vmem => 18
  | .smem => 0
  | _ => 0

abbrev bufTy : (tb : Table) → Fin (tcTables nBuf tb) → BufTy
  | .hbm, ⟨0, _⟩ => ⟨S512x512, .bf16⟩
  | .hbm, ⟨1, _⟩ => ⟨S512x512, .bf16⟩
  | .hbm, ⟨2, _⟩ => ⟨S2x4x128x512, .f32⟩
  | .hbm, ⟨3, _⟩ => ⟨S2x4x128x512, .f32⟩
  | .hbm, ⟨4, _⟩ => ⟨S2x4x128x512, .f32⟩
  | .hbm, ⟨5, _⟩ => ⟨S2x512x512, .f32⟩
  | .hbm, ⟨6, _⟩ => ⟨S2x512x512, .f32⟩
  | .hbm, ⟨7, _⟩ => ⟨S2x512x512, .f32⟩
  | .hbm, ⟨8, _⟩ => ⟨S2x512x512, .f32⟩
  | .hbm, ⟨9, _⟩ => ⟨S2x512x512, .f32⟩
  | .hbm, ⟨10, _⟩ => ⟨S2x512x512, .f32⟩
  | .hbm, ⟨11, _⟩ => ⟨S2x512x512, .f32⟩
  | .hbm, ⟨12, _⟩ => ⟨S2x512x512, .f32⟩
  | .hbm, ⟨13, _⟩ => ⟨S2x512x512, .f32⟩
  | .hbm, ⟨14, _⟩ => ⟨S2x512x512, .f32⟩
  | .hbm, ⟨15, _⟩ => ⟨S2x512x512, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | .local _ .vmem, ⟨16, _⟩ => ⟨S1x256x512, .f32⟩
  | .local _ .vmem, ⟨17, _⟩ => ⟨S1x256x512, .f32⟩
  | _, _ => ⟨S512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev main_v3_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== RefAdamGrpIdeal.lean ====
abbrev S512x512 : Shape := ⟨2, ![512, 512]⟩
abbrev S2x4x128x512 : Shape := ⟨4, ![2, 4, 128, 512]⟩
abbrev S2x512x512 : Shape := ⟨3, ![2, 512, 512]⟩
abbrev S1x4x128x512 : Shape := ⟨4, ![1, 4, 128, 512]⟩
abbrev S4x128x512 : Shape := ⟨3, ![4, 128, 512]⟩
abbrev S_ : Shape := ⟨0, ![]⟩
abbrev S1x512x512 : Shape := ⟨3, ![1, 512, 512]⟩

abbrev nBuf : Space → Nat
  | .hbm => 66
  | .vmem => 0
  | .smem => 0
  | _ => 0

abbrev bufTy : (tb : Table) → Fin (tcTables nBuf tb) → BufTy
  | .hbm, ⟨0, _⟩ => ⟨S512x512, .bf16⟩
  | .hbm, ⟨1, _⟩ => ⟨S512x512, .bf16⟩
  | .hbm, ⟨2, _⟩ => ⟨S2x4x128x512, .f32⟩
  | .hbm, ⟨3, _⟩ => ⟨S2x4x128x512, .f32⟩
  | .hbm, ⟨4, _⟩ => ⟨S2x4x128x512, .f32⟩
  | .hbm, ⟨5, _⟩ => ⟨S2x512x512, .f32⟩
  | .hbm, ⟨6, _⟩ => ⟨S2x512x512, .f32⟩
  | .hbm, ⟨7, _⟩ => ⟨S2x512x512, .f32⟩
  | .hbm, ⟨8, _⟩ => ⟨S2x512x512, .f32⟩
  | .hbm, ⟨9, _⟩ => ⟨S512x512, .f32⟩
  | .hbm, ⟨10, _⟩ => ⟨S512x512, .f32⟩
  | .hbm, ⟨11, _⟩ => ⟨S512x512, .f32⟩
  | .hbm, ⟨12, _⟩ => ⟨S1x4x128x512, .f32⟩
  | .hbm, ⟨13, _⟩ => ⟨S4x128x512, .f32⟩
  | .hbm, ⟨14, _⟩ => ⟨S512x512, .f32⟩
  | .hbm, ⟨15, _⟩ => ⟨S1x4x128x512, .f32⟩
  | .hbm, ⟨16, _⟩ => ⟨S4x128x512, .f32⟩
  | .hbm, ⟨17, _⟩ => ⟨S512x512, .f32⟩
  | .hbm, ⟨18, _⟩ => ⟨S1x4x128x512, .f32⟩
  | .hbm, ⟨19, _⟩ => ⟨S4x128x512, .f32⟩
  | .hbm, ⟨20, _⟩ => ⟨S512x512, .f32⟩
  | .hbm, ⟨21, _⟩ => ⟨S_, .f32⟩
  | .hbm, ⟨22, _⟩ => ⟨S512x512, .f32⟩
  | .hbm, ⟨23, _⟩ => ⟨S512x512, .f32⟩
  | .hbm, ⟨24, _⟩ => ⟨S_, .f32⟩
  | .hbm, ⟨25, _⟩ => ⟨S512x512, .f32⟩
  | .hbm, ⟨26, _⟩ => ⟨S512x512, .f32⟩
  | .hbm, ⟨27, _⟩ => ⟨S512x512, .f32⟩
  | .hbm, ⟨28, _⟩ => ⟨S_, .f32⟩
  | .hbm, ⟨29, _⟩ => ⟨S512x512, .f32⟩
  | .hbm, ⟨30, _⟩ => ⟨S512x512, .f32⟩
  | .hbm, ⟨31, _⟩ => ⟨S512x512, .f32⟩
  | .hbm, ⟨32, _⟩ => ⟨S_, .f32⟩
  | .hbm, ⟨33, _⟩ => ⟨S512x512, .f32⟩
  | .hbm, ⟨34, _⟩ => ⟨S512x512, .f32⟩
  | .hbm, ⟨35, _⟩ => ⟨S512x512, .f32⟩
  | .hbm, ⟨36, _⟩ => ⟨S_, .f32⟩
  | .hbm, ⟨37, _⟩ => ⟨S512x512, .f32⟩
  | .hbm, ⟨38, _⟩ => ⟨S512x512, .f32⟩
  | .hbm, ⟨39, _⟩ => ⟨S_, .f32⟩
  | .hbm, ⟨40, _⟩ => ⟨S512x512, .f32⟩
  | .hbm, ⟨41, _⟩ => ⟨S512x512, .f32⟩
  | .hbm, ⟨42, _⟩ => ⟨S512x512, .f32⟩
  | .hbm, ⟨43, _⟩ => ⟨S_, .f32⟩
  | .hbm, ⟨44, _⟩ => ⟨S512x512, .f32⟩
  | .hbm, ⟨45, _⟩ => ⟨S512x512, .f32⟩
  | .hbm, ⟨46, _⟩ => ⟨S512x512, .f32⟩
  | .hbm, ⟨47, _⟩ => ⟨S_, .f32⟩
  | .hbm, ⟨48, _⟩ => ⟨S512x512, .f32⟩
  | .hbm, ⟨49, _⟩ => ⟨S512x512, .f32⟩
  | .hbm, ⟨50, _⟩ => ⟨S512x512, .f32⟩
  | .hbm, ⟨51, _⟩ => ⟨S_, .f32⟩
  | .hbm, ⟨52, _⟩ => ⟨S512x512, .f32⟩
  | .hbm, ⟨53, _⟩ => ⟨S512x512, .f32⟩
  | .hbm, ⟨54, _⟩ => ⟨S1x512x512, .f32⟩
  | .hbm, ⟨55, _⟩ => ⟨S1x512x512, .f32⟩
  | .hbm, ⟨56, _⟩ => ⟨S2x512x512, .f32⟩
  | .hbm, ⟨57, _⟩ => ⟨S1x512x512, .f32⟩
  | .hbm, ⟨58, _⟩ => ⟨S1x512x512, .f32⟩
  | .hbm, ⟨59, _⟩ => ⟨S2x512x512, .f32⟩
  | .hbm, ⟨60, _⟩ => ⟨S1x512x512, .f32⟩
  | .hbm, ⟨61, _⟩ => ⟨S1x512x512, .f32⟩
  | .hbm, ⟨62, _⟩ => ⟨S2x512x512, .f32⟩
  | .hbm, ⟨63, _⟩ => ⟨S1x512x512, .f32⟩
  | .hbm, ⟨64, _⟩ => ⟨S1x512x512, .f32⟩
  | .hbm, ⟨65, _⟩ => ⟨S2x512x512, .f32⟩
  | _, _ => ⟨S512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩

abbrev nD : Nat := 1
abbrev τ : Topo := Topo.v7x

variable {F : FTy → Type} [FloatOps F]
-- ==== Mods.lean ====
abbrev S16x2048 : Shape := ⟨2, ![16, 2048]⟩
abbrev S4x2048x3072 : Shape := ⟨3, ![4, 2048, 3072]⟩
abbrev S4x3072 : Shape := ⟨2, ![4, 3072]⟩
abbrev S4x1x3072 : Shape := ⟨3, ![4, 1, 3072]⟩
abbrev S4x16x3072 : Shape := ⟨3, ![4, 16, 3072]⟩
abbrev S1x2048x1024 : Shape := ⟨3, ![1, 2048, 1024]⟩
abbrev S1x1x1024 : Shape := ⟨3, ![1, 1, 1024]⟩
abbrev S1x16x1024 : Shape := ⟨3, ![1, 16, 1024]⟩
abbrev S2048x1024 : Shape := ⟨2, ![2048, 1024]⟩
abbrev S16x1024 : Shape := ⟨2, ![16, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16x2048, .f32⟩
  | .hbm, ⟨1, _⟩ => ⟨S4x2048x3072, .f32⟩
  | .hbm, ⟨2, _⟩ => ⟨S4x3072, .f32⟩
  | .hbm, ⟨3, _⟩ => ⟨S4x1x3072, .f32⟩
  | .hbm, ⟨4, _⟩ => ⟨S4x16x3072, .f32⟩
  | .local _ .vmem, ⟨0, _⟩ => ⟨S16x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x16x1024, .f32⟩
  | .local _ .vmem, ⟨6, _⟩ => ⟨S1x16x1024, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefModsIdeal.lean ====
abbrev S16x2048 : Shape := ⟨2, ![16, 2048]⟩
abbrev S4x2048x3072 : Shape := ⟨3, ![4, 2048, 3072]⟩
abbrev S4x3072 : Shape := ⟨2, ![4, 3072]⟩
abbrev S_ : Shape := ⟨0, ![]⟩
abbrev S4x3072x16 : Shape := ⟨3, ![4, 3072, 16]⟩
abbrev S4x16x3072 : Shape := ⟨3, ![4, 16, 3072]⟩
abbrev S4x1x3072 : Shape := ⟨3, ![4, 1, 3072]⟩

abbrev nBuf : Space → Nat
  | .hbm => 17
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S4x2048x3072, .f32⟩
  | .hbm, ⟨2, _⟩ => ⟨S4x3072, .f32⟩
  | .hbm, ⟨3, _⟩ => ⟨S16x2048, .f32⟩
  | .hbm, ⟨4, _⟩ => ⟨S16x2048, .f32⟩
  | .hbm, ⟨5, _⟩ => ⟨S_, .f32⟩
  | .hbm, ⟨6, _⟩ => ⟨S16x2048, .f32⟩
  | .hbm, ⟨7, _⟩ => ⟨S16x2048, .f32⟩
  | .hbm, ⟨8, _⟩ => ⟨S_, .f32⟩
  | .hbm, ⟨9, _⟩ => ⟨S16x2048, .f32⟩
  | .hbm, ⟨10, _⟩ => ⟨S16x2048, .f32⟩
  | .hbm, ⟨11, _⟩ => ⟨S16x2048, .f32⟩
  | .hbm, ⟨12, _⟩ => ⟨S4x3072x16, .f32⟩
  | .hbm, ⟨13, _⟩ => ⟨S4x16x3072, .f32⟩
  | .hbm, ⟨14, _⟩ => ⟨S4x1x3072, .f32⟩
  | .hbm, ⟨15, _⟩ => ⟨S4x16x3072, .f32⟩
  | .hbm, ⟨16, _⟩ => ⟨S4x16x3072, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== NormMix.lean ====
abbrev S8448x2048 : Shape := ⟨2, ![8448, 2048]⟩
abbrev S2048 : Shape := ⟨1, ![2048]⟩
abbrev S2x6x2048 : Shape := ⟨3, ![2, 6, 2048]⟩
abbrev S1x2048 : Shape := ⟨2, ![1, 2048]⟩
abbrev S256x2048 : Shape := ⟨2, ![256, 2048]⟩
abbrev S1x6x2048 : Shape := ⟨3, ![1, 6, 2048]⟩
abbrev S256 : Shape := ⟨1, ![256]⟩
abbrev S256x1 : Shape := ⟨2, ![256, 1]⟩
abbrev S1x1x2048 : Shape := ⟨3, ![1, 1, 2048]⟩

abbrev nBuf : Space → Nat
  | .hbm => 5
  | .vmem => 7
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S2x6x2048, .f32⟩
  | .hbm, ⟨3, _⟩ => ⟨S1x2048, .f32⟩
  | .hbm, ⟨4, _⟩ => ⟨S8448x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x6x2048, .f32⟩
  | .local _ .vmem, ⟨4, _⟩ => ⟨S1x6x2048, .f32⟩
  | .local _ .vmem, ⟨5, _⟩ => ⟨S256x2048, .bf16⟩
  | .local _ .vmem, ⟨6, _⟩ => ⟨S256x2048, .bf16⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RefNormMixIdeal.lean ====
abbrev S8448x2048 : Shape := ⟨2, ![8448, 2048]⟩
abbrev S2048 : Shape := ⟨1, ![2048]⟩
abbrev S2x6x2048 : Shape := ⟨3, ![2, 6, 2048]⟩
abbrev S_ : Shape := ⟨0, ![]⟩
abbrev S8448 : Shape := ⟨1, ![8448]⟩
abbrev S8448x1 : Shape := ⟨2, ![8448, 1]⟩
abbrev S1x2048 : Shape := ⟨2, ![1, 2048]⟩
abbrev S256x2048 : Shape := ⟨2, ![256, 2048]⟩
abbrev S1x1x2048 : Shape := ⟨3, ![1, 1, 2048]⟩
abbrev S8192x2048 : Shape := ⟨2, ![8192, 2048]⟩

abbrev nBuf : Space → Nat
  | .hbm => 49
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S2x6x2048, .f32⟩
  | .hbm, ⟨3, _⟩ => ⟨S8448x2048, .f32⟩
  | .hbm, ⟨4, _⟩ => ⟨S_, .f32⟩
  | .hbm, ⟨5, _⟩ => ⟨S8448, .f32⟩
  | .hbm, ⟨6, _⟩ => ⟨S8448x1, .f32⟩
  | .hbm, ⟨7, _⟩ => ⟨S_, .f32⟩
  | .hbm, ⟨8, _⟩ => ⟨S8448x1, .f32⟩
  | .hbm, ⟨9, _⟩ => ⟨S8448x1, .f32⟩
  | .hbm, ⟨10, _⟩ => ⟨S_, .f32⟩
  | .hbm, ⟨11, _⟩ => ⟨S8448x1, .f32⟩
  | .hbm, ⟨12, _⟩ => ⟨S8448x1, .f32⟩
  | .hbm, ⟨13, _⟩ => ⟨S8448x1, .f32⟩
  | .hbm, ⟨14, _⟩ => ⟨S8448x2048, .f32⟩
  | .hbm, ⟨15, _⟩ => ⟨S8448x2048, .f32⟩
  | .hbm, ⟨16, _⟩ => ⟨S1x2048, .f32⟩
  | .hbm, ⟨17, _⟩ => ⟨S8448x2048, .f32⟩
  | .hbm, ⟨18, _⟩ => ⟨S8448x2048, .f32⟩
  | .hbm, ⟨19, _⟩ => ⟨S256x2048, .f32⟩
  | .hbm, ⟨20, _⟩ => ⟨S1x1x2048, .f32⟩
  | .hbm, ⟨21, _⟩ => ⟨S2048, .f32⟩
  | .hbm, ⟨22, _⟩ => ⟨S_, .f32⟩
  | .hbm, ⟨23, _⟩ => ⟨S2048, .f32⟩
  | .hbm, ⟨24, _⟩ => ⟨S2048, .f32⟩
  | .hbm, ⟨25, _⟩ => ⟨S1x2048, .f32⟩
  | .hbm, ⟨26, _⟩ => ⟨S256x2048, .f32⟩
  | .hbm, ⟨27, _⟩ => ⟨S256x2048, .f32⟩
  | .hbm, ⟨28, _⟩ => ⟨S1x1x2048, .f32⟩
  | .hbm, ⟨29, _⟩ => ⟨S2048, .f32⟩
  | .hbm, ⟨30, _⟩ => ⟨S1x2048, .f32⟩
  | .hbm, ⟨31, _⟩ => ⟨S256x2048, .f32⟩
  | .hbm, ⟨32, _⟩ => ⟨S256x2048, .f32⟩
  | .hbm, ⟨33, _⟩ => ⟨S8192x2048, .f32⟩
  | .hbm, ⟨34, _⟩ => ⟨S1x1x2048, .f32⟩
  | .hbm, ⟨35, _⟩ => ⟨S2048, .f32⟩
  | .hbm, ⟨36, _⟩ => ⟨S_, .f32⟩
  | .hbm, ⟨37, _⟩ => ⟨S2048, .f32⟩
  | .hbm, ⟨38, _⟩ => ⟨S2048, .f32⟩
  | .hbm, ⟨39, _⟩ => ⟨S1x2048, .f32⟩
  | .hbm, ⟨40, _⟩ => ⟨S8192x2048, .f32⟩
  | .hbm, ⟨41, _⟩ => ⟨S8192x2048, .f32⟩
  | .hbm, ⟨42, _⟩ => ⟨S1x1x2048, .f32⟩
  | .hbm, ⟨43, _⟩ => ⟨S2048, .f32⟩
  | .hbm, ⟨44, _⟩ => ⟨S1x2048, .f32⟩
  | .hbm, ⟨45, _⟩ => ⟨S8192x2048, .f32⟩
  | .hbm, ⟨46, _⟩ => ⟨S8192x2048, .f32⟩
  | .hbm, ⟨47, _⟩ => ⟨S8448x2048, .f32⟩
  | .hbm, ⟨48, _⟩ => ⟨S8448x2048, .bf16⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩

abbrev nD : Nat := 1
abbrev τ : Topo := Topo.v7x

variable {F : FTy → Type} [FloatOps F]
-- ==== NormFfn.lean ====
abbrev S8448x2048 : Shape := ⟨2, ![8448, 2048]⟩
abbrev S2048 : Shape := ⟨1, ![2048]⟩
abbrev S2x6x2048 : Shape := ⟨3, ![2, 6, 2048]⟩
abbrev S1x2048 : Shape := ⟨2, ![1, 2048]⟩
abbrev S256x2048 : Shape := ⟨2, ![256, 2048]⟩
abbrev S1x6x2048 : Shape := ⟨3, ![1, 6, 2048]⟩
abbrev S256 : Shape := ⟨1, ![256]⟩
abbrev S256x1 : Shape := ⟨2, ![256, 1]⟩
abbrev S1x1x2048 : Shape := ⟨3, ![1, 1, 2048]⟩

abbrev nBuf : Space → Nat
  | .hbm => 5
  | .vmem => 7
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S2x6x2048, .f32⟩
  | .hbm, ⟨3, _⟩ => ⟨S1x2048, .f32⟩
  | .hbm, ⟨4, _⟩ => ⟨S8448x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x6x2048, .f32⟩
  | .local _ .vmem, ⟨4, _⟩ => ⟨S1x6x2048, .f32⟩
  | .local _ .vmem, ⟨5, _⟩ => ⟨S256x2048, .bf16⟩
  | .local _ .vmem, ⟨6, _⟩ => ⟨S256x2048, .bf16⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RefNormFfnIdeal.lean ====
abbrev S8448x2048 : Shape := ⟨2, ![8448, 2048]⟩
abbrev S2048 : Shape := ⟨1, ![2048]⟩
abbrev S2x6x2048 : Shape := ⟨3, ![2, 6, 2048]⟩
abbrev S_ : Shape := ⟨0, ![]⟩
abbrev S8448 : Shape := ⟨1, ![8448]⟩
abbrev S8448x1 : Shape := ⟨2, ![8448, 1]⟩
abbrev S1x2048 : Shape := ⟨2, ![1, 2048]⟩
abbrev S256x2048 : Shape := ⟨2, ![256, 2048]⟩
abbrev S1x1x2048 : Shape := ⟨3, ![1, 1, 2048]⟩
abbrev S8192x2048 : Shape := ⟨2, ![8192, 2048]⟩

abbrev nBuf : Space → Nat
  | .hbm => 49
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S2x6x2048, .f32⟩
  | .hbm, ⟨3, _⟩ => ⟨S8448x2048, .f32⟩
  | .hbm, ⟨4, _⟩ => ⟨S_, .f32⟩
  | .hbm, ⟨5, _⟩ => ⟨S8448, .f32⟩
  | .hbm, ⟨6, _⟩ => ⟨S8448x1, .f32⟩
  | .hbm, ⟨7, _⟩ => ⟨S_, .f32⟩
  | .hbm, ⟨8, _⟩ => ⟨S8448x1, .f32⟩
  | .hbm, ⟨9, _⟩ => ⟨S8448x1, .f32⟩
  | .hbm, ⟨10, _⟩ => ⟨S_, .f32⟩
  | .hbm, ⟨11, _⟩ => ⟨S8448x1, .f32⟩
  | .hbm, ⟨12, _⟩ => ⟨S8448x1, .f32⟩
  | .hbm, ⟨13, _⟩ => ⟨S8448x1, .f32⟩
  | .hbm, ⟨14, _⟩ => ⟨S8448x2048, .f32⟩
  | .hbm, ⟨15, _⟩ => ⟨S8448x2048, .f32⟩
  | .hbm, ⟨16, _⟩ => ⟨S1x2048, .f32⟩
  | .hbm, ⟨17, _⟩ => ⟨S8448x2048, .f32⟩
  | .hbm, ⟨18, _⟩ => ⟨S8448x2048, .f32⟩
  | .hbm, ⟨19, _⟩ => ⟨S256x2048, .f32⟩
  | .hbm, ⟨20, _⟩ => ⟨S1x1x2048, .f32⟩
  | .hbm, ⟨21, _⟩ => ⟨S2048, .f32⟩
  | .hbm, ⟨22, _⟩ => ⟨S_, .f32⟩
  | .hbm, ⟨23, _⟩ => ⟨S2048, .f32⟩
  | .hbm, ⟨24, _⟩ => ⟨S2048, .f32⟩
  | .hbm, ⟨25, _⟩ => ⟨S1x2048, .f32⟩
  | .hbm, ⟨26, _⟩ => ⟨S256x2048, .f32⟩
  | .hbm, ⟨27, _⟩ => ⟨S256x2048, .f32⟩
  | .hbm, ⟨28, _⟩ => ⟨S1x1x2048, .f32⟩
  | .hbm, ⟨29, _⟩ => ⟨S2048, .f32⟩
  | .hbm, ⟨30, _⟩ => ⟨S1x2048, .f32⟩
  | .hbm, ⟨31, _⟩ => ⟨S256x2048, .f32⟩
  | .hbm, ⟨32, _⟩ => ⟨S256x2048, .f32⟩
  | .hbm, ⟨33, _⟩ => ⟨S8192x2048, .f32⟩
  | .hbm, ⟨34, _⟩ => ⟨S1x1x2048, .f32⟩
  | .hbm, ⟨35, _⟩ => ⟨S2048, .f32⟩
  | .hbm, ⟨36, _⟩ => ⟨S_, .f32⟩
  | .hbm, ⟨37, _⟩ => ⟨S2048, .f32⟩
  | .hbm, ⟨38, _⟩ => ⟨S2048, .f32⟩
  | .hbm, ⟨39, _⟩ => ⟨S1x2048, .f32⟩
  | .hbm, ⟨40, _⟩ => ⟨S8192x2048, .f32⟩
  | .hbm, ⟨41, _⟩ => ⟨S8192x2048, .f32⟩
  | .hbm, ⟨42, _⟩ => ⟨S1x1x2048, .f32⟩
  | .hbm, ⟨43, _⟩ => ⟨S2048, .f32⟩
  | .hbm, ⟨44, _⟩ => ⟨S1x2048, .f32⟩
  | .hbm, ⟨45, _⟩ => ⟨S8192x2048, .f32⟩
  | .hbm, ⟨46, _⟩ => ⟨S8192x2048, .f32⟩
  | .hbm, ⟨47, _⟩ => ⟨S8448x2048, .f32⟩
  | .hbm, ⟨48, _⟩ => ⟨S8448x2048, .bf16⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩

abbrev nD : Nat := 1
abbrev τ : Topo := Topo.v7x

variable {F : FTy → Type} [FloatOps F]
-- ==== Readout.lean ====
abbrev S8448x1024 : Shape := ⟨2, ![8448, 1024]⟩
abbrev S8448x7168 : Shape := ⟨2, ![8448, 7168]⟩
abbrev S1024 : Shape := ⟨1, ![1024]⟩
abbrev S1x1024 : Shape := ⟨2, ![1, 1024]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩
abbrev S1x128 : Shape := ⟨2, ![1, 128]⟩

abbrev nBuf : Space → Nat
  | .hbm => 6
  | .vmem => 9
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S8448x7168, .f32⟩
  | .hbm, ⟨3, _⟩ => ⟨S1024, .f32⟩
  | .hbm, ⟨4, _⟩ => ⟨S1x1024, .f32⟩
  | .hbm, ⟨5, _⟩ => ⟨S8448x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S256x1024, .bf16⟩
  | .local _ .vmem, ⟨8, _⟩ => ⟨S256x1024, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RefReadoutIdeal.lean ====
abbrev S8448x1024 : Shape := ⟨2, ![8448, 1024]⟩
abbrev S8448x7168 : Shape := ⟨2, ![8448, 7168]⟩
abbrev S1024 : Shape := ⟨1, ![1024]⟩
abbrev S8448x8x128 : Shape := ⟨3, ![8448, 8, 128]⟩
abbrev S_ : Shape := ⟨0, ![]⟩
abbrev S8448x8 : Shape := ⟨2, ![8448, 8]⟩
abbrev S8448x8x1 : Shape := ⟨3, ![8448, 8, 1]⟩
abbrev S1x1024 : Shape := ⟨2, ![1, 1024]⟩

abbrev nBuf : Space → Nat
  | .hbm => 35
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S8448x7168, .f32⟩
  | .hbm, ⟨3, _⟩ => ⟨S1024, .f32⟩
  | .hbm, ⟨4, _⟩ => ⟨S8448x1024, .f32⟩
  | .hbm, ⟨5, _⟩ => ⟨S8448x8x128, .f32⟩
  | .hbm, ⟨6, _⟩ => ⟨S8448x8x128, .f32⟩
  | .hbm, ⟨7, _⟩ => ⟨S_, .f32⟩
  | .hbm, ⟨8, _⟩ => ⟨S8448x8, .f32⟩
  | .hbm, ⟨9, _⟩ => ⟨S8448x8x1, .f32⟩
  | .hbm, ⟨10, _⟩ => ⟨S_, .f32⟩
  | .hbm, ⟨11, _⟩ => ⟨S8448x8x1, .f32⟩
  | .hbm, ⟨12, _⟩ => ⟨S8448x8x1, .f32⟩
  | .hbm, ⟨13, _⟩ => ⟨S_, .f32⟩
  | .hbm, ⟨14, _⟩ => ⟨S8448x8x1, .f32⟩
  | .hbm, ⟨15, _⟩ => ⟨S8448x8x1, .f32⟩
  | .hbm, ⟨16, _⟩ => ⟨S8448x8x1, .f32⟩
  | .hbm, ⟨17, _⟩ => ⟨S8448x8x128, .f32⟩
  | .hbm, ⟨18, _⟩ => ⟨S8448x8x128, .f32⟩
  | .hbm, ⟨19, _⟩ => ⟨S8448x1024, .f32⟩
  | .hbm, ⟨20, _⟩ => ⟨S1x1024, .f32⟩
  | .hbm, ⟨21, _⟩ => ⟨S8448x1024, .f32⟩
  | .hbm, ⟨22, _⟩ => ⟨S8448x1024, .f32⟩
  | .hbm, ⟨23, _⟩ => ⟨S8448x1024, .f32⟩
  | .hbm, ⟨24, _⟩ => ⟨S8448x1024, .f32⟩
  | .hbm, ⟨25, _⟩ => ⟨S8448x1024, .f32⟩
  | .hbm, ⟨26, _⟩ => ⟨S_, .f32⟩
  | .hbm, ⟨27, _⟩ => ⟨S8448x1024, .f32⟩
  | .hbm, ⟨28, _⟩ => ⟨S8448x1024, .f32⟩
  | .hbm, ⟨29, _⟩ => ⟨S_, .f32⟩
  | .hbm, ⟨30, _⟩ => ⟨S8448x1024, .f32⟩
  | .hbm, ⟨31, _⟩ => ⟨S8448x1024, .f32⟩
  | .hbm, ⟨32, _⟩ => ⟨S8448x1024, .f32⟩
  | .hbm, ⟨33, _⟩ => ⟨S8448x1024, .f32⟩
  | .hbm, ⟨34, _⟩ => ⟨S8448x1024, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩

abbrev nD : Nat := 1
abbrev τ : Topo := Topo.v7x

variable {F : FTy → Type} [FloatOps F]
-- ==== ChunkMlp.lean ====
abbrev S8448x7168 : Shape := ⟨2, ![8448, 7168]⟩
abbrev S8x128x128 : Shape := ⟨3, ![8, 128, 128]⟩
abbrev S8x128 : Shape := ⟨2, ![8, 128]⟩
abbrev S1024 : Shape := ⟨1, ![1024]⟩
abbrev S8x128x1 : Shape := ⟨3, ![8, 128, 1]⟩
abbrev S1x1024 : Shape := ⟨2, ![1, 1024]⟩
abbrev S8448x1024 : Shape := ⟨2, ![8448, 1024]⟩
abbrev S256x1024 : Shape := ⟨2, ![256, 1024]⟩
abbrev S128x128 : Shape := ⟨2, ![128, 128]⟩
abbrev S1x128 : Shape := ⟨2, ![1, 128]⟩
abbrev S128 : Shape := ⟨1, ![128]⟩
abbrev S128x1 : Shape := ⟨2, ![128, 1]⟩
abbrev S1x128x128 : Shape := ⟨3, ![1, 128, 128]⟩
abbrev S1x128x1 : Shape := ⟨3, ![1, 128, 1]⟩

abbrev nBuf : Space → Nat
  | .hbm => 7
  | .vmem => 9
  | .smem => 0
  | _ => 0

abbrev bufTy : (tb : Table) → Fin (tcTables nBuf tb) → BufTy
  | .hbm, ⟨0, _⟩ => ⟨S8448x7168, .f32⟩
  | .hbm, ⟨1, _⟩ => ⟨S8x128x128, .f32⟩
  | .hbm, ⟨2, _⟩ => ⟨S8x128, .f32⟩
  | .hbm, ⟨3, _⟩ => ⟨S1024, .f32⟩
  | .hbm, ⟨4, _⟩ => ⟨S8x128x1, .f32⟩
  | .hbm, ⟨5, _⟩ => ⟨S1x1024, .f32⟩
  | .hbm, ⟨6, _⟩ => ⟨S8448x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S8x128x128, .f32⟩
  | .local _ .vmem, ⟨5, _⟩ => ⟨S8x128x1, .f32⟩
  | .local _ .vmem, ⟨6, _⟩ => ⟨S1x1024, .f32⟩
  | .local _ .vmem, ⟨7, _⟩ => ⟨S256x1024, .bf16⟩
  | .local _ .vmem, ⟨8, _⟩ => ⟨S256x1024, .bf16⟩
  | _, _ => ⟨S8448x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RefChunkMlpIdeal.lean ====
abbrev S8448x7168 : Shape := ⟨2, ![8448, 7168]⟩
abbrev S8x128x128 : Shape := ⟨3, ![8, 128, 128]⟩
abbrev S8x128 : Shape := ⟨2, ![8, 128]⟩
abbrev S1024 : Shape := ⟨1, ![1024]⟩
abbrev S8448x1024 : Shape := ⟨2, ![8448, 1024]⟩
abbrev S_ : Shape := ⟨0, ![]⟩
abbrev S8448x8x128 : Shape := ⟨3, ![8448, 8, 128]⟩
abbrev S8448x8 : Shape := ⟨2, ![8448, 8]⟩
abbrev S8448x8x1 : Shape := ⟨3, ![8448, 8, 1]⟩
abbrev S1x8x128 : Shape := ⟨3, ![1, 8, 128]⟩
abbrev S66x128x8x128 : Shape := ⟨4, ![66, 128, 8, 128]⟩
abbrev S8x66x128x128 : Shape := ⟨4, ![8, 66, 128, 128]⟩
abbrev S128x8 : Shape := ⟨2, ![128, 8]⟩
abbrev S128x8x1 : Shape := ⟨3, ![128, 8, 1]⟩
abbrev S1x128x8x1 : Shape := ⟨4, ![1, 128, 8, 1]⟩

abbrev nBuf : Space → Nat
  | .hbm => 63
  | .vmem => 0
  | .smem => 0
  | _ => 0

abbrev bufTy : (tb : Table) → Fin (tcTables nBuf tb) → BufTy
  | .hbm, ⟨0, _⟩ => ⟨S8448x7168, .f32⟩
  | .hbm, ⟨1, _⟩ => ⟨S8x128x128, .f32⟩
  | .hbm, ⟨2, _⟩ => ⟨S8x128, .f32⟩
  | .hbm, ⟨3, _⟩ => ⟨S1024, .f32⟩
  | .hbm, ⟨4, _⟩ => ⟨S8448x1024, .f32⟩
  | .hbm, ⟨5, _⟩ => ⟨S_, .f32⟩
  | .hbm, ⟨6, _⟩ => ⟨S8448x1024, .f32⟩
  | .hbm, ⟨7, _⟩ => ⟨S8448x1024, .f32⟩
  | .hbm, ⟨8, _⟩ => ⟨S8448x1024, .f32⟩
  | .hbm, ⟨9, _⟩ => ⟨S_, .f32⟩
  | .hbm, ⟨10, _⟩ => ⟨S8448x1024, .f32⟩
  | .hbm, ⟨11, _⟩ => ⟨S8448x1024, .f32⟩
  | .hbm, ⟨12, _⟩ => ⟨S8448x1024, .f32⟩
  | .hbm, ⟨13, _⟩ => ⟨S8448x1024, .f32⟩
  | .hbm, ⟨14, _⟩ => ⟨S8448x1024, .f32⟩
  | .hbm, ⟨15, _⟩ => ⟨S_, .f32⟩
  | .hbm, ⟨16, _⟩ => ⟨S8448x1024, .f32⟩
  | .hbm, ⟨17, _⟩ => ⟨S8448x1024, .f32⟩
  | .hbm, ⟨18, _⟩ => ⟨S8448x1024, .f32⟩
  | .hbm, ⟨19, _⟩ => ⟨S_, .f32⟩
  | .hbm, ⟨20, _⟩ => ⟨S8448x1024, .f32⟩
  | .hbm, ⟨21, _⟩ => ⟨S8448x1024, .f32⟩
  | .hbm, ⟨22, _⟩ => ⟨S8448x1024, .f32⟩
  | .hbm, ⟨23, _⟩ => ⟨S8448x1024, .f32⟩
  | .hbm, ⟨24, _⟩ => ⟨S8448x8x128, .f32⟩
  | .hbm, ⟨25, _⟩ => ⟨S_, .f32⟩
  | .hbm, ⟨26, _⟩ => ⟨S8448x8, .f32⟩
  | .hbm, ⟨27, _⟩ => ⟨S8448x8x1, .f32⟩
  | .hbm, ⟨28, _⟩ => ⟨S_, .f32⟩
  | .hbm, ⟨29, _⟩ => ⟨S8448x8x1, .f32⟩
  | .hbm, ⟨30, _⟩ => ⟨S8448x8x1, .f32⟩
  | .hbm, ⟨31, _⟩ => ⟨S8448x8x128, .f32⟩
  | .hbm, ⟨32, _⟩ => ⟨S8448x8x128, .f32⟩
  | .hbm, ⟨33, _⟩ => ⟨S8448x8x128, .f32⟩
  | .hbm, ⟨34, _⟩ => ⟨S_, .f32⟩
  | .hbm, ⟨35, _⟩ => ⟨S8448x8, .f32⟩
  | .hbm, ⟨36, _⟩ => ⟨S8448x8x1, .f32⟩
  | .hbm, ⟨37, _⟩ => ⟨S_, .f32⟩
  | .hbm, ⟨38, _⟩ => ⟨S8448x8x1, .f32⟩
  | .hbm, ⟨39, _⟩ => ⟨S8448x8x1, .f32⟩
  | .hbm, ⟨40, _⟩ => ⟨S8448x8x128, .f32⟩
  | .hbm, ⟨41, _⟩ => ⟨S8448x8x128, .f32⟩
  | .hbm, ⟨42, _⟩ => ⟨S_, .f32⟩
  | .hbm, ⟨43, _⟩ => ⟨S8448x8x1, .f32⟩
  | .hbm, ⟨44, _⟩ => ⟨S8448x8x1, .f32⟩
  | .hbm, ⟨45, _⟩ => ⟨S8448x8x1, .f32⟩
  | .hbm, ⟨46, _⟩ => ⟨S8448x8x128, .f32⟩
  | .hbm, ⟨47, _⟩ => ⟨S8448x8x128, .f32⟩
  | .hbm, ⟨48, _⟩ => ⟨S8x128, .f32⟩
  | .hbm, ⟨49, _⟩ => ⟨S1x8x128, .f32⟩
  | .hbm, ⟨50, _⟩ => ⟨S8448x8x128, .f32⟩
  | .hbm, ⟨51, _⟩ => ⟨S8448x8x128, .f32⟩
  | .hbm, ⟨52, _⟩ => ⟨S66x128x8x128, .f32⟩
  | .hbm, ⟨53, _⟩ => ⟨S8x66x128x128, .f32⟩
  | .hbm, ⟨54, _⟩ => ⟨S66x128x8x128, .f32⟩
  | .hbm, ⟨55, _⟩ => ⟨S128x8, .f32⟩
  | .hbm, ⟨56, _⟩ => ⟨S128x8x1, .f32⟩
  | .hbm, ⟨57, _⟩ => ⟨S1x128x8x1, .f32⟩
  | .hbm, ⟨58, _⟩ => ⟨S66x128x8x128, .f32⟩
  | .hbm, ⟨59, _⟩ => ⟨S66x128x8x128, .f32⟩
  | .hbm, ⟨60, _⟩ => ⟨S8448x1024, .f32⟩
  | .hbm, ⟨61, _⟩ => ⟨S8448x1024, .f32⟩
  | .hbm, ⟨62, _⟩ => ⟨S8448x1024, .bf16⟩
  | _, _ => ⟨S8448x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩

abbrev nD : Nat := 1
abbrev τ : Topo := Topo.v7x

variable {F : FTy → Type} [FloatOps F]
-- ==== SumSmall.lean ====
abbrev S8x2664x128 : Shape := ⟨3, ![8, 2664, 128]⟩
abbrev S2664x128 : Shape := ⟨2, ![2664, 128]⟩
abbrev S1x2664x128 : Shape := ⟨3, ![1, 2664, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x2664x128, .f32⟩
  | .hbm, ⟨1, _⟩ => ⟨S2664x128, .f32⟩
  | .local _ .vmem, ⟨0, _⟩ => ⟨S8x2664x128, .f32⟩
  | .local _ .vmem, ⟨1, _⟩ => ⟨S2664x128, .f32⟩
  | _, _ => ⟨S8x2664x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x2664x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2664x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== RefSumSmallIdeal.lean ====
abbrev S8x2664x128 : Shape := ⟨3, ![8, 2664, 128]⟩
abbrev S_ : Shape := ⟨0, ![]⟩
abbrev S2664x128 : Shape := ⟨2, ![2664, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x2664x128, .f32⟩
  | .hbm, ⟨1, _⟩ => ⟨S_, .f32⟩
  | .hbm, ⟨2, _⟩ => ⟨S2664x128, .f32⟩
  | _, _ => ⟨S8x2664x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Adam.lean ====
module

public import Idealize.ShloMosaic.Lib.Pointwise

/-! One element of an Adam step, on the extended reals. -/

@[expose] public section

noncomputable section

namespace Cert.Adam

open Idealize.ShloMosaic

/-- The gradient, the weight and the two moments of one element. -/
abbrev Four := EReal × EReal × EReal × EReal

/-- The gradient of an element. -/
def gr (p : Four) : EReal := p.1

/-- The new first moment of an element. -/
def nm (p : Four) : EReal := Ideal.ofBits .f32 0x3F666666#32 * p.2.2.1 + Ideal.ofBits .f32 0x3DCCCCCD#32 * p.1

/-- The new second moment of an element. -/
def nv (p : Four) : EReal := Ideal.ofBits .f32 0x3F7FBE77#32 * p.2.2.2 + Ideal.ofBits .f32 0x3A83126F#32 * (p.1 * p.1)

/-- The step of an element. -/
def dl (p : Four) : EReal :=
  Ideal.ofBits .f32 0xBA83126F#32 * (Ideal.div (Ideal.div (nm p) (Ideal.ofBits .f32 0x3F26BD02#32))
    (Ideal.sqrt (Ideal.div (nv p) (Ideal.ofBits .f32 0x3C231ACC#32)) + Ideal.ofBits .f32 0x322BCC77#32)
    + Ideal.ofBits .f32 0x3C23D70A#32 * p.2.1)

end Cert.Adam

end
-- ==== Proof.AdaStep.lean ====
module

public import proofs.«01_k».proof.Proof.Gen.AdaStepIdeal.Value
public import proofs.«01_k».proof.Proof.Gen.RefAdaStepIdeal.Run
public import proofs.«01_k».proof.Defs
public import Idealize.ShloMosaic.Lib.Pipeline.ValueKit
public import Idealize.ShloMosaic.Lib.Tactic
public import Idealize.ShloMosaic.Lib.Pointwise
public import proofs.«01_k».proof.Proof.Adam

/-! The modulation weight's gradient and update, and the gradient left for the conditioning: the kernel's five arrays are the reference's. -/

@[expose] public section

set_option maxRecDepth 16384

noncomputable section

namespace Cert.RefAdaStepIdeal.Hand

open Idealize.ShloMosaic Idealize.ShloMosaic.TcCoe Idealize.SL.Sem
open Idealize.ShloMosaic.Pipeline (Dat)
open Cert.RefAdaStepIdeal Cert.RefAdaStepIdeal.Gen Cert.Adam

/-- The gradient of an element: the conditioning's rows, through SiLU, against the modulation's gradient. -/
def gsum (C : FVec Ideal S16x2048 .f32) (Y : FVec Ideal S4x16x3072 .f32) (l : Fin 4) (a : Fin 2048) (b : Fin 3072) : EReal :=
  ∑ k : Fin 16, C (ix2 k a) * Ideal.logistic (C (ix2 k a)) * Y (ix3 l k b)

/-- The gradient, the weight and the moments of an element. -/
abbrev four (C : FVec Ideal S16x2048 .f32) (Y : FVec Ideal S4x16x3072 .f32) (W M U : FVec Ideal S4x2048x3072 .f32) (l : Fin 4) (a : Fin 2048) (b : Fin 3072) : Four :=
  (gsum C Y l a b, W (ix3 l a b), M (ix3 l a b), U (ix3 l a b))

/-- The reference's gradient. -/
def ref5 (C : FVec Ideal S16x2048 .f32) (Y : FVec Ideal S4x16x3072 .f32) : FVec Ideal S4x2048x3072 .f32 :=
  transpose S4x2048x3072 [0, 2, 1] (Host.dotGeneral dot_S4x3072x16_S16x2048_S4x3072x2048_2_0_01_1_n_n none (transpose S4x3072x16 [0, 2, 1] Y transposes_S4x16x3072_S4x3072x16_0_2_1) (mulf C (Host.divf (broadcastInDim S16x2048 ![] bcast_S_S16x2048 (constant S_ .f32 0x3F800000#32)) (addf (broadcastInDim S16x2048 ![] bcast_S_S16x2048 (constant S_ .f32 0x3F800000#32)) (Host.exp (Host.negf C)))))) transposes_S4x3072x2048_S4x2048x3072_0_2_1

/-- The reference's gradient at an index, as a sum. -/
theorem grad_at (C : FVec Ideal S16x2048 .f32) (Y : FVec Ideal S4x16x3072 .f32) (l : Fin 4) (a : Fin 2048) (b : Fin 3072) : ref5 C Y (ix3 l a b) = gsum C Y l a b := by
  pointwise [ref5, gsum]
  exact Finset.sum_congr rfl fun k _ => mul_comm _ _

/-- The reference's gradient at an index. -/
theorem ref5_at (C : FVec Ideal S16x2048 .f32) (Y : FVec Ideal S4x16x3072 .f32) (W M U : FVec Ideal S4x2048x3072 .f32) (l : Fin 4) (a : Fin 2048) (b : Fin 3072) :
    ref5 C Y (ix3 l a b) = gr (four C Y W M U l a b) := by
  exact grad_at C Y l a b

/-- The reference's step. -/
def ref6 (C : FVec Ideal S16x2048 .f32) (Y : FVec Ideal S4x16x3072 .f32) (W M U : FVec Ideal S4x2048x3072 .f32) : FVec Ideal S4x2048x3072 .f32 :=
  mulf (broadcastInDim S4x2048x3072 ![] bcast_S_S4x2048x3072 (constant S_ .f32 0xBA83126F#32)) (addf (Host.divf (Host.divf (addf (mulf (broadcastInDim S4x2048x3072 ![] bcast_S_S4x2048x3072 (constant S_ .f32 0x3F666666#32)) M) (mulf (broadcastInDim S4x2048x3072 ![] bcast_S_S4x2048x3072 (constant S_ .f32 0x3DCCCCCD#32)) (ref5 C Y))) (broadcastInDim S4x2048x3072 ![] bcast_S_S4x2048x3072 (constant S_ .f32 0x3F26BD02#32))) (addf (Host.sqrt (Host.divf (addf (mulf (broadcastInDim S4x2048x3072 ![] bcast_S_S4x2048x3072 (constant S_ .f32 0x3F7FBE77#32)) U) (mulf (broadcastInDim S4x2048x3072 ![] bcast_S_S4x2048x3072 (constant S_ .f32 0x3A83126F#32)) (mulf (ref5 C Y) (ref5 C Y)))) (broadcastInDim S4x2048x3072 ![] bcast_S_S4x2048x3072 (constant S_ .f32 0x3C231ACC#32)))) (broadcastInDim S4x2048x3072 ![] bcast_S_S4x2048x3072 (constant S_ .f32 0x322BCC77#32)))) (mulf (broadcastInDim S4x2048x3072 ![] bcast_S_S4x2048x3072 (constant S_ .f32 0x3C23D70A#32)) W))

/-- The reference's step at an index. -/
theorem ref6_at (C : FVec Ideal S16x2048 .f32) (Y : FVec Ideal S4x16x3072 .f32) (W M U : FVec Ideal S4x2048x3072 .f32) (l : Fin 4) (a : Fin 2048) (b : Fin 3072) :
    ref6 C Y W M U (ix3 l a b) = dl (four C Y W M U l a b) := by
  have hg := grad_at C Y l a b
  unfold ref6
  generalize ref5 C Y = G at hg ⊢
  pointwise
  rw [hg]
  rfl

/-- The reference's new first moment. -/
def ref7 (C : FVec Ideal S16x2048 .f32) (Y : FVec Ideal S4x16x3072 .f32) (M : FVec Ideal S4x2048x3072 .f32) : FVec Ideal S4x2048x3072 .f32 :=
  addf (mulf (broadcastInDim S4x2048x3072 ![] bcast_S_S4x2048x3072 (constant S_ .f32 0x3F666666#32)) M) (mulf (broadcastInDim S4x2048x3072 ![] bcast_S_S4x2048x3072 (constant S_ .f32 0x3DCCCCCD#32)) (ref5 C Y))

/-- The reference's new first moment at an index. -/
theorem ref7_at (C : FVec Ideal S16x2048 .f32) (Y : FVec Ideal S4x16x3072 .f32) (W M U : FVec Ideal S4x2048x3072 .f32) (l : Fin 4) (a : Fin 2048) (b : Fin 3072) :
    ref7 C Y M (ix3 l a b) = nm (four C Y W M U l a b) := by
  have hg := grad_at C Y l a b
  unfold ref7
  generalize ref5 C Y = G at hg ⊢
  pointwise
  rw [hg]
  rfl

/-- The reference's new second moment. -/
def ref8 (C : FVec Ideal S16x2048 .f32) (Y : FVec Ideal S4x16x3072 .f32) (U : FVec Ideal S4x2048x3072 .f32) : FVec Ideal S4x2048x3072 .f32 :=
  addf (mulf (broadcastInDim S4x2048x3072 ![] bcast_S_S4x2048x3072 (constant S_ .f32 0x3F7FBE77#32)) U) (mulf (broadcastInDim S4x2048x3072 ![] bcast_S_S4x2048x3072 (constant S_ .f32 0x3A83126F#32)) (mulf (ref5 C Y) (ref5 C Y)))

/-- The reference's new second moment at an index. -/
theorem ref8_at (C : FVec Ideal S16x2048 .f32) (Y : FVec Ideal S4x16x3072 .f32) (W M U : FVec Ideal S4x2048x3072 .f32) (l : Fin 4) (a : Fin 2048) (b : Fin 3072) :
    ref8 C Y U (ix3 l a b) = nv (four C Y W M U l a b) := by
  have hg := grad_at C Y l a b
  unfold ref8
  generalize ref5 C Y = G at hg ⊢
  pointwise
  rw [hg]
  rfl

/-- The reference's conditioning's gradient. -/
def ref9 (Y : FVec Ideal S4x16x3072 .f32) (W : FVec Ideal S4x2048x3072 .f32) : FVec Ideal S16x2048 .f32 :=
  Host.dotGeneral dot_S4x3072x16_S4x2048x3072_S16x2048_01_02_2_1_n_n none (transpose S4x3072x16 [0, 2, 1] Y transposes_S4x16x3072_S4x3072x16_0_2_1) W

/-- The reference's conditioning's gradient at an index: the modulation's gradient against the weight, over the layers and the columns. -/
theorem ref9_at (Y : FVec Ideal S4x16x3072 .f32) (W : FVec Ideal S4x2048x3072 .f32) (a : Fin 16) (b : Fin 2048) :
    ref9 Y W (ix2 a b) = ∑ l : Fin 4, ∑ k : Fin 3072, Y (ix3 l a k) * W (ix3 l b k) := by
  pointwise [ref9]

end Cert.RefAdaStepIdeal.Hand

namespace Cert.AdaStepIdeal.Hand

open Idealize.ShloMosaic Idealize.ShloMosaic.TcCoe Idealize.SL.Sem
open Idealize.ShloMosaic.Pipeline (Dat)
open Cert.AdaStepIdeal Cert.AdaStepIdeal.Gen Cert.Adam

variable (m : (ℓ : Loc nD τ sig) → Buf (Elt Ideal) ℓ)

/-- Every window's block index at a grid point. -/
theorem idx : ∀ t : Fin cfg0.N, win0_0.index t = ![0, t.val / 12]
    ∧ win0_1.index t = ![t.val / 3 % 4, 0, t.val % 3]
    ∧ win0_2.index t = ![t.val / 3 % 4, t.val / 12, t.val % 3]
    ∧ win0_3.index t = ![t.val / 3 % 4, t.val / 12, t.val % 3]
    ∧ win0_4.index t = ![t.val / 3 % 4, t.val / 12, t.val % 3]
    ∧ win0_5.index t = ![t.val / 3 % 4, t.val / 12, t.val % 3]
    ∧ win0_6.index t = ![t.val / 3 % 4, t.val / 12, t.val % 3]
    ∧ win0_7.index t = ![t.val / 3 % 4, t.val / 12, t.val % 3]
    ∧ win0_8.index t = ![t.val / 3 % 4, t.val / 12, t.val % 3]
    ∧ win0_9.index t = ![0, t.val / 12] :=
  (by decide +kernel : ∀ t : Fin grid0.N, _)

/-- What the body leaves of an element: the gradient it forms, the weight and the moments it read. -/
abbrev four (C : FVec Ideal S16x256 .f32) (Y : FVec Ideal S1x16x1024 .f32) (W M U : FVec Ideal S1x256x1024 .f32) (a : Fin 256) (b : Fin 1024) : Four :=
  (∑ k : Fin 16, C (ix2 k a) * Ideal.logistic (C (ix2 k a)) * Y (ix3 0 k b), W (ix3 0 a b), M (ix3 0 a b), U (ix3 0 a b))

/-- The gradient the body forms, at an index. -/
theorem grad_at (C : FVec Ideal S16x256 .f32) (Y : FVec Ideal S1x16x1024 .f32) (a : Fin 256) (b : Fin 1024) :
    k0_pay8 (F := Ideal) C Y (ix2 a b) = ∑ k : Fin 16, C (ix2 k a) * Ideal.logistic (C (ix2 k a)) * Y (ix3 0 k b) := by
  pointwise [k0_pay8, k0_pay6]

/-- A block's worth of the conditioning's gradient, at an index. -/
theorem part_at (Y : FVec Ideal S1x16x1024 .f32) (W : FVec Ideal S1x256x1024 .f32) (j) :
    k0_pay4 (F := Ideal) (k0_pay6 Y) (k0_pay7 W) j = ∑ k : Fin 1024, Y (ix3 0 (j 0) k) * W (ix3 0 (j 1) k) := by
  idx_vars j
  pointwise [k0_pay4, k0_pay6, k0_pay7]

/-- One step of the accumulation at an index: what was there, plus a block's worth. -/
theorem step_at (Y : FVec Ideal S1x16x1024 .f32) (W : FVec Ideal S1x256x1024 .f32) (A : FVec Ideal S16x256 .f32) (j) :
    k0_pay5 (F := Ideal) (k0_pay6 Y) (k0_pay7 W) A j = A j + ∑ k : Fin 1024, Y (ix3 0 (j 0) k) * W (ix3 0 (j 1) k) := by
  rw [← part_at]
  generalize hP : k0_pay4 (F := Ideal) (k0_pay6 Y) (k0_pay7 W) = P
  unfold k0_pay5
  rw [hP]
  idx_vars j
  pointwise

/-- What the body stores as the gradient. -/
theorem pay5_at (C : FVec Ideal S16x256 .f32) (Y : FVec Ideal S1x16x1024 .f32) (W M U : FVec Ideal S1x256x1024 .f32) (z : Fin 1) (a : Fin 256) (b : Fin 1024) :
    k0_pay9 (F := Ideal) C Y (ix3 z a b) = gr (four C Y W M U a b) := by
  have hg := grad_at C Y a b
  unfold k0_pay9
  generalize k0_pay8 (F := Ideal) C Y = G at hg ⊢
  pointwise
  rw [hg]
  rfl

/-- What the body stores as the step. -/
theorem pay6_at (C : FVec Ideal S16x256 .f32) (Y : FVec Ideal S1x16x1024 .f32) (W M U : FVec Ideal S1x256x1024 .f32) (z : Fin 1) (a : Fin 256) (b : Fin 1024) :
    k0_pay1 (F := Ideal) (k0_pay7 W) (k0_pay12 C Y M) (k0_pay13 C Y U) (ix3 z a b) = dl (four C Y W M U a b) := by
  have hg := grad_at C Y a b
  unfold k0_pay1 k0_pay7 k0_pay12 k0_pay13 k0_pay10 k0_pay11
  generalize k0_pay8 (F := Ideal) C Y = G at hg ⊢
  pointwise
  rw [hg]
  rfl

/-- What the body stores as the new first moment. -/
theorem pay7_at (C : FVec Ideal S16x256 .f32) (Y : FVec Ideal S1x16x1024 .f32) (W M U : FVec Ideal S1x256x1024 .f32) (z : Fin 1) (a : Fin 256) (b : Fin 1024) :
    k0_pay2 (F := Ideal) (k0_pay10 C Y M) (ix3 z a b) = nm (four C Y W M U a b) := by
  have hg := grad_at C Y a b
  unfold k0_pay2 k0_pay10
  generalize k0_pay8 (F := Ideal) C Y = G at hg ⊢
  pointwise
  rw [hg]
  rfl

/-- What the body stores as the new second moment. -/
theorem pay8_at (C : FVec Ideal S16x256 .f32) (Y : FVec Ideal S1x16x1024 .f32) (W M U : FVec Ideal S1x256x1024 .f32) (z : Fin 1) (a : Fin 256) (b : Fin 1024) :
    k0_pay3 (F := Ideal) (k0_pay11 C Y U) (ix3 z a b) = nv (four C Y W M U a b) := by
  have hg := grad_at C Y a b
  unfold k0_pay3 k0_pay11
  generalize k0_pay8 (F := Ideal) C Y = G at hg ⊢
  pointwise
  rw [hg]
  rfl

/-- A block of the conditioning, read in the array. -/
theorem blk0 (c : Dev nD) (t : Fin cfg0.N) (q : Fin 16) (k : Fin 256) (i : S16x2048.Idx)
    (h0 : (i 0 : ℕ) = q) (h1 : (i 1 : ℕ) = t.val / 12 * 256 + k) :
    iblk m c 0 t (ix2 q k) = m ((c : Thread nD τ).loc main_arg0) i := by
  rw [← V_main_arg0 m c]
  blk_ext [iblk, idx t]

/-- A block of the modulation's gradient, read in the array. -/
theorem blk1 (c : Dev nD) (t : Fin cfg0.N) (q : Fin 16) (k : Fin 1024) (i : S4x16x3072.Idx)
    (hz : (i 0 : ℕ) = t.val / 3 % 4) (h0 : (i 1 : ℕ) = q) (h1 : (i 2 : ℕ) = t.val % 3 * 1024 + k) :
    iblk m c 1 t (ix3 0 q k) = m ((c : Thread nD τ).loc main_arg1) i := by
  rw [← V_main_arg1 m c]
  blk_ext [iblk, idx t]

/-- A block of the weight or of a moment, read in the array. -/
theorem blk2 (c : Dev nD) (t : Fin cfg0.N) (q : Fin 256) (k : Fin 1024) (i : S4x2048x3072.Idx)
    (hz : (i 0 : ℕ) = t.val / 3 % 4) (h0 : (i 1 : ℕ) = t.val / 12 * 256 + q) (h1 : (i 2 : ℕ) = t.val % 3 * 1024 + k) :
    iblk m c 2 t (ix3 0 q k) = m ((c : Thread nD τ).loc main_arg2) i := by
  rw [← V_main_arg2 m c]
  blk_ext [iblk, idx t]

/-- A block of the weight or of a moment, read in the array. -/
theorem blk3 (c : Dev nD) (t : Fin cfg0.N) (q : Fin 256) (k : Fin 1024) (i : S4x2048x3072.Idx)
    (hz : (i 0 : ℕ) = t.val / 3 % 4) (h0 : (i 1 : ℕ) = t.val / 12 * 256 + q) (h1 : (i 2 : ℕ) = t.val % 3 * 1024 + k) :
    iblk m c 3 t (ix3 0 q k) = m ((c : Thread nD τ).loc main_arg3) i := by
  rw [← V_main_arg3 m c]
  blk_ext [iblk, idx t]

/-- A block of the weight or of a moment, read in the array. -/
theorem blk4 (c : Dev nD) (t : Fin cfg0.N) (q : Fin 256) (k : Fin 1024) (i : S4x2048x3072.Idx)
    (hz : (i 0 : ℕ) = t.val / 3 % 4) (h0 : (i 1 : ℕ) = t.val / 12 * 256 + q) (h1 : (i 2 : ℕ) = t.val % 3 * 1024 + k) :
    iblk m c 4 t (ix3 0 q k) = m ((c : Thread nD τ).loc main_arg4) i := by
  rw [← V_main_arg4 m c]
  blk_ext [iblk, idx t]

/-- What a point leaves in its block of the gradient. -/
theorem block5 (c : Dev nD) (t : Fin cfg0.N) : (outsAt0 m c t.val t.isLt).1 = k0_pay9 (F := Ideal) (iblk m c 0 t) (iblk m c 1 t) := by
  by_cases h : t.val % 12 = 0
  · rw [outsAt0_A m c t h (by omega)]; frame_out
  · rw [outsAt0_B m c t h (by omega)]; frame_out

/-- The kernel's array of the gradient is the reference's. -/
theorem final5 (c : Dev nD) : (dats m 0 c).arrAt 5 cfg0.N = Cert.RefAdaStepIdeal.Hand.ref5 (m ((c : Thread nD τ).loc main_arg0)) (m ((c : Thread nD τ).loc main_arg1)) := by
  refine (dats m 0 c).arrAt_eq_of_covers 5 _ (by decide +kernel) fun t hf y => ?_
  blk_simp
  rw [after0_5, block5]
  have hy0 : (y 0 : ℕ) < 1 := (y 0).isLt
  have hy1 : (y 1 : ℕ) < 256 := (y 1).isLt
  have hy2 : (y 2 : ℕ) < 1024 := (y 2).isLt
  have ht : t.val < 96 := t.isLt
  have ey : y = ix3 (y 0) (y 1) (y 2) := by idx_vars y; rfl
  have e : ((win0_5.blk t).view.emb y : S4x2048x3072.Idx) = ix3 ⟨t.val / 3 % 4, by omega⟩ ⟨t.val / 12 * 256 + (y 1 : ℕ), by omega⟩ ⟨t.val % 3 * 1024 + (y 2 : ℕ), by omega⟩ := by
    blk_ext [idx t]
  refine ((congrArg _ ey).trans ?_).trans (congrArg _ e).symm
  refine (pay5_at (iblk m c 0 t) (iblk m c 1 t) (iblk m c 2 t) (iblk m c 3 t) (iblk m c 4 t) (y 0) (y 1) (y 2)).trans ?_
  refine Eq.trans (congrArg gr ?_) (Cert.RefAdaStepIdeal.Hand.ref5_at (m ((c : Thread nD τ).loc main_arg0)) (m ((c : Thread nD τ).loc main_arg1)) (m ((c : Thread nD τ).loc main_arg2)) (m ((c : Thread nD τ).loc main_arg3)) (m ((c : Thread nD τ).loc main_arg4)) _ _ _).symm
  refine congrArg₂ Prod.mk (Finset.sum_congr rfl fun k _ => ?_) (congrArg₂ Prod.mk ?_ (congrArg₂ Prod.mk ?_ ?_))
  · have e0 := blk0 m c t k (y 1) (ix2 k ⟨t.val / 12 * 256 + (y 1 : ℕ), by omega⟩) rfl rfl
    have e1 := blk1 m c t k (y 2) (ix3 ⟨t.val / 3 % 4, by omega⟩ k ⟨t.val % 3 * 1024 + (y 2 : ℕ), by omega⟩) rfl rfl rfl
    exact congrArg₂ (· * ·) (congrArg (fun x : EReal => x * Ideal.logistic x) e0) e1
  · exact blk2 m c t (y 1) (y 2) _ rfl rfl rfl
  · exact blk3 m c t (y 1) (y 2) _ rfl rfl rfl
  · exact blk4 m c t (y 1) (y 2) _ rfl rfl rfl

/-- What a point leaves in its block of the step. -/
theorem block6 (c : Dev nD) (t : Fin cfg0.N) : (outsAt0 m c t.val t.isLt).2.1 = k0_pay1 (F := Ideal) (k0_pay7 (iblk m c 2 t)) (k0_pay12 (iblk m c 0 t) (iblk m c 1 t) (iblk m c 3 t)) (k0_pay13 (iblk m c 0 t) (iblk m c 1 t) (iblk m c 4 t)) := by
  by_cases h : t.val % 12 = 0
  · rw [outsAt0_A m c t h (by omega)]; frame_out
  · rw [outsAt0_B m c t h (by omega)]; frame_out

/-- The kernel's array of the step is the reference's. -/
theorem final6 (c : Dev nD) : (dats m 0 c).arrAt 6 cfg0.N = Cert.RefAdaStepIdeal.Hand.ref6 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6, block6]
  have hy0 : (y 0 : ℕ) < 1 := (y 0).isLt
  have hy1 : (y 1 : ℕ) < 256 := (y 1).isLt
  have hy2 : (y 2 : ℕ) < 1024 := (y 2).isLt
  have ht : t.val < 96 := t.isLt
  have ey : y = ix3 (y 0) (y 1) (y 2) := by idx_vars y; rfl
  have e : ((win0_6.blk t).view.emb y : S4x2048x3072.Idx) = ix3 ⟨t.val / 3 % 4, by omega⟩ ⟨t.val / 12 * 256 + (y 1 : ℕ), by omega⟩ ⟨t.val % 3 * 1024 + (y 2 : ℕ), by omega⟩ := by
    blk_ext [idx t]
  refine ((congrArg _ ey).trans ?_).trans (congrArg _ e).symm
  refine (pay6_at (iblk m c 0 t) (iblk m c 1 t) (iblk m c 2 t) (iblk m c 3 t) (iblk m c 4 t) (y 0) (y 1) (y 2)).trans ?_
  refine Eq.trans (congrArg dl ?_) (Cert.RefAdaStepIdeal.Hand.ref6_at (m ((c : Thread nD τ).loc main_arg0)) (m ((c : Thread nD τ).loc main_arg1)) (m ((c : Thread nD τ).loc main_arg2)) (m ((c : Thread nD τ).loc main_arg3)) (m ((c : Thread nD τ).loc main_arg4)) _ _ _).symm
  refine congrArg₂ Prod.mk (Finset.sum_congr rfl fun k _ => ?_) (congrArg₂ Prod.mk ?_ (congrArg₂ Prod.mk ?_ ?_))
  · have e0 := blk0 m c t k (y 1) (ix2 k ⟨t.val / 12 * 256 + (y 1 : ℕ), by omega⟩) rfl rfl
    have e1 := blk1 m c t k (y 2) (ix3 ⟨t.val / 3 % 4, by omega⟩ k ⟨t.val % 3 * 1024 + (y 2 : ℕ), by omega⟩) rfl rfl rfl
    exact congrArg₂ (· * ·) (congrArg (fun x : EReal => x * Ideal.logistic x) e0) e1
  · exact blk2 m c t (y 1) (y 2) _ rfl rfl rfl
  · exact blk3 m c t (y 1) (y 2) _ rfl rfl rfl
  · exact blk4 m c t (y 1) (y 2) _ rfl rfl rfl

/-- What a point leaves in its block of the new first moment. -/
theorem block7 (c : Dev nD) (t : Fin cfg0.N) : (outsAt0 m c t.val t.isLt).2.2.1 = k0_pay2 (F := Ideal) (k0_pay10 (iblk m c 0 t) (iblk m c 1 t) (iblk m c 3 t)) := by
  by_cases h : t.val % 12 = 0
  · rw [outsAt0_A m c t h (by omega)]; frame_out
  · rw [outsAt0_B m c t h (by omega)]; frame_out

/-- The kernel's array of the new first moment is the reference's. -/
theorem final7 (c : Dev nD) : (dats m 0 c).arrAt 7 cfg0.N = Cert.RefAdaStepIdeal.Hand.ref7 (m ((c : Thread nD τ).loc main_arg0)) (m ((c : Thread nD τ).loc main_arg1)) (m ((c : Thread nD τ).loc main_arg3)) := by
  refine (dats m 0 c).arrAt_eq_of_covers 7 _ (by decide +kernel) fun t hf y => ?_
  blk_simp
  rw [after0_7, block7]
  have hy0 : (y 0 : ℕ) < 1 := (y 0).isLt
  have hy1 : (y 1 : ℕ) < 256 := (y 1).isLt
  have hy2 : (y 2 : ℕ) < 1024 := (y 2).isLt
  have ht : t.val < 96 := t.isLt
  have ey : y = ix3 (y 0) (y 1) (y 2) := by idx_vars y; rfl
  have e : ((win0_7.blk t).view.emb y : S4x2048x3072.Idx) = ix3 ⟨t.val / 3 % 4, by omega⟩ ⟨t.val / 12 * 256 + (y 1 : ℕ), by omega⟩ ⟨t.val % 3 * 1024 + (y 2 : ℕ), by omega⟩ := by
    blk_ext [idx t]
  refine ((congrArg _ ey).trans ?_).trans (congrArg _ e).symm
  refine (pay7_at (iblk m c 0 t) (iblk m c 1 t) (iblk m c 2 t) (iblk m c 3 t) (iblk m c 4 t) (y 0) (y 1) (y 2)).trans ?_
  refine Eq.trans (congrArg nm ?_) (Cert.RefAdaStepIdeal.Hand.ref7_at (m ((c : Thread nD τ).loc main_arg0)) (m ((c : Thread nD τ).loc main_arg1)) (m ((c : Thread nD τ).loc main_arg2)) (m ((c : Thread nD τ).loc main_arg3)) (m ((c : Thread nD τ).loc main_arg4)) _ _ _).symm
  refine congrArg₂ Prod.mk (Finset.sum_congr rfl fun k _ => ?_) (congrArg₂ Prod.mk ?_ (congrArg₂ Prod.mk ?_ ?_))
  · have e0 := blk0 m c t k (y 1) (ix2 k ⟨t.val / 12 * 256 + (y 1 : ℕ), by omega⟩) rfl rfl
    have e1 := blk1 m c t k (y 2) (ix3 ⟨t.val / 3 % 4, by omega⟩ k ⟨t.val % 3 * 1024 + (y 2 : ℕ), by omega⟩) rfl rfl rfl
    exact congrArg₂ (· * ·) (congrArg (fun x : EReal => x * Ideal.logistic x) e0) e1
  · exact blk2 m c t (y 1) (y 2) _ rfl rfl rfl
  · exact blk3 m c t (y 1) (y 2) _ rfl rfl rfl
  · exact blk4 m c t (y 1) (y 2) _ rfl rfl rfl

/-- What a point leaves in its block of the new second moment. -/
theorem block8 (c : Dev nD) (t : Fin cfg0.N) : (outsAt0 m c t.val t.isLt).2.2.2.1 = k0_pay3 (F := Ideal) (k0_pay11 (iblk m c 0 t) (iblk m c 1 t) (iblk m c 4 t)) := by
  by_cases h : t.val % 12 = 0
  · rw [outsAt0_A m c t h (by omega)]; frame_out
  · rw [outsAt0_B m c t h (by omega)]; frame_out

/-- The kernel's array of the new second moment is the reference's. -/
theorem final8 (c : Dev nD) : (dats m 0 c).arrAt 8 cfg0.N = Cert.RefAdaStepIdeal.Hand.ref8 (m ((c : Thread nD τ).loc main_arg0)) (m ((c : Thread nD τ).loc main_arg1)) (m ((c : Thread nD τ).loc main_arg4)) := by
  refine (dats m 0 c).arrAt_eq_of_covers 8 _ (by decide +kernel) fun t hf y => ?_
  blk_simp
  rw [after0_8, block8]
  have hy0 : (y 0 : ℕ) < 1 := (y 0).isLt
  have hy1 : (y 1 : ℕ) < 256 := (y 1).isLt
  have hy2 : (y 2 : ℕ) < 1024 := (y 2).isLt
  have ht : t.val < 96 := t.isLt
  have ey : y = ix3 (y 0) (y 1) (y 2) := by idx_vars y; rfl
  have e : ((win0_8.blk t).view.emb y : S4x2048x3072.Idx) = ix3 ⟨t.val / 3 % 4, by omega⟩ ⟨t.val / 12 * 256 + (y 1 : ℕ), by omega⟩ ⟨t.val % 3 * 1024 + (y 2 : ℕ), by omega⟩ := by
    blk_ext [idx t]
  refine ((congrArg _ ey).trans ?_).trans (congrArg _ e).symm
  refine (pay8_at (iblk m c 0 t) (iblk m c 1 t) (iblk m c 2 t) (iblk m c 3 t) (iblk m c 4 t) (y 0) (y 1) (y 2)).trans ?_
  refine Eq.trans (congrArg nv ?_) (Cert.RefAdaStepIdeal.Hand.ref8_at (m ((c : Thread nD τ).loc main_arg0)) (m ((c : Thread nD τ).loc main_arg1)) (m ((c : Thread nD τ).loc main_arg2)) (m ((c : Thread nD τ).loc main_arg3)) (m ((c : Thread nD τ).loc main_arg4)) _ _ _).symm
  refine congrArg₂ Prod.mk (Finset.sum_congr rfl fun k _ => ?_) (congrArg₂ Prod.mk ?_ (congrArg₂ Prod.mk ?_ ?_))
  · have e0 := blk0 m c t k (y 1) (ix2 k ⟨t.val / 12 * 256 + (y 1 : ℕ), by omega⟩) rfl rfl
    have e1 := blk1 m c t k (y 2) (ix3 ⟨t.val / 3 % 4, by omega⟩ k ⟨t.val % 3 * 1024 + (y 2 : ℕ), by omega⟩) rfl rfl rfl
    exact congrArg₂ (· * ·) (congrArg (fun x : EReal => x * Ideal.logistic x) e0) e1
  · exact blk2 m c t (y 1) (y 2) _ rfl rfl rfl
  · exact blk3 m c t (y 1) (y 2) _ rfl rfl rfl
  · exact blk4 m c t (y 1) (y 2) _ rfl rfl rfl

/-- The conditioning's gradient after the last point of a run, at an index. -/
theorem acc_at (c : Dev nD) (t : Fin cfg0.N) (hr : t.val % 12 = 11) (j) :
    (outsAt0 m c t.val t.isLt).2.2.2.2 j = 0 + ∑ s : Fin 12, ∑ k : Fin 1024,
      (show FVec Ideal S1x16x1024 .f32 from iblk m c 1 ⟨12 * (t.val / 12) + s.val, Pipeline.run_point_lt_of_flush t hr s⟩) (ix3 0 (j 0) k)
      * (show FVec Ideal S1x256x1024 .f32 from iblk m c 2 ⟨12 * (t.val / 12) + s.val, Pipeline.run_point_lt_of_flush t hr s⟩) (ix3 0 (j 1) k) :=
  Pipeline.eq_sum_fin_of_reset_step_apply_of_flush (fun n h => (outsAt0 m c n h).2.2.2.2) 12 (fun _ => 0)
    (fun p j => ∑ k : Fin 1024, (show FVec Ideal S1x16x1024 .f32 from iblk m c 1 p) (ix3 0 (j 0) k)
      * (show FVec Ideal S1x256x1024 .f32 from iblk m c 2 p) (ix3 0 (j 1) k))
    (fun t h j => by
      rw [outsAt0_A m c t h (by omega)]; frame_out; rw [part_at, zero_add])
    (fun t h j => by
      rw [outsAt0_B m c t h (by omega)]; frame_out; rw [step_at]) t hr j

/-- The run's twelve blocks together: every layer and every column once. -/
theorem run_sum (c : Dev nD) (t : Fin cfg0.N) (hr : t.val % 12 = 11) (p : Fin 16) (q : Fin 256) :
    (∑ s : Fin 12, ∑ k : Fin 1024,
      (show FVec Ideal S1x16x1024 .f32 from iblk m c 1 ⟨12 * (t.val / 12) + s.val, Pipeline.run_point_lt_of_flush t hr s⟩) (ix3 0 p k)
      * (show FVec Ideal S1x256x1024 .f32 from iblk m c 2 ⟨12 * (t.val / 12) + s.val, Pipeline.run_point_lt_of_flush t hr s⟩) (ix3 0 q k) : EReal)
    = ∑ l : Fin 4, ∑ k : Fin 3072, (show FVec Ideal S4x16x3072 .f32 from (m ((c : Thread nD τ).loc main_arg1))) (ix3 l p k)
      * (show FVec Ideal S4x2048x3072 .f32 from (m ((c : Thread nD τ).loc main_arg2))) (ix3 l ⟨t.val / 12 * 256 + (q : ℕ), by have ht : t.val < 96 := t.isLt; omega⟩ k) := by
  have ht : t.val < 96 := t.isLt
  refine Eq.trans (Finset.sum_congr rfl fun s _ => Finset.sum_congr rfl fun k _ => ?_)
    (Fin.sum_points_lanes_fin (M := EReal) (N := 12) (n := 1024) (A := 4) (L := 3072) 3 (fun l k => (show FVec Ideal S4x16x3072 .f32 from (m ((c : Thread nD τ).loc main_arg1))) (ix3 l p k)
      * (show FVec Ideal S4x2048x3072 .f32 from (m ((c : Thread nD τ).loc main_arg2))) (ix3 l ⟨t.val / 12 * 256 + (q : ℕ), by omega⟩ k)))
  have hs : s.val < 12 := s.isLt
  refine congrArg₂ (· * ·) (blk1 m c _ p k _ ?_ ?_ ?_) (blk2 m c _ q k _ ?_ ?_ ?_)
  all_goals first | rfl | (blk_simp <;> (try dsimp only) <;> omega)

/-- The kernel's array of the conditioning's gradient is the reference's. -/
theorem final9 (c : Dev nD) : (dats m 0 c).arrAt 9 cfg0.N = Cert.RefAdaStepIdeal.Hand.ref9 (m ((c : Thread nD τ).loc main_arg1)) (m ((c : Thread nD τ).loc main_arg2)) := by
  refine (dats m 0 c).arrAt_eq_of_covers 9 _ (by decide +kernel) fun t hf y => ?_
  blk_simp
  have hr := (flush0_9 t).mp hf
  have hy0 : (y 0 : ℕ) < 16 := (y 0).isLt
  have hy1 : (y 1 : ℕ) < 256 := (y 1).isLt
  have ht : t.val < 96 := t.isLt
  have e : ((win0_9.blk t).view.emb y : S16x2048.Idx) = ix2 (y 0) ⟨t.val / 12 * 256 + (y 1 : ℕ), by omega⟩ := by
    blk_ext [idx t]
  rw [after0_9, acc_at m c t hr, zero_add]
  refine Eq.trans ?_ ((congrArg _ e).trans (Cert.RefAdaStepIdeal.Hand.ref9_at _ _ _ _)).symm
  exact run_sum m c t hr (y 0) (y 1)

end Cert.AdaStepIdeal.Hand

/-- From equal arguments the kernel and the reference end with equal results. -/
theorem Cert.AdaStepIdeal.Hand.algebraic : Cert.algebraic_AdaStepIdeal_RefAdaStepIdeal
    (hAdaStepIdeal := Cert.AdaStepIdeal.Gen.facts) (hRefAdaStepIdeal := Cert.RefAdaStepIdeal.Gen.facts) := by
  pair_intro
  · run_from Cert.AdaStepIdeal.Value.run_blocks m g
  · run_from Cert.RefAdaStepIdeal.Value.run m' g'
    · exact (Cert.AdaStepIdeal.Hand.final5 m c).symm
    · exact (Cert.AdaStepIdeal.Hand.final6 m c).symm
    · exact (Cert.AdaStepIdeal.Hand.final7 m c).symm
    · exact (Cert.AdaStepIdeal.Hand.final8 m c).symm
    · exact (Cert.AdaStepIdeal.Hand.final9 m c).symm

end
-- ==== Proof.AdamFfn.lean ====
module

public import proofs.«01_k».proof.Proof.Gen.AdamFfnIdeal.Value
public import proofs.«01_k».proof.Proof.Gen.RefAdamFfnIdeal.Run
public import proofs.«01_k».proof.Defs
public import Idealize.ShloMosaic.Lib.Pipeline.ValueKit
public import Idealize.ShloMosaic.Lib.Tactic
public import Idealize.ShloMosaic.Lib.Pointwise
public import proofs.«01_k».proof.Proof.Adam

/-! The update of a large weight: the kernel's four arrays are the reference's. -/

@[expose] public section

set_option maxRecDepth 16384

noncomputable section

namespace Cert.RefAdamFfnIdeal.Hand

open Idealize.ShloMosaic Idealize.ShloMosaic.TcCoe Idealize.SL.Sem
open Idealize.ShloMosaic.Pipeline (Dat)
open Cert.RefAdamFfnIdeal Cert.RefAdamFfnIdeal.Gen Cert.Adam

/-- The gradient, the weight and the moments of an element of the layer that is updated. -/
abbrev four (P Q : FVec Ideal S2048x2048 .bf16) (W M U : FVec Ideal S4x2048x2048 .f32) (a : Fin 2048) (b : Fin 2048) : Four :=
  (P (ix2 a b) + Q (ix2 a b), W (ix3 0 a b), M (ix3 0 a b), U (ix3 0 a b))

/-- The reference's gradients: its layer's first, the rest as given. -/
def ref5 (P Q : FVec Ideal S2048x2048 .bf16) (G0 : FVec Ideal S4x2048x2048 .f32) : FVec Ideal S4x2048x2048 .f32 :=
  concatenate S4x2048x2048 0 [⟨S1x2048x2048, (broadcastInDim S1x2048x2048 ![1, 2] bcast_S2048x2048_S1x2048x2048_1_2 (addf (extf .f32 P bitsLt_bf16_f32) (extf .f32 Q bitsLt_bf16_f32)))⟩, ⟨S3x2048x2048, (extractStridedSlice S3x2048x2048 ![1, 0, 0] G0 slices_S4x2048x2048_S3x2048x2048_1_0_0)⟩] concatenates_S1x2048x2048_S3x2048x2048_S4x2048x2048_d0

/-- The reference's gradients in the updated layer. -/
theorem ref5_new (P Q : FVec Ideal S2048x2048 .bf16) (W M U : FVec Ideal S4x2048x2048 .f32) (G0 : FVec Ideal S4x2048x2048 .f32) (z : Fin 4) (a : Fin 2048) (b : Fin 2048) (h : (z : ℕ) = 0) :
    ref5 P Q G0 (ix3 z a b) = gr (four P Q W M U a b) := by
  have hc : (z : ℕ) < 1 := by omega
  pointwise [ref5]
  refine (dif_pos hc).trans ?_
  pointwise! [four, gr, dl, nm, nv]

/-- The reference's gradients in the other layers. -/
theorem ref5_old (P Q : FVec Ideal S2048x2048 .bf16) (G0 : FVec Ideal S4x2048x2048 .f32) (z : Fin 4) (a : Fin 2048) (b : Fin 2048) (h : 1 ≤ (z : ℕ)) :
    ref5 P Q G0 (ix3 z a b) = G0 (ix3 z a b) := by
  have hc : ¬ (z : ℕ) < 1 := by omega
  pointwise [ref5]
  refine (dif_neg hc).trans ?_
  pointwise
  try blk_ext

/-- The reference's steps: its layer's first, the rest as given. -/
def ref6 (P Q : FVec Ideal S2048x2048 .bf16) (W M U : FVec Ideal S4x2048x2048 .f32) (D0 : FVec Ideal S4x2048x2048 .f32) : FVec Ideal S4x2048x2048 .f32 :=
  concatenate S4x2048x2048 0 [⟨S1x2048x2048, (broadcastInDim S1x2048x2048 ![1, 2] bcast_S2048x2048_S1x2048x2048_1_2 (mulf (broadcastInDim S2048x2048 ![] bcast_S_S2048x2048 (constant S_ .f32 0xBA83126F#32)) (addf (Host.divf (Host.divf (addf (mulf (broadcastInDim S2048x2048 ![] bcast_S_S2048x2048 (constant S_ .f32 0x3F666666#32)) (shapeCast _ (extractStridedSlice S1x2048x2048 ![0, 0, 0] M slices_S4x2048x2048_S1x2048x2048_0_0_0) shapeCasts_S1x2048x2048_S2048x2048)) (mulf (broadcastInDim S2048x2048 ![] bcast_S_S2048x2048 (constant S_ .f32 0x3DCCCCCD#32)) (addf (extf .f32 P bitsLt_bf16_f32) (extf .f32 Q bitsLt_bf16_f32)))) (broadcastInDim S2048x2048 ![] bcast_S_S2048x2048 (constant S_ .f32 0x3F26BD02#32))) (addf (Host.sqrt (Host.divf (addf (mulf (broadcastInDim S2048x2048 ![] bcast_S_S2048x2048 (constant S_ .f32 0x3F7FBE77#32)) (shapeCast _ (extractStridedSlice S1x2048x2048 ![0, 0, 0] U slices_S4x2048x2048_S1x2048x2048_0_0_0) shapeCasts_S1x2048x2048_S2048x2048)) (mulf (broadcastInDim S2048x2048 ![] bcast_S_S2048x2048 (constant S_ .f32 0x3A83126F#32)) (mulf (addf (extf .f32 P bitsLt_bf16_f32) (extf .f32 Q bitsLt_bf16_f32)) (addf (extf .f32 P bitsLt_bf16_f32) (extf .f32 Q bitsLt_bf16_f32))))) (broadcastInDim S2048x2048 ![] bcast_S_S2048x2048 (constant S_ .f32 0x3C231ACC#32)))) (broadcastInDim S2048x2048 ![] bcast_S_S2048x2048 (constant S_ .f32 0x322BCC77#32)))) (mulf (broadcastInDim S2048x2048 ![] bcast_S_S2048x2048 (constant S_ .f32 0x3C23D70A#32)) (shapeCast _ (extractStridedSlice S1x2048x2048 ![0, 0, 0] W slices_S4x2048x2048_S1x2048x2048_0_0_0) shapeCasts_S1x2048x2048_S2048x2048)))))⟩, ⟨S3x2048x2048, (extractStridedSlice S3x2048x2048 ![1, 0, 0] D0 slices_S4x2048x2048_S3x2048x2048_1_0_0)⟩] concatenates_S1x2048x2048_S3x2048x2048_S4x2048x2048_d0

/-- The reference's steps in the updated layer. -/
theorem ref6_new (P Q : FVec Ideal S2048x2048 .bf16) (W M U : FVec Ideal S4x2048x2048 .f32) (D0 : FVec Ideal S4x2048x2048 .f32) (z : Fin 4) (a : Fin 2048) (b : Fin 2048) (h : (z : ℕ) = 0) :
    ref6 P Q W M U D0 (ix3 z a b) = dl (four P Q W M U a b) := by
  have hc : (z : ℕ) < 1 := by omega
  pointwise [ref6]
  refine (dif_pos hc).trans ?_
  pointwise! [four, gr, dl, nm, nv]

/-- The reference's steps in the other layers. -/
theorem ref6_old (P Q : FVec Ideal S2048x2048 .bf16) (W M U : FVec Ideal S4x2048x2048 .f32) (D0 : FVec Ideal S4x2048x2048 .f32) (z : Fin 4) (a : Fin 2048) (b : Fin 2048) (h : 1 ≤ (z : ℕ)) :
    ref6 P Q W M U D0 (ix3 z a b) = D0 (ix3 z a b) := by
  have hc : ¬ (z : ℕ) < 1 := by omega
  pointwise [ref6]
  refine (dif_neg hc).trans ?_
  pointwise
  try blk_ext

/-- The reference's new first moments: its layer's first, the rest as given. -/
def ref7 (P Q : FVec Ideal S2048x2048 .bf16) (M : FVec Ideal S4x2048x2048 .f32) (M0 : FVec Ideal S4x2048x2048 .f32) : FVec Ideal S4x2048x2048 .f32 :=
  concatenate S4x2048x2048 0 [⟨S1x2048x2048, (broadcastInDim S1x2048x2048 ![1, 2] bcast_S2048x2048_S1x2048x2048_1_2 (addf (mulf (broadcastInDim S2048x2048 ![] bcast_S_S2048x2048 (constant S_ .f32 0x3F666666#32)) (shapeCast _ (extractStridedSlice S1x2048x2048 ![0, 0, 0] M slices_S4x2048x2048_S1x2048x2048_0_0_0) shapeCasts_S1x2048x2048_S2048x2048)) (mulf (broadcastInDim S2048x2048 ![] bcast_S_S2048x2048 (constant S_ .f32 0x3DCCCCCD#32)) (addf (extf .f32 P bitsLt_bf16_f32) (extf .f32 Q bitsLt_bf16_f32)))))⟩, ⟨S3x2048x2048, (extractStridedSlice S3x2048x2048 ![1, 0, 0] M0 slices_S4x2048x2048_S3x2048x2048_1_0_0)⟩] concatenates_S1x2048x2048_S3x2048x2048_S4x2048x2048_d0

/-- The reference's new first moments in the updated layer. -/
theorem ref7_new (P Q : FVec Ideal S2048x2048 .bf16) (W M U : FVec Ideal S4x2048x2048 .f32) (M0 : FVec Ideal S4x2048x2048 .f32) (z : Fin 4) (a : Fin 2048) (b : Fin 2048) (h : (z : ℕ) = 0) :
    ref7 P Q M M0 (ix3 z a b) = nm (four P Q W M U a b) := by
  have hc : (z : ℕ) < 1 := by omega
  pointwise [ref7]
  refine (dif_pos hc).trans ?_
  pointwise! [four, gr, dl, nm, nv]

/-- The reference's new first moments in the other layers. -/
theorem ref7_old (P Q : FVec Ideal S2048x2048 .bf16) (M : FVec Ideal S4x2048x2048 .f32) (M0 : FVec Ideal S4x2048x2048 .f32) (z : Fin 4) (a : Fin 2048) (b : Fin 2048) (h : 1 ≤ (z : ℕ)) :
    ref7 P Q M M0 (ix3 z a b) = M0 (ix3 z a b) := by
  have hc : ¬ (z : ℕ) < 1 := by omega
  pointwise [ref7]
  refine (dif_neg hc).trans ?_
  pointwise
  try blk_ext

/-- The reference's new second moments: its layer's first, the rest as given. -/
def ref8 (P Q : FVec Ideal S2048x2048 .bf16) (U : FVec Ideal S4x2048x2048 .f32) (U0 : FVec Ideal S4x2048x2048 .f32) : FVec Ideal S4x2048x2048 .f32 :=
  concatenate S4x2048x2048 0 [⟨S1x2048x2048, (broadcastInDim S1x2048x2048 ![1, 2] bcast_S2048x2048_S1x2048x2048_1_2 (addf (mulf (broadcastInDim S2048x2048 ![] bcast_S_S2048x2048 (constant S_ .f32 0x3F7FBE77#32)) (shapeCast _ (extractStridedSlice S1x2048x2048 ![0, 0, 0] U slices_S4x2048x2048_S1x2048x2048_0_0_0) shapeCasts_S1x2048x2048_S2048x2048)) (mulf (broadcastInDim S2048x2048 ![] bcast_S_S2048x2048 (constant S_ .f32 0x3A83126F#32)) (mulf (addf (extf .f32 P bitsLt_bf16_f32) (extf .f32 Q bitsLt_bf16_f32)) (addf (extf .f32 P bitsLt_bf16_f32) (extf .f32 Q bitsLt_bf16_f32))))))⟩, ⟨S3x2048x2048, (extractStridedSlice S3x2048x2048 ![1, 0, 0] U0 slices_S4x2048x2048_S3x2048x2048_1_0_0)⟩] concatenates_S1x2048x2048_S3x2048x2048_S4x2048x2048_d0

/-- The reference's new second moments in the updated layer. -/
theorem ref8_new (P Q : FVec Ideal S2048x2048 .bf16) (W M U : FVec Ideal S4x2048x2048 .f32) (U0 : FVec Ideal S4x2048x2048 .f32) (z : Fin 4) (a : Fin 2048) (b : Fin 2048) (h : (z : ℕ) = 0) :
    ref8 P Q U U0 (ix3 z a b) = nv (four P Q W M U a b) := by
  have hc : (z : ℕ) < 1 := by omega
  pointwise [ref8]
  refine (dif_pos hc).trans ?_
  pointwise! [four, gr, dl, nm, nv]

/-- The reference's new second moments in the other layers. -/
theorem ref8_old (P Q : FVec Ideal S2048x2048 .bf16) (U : FVec Ideal S4x2048x2048 .f32) (U0 : FVec Ideal S4x2048x2048 .f32) (z : Fin 4) (a : Fin 2048) (b : Fin 2048) (h : 1 ≤ (z : ℕ)) :
    ref8 P Q U U0 (ix3 z a b) = U0 (ix3 z a b) := by
  have hc : ¬ (z : ℕ) < 1 := by omega
  pointwise [ref8]
  refine (dif_neg hc).trans ?_
  pointwise
  try blk_ext

end Cert.RefAdamFfnIdeal.Hand

namespace Cert.AdamFfnIdeal.Hand

open Idealize.ShloMosaic Idealize.ShloMosaic.TcCoe Idealize.SL.Sem
open Idealize.ShloMosaic.Pipeline (Dat)
open Cert.AdamFfnIdeal Cert.AdamFfnIdeal.Gen Cert.Adam

variable (m : (ℓ : Loc nD τ sig) → Buf (Elt Ideal) ℓ)

/-- Every window's block index at a grid point. -/
theorem idx : ∀ t : Fin cfg0.N, win0_0.index t = ![t.val, 0]
    ∧ win0_1.index t = ![t.val, 0]
    ∧ win0_2.index t = ![0, t.val, 0]
    ∧ win0_3.index t = ![0, t.val, 0]
    ∧ win0_4.index t = ![0, t.val, 0]
    ∧ win0_5.index t = ![0, t.val, 0]
    ∧ win0_6.index t = ![0, t.val, 0]
    ∧ win0_7.index t = ![0, t.val, 0]
    ∧ win0_8.index t = ![0, t.val, 0] :=
  (by decide +kernel : ∀ t : Fin grid0.N, _)

/-- What the body leaves of an element: the gradient, the weight and the moments it read. -/
abbrev four (P Q : FVec Ideal S256x2048 .bf16) (W M U : FVec Ideal S1x256x2048 .f32) (a : Fin 256) (b : Fin 2048) : Four :=
  (P (ix2 a b) + Q (ix2 a b), W (ix3 0 a b), M (ix3 0 a b), U (ix3 0 a b))

/-- What the body stores as the gradients. -/
theorem pay5_at (P Q : FVec Ideal S256x2048 .bf16) (W M U : FVec Ideal S1x256x2048 .f32) (z : Fin 1) (a : Fin 256) (b : Fin 2048) :
    k0_pay5 (F := Ideal) P Q (ix3 z a b) = gr (four P Q W M U a b) := by
  pointwise! [k0_pay1, k0_pay2, k0_pay3, k0_pay4, k0_pay5, k0_pay6, k0_pay7, k0_pay8, k0_pay9, k0_pay10, gr, dl, nm, nv]

/-- What the body stores as the steps. -/
theorem pay6_at (P Q : FVec Ideal S256x2048 .bf16) (W M U : FVec Ideal S1x256x2048 .f32) (z : Fin 1) (a : Fin 256) (b : Fin 2048) :
    k0_pay1 (F := Ideal) (k0_pay6 W) (k0_pay9 P Q M U) k0_pay10 (ix3 z a b) = dl (four P Q W M U a b) := by
  pointwise! [k0_pay1, k0_pay2, k0_pay3, k0_pay4, k0_pay5, k0_pay6, k0_pay7, k0_pay8, k0_pay9, k0_pay10, gr, dl, nm, nv]

/-- What the body stores as the new first moments. -/
theorem pay7_at (P Q : FVec Ideal S256x2048 .bf16) (W M U : FVec Ideal S1x256x2048 .f32) (z : Fin 1) (a : Fin 256) (b : Fin 2048) :
    k0_pay2 (F := Ideal) (k0_pay7 P Q M) (ix3 z a b) = nm (four P Q W M U a b) := by
  pointwise! [k0_pay1, k0_pay2, k0_pay3, k0_pay4, k0_pay5, k0_pay6, k0_pay7, k0_pay8, k0_pay9, k0_pay10, gr, dl, nm, nv]

/-- What the body stores as the new second moments. -/
theorem pay8_at (P Q : FVec Ideal S256x2048 .bf16) (W M U : FVec Ideal S1x256x2048 .f32) (z : Fin 1) (a : Fin 256) (b : Fin 2048) :
    k0_pay3 (F := Ideal) (k0_pay8 P Q U) (ix3 z a b) = nv (four P Q W M U a b) := by
  pointwise! [k0_pay1, k0_pay2, k0_pay3, k0_pay4, k0_pay5, k0_pay6, k0_pay7, k0_pay8, k0_pay9, k0_pay10, gr, dl, nm, nv]

/-- A block of a partial gradient, read in the array. -/
theorem blk0 (c : Dev nD) (t : Fin cfg0.N) (q : Fin 256) (k : Fin 2048) (i : S2048x2048.Idx)
    (h0 : (i 0 : ℕ) = t.val * 256 + q) (h1 : (i 1 : ℕ) = k) :
    iblk m c 0 t (ix2 q k) = m ((c : Thread nD τ).loc main_arg0) i := by
  rw [← V_main_arg0 m c]
  blk_ext [iblk, idx t]

/-- A block of a partial gradient, read in the array. -/
theorem blk1 (c : Dev nD) (t : Fin cfg0.N) (q : Fin 256) (k : Fin 2048) (i : S2048x2048.Idx)
    (h0 : (i 0 : ℕ) = t.val * 256 + q) (h1 : (i 1 : ℕ) = k) :
    iblk m c 1 t (ix2 q k) = m ((c : Thread nD τ).loc main_arg1) i := by
  rw [← V_main_arg1 m c]
  blk_ext [iblk, idx t]

/-- A block of the weight or of a moment, read in the array. -/
theorem blk2 (c : Dev nD) (t : Fin cfg0.N) (q : Fin 256) (k : Fin 2048) (i : S4x2048x2048.Idx)
    (hz : (i 0 : ℕ) = 0) (h0 : (i 1 : ℕ) = t.val * 256 + q) (h1 : (i 2 : ℕ) = k) :
    iblk m c 2 t (ix3 0 q k) = m ((c : Thread nD τ).loc main_arg2) i := by
  rw [← V_main_arg2 m c]
  blk_ext [iblk, idx t]

/-- A block of the weight or of a moment, read in the array. -/
theorem blk3 (c : Dev nD) (t : Fin cfg0.N) (q : Fin 256) (k : Fin 2048) (i : S4x2048x2048.Idx)
    (hz : (i 0 : ℕ) = 0) (h0 : (i 1 : ℕ) = t.val * 256 + q) (h1 : (i 2 : ℕ) = k) :
    iblk m c 3 t (ix3 0 q k) = m ((c : Thread nD τ).loc main_arg3) i := by
  rw [← V_main_arg3 m c]
  blk_ext [iblk, idx t]

/-- A block of the weight or of a moment, read in the array. -/
theorem blk4 (c : Dev nD) (t : Fin cfg0.N) (q : Fin 256) (k : Fin 2048) (i : S4x2048x2048.Idx)
    (hz : (i 0 : ℕ) = 0) (h0 : (i 1 : ℕ) = t.val * 256 + q) (h1 : (i 2 : ℕ) = k) :
    iblk m c 4 t (ix3 0 q k) = m ((c : Thread nD τ).loc main_arg4) i := by
  rw [← V_main_arg4 m c]
  blk_ext [iblk, idx t]

/-- The array written into, as the region finds it. -/
theorem entry5 (c : Dev nD) : V m c main_v0_0 = m ((c : Thread nD τ).loc main_arg5) := by
  unfold V
  after_results <;> rfl

/-- The array written into, as the region finds it. -/
theorem entry6 (c : Dev nD) : V m c main_v0_1 = m ((c : Thread nD τ).loc main_arg6) := by
  unfold V
  after_results <;> rfl

/-- The array written into, as the region finds it. -/
theorem entry7 (c : Dev nD) : V m c main_v0_2 = m ((c : Thread nD τ).loc main_arg7) := by
  unfold V
  after_results <;> rfl

/-- The array written into, as the region finds it. -/
theorem entry8 (c : Dev nD) : V m c main_v0_3 = m ((c : Thread nD τ).loc main_arg8) := by
  unfold V
  after_results <;> rfl

/-- The kernel's array of gradients is the reference's. -/
theorem final5 (c : Dev nD) : (dats m 0 c).arrAt 5 cfg0.N = Cert.RefAdamFfnIdeal.Hand.ref5 (m ((c : Thread nD τ).loc main_arg0)) (m ((c : Thread nD τ).loc main_arg1)) (m ((c : Thread nD τ).loc main_arg5)) := by
  refine (dats m 0 c).arrAt_eq_of_coversWhere_of_agree 5 _ (fun β => β (0 : Fin 3) = 0) (by decide +kernel) (fun t hf y => ?_) (fun j hq => ?_)
  · blk_simp
    rw [after0_5, outsAt0]
    frame_out
    have hy1 : (y 1 : ℕ) < 256 := (y 1).isLt
    have hy0 : (y 0 : ℕ) < 1 := (y 0).isLt
    have ht : t.val < 8 := t.isLt
    have ey : y = ix3 (y 0) (y 1) (y 2) := by idx_vars y; rfl
    have e : ((win0_5.blk t).view.emb y : S4x2048x2048.Idx) = ix3 ⟨0, by omega⟩ ⟨t.val * 256 + (y 1 : ℕ), by omega⟩ (y 2) := by
      blk_ext [idx t]
    refine ((congrArg _ ey).trans ?_).trans (congrArg _ e).symm
    refine (pay5_at (iblk m c 0 t) (iblk m c 1 t) (iblk m c 2 t) (iblk m c 3 t) (iblk m c 4 t) (y 0) (y 1) (y 2)).trans ?_
    refine Eq.trans (congrArg gr ?_) (Cert.RefAdamFfnIdeal.Hand.ref5_new (m ((c : Thread nD τ).loc main_arg0)) (m ((c : Thread nD τ).loc main_arg1)) (m ((c : Thread nD τ).loc main_arg2)) (m ((c : Thread nD τ).loc main_arg3)) (m ((c : Thread nD τ).loc main_arg4)) _ _ _ _ rfl).symm
    refine congrArg₂ Prod.mk (congrArg₂ (· + ·) ?_ ?_) (congrArg₂ Prod.mk ?_ (congrArg₂ Prod.mk ?_ ?_))
    · exact blk0 m c t (y 1) (y 2) _ rfl rfl
    · exact blk1 m c t (y 1) (y 2) _ rfl rfl
    · exact blk2 m c t (y 1) (y 2) _ rfl rfl rfl
    · exact blk3 m c t (y 1) (y 2) _ rfl rfl rfl
    · exact blk4 m c t (y 1) (y 2) _ rfl rfl rfl
  · have h1 : 1 ≤ (j 0 : ℕ) := by
      rcases Nat.eq_zero_or_pos (j 0 : ℕ) with h | h
      · exact absurd (show (j 0 : ℕ) / 1 = 0 by rw [Nat.div_one]; exact h) hq
      · exact h
    have ej : j = ix3 (j 0) (j 1) (j 2) := by idx_vars j; rfl
    refine Eq.trans ?_ ((congrArg _ ej).trans (Cert.RefAdamFfnIdeal.Hand.ref5_old (m ((c : Thread nD τ).loc main_arg0)) (m ((c : Thread nD τ).loc main_arg1)) (m ((c : Thread nD τ).loc main_arg5)) _ _ _ h1)).symm
    refine Eq.trans ?_ ((congrFun (entry5 m c) j).trans (congrArg (m ((c : Thread nD τ).loc main_arg5)) ej))
    rfl

/-- The kernel's array of steps is the reference's. -/
theorem final6 (c : Dev nD) : (dats m 0 c).arrAt 6 cfg0.N = Cert.RefAdamFfnIdeal.Hand.ref6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) := by
  refine (dats m 0 c).arrAt_eq_of_coversWhere_of_agree 6 _ (fun β => β (0 : Fin 3) = 0) (by decide +kernel) (fun t hf y => ?_) (fun j hq => ?_)
  · blk_simp
    rw [after0_6, outsAt0]
    frame_out
    have hy1 : (y 1 : ℕ) < 256 := (y 1).isLt
    have hy0 : (y 0 : ℕ) < 1 := (y 0).isLt
    have ht : t.val < 8 := t.isLt
    have ey : y = ix3 (y 0) (y 1) (y 2) := by idx_vars y; rfl
    have e : ((win0_6.blk t).view.emb y : S4x2048x2048.Idx) = ix3 ⟨0, by omega⟩ ⟨t.val * 256 + (y 1 : ℕ), by omega⟩ (y 2) := by
      blk_ext [idx t]
    refine ((congrArg _ ey).trans ?_).trans (congrArg _ e).symm
    refine (pay6_at (iblk m c 0 t) (iblk m c 1 t) (iblk m c 2 t) (iblk m c 3 t) (iblk m c 4 t) (y 0) (y 1) (y 2)).trans ?_
    refine Eq.trans (congrArg dl ?_) (Cert.RefAdamFfnIdeal.Hand.ref6_new (m ((c : Thread nD τ).loc main_arg0)) (m ((c : Thread nD τ).loc main_arg1)) (m ((c : Thread nD τ).loc main_arg2)) (m ((c : Thread nD τ).loc main_arg3)) (m ((c : Thread nD τ).loc main_arg4)) _ _ _ _ rfl).symm
    refine congrArg₂ Prod.mk (congrArg₂ (· + ·) ?_ ?_) (congrArg₂ Prod.mk ?_ (congrArg₂ Prod.mk ?_ ?_))
    · exact blk0 m c t (y 1) (y 2) _ rfl rfl
    · exact blk1 m c t (y 1) (y 2) _ rfl rfl
    · exact blk2 m c t (y 1) (y 2) _ rfl rfl rfl
    · exact blk3 m c t (y 1) (y 2) _ rfl rfl rfl
    · exact blk4 m c t (y 1) (y 2) _ rfl rfl rfl
  · have h1 : 1 ≤ (j 0 : ℕ) := by
      rcases Nat.eq_zero_or_pos (j 0 : ℕ) with h | h
      · exact absurd (show (j 0 : ℕ) / 1 = 0 by rw [Nat.div_one]; exact h) hq
      · exact h
    have ej : j = ix3 (j 0) (j 1) (j 2) := by idx_vars j; rfl
    refine Eq.trans ?_ ((congrArg _ ej).trans (Cert.RefAdamFfnIdeal.Hand.ref6_old (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) _ _ _ h1)).symm
    refine Eq.trans ?_ ((congrFun (entry6 m c) j).trans (congrArg (m ((c : Thread nD τ).loc main_arg6)) ej))
    rfl

/-- The kernel's array of new first moments is the reference's. -/
theorem final7 (c : Dev nD) : (dats m 0 c).arrAt 7 cfg0.N = Cert.RefAdamFfnIdeal.Hand.ref7 (m ((c : Thread nD τ).loc main_arg0)) (m ((c : Thread nD τ).loc main_arg1)) (m ((c : Thread nD τ).loc main_arg3)) (m ((c : Thread nD τ).loc main_arg7)) := by
  refine (dats m 0 c).arrAt_eq_of_coversWhere_of_agree 7 _ (fun β => β (0 : Fin 3) = 0) (by decide +kernel) (fun t hf y => ?_) (fun j hq => ?_)
  · blk_simp
    rw [after0_7, outsAt0]
    frame_out
    have hy1 : (y 1 : ℕ) < 256 := (y 1).isLt
    have hy0 : (y 0 : ℕ) < 1 := (y 0).isLt
    have ht : t.val < 8 := t.isLt
    have ey : y = ix3 (y 0) (y 1) (y 2) := by idx_vars y; rfl
    have e : ((win0_7.blk t).view.emb y : S4x2048x2048.Idx) = ix3 ⟨0, by omega⟩ ⟨t.val * 256 + (y 1 : ℕ), by omega⟩ (y 2) := by
      blk_ext [idx t]
    refine ((congrArg _ ey).trans ?_).trans (congrArg _ e).symm
    refine (pay7_at (iblk m c 0 t) (iblk m c 1 t) (iblk m c 2 t) (iblk m c 3 t) (iblk m c 4 t) (y 0) (y 1) (y 2)).trans ?_
    refine Eq.trans (congrArg nm ?_) (Cert.RefAdamFfnIdeal.Hand.ref7_new (m ((c : Thread nD τ).loc main_arg0)) (m ((c : Thread nD τ).loc main_arg1)) (m ((c : Thread nD τ).loc main_arg2)) (m ((c : Thread nD τ).loc main_arg3)) (m ((c : Thread nD τ).loc main_arg4)) _ _ _ _ rfl).symm
    refine congrArg₂ Prod.mk (congrArg₂ (· + ·) ?_ ?_) (congrArg₂ Prod.mk ?_ (congrArg₂ Prod.mk ?_ ?_))
    · exact blk0 m c t (y 1) (y 2) _ rfl rfl
    · exact blk1 m c t (y 1) (y 2) _ rfl rfl
    · exact blk2 m c t (y 1) (y 2) _ rfl rfl rfl
    · exact blk3 m c t (y 1) (y 2) _ rfl rfl rfl
    · exact blk4 m c t (y 1) (y 2) _ rfl rfl rfl
  · have h1 : 1 ≤ (j 0 : ℕ) := by
      rcases Nat.eq_zero_or_pos (j 0 : ℕ) with h | h
      · exact absurd (show (j 0 : ℕ) / 1 = 0 by rw [Nat.div_one]; exact h) hq
      · exact h
    have ej : j = ix3 (j 0) (j 1) (j 2) := by idx_vars j; rfl
    refine Eq.trans ?_ ((congrArg _ ej).trans (Cert.RefAdamFfnIdeal.Hand.ref7_old (m ((c : Thread nD τ).loc main_arg0)) (m ((c : Thread nD τ).loc main_arg1)) (m ((c : Thread nD τ).loc main_arg3)) (m ((c : Thread nD τ).loc main_arg7)) _ _ _ h1)).symm
    refine Eq.trans ?_ ((congrFun (entry7 m c) j).trans (congrArg (m ((c : Thread nD τ).loc main_arg7)) ej))
    rfl

/-- The kernel's array of new second moments is the reference's. -/
theorem final8 (c : Dev nD) : (dats m 0 c).arrAt 8 cfg0.N = Cert.RefAdamFfnIdeal.Hand.ref8 (m ((c : Thread nD τ).loc main_arg0)) (m ((c : Thread nD τ).loc main_arg1)) (m ((c : Thread nD τ).loc main_arg4)) (m ((c : Thread nD τ).loc main_arg8)) := by
  refine (dats m 0 c).arrAt_eq_of_coversWhere_of_agree 8 _ (fun β => β (0 : Fin 3) = 0) (by decide +kernel) (fun t hf y => ?_) (fun j hq => ?_)
  · blk_simp
    rw [after0_8, outsAt0]
    frame_out
    have hy1 : (y 1 : ℕ) < 256 := (y 1).isLt
    have hy0 : (y 0 : ℕ) < 1 := (y 0).isLt
    have ht : t.val < 8 := t.isLt
    have ey : y = ix3 (y 0) (y 1) (y 2) := by idx_vars y; rfl
    have e : ((win0_8.blk t).view.emb y : S4x2048x2048.Idx) = ix3 ⟨0, by omega⟩ ⟨t.val * 256 + (y 1 : ℕ), by omega⟩ (y 2) := by
      blk_ext [idx t]
    refine ((congrArg _ ey).trans ?_).trans (congrArg _ e).symm
    refine (pay8_at (iblk m c 0 t) (iblk m c 1 t) (iblk m c 2 t) (iblk m c 3 t) (iblk m c 4 t) (y 0) (y 1) (y 2)).trans ?_
    refine Eq.trans (congrArg nv ?_) (Cert.RefAdamFfnIdeal.Hand.ref8_new (m ((c : Thread nD τ).loc main_arg0)) (m ((c : Thread nD τ).loc main_arg1)) (m ((c : Thread nD τ).loc main_arg2)) (m ((c : Thread nD τ).loc main_arg3)) (m ((c : Thread nD τ).loc main_arg4)) _ _ _ _ rfl).symm
    refine congrArg₂ Prod.mk (congrArg₂ (· + ·) ?_ ?_) (congrArg₂ Prod.mk ?_ (congrArg₂ Prod.mk ?_ ?_))
    · exact blk0 m c t (y 1) (y 2) _ rfl rfl
    · exact blk1 m c t (y 1) (y 2) _ rfl rfl
    · exact blk2 m c t (y 1) (y 2) _ rfl rfl rfl
    · exact blk3 m c t (y 1) (y 2) _ rfl rfl rfl
    · exact blk4 m c t (y 1) (y 2) _ rfl rfl rfl
  · have h1 : 1 ≤ (j 0 : ℕ) := by
      rcases Nat.eq_zero_or_pos (j 0 : ℕ) with h | h
      · exact absurd (show (j 0 : ℕ) / 1 = 0 by rw [Nat.div_one]; exact h) hq
      · exact h
    have ej : j = ix3 (j 0) (j 1) (j 2) := by idx_vars j; rfl
    refine Eq.trans ?_ ((congrArg _ ej).trans (Cert.RefAdamFfnIdeal.Hand.ref8_old (m ((c : Thread nD τ).loc main_arg0)) (m ((c : Thread nD τ).loc main_arg1)) (m ((c : Thread nD τ).loc main_arg4)) (m ((c : Thread nD τ).loc main_arg8)) _ _ _ h1)).symm
    refine Eq.trans ?_ ((congrFun (entry8 m c) j).trans (congrArg (m ((c : Thread nD τ).loc main_arg8)) ej))
    rfl

/-- Equal arguments give the reference equal gradients. -/
theorem same5 {P P' : FVec Ideal S2048x2048 .bf16} {Q Q' : FVec Ideal S2048x2048 .bf16} {G0 G0' : FVec Ideal S4x2048x2048 .f32} (h0 : P = P') (h1 : Q = Q') (h5 : G0 = G0') :
    Cert.RefAdamFfnIdeal.Hand.ref5 P Q G0 = Cert.RefAdamFfnIdeal.Hand.ref5 P' Q' G0' := by
  subst h0 h1 h5
  rfl

/-- Equal arguments give the reference equal steps. -/
theorem same6 {P P' : FVec Ideal S2048x2048 .bf16} {Q Q' : FVec Ideal S2048x2048 .bf16} {W W' : FVec Ideal S4x2048x2048 .f32} {M M' : FVec Ideal S4x2048x2048 .f32} {U U' : FVec Ideal S4x2048x2048 .f32} {D0 D0' : FVec Ideal S4x2048x2048 .f32} (h0 : P = P') (h1 : Q = Q') (h2 : W = W') (h3 : M = M') (h4 : U = U') (h6 : D0 = D0') :
    Cert.RefAdamFfnIdeal.Hand.ref6 P Q W M U D0 = Cert.RefAdamFfnIdeal.Hand.ref6 P' Q' W' M' U' D0' := by
  subst h0 h1 h2 h3 h4 h6
  rfl

/-- Equal arguments give the reference equal new first moments. -/
theorem same7 {P P' : FVec Ideal S2048x2048 .bf16} {Q Q' : FVec Ideal S2048x2048 .bf16} {M M' : FVec Ideal S4x2048x2048 .f32} {M0 M0' : FVec Ideal S4x2048x2048 .f32} (h0 : P = P') (h1 : Q = Q') (h3 : M = M') (h7 : M0 = M0') :
    Cert.RefAdamFfnIdeal.Hand.ref7 P Q M M0 = Cert.RefAdamFfnIdeal.Hand.ref7 P' Q' M' M0' := by
  subst h0 h1 h3 h7
  rfl

/-- Equal arguments give the reference equal new second moments. -/
theorem same8 {P P' : FVec Ideal S2048x2048 .bf16} {Q Q' : FVec Ideal S2048x2048 .bf16} {U U' : FVec Ideal S4x2048x2048 .f32} {U0 U0' : FVec Ideal S4x2048x2048 .f32} (h0 : P = P') (h1 : Q = Q') (h4 : U = U') (h8 : U0 = U0') :
    Cert.RefAdamFfnIdeal.Hand.ref8 P Q U U0 = Cert.RefAdamFfnIdeal.Hand.ref8 P' Q' U' U0' := by
  subst h0 h1 h4 h8
  rfl

end Cert.AdamFfnIdeal.Hand

set_option maxHeartbeats 1000000 in
open Idealize.ShloMosaic Idealize.ShloMosaic.TcCoe in
/-- From equal arguments the kernel and the reference end with equal results. -/
theorem Cert.AdamFfnIdeal.Hand.algebraic : Cert.algebraic_AdamFfnIdeal_RefAdamFfnIdeal
    (hAdamFfnIdeal := Cert.AdamFfnIdeal.Gen.facts) (hRefAdamFfnIdeal := Cert.RefAdamFfnIdeal.Gen.facts) := by
  pair_intro
  · run_from Cert.AdamFfnIdeal.Value.run_blocks m g
  · run_from Cert.RefAdamFfnIdeal.Value.run m' g'
    · have e : Cert.RefAdamFfnIdeal.Hand.ref5 (m ((c : Thread Cert.AdamFfnIdeal.nD Cert.AdamFfnIdeal.τ).loc Cert.AdamFfnIdeal.main_arg0)) (m ((c : Thread Cert.AdamFfnIdeal.nD Cert.AdamFfnIdeal.τ).loc Cert.AdamFfnIdeal.main_arg1)) (m' ((c : Thread Cert.RefAdamFfnIdeal.nD Cert.RefAdamFfnIdeal.τ).loc Cert.RefAdamFfnIdeal.main_arg5)) = Cert.RefAdamFfnIdeal.Hand.ref5 (m ((c : Thread Cert.AdamFfnIdeal.nD Cert.AdamFfnIdeal.τ).loc Cert.AdamFfnIdeal.main_arg0)) (m ((c : Thread Cert.AdamFfnIdeal.nD Cert.AdamFfnIdeal.τ).loc Cert.AdamFfnIdeal.main_arg1)) (m ((c : Thread Cert.AdamFfnIdeal.nD Cert.AdamFfnIdeal.τ).loc Cert.AdamFfnIdeal.main_arg5)) :=
        Cert.AdamFfnIdeal.Hand.same5 rfl rfl ((hagree c).2.2.2.2.2.1)
      exact e.trans (Cert.AdamFfnIdeal.Hand.final5 m c).symm
    · have e : Cert.RefAdamFfnIdeal.Hand.ref6 (m ((c : Thread Cert.AdamFfnIdeal.nD Cert.AdamFfnIdeal.τ).loc Cert.AdamFfnIdeal.main_arg0)) (m ((c : Thread Cert.AdamFfnIdeal.nD Cert.AdamFfnIdeal.τ).loc Cert.AdamFfnIdeal.main_arg1)) (m ((c : Thread Cert.AdamFfnIdeal.nD Cert.AdamFfnIdeal.τ).loc Cert.AdamFfnIdeal.main_arg2)) (m ((c : Thread Cert.AdamFfnIdeal.nD Cert.AdamFfnIdeal.τ).loc Cert.AdamFfnIdeal.main_arg3)) (m' ((c : Thread Cert.RefAdamFfnIdeal.nD Cert.RefAdamFfnIdeal.τ).loc Cert.RefAdamFfnIdeal.main_arg4)) (m' ((c : Thread Cert.RefAdamFfnIdeal.nD Cert.RefAdamFfnIdeal.τ).loc Cert.RefAdamFfnIdeal.main_arg6)) = Cert.RefAdamFfnIdeal.Hand.ref6 (m ((c : Thread Cert.AdamFfnIdeal.nD Cert.AdamFfnIdeal.τ).loc Cert.AdamFfnIdeal.main_arg0)) (m ((c : Thread Cert.AdamFfnIdeal.nD Cert.AdamFfnIdeal.τ).loc Cert.AdamFfnIdeal.main_arg1)) (m ((c : Thread Cert.AdamFfnIdeal.nD Cert.AdamFfnIdeal.τ).loc Cert.AdamFfnIdeal.main_arg2)) (m ((c : Thread Cert.AdamFfnIdeal.nD Cert.AdamFfnIdeal.τ).loc Cert.AdamFfnIdeal.main_arg3)) (m ((c : Thread Cert.AdamFfnIdeal.nD Cert.AdamFfnIdeal.τ).loc Cert.AdamFfnIdeal.main_arg4)) (m ((c : Thread Cert.AdamFfnIdeal.nD Cert.AdamFfnIdeal.τ).loc Cert.AdamFfnIdeal.main_arg6)) :=
        Cert.AdamFfnIdeal.Hand.same6 rfl rfl rfl rfl ((hagree c).2.2.2.2.1) ((hagree c).2.2.2.2.2.2.1)
      exact e.trans (Cert.AdamFfnIdeal.Hand.final6 m c).symm
    · have e : Cert.RefAdamFfnIdeal.Hand.ref7 (m ((c : Thread Cert.AdamFfnIdeal.nD Cert.AdamFfnIdeal.τ).loc Cert.AdamFfnIdeal.main_arg0)) (m ((c : Thread Cert.AdamFfnIdeal.nD Cert.AdamFfnIdeal.τ).loc Cert.AdamFfnIdeal.main_arg1)) (m' ((c : Thread Cert.RefAdamFfnIdeal.nD Cert.RefAdamFfnIdeal.τ).loc Cert.RefAdamFfnIdeal.main_arg3)) (m' ((c : Thread Cert.RefAdamFfnIdeal.nD Cert.RefAdamFfnIdeal.τ).loc Cert.RefAdamFfnIdeal.main_arg7)) = Cert.RefAdamFfnIdeal.Hand.ref7 (m ((c : Thread Cert.AdamFfnIdeal.nD Cert.AdamFfnIdeal.τ).loc Cert.AdamFfnIdeal.main_arg0)) (m ((c : Thread Cert.AdamFfnIdeal.nD Cert.AdamFfnIdeal.τ).loc Cert.AdamFfnIdeal.main_arg1)) (m ((c : Thread Cert.AdamFfnIdeal.nD Cert.AdamFfnIdeal.τ).loc Cert.AdamFfnIdeal.main_arg3)) (m ((c : Thread Cert.AdamFfnIdeal.nD Cert.AdamFfnIdeal.τ).loc Cert.AdamFfnIdeal.main_arg7)) :=
        Cert.AdamFfnIdeal.Hand.same7 rfl rfl ((hagree c).2.2.2.1) ((hagree c).2.2.2.2.2.2.2.1)
      exact e.trans (Cert.AdamFfnIdeal.Hand.final7 m c).symm
    · have e : Cert.RefAdamFfnIdeal.Hand.ref8 (m ((c : Thread Cert.AdamFfnIdeal.nD Cert.AdamFfnIdeal.τ).loc Cert.AdamFfnIdeal.main_arg0)) (m ((c : Thread Cert.AdamFfnIdeal.nD Cert.AdamFfnIdeal.τ).loc Cert.AdamFfnIdeal.main_arg1)) (m' ((c : Thread Cert.RefAdamFfnIdeal.nD Cert.RefAdamFfnIdeal.τ).loc Cert.RefAdamFfnIdeal.main_arg4)) (m' ((c : Thread Cert.RefAdamFfnIdeal.nD Cert.RefAdamFfnIdeal.τ).loc Cert.RefAdamFfnIdeal.main_arg8)) = Cert.RefAdamFfnIdeal.Hand.ref8 (m ((c : Thread Cert.AdamFfnIdeal.nD Cert.AdamFfnIdeal.τ).loc Cert.AdamFfnIdeal.main_arg0)) (m ((c : Thread Cert.AdamFfnIdeal.nD Cert.AdamFfnIdeal.τ).loc Cert.AdamFfnIdeal.main_arg1)) (m ((c : Thread Cert.AdamFfnIdeal.nD Cert.AdamFfnIdeal.τ).loc Cert.AdamFfnIdeal.main_arg4)) (m ((c : Thread Cert.AdamFfnIdeal.nD Cert.AdamFfnIdeal.τ).loc Cert.AdamFfnIdeal.main_arg8)) :=
        Cert.AdamFfnIdeal.Hand.same8 rfl rfl ((hagree c).2.2.2.2.1) ((hagree c).2.2.2.2.2.2.2.2)
      exact e.trans (Cert.AdamFfnIdeal.Hand.final8 m c).symm

end
-- ==== Proof.AdamGrp.lean ====
module

public import proofs.«01_k».proof.Proof.Gen.AdamGrpIdeal.Value
public import proofs.«01_k».proof.Proof.Gen.RefAdamGrpIdeal.Run
public import proofs.«01_k».proof.Defs
public import Idealize.ShloMosaic.Lib.Pipeline.ValueKit
public import Idealize.ShloMosaic.Lib.Tactic
public import Idealize.ShloMosaic.Lib.Pointwise
public import proofs.«01_k».proof.Proof.Adam

/-! The update of a large weight: the kernel's four arrays are the reference's. -/

@[expose] public section

set_option maxRecDepth 16384

noncomputable section

namespace Cert.RefAdamGrpIdeal.Hand

open Idealize.ShloMosaic Idealize.ShloMosaic.TcCoe Idealize.SL.Sem
open Idealize.ShloMosaic.Pipeline (Dat)
open Cert.RefAdamGrpIdeal Cert.RefAdamGrpIdeal.Gen Cert.Adam

/-- The gradient, the weight and the moments of an element of the layer that is updated. -/
abbrev four (P Q : FVec Ideal S512x512 .bf16) (W M U : FVec Ideal S2x4x128x512 .f32) (a : Fin 512) (b : Fin 512) : Four :=
  (P (ix2 a b) + Q (ix2 a b), W (ix4 0 ⟨(a : ℕ) / 128, by omega⟩ ⟨(a : ℕ) % 128, by omega⟩ b), M (ix4 0 ⟨(a : ℕ) / 128, by omega⟩ ⟨(a : ℕ) % 128, by omega⟩ b), U (ix4 0 ⟨(a : ℕ) / 128, by omega⟩ ⟨(a : ℕ) % 128, by omega⟩ b))

/-- The reference's gradients: its layer's first, the rest as given. -/
def ref5 (P Q : FVec Ideal S512x512 .bf16) (G0 : FVec Ideal S2x512x512 .f32) : FVec Ideal S2x512x512 .f32 :=
  concatenate S2x512x512 0 [⟨S1x512x512, (broadcastInDim S1x512x512 ![1, 2] bcast_S512x512_S1x512x512_1_2 (addf (extf .f32 P bitsLt_bf16_f32) (extf .f32 Q bitsLt_bf16_f32)))⟩, ⟨S1x512x512, (extractStridedSlice S1x512x512 ![1, 0, 0] G0 slices_S2x512x512_S1x512x512_1_0_0)⟩] concatenates_S1x512x512_S1x512x512_S2x512x512_d0

/-- The reference's gradients in the updated layer. -/
theorem ref5_new (P Q : FVec Ideal S512x512 .bf16) (W M U : FVec Ideal S2x4x128x512 .f32) (G0 : FVec Ideal S2x512x512 .f32) (z : Fin 2) (a : Fin 512) (b : Fin 512) (h : (z : ℕ) = 0) :
    ref5 P Q G0 (ix3 z a b) = gr (four P Q W M U a b) := by
  have hc : (z : ℕ) < 1 := by omega
  pointwise [ref5]
  refine (dif_pos hc).trans ?_
  pointwise! [four, gr, dl, nm, nv]

/-- The reference's gradients in the other layers. -/
theorem ref5_old (P Q : FVec Ideal S512x512 .bf16) (G0 : FVec Ideal S2x512x512 .f32) (z : Fin 2) (a : Fin 512) (b : Fin 512) (h : 1 ≤ (z : ℕ)) :
    ref5 P Q G0 (ix3 z a b) = G0 (ix3 z a b) := by
  have hc : ¬ (z : ℕ) < 1 := by omega
  pointwise [ref5]
  refine (dif_neg hc).trans ?_
  pointwise
  try blk_ext

/-- The reference's steps: its layer's first, the rest as given. -/
def ref6 (P Q : FVec Ideal S512x512 .bf16) (W M U : FVec Ideal S2x4x128x512 .f32) (D0 : FVec Ideal S2x512x512 .f32) : FVec Ideal S2x512x512 .f32 :=
  concatenate S2x512x512 0 [⟨S1x512x512, (broadcastInDim S1x512x512 ![1, 2] bcast_S512x512_S1x512x512_1_2 (mulf (broadcastInDim S512x512 ![] bcast_S_S512x512 (constant S_ .f32 0xBA83126F#32)) (addf (Host.divf (Host.divf (addf (mulf (broadcastInDim S512x512 ![] bcast_S_S512x512 (constant S_ .f32 0x3F666666#32)) (shapeCast _ (shapeCast _ (extractStridedSlice S1x4x128x512 ![0, 0, 0, 0] M slices_S2x4x128x512_S1x4x128x512_0_0_0_0) shapeCasts_S1x4x128x512_S4x128x512) shapeCasts_S4x128x512_S512x512)) (mulf (broadcastInDim S512x512 ![] bcast_S_S512x512 (constant S_ .f32 0x3DCCCCCD#32)) (addf (extf .f32 P bitsLt_bf16_f32) (extf .f32 Q bitsLt_bf16_f32)))) (broadcastInDim S512x512 ![] bcast_S_S512x512 (constant S_ .f32 0x3F26BD02#32))) (addf (Host.sqrt (Host.divf (addf (mulf (broadcastInDim S512x512 ![] bcast_S_S512x512 (constant S_ .f32 0x3F7FBE77#32)) (shapeCast _ (shapeCast _ (extractStridedSlice S1x4x128x512 ![0, 0, 0, 0] U slices_S2x4x128x512_S1x4x128x512_0_0_0_0) shapeCasts_S1x4x128x512_S4x128x512) shapeCasts_S4x128x512_S512x512)) (mulf (broadcastInDim S512x512 ![] bcast_S_S512x512 (constant S_ .f32 0x3A83126F#32)) (mulf (addf (extf .f32 P bitsLt_bf16_f32) (extf .f32 Q bitsLt_bf16_f32)) (addf (extf .f32 P bitsLt_bf16_f32) (extf .f32 Q bitsLt_bf16_f32))))) (broadcastInDim S512x512 ![] bcast_S_S512x512 (constant S_ .f32 0x3C231ACC#32)))) (broadcastInDim S512x512 ![] bcast_S_S512x512 (constant S_ .f32 0x322BCC77#32)))) (mulf (broadcastInDim S512x512 ![] bcast_S_S512x512 (constant S_ .f32 0x3C23D70A#32)) (shapeCast _ (shapeCast _ (extractStridedSlice S1x4x128x512 ![0, 0, 0, 0] W slices_S2x4x128x512_S1x4x128x512_0_0_0_0) shapeCasts_S1x4x128x512_S4x128x512) shapeCasts_S4x128x512_S512x512)))))⟩, ⟨S1x512x512, (extractStridedSlice S1x512x512 ![1, 0, 0] D0 slices_S2x512x512_S1x512x512_1_0_0)⟩] concatenates_S1x512x512_S1x512x512_S2x512x512_d0

/-- The reference's steps in the updated layer. -/
theorem ref6_new (P Q : FVec Ideal S512x512 .bf16) (W M U : FVec Ideal S2x4x128x512 .f32) (D0 : FVec Ideal S2x512x512 .f32) (z : Fin 2) (a : Fin 512) (b : Fin 512) (h : (z : ℕ) = 0) :
    ref6 P Q W M U D0 (ix3 z a b) = dl (four P Q W M U a b) := by
  have hc : (z : ℕ) < 1 := by omega
  pointwise [ref6]
  refine (dif_pos hc).trans ?_
  pointwise! [four, gr, dl, nm, nv]

/-- The reference's steps in the other layers. -/
theorem ref6_old (P Q : FVec Ideal S512x512 .bf16) (W M U : FVec Ideal S2x4x128x512 .f32) (D0 : FVec Ideal S2x512x512 .f32) (z : Fin 2) (a : Fin 512) (b : Fin 512) (h : 1 ≤ (z : ℕ)) :
    ref6 P Q W M U D0 (ix3 z a b) = D0 (ix3 z a b) := by
  have hc : ¬ (z : ℕ) < 1 := by omega
  pointwise [ref6]
  refine (dif_neg hc).trans ?_
  pointwise
  try blk_ext

/-- The reference's new first moments: its layer's first, the rest as given. -/
def ref7 (P Q : FVec Ideal S512x512 .bf16) (M : FVec Ideal S2x4x128x512 .f32) (M0 : FVec Ideal S2x512x512 .f32) : FVec Ideal S2x512x512 .f32 :=
  concatenate S2x512x512 0 [⟨S1x512x512, (broadcastInDim S1x512x512 ![1, 2] bcast_S512x512_S1x512x512_1_2 (addf (mulf (broadcastInDim S512x512 ![] bcast_S_S512x512 (constant S_ .f32 0x3F666666#32)) (shapeCast _ (shapeCast _ (extractStridedSlice S1x4x128x512 ![0, 0, 0, 0] M slices_S2x4x128x512_S1x4x128x512_0_0_0_0) shapeCasts_S1x4x128x512_S4x128x512) shapeCasts_S4x128x512_S512x512)) (mulf (broadcastInDim S512x512 ![] bcast_S_S512x512 (constant S_ .f32 0x3DCCCCCD#32)) (addf (extf .f32 P bitsLt_bf16_f32) (extf .f32 Q bitsLt_bf16_f32)))))⟩, ⟨S1x512x512, (extractStridedSlice S1x512x512 ![1, 0, 0] M0 slices_S2x512x512_S1x512x512_1_0_0)⟩] concatenates_S1x512x512_S1x512x512_S2x512x512_d0

/-- The reference's new first moments in the updated layer. -/
theorem ref7_new (P Q : FVec Ideal S512x512 .bf16) (W M U : FVec Ideal S2x4x128x512 .f32) (M0 : FVec Ideal S2x512x512 .f32) (z : Fin 2) (a : Fin 512) (b : Fin 512) (h : (z : ℕ) = 0) :
    ref7 P Q M M0 (ix3 z a b) = nm (four P Q W M U a b) := by
  have hc : (z : ℕ) < 1 := by omega
  pointwise [ref7]
  refine (dif_pos hc).trans ?_
  pointwise! [four, gr, dl, nm, nv]

/-- The reference's new first moments in the other layers. -/
theorem ref7_old (P Q : FVec Ideal S512x512 .bf16) (M : FVec Ideal S2x4x128x512 .f32) (M0 : FVec Ideal S2x512x512 .f32) (z : Fin 2) (a : Fin 512) (b : Fin 512) (h : 1 ≤ (z : ℕ)) :
    ref7 P Q M M0 (ix3 z a b) = M0 (ix3 z a b) := by
  have hc : ¬ (z : ℕ) < 1 := by omega
  pointwise [ref7]
  refine (dif_neg hc).trans ?_
  pointwise
  try blk_ext

/-- The reference's new second moments: its layer's first, the rest as given. -/
def ref8 (P Q : FVec Ideal S512x512 .bf16) (U : FVec Ideal S2x4x128x512 .f32) (U0 : FVec Ideal S2x512x512 .f32) : FVec Ideal S2x512x512 .f32 :=
  concatenate S2x512x512 0 [⟨S1x512x512, (broadcastInDim S1x512x512 ![1, 2] bcast_S512x512_S1x512x512_1_2 (addf (mulf (broadcastInDim S512x512 ![] bcast_S_S512x512 (constant S_ .f32 0x3F7FBE77#32)) (shapeCast _ (shapeCast _ (extractStridedSlice S1x4x128x512 ![0, 0, 0, 0] U slices_S2x4x128x512_S1x4x128x512_0_0_0_0) shapeCasts_S1x4x128x512_S4x128x512) shapeCasts_S4x128x512_S512x512)) (mulf (broadcastInDim S512x512 ![] bcast_S_S512x512 (constant S_ .f32 0x3A83126F#32)) (mulf (addf (extf .f32 P bitsLt_bf16_f32) (extf .f32 Q bitsLt_bf16_f32)) (addf (extf .f32 P bitsLt_bf16_f32) (extf .f32 Q bitsLt_bf16_f32))))))⟩, ⟨S1x512x512, (extractStridedSlice S1x512x512 ![1, 0, 0] U0 slices_S2x512x512_S1x512x512_1_0_0)⟩] concatenates_S1x512x512_S1x512x512_S2x512x512_d0

/-- The reference's new second moments in the updated layer. -/
theorem ref8_new (P Q : FVec Ideal S512x512 .bf16) (W M U : FVec Ideal S2x4x128x512 .f32) (U0 : FVec Ideal S2x512x512 .f32) (z : Fin 2) (a : Fin 512) (b : Fin 512) (h : (z : ℕ) = 0) :
    ref8 P Q U U0 (ix3 z a b) = nv (four P Q W M U a b) := by
  have hc : (z : ℕ) < 1 := by omega
  pointwise [ref8]
  refine (dif_pos hc).trans ?_
  pointwise! [four, gr, dl, nm, nv]

/-- The reference's new second moments in the other layers. -/
theorem ref8_old (P Q : FVec Ideal S512x512 .bf16) (U : FVec Ideal S2x4x128x512 .f32) (U0 : FVec Ideal S2x512x512 .f32) (z : Fin 2) (a : Fin 512) (b : Fin 512) (h : 1 ≤ (z : ℕ)) :
    ref8 P Q U U0 (ix3 z a b) = U0 (ix3 z a b) := by
  have hc : ¬ (z : ℕ) < 1 := by omega
  pointwise [ref8]
  refine (dif_neg hc).trans ?_
  pointwise
  try blk_ext

end Cert.RefAdamGrpIdeal.Hand

namespace Cert.AdamGrpIdeal.Hand

open Idealize.ShloMosaic Idealize.ShloMosaic.TcCoe Idealize.SL.Sem
open Idealize.ShloMosaic.Pipeline (Dat)
open Cert.AdamGrpIdeal Cert.AdamGrpIdeal.Gen Cert.Adam

variable (m : (ℓ : Loc nD τ sig) → Buf (Elt Ideal) ℓ)

/-- Every window's block index at a grid point. -/
theorem idx : ∀ t : Fin cfg0.N, win0_0.index t = ![t.val, 0]
    ∧ win0_1.index t = ![t.val, 0]
    ∧ win0_2.index t = ![0, t.val, 0]
    ∧ win0_3.index t = ![0, t.val, 0]
    ∧ win0_4.index t = ![0, t.val, 0]
    ∧ win0_5.index t = ![0, t.val, 0]
    ∧ win0_6.index t = ![0, t.val, 0]
    ∧ win0_7.index t = ![0, t.val, 0]
    ∧ win0_8.index t = ![0, t.val, 0] :=
  (by decide +kernel : ∀ t : Fin grid0.N, _)

/-- What the body leaves of an element: the gradient, the weight and the moments it read. -/
abbrev four (P Q : FVec Ideal S256x512 .bf16) (W M U : FVec Ideal S1x256x512 .f32) (a : Fin 256) (b : Fin 512) : Four :=
  (P (ix2 a b) + Q (ix2 a b), W (ix3 0 a b), M (ix3 0 a b), U (ix3 0 a b))

/-- What the body stores as the gradients. -/
theorem pay5_at (P Q : FVec Ideal S256x512 .bf16) (W M U : FVec Ideal S1x256x512 .f32) (z : Fin 1) (a : Fin 256) (b : Fin 512) :
    k0_pay5 (F := Ideal) P Q (ix3 z a b) = gr (four P Q W M U a b) := by
  pointwise! [k0_pay1, k0_pay2, k0_pay3, k0_pay4, k0_pay5, k0_pay6, k0_pay7, k0_pay8, k0_pay9, k0_pay10, gr, dl, nm, nv]

/-- What the body stores as the steps. -/
theorem pay6_at (P Q : FVec Ideal S256x512 .bf16) (W M U : FVec Ideal S1x256x512 .f32) (z : Fin 1) (a : Fin 256) (b : Fin 512) :
    k0_pay1 (F := Ideal) (k0_pay6 W) (k0_pay9 P Q M U) k0_pay10 (ix3 z a b) = dl (four P Q W M U a b) := by
  pointwise! [k0_pay1, k0_pay2, k0_pay3, k0_pay4, k0_pay5, k0_pay6, k0_pay7, k0_pay8, k0_pay9, k0_pay10, gr, dl, nm, nv]

/-- What the body stores as the new first moments. -/
theorem pay7_at (P Q : FVec Ideal S256x512 .bf16) (W M U : FVec Ideal S1x256x512 .f32) (z : Fin 1) (a : Fin 256) (b : Fin 512) :
    k0_pay2 (F := Ideal) (k0_pay7 P Q M) (ix3 z a b) = nm (four P Q W M U a b) := by
  pointwise! [k0_pay1, k0_pay2, k0_pay3, k0_pay4, k0_pay5, k0_pay6, k0_pay7, k0_pay8, k0_pay9, k0_pay10, gr, dl, nm, nv]

/-- What the body stores as the new second moments. -/
theorem pay8_at (P Q : FVec Ideal S256x512 .bf16) (W M U : FVec Ideal S1x256x512 .f32) (z : Fin 1) (a : Fin 256) (b : Fin 512) :
    k0_pay3 (F := Ideal) (k0_pay8 P Q U) (ix3 z a b) = nv (four P Q W M U a b) := by
  pointwise! [k0_pay1, k0_pay2, k0_pay3, k0_pay4, k0_pay5, k0_pay6, k0_pay7, k0_pay8, k0_pay9, k0_pay10, gr, dl, nm, nv]

/-- A block of a partial gradient, read in the array. -/
theorem blk0 (c : Dev nD) (t : Fin cfg0.N) (q : Fin 256) (k : Fin 512) (i : S512x512.Idx)
    (h0 : (i 0 : ℕ) = t.val * 256 + q) (h1 : (i 1 : ℕ) = k) :
    iblk m c 0 t (ix2 q k) = m ((c : Thread nD τ).loc main_arg0) i := by
  rw [← V_main_arg0 m c]
  blk_ext [iblk, idx t]

/-- A block of a partial gradient, read in the array. -/
theorem blk1 (c : Dev nD) (t : Fin cfg0.N) (q : Fin 256) (k : Fin 512) (i : S512x512.Idx)
    (h0 : (i 0 : ℕ) = t.val * 256 + q) (h1 : (i 1 : ℕ) = k) :
    iblk m c 1 t (ix2 q k) = m ((c : Thread nD τ).loc main_arg1) i := by
  rw [← V_main_arg1 m c]
  blk_ext [iblk, idx t]

/-- The groups' rows one under another, at an index. -/
theorem flat_at (X : FVec Ideal S2x4x128x512 .f32) (a : Fin 512) (b : Fin 512) (i : S2x4x128x512.Idx)
    (hz : (i 0 : ℕ) = 0) (h0 : (i 1 : ℕ) * 128 + i 2 = a) (h1 : (i 3 : ℕ) = b) :
    shapeCast S2x512x512 X shapeCasts_S2x4x128x512_S2x512x512 (ix3 0 a b) = X i := by
  have hk : (i 2 : ℕ) < 128 := (i 2).isLt
  pointwise
  blk_ext

/-- The array with its groups' rows one under another, as the region finds it. -/
theorem flat2 (c : Dev nD) : V m c main_v0 = shapeCast S2x512x512 (m ((c : Thread nD τ).loc main_arg2)) shapeCasts_S2x4x128x512_S2x512x512 := by
  unfold V
  after_results <;> rfl

/-- A block of the weight or of a moment, read in the array. -/
theorem blk2 (c : Dev nD) (t : Fin cfg0.N) (q : Fin 256) (k : Fin 512) (i : S2x4x128x512.Idx)
    (hz : (i 0 : ℕ) = 0) (h0 : (i 1 : ℕ) * 128 + i 2 = t.val * 256 + q) (h1 : (i 3 : ℕ) = k) :
    iblk m c 2 t (ix3 0 q k) = m ((c : Thread nD τ).loc main_arg2) i := by
  have hk : (i 2 : ℕ) < 128 := (i 2).isLt
  have ht : t.val < 2 := t.isLt
  have hq : (q : ℕ) < 256 := q.isLt
  rw [← flat_at (m ((c : Thread nD τ).loc main_arg2)) ⟨t.val * 256 + q, by omega⟩ k i hz (by dsimp only; omega) h1, ← flat2]
  blk_ext [iblk, idx t]

/-- The array with its groups' rows one under another, as the region finds it. -/
theorem flat3 (c : Dev nD) : V m c main_v1 = shapeCast S2x512x512 (m ((c : Thread nD τ).loc main_arg3)) shapeCasts_S2x4x128x512_S2x512x512 := by
  unfold V
  after_results <;> rfl

/-- A block of the weight or of a moment, read in the array. -/
theorem blk3 (c : Dev nD) (t : Fin cfg0.N) (q : Fin 256) (k : Fin 512) (i : S2x4x128x512.Idx)
    (hz : (i 0 : ℕ) = 0) (h0 : (i 1 : ℕ) * 128 + i 2 = t.val * 256 + q) (h1 : (i 3 : ℕ) = k) :
    iblk m c 3 t (ix3 0 q k) = m ((c : Thread nD τ).loc main_arg3) i := by
  have hk : (i 2 : ℕ) < 128 := (i 2).isLt
  have ht : t.val < 2 := t.isLt
  have hq : (q : ℕ) < 256 := q.isLt
  rw [← flat_at (m ((c : Thread nD τ).loc main_arg3)) ⟨t.val * 256 + q, by omega⟩ k i hz (by dsimp only; omega) h1, ← flat3]
  blk_ext [iblk, idx t]

/-- The array with its groups' rows one under another, as the region finds it. -/
theorem flat4 (c : Dev nD) : V m c main_v2 = shapeCast S2x512x512 (m ((c : Thread nD τ).loc main_arg4)) shapeCasts_S2x4x128x512_S2x512x512 := by
  unfold V
  after_results <;> rfl

/-- A block of the weight or of a moment, read in the array. -/
theorem blk4 (c : Dev nD) (t : Fin cfg0.N) (q : Fin 256) (k : Fin 512) (i : S2x4x128x512.Idx)
    (hz : (i 0 : ℕ) = 0) (h0 : (i 1 : ℕ) * 128 + i 2 = t.val * 256 + q) (h1 : (i 3 : ℕ) = k) :
    iblk m c 4 t (ix3 0 q k) = m ((c : Thread nD τ).loc main_arg4) i := by
  have hk : (i 2 : ℕ) < 128 := (i 2).isLt
  have ht : t.val < 2 := t.isLt
  have hq : (q : ℕ) < 256 := q.isLt
  rw [← flat_at (m ((c : Thread nD τ).loc main_arg4)) ⟨t.val * 256 + q, by omega⟩ k i hz (by dsimp only; omega) h1, ← flat4]
  blk_ext [iblk, idx t]

/-- The array written into, as the region finds it. -/
theorem entry5 (c : Dev nD) : V m c main_v3_0 = m ((c : Thread nD τ).loc main_arg5) := by
  unfold V
  after_results <;> rfl

/-- The array written into, as the region finds it. -/
theorem entry6 (c : Dev nD) : V m c main_v3_1 = m ((c : Thread nD τ).loc main_arg6) := by
  unfold V
  after_results <;> rfl

/-- The array written into, as the region finds it. -/
theorem entry7 (c : Dev nD) : V m c main_v3_2 = m ((c : Thread nD τ).loc main_arg7) := by
  unfold V
  after_results <;> rfl

/-- The array written into, as the region finds it. -/
theorem entry8 (c : Dev nD) : V m c main_v3_3 = m ((c : Thread nD τ).loc main_arg8) := by
  unfold V
  after_results <;> rfl

/-- The kernel's array of gradients is the reference's. -/
theorem final5 (c : Dev nD) : (dats m 0 c).arrAt 5 cfg0.N = Cert.RefAdamGrpIdeal.Hand.ref5 (m ((c : Thread nD τ).loc main_arg0)) (m ((c : Thread nD τ).loc main_arg1)) (m ((c : Thread nD τ).loc main_arg5)) := by
  refine (dats m 0 c).arrAt_eq_of_coversWhere_of_agree 5 _ (fun β => β (0 : Fin 3) = 0) (by decide +kernel) (fun t hf y => ?_) (fun j hq => ?_)
  · blk_simp
    rw [after0_5, outsAt0]
    frame_out
    have hy1 : (y 1 : ℕ) < 256 := (y 1).isLt
    have hy0 : (y 0 : ℕ) < 1 := (y 0).isLt
    have ht : t.val < 2 := t.isLt
    have ey : y = ix3 (y 0) (y 1) (y 2) := by idx_vars y; rfl
    have e : ((win0_5.blk t).view.emb y : S2x512x512.Idx) = ix3 ⟨0, by omega⟩ ⟨t.val * 256 + (y 1 : ℕ), by omega⟩ (y 2) := by
      blk_ext [idx t]
    refine ((congrArg _ ey).trans ?_).trans (congrArg _ e).symm
    refine (pay5_at (iblk m c 0 t) (iblk m c 1 t) (iblk m c 2 t) (iblk m c 3 t) (iblk m c 4 t) (y 0) (y 1) (y 2)).trans ?_
    refine Eq.trans (congrArg gr ?_) (Cert.RefAdamGrpIdeal.Hand.ref5_new (m ((c : Thread nD τ).loc main_arg0)) (m ((c : Thread nD τ).loc main_arg1)) (m ((c : Thread nD τ).loc main_arg2)) (m ((c : Thread nD τ).loc main_arg3)) (m ((c : Thread nD τ).loc main_arg4)) _ _ _ _ rfl).symm
    refine congrArg₂ Prod.mk (congrArg₂ (· + ·) ?_ ?_) (congrArg₂ Prod.mk ?_ (congrArg₂ Prod.mk ?_ ?_))
    · exact blk0 m c t (y 1) (y 2) _ rfl rfl
    · exact blk1 m c t (y 1) (y 2) _ rfl rfl
    · exact blk2 m c t (y 1) (y 2) _ rfl (Nat.div_add_mod' _ _) rfl
    · exact blk3 m c t (y 1) (y 2) _ rfl (Nat.div_add_mod' _ _) rfl
    · exact blk4 m c t (y 1) (y 2) _ rfl (Nat.div_add_mod' _ _) rfl
  · have h1 : 1 ≤ (j 0 : ℕ) := by
      rcases Nat.eq_zero_or_pos (j 0 : ℕ) with h | h
      · exact absurd (show (j 0 : ℕ) / 1 = 0 by rw [Nat.div_one]; exact h) hq
      · exact h
    have ej : j = ix3 (j 0) (j 1) (j 2) := by idx_vars j; rfl
    refine Eq.trans ?_ ((congrArg _ ej).trans (Cert.RefAdamGrpIdeal.Hand.ref5_old (m ((c : Thread nD τ).loc main_arg0)) (m ((c : Thread nD τ).loc main_arg1)) (m ((c : Thread nD τ).loc main_arg5)) _ _ _ h1)).symm
    refine Eq.trans ?_ ((congrFun (entry5 m c) j).trans (congrArg (m ((c : Thread nD τ).loc main_arg5)) ej))
    rfl

/-- The kernel's array of steps is the reference's. -/
theorem final6 (c : Dev nD) : (dats m 0 c).arrAt 6 cfg0.N = Cert.RefAdamGrpIdeal.Hand.ref6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) := by
  refine (dats m 0 c).arrAt_eq_of_coversWhere_of_agree 6 _ (fun β => β (0 : Fin 3) = 0) (by decide +kernel) (fun t hf y => ?_) (fun j hq => ?_)
  · blk_simp
    rw [after0_6, outsAt0]
    frame_out
    have hy1 : (y 1 : ℕ) < 256 := (y 1).isLt
    have hy0 : (y 0 : ℕ) < 1 := (y 0).isLt
    have ht : t.val < 2 := t.isLt
    have ey : y = ix3 (y 0) (y 1) (y 2) := by idx_vars y; rfl
    have e : ((win0_6.blk t).view.emb y : S2x512x512.Idx) = ix3 ⟨0, by omega⟩ ⟨t.val * 256 + (y 1 : ℕ), by omega⟩ (y 2) := by
      blk_ext [idx t]
    refine ((congrArg _ ey).trans ?_).trans (congrArg _ e).symm
    refine (pay6_at (iblk m c 0 t) (iblk m c 1 t) (iblk m c 2 t) (iblk m c 3 t) (iblk m c 4 t) (y 0) (y 1) (y 2)).trans ?_
    refine Eq.trans (congrArg dl ?_) (Cert.RefAdamGrpIdeal.Hand.ref6_new (m ((c : Thread nD τ).loc main_arg0)) (m ((c : Thread nD τ).loc main_arg1)) (m ((c : Thread nD τ).loc main_arg2)) (m ((c : Thread nD τ).loc main_arg3)) (m ((c : Thread nD τ).loc main_arg4)) _ _ _ _ rfl).symm
    refine congrArg₂ Prod.mk (congrArg₂ (· + ·) ?_ ?_) (congrArg₂ Prod.mk ?_ (congrArg₂ Prod.mk ?_ ?_))
    · exact blk0 m c t (y 1) (y 2) _ rfl rfl
    · exact blk1 m c t (y 1) (y 2) _ rfl rfl
    · exact blk2 m c t (y 1) (y 2) _ rfl (Nat.div_add_mod' _ _) rfl
    · exact blk3 m c t (y 1) (y 2) _ rfl (Nat.div_add_mod' _ _) rfl
    · exact blk4 m c t (y 1) (y 2) _ rfl (Nat.div_add_mod' _ _) rfl
  · have h1 : 1 ≤ (j 0 : ℕ) := by
      rcases Nat.eq_zero_or_pos (j 0 : ℕ) with h | h
      · exact absurd (show (j 0 : ℕ) / 1 = 0 by rw [Nat.div_one]; exact h) hq
      · exact h
    have ej : j = ix3 (j 0) (j 1) (j 2) := by idx_vars j; rfl
    refine Eq.trans ?_ ((congrArg _ ej).trans (Cert.RefAdamGrpIdeal.Hand.ref6_old (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) _ _ _ h1)).symm
    refine Eq.trans ?_ ((congrFun (entry6 m c) j).trans (congrArg (m ((c : Thread nD τ).loc main_arg6)) ej))
    rfl

/-- The kernel's array of new first moments is the reference's. -/
theorem final7 (c : Dev nD) : (dats m 0 c).arrAt 7 cfg0.N = Cert.RefAdamGrpIdeal.Hand.ref7 (m ((c : Thread nD τ).loc main_arg0)) (m ((c : Thread nD τ).loc main_arg1)) (m ((c : Thread nD τ).loc main_arg3)) (m ((c : Thread nD τ).loc main_arg7)) := by
  refine (dats m 0 c).arrAt_eq_of_coversWhere_of_agree 7 _ (fun β => β (0 : Fin 3) = 0) (by decide +kernel) (fun t hf y => ?_) (fun j hq => ?_)
  · blk_simp
    rw [after0_7, outsAt0]
    frame_out
    have hy1 : (y 1 : ℕ) < 256 := (y 1).isLt
    have hy0 : (y 0 : ℕ) < 1 := (y 0).isLt
    have ht : t.val < 2 := t.isLt
    have ey : y = ix3 (y 0) (y 1) (y 2) := by idx_vars y; rfl
    have e : ((win0_7.blk t).view.emb y : S2x512x512.Idx) = ix3 ⟨0, by omega⟩ ⟨t.val * 256 + (y 1 : ℕ), by omega⟩ (y 2) := by
      blk_ext [idx t]
    refine ((congrArg _ ey).trans ?_).trans (congrArg _ e).symm
    refine (pay7_at (iblk m c 0 t) (iblk m c 1 t) (iblk m c 2 t) (iblk m c 3 t) (iblk m c 4 t) (y 0) (y 1) (y 2)).trans ?_
    refine Eq.trans (congrArg nm ?_) (Cert.RefAdamGrpIdeal.Hand.ref7_new (m ((c : Thread nD τ).loc main_arg0)) (m ((c : Thread nD τ).loc main_arg1)) (m ((c : Thread nD τ).loc main_arg2)) (m ((c : Thread nD τ).loc main_arg3)) (m ((c : Thread nD τ).loc main_arg4)) _ _ _ _ rfl).symm
    refine congrArg₂ Prod.mk (congrArg₂ (· + ·) ?_ ?_) (congrArg₂ Prod.mk ?_ (congrArg₂ Prod.mk ?_ ?_))
    · exact blk0 m c t (y 1) (y 2) _ rfl rfl
    · exact blk1 m c t (y 1) (y 2) _ rfl rfl
    · exact blk2 m c t (y 1) (y 2) _ rfl (Nat.div_add_mod' _ _) rfl
    · exact blk3 m c t (y 1) (y 2) _ rfl (Nat.div_add_mod' _ _) rfl
    · exact blk4 m c t (y 1) (y 2) _ rfl (Nat.div_add_mod' _ _) rfl
  · have h1 : 1 ≤ (j 0 : ℕ) := by
      rcases Nat.eq_zero_or_pos (j 0 : ℕ) with h | h
      · exact absurd (show (j 0 : ℕ) / 1 = 0 by rw [Nat.div_one]; exact h) hq
      · exact h
    have ej : j = ix3 (j 0) (j 1) (j 2) := by idx_vars j; rfl
    refine Eq.trans ?_ ((congrArg _ ej).trans (Cert.RefAdamGrpIdeal.Hand.ref7_old (m ((c : Thread nD τ).loc main_arg0)) (m ((c : Thread nD τ).loc main_arg1)) (m ((c : Thread nD τ).loc main_arg3)) (m ((c : Thread nD τ).loc main_arg7)) _ _ _ h1)).symm
    refine Eq.trans ?_ ((congrFun (entry7 m c) j).trans (congrArg (m ((c : Thread nD τ).loc main_arg7)) ej))
    rfl

/-- The kernel's array of new second moments is the reference's. -/
theorem final8 (c : Dev nD) : (dats m 0 c).arrAt 8 cfg0.N = Cert.RefAdamGrpIdeal.Hand.ref8 (m ((c : Thread nD τ).loc main_arg0)) (m ((c : Thread nD τ).loc main_arg1)) (m ((c : Thread nD τ).loc main_arg4)) (m ((c : Thread nD τ).loc main_arg8)) := by
  refine (dats m 0 c).arrAt_eq_of_coversWhere_of_agree 8 _ (fun β => β (0 : Fin 3) = 0) (by decide +kernel) (fun t hf y => ?_) (fun j hq => ?_)
  · blk_simp
    rw [after0_8, outsAt0]
    frame_out
    have hy1 : (y 1 : ℕ) < 256 := (y 1).isLt
    have hy0 : (y 0 : ℕ) < 1 := (y 0).isLt
    have ht : t.val < 2 := t.isLt
    have ey : y = ix3 (y 0) (y 1) (y 2) := by idx_vars y; rfl
    have e : ((win0_8.blk t).view.emb y : S2x512x512.Idx) = ix3 ⟨0, by omega⟩ ⟨t.val * 256 + (y 1 : ℕ), by omega⟩ (y 2) := by
      blk_ext [idx t]
    refine ((congrArg _ ey).trans ?_).trans (congrArg _ e).symm
    refine (pay8_at (iblk m c 0 t) (iblk m c 1 t) (iblk m c 2 t) (iblk m c 3 t) (iblk m c 4 t) (y 0) (y 1) (y 2)).trans ?_
    refine Eq.trans (congrArg nv ?_) (Cert.RefAdamGrpIdeal.Hand.ref8_new (m ((c : Thread nD τ).loc main_arg0)) (m ((c : Thread nD τ).loc main_arg1)) (m ((c : Thread nD τ).loc main_arg2)) (m ((c : Thread nD τ).loc main_arg3)) (m ((c : Thread nD τ).loc main_arg4)) _ _ _ _ rfl).symm
    refine congrArg₂ Prod.mk (congrArg₂ (· + ·) ?_ ?_) (congrArg₂ Prod.mk ?_ (congrArg₂ Prod.mk ?_ ?_))
    · exact blk0 m c t (y 1) (y 2) _ rfl rfl
    · exact blk1 m c t (y 1) (y 2) _ rfl rfl
    · exact blk2 m c t (y 1) (y 2) _ rfl (Nat.div_add_mod' _ _) rfl
    · exact blk3 m c t (y 1) (y 2) _ rfl (Nat.div_add_mod' _ _) rfl
    · exact blk4 m c t (y 1) (y 2) _ rfl (Nat.div_add_mod' _ _) rfl
  · have h1 : 1 ≤ (j 0 : ℕ) := by
      rcases Nat.eq_zero_or_pos (j 0 : ℕ) with h | h
      · exact absurd (show (j 0 : ℕ) / 1 = 0 by rw [Nat.div_one]; exact h) hq
      · exact h
    have ej : j = ix3 (j 0) (j 1) (j 2) := by idx_vars j; rfl
    refine Eq.trans ?_ ((congrArg _ ej).trans (Cert.RefAdamGrpIdeal.Hand.ref8_old (m ((c : Thread nD τ).loc main_arg0)) (m ((c : Thread nD τ).loc main_arg1)) (m ((c : Thread nD τ).loc main_arg4)) (m ((c : Thread nD τ).loc main_arg8)) _ _ _ h1)).symm
    refine Eq.trans ?_ ((congrFun (entry8 m c) j).trans (congrArg (m ((c : Thread nD τ).loc main_arg8)) ej))
    rfl

/-- Equal arguments give the reference equal gradients. -/
theorem same5 {P P' : FVec Ideal S512x512 .bf16} {Q Q' : FVec Ideal S512x512 .bf16} {G0 G0' : FVec Ideal S2x512x512 .f32} (h0 : P = P') (h1 : Q = Q') (h5 : G0 = G0') :
    Cert.RefAdamGrpIdeal.Hand.ref5 P Q G0 = Cert.RefAdamGrpIdeal.Hand.ref5 P' Q' G0' := by
  subst h0 h1 h5
  rfl

/-- Equal arguments give the reference equal steps. -/
theorem same6 {P P' : FVec Ideal S512x512 .bf16} {Q Q' : FVec Ideal S512x512 .bf16} {W W' : FVec Ideal S2x4x128x512 .f32} {M M' : FVec Ideal S2x4x128x512 .f32} {U U' : FVec Ideal S2x4x128x512 .f32} {D0 D0' : FVec Ideal S2x512x512 .f32} (h0 : P = P') (h1 : Q = Q') (h2 : W = W') (h3 : M = M') (h4 : U = U') (h6 : D0 = D0') :
    Cert.RefAdamGrpIdeal.Hand.ref6 P Q W M U D0 = Cert.RefAdamGrpIdeal.Hand.ref6 P' Q' W' M' U' D0' := by
  subst h0 h1 h2 h3 h4 h6
  rfl

/-- Equal arguments give the reference equal new first moments. -/
theorem same7 {P P' : FVec Ideal S512x512 .bf16} {Q Q' : FVec Ideal S512x512 .bf16} {M M' : FVec Ideal S2x4x128x512 .f32} {M0 M0' : FVec Ideal S2x512x512 .f32} (h0 : P = P') (h1 : Q = Q') (h3 : M = M') (h7 : M0 = M0') :
    Cert.RefAdamGrpIdeal.Hand.ref7 P Q M M0 = Cert.RefAdamGrpIdeal.Hand.ref7 P' Q' M' M0' := by
  subst h0 h1 h3 h7
  rfl

/-- Equal arguments give the reference equal new second moments. -/
theorem same8 {P P' : FVec Ideal S512x512 .bf16} {Q Q' : FVec Ideal S512x512 .bf16} {U U' : FVec Ideal S2x4x128x512 .f32} {U0 U0' : FVec Ideal S2x512x512 .f32} (h0 : P = P') (h1 : Q = Q') (h4 : U = U') (h8 : U0 = U0') :
    Cert.RefAdamGrpIdeal.Hand.ref8 P Q U U0 = Cert.RefAdamGrpIdeal.Hand.ref8 P' Q' U' U0' := by
  subst h0 h1 h4 h8
  rfl

end Cert.AdamGrpIdeal.Hand

set_option maxHeartbeats 1000000 in
open Idealize.ShloMosaic Idealize.ShloMosaic.TcCoe in
/-- From equal arguments the kernel and the reference end with equal results. -/
theorem Cert.AdamGrpIdeal.Hand.algebraic : Cert.algebraic_AdamGrpIdeal_RefAdamGrpIdeal
    (hAdamGrpIdeal := Cert.AdamGrpIdeal.Gen.facts) (hRefAdamGrpIdeal := Cert.RefAdamGrpIdeal.Gen.facts) := by
  pair_intro
  · run_from Cert.AdamGrpIdeal.Value.run_blocks m g
  · run_from Cert.RefAdamGrpIdeal.Value.run m' g'
    · have e : Cert.RefAdamGrpIdeal.Hand.ref5 (m ((c : Thread Cert.AdamGrpIdeal.nD Cert.AdamGrpIdeal.τ).loc Cert.AdamGrpIdeal.main_arg0)) (m ((c : Thread Cert.AdamGrpIdeal.nD Cert.AdamGrpIdeal.τ).loc Cert.AdamGrpIdeal.main_arg1)) (m' ((c : Thread Cert.RefAdamGrpIdeal.nD Cert.RefAdamGrpIdeal.τ).loc Cert.RefAdamGrpIdeal.main_arg5)) = Cert.RefAdamGrpIdeal.Hand.ref5 (m ((c : Thread Cert.AdamGrpIdeal.nD Cert.AdamGrpIdeal.τ).loc Cert.AdamGrpIdeal.main_arg0)) (m ((c : Thread Cert.AdamGrpIdeal.nD Cert.AdamGrpIdeal.τ).loc Cert.AdamGrpIdeal.main_arg1)) (m ((c : Thread Cert.AdamGrpIdeal.nD Cert.AdamGrpIdeal.τ).loc Cert.AdamGrpIdeal.main_arg5)) :=
        Cert.AdamGrpIdeal.Hand.same5 rfl rfl ((hagree c).2.2.2.2.2.1)
      exact e.trans (Cert.AdamGrpIdeal.Hand.final5 m c).symm
    · have e : Cert.RefAdamGrpIdeal.Hand.ref6 (m ((c : Thread Cert.AdamGrpIdeal.nD Cert.AdamGrpIdeal.τ).loc Cert.AdamGrpIdeal.main_arg0)) (m ((c : Thread Cert.AdamGrpIdeal.nD Cert.AdamGrpIdeal.τ).loc Cert.AdamGrpIdeal.main_arg1)) (m ((c : Thread Cert.AdamGrpIdeal.nD Cert.AdamGrpIdeal.τ).loc Cert.AdamGrpIdeal.main_arg2)) (m ((c : Thread Cert.AdamGrpIdeal.nD Cert.AdamGrpIdeal.τ).loc Cert.AdamGrpIdeal.main_arg3)) (m' ((c : Thread Cert.RefAdamGrpIdeal.nD Cert.RefAdamGrpIdeal.τ).loc Cert.RefAdamGrpIdeal.main_arg4)) (m' ((c : Thread Cert.RefAdamGrpIdeal.nD Cert.RefAdamGrpIdeal.τ).loc Cert.RefAdamGrpIdeal.main_arg6)) = Cert.RefAdamGrpIdeal.Hand.ref6 (m ((c : Thread Cert.AdamGrpIdeal.nD Cert.AdamGrpIdeal.τ).loc Cert.AdamGrpIdeal.main_arg0)) (m ((c : Thread Cert.AdamGrpIdeal.nD Cert.AdamGrpIdeal.τ).loc Cert.AdamGrpIdeal.main_arg1)) (m ((c : Thread Cert.AdamGrpIdeal.nD Cert.AdamGrpIdeal.τ).loc Cert.AdamGrpIdeal.main_arg2)) (m ((c : Thread Cert.AdamGrpIdeal.nD Cert.AdamGrpIdeal.τ).loc Cert.AdamGrpIdeal.main_arg3)) (m ((c : Thread Cert.AdamGrpIdeal.nD Cert.AdamGrpIdeal.τ).loc Cert.AdamGrpIdeal.main_arg4)) (m ((c : Thread Cert.AdamGrpIdeal.nD Cert.AdamGrpIdeal.τ).loc Cert.AdamGrpIdeal.main_arg6)) :=
        Cert.AdamGrpIdeal.Hand.same6 rfl rfl rfl rfl ((hagree c).2.2.2.2.1) ((hagree c).2.2.2.2.2.2.1)
      exact e.trans (Cert.AdamGrpIdeal.Hand.final6 m c).symm
    · have e : Cert.RefAdamGrpIdeal.Hand.ref7 (m ((c : Thread Cert.AdamGrpIdeal.nD Cert.AdamGrpIdeal.τ).loc Cert.AdamGrpIdeal.main_arg0)) (m ((c : Thread Cert.AdamGrpIdeal.nD Cert.AdamGrpIdeal.τ).loc Cert.AdamGrpIdeal.main_arg1)) (m' ((c : Thread Cert.RefAdamGrpIdeal.nD Cert.RefAdamGrpIdeal.τ).loc Cert.RefAdamGrpIdeal.main_arg3)) (m' ((c : Thread Cert.RefAdamGrpIdeal.nD Cert.RefAdamGrpIdeal.τ).loc Cert.RefAdamGrpIdeal.main_arg7)) = Cert.RefAdamGrpIdeal.Hand.ref7 (m ((c : Thread Cert.AdamGrpIdeal.nD Cert.AdamGrpIdeal.τ).loc Cert.AdamGrpIdeal.main_arg0)) (m ((c : Thread Cert.AdamGrpIdeal.nD Cert.AdamGrpIdeal.τ).loc Cert.AdamGrpIdeal.main_arg1)) (m ((c : Thread Cert.AdamGrpIdeal.nD Cert.AdamGrpIdeal.τ).loc Cert.AdamGrpIdeal.main_arg3)) (m ((c : Thread Cert.AdamGrpIdeal.nD Cert.AdamGrpIdeal.τ).loc Cert.AdamGrpIdeal.main_arg7)) :=
        Cert.AdamGrpIdeal.Hand.same7 rfl rfl ((hagree c).2.2.2.1) ((hagree c).2.2.2.2.2.2.2.1)
      exact e.trans (Cert.AdamGrpIdeal.Hand.final7 m c).symm
    · have e : Cert.RefAdamGrpIdeal.Hand.ref8 (m ((c : Thread Cert.AdamGrpIdeal.nD Cert.AdamGrpIdeal.τ).loc Cert.AdamGrpIdeal.main_arg0)) (m ((c : Thread Cert.AdamGrpIdeal.nD Cert.AdamGrpIdeal.τ).loc Cert.AdamGrpIdeal.main_arg1)) (m' ((c : Thread Cert.RefAdamGrpIdeal.nD Cert.RefAdamGrpIdeal.τ).loc Cert.RefAdamGrpIdeal.main_arg4)) (m' ((c : Thread Cert.RefAdamGrpIdeal.nD Cert.RefAdamGrpIdeal.τ).loc Cert.RefAdamGrpIdeal.main_arg8)) = Cert.RefAdamGrpIdeal.Hand.ref8 (m ((c : Thread Cert.AdamGrpIdeal.nD Cert.AdamGrpIdeal.τ).loc Cert.AdamGrpIdeal.main_arg0)) (m ((c : Thread Cert.AdamGrpIdeal.nD Cert.AdamGrpIdeal.τ).loc Cert.AdamGrpIdeal.main_arg1)) (m ((c : Thread Cert.AdamGrpIdeal.nD Cert.AdamGrpIdeal.τ).loc Cert.AdamGrpIdeal.main_arg4)) (m ((c : Thread Cert.AdamGrpIdeal.nD Cert.AdamGrpIdeal.τ).loc Cert.AdamGrpIdeal.main_arg8)) :=
        Cert.AdamGrpIdeal.Hand.same8 rfl rfl ((hagree c).2.2.2.2.1) ((hagree c).2.2.2.2.2.2.2.2)
      exact e.trans (Cert.AdamGrpIdeal.Hand.final8 m c).symm

end
-- ==== Proof.AdamIn.lean ====
module

public import proofs.«01_k».proof.Proof.Gen.AdamInIdeal.Value
public import proofs.«01_k».proof.Proof.Gen.RefAdamInIdeal.Run
public import proofs.«01_k».proof.Defs
public import Idealize.ShloMosaic.Lib.Pipeline.ValueKit
public import Idealize.ShloMosaic.Lib.Tactic
public import Idealize.ShloMosaic.Lib.Pointwise
public import proofs.«01_k».proof.Proof.Adam

/-! The update of a large weight: the kernel's four arrays are the reference's. -/

@[expose] public section

set_option maxRecDepth 16384

noncomputable section

namespace Cert.RefAdamInIdeal.Hand

open Idealize.ShloMosaic Idealize.ShloMosaic.TcCoe Idealize.SL.Sem
open Idealize.ShloMosaic.Pipeline (Dat)
open Cert.RefAdamInIdeal Cert.RefAdamInIdeal.Gen Cert.Adam

/-- The gradient, the weight and the moments of an element of the layer that is updated. -/
abbrev four (P Q : FVec Ideal S2048x1792 .bf16) (W M U : FVec Ideal S2x2048x1792 .f32) (a : Fin 2048) (b : Fin 1792) : Four :=
  (P (ix2 a b) + Q (ix2 a b), W (ix3 0 a b), M (ix3 0 a b), U (ix3 0 a b))

/-- The reference's gradients: its layer's first, the rest as given. -/
def ref5 (P Q : FVec Ideal S2048x1792 .bf16) (G0 : FVec Ideal S2x2048x1792 .f32) : FVec Ideal S2x2048x1792 .f32 :=
  concatenate S2x2048x1792 0 [⟨S1x2048x1792, (broadcastInDim S1x2048x1792 ![1, 2] bcast_S2048x1792_S1x2048x1792_1_2 (addf (extf .f32 P bitsLt_bf16_f32) (extf .f32 Q bitsLt_bf16_f32)))⟩, ⟨S1x2048x1792, (extractStridedSlice S1x2048x1792 ![1, 0, 0] G0 slices_S2x2048x1792_S1x2048x1792_1_0_0)⟩] concatenates_S1x2048x1792_S1x2048x1792_S2x2048x1792_d0

/-- The reference's gradients in the updated layer. -/
theorem ref5_new (P Q : FVec Ideal S2048x1792 .bf16) (W M U : FVec Ideal S2x2048x1792 .f32) (G0 : FVec Ideal S2x2048x1792 .f32) (z : Fin 2) (a : Fin 2048) (b : Fin 1792) (h : (z : ℕ) = 0) :
    ref5 P Q G0 (ix3 z a b) = gr (four P Q W M U a b) := by
  have hc : (z : ℕ) < 1 := by omega
  pointwise [ref5]
  refine (dif_pos hc).trans ?_
  pointwise! [four, gr, dl, nm, nv]

/-- The reference's gradients in the other layers. -/
theorem ref5_old (P Q : FVec Ideal S2048x1792 .bf16) (G0 : FVec Ideal S2x2048x1792 .f32) (z : Fin 2) (a : Fin 2048) (b : Fin 1792) (h : 1 ≤ (z : ℕ)) :
    ref5 P Q G0 (ix3 z a b) = G0 (ix3 z a b) := by
  have hc : ¬ (z : ℕ) < 1 := by omega
  pointwise [ref5]
  refine (dif_neg hc).trans ?_
  pointwise
  try blk_ext

/-- The reference's steps: its layer's first, the rest as given. -/
def ref6 (P Q : FVec Ideal S2048x1792 .bf16) (W M U : FVec Ideal S2x2048x1792 .f32) (D0 : FVec Ideal S2x2048x1792 .f32) : FVec Ideal S2x2048x1792 .f32 :=
  concatenate S2x2048x1792 0 [⟨S1x2048x1792, (broadcastInDim S1x2048x1792 ![1, 2] bcast_S2048x1792_S1x2048x1792_1_2 (mulf (broadcastInDim S2048x1792 ![] bcast_S_S2048x1792 (constant S_ .f32 0xBA83126F#32)) (addf (Host.divf (Host.divf (addf (mulf (broadcastInDim S2048x1792 ![] bcast_S_S2048x1792 (constant S_ .f32 0x3F666666#32)) (shapeCast _ (extractStridedSlice S1x2048x1792 ![0, 0, 0] M slices_S2x2048x1792_S1x2048x1792_0_0_0) shapeCasts_S1x2048x1792_S2048x1792)) (mulf (broadcastInDim S2048x1792 ![] bcast_S_S2048x1792 (constant S_ .f32 0x3DCCCCCD#32)) (addf (extf .f32 P bitsLt_bf16_f32) (extf .f32 Q bitsLt_bf16_f32)))) (broadcastInDim S2048x1792 ![] bcast_S_S2048x1792 (constant S_ .f32 0x3F26BD02#32))) (addf (Host.sqrt (Host.divf (addf (mulf (broadcastInDim S2048x1792 ![] bcast_S_S2048x1792 (constant S_ .f32 0x3F7FBE77#32)) (shapeCast _ (extractStridedSlice S1x2048x1792 ![0, 0, 0] U slices_S2x2048x1792_S1x2048x1792_0_0_0) shapeCasts_S1x2048x1792_S2048x1792)) (mulf (broadcastInDim S2048x1792 ![] bcast_S_S2048x1792 (constant S_ .f32 0x3A83126F#32)) (mulf (addf (extf .f32 P bitsLt_bf16_f32) (extf .f32 Q bitsLt_bf16_f32)) (addf (extf .f32 P bitsLt_bf16_f32) (extf .f32 Q bitsLt_bf16_f32))))) (broadcastInDim S2048x1792 ![] bcast_S_S2048x1792 (constant S_ .f32 0x3C231ACC#32)))) (broadcastInDim S2048x1792 ![] bcast_S_S2048x1792 (constant S_ .f32 0x322BCC77#32)))) (mulf (broadcastInDim S2048x1792 ![] bcast_S_S2048x1792 (constant S_ .f32 0x3C23D70A#32)) (shapeCast _ (extractStridedSlice S1x2048x1792 ![0, 0, 0] W slices_S2x2048x1792_S1x2048x1792_0_0_0) shapeCasts_S1x2048x1792_S2048x1792)))))⟩, ⟨S1x2048x1792, (extractStridedSlice S1x2048x1792 ![1, 0, 0] D0 slices_S2x2048x1792_S1x2048x1792_1_0_0)⟩] concatenates_S1x2048x1792_S1x2048x1792_S2x2048x1792_d0

/-- The reference's steps in the updated layer. -/
theorem ref6_new (P Q : FVec Ideal S2048x1792 .bf16) (W M U : FVec Ideal S2x2048x1792 .f32) (D0 : FVec Ideal S2x2048x1792 .f32) (z : Fin 2) (a : Fin 2048) (b : Fin 1792) (h : (z : ℕ) = 0) :
    ref6 P Q W M U D0 (ix3 z a b) = dl (four P Q W M U a b) := by
  have hc : (z : ℕ) < 1 := by omega
  pointwise [ref6]
  refine (dif_pos hc).trans ?_
  pointwise! [four, gr, dl, nm, nv]

/-- The reference's steps in the other layers. -/
theorem ref6_old (P Q : FVec Ideal S2048x1792 .bf16) (W M U : FVec Ideal S2x2048x1792 .f32) (D0 : FVec Ideal S2x2048x1792 .f32) (z : Fin 2) (a : Fin 2048) (b : Fin 1792) (h : 1 ≤ (z : ℕ)) :
    ref6 P Q W M U D0 (ix3 z a b) = D0 (ix3 z a b) := by
  have hc : ¬ (z : ℕ) < 1 := by omega
  pointwise [ref6]
  refine (dif_neg hc).trans ?_
  pointwise
  try blk_ext

/-- The reference's new first moments: its layer's first, the rest as given. -/
def ref7 (P Q : FVec Ideal S2048x1792 .bf16) (M : FVec Ideal S2x2048x1792 .f32) (M0 : FVec Ideal S2x2048x1792 .f32) : FVec Ideal S2x2048x1792 .f32 :=
  concatenate S2x2048x1792 0 [⟨S1x2048x1792, (broadcastInDim S1x2048x1792 ![1, 2] bcast_S2048x1792_S1x2048x1792_1_2 (addf (mulf (broadcastInDim S2048x1792 ![] bcast_S_S2048x1792 (constant S_ .f32 0x3F666666#32)) (shapeCast _ (extractStridedSlice S1x2048x1792 ![0, 0, 0] M slices_S2x2048x1792_S1x2048x1792_0_0_0) shapeCasts_S1x2048x1792_S2048x1792)) (mulf (broadcastInDim S2048x1792 ![] bcast_S_S2048x1792 (constant S_ .f32 0x3DCCCCCD#32)) (addf (extf .f32 P bitsLt_bf16_f32) (extf .f32 Q bitsLt_bf16_f32)))))⟩, ⟨S1x2048x1792, (extractStridedSlice S1x2048x1792 ![1, 0, 0] M0 slices_S2x2048x1792_S1x2048x1792_1_0_0)⟩] concatenates_S1x2048x1792_S1x2048x1792_S2x2048x1792_d0

/-- The reference's new first moments in the updated layer. -/
theorem ref7_new (P Q : FVec Ideal S2048x1792 .bf16) (W M U : FVec Ideal S2x2048x1792 .f32) (M0 : FVec Ideal S2x2048x1792 .f32) (z : Fin 2) (a : Fin 2048) (b : Fin 1792) (h : (z : ℕ) = 0) :
    ref7 P Q M M0 (ix3 z a b) = nm (four P Q W M U a b) := by
  have hc : (z : ℕ) < 1 := by omega
  pointwise [ref7]
  refine (dif_pos hc).trans ?_
  pointwise! [four, gr, dl, nm, nv]

/-- The reference's new first moments in the other layers. -/
theorem ref7_old (P Q : FVec Ideal S2048x1792 .bf16) (M : FVec Ideal S2x2048x1792 .f32) (M0 : FVec Ideal S2x2048x1792 .f32) (z : Fin 2) (a : Fin 2048) (b : Fin 1792) (h : 1 ≤ (z : ℕ)) :
    ref7 P Q M M0 (ix3 z a b) = M0 (ix3 z a b) := by
  have hc : ¬ (z : ℕ) < 1 := by omega
  pointwise [ref7]
  refine (dif_neg hc).trans ?_
  pointwise
  try blk_ext

/-- The reference's new second moments: its layer's first, the rest as given. -/
def ref8 (P Q : FVec Ideal S2048x1792 .bf16) (U : FVec Ideal S2x2048x1792 .f32) (U0 : FVec Ideal S2x2048x1792 .f32) : FVec Ideal S2x2048x1792 .f32 :=
  concatenate S2x2048x1792 0 [⟨S1x2048x1792, (broadcastInDim S1x2048x1792 ![1, 2] bcast_S2048x1792_S1x2048x1792_1_2 (addf (mulf (broadcastInDim S2048x1792 ![] bcast_S_S2048x1792 (constant S_ .f32 0x3F7FBE77#32)) (shapeCast _ (extractStridedSlice S1x2048x1792 ![0, 0, 0] U slices_S2x2048x1792_S1x2048x1792_0_0_0) shapeCasts_S1x2048x1792_S2048x1792)) (mulf (broadcastInDim S2048x1792 ![] bcast_S_S2048x1792 (constant S_ .f32 0x3A83126F#32)) (mulf (addf (extf .f32 P bitsLt_bf16_f32) (extf .f32 Q bitsLt_bf16_f32)) (addf (extf .f32 P bitsLt_bf16_f32) (extf .f32 Q bitsLt_bf16_f32))))))⟩, ⟨S1x2048x1792, (extractStridedSlice S1x2048x1792 ![1, 0, 0] U0 slices_S2x2048x1792_S1x2048x1792_1_0_0)⟩] concatenates_S1x2048x1792_S1x2048x1792_S2x2048x1792_d0

/-- The reference's new second moments in the updated layer. -/
theorem ref8_new (P Q : FVec Ideal S2048x1792 .bf16) (W M U : FVec Ideal S2x2048x1792 .f32) (U0 : FVec Ideal S2x2048x1792 .f32) (z : Fin 2) (a : Fin 2048) (b : Fin 1792) (h : (z : ℕ) = 0) :
    ref8 P Q U U0 (ix3 z a b) = nv (four P Q W M U a b) := by
  have hc : (z : ℕ) < 1 := by omega
  pointwise [ref8]
  refine (dif_pos hc).trans ?_
  pointwise! [four, gr, dl, nm, nv]

/-- The reference's new second moments in the other layers. -/
theorem ref8_old (P Q : FVec Ideal S2048x1792 .bf16) (U : FVec Ideal S2x2048x1792 .f32) (U0 : FVec Ideal S2x2048x1792 .f32) (z : Fin 2) (a : Fin 2048) (b : Fin 1792) (h : 1 ≤ (z : ℕ)) :
    ref8 P Q U U0 (ix3 z a b) = U0 (ix3 z a b) := by
  have hc : ¬ (z : ℕ) < 1 := by omega
  pointwise [ref8]
  refine (dif_neg hc).trans ?_
  pointwise
  try blk_ext

end Cert.RefAdamInIdeal.Hand

namespace Cert.AdamInIdeal.Hand

open Idealize.ShloMosaic Idealize.ShloMosaic.TcCoe Idealize.SL.Sem
open Idealize.ShloMosaic.Pipeline (Dat)
open Cert.AdamInIdeal Cert.AdamInIdeal.Gen Cert.Adam

variable (m : (ℓ : Loc nD τ sig) → Buf (Elt Ideal) ℓ)

/-- Every window's block index at a grid point. -/
theorem idx : ∀ t : Fin cfg0.N, win0_0.index t = ![t.val, 0]
    ∧ win0_1.index t = ![t.val, 0]
    ∧ win0_2.index t = ![0, t.val, 0]
    ∧ win0_3.index t = ![0, t.val, 0]
    ∧ win0_4.index t = ![0, t.val, 0]
    ∧ win0_5.index t = ![0, t.val, 0]
    ∧ win0_6.index t = ![0, t.val, 0]
    ∧ win0_7.index t = ![0, t.val, 0]
    ∧ win0_8.index t = ![0, t.val, 0] :=
  (by decide +kernel : ∀ t : Fin grid0.N, _)

/-- What the body leaves of an element: the gradient, the weight and the moments it read. -/
abbrev four (P Q : FVec Ideal S256x1792 .bf16) (W M U : FVec Ideal S1x256x1792 .f32) (a : Fin 256) (b : Fin 1792) : Four :=
  (P (ix2 a b) + Q (ix2 a b), W (ix3 0 a b), M (ix3 0 a b), U (ix3 0 a b))

/-- What the body stores as the gradients. -/
theorem pay5_at (P Q : FVec Ideal S256x1792 .bf16) (W M U : FVec Ideal S1x256x1792 .f32) (z : Fin 1) (a : Fin 256) (b : Fin 1792) :
    k0_pay5 (F := Ideal) P Q (ix3 z a b) = gr (four P Q W M U a b) := by
  pointwise! [k0_pay1, k0_pay2, k0_pay3, k0_pay4, k0_pay5, k0_pay6, k0_pay7, k0_pay8, k0_pay9, k0_pay10, gr, dl, nm, nv]

/-- What the body stores as the steps. -/
theorem pay6_at (P Q : FVec Ideal S256x1792 .bf16) (W M U : FVec Ideal S1x256x1792 .f32) (z : Fin 1) (a : Fin 256) (b : Fin 1792) :
    k0_pay1 (F := Ideal) (k0_pay6 W) (k0_pay9 P Q M U) k0_pay10 (ix3 z a b) = dl (four P Q W M U a b) := by
  pointwise! [k0_pay1, k0_pay2, k0_pay3, k0_pay4, k0_pay5, k0_pay6, k0_pay7, k0_pay8, k0_pay9, k0_pay10, gr, dl, nm, nv]

/-- What the body stores as the new first moments. -/
theorem pay7_at (P Q : FVec Ideal S256x1792 .bf16) (W M U : FVec Ideal S1x256x1792 .f32) (z : Fin 1) (a : Fin 256) (b : Fin 1792) :
    k0_pay2 (F := Ideal) (k0_pay7 P Q M) (ix3 z a b) = nm (four P Q W M U a b) := by
  pointwise! [k0_pay1, k0_pay2, k0_pay3, k0_pay4, k0_pay5, k0_pay6, k0_pay7, k0_pay8, k0_pay9, k0_pay10, gr, dl, nm, nv]

/-- What the body stores as the new second moments. -/
theorem pay8_at (P Q : FVec Ideal S256x1792 .bf16) (W M U : FVec Ideal S1x256x1792 .f32) (z : Fin 1) (a : Fin 256) (b : Fin 1792) :
    k0_pay3 (F := Ideal) (k0_pay8 P Q U) (ix3 z a b) = nv (four P Q W M U a b) := by
  pointwise! [k0_pay1, k0_pay2, k0_pay3, k0_pay4, k0_pay5, k0_pay6, k0_pay7, k0_pay8, k0_pay9, k0_pay10, gr, dl, nm, nv]

/-- A block of a partial gradient, read in the array. -/
theorem blk0 (c : Dev nD) (t : Fin cfg0.N) (q : Fin 256) (k : Fin 1792) (i : S2048x1792.Idx)
    (h0 : (i 0 : ℕ) = t.val * 256 + q) (h1 : (i 1 : ℕ) = k) :
    iblk m c 0 t (ix2 q k) = m ((c : Thread nD τ).loc main_arg0) i := by
  rw [← V_main_arg0 m c]
  blk_ext [iblk, idx t]

/-- A block of a partial gradient, read in the array. -/
theorem blk1 (c : Dev nD) (t : Fin cfg0.N) (q : Fin 256) (k : Fin 1792) (i : S2048x1792.Idx)
    (h0 : (i 0 : ℕ) = t.val * 256 + q) (h1 : (i 1 : ℕ) = k) :
    iblk m c 1 t (ix2 q k) = m ((c : Thread nD τ).loc main_arg1) i := by
  rw [← V_main_arg1 m c]
  blk_ext [iblk, idx t]

/-- A block of the weight or of a moment, read in the array. -/
theorem blk2 (c : Dev nD) (t : Fin cfg0.N) (q : Fin 256) (k : Fin 1792) (i : S2x2048x1792.Idx)
    (hz : (i 0 : ℕ) = 0) (h0 : (i 1 : ℕ) = t.val * 256 + q) (h1 : (i 2 : ℕ) = k) :
    iblk m c 2 t (ix3 0 q k) = m ((c : Thread nD τ).loc main_arg2) i := by
  rw [← V_main_arg2 m c]
  blk_ext [iblk, idx t]

/-- A block of the weight or of a moment, read in the array. -/
theorem blk3 (c : Dev nD) (t : Fin cfg0.N) (q : Fin 256) (k : Fin 1792) (i : S2x2048x1792.Idx)
    (hz : (i 0 : ℕ) = 0) (h0 : (i 1 : ℕ) = t.val * 256 + q) (h1 : (i 2 : ℕ) = k) :
    iblk m c 3 t (ix3 0 q k) = m ((c : Thread nD τ).loc main_arg3) i := by
  rw [← V_main_arg3 m c]
  blk_ext [iblk, idx t]

/-- A block of the weight or of a moment, read in the array. -/
theorem blk4 (c : Dev nD) (t : Fin cfg0.N) (q : Fin 256) (k : Fin 1792) (i : S2x2048x1792.Idx)
    (hz : (i 0 : ℕ) = 0) (h0 : (i 1 : ℕ) = t.val * 256 + q) (h1 : (i 2 : ℕ) = k) :
    iblk m c 4 t (ix3 0 q k) = m ((c : Thread nD τ).loc main_arg4) i := by
  rw [← V_main_arg4 m c]
  blk_ext [iblk, idx t]

/-- The array written into, as the region finds it. -/
theorem entry5 (c : Dev nD) : V m c main_v0_0 = m ((c : Thread nD τ).loc main_arg5) := by
  unfold V
  after_results <;> rfl

/-- The array written into, as the region finds it. -/
theorem entry6 (c : Dev nD) : V m c main_v0_1 = m ((c : Thread nD τ).loc main_arg6) := by
  unfold V
  after_results <;> rfl

/-- The array written into, as the region finds it. -/
theorem entry7 (c : Dev nD) : V m c main_v0_2 = m ((c : Thread nD τ).loc main_arg7) := by
  unfold V
  after_results <;> rfl

/-- The array written into, as the region finds it. -/
theorem entry8 (c : Dev nD) : V m c main_v0_3 = m ((c : Thread nD τ).loc main_arg8) := by
  unfold V
  after_results <;> rfl

/-- The kernel's array of gradients is the reference's. -/
theorem final5 (c : Dev nD) : (dats m 0 c).arrAt 5 cfg0.N = Cert.RefAdamInIdeal.Hand.ref5 (m ((c : Thread nD τ).loc main_arg0)) (m ((c : Thread nD τ).loc main_arg1)) (m ((c : Thread nD τ).loc main_arg5)) := by
  refine (dats m 0 c).arrAt_eq_of_coversWhere_of_agree 5 _ (fun β => β (0 : Fin 3) = 0) (by decide +kernel) (fun t hf y => ?_) (fun j hq => ?_)
  · blk_simp
    rw [after0_5, outsAt0]
    frame_out
    have hy1 : (y 1 : ℕ) < 256 := (y 1).isLt
    have hy0 : (y 0 : ℕ) < 1 := (y 0).isLt
    have ht : t.val < 8 := t.isLt
    have ey : y = ix3 (y 0) (y 1) (y 2) := by idx_vars y; rfl
    have e : ((win0_5.blk t).view.emb y : S2x2048x1792.Idx) = ix3 ⟨0, by omega⟩ ⟨t.val * 256 + (y 1 : ℕ), by omega⟩ (y 2) := by
      blk_ext [idx t]
    refine ((congrArg _ ey).trans ?_).trans (congrArg _ e).symm
    refine (pay5_at (iblk m c 0 t) (iblk m c 1 t) (iblk m c 2 t) (iblk m c 3 t) (iblk m c 4 t) (y 0) (y 1) (y 2)).trans ?_
    refine Eq.trans (congrArg gr ?_) (Cert.RefAdamInIdeal.Hand.ref5_new (m ((c : Thread nD τ).loc main_arg0)) (m ((c : Thread nD τ).loc main_arg1)) (m ((c : Thread nD τ).loc main_arg2)) (m ((c : Thread nD τ).loc main_arg3)) (m ((c : Thread nD τ).loc main_arg4)) _ _ _ _ rfl).symm
    refine congrArg₂ Prod.mk (congrArg₂ (· + ·) ?_ ?_) (congrArg₂ Prod.mk ?_ (congrArg₂ Prod.mk ?_ ?_))
    · exact blk0 m c t (y 1) (y 2) _ rfl rfl
    · exact blk1 m c t (y 1) (y 2) _ rfl rfl
    · exact blk2 m c t (y 1) (y 2) _ rfl rfl rfl
    · exact blk3 m c t (y 1) (y 2) _ rfl rfl rfl
    · exact blk4 m c t (y 1) (y 2) _ rfl rfl rfl
  · have h1 : 1 ≤ (j 0 : ℕ) := by
      rcases Nat.eq_zero_or_pos (j 0 : ℕ) with h | h
      · exact absurd (show (j 0 : ℕ) / 1 = 0 by rw [Nat.div_one]; exact h) hq
      · exact h
    have ej : j = ix3 (j 0) (j 1) (j 2) := by idx_vars j; rfl
    refine Eq.trans ?_ ((congrArg _ ej).trans (Cert.RefAdamInIdeal.Hand.ref5_old (m ((c : Thread nD τ).loc main_arg0)) (m ((c : Thread nD τ).loc main_arg1)) (m ((c : Thread nD τ).loc main_arg5)) _ _ _ h1)).symm
    refine Eq.trans ?_ ((congrFun (entry5 m c) j).trans (congrArg (m ((c : Thread nD τ).loc main_arg5)) ej))
    rfl

/-- The kernel's array of steps is the reference's. -/
theorem final6 (c : Dev nD) : (dats m 0 c).arrAt 6 cfg0.N = Cert.RefAdamInIdeal.Hand.ref6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) := by
  refine (dats m 0 c).arrAt_eq_of_coversWhere_of_agree 6 _ (fun β => β (0 : Fin 3) = 0) (by decide +kernel) (fun t hf y => ?_) (fun j hq => ?_)
  · blk_simp
    rw [after0_6, outsAt0]
    frame_out
    have hy1 : (y 1 : ℕ) < 256 := (y 1).isLt
    have hy0 : (y 0 : ℕ) < 1 := (y 0).isLt
    have ht : t.val < 8 := t.isLt
    have ey : y = ix3 (y 0) (y 1) (y 2) := by idx_vars y; rfl
    have e : ((win0_6.blk t).view.emb y : S2x2048x1792.Idx) = ix3 ⟨0, by omega⟩ ⟨t.val * 256 + (y 1 : ℕ), by omega⟩ (y 2) := by
      blk_ext [idx t]
    refine ((congrArg _ ey).trans ?_).trans (congrArg _ e).symm
    refine (pay6_at (iblk m c 0 t) (iblk m c 1 t) (iblk m c 2 t) (iblk m c 3 t) (iblk m c 4 t) (y 0) (y 1) (y 2)).trans ?_
    refine Eq.trans (congrArg dl ?_) (Cert.RefAdamInIdeal.Hand.ref6_new (m ((c : Thread nD τ).loc main_arg0)) (m ((c : Thread nD τ).loc main_arg1)) (m ((c : Thread nD τ).loc main_arg2)) (m ((c : Thread nD τ).loc main_arg3)) (m ((c : Thread nD τ).loc main_arg4)) _ _ _ _ rfl).symm
    refine congrArg₂ Prod.mk (congrArg₂ (· + ·) ?_ ?_) (congrArg₂ Prod.mk ?_ (congrArg₂ Prod.mk ?_ ?_))
    · exact blk0 m c t (y 1) (y 2) _ rfl rfl
    · exact blk1 m c t (y 1) (y 2) _ rfl rfl
    · exact blk2 m c t (y 1) (y 2) _ rfl rfl rfl
    · exact blk3 m c t (y 1) (y 2) _ rfl rfl rfl
    · exact blk4 m c t (y 1) (y 2) _ rfl rfl rfl
  · have h1 : 1 ≤ (j 0 : ℕ) := by
      rcases Nat.eq_zero_or_pos (j 0 : ℕ) with h | h
      · exact absurd (show (j 0 : ℕ) / 1 = 0 by rw [Nat.div_one]; exact h) hq
      · exact h
    have ej : j = ix3 (j 0) (j 1) (j 2) := by idx_vars j; rfl
    refine Eq.trans ?_ ((congrArg _ ej).trans (Cert.RefAdamInIdeal.Hand.ref6_old (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) _ _ _ h1)).symm
    refine Eq.trans ?_ ((congrFun (entry6 m c) j).trans (congrArg (m ((c : Thread nD τ).loc main_arg6)) ej))
    rfl

/-- The kernel's array of new first moments is the reference's. -/
theorem final7 (c : Dev nD) : (dats m 0 c).arrAt 7 cfg0.N = Cert.RefAdamInIdeal.Hand.ref7 (m ((c : Thread nD τ).loc main_arg0)) (m ((c : Thread nD τ).loc main_arg1)) (m ((c : Thread nD τ).loc main_arg3)) (m ((c : Thread nD τ).loc main_arg7)) := by
  refine (dats m 0 c).arrAt_eq_of_coversWhere_of_agree 7 _ (fun β => β (0 : Fin 3) = 0) (by decide +kernel) (fun t hf y => ?_) (fun j hq => ?_)
  · blk_simp
    rw [after0_7, outsAt0]
    frame_out
    have hy1 : (y 1 : ℕ) < 256 := (y 1).isLt
    have hy0 : (y 0 : ℕ) < 1 := (y 0).isLt
    have ht : t.val < 8 := t.isLt
    have ey : y = ix3 (y 0) (y 1) (y 2) := by idx_vars y; rfl
    have e : ((win0_7.blk t).view.emb y : S2x2048x1792.Idx) = ix3 ⟨0, by omega⟩ ⟨t.val * 256 + (y 1 : ℕ), by omega⟩ (y 2) := by
      blk_ext [idx t]
    refine ((congrArg _ ey).trans ?_).trans (congrArg _ e).symm
    refine (pay7_at (iblk m c 0 t) (iblk m c 1 t) (iblk m c 2 t) (iblk m c 3 t) (iblk m c 4 t) (y 0) (y 1) (y 2)).trans ?_
    refine Eq.trans (congrArg nm ?_) (Cert.RefAdamInIdeal.Hand.ref7_new (m ((c : Thread nD τ).loc main_arg0)) (m ((c : Thread nD τ).loc main_arg1)) (m ((c : Thread nD τ).loc main_arg2)) (m ((c : Thread nD τ).loc main_arg3)) (m ((c : Thread nD τ).loc main_arg4)) _ _ _ _ rfl).symm
    refine congrArg₂ Prod.mk (congrArg₂ (· + ·) ?_ ?_) (congrArg₂ Prod.mk ?_ (congrArg₂ Prod.mk ?_ ?_))
    · exact blk0 m c t (y 1) (y 2) _ rfl rfl
    · exact blk1 m c t (y 1) (y 2) _ rfl rfl
    · exact blk2 m c t (y 1) (y 2) _ rfl rfl rfl
    · exact blk3 m c t (y 1) (y 2) _ rfl rfl rfl
    · exact blk4 m c t (y 1) (y 2) _ rfl rfl rfl
  · have h1 : 1 ≤ (j 0 : ℕ) := by
      rcases Nat.eq_zero_or_pos (j 0 : ℕ) with h | h
      · exact absurd (show (j 0 : ℕ) / 1 = 0 by rw [Nat.div_one]; exact h) hq
      · exact h
    have ej : j = ix3 (j 0) (j 1) (j 2) := by idx_vars j; rfl
    refine Eq.trans ?_ ((congrArg _ ej).trans (Cert.RefAdamInIdeal.Hand.ref7_old (m ((c : Thread nD τ).loc main_arg0)) (m ((c : Thread nD τ).loc main_arg1)) (m ((c : Thread nD τ).loc main_arg3)) (m ((c : Thread nD τ).loc main_arg7)) _ _ _ h1)).symm
    refine Eq.trans ?_ ((congrFun (entry7 m c) j).trans (congrArg (m ((c : Thread nD τ).loc main_arg7)) ej))
    rfl

/-- The kernel's array of new second moments is the reference's. -/
theorem final8 (c : Dev nD) : (dats m 0 c).arrAt 8 cfg0.N = Cert.RefAdamInIdeal.Hand.ref8 (m ((c : Thread nD τ).loc main_arg0)) (m ((c : Thread nD τ).loc main_arg1)) (m ((c : Thread nD τ).loc main_arg4)) (m ((c : Thread nD τ).loc main_arg8)) := by
  refine (dats m 0 c).arrAt_eq_of_coversWhere_of_agree 8 _ (fun β => β (0 : Fin 3) = 0) (by decide +kernel) (fun t hf y => ?_) (fun j hq => ?_)
  · blk_simp
    rw [after0_8, outsAt0]
    frame_out
    have hy1 : (y 1 : ℕ) < 256 := (y 1).isLt
    have hy0 : (y 0 : ℕ) < 1 := (y 0).isLt
    have ht : t.val < 8 := t.isLt
    have ey : y = ix3 (y 0) (y 1) (y 2) := by idx_vars y; rfl
    have e : ((win0_8.blk t).view.emb y : S2x2048x1792.Idx) = ix3 ⟨0, by omega⟩ ⟨t.val * 256 + (y 1 : ℕ), by omega⟩ (y 2) := by
      blk_ext [idx t]
    refine ((congrArg _ ey).trans ?_).trans (congrArg _ e).symm
    refine (pay8_at (iblk m c 0 t) (iblk m c 1 t) (iblk m c 2 t) (iblk m c 3 t) (iblk m c 4 t) (y 0) (y 1) (y 2)).trans ?_
    refine Eq.trans (congrArg nv ?_) (Cert.RefAdamInIdeal.Hand.ref8_new (m ((c : Thread nD τ).loc main_arg0)) (m ((c : Thread nD τ).loc main_arg1)) (m ((c : Thread nD τ).loc main_arg2)) (m ((c : Thread nD τ).loc main_arg3)) (m ((c : Thread nD τ).loc main_arg4)) _ _ _ _ rfl).symm
    refine congrArg₂ Prod.mk (congrArg₂ (· + ·) ?_ ?_) (congrArg₂ Prod.mk ?_ (congrArg₂ Prod.mk ?_ ?_))
    · exact blk0 m c t (y 1) (y 2) _ rfl rfl
    · exact blk1 m c t (y 1) (y 2) _ rfl rfl
    · exact blk2 m c t (y 1) (y 2) _ rfl rfl rfl
    · exact blk3 m c t (y 1) (y 2) _ rfl rfl rfl
    · exact blk4 m c t (y 1) (y 2) _ rfl rfl rfl
  · have h1 : 1 ≤ (j 0 : ℕ) := by
      rcases Nat.eq_zero_or_pos (j 0 : ℕ) with h | h
      · exact absurd (show (j 0 : ℕ) / 1 = 0 by rw [Nat.div_one]; exact h) hq
      · exact h
    have ej : j = ix3 (j 0) (j 1) (j 2) := by idx_vars j; rfl
    refine Eq.trans ?_ ((congrArg _ ej).trans (Cert.RefAdamInIdeal.Hand.ref8_old (m ((c : Thread nD τ).loc main_arg0)) (m ((c : Thread nD τ).loc main_arg1)) (m ((c : Thread nD τ).loc main_arg4)) (m ((c : Thread nD τ).loc main_arg8)) _ _ _ h1)).symm
    refine Eq.trans ?_ ((congrFun (entry8 m c) j).trans (congrArg (m ((c : Thread nD τ).loc main_arg8)) ej))
    rfl

/-- Equal arguments give the reference equal gradients. -/
theorem same5 {P P' : FVec Ideal S2048x1792 .bf16} {Q Q' : FVec Ideal S2048x1792 .bf16} {G0 G0' : FVec Ideal S2x2048x1792 .f32} (h0 : P = P') (h1 : Q = Q') (h5 : G0 = G0') :
    Cert.RefAdamInIdeal.Hand.ref5 P Q G0 = Cert.RefAdamInIdeal.Hand.ref5 P' Q' G0' := by
  subst h0 h1 h5
  rfl

/-- Equal arguments give the reference equal steps. -/
theorem same6 {P P' : FVec Ideal S2048x1792 .bf16} {Q Q' : FVec Ideal S2048x1792 .bf16} {W W' : FVec Ideal S2x2048x1792 .f32} {M M' : FVec Ideal S2x2048x1792 .f32} {U U' : FVec Ideal S2x2048x1792 .f32} {D0 D0' : FVec Ideal S2x2048x1792 .f32} (h0 : P = P') (h1 : Q = Q') (h2 : W = W') (h3 : M = M') (h4 : U = U') (h6 : D0 = D0') :
    Cert.RefAdamInIdeal.Hand.ref6 P Q W M U D0 = Cert.RefAdamInIdeal.Hand.ref6 P' Q' W' M' U' D0' := by
  subst h0 h1 h2 h3 h4 h6
  rfl

/-- Equal arguments give the reference equal new first moments. -/
theorem same7 {P P' : FVec Ideal S2048x1792 .bf16} {Q Q' : FVec Ideal S2048x1792 .bf16} {M M' : FVec Ideal S2x2048x1792 .f32} {M0 M0' : FVec Ideal S2x2048x1792 .f32} (h0 : P = P') (h1 : Q = Q') (h3 : M = M') (h7 : M0 = M0') :
    Cert.RefAdamInIdeal.Hand.ref7 P Q M M0 = Cert.RefAdamInIdeal.Hand.ref7 P' Q' M' M0' := by
  subst h0 h1 h3 h7
  rfl

/-- Equal arguments give the reference equal new second moments. -/
theorem same8 {P P' : FVec Ideal S2048x1792 .bf16} {Q Q' : FVec Ideal S2048x1792 .bf16} {U U' : FVec Ideal S2x2048x1792 .f32} {U0 U0' : FVec Ideal S2x2048x1792 .f32} (h0 : P = P') (h1 : Q = Q') (h4 : U = U') (h8 : U0 = U0') :
    Cert.RefAdamInIdeal.Hand.ref8 P Q U U0 = Cert.RefAdamInIdeal.Hand.ref8 P' Q' U' U0' := by
  subst h0 h1 h4 h8
  rfl

end Cert.AdamInIdeal.Hand

set_option maxHeartbeats 1000000 in
open Idealize.ShloMosaic Idealize.ShloMosaic.TcCoe in
/-- From equal arguments the kernel and the reference end with equal results. -/
theorem Cert.AdamInIdeal.Hand.algebraic : Cert.algebraic_AdamInIdeal_RefAdamInIdeal
    (hAdamInIdeal := Cert.AdamInIdeal.Gen.facts) (hRefAdamInIdeal := Cert.RefAdamInIdeal.Gen.facts) := by
  pair_intro
  · run_from Cert.AdamInIdeal.Value.run_blocks m g
  · run_from Cert.RefAdamInIdeal.Value.run m' g'
    · have e : Cert.RefAdamInIdeal.Hand.ref5 (m ((c : Thread Cert.AdamInIdeal.nD Cert.AdamInIdeal.τ).loc Cert.AdamInIdeal.main_arg0)) (m ((c : Thread Cert.AdamInIdeal.nD Cert.AdamInIdeal.τ).loc Cert.AdamInIdeal.main_arg1)) (m' ((c : Thread Cert.RefAdamInIdeal.nD Cert.RefAdamInIdeal.τ).loc Cert.RefAdamInIdeal.main_arg5)) = Cert.RefAdamInIdeal.Hand.ref5 (m ((c : Thread Cert.AdamInIdeal.nD Cert.AdamInIdeal.τ).loc Cert.AdamInIdeal.main_arg0)) (m ((c : Thread Cert.AdamInIdeal.nD Cert.AdamInIdeal.τ).loc Cert.AdamInIdeal.main_arg1)) (m ((c : Thread Cert.AdamInIdeal.nD Cert.AdamInIdeal.τ).loc Cert.AdamInIdeal.main_arg5)) :=
        Cert.AdamInIdeal.Hand.same5 rfl rfl ((hagree c).2.2.2.2.2.1)
      exact e.trans (Cert.AdamInIdeal.Hand.final5 m c).symm
    · have e : Cert.RefAdamInIdeal.Hand.ref6 (m ((c : Thread Cert.AdamInIdeal.nD Cert.AdamInIdeal.τ).loc Cert.AdamInIdeal.main_arg0)) (m ((c : Thread Cert.AdamInIdeal.nD Cert.AdamInIdeal.τ).loc Cert.AdamInIdeal.main_arg1)) (m ((c : Thread Cert.AdamInIdeal.nD Cert.AdamInIdeal.τ).loc Cert.AdamInIdeal.main_arg2)) (m ((c : Thread Cert.AdamInIdeal.nD Cert.AdamInIdeal.τ).loc Cert.AdamInIdeal.main_arg3)) (m' ((c : Thread Cert.RefAdamInIdeal.nD Cert.RefAdamInIdeal.τ).loc Cert.RefAdamInIdeal.main_arg4)) (m' ((c : Thread Cert.RefAdamInIdeal.nD Cert.RefAdamInIdeal.τ).loc Cert.RefAdamInIdeal.main_arg6)) = Cert.RefAdamInIdeal.Hand.ref6 (m ((c : Thread Cert.AdamInIdeal.nD Cert.AdamInIdeal.τ).loc Cert.AdamInIdeal.main_arg0)) (m ((c : Thread Cert.AdamInIdeal.nD Cert.AdamInIdeal.τ).loc Cert.AdamInIdeal.main_arg1)) (m ((c : Thread Cert.AdamInIdeal.nD Cert.AdamInIdeal.τ).loc Cert.AdamInIdeal.main_arg2)) (m ((c : Thread Cert.AdamInIdeal.nD Cert.AdamInIdeal.τ).loc Cert.AdamInIdeal.main_arg3)) (m ((c : Thread Cert.AdamInIdeal.nD Cert.AdamInIdeal.τ).loc Cert.AdamInIdeal.main_arg4)) (m ((c : Thread Cert.AdamInIdeal.nD Cert.AdamInIdeal.τ).loc Cert.AdamInIdeal.main_arg6)) :=
        Cert.AdamInIdeal.Hand.same6 rfl rfl rfl rfl ((hagree c).2.2.2.2.1) ((hagree c).2.2.2.2.2.2.1)
      exact e.trans (Cert.AdamInIdeal.Hand.final6 m c).symm
    · have e : Cert.RefAdamInIdeal.Hand.ref7 (m ((c : Thread Cert.AdamInIdeal.nD Cert.AdamInIdeal.τ).loc Cert.AdamInIdeal.main_arg0)) (m ((c : Thread Cert.AdamInIdeal.nD Cert.AdamInIdeal.τ).loc Cert.AdamInIdeal.main_arg1)) (m' ((c : Thread Cert.RefAdamInIdeal.nD Cert.RefAdamInIdeal.τ).loc Cert.RefAdamInIdeal.main_arg3)) (m' ((c : Thread Cert.RefAdamInIdeal.nD Cert.RefAdamInIdeal.τ).loc Cert.RefAdamInIdeal.main_arg7)) = Cert.RefAdamInIdeal.Hand.ref7 (m ((c : Thread Cert.AdamInIdeal.nD Cert.AdamInIdeal.τ).loc Cert.AdamInIdeal.main_arg0)) (m ((c : Thread Cert.AdamInIdeal.nD Cert.AdamInIdeal.τ).loc Cert.AdamInIdeal.main_arg1)) (m ((c : Thread Cert.AdamInIdeal.nD Cert.AdamInIdeal.τ).loc Cert.AdamInIdeal.main_arg3)) (m ((c : Thread Cert.AdamInIdeal.nD Cert.AdamInIdeal.τ).loc Cert.AdamInIdeal.main_arg7)) :=
        Cert.AdamInIdeal.Hand.same7 rfl rfl ((hagree c).2.2.2.1) ((hagree c).2.2.2.2.2.2.2.1)
      exact e.trans (Cert.AdamInIdeal.Hand.final7 m c).symm
    · have e : Cert.RefAdamInIdeal.Hand.ref8 (m ((c : Thread Cert.AdamInIdeal.nD Cert.AdamInIdeal.τ).loc Cert.AdamInIdeal.main_arg0)) (m ((c : Thread Cert.AdamInIdeal.nD Cert.AdamInIdeal.τ).loc Cert.AdamInIdeal.main_arg1)) (m' ((c : Thread Cert.RefAdamInIdeal.nD Cert.RefAdamInIdeal.τ).loc Cert.RefAdamInIdeal.main_arg4)) (m' ((c : Thread Cert.RefAdamInIdeal.nD Cert.RefAdamInIdeal.τ).loc Cert.RefAdamInIdeal.main_arg8)) = Cert.RefAdamInIdeal.Hand.ref8 (m ((c : Thread Cert.AdamInIdeal.nD Cert.AdamInIdeal.τ).loc Cert.AdamInIdeal.main_arg0)) (m ((c : Thread Cert.AdamInIdeal.nD Cert.AdamInIdeal.τ).loc Cert.AdamInIdeal.main_arg1)) (m ((c : Thread Cert.AdamInIdeal.nD Cert.AdamInIdeal.τ).loc Cert.AdamInIdeal.main_arg4)) (m ((c : Thread Cert.AdamInIdeal.nD Cert.AdamInIdeal.τ).loc Cert.AdamInIdeal.main_arg8)) :=
        Cert.AdamInIdeal.Hand.same8 rfl rfl ((hagree c).2.2.2.2.1) ((hagree c).2.2.2.2.2.2.2.2)
      exact e.trans (Cert.AdamInIdeal.Hand.final8 m c).symm

end
-- ==== Proof.AdamOut.lean ====
module

public import proofs.«01_k».proof.Proof.Gen.AdamOutIdeal.Value
public import proofs.«01_k».proof.Proof.Gen.RefAdamOutIdeal.Run
public import proofs.«01_k».proof.Defs
public import Idealize.ShloMosaic.Lib.Pipeline.ValueKit
public import Idealize.ShloMosaic.Lib.Tactic
public import Idealize.ShloMosaic.Lib.Pointwise
public import proofs.«01_k».proof.Proof.Adam

/-! The update of a large weight: the kernel's four arrays are the reference's. -/

@[expose] public section

set_option maxRecDepth 16384

noncomputable section

namespace Cert.RefAdamOutIdeal.Hand

open Idealize.ShloMosaic Idealize.ShloMosaic.TcCoe Idealize.SL.Sem
open Idealize.ShloMosaic.Pipeline (Dat)
open Cert.RefAdamOutIdeal Cert.RefAdamOutIdeal.Gen Cert.Adam

/-- The gradient, the weight and the moments of an element of the layer that is updated. -/
abbrev four (P Q : FVec Ideal S512x2048 .bf16) (W M U : FVec Ideal S2x512x2048 .f32) (a : Fin 512) (b : Fin 2048) : Four :=
  (P (ix2 a b) + Q (ix2 a b), W (ix3 0 a b), M (ix3 0 a b), U (ix3 0 a b))

/-- The reference's gradients: its layer's first, the rest as given. -/
def ref5 (P Q : FVec Ideal S512x2048 .bf16) (G0 : FVec Ideal S2x512x2048 .f32) : FVec Ideal S2x512x2048 .f32 :=
  concatenate S2x512x2048 0 [⟨S1x512x2048, (broadcastInDim S1x512x2048 ![1, 2] bcast_S512x2048_S1x512x2048_1_2 (addf (extf .f32 P bitsLt_bf16_f32) (extf .f32 Q bitsLt_bf16_f32)))⟩, ⟨S1x512x2048, (extractStridedSlice S1x512x2048 ![1, 0, 0] G0 slices_S2x512x2048_S1x512x2048_1_0_0)⟩] concatenates_S1x512x2048_S1x512x2048_S2x512x2048_d0

/-- The reference's gradients in the updated layer. -/
theorem ref5_new (P Q : FVec Ideal S512x2048 .bf16) (W M U : FVec Ideal S2x512x2048 .f32) (G0 : FVec Ideal S2x512x2048 .f32) (z : Fin 2) (a : Fin 512) (b : Fin 2048) (h : (z : ℕ) = 0) :
    ref5 P Q G0 (ix3 z a b) = gr (four P Q W M U a b) := by
  have hc : (z : ℕ) < 1 := by omega
  pointwise [ref5]
  refine (dif_pos hc).trans ?_
  pointwise! [four, gr, dl, nm, nv]

/-- The reference's gradients in the other layers. -/
theorem ref5_old (P Q : FVec Ideal S512x2048 .bf16) (G0 : FVec Ideal S2x512x2048 .f32) (z : Fin 2) (a : Fin 512) (b : Fin 2048) (h : 1 ≤ (z : ℕ)) :
    ref5 P Q G0 (ix3 z a b) = G0 (ix3 z a b) := by
  have hc : ¬ (z : ℕ) < 1 := by omega
  pointwise [ref5]
  refine (dif_neg hc).trans ?_
  pointwise
  try blk_ext

/-- The reference's steps: its layer's first, the rest as given. -/
def ref6 (P Q : FVec Ideal S512x2048 .bf16) (W M U : FVec Ideal S2x512x2048 .f32) (D0 : FVec Ideal S2x512x2048 .f32) : FVec Ideal S2x512x2048 .f32 :=
  concatenate S2x512x2048 0 [⟨S1x512x2048, (broadcastInDim S1x512x2048 ![1, 2] bcast_S512x2048_S1x512x2048_1_2 (mulf (broadcastInDim S512x2048 ![] bcast_S_S512x2048 (constant S_ .f32 0xBA83126F#32)) (addf (Host.divf (Host.divf (addf (mulf (broadcastInDim S512x2048 ![] bcast_S_S512x2048 (constant S_ .f32 0x3F666666#32)) (shapeCast _ (extractStridedSlice S1x512x2048 ![0, 0, 0] M slices_S2x512x2048_S1x512x2048_0_0_0) shapeCasts_S1x512x2048_S512x2048)) (mulf (broadcastInDim S512x2048 ![] bcast_S_S512x2048 (constant S_ .f32 0x3DCCCCCD#32)) (addf (extf .f32 P bitsLt_bf16_f32) (extf .f32 Q bitsLt_bf16_f32)))) (broadcastInDim S512x2048 ![] bcast_S_S512x2048 (constant S_ .f32 0x3F26BD02#32))) (addf (Host.sqrt (Host.divf (addf (mulf (broadcastInDim S512x2048 ![] bcast_S_S512x2048 (constant S_ .f32 0x3F7FBE77#32)) (shapeCast _ (extractStridedSlice S1x512x2048 ![0, 0, 0] U slices_S2x512x2048_S1x512x2048_0_0_0) shapeCasts_S1x512x2048_S512x2048)) (mulf (broadcastInDim S512x2048 ![] bcast_S_S512x2048 (constant S_ .f32 0x3A83126F#32)) (mulf (addf (extf .f32 P bitsLt_bf16_f32) (extf .f32 Q bitsLt_bf16_f32)) (addf (extf .f32 P bitsLt_bf16_f32) (extf .f32 Q bitsLt_bf16_f32))))) (broadcastInDim S512x2048 ![] bcast_S_S512x2048 (constant S_ .f32 0x3C231ACC#32)))) (broadcastInDim S512x2048 ![] bcast_S_S512x2048 (constant S_ .f32 0x322BCC77#32)))) (mulf (broadcastInDim S512x2048 ![] bcast_S_S512x2048 (constant S_ .f32 0x3C23D70A#32)) (shapeCast _ (extractStridedSlice S1x512x2048 ![0, 0, 0] W slices_S2x512x2048_S1x512x2048_0_0_0) shapeCasts_S1x512x2048_S512x2048)))))⟩, ⟨S1x512x2048, (extractStridedSlice S1x512x2048 ![1, 0, 0] D0 slices_S2x512x2048_S1x512x2048_1_0_0)⟩] concatenates_S1x512x2048_S1x512x2048_S2x512x2048_d0

/-- The reference's steps in the updated layer. -/
theorem ref6_new (P Q : FVec Ideal S512x2048 .bf16) (W M U : FVec Ideal S2x512x2048 .f32) (D0 : FVec Ideal S2x512x2048 .f32) (z : Fin 2) (a : Fin 512) (b : Fin 2048) (h : (z : ℕ) = 0) :
    ref6 P Q W M U D0 (ix3 z a b) = dl (four P Q W M U a b) := by
  have hc : (z : ℕ) < 1 := by omega
  pointwise [ref6]
  refine (dif_pos hc).trans ?_
  pointwise! [four, gr, dl, nm, nv]

/-- The reference's steps in the other layers. -/
theorem ref6_old (P Q : FVec Ideal S512x2048 .bf16) (W M U : FVec Ideal S2x512x2048 .f32) (D0 : FVec Ideal S2x512x2048 .f32) (z : Fin 2) (a : Fin 512) (b : Fin 2048) (h : 1 ≤ (z : ℕ)) :
    ref6 P Q W M U D0 (ix3 z a b) = D0 (ix3 z a b) := by
  have hc : ¬ (z : ℕ) < 1 := by omega
  pointwise [ref6]
  refine (dif_neg hc).trans ?_
  pointwise
  try blk_ext

/-- The reference's new first moments: its layer's first, the rest as given. -/
def ref7 (P Q : FVec Ideal S512x2048 .bf16) (M : FVec Ideal S2x512x2048 .f32) (M0 : FVec Ideal S2x512x2048 .f32) : FVec Ideal S2x512x2048 .f32 :=
  concatenate S2x512x2048 0 [⟨S1x512x2048, (broadcastInDim S1x512x2048 ![1, 2] bcast_S512x2048_S1x512x2048_1_2 (addf (mulf (broadcastInDim S512x2048 ![] bcast_S_S512x2048 (constant S_ .f32 0x3F666666#32)) (shapeCast _ (extractStridedSlice S1x512x2048 ![0, 0, 0] M slices_S2x512x2048_S1x512x2048_0_0_0) shapeCasts_S1x512x2048_S512x2048)) (mulf (broadcastInDim S512x2048 ![] bcast_S_S512x2048 (constant S_ .f32 0x3DCCCCCD#32)) (addf (extf .f32 P bitsLt_bf16_f32) (extf .f32 Q bitsLt_bf16_f32)))))⟩, ⟨S1x512x2048, (extractStridedSlice S1x512x2048 ![1, 0, 0] M0 slices_S2x512x2048_S1x512x2048_1_0_0)⟩] concatenates_S1x512x2048_S1x512x2048_S2x512x2048_d0

/-- The reference's new first moments in the updated layer. -/
theorem ref7_new (P Q : FVec Ideal S512x2048 .bf16) (W M U : FVec Ideal S2x512x2048 .f32) (M0 : FVec Ideal S2x512x2048 .f32) (z : Fin 2) (a : Fin 512) (b : Fin 2048) (h : (z : ℕ) = 0) :
    ref7 P Q M M0 (ix3 z a b) = nm (four P Q W M U a b) := by
  have hc : (z : ℕ) < 1 := by omega
  pointwise [ref7]
  refine (dif_pos hc).trans ?_
  pointwise! [four, gr, dl, nm, nv]

/-- The reference's new first moments in the other layers. -/
theorem ref7_old (P Q : FVec Ideal S512x2048 .bf16) (M : FVec Ideal S2x512x2048 .f32) (M0 : FVec Ideal S2x512x2048 .f32) (z : Fin 2) (a : Fin 512) (b : Fin 2048) (h : 1 ≤ (z : ℕ)) :
    ref7 P Q M M0 (ix3 z a b) = M0 (ix3 z a b) := by
  have hc : ¬ (z : ℕ) < 1 := by omega
  pointwise [ref7]
  refine (dif_neg hc).trans ?_
  pointwise
  try blk_ext

/-- The reference's new second moments: its layer's first, the rest as given. -/
def ref8 (P Q : FVec Ideal S512x2048 .bf16) (U : FVec Ideal S2x512x2048 .f32) (U0 : FVec Ideal S2x512x2048 .f32) : FVec Ideal S2x512x2048 .f32 :=
  concatenate S2x512x2048 0 [⟨S1x512x2048, (broadcastInDim S1x512x2048 ![1, 2] bcast_S512x2048_S1x512x2048_1_2 (addf (mulf (broadcastInDim S512x2048 ![] bcast_S_S512x2048 (constant S_ .f32 0x3F7FBE77#32)) (shapeCast _ (extractStridedSlice S1x512x2048 ![0, 0, 0] U slices_S2x512x2048_S1x512x2048_0_0_0) shapeCasts_S1x512x2048_S512x2048)) (mulf (broadcastInDim S512x2048 ![] bcast_S_S512x2048 (constant S_ .f32 0x3A83126F#32)) (mulf (addf (extf .f32 P bitsLt_bf16_f32) (extf .f32 Q bitsLt_bf16_f32)) (addf (extf .f32 P bitsLt_bf16_f32) (extf .f32 Q bitsLt_bf16_f32))))))⟩, ⟨S1x512x2048, (extractStridedSlice S1x512x2048 ![1, 0, 0] U0 slices_S2x512x2048_S1x512x2048_1_0_0)⟩] concatenates_S1x512x2048_S1x512x2048_S2x512x2048_d0

/-- The reference's new second moments in the updated layer. -/
theorem ref8_new (P Q : FVec Ideal S512x2048 .bf16) (W M U : FVec Ideal S2x512x2048 .f32) (U0 : FVec Ideal S2x512x2048 .f32) (z : Fin 2) (a : Fin 512) (b : Fin 2048) (h : (z : ℕ) = 0) :
    ref8 P Q U U0 (ix3 z a b) = nv (four P Q W M U a b) := by
  have hc : (z : ℕ) < 1 := by omega
  pointwise [ref8]
  refine (dif_pos hc).trans ?_
  pointwise! [four, gr, dl, nm, nv]

/-- The reference's new second moments in the other layers. -/
theorem ref8_old (P Q : FVec Ideal S512x2048 .bf16) (U : FVec Ideal S2x512x2048 .f32) (U0 : FVec Ideal S2x512x2048 .f32) (z : Fin 2) (a : Fin 512) (b : Fin 2048) (h : 1 ≤ (z : ℕ)) :
    ref8 P Q U U0 (ix3 z a b) = U0 (ix3 z a b) := by
  have hc : ¬ (z : ℕ) < 1 := by omega
  pointwise [ref8]
  refine (dif_neg hc).trans ?_
  pointwise
  try blk_ext

end Cert.RefAdamOutIdeal.Hand

namespace Cert.AdamOutIdeal.Hand

open Idealize.ShloMosaic Idealize.ShloMosaic.TcCoe Idealize.SL.Sem
open Idealize.ShloMosaic.Pipeline (Dat)
open Cert.AdamOutIdeal Cert.AdamOutIdeal.Gen Cert.Adam

variable (m : (ℓ : Loc nD τ sig) → Buf (Elt Ideal) ℓ)

/-- Every window's block index at a grid point. -/
theorem idx : ∀ t : Fin cfg0.N, win0_0.index t = ![t.val, 0]
    ∧ win0_1.index t = ![t.val, 0]
    ∧ win0_2.index t = ![0, t.val, 0]
    ∧ win0_3.index t = ![0, t.val, 0]
    ∧ win0_4.index t = ![0, t.val, 0]
    ∧ win0_5.index t = ![0, t.val, 0]
    ∧ win0_6.index t = ![0, t.val, 0]
    ∧ win0_7.index t = ![0, t.val, 0]
    ∧ win0_8.index t = ![0, t.val, 0] :=
  (by decide +kernel : ∀ t : Fin grid0.N, _)

/-- What the body leaves of an element: the gradient, the weight and the moments it read. -/
abbrev four (P Q : FVec Ideal S256x2048 .bf16) (W M U : FVec Ideal S1x256x2048 .f32) (a : Fin 256) (b : Fin 2048) : Four :=
  (P (ix2 a b) + Q (ix2 a b), W (ix3 0 a b), M (ix3 0 a b), U (ix3 0 a b))

/-- What the body stores as the gradients. -/
theorem pay5_at (P Q : FVec Ideal S256x2048 .bf16) (W M U : FVec Ideal S1x256x2048 .f32) (z : Fin 1) (a : Fin 256) (b : Fin 2048) :
    k0_pay5 (F := Ideal) P Q (ix3 z a b) = gr (four P Q W M U a b) := by
  pointwise! [k0_pay1, k0_pay2, k0_pay3, k0_pay4, k0_pay5, k0_pay6, k0_pay7, k0_pay8, k0_pay9, k0_pay10, gr, dl, nm, nv]

/-- What the body stores as the steps. -/
theorem pay6_at (P Q : FVec Ideal S256x2048 .bf16) (W M U : FVec Ideal S1x256x2048 .f32) (z : Fin 1) (a : Fin 256) (b : Fin 2048) :
    k0_pay1 (F := Ideal) (k0_pay6 W) (k0_pay9 P Q M U) k0_pay10 (ix3 z a b) = dl (four P Q W M U a b) := by
  pointwise! [k0_pay1, k0_pay2, k0_pay3, k0_pay4, k0_pay5, k0_pay6, k0_pay7, k0_pay8, k0_pay9, k0_pay10, gr, dl, nm, nv]

/-- What the body stores as the new first moments. -/
theorem pay7_at (P Q : FVec Ideal S256x2048 .bf16) (W M U : FVec Ideal S1x256x2048 .f32) (z : Fin 1) (a : Fin 256) (b : Fin 2048) :
    k0_pay2 (F := Ideal) (k0_pay7 P Q M) (ix3 z a b) = nm (four P Q W M U a b) := by
  pointwise! [k0_pay1, k0_pay2, k0_pay3, k0_pay4, k0_pay5, k0_pay6, k0_pay7, k0_pay8, k0_pay9, k0_pay10, gr, dl, nm, nv]

/-- What the body stores as the new second moments. -/
theorem pay8_at (P Q : FVec Ideal S256x2048 .bf16) (W M U : FVec Ideal S1x256x2048 .f32) (z : Fin 1) (a : Fin 256) (b : Fin 2048) :
    k0_pay3 (F := Ideal) (k0_pay8 P Q U) (ix3 z a b) = nv (four P Q W M U a b) := by
  pointwise! [k0_pay1, k0_pay2, k0_pay3, k0_pay4, k0_pay5, k0_pay6, k0_pay7, k0_pay8, k0_pay9, k0_pay10, gr, dl, nm, nv]

/-- A block of a partial gradient, read in the array. -/
theorem blk0 (c : Dev nD) (t : Fin cfg0.N) (q : Fin 256) (k : Fin 2048) (i : S512x2048.Idx)
    (h0 : (i 0 : ℕ) = t.val * 256 + q) (h1 : (i 1 : ℕ) = k) :
    iblk m c 0 t (ix2 q k) = m ((c : Thread nD τ).loc main_arg0) i := by
  rw [← V_main_arg0 m c]
  blk_ext [iblk, idx t]

/-- A block of a partial gradient, read in the array. -/
theorem blk1 (c : Dev nD) (t : Fin cfg0.N) (q : Fin 256) (k : Fin 2048) (i : S512x2048.Idx)
    (h0 : (i 0 : ℕ) = t.val * 256 + q) (h1 : (i 1 : ℕ) = k) :
    iblk m c 1 t (ix2 q k) = m ((c : Thread nD τ).loc main_arg1) i := by
  rw [← V_main_arg1 m c]
  blk_ext [iblk, idx t]

/-- A block of the weight or of a moment, read in the array. -/
theorem blk2 (c : Dev nD) (t : Fin cfg0.N) (q : Fin 256) (k : Fin 2048) (i : S2x512x2048.Idx)
    (hz : (i 0 : ℕ) = 0) (h0 : (i 1 : ℕ) = t.val * 256 + q) (h1 : (i 2 : ℕ) = k) :
    iblk m c 2 t (ix3 0 q k) = m ((c : Thread nD τ).loc main_arg2) i := by
  rw [← V_main_arg2 m c]
  blk_ext [iblk, idx t]

/-- A block of the weight or of a moment, read in the array. -/
theorem blk3 (c : Dev nD) (t : Fin cfg0.N) (q : Fin 256) (k : Fin 2048) (i : S2x512x2048.Idx)
    (hz : (i 0 : ℕ) = 0) (h0 : (i 1 : ℕ) = t.val * 256 + q) (h1 : (i 2 : ℕ) = k) :
    iblk m c 3 t (ix3 0 q k) = m ((c : Thread nD τ).loc main_arg3) i := by
  rw [← V_main_arg3 m c]
  blk_ext [iblk, idx t]

/-- A block of the weight or of a moment, read in the array. -/
theorem blk4 (c : Dev nD) (t : Fin cfg0.N) (q : Fin 256) (k : Fin 2048) (i : S2x512x2048.Idx)
    (hz : (i 0 : ℕ) = 0) (h0 : (i 1 : ℕ) = t.val * 256 + q) (h1 : (i 2 : ℕ) = k) :
    iblk m c 4 t (ix3 0 q k) = m ((c : Thread nD τ).loc main_arg4) i := by
  rw [← V_main_arg4 m c]
  blk_ext [iblk, idx t]

/-- The array written into, as the region finds it. -/
theorem entry5 (c : Dev nD) : V m c main_v0_0 = m ((c : Thread nD τ).loc main_arg5) := by
  unfold V
  after_results <;> rfl

/-- The array written into, as the region finds it. -/
theorem entry6 (c : Dev nD) : V m c main_v0_1 = m ((c : Thread nD τ).loc main_arg6) := by
  unfold V
  after_results <;> rfl

/-- The array written into, as the region finds it. -/
theorem entry7 (c : Dev nD) : V m c main_v0_2 = m ((c : Thread nD τ).loc main_arg7) := by
  unfold V
  after_results <;> rfl

/-- The array written into, as the region finds it. -/
theorem entry8 (c : Dev nD) : V m c main_v0_3 = m ((c : Thread nD τ).loc main_arg8) := by
  unfold V
  after_results <;> rfl

/-- The kernel's array of gradients is the reference's. -/
theorem final5 (c : Dev nD) : (dats m 0 c).arrAt 5 cfg0.N = Cert.RefAdamOutIdeal.Hand.ref5 (m ((c : Thread nD τ).loc main_arg0)) (m ((c : Thread nD τ).loc main_arg1)) (m ((c : Thread nD τ).loc main_arg5)) := by
  refine (dats m 0 c).arrAt_eq_of_coversWhere_of_agree 5 _ (fun β => β (0 : Fin 3) = 0) (by decide +kernel) (fun t hf y => ?_) (fun j hq => ?_)
  · blk_simp
    rw [after0_5, outsAt0]
    frame_out
    have hy1 : (y 1 : ℕ) < 256 := (y 1).isLt
    have hy0 : (y 0 : ℕ) < 1 := (y 0).isLt
    have ht : t.val < 2 := t.isLt
    have ey : y = ix3 (y 0) (y 1) (y 2) := by idx_vars y; rfl
    have e : ((win0_5.blk t).view.emb y : S2x512x2048.Idx) = ix3 ⟨0, by omega⟩ ⟨t.val * 256 + (y 1 : ℕ), by omega⟩ (y 2) := by
      blk_ext [idx t]
    refine ((congrArg _ ey).trans ?_).trans (congrArg _ e).symm
    refine (pay5_at (iblk m c 0 t) (iblk m c 1 t) (iblk m c 2 t) (iblk m c 3 t) (iblk m c 4 t) (y 0) (y 1) (y 2)).trans ?_
    refine Eq.trans (congrArg gr ?_) (Cert.RefAdamOutIdeal.Hand.ref5_new (m ((c : Thread nD τ).loc main_arg0)) (m ((c : Thread nD τ).loc main_arg1)) (m ((c : Thread nD τ).loc main_arg2)) (m ((c : Thread nD τ).loc main_arg3)) (m ((c : Thread nD τ).loc main_arg4)) _ _ _ _ rfl).symm
    refine congrArg₂ Prod.mk (congrArg₂ (· + ·) ?_ ?_) (congrArg₂ Prod.mk ?_ (congrArg₂ Prod.mk ?_ ?_))
    · exact blk0 m c t (y 1) (y 2) _ rfl rfl
    · exact blk1 m c t (y 1) (y 2) _ rfl rfl
    · exact blk2 m c t (y 1) (y 2) _ rfl rfl rfl
    · exact blk3 m c t (y 1) (y 2) _ rfl rfl rfl
    · exact blk4 m c t (y 1) (y 2) _ rfl rfl rfl
  · have h1 : 1 ≤ (j 0 : ℕ) := by
      rcases Nat.eq_zero_or_pos (j 0 : ℕ) with h | h
      · exact absurd (show (j 0 : ℕ) / 1 = 0 by rw [Nat.div_one]; exact h) hq
      · exact h
    have ej : j = ix3 (j 0) (j 1) (j 2) := by idx_vars j; rfl
    refine Eq.trans ?_ ((congrArg _ ej).trans (Cert.RefAdamOutIdeal.Hand.ref5_old (m ((c : Thread nD τ).loc main_arg0)) (m ((c : Thread nD τ).loc main_arg1)) (m ((c : Thread nD τ).loc main_arg5)) _ _ _ h1)).symm
    refine Eq.trans ?_ ((congrFun (entry5 m c) j).trans (congrArg (m ((c : Thread nD τ).loc main_arg5)) ej))
    rfl

/-- The kernel's array of steps is the reference's. -/
theorem final6 (c : Dev nD) : (dats m 0 c).arrAt 6 cfg0.N = Cert.RefAdamOutIdeal.Hand.ref6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) := by
  refine (dats m 0 c).arrAt_eq_of_coversWhere_of_agree 6 _ (fun β => β (0 : Fin 3) = 0) (by decide +kernel) (fun t hf y => ?_) (fun j hq => ?_)
  · blk_simp
    rw [after0_6, outsAt0]
    frame_out
    have hy1 : (y 1 : ℕ) < 256 := (y 1).isLt
    have hy0 : (y 0 : ℕ) < 1 := (y 0).isLt
    have ht : t.val < 2 := t.isLt
    have ey : y = ix3 (y 0) (y 1) (y 2) := by idx_vars y; rfl
    have e : ((win0_6.blk t).view.emb y : S2x512x2048.Idx) = ix3 ⟨0, by omega⟩ ⟨t.val * 256 + (y 1 : ℕ), by omega⟩ (y 2) := by
      blk_ext [idx t]
    refine ((congrArg _ ey).trans ?_).trans (congrArg _ e).symm
    refine (pay6_at (iblk m c 0 t) (iblk m c 1 t) (iblk m c 2 t) (iblk m c 3 t) (iblk m c 4 t) (y 0) (y 1) (y 2)).trans ?_
    refine Eq.trans (congrArg dl ?_) (Cert.RefAdamOutIdeal.Hand.ref6_new (m ((c : Thread nD τ).loc main_arg0)) (m ((c : Thread nD τ).loc main_arg1)) (m ((c : Thread nD τ).loc main_arg2)) (m ((c : Thread nD τ).loc main_arg3)) (m ((c : Thread nD τ).loc main_arg4)) _ _ _ _ rfl).symm
    refine congrArg₂ Prod.mk (congrArg₂ (· + ·) ?_ ?_) (congrArg₂ Prod.mk ?_ (congrArg₂ Prod.mk ?_ ?_))
    · exact blk0 m c t (y 1) (y 2) _ rfl rfl
    · exact blk1 m c t (y 1) (y 2) _ rfl rfl
    · exact blk2 m c t (y 1) (y 2) _ rfl rfl rfl
    · exact blk3 m c t (y 1) (y 2) _ rfl rfl rfl
    · exact blk4 m c t (y 1) (y 2) _ rfl rfl rfl
  · have h1 : 1 ≤ (j 0 : ℕ) := by
      rcases Nat.eq_zero_or_pos (j 0 : ℕ) with h | h
      · exact absurd (show (j 0 : ℕ) / 1 = 0 by rw [Nat.div_one]; exact h) hq
      · exact h
    have ej : j = ix3 (j 0) (j 1) (j 2) := by idx_vars j; rfl
    refine Eq.trans ?_ ((congrArg _ ej).trans (Cert.RefAdamOutIdeal.Hand.ref6_old (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) _ _ _ h1)).symm
    refine Eq.trans ?_ ((congrFun (entry6 m c) j).trans (congrArg (m ((c : Thread nD τ).loc main_arg6)) ej))
    rfl

/-- The kernel's array of new first moments is the reference's. -/
theorem final7 (c : Dev nD) : (dats m 0 c).arrAt 7 cfg0.N = Cert.RefAdamOutIdeal.Hand.ref7 (m ((c : Thread nD τ).loc main_arg0)) (m ((c : Thread nD τ).loc main_arg1)) (m ((c : Thread nD τ).loc main_arg3)) (m ((c : Thread nD τ).loc main_arg7)) := by
  refine (dats m 0 c).arrAt_eq_of_coversWhere_of_agree 7 _ (fun β => β (0 : Fin 3) = 0) (by decide +kernel) (fun t hf y => ?_) (fun j hq => ?_)
  · blk_simp
    rw [after0_7, outsAt0]
    frame_out
    have hy1 : (y 1 : ℕ) < 256 := (y 1).isLt
    have hy0 : (y 0 : ℕ) < 1 := (y 0).isLt
    have ht : t.val < 2 := t.isLt
    have ey : y = ix3 (y 0) (y 1) (y 2) := by idx_vars y; rfl
    have e : ((win0_7.blk t).view.emb y : S2x512x2048.Idx) = ix3 ⟨0, by omega⟩ ⟨t.val * 256 + (y 1 : ℕ), by omega⟩ (y 2) := by
      blk_ext [idx t]
    refine ((congrArg _ ey).trans ?_).trans (congrArg _ e).symm
    refine (pay7_at (iblk m c 0 t) (iblk m c 1 t) (iblk m c 2 t) (iblk m c 3 t) (iblk m c 4 t) (y 0) (y 1) (y 2)).trans ?_
    refine Eq.trans (congrArg nm ?_) (Cert.RefAdamOutIdeal.Hand.ref7_new (m ((c : Thread nD τ).loc main_arg0)) (m ((c : Thread nD τ).loc main_arg1)) (m ((c : Thread nD τ).loc main_arg2)) (m ((c : Thread nD τ).loc main_arg3)) (m ((c : Thread nD τ).loc main_arg4)) _ _ _ _ rfl).symm
    refine congrArg₂ Prod.mk (congrArg₂ (· + ·) ?_ ?_) (congrArg₂ Prod.mk ?_ (congrArg₂ Prod.mk ?_ ?_))
    · exact blk0 m c t (y 1) (y 2) _ rfl rfl
    · exact blk1 m c t (y 1) (y 2) _ rfl rfl
    · exact blk2 m c t (y 1) (y 2) _ rfl rfl rfl
    · exact blk3 m c t (y 1) (y 2) _ rfl rfl rfl
    · exact blk4 m c t (y 1) (y 2) _ rfl rfl rfl
  · have h1 : 1 ≤ (j 0 : ℕ) := by
      rcases Nat.eq_zero_or_pos (j 0 : ℕ) with h | h
      · exact absurd (show (j 0 : ℕ) / 1 = 0 by rw [Nat.div_one]; exact h) hq
      · exact h
    have ej : j = ix3 (j 0) (j 1) (j 2) := by idx_vars j; rfl
    refine Eq.trans ?_ ((congrArg _ ej).trans (Cert.RefAdamOutIdeal.Hand.ref7_old (m ((c : Thread nD τ).loc main_arg0)) (m ((c : Thread nD τ).loc main_arg1)) (m ((c : Thread nD τ).loc main_arg3)) (m ((c : Thread nD τ).loc main_arg7)) _ _ _ h1)).symm
    refine Eq.trans ?_ ((congrFun (entry7 m c) j).trans (congrArg (m ((c : Thread nD τ).loc main_arg7)) ej))
    rfl

/-- The kernel's array of new second moments is the reference's. -/
theorem final8 (c : Dev nD) : (dats m 0 c).arrAt 8 cfg0.N = Cert.RefAdamOutIdeal.Hand.ref8 (m ((c : Thread nD τ).loc main_arg0)) (m ((c : Thread nD τ).loc main_arg1)) (m ((c : Thread nD τ).loc main_arg4)) (m ((c : Thread nD τ).loc main_arg8)) := by
  refine (dats m 0 c).arrAt_eq_of_coversWhere_of_agree 8 _ (fun β => β (0 : Fin 3) = 0) (by decide +kernel) (fun t hf y => ?_) (fun j hq => ?_)
  · blk_simp
    rw [after0_8, outsAt0]
    frame_out
    have hy1 : (y 1 : ℕ) < 256 := (y 1).isLt
    have hy0 : (y 0 : ℕ) < 1 := (y 0).isLt
    have ht : t.val < 2 := t.isLt
    have ey : y = ix3 (y 0) (y 1) (y 2) := by idx_vars y; rfl
    have e : ((win0_8.blk t).view.emb y : S2x512x2048.Idx) = ix3 ⟨0, by omega⟩ ⟨t.val * 256 + (y 1 : ℕ), by omega⟩ (y 2) := by
      blk_ext [idx t]
    refine ((congrArg _ ey).trans ?_).trans (congrArg _ e).symm
    refine (pay8_at (iblk m c 0 t) (iblk m c 1 t) (iblk m c 2 t) (iblk m c 3 t) (iblk m c 4 t) (y 0) (y 1) (y 2)).trans ?_
    refine Eq.trans (congrArg nv ?_) (Cert.RefAdamOutIdeal.Hand.ref8_new (m ((c : Thread nD τ).loc main_arg0)) (m ((c : Thread nD τ).loc main_arg1)) (m ((c : Thread nD τ).loc main_arg2)) (m ((c : Thread nD τ).loc main_arg3)) (m ((c : Thread nD τ).loc main_arg4)) _ _ _ _ rfl).symm
    refine congrArg₂ Prod.mk (congrArg₂ (· + ·) ?_ ?_) (congrArg₂ Prod.mk ?_ (congrArg₂ Prod.mk ?_ ?_))
    · exact blk0 m c t (y 1) (y 2) _ rfl rfl
    · exact blk1 m c t (y 1) (y 2) _ rfl rfl
    · exact blk2 m c t (y 1) (y 2) _ rfl rfl rfl
    · exact blk3 m c t (y 1) (y 2) _ rfl rfl rfl
    · exact blk4 m c t (y 1) (y 2) _ rfl rfl rfl
  · have h1 : 1 ≤ (j 0 : ℕ) := by
      rcases Nat.eq_zero_or_pos (j 0 : ℕ) with h | h
      · exact absurd (show (j 0 : ℕ) / 1 = 0 by rw [Nat.div_one]; exact h) hq
      · exact h
    have ej : j = ix3 (j 0) (j 1) (j 2) := by idx_vars j; rfl
    refine Eq.trans ?_ ((congrArg _ ej).trans (Cert.RefAdamOutIdeal.Hand.ref8_old (m ((c : Thread nD τ).loc main_arg0)) (m ((c : Thread nD τ).loc main_arg1)) (m ((c : Thread nD τ).loc main_arg4)) (m ((c : Thread nD τ).loc main_arg8)) _ _ _ h1)).symm
    refine Eq.trans ?_ ((congrFun (entry8 m c) j).trans (congrArg (m ((c : Thread nD τ).loc main_arg8)) ej))
    rfl

/-- Equal arguments give the reference equal gradients. -/
theorem same5 {P P' : FVec Ideal S512x2048 .bf16} {Q Q' : FVec Ideal S512x2048 .bf16} {G0 G0' : FVec Ideal S2x512x2048 .f32} (h0 : P = P') (h1 : Q = Q') (h5 : G0 = G0') :
    Cert.RefAdamOutIdeal.Hand.ref5 P Q G0 = Cert.RefAdamOutIdeal.Hand.ref5 P' Q' G0' := by
  subst h0 h1 h5
  rfl

/-- Equal arguments give the reference equal steps. -/
theorem same6 {P P' : FVec Ideal S512x2048 .bf16} {Q Q' : FVec Ideal S512x2048 .bf16} {W W' : FVec Ideal S2x512x2048 .f32} {M M' : FVec Ideal S2x512x2048 .f32} {U U' : FVec Ideal S2x512x2048 .f32} {D0 D0' : FVec Ideal S2x512x2048 .f32} (h0 : P = P') (h1 : Q = Q') (h2 : W = W') (h3 : M = M') (h4 : U = U') (h6 : D0 = D0') :
    Cert.RefAdamOutIdeal.Hand.ref6 P Q W M U D0 = Cert.RefAdamOutIdeal.Hand.ref6 P' Q' W' M' U' D0' := by
  subst h0 h1 h2 h3 h4 h6
  rfl

/-- Equal arguments give the reference equal new first moments. -/
theorem same7 {P P' : FVec Ideal S512x2048 .bf16} {Q Q' : FVec Ideal S512x2048 .bf16} {M M' : FVec Ideal S2x512x2048 .f32} {M0 M0' : FVec Ideal S2x512x2048 .f32} (h0 : P = P') (h1 : Q = Q') (h3 : M = M') (h7 : M0 = M0') :
    Cert.RefAdamOutIdeal.Hand.ref7 P Q M M0 = Cert.RefAdamOutIdeal.Hand.ref7 P' Q' M' M0' := by
  subst h0 h1 h3 h7
  rfl

/-- Equal arguments give the reference equal new second moments. -/
theorem same8 {P P' : FVec Ideal S512x2048 .bf16} {Q Q' : FVec Ideal S512x2048 .bf16} {U U' : FVec Ideal S2x512x2048 .f32} {U0 U0' : FVec Ideal S2x512x2048 .f32} (h0 : P = P') (h1 : Q = Q') (h4 : U = U') (h8 : U0 = U0') :
    Cert.RefAdamOutIdeal.Hand.ref8 P Q U U0 = Cert.RefAdamOutIdeal.Hand.ref8 P' Q' U' U0' := by
  subst h0 h1 h4 h8
  rfl

end Cert.AdamOutIdeal.Hand

set_option maxHeartbeats 1000000 in
open Idealize.ShloMosaic Idealize.ShloMosaic.TcCoe in
/-- From equal arguments the kernel and the reference end with equal results. -/
theorem Cert.AdamOutIdeal.Hand.algebraic : Cert.algebraic_AdamOutIdeal_RefAdamOutIdeal
    (hAdamOutIdeal := Cert.AdamOutIdeal.Gen.facts) (hRefAdamOutIdeal := Cert.RefAdamOutIdeal.Gen.facts) := by
  pair_intro
  · run_from Cert.AdamOutIdeal.Value.run_blocks m g
  · run_from Cert.RefAdamOutIdeal.Value.run m' g'
    · have e : Cert.RefAdamOutIdeal.Hand.ref5 (m ((c : Thread Cert.AdamOutIdeal.nD Cert.AdamOutIdeal.τ).loc Cert.AdamOutIdeal.main_arg0)) (m ((c : Thread Cert.AdamOutIdeal.nD Cert.AdamOutIdeal.τ).loc Cert.AdamOutIdeal.main_arg1)) (m' ((c : Thread Cert.RefAdamOutIdeal.nD Cert.RefAdamOutIdeal.τ).loc Cert.RefAdamOutIdeal.main_arg5)) = Cert.RefAdamOutIdeal.Hand.ref5 (m ((c : Thread Cert.AdamOutIdeal.nD Cert.AdamOutIdeal.τ).loc Cert.AdamOutIdeal.main_arg0)) (m ((c : Thread Cert.AdamOutIdeal.nD Cert.AdamOutIdeal.τ).loc Cert.AdamOutIdeal.main_arg1)) (m ((c : Thread Cert.AdamOutIdeal.nD Cert.AdamOutIdeal.τ).loc Cert.AdamOutIdeal.main_arg5)) :=
        Cert.AdamOutIdeal.Hand.same5 rfl rfl ((hagree c).2.2.2.2.2.1)
      exact e.trans (Cert.AdamOutIdeal.Hand.final5 m c).symm
    · have e : Cert.RefAdamOutIdeal.Hand.ref6 (m ((c : Thread Cert.AdamOutIdeal.nD Cert.AdamOutIdeal.τ).loc Cert.AdamOutIdeal.main_arg0)) (m ((c : Thread Cert.AdamOutIdeal.nD Cert.AdamOutIdeal.τ).loc Cert.AdamOutIdeal.main_arg1)) (m ((c : Thread Cert.AdamOutIdeal.nD Cert.AdamOutIdeal.τ).loc Cert.AdamOutIdeal.main_arg2)) (m ((c : Thread Cert.AdamOutIdeal.nD Cert.AdamOutIdeal.τ).loc Cert.AdamOutIdeal.main_arg3)) (m' ((c : Thread Cert.RefAdamOutIdeal.nD Cert.RefAdamOutIdeal.τ).loc Cert.RefAdamOutIdeal.main_arg4)) (m' ((c : Thread Cert.RefAdamOutIdeal.nD Cert.RefAdamOutIdeal.τ).loc Cert.RefAdamOutIdeal.main_arg6)) = Cert.RefAdamOutIdeal.Hand.ref6 (m ((c : Thread Cert.AdamOutIdeal.nD Cert.AdamOutIdeal.τ).loc Cert.AdamOutIdeal.main_arg0)) (m ((c : Thread Cert.AdamOutIdeal.nD Cert.AdamOutIdeal.τ).loc Cert.AdamOutIdeal.main_arg1)) (m ((c : Thread Cert.AdamOutIdeal.nD Cert.AdamOutIdeal.τ).loc Cert.AdamOutIdeal.main_arg2)) (m ((c : Thread Cert.AdamOutIdeal.nD Cert.AdamOutIdeal.τ).loc Cert.AdamOutIdeal.main_arg3)) (m ((c : Thread Cert.AdamOutIdeal.nD Cert.AdamOutIdeal.τ).loc Cert.AdamOutIdeal.main_arg4)) (m ((c : Thread Cert.AdamOutIdeal.nD Cert.AdamOutIdeal.τ).loc Cert.AdamOutIdeal.main_arg6)) :=
        Cert.AdamOutIdeal.Hand.same6 rfl rfl rfl rfl ((hagree c).2.2.2.2.1) ((hagree c).2.2.2.2.2.2.1)
      exact e.trans (Cert.AdamOutIdeal.Hand.final6 m c).symm
    · have e : Cert.RefAdamOutIdeal.Hand.ref7 (m ((c : Thread Cert.AdamOutIdeal.nD Cert.AdamOutIdeal.τ).loc Cert.AdamOutIdeal.main_arg0)) (m ((c : Thread Cert.AdamOutIdeal.nD Cert.AdamOutIdeal.τ).loc Cert.AdamOutIdeal.main_arg1)) (m' ((c : Thread Cert.RefAdamOutIdeal.nD Cert.RefAdamOutIdeal.τ).loc Cert.RefAdamOutIdeal.main_arg3)) (m' ((c : Thread Cert.RefAdamOutIdeal.nD Cert.RefAdamOutIdeal.τ).loc Cert.RefAdamOutIdeal.main_arg7)) = Cert.RefAdamOutIdeal.Hand.ref7 (m ((c : Thread Cert.AdamOutIdeal.nD Cert.AdamOutIdeal.τ).loc Cert.AdamOutIdeal.main_arg0)) (m ((c : Thread Cert.AdamOutIdeal.nD Cert.AdamOutIdeal.τ).loc Cert.AdamOutIdeal.main_arg1)) (m ((c : Thread Cert.AdamOutIdeal.nD Cert.AdamOutIdeal.τ).loc Cert.AdamOutIdeal.main_arg3)) (m ((c : Thread Cert.AdamOutIdeal.nD Cert.AdamOutIdeal.τ).loc Cert.AdamOutIdeal.main_arg7)) :=
        Cert.AdamOutIdeal.Hand.same7 rfl rfl ((hagree c).2.2.2.1) ((hagree c).2.2.2.2.2.2.2.1)
      exact e.trans (Cert.AdamOutIdeal.Hand.final7 m c).symm
    · have e : Cert.RefAdamOutIdeal.Hand.ref8 (m ((c : Thread Cert.AdamOutIdeal.nD Cert.AdamOutIdeal.τ).loc Cert.AdamOutIdeal.main_arg0)) (m ((c : Thread Cert.AdamOutIdeal.nD Cert.AdamOutIdeal.τ).loc Cert.AdamOutIdeal.main_arg1)) (m' ((c : Thread Cert.RefAdamOutIdeal.nD Cert.RefAdamOutIdeal.τ).loc Cert.RefAdamOutIdeal.main_arg4)) (m' ((c : Thread Cert.RefAdamOutIdeal.nD Cert.RefAdamOutIdeal.τ).loc Cert.RefAdamOutIdeal.main_arg8)) = Cert.RefAdamOutIdeal.Hand.ref8 (m ((c : Thread Cert.AdamOutIdeal.nD Cert.AdamOutIdeal.τ).loc Cert.AdamOutIdeal.main_arg0)) (m ((c : Thread Cert.AdamOutIdeal.nD Cert.AdamOutIdeal.τ).loc Cert.AdamOutIdeal.main_arg1)) (m ((c : Thread Cert.AdamOutIdeal.nD Cert.AdamOutIdeal.τ).loc Cert.AdamOutIdeal.main_arg4)) (m ((c : Thread Cert.AdamOutIdeal.nD Cert.AdamOutIdeal.τ).loc Cert.AdamOutIdeal.main_arg8)) :=
        Cert.AdamOutIdeal.Hand.same8 rfl rfl ((hagree c).2.2.2.2.1) ((hagree c).2.2.2.2.2.2.2.2)
      exact e.trans (Cert.AdamOutIdeal.Hand.final8 m c).symm

end
-- ==== Proof.AdamSmall.lean ====
module

public import proofs.«01_k».proof.Proof.Gen.AdamSmallIdeal.Value
public import proofs.«01_k».proof.Proof.Gen.RefAdamSmallIdeal.Run
public import proofs.«01_k».proof.Defs
public import Idealize.ShloMosaic.Lib.Pipeline.ValueKit
public import Idealize.ShloMosaic.Lib.Tactic
public import Idealize.ShloMosaic.Lib.Pointwise

/-! The update of the small weights: the kernel's three arrays are the reference's. -/

@[expose] public section

set_option maxRecDepth 16384

noncomputable section

namespace Cert.AdamSmallIdeal.Hand

open Idealize.ShloMosaic Idealize.ShloMosaic.TcCoe Idealize.SL.Sem
open Idealize.ShloMosaic.Pipeline (Dat)
open Cert.AdamSmallIdeal Cert.AdamSmallIdeal.Gen

variable (m : (ℓ : Loc nD τ sig) → Buf (Elt Ideal) ℓ)

/-- One component of a step read at an element: what the update does to the gradient, the weight and the two moments there. -/
abbrev Four := EReal × EReal × EReal × EReal

/-- A family of pieces, each mapped elementwise. -/
abbrev each (φ : Four → EReal) (L : List ((s : Shape) × (s.Idx → Four))) : List ((s : Shape) × (s.Idx → EReal)) :=
  L.map fun p => ⟨p.1, fun i => φ (p.2 i)⟩

/-- Reading a concatenation of elementwise images at a position of its axis is the image of what is read of the pieces. -/
theorem at_each (φ : Four → EReal) (t : Shape) (a : Fin t.rank) (j : t.Idx) :
    ∀ (L : List ((s : Shape) × (s.Idx → Four))) (hs : ∀ s ∈ (each φ L).map (·.1), s.FitsOff t a)
      (hs' : ∀ s ∈ L.map (·.1), s.FitsOff t a) (n : ℕ)
      (hn : n < (axisSizes t a (each φ L)).sum) (hn' : n < (axisSizes t a L).sum),
      concatenateAt t a j (each φ L) hs n hn = φ (concatenateAt t a j L hs' n hn')
  | [], _, _, _, hn, _ => absurd hn (Nat.not_lt_zero _)
  | [p], _, _, _, _, _ => by
    rfl
  | p :: q :: L, hs, hs', n, hn, hn' => by
    by_cases h : n < p.1.size (a.cast (hs' p.1 List.mem_cons_self).rank_eq.symm)
    · refine (dif_pos h).trans (congrArg φ (Eq.symm (dif_pos h)))
    · refine (dif_neg h).trans (Eq.trans ?_ (congrArg φ (Eq.symm (dif_neg h))))
      exact at_each φ t a j (q :: L) _ _ _ _ _

/-- A concatenation of elementwise images is the image of the concatenation. -/
theorem cat_each (φ : Four → EReal) (t : Shape) (a : Fin t.rank) (L : List ((s : Shape) × (s.Idx → Four)))
    (h : Shape.Concatenates ((each φ L).map (·.1)) t a) (h' : Shape.Concatenates (L.map (·.1)) t a) (j : t.Idx) :
    concatenate t a (each φ L) h j = φ (concatenate t a L h' j) := by
  rw [concatenate_apply, concatenate_apply]
  exact at_each φ t a j L _ _ _ _ _

/-- Twelve arrays laid end to end. -/
abbrev CAT (x0 : FVec Ideal S2048 .f32) (x1 : FVec Ideal S4x12288 .f32) (x2 : FVec Ideal S4x2048 .f32) (x3 : FVec Ideal S4x2048 .f32) (x4 : FVec Ideal S2x2x256 .f32) (x5 : FVec Ideal S2x1024 .f32) (x6 : FVec Ideal S2x8x128x128 .f32) (x7 : FVec Ideal S2x8x128 .f32) (x8 : FVec Ideal S2x1024 .f32) (x9 : FVec Ideal S2x4x128 .f32) (x10 : FVec Ideal S2x512 .f32) (x11 : FVec Ideal S2048 .f32) : FVec Ideal S340992 .f32 :=
  concatenate S340992 0 [⟨S2048, (x0 : FVec Ideal S2048 .f32)⟩, ⟨S49152, (shapeCast S49152 x1 shapeCasts_S4x12288_S49152 : FVec Ideal S49152 .f32)⟩, ⟨S8192, (shapeCast S8192 x2 shapeCasts_S4x2048_S8192 : FVec Ideal S8192 .f32)⟩, ⟨S8192, (shapeCast S8192 x3 shapeCasts_S4x2048_S8192 : FVec Ideal S8192 .f32)⟩, ⟨S1024, (shapeCast S1024 x4 shapeCasts_S2x2x256_S1024 : FVec Ideal S1024 .f32)⟩, ⟨S2048, (shapeCast S2048 x5 shapeCasts_S2x1024_S2048 : FVec Ideal S2048 .f32)⟩, ⟨S262144, (shapeCast S262144 x6 shapeCasts_S2x8x128x128_S262144 : FVec Ideal S262144 .f32)⟩, ⟨S2048, (shapeCast S2048 x7 shapeCasts_S2x8x128_S2048 : FVec Ideal S2048 .f32)⟩, ⟨S2048, (shapeCast S2048 x8 shapeCasts_S2x1024_S2048 : FVec Ideal S2048 .f32)⟩, ⟨S1024, (shapeCast S1024 x9 shapeCasts_S2x4x128_S1024 : FVec Ideal S1024 .f32)⟩, ⟨S1024, (shapeCast S1024 x10 shapeCasts_S2x512_S1024 : FVec Ideal S1024 .f32)⟩, ⟨S2048, (x11 : FVec Ideal S2048 .f32)⟩] concatenates_S2048_S49152_S8192_S8192_S1024_S2048_S262144_S2048_S2048_S1024_S1024_S2048_S340992_d0

/-- What the kernel is handed: the twelve arrays end to end, no padding, in rows of 128. -/
abbrev PK (x0 : FVec Ideal S2048 .f32) (x1 : FVec Ideal S4x12288 .f32) (x2 : FVec Ideal S4x2048 .f32) (x3 : FVec Ideal S4x2048 .f32) (x4 : FVec Ideal S2x2x256 .f32) (x5 : FVec Ideal S2x1024 .f32) (x6 : FVec Ideal S2x8x128x128 .f32) (x7 : FVec Ideal S2x8x128 .f32) (x8 : FVec Ideal S2x1024 .f32) (x9 : FVec Ideal S2x4x128 .f32) (x10 : FVec Ideal S2x512 .f32) (x11 : FVec Ideal S2048 .f32) : FVec Ideal S2664x128 .f32 :=
  shapeCast S2664x128 (pad S340992 ![0] ![0] ![0] (CAT x0 x1 x2 x3 x4 x5 x6 x7 x8 x9 x10 x11) (sitofp .f32 (constantI S_ 32 0#32)) pads_S340992_S340992_000 h_S_) shapeCasts_S340992_S2664x128

/-- Padding by nothing changes nothing. -/
theorem pad_none {v : S_.Idx → EReal} (x : FVec Ideal S340992 .f32) :
    pad S340992 ![0] ![0] ![0] x v pads_S340992_S340992_000 h_S_ = x := by
  funext j
  rw [pad_apply]
  refine (dif_pos fun a => ?_).trans ?_
  · obtain rfl : a = 0 := Subsingleton.elim _ _
    have h : (j 0).val < 340992 := (j 0).isLt
    show 0 ≤ (j 0).val ∧ ((j 0).val - 0) % (0 + 1) = 0 ∧ ((j 0).val - 0) / (0 + 1) < 340992
    omega
  · blk_ext
    exact Nat.div_one _

/-- The kernel's operand 0 as the region finds it. -/
theorem pk0 (c : Dev nD) : V m c main_v12 = PK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results <;> rfl

/-- The kernel's operand 1 as the region finds it. -/
theorem pk1 (c : Dev nD) : V m c main_v25 = PK (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results <;> rfl

/-- The kernel's operand 2 as the region finds it. -/
theorem pk2 (c : Dev nD) : V m c main_v38 = PK (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35)) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results <;> rfl

/-- The kernel's operand 3 as the region finds it. -/
theorem pk3 (c : Dev nD) : V m c main_v51 = PK (m ((c : Thread nD τ).loc main_arg36)) (m ((c : Thread nD τ).loc main_arg37)) (m ((c : Thread nD τ).loc main_arg38)) (m ((c : Thread nD τ).loc main_arg39)) (m ((c : Thread nD τ).loc main_arg40)) (m ((c : Thread nD τ).loc main_arg41)) (m ((c : Thread nD τ).loc main_arg42)) (m ((c : Thread nD τ).loc main_arg43)) (m ((c : Thread nD τ).loc main_arg44)) (m ((c : Thread nD τ).loc main_arg45)) (m ((c : Thread nD τ).loc main_arg46)) (m ((c : Thread nD τ).loc main_arg47)) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results <;> rfl

/-- The new first moment of an element. -/
def nm (p : Four) : EReal := Ideal.ofBits .f32 0x3F666666#32 * p.2.2.1 + Ideal.ofBits .f32 0x3DCCCCCD#32 * p.1

/-- The new second moment of an element. -/
def nv (p : Four) : EReal := Ideal.ofBits .f32 0x3F7FBE77#32 * p.2.2.2 + Ideal.ofBits .f32 0x3A83126F#32 * (p.1 * p.1)

/-- The step of an element. -/
def dl (p : Four) : EReal :=
  Ideal.ofBits .f32 0xBA83126F#32 * (Ideal.div (Ideal.div (nm p) (Ideal.ofBits .f32 0x3F26BD02#32))
    (Ideal.sqrt (Ideal.div (nv p) (Ideal.ofBits .f32 0x3C231ACC#32)) + Ideal.ofBits .f32 0x322BCC77#32)
    + Ideal.ofBits .f32 0x3C23D70A#32 * p.2.1)

/-- What the kernel stores as the new first moments. -/
theorem nm_at (g m : FVec Ideal S2664x128 .f32) (w v : FVec Ideal S2664x128 .f32) (j) :
    k0_pay2 (F := Ideal) g m j = nm (g j, w j, m j, v j) := by pointwise! [k0_pay1, k0_pay2, nm]

/-- What the kernel stores as the new second moments. -/
theorem nv_at (g m : FVec Ideal S2664x128 .f32) (w v : FVec Ideal S2664x128 .f32) (j) :
    k0_pay3 (F := Ideal) g v j = nv (g j, w j, m j, v j) := by pointwise! [k0_pay1, k0_pay3, nv]

/-- What the kernel stores as the steps. -/
theorem dl_at (g m : FVec Ideal S2664x128 .f32) (w v : FVec Ideal S2664x128 .f32) (j) :
    k0_pay4 (F := Ideal) w g m v j = dl (g j, w j, m j, v j) := by pointwise! [k0_pay1, k0_pay2, k0_pay3, k0_pay4, dl, nm, nv]

/-- The four families of twelve arrays, element by element. -/
abbrev Q (x0 : FVec Ideal S2048 .f32) (x1 : FVec Ideal S4x12288 .f32) (x2 : FVec Ideal S4x2048 .f32) (x3 : FVec Ideal S4x2048 .f32) (x4 : FVec Ideal S2x2x256 .f32) (x5 : FVec Ideal S2x1024 .f32) (x6 : FVec Ideal S2x8x128x128 .f32) (x7 : FVec Ideal S2x8x128 .f32) (x8 : FVec Ideal S2x1024 .f32) (x9 : FVec Ideal S2x4x128 .f32) (x10 : FVec Ideal S2x512 .f32) (x11 : FVec Ideal S2048 .f32) (x12 : FVec Ideal S2048 .f32) (x13 : FVec Ideal S4x12288 .f32) (x14 : FVec Ideal S4x2048 .f32) (x15 : FVec Ideal S4x2048 .f32) (x16 : FVec Ideal S2x2x256 .f32) (x17 : FVec Ideal S2x1024 .f32) (x18 : FVec Ideal S2x8x128x128 .f32) (x19 : FVec Ideal S2x8x128 .f32) (x20 : FVec Ideal S2x1024 .f32) (x21 : FVec Ideal S2x4x128 .f32) (x22 : FVec Ideal S2x512 .f32) (x23 : FVec Ideal S2048 .f32) (x24 : FVec Ideal S2048 .f32) (x25 : FVec Ideal S4x12288 .f32) (x26 : FVec Ideal S4x2048 .f32) (x27 : FVec Ideal S4x2048 .f32) (x28 : FVec Ideal S2x2x256 .f32) (x29 : FVec Ideal S2x1024 .f32) (x30 : FVec Ideal S2x8x128x128 .f32) (x31 : FVec Ideal S2x8x128 .f32) (x32 : FVec Ideal S2x1024 .f32) (x33 : FVec Ideal S2x4x128 .f32) (x34 : FVec Ideal S2x512 .f32) (x35 : FVec Ideal S2048 .f32) (x36 : FVec Ideal S2048 .f32) (x37 : FVec Ideal S4x12288 .f32) (x38 : FVec Ideal S4x2048 .f32) (x39 : FVec Ideal S4x2048 .f32) (x40 : FVec Ideal S2x2x256 .f32) (x41 : FVec Ideal S2x1024 .f32) (x42 : FVec Ideal S2x8x128x128 .f32) (x43 : FVec Ideal S2x8x128 .f32) (x44 : FVec Ideal S2x1024 .f32) (x45 : FVec Ideal S2x4x128 .f32) (x46 : FVec Ideal S2x512 .f32) (x47 : FVec Ideal S2048 .f32) : List ((s : Shape) × (s.Idx → Four)) :=
  [⟨S2048, (fun i => (x0 i, x12 i, x24 i, x36 i) : S2048.Idx → Four)⟩, ⟨S49152, (fun i => (shapeCast S49152 x1 shapeCasts_S4x12288_S49152 i, shapeCast S49152 x13 shapeCasts_S4x12288_S49152 i, shapeCast S49152 x25 shapeCasts_S4x12288_S49152 i, shapeCast S49152 x37 shapeCasts_S4x12288_S49152 i) : S49152.Idx → Four)⟩, ⟨S8192, (fun i => (shapeCast S8192 x2 shapeCasts_S4x2048_S8192 i, shapeCast S8192 x14 shapeCasts_S4x2048_S8192 i, shapeCast S8192 x26 shapeCasts_S4x2048_S8192 i, shapeCast S8192 x38 shapeCasts_S4x2048_S8192 i) : S8192.Idx → Four)⟩, ⟨S8192, (fun i => (shapeCast S8192 x3 shapeCasts_S4x2048_S8192 i, shapeCast S8192 x15 shapeCasts_S4x2048_S8192 i, shapeCast S8192 x27 shapeCasts_S4x2048_S8192 i, shapeCast S8192 x39 shapeCasts_S4x2048_S8192 i) : S8192.Idx → Four)⟩, ⟨S1024, (fun i => (shapeCast S1024 x4 shapeCasts_S2x2x256_S1024 i, shapeCast S1024 x16 shapeCasts_S2x2x256_S1024 i, shapeCast S1024 x28 shapeCasts_S2x2x256_S1024 i, shapeCast S1024 x40 shapeCasts_S2x2x256_S1024 i) : S1024.Idx → Four)⟩, ⟨S2048, (fun i => (shapeCast S2048 x5 shapeCasts_S2x1024_S2048 i, shapeCast S2048 x17 shapeCasts_S2x1024_S2048 i, shapeCast S2048 x29 shapeCasts_S2x1024_S2048 i, shapeCast S2048 x41 shapeCasts_S2x1024_S2048 i) : S2048.Idx → Four)⟩, ⟨S262144, (fun i => (shapeCast S262144 x6 shapeCasts_S2x8x128x128_S262144 i, shapeCast S262144 x18 shapeCasts_S2x8x128x128_S262144 i, shapeCast S262144 x30 shapeCasts_S2x8x128x128_S262144 i, shapeCast S262144 x42 shapeCasts_S2x8x128x128_S262144 i) : S262144.Idx → Four)⟩, ⟨S2048, (fun i => (shapeCast S2048 x7 shapeCasts_S2x8x128_S2048 i, shapeCast S2048 x19 shapeCasts_S2x8x128_S2048 i, shapeCast S2048 x31 shapeCasts_S2x8x128_S2048 i, shapeCast S2048 x43 shapeCasts_S2x8x128_S2048 i) : S2048.Idx → Four)⟩, ⟨S2048, (fun i => (shapeCast S2048 x8 shapeCasts_S2x1024_S2048 i, shapeCast S2048 x20 shapeCasts_S2x1024_S2048 i, shapeCast S2048 x32 shapeCasts_S2x1024_S2048 i, shapeCast S2048 x44 shapeCasts_S2x1024_S2048 i) : S2048.Idx → Four)⟩, ⟨S1024, (fun i => (shapeCast S1024 x9 shapeCasts_S2x4x128_S1024 i, shapeCast S1024 x21 shapeCasts_S2x4x128_S1024 i, shapeCast S1024 x33 shapeCasts_S2x4x128_S1024 i, shapeCast S1024 x45 shapeCasts_S2x4x128_S1024 i) : S1024.Idx → Four)⟩, ⟨S1024, (fun i => (shapeCast S1024 x10 shapeCasts_S2x512_S1024 i, shapeCast S1024 x22 shapeCasts_S2x512_S1024 i, shapeCast S1024 x34 shapeCasts_S2x512_S1024 i, shapeCast S1024 x46 shapeCasts_S2x512_S1024 i) : S1024.Idx → Four)⟩, ⟨S2048, (fun i => (x11 i, x23 i, x35 i, x47 i) : S2048.Idx → Four)⟩]

/-- The pieces' lengths add up. -/
theorem q_cat (x0 : FVec Ideal S2048 .f32) (x1 : FVec Ideal S4x12288 .f32) (x2 : FVec Ideal S4x2048 .f32) (x3 : FVec Ideal S4x2048 .f32) (x4 : FVec Ideal S2x2x256 .f32) (x5 : FVec Ideal S2x1024 .f32) (x6 : FVec Ideal S2x8x128x128 .f32) (x7 : FVec Ideal S2x8x128 .f32) (x8 : FVec Ideal S2x1024 .f32) (x9 : FVec Ideal S2x4x128 .f32) (x10 : FVec Ideal S2x512 .f32) (x11 : FVec Ideal S2048 .f32) (x12 : FVec Ideal S2048 .f32) (x13 : FVec Ideal S4x12288 .f32) (x14 : FVec Ideal S4x2048 .f32) (x15 : FVec Ideal S4x2048 .f32) (x16 : FVec Ideal S2x2x256 .f32) (x17 : FVec Ideal S2x1024 .f32) (x18 : FVec Ideal S2x8x128x128 .f32) (x19 : FVec Ideal S2x8x128 .f32) (x20 : FVec Ideal S2x1024 .f32) (x21 : FVec Ideal S2x4x128 .f32) (x22 : FVec Ideal S2x512 .f32) (x23 : FVec Ideal S2048 .f32) (x24 : FVec Ideal S2048 .f32) (x25 : FVec Ideal S4x12288 .f32) (x26 : FVec Ideal S4x2048 .f32) (x27 : FVec Ideal S4x2048 .f32) (x28 : FVec Ideal S2x2x256 .f32) (x29 : FVec Ideal S2x1024 .f32) (x30 : FVec Ideal S2x8x128x128 .f32) (x31 : FVec Ideal S2x8x128 .f32) (x32 : FVec Ideal S2x1024 .f32) (x33 : FVec Ideal S2x4x128 .f32) (x34 : FVec Ideal S2x512 .f32) (x35 : FVec Ideal S2048 .f32) (x36 : FVec Ideal S2048 .f32) (x37 : FVec Ideal S4x12288 .f32) (x38 : FVec Ideal S4x2048 .f32) (x39 : FVec Ideal S4x2048 .f32) (x40 : FVec Ideal S2x2x256 .f32) (x41 : FVec Ideal S2x1024 .f32) (x42 : FVec Ideal S2x8x128x128 .f32) (x43 : FVec Ideal S2x8x128 .f32) (x44 : FVec Ideal S2x1024 .f32) (x45 : FVec Ideal S2x4x128 .f32) (x46 : FVec Ideal S2x512 .f32) (x47 : FVec Ideal S2048 .f32) : Shape.Concatenates ((Q x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46 x47).map (·.1)) S340992 0 := concatenates_S2048_S49152_S8192_S8192_S1024_S2048_S262144_S2048_S2048_S1024_S1024_S2048_S340992_d0

/-- The gradients, the weights and the moments end to end are the components of the four families end to end. -/
theorem cat_eq (x0 : FVec Ideal S2048 .f32) (x1 : FVec Ideal S4x12288 .f32) (x2 : FVec Ideal S4x2048 .f32) (x3 : FVec Ideal S4x2048 .f32) (x4 : FVec Ideal S2x2x256 .f32) (x5 : FVec Ideal S2x1024 .f32) (x6 : FVec Ideal S2x8x128x128 .f32) (x7 : FVec Ideal S2x8x128 .f32) (x8 : FVec Ideal S2x1024 .f32) (x9 : FVec Ideal S2x4x128 .f32) (x10 : FVec Ideal S2x512 .f32) (x11 : FVec Ideal S2048 .f32) (x12 : FVec Ideal S2048 .f32) (x13 : FVec Ideal S4x12288 .f32) (x14 : FVec Ideal S4x2048 .f32) (x15 : FVec Ideal S4x2048 .f32) (x16 : FVec Ideal S2x2x256 .f32) (x17 : FVec Ideal S2x1024 .f32) (x18 : FVec Ideal S2x8x128x128 .f32) (x19 : FVec Ideal S2x8x128 .f32) (x20 : FVec Ideal S2x1024 .f32) (x21 : FVec Ideal S2x4x128 .f32) (x22 : FVec Ideal S2x512 .f32) (x23 : FVec Ideal S2048 .f32) (x24 : FVec Ideal S2048 .f32) (x25 : FVec Ideal S4x12288 .f32) (x26 : FVec Ideal S4x2048 .f32) (x27 : FVec Ideal S4x2048 .f32) (x28 : FVec Ideal S2x2x256 .f32) (x29 : FVec Ideal S2x1024 .f32) (x30 : FVec Ideal S2x8x128x128 .f32) (x31 : FVec Ideal S2x8x128 .f32) (x32 : FVec Ideal S2x1024 .f32) (x33 : FVec Ideal S2x4x128 .f32) (x34 : FVec Ideal S2x512 .f32) (x35 : FVec Ideal S2048 .f32) (x36 : FVec Ideal S2048 .f32) (x37 : FVec Ideal S4x12288 .f32) (x38 : FVec Ideal S4x2048 .f32) (x39 : FVec Ideal S4x2048 .f32) (x40 : FVec Ideal S2x2x256 .f32) (x41 : FVec Ideal S2x1024 .f32) (x42 : FVec Ideal S2x8x128x128 .f32) (x43 : FVec Ideal S2x8x128 .f32) (x44 : FVec Ideal S2x1024 .f32) (x45 : FVec Ideal S2x4x128 .f32) (x46 : FVec Ideal S2x512 .f32) (x47 : FVec Ideal S2048 .f32) (j : S340992.Idx) :
    (CAT x0 x1 x2 x3 x4 x5 x6 x7 x8 x9 x10 x11 j, CAT x12 x13 x14 x15 x16 x17 x18 x19 x20 x21 x22 x23 j, CAT x24 x25 x26 x27 x28 x29 x30 x31 x32 x33 x34 x35 j, CAT x36 x37 x38 x39 x40 x41 x42 x43 x44 x45 x46 x47 j)
      = concatenate S340992 0 (Q x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46 x47) (q_cat x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46 x47) j :=
  Prod.ext (cat_each (fun p => p.1) S340992 0 (Q x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46 x47) concatenates_S2048_S49152_S8192_S8192_S1024_S2048_S262144_S2048_S2048_S1024_S1024_S2048_S340992_d0 _ j)
    (Prod.ext (cat_each (fun p => p.2.1) S340992 0 (Q x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46 x47) concatenates_S2048_S49152_S8192_S8192_S1024_S2048_S262144_S2048_S2048_S1024_S1024_S2048_S340992_d0 _ j)
      (Prod.ext (cat_each (fun p => p.2.2.1) S340992 0 (Q x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46 x47) concatenates_S2048_S49152_S8192_S8192_S1024_S2048_S262144_S2048_S2048_S1024_S1024_S2048_S340992_d0 _ j)
        (cat_each (fun p => p.2.2.2) S340992 0 (Q x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46 x47) concatenates_S2048_S49152_S8192_S8192_S1024_S2048_S262144_S2048_S2048_S1024_S1024_S2048_S340992_d0 _ j)))

/-- An update of each array, laid end to end in rows of 128. -/
def UPD (φ : Four → EReal) (x0 : FVec Ideal S2048 .f32) (x1 : FVec Ideal S4x12288 .f32) (x2 : FVec Ideal S4x2048 .f32) (x3 : FVec Ideal S4x2048 .f32) (x4 : FVec Ideal S2x2x256 .f32) (x5 : FVec Ideal S2x1024 .f32) (x6 : FVec Ideal S2x8x128x128 .f32) (x7 : FVec Ideal S2x8x128 .f32) (x8 : FVec Ideal S2x1024 .f32) (x9 : FVec Ideal S2x4x128 .f32) (x10 : FVec Ideal S2x512 .f32) (x11 : FVec Ideal S2048 .f32) (x12 : FVec Ideal S2048 .f32) (x13 : FVec Ideal S4x12288 .f32) (x14 : FVec Ideal S4x2048 .f32) (x15 : FVec Ideal S4x2048 .f32) (x16 : FVec Ideal S2x2x256 .f32) (x17 : FVec Ideal S2x1024 .f32) (x18 : FVec Ideal S2x8x128x128 .f32) (x19 : FVec Ideal S2x8x128 .f32) (x20 : FVec Ideal S2x1024 .f32) (x21 : FVec Ideal S2x4x128 .f32) (x22 : FVec Ideal S2x512 .f32) (x23 : FVec Ideal S2048 .f32) (x24 : FVec Ideal S2048 .f32) (x25 : FVec Ideal S4x12288 .f32) (x26 : FVec Ideal S4x2048 .f32) (x27 : FVec Ideal S4x2048 .f32) (x28 : FVec Ideal S2x2x256 .f32) (x29 : FVec Ideal S2x1024 .f32) (x30 : FVec Ideal S2x8x128x128 .f32) (x31 : FVec Ideal S2x8x128 .f32) (x32 : FVec Ideal S2x1024 .f32) (x33 : FVec Ideal S2x4x128 .f32) (x34 : FVec Ideal S2x512 .f32) (x35 : FVec Ideal S2048 .f32) (x36 : FVec Ideal S2048 .f32) (x37 : FVec Ideal S4x12288 .f32) (x38 : FVec Ideal S4x2048 .f32) (x39 : FVec Ideal S4x2048 .f32) (x40 : FVec Ideal S2x2x256 .f32) (x41 : FVec Ideal S2x1024 .f32) (x42 : FVec Ideal S2x8x128x128 .f32) (x43 : FVec Ideal S2x8x128 .f32) (x44 : FVec Ideal S2x1024 .f32) (x45 : FVec Ideal S2x4x128 .f32) (x46 : FVec Ideal S2x512 .f32) (x47 : FVec Ideal S2048 .f32) : FVec Ideal S2664x128 .f32 :=
  shapeCast S2664x128 (concatenate S340992 0 (each φ (Q x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46 x47)) concatenates_S2048_S49152_S8192_S8192_S1024_S2048_S262144_S2048_S2048_S1024_S1024_S2048_S340992_d0 : FVec Ideal S340992 .f32) shapeCasts_S340992_S2664x128

/-- Equal arrays have equal updates. -/
theorem upd_congr (φ : Four → EReal) {x0 y0 : FVec Ideal S2048 .f32} {x1 y1 : FVec Ideal S4x12288 .f32} {x2 y2 : FVec Ideal S4x2048 .f32} {x3 y3 : FVec Ideal S4x2048 .f32} {x4 y4 : FVec Ideal S2x2x256 .f32} {x5 y5 : FVec Ideal S2x1024 .f32} {x6 y6 : FVec Ideal S2x8x128x128 .f32} {x7 y7 : FVec Ideal S2x8x128 .f32} {x8 y8 : FVec Ideal S2x1024 .f32} {x9 y9 : FVec Ideal S2x4x128 .f32} {x10 y10 : FVec Ideal S2x512 .f32} {x11 y11 : FVec Ideal S2048 .f32} {x12 y12 : FVec Ideal S2048 .f32} {x13 y13 : FVec Ideal S4x12288 .f32} {x14 y14 : FVec Ideal S4x2048 .f32} {x15 y15 : FVec Ideal S4x2048 .f32} {x16 y16 : FVec Ideal S2x2x256 .f32} {x17 y17 : FVec Ideal S2x1024 .f32} {x18 y18 : FVec Ideal S2x8x128x128 .f32} {x19 y19 : FVec Ideal S2x8x128 .f32} {x20 y20 : FVec Ideal S2x1024 .f32} {x21 y21 : FVec Ideal S2x4x128 .f32} {x22 y22 : FVec Ideal S2x512 .f32} {x23 y23 : FVec Ideal S2048 .f32} {x24 y24 : FVec Ideal S2048 .f32} {x25 y25 : FVec Ideal S4x12288 .f32} {x26 y26 : FVec Ideal S4x2048 .f32} {x27 y27 : FVec Ideal S4x2048 .f32} {x28 y28 : FVec Ideal S2x2x256 .f32} {x29 y29 : FVec Ideal S2x1024 .f32} {x30 y30 : FVec Ideal S2x8x128x128 .f32} {x31 y31 : FVec Ideal S2x8x128 .f32} {x32 y32 : FVec Ideal S2x1024 .f32} {x33 y33 : FVec Ideal S2x4x128 .f32} {x34 y34 : FVec Ideal S2x512 .f32} {x35 y35 : FVec Ideal S2048 .f32} {x36 y36 : FVec Ideal S2048 .f32} {x37 y37 : FVec Ideal S4x12288 .f32} {x38 y38 : FVec Ideal S4x2048 .f32} {x39 y39 : FVec Ideal S4x2048 .f32} {x40 y40 : FVec Ideal S2x2x256 .f32} {x41 y41 : FVec Ideal S2x1024 .f32} {x42 y42 : FVec Ideal S2x8x128x128 .f32} {x43 y43 : FVec Ideal S2x8x128 .f32} {x44 y44 : FVec Ideal S2x1024 .f32} {x45 y45 : FVec Ideal S2x4x128 .f32} {x46 y46 : FVec Ideal S2x512 .f32} {x47 y47 : FVec Ideal S2048 .f32}
    (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) (h13 : x13 = y13) (h14 : x14 = y14) (h15 : x15 = y15) (h16 : x16 = y16) (h17 : x17 = y17) (h18 : x18 = y18) (h19 : x19 = y19) (h20 : x20 = y20) (h21 : x21 = y21) (h22 : x22 = y22) (h23 : x23 = y23) (h24 : x24 = y24) (h25 : x25 = y25) (h26 : x26 = y26) (h27 : x27 = y27) (h28 : x28 = y28) (h29 : x29 = y29) (h30 : x30 = y30) (h31 : x31 = y31) (h32 : x32 = y32) (h33 : x33 = y33) (h34 : x34 = y34) (h35 : x35 = y35) (h36 : x36 = y36) (h37 : x37 = y37) (h38 : x38 = y38) (h39 : x39 = y39) (h40 : x40 = y40) (h41 : x41 = y41) (h42 : x42 = y42) (h43 : x43 = y43) (h44 : x44 = y44) (h45 : x45 = y45) (h46 : x46 = y46) (h47 : x47 = y47) :
    UPD φ x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46 x47 = UPD φ y0 y1 y2 y3 y4 y5 y6 y7 y8 y9 y10 y11 y12 y13 y14 y15 y16 y17 y18 y19 y20 y21 y22 y23 y24 y25 y26 y27 y28 y29 y30 y31 y32 y33 y34 y35 y36 y37 y38 y39 y40 y41 y42 y43 y44 y45 y46 y47 := by
  subst h0; subst h1; subst h2; subst h3; subst h4; subst h5; subst h6; subst h7; subst h8; subst h9; subst h10; subst h11; subst h12; subst h13; subst h14; subst h15; subst h16; subst h17; subst h18; subst h19; subst h20; subst h21; subst h22; subst h23; subst h24; subst h25; subst h26; subst h27; subst h28; subst h29; subst h30; subst h31; subst h32; subst h33; subst h34; subst h35; subst h36; subst h37; subst h38; subst h39; subst h40; subst h41; subst h42; subst h43; subst h44; subst h45; subst h46; subst h47
  rfl

/-- An update of the packed arrays, element by element, is the update of each array laid end to end. -/
theorem upd_eq (φ : Four → EReal) (x0 : FVec Ideal S2048 .f32) (x1 : FVec Ideal S4x12288 .f32) (x2 : FVec Ideal S4x2048 .f32) (x3 : FVec Ideal S4x2048 .f32) (x4 : FVec Ideal S2x2x256 .f32) (x5 : FVec Ideal S2x1024 .f32) (x6 : FVec Ideal S2x8x128x128 .f32) (x7 : FVec Ideal S2x8x128 .f32) (x8 : FVec Ideal S2x1024 .f32) (x9 : FVec Ideal S2x4x128 .f32) (x10 : FVec Ideal S2x512 .f32) (x11 : FVec Ideal S2048 .f32) (x12 : FVec Ideal S2048 .f32) (x13 : FVec Ideal S4x12288 .f32) (x14 : FVec Ideal S4x2048 .f32) (x15 : FVec Ideal S4x2048 .f32) (x16 : FVec Ideal S2x2x256 .f32) (x17 : FVec Ideal S2x1024 .f32) (x18 : FVec Ideal S2x8x128x128 .f32) (x19 : FVec Ideal S2x8x128 .f32) (x20 : FVec Ideal S2x1024 .f32) (x21 : FVec Ideal S2x4x128 .f32) (x22 : FVec Ideal S2x512 .f32) (x23 : FVec Ideal S2048 .f32) (x24 : FVec Ideal S2048 .f32) (x25 : FVec Ideal S4x12288 .f32) (x26 : FVec Ideal S4x2048 .f32) (x27 : FVec Ideal S4x2048 .f32) (x28 : FVec Ideal S2x2x256 .f32) (x29 : FVec Ideal S2x1024 .f32) (x30 : FVec Ideal S2x8x128x128 .f32) (x31 : FVec Ideal S2x8x128 .f32) (x32 : FVec Ideal S2x1024 .f32) (x33 : FVec Ideal S2x4x128 .f32) (x34 : FVec Ideal S2x512 .f32) (x35 : FVec Ideal S2048 .f32) (x36 : FVec Ideal S2048 .f32) (x37 : FVec Ideal S4x12288 .f32) (x38 : FVec Ideal S4x2048 .f32) (x39 : FVec Ideal S4x2048 .f32) (x40 : FVec Ideal S2x2x256 .f32) (x41 : FVec Ideal S2x1024 .f32) (x42 : FVec Ideal S2x8x128x128 .f32) (x43 : FVec Ideal S2x8x128 .f32) (x44 : FVec Ideal S2x1024 .f32) (x45 : FVec Ideal S2x4x128 .f32) (x46 : FVec Ideal S2x512 .f32) (x47 : FVec Ideal S2048 .f32) :
    (fun j => φ (PK x0 x1 x2 x3 x4 x5 x6 x7 x8 x9 x10 x11 j, PK x12 x13 x14 x15 x16 x17 x18 x19 x20 x21 x22 x23 j, PK x24 x25 x26 x27 x28 x29 x30 x31 x32 x33 x34 x35 j, PK x36 x37 x38 x39 x40 x41 x42 x43 x44 x45 x46 x47 j))
      = UPD φ x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46 x47 := by
  funext j
  simp only [PK, pad_none]
  refine Eq.trans ?_ (cat_each φ S340992 0 (Q x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46 x47) concatenates_S2048_S49152_S8192_S8192_S1024_S2048_S262144_S2048_S2048_S1024_S1024_S2048_S340992_d0 (q_cat x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46 x47) _).symm
  rw [← cat_eq]
  rfl

/-- Every window's block index at a grid point. -/
theorem idx : ∀ t : Fin cfg0.N, win0_0.index t = ![0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0] :=
  (by decide +kernel : ∀ t : Fin grid0.N, _)

/-- Operand 0 as the region finds it. -/
def A0 (c : Dev nD) : FVec Ideal S2664x128 .f32 := V m c main_v12

/-- A block of operand 0 is the operand. -/
theorem blk0 (c : Dev nD) (t : Fin cfg0.N) (y z : S2664x128.Idx) (h0 : (z 0 : ℕ) = y 0) (h1 : (z 1 : ℕ) = y 1) :
    (show FVec Ideal S2664x128 .f32 from iblk m c 0 t) y = A0 m c z := by
  show _ = (V m c (Pipeline.arrRef spec0 0) : FVec Ideal S2664x128 .f32) z
  unfold iblk
  generalize V m c (Pipeline.arrRef spec0 0) = A
  blk_ext [idx t]

/-- Operand 1 as the region finds it. -/
def A1 (c : Dev nD) : FVec Ideal S2664x128 .f32 := V m c main_v25

/-- A block of operand 1 is the operand. -/
theorem blk1 (c : Dev nD) (t : Fin cfg0.N) (y z : S2664x128.Idx) (h0 : (z 0 : ℕ) = y 0) (h1 : (z 1 : ℕ) = y 1) :
    (show FVec Ideal S2664x128 .f32 from iblk m c 1 t) y = A1 m c z := by
  show _ = (V m c (Pipeline.arrRef spec0 1) : FVec Ideal S2664x128 .f32) z
  unfold iblk
  generalize V m c (Pipeline.arrRef spec0 1) = A
  blk_ext [idx t]

/-- Operand 2 as the region finds it. -/
def A2 (c : Dev nD) : FVec Ideal S2664x128 .f32 := V m c main_v38

/-- A block of operand 2 is the operand. -/
theorem blk2 (c : Dev nD) (t : Fin cfg0.N) (y z : S2664x128.Idx) (h0 : (z 0 : ℕ) = y 0) (h1 : (z 1 : ℕ) = y 1) :
    (show FVec Ideal S2664x128 .f32 from iblk m c 2 t) y = A2 m c z := by
  show _ = (V m c (Pipeline.arrRef spec0 2) : FVec Ideal S2664x128 .f32) z
  unfold iblk
  generalize V m c (Pipeline.arrRef spec0 2) = A
  blk_ext [idx t]

/-- Operand 3 as the region finds it. -/
def A3 (c : Dev nD) : FVec Ideal S2664x128 .f32 := V m c main_v51

/-- A block of operand 3 is the operand. -/
theorem blk3 (c : Dev nD) (t : Fin cfg0.N) (y z : S2664x128.Idx) (h0 : (z 0 : ℕ) = y 0) (h1 : (z 1 : ℕ) = y 1) :
    (show FVec Ideal S2664x128 .f32 from iblk m c 3 t) y = A3 m c z := by
  show _ = (V m c (Pipeline.arrRef spec0 3) : FVec Ideal S2664x128 .f32) z
  unfold iblk
  generalize V m c (Pipeline.arrRef spec0 3) = A
  blk_ext [idx t]

set_option maxHeartbeats 4000000 in
/-- The kernel's array of steps, of its operands. -/
theorem out4 (c : Dev nD) : (dats m 0 c).arrAt 4 cfg0.N
    = fun j : S2664x128.Idx => dl (A0 m c j, A1 m c j, A2 m c j, A3 m c j) := by
  refine (dats m 0 c).arrAt_eq_of_covers 4 _ (by decide +kernel) fun t hf y => ?_
  blk_simp
  rw [after0_4]
  frame_out
  rw [dl_at (iblk m c 0 t) (iblk m c 2 t) (iblk m c 1 t) (iblk m c 3 t)]
  refine congrArg dl (Prod.ext (blk0 m c t _ _ ?_ ?_) (Prod.ext (blk1 m c t _ _ ?_ ?_) (Prod.ext (blk2 m c t _ _ ?_ ?_) (blk3 m c t _ _ ?_ ?_))))
  all_goals blk_simp [idx t]

set_option maxHeartbeats 4000000 in
/-- The kernel's array of steps. -/
theorem final4 (c : Dev nD) : (dats m 0 c).arrAt 4 cfg0.N = UPD dl (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35)) (m ((c : Thread nD τ).loc main_arg36)) (m ((c : Thread nD τ).loc main_arg37)) (m ((c : Thread nD τ).loc main_arg38)) (m ((c : Thread nD τ).loc main_arg39)) (m ((c : Thread nD τ).loc main_arg40)) (m ((c : Thread nD τ).loc main_arg41)) (m ((c : Thread nD τ).loc main_arg42)) (m ((c : Thread nD τ).loc main_arg43)) (m ((c : Thread nD τ).loc main_arg44)) (m ((c : Thread nD τ).loc main_arg45)) (m ((c : Thread nD τ).loc main_arg46)) (m ((c : Thread nD τ).loc main_arg47)) := by
  rw [out4]
  unfold A0 A1 A2 A3
  rw [pk0, pk1, pk2, pk3]
  exact upd_eq dl (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35)) (m ((c : Thread nD τ).loc main_arg36)) (m ((c : Thread nD τ).loc main_arg37)) (m ((c : Thread nD τ).loc main_arg38)) (m ((c : Thread nD τ).loc main_arg39)) (m ((c : Thread nD τ).loc main_arg40)) (m ((c : Thread nD τ).loc main_arg41)) (m ((c : Thread nD τ).loc main_arg42)) (m ((c : Thread nD τ).loc main_arg43)) (m ((c : Thread nD τ).loc main_arg44)) (m ((c : Thread nD τ).loc main_arg45)) (m ((c : Thread nD τ).loc main_arg46)) (m ((c : Thread nD τ).loc main_arg47))

set_option maxHeartbeats 4000000 in
/-- The kernel's array of new first moments, of its operands. -/
theorem out5 (c : Dev nD) : (dats m 0 c).arrAt 5 cfg0.N
    = fun j : S2664x128.Idx => nm (A0 m c j, A1 m c j, A2 m c j, A3 m c j) := by
  refine (dats m 0 c).arrAt_eq_of_covers 5 _ (by decide +kernel) fun t hf y => ?_
  blk_simp
  rw [after0_5]
  frame_out
  rw [nm_at (iblk m c 0 t) (iblk m c 2 t) (iblk m c 1 t) (iblk m c 3 t)]
  refine congrArg nm (Prod.ext (blk0 m c t _ _ ?_ ?_) (Prod.ext (blk1 m c t _ _ ?_ ?_) (Prod.ext (blk2 m c t _ _ ?_ ?_) (blk3 m c t _ _ ?_ ?_))))
  all_goals blk_simp [idx t]

set_option maxHeartbeats 4000000 in
/-- The kernel's array of new first moments. -/
theorem final5 (c : Dev nD) : (dats m 0 c).arrAt 5 cfg0.N = UPD nm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35)) (m ((c : Thread nD τ).loc main_arg36)) (m ((c : Thread nD τ).loc main_arg37)) (m ((c : Thread nD τ).loc main_arg38)) (m ((c : Thread nD τ).loc main_arg39)) (m ((c : Thread nD τ).loc main_arg40)) (m ((c : Thread nD τ).loc main_arg41)) (m ((c : Thread nD τ).loc main_arg42)) (m ((c : Thread nD τ).loc main_arg43)) (m ((c : Thread nD τ).loc main_arg44)) (m ((c : Thread nD τ).loc main_arg45)) (m ((c : Thread nD τ).loc main_arg46)) (m ((c : Thread nD τ).loc main_arg47)) := by
  rw [out5]
  unfold A0 A1 A2 A3
  rw [pk0, pk1, pk2, pk3]
  exact upd_eq nm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35)) (m ((c : Thread nD τ).loc main_arg36)) (m ((c : Thread nD τ).loc main_arg37)) (m ((c : Thread nD τ).loc main_arg38)) (m ((c : Thread nD τ).loc main_arg39)) (m ((c : Thread nD τ).loc main_arg40)) (m ((c : Thread nD τ).loc main_arg41)) (m ((c : Thread nD τ).loc main_arg42)) (m ((c : Thread nD τ).loc main_arg43)) (m ((c : Thread nD τ).loc main_arg44)) (m ((c : Thread nD τ).loc main_arg45)) (m ((c : Thread nD τ).loc main_arg46)) (m ((c : Thread nD τ).loc main_arg47))

set_option maxHeartbeats 4000000 in
/-- The kernel's array of new second moments, of its operands. -/
theorem out6 (c : Dev nD) : (dats m 0 c).arrAt 6 cfg0.N
    = fun j : S2664x128.Idx => nv (A0 m c j, A1 m c j, A2 m c j, A3 m c j) := by
  refine (dats m 0 c).arrAt_eq_of_covers 6 _ (by decide +kernel) fun t hf y => ?_
  blk_simp
  rw [after0_6]
  frame_out
  rw [nv_at (iblk m c 0 t) (iblk m c 2 t) (iblk m c 1 t) (iblk m c 3 t)]
  refine congrArg nv (Prod.ext (blk0 m c t _ _ ?_ ?_) (Prod.ext (blk1 m c t _ _ ?_ ?_) (Prod.ext (blk2 m c t _ _ ?_ ?_) (blk3 m c t _ _ ?_ ?_))))
  all_goals blk_simp [idx t]

set_option maxHeartbeats 4000000 in
/-- The kernel's array of new second moments. -/
theorem final6 (c : Dev nD) : (dats m 0 c).arrAt 6 cfg0.N = UPD nv (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35)) (m ((c : Thread nD τ).loc main_arg36)) (m ((c : Thread nD τ).loc main_arg37)) (m ((c : Thread nD τ).loc main_arg38)) (m ((c : Thread nD τ).loc main_arg39)) (m ((c : Thread nD τ).loc main_arg40)) (m ((c : Thread nD τ).loc main_arg41)) (m ((c : Thread nD τ).loc main_arg42)) (m ((c : Thread nD τ).loc main_arg43)) (m ((c : Thread nD τ).loc main_arg44)) (m ((c : Thread nD τ).loc main_arg45)) (m ((c : Thread nD τ).loc main_arg46)) (m ((c : Thread nD τ).loc main_arg47)) := by
  rw [out6]
  unfold A0 A1 A2 A3
  rw [pk0, pk1, pk2, pk3]
  exact upd_eq nv (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35)) (m ((c : Thread nD τ).loc main_arg36)) (m ((c : Thread nD τ).loc main_arg37)) (m ((c : Thread nD τ).loc main_arg38)) (m ((c : Thread nD τ).loc main_arg39)) (m ((c : Thread nD τ).loc main_arg40)) (m ((c : Thread nD τ).loc main_arg41)) (m ((c : Thread nD τ).loc main_arg42)) (m ((c : Thread nD τ).loc main_arg43)) (m ((c : Thread nD τ).loc main_arg44)) (m ((c : Thread nD τ).loc main_arg45)) (m ((c : Thread nD τ).loc main_arg46)) (m ((c : Thread nD τ).loc main_arg47))

end Cert.AdamSmallIdeal.Hand

namespace Cert.RefAdamSmallIdeal.Hand

open Cert.RefAdamSmallIdeal Cert.RefAdamSmallIdeal.Gen Cert.RefAdamSmallIdeal.Value Idealize.ShloMosaic Idealize.ShloMosaic.TcCoe
open Cert.AdamSmallIdeal.Hand (UPD dl nm nv)

/-- The reference's steps, element by element of each array. -/
theorem ref4 (V0 : Valuation τ sig (Elt Ideal)) : (shapeCast S2664x128 (res_main_v298 V0) shapeCasts_S340992_S2664x128 : FVec Ideal S2664x128 .f32)
    = UPD dl (V0 (Proc.devRef .tc Cert.RefAdamSmallIdeal.main_arg0)) (V0 (Proc.devRef .tc Cert.RefAdamSmallIdeal.main_arg1)) (V0 (Proc.devRef .tc Cert.RefAdamSmallIdeal.main_arg2)) (V0 (Proc.devRef .tc Cert.RefAdamSmallIdeal.main_arg3)) (V0 (Proc.devRef .tc Cert.RefAdamSmallIdeal.main_arg4)) (V0 (Proc.devRef .tc Cert.RefAdamSmallIdeal.main_arg5)) (V0 (Proc.devRef .tc Cert.RefAdamSmallIdeal.main_arg6)) (V0 (Proc.devRef .tc Cert.RefAdamSmallIdeal.main_arg7)) (V0 (Proc.devRef .tc Cert.RefAdamSmallIdeal.main_arg8)) (V0 (Proc.devRef .tc Cert.RefAdamSmallIdeal.main_arg9)) (V0 (Proc.devRef .tc Cert.RefAdamSmallIdeal.main_arg10)) (V0 (Proc.devRef .tc Cert.RefAdamSmallIdeal.main_arg11)) (V0 (Proc.devRef .tc Cert.RefAdamSmallIdeal.main_arg12)) (V0 (Proc.devRef .tc Cert.RefAdamSmallIdeal.main_arg13)) (V0 (Proc.devRef .tc Cert.RefAdamSmallIdeal.main_arg14)) (V0 (Proc.devRef .tc Cert.RefAdamSmallIdeal.main_arg15)) (V0 (Proc.devRef .tc Cert.RefAdamSmallIdeal.main_arg16)) (V0 (Proc.devRef .tc Cert.RefAdamSmallIdeal.main_arg17)) (V0 (Proc.devRef .tc Cert.RefAdamSmallIdeal.main_arg18)) (V0 (Proc.devRef .tc Cert.RefAdamSmallIdeal.main_arg19)) (V0 (Proc.devRef .tc Cert.RefAdamSmallIdeal.main_arg20)) (V0 (Proc.devRef .tc Cert.RefAdamSmallIdeal.main_arg21)) (V0 (Proc.devRef .tc Cert.RefAdamSmallIdeal.main_arg22)) (V0 (Proc.devRef .tc Cert.RefAdamSmallIdeal.main_arg23)) (V0 (Proc.devRef .tc Cert.RefAdamSmallIdeal.main_arg24)) (V0 (Proc.devRef .tc Cert.RefAdamSmallIdeal.main_arg25)) (V0 (Proc.devRef .tc Cert.RefAdamSmallIdeal.main_arg26)) (V0 (Proc.devRef .tc Cert.RefAdamSmallIdeal.main_arg27)) (V0 (Proc.devRef .tc Cert.RefAdamSmallIdeal.main_arg28)) (V0 (Proc.devRef .tc Cert.RefAdamSmallIdeal.main_arg29)) (V0 (Proc.devRef .tc Cert.RefAdamSmallIdeal.main_arg30)) (V0 (Proc.devRef .tc Cert.RefAdamSmallIdeal.main_arg31)) (V0 (Proc.devRef .tc Cert.RefAdamSmallIdeal.main_arg32)) (V0 (Proc.devRef .tc Cert.RefAdamSmallIdeal.main_arg33)) (V0 (Proc.devRef .tc Cert.RefAdamSmallIdeal.main_arg34)) (V0 (Proc.devRef .tc Cert.RefAdamSmallIdeal.main_arg35)) (V0 (Proc.devRef .tc Cert.RefAdamSmallIdeal.main_arg36)) (V0 (Proc.devRef .tc Cert.RefAdamSmallIdeal.main_arg37)) (V0 (Proc.devRef .tc Cert.RefAdamSmallIdeal.main_arg38)) (V0 (Proc.devRef .tc Cert.RefAdamSmallIdeal.main_arg39)) (V0 (Proc.devRef .tc Cert.RefAdamSmallIdeal.main_arg40)) (V0 (Proc.devRef .tc Cert.RefAdamSmallIdeal.main_arg41)) (V0 (Proc.devRef .tc Cert.RefAdamSmallIdeal.main_arg42)) (V0 (Proc.devRef .tc Cert.RefAdamSmallIdeal.main_arg43)) (V0 (Proc.devRef .tc Cert.RefAdamSmallIdeal.main_arg44)) (V0 (Proc.devRef .tc Cert.RefAdamSmallIdeal.main_arg45)) (V0 (Proc.devRef .tc Cert.RefAdamSmallIdeal.main_arg46)) (V0 (Proc.devRef .tc Cert.RefAdamSmallIdeal.main_arg47)) := by
  rfl

/-- The reference's new first moments, element by element of each array. -/
theorem ref5 (V0 : Valuation τ sig (Elt Ideal)) : (shapeCast S2664x128 (((concatenate S340992 0 [⟨S2048, ((res_main_v4 V0) : (⟨S2048, .f32⟩ : BufTy).Contents (Elt Ideal))⟩, ⟨S49152, ((shapeCast _ (res_main_v28 V0) shapeCasts_S4x12288_S49152) : (⟨S49152, .f32⟩ : BufTy).Contents (Elt Ideal))⟩, ⟨S8192, ((shapeCast _ (res_main_v52 V0) shapeCasts_S4x2048_S8192) : (⟨S8192, .f32⟩ : BufTy).Contents (Elt Ideal))⟩, ⟨S8192, ((shapeCast _ (res_main_v76 V0) shapeCasts_S4x2048_S8192) : (⟨S8192, .f32⟩ : BufTy).Contents (Elt Ideal))⟩, ⟨S1024, ((shapeCast _ (res_main_v100 V0) shapeCasts_S2x2x256_S1024) : (⟨S1024, .f32⟩ : BufTy).Contents (Elt Ideal))⟩, ⟨S2048, ((shapeCast _ (res_main_v124 V0) shapeCasts_S2x1024_S2048) : (⟨S2048, .f32⟩ : BufTy).Contents (Elt Ideal))⟩, ⟨S262144, ((shapeCast _ (res_main_v148 V0) shapeCasts_S2x8x128x128_S262144) : (⟨S262144, .f32⟩ : BufTy).Contents (Elt Ideal))⟩, ⟨S2048, ((shapeCast _ (res_main_v172 V0) shapeCasts_S2x8x128_S2048) : (⟨S2048, .f32⟩ : BufTy).Contents (Elt Ideal))⟩, ⟨S2048, ((shapeCast _ (res_main_v196 V0) shapeCasts_S2x1024_S2048) : (⟨S2048, .f32⟩ : BufTy).Contents (Elt Ideal))⟩, ⟨S1024, ((shapeCast _ (res_main_v220 V0) shapeCasts_S2x4x128_S1024) : (⟨S1024, .f32⟩ : BufTy).Contents (Elt Ideal))⟩, ⟨S1024, ((shapeCast _ (res_main_v244 V0) shapeCasts_S2x512_S1024) : (⟨S1024, .f32⟩ : BufTy).Contents (Elt Ideal))⟩, ⟨S2048, ((res_main_v268 V0) : (⟨S2048, .f32⟩ : BufTy).Contents (Elt Ideal))⟩] concatenates_S2048_S49152_S8192_S8192_S1024_S2048_S262144_S2048_S2048_S1024_S1024_S2048_S340992_d0 : (⟨S340992, .f32⟩ : BufTy).Contents (Elt Ideal)))) shapeCasts_S340992_S2664x128 : FVec Ideal S2664x128 .f32)
    = UPD nm (V0 (Proc.devRef .tc Cert.RefAdamSmallIdeal.main_arg0)) (V0 (Proc.devRef .tc Cert.RefAdamSmallIdeal.main_arg1)) (V0 (Proc.devRef .tc Cert.RefAdamSmallIdeal.main_arg2)) (V0 (Proc.devRef .tc Cert.RefAdamSmallIdeal.main_arg3)) (V0 (Proc.devRef .tc Cert.RefAdamSmallIdeal.main_arg4)) (V0 (Proc.devRef .tc Cert.RefAdamSmallIdeal.main_arg5)) (V0 (Proc.devRef .tc Cert.RefAdamSmallIdeal.main_arg6)) (V0 (Proc.devRef .tc Cert.RefAdamSmallIdeal.main_arg7)) (V0 (Proc.devRef .tc Cert.RefAdamSmallIdeal.main_arg8)) (V0 (Proc.devRef .tc Cert.RefAdamSmallIdeal.main_arg9)) (V0 (Proc.devRef .tc Cert.RefAdamSmallIdeal.main_arg10)) (V0 (Proc.devRef .tc Cert.RefAdamSmallIdeal.main_arg11)) (V0 (Proc.devRef .tc Cert.RefAdamSmallIdeal.main_arg12)) (V0 (Proc.devRef .tc Cert.RefAdamSmallIdeal.main_arg13)) (V0 (Proc.devRef .tc Cert.RefAdamSmallIdeal.main_arg14)) (V0 (Proc.devRef .tc Cert.RefAdamSmallIdeal.main_arg15)) (V0 (Proc.devRef .tc Cert.RefAdamSmallIdeal.main_arg16)) (V0 (Proc.devRef .tc Cert.RefAdamSmallIdeal.main_arg17)) (V0 (Proc.devRef .tc Cert.RefAdamSmallIdeal.main_arg18)) (V0 (Proc.devRef .tc Cert.RefAdamSmallIdeal.main_arg19)) (V0 (Proc.devRef .tc Cert.RefAdamSmallIdeal.main_arg20)) (V0 (Proc.devRef .tc Cert.RefAdamSmallIdeal.main_arg21)) (V0 (Proc.devRef .tc Cert.RefAdamSmallIdeal.main_arg22)) (V0 (Proc.devRef .tc Cert.RefAdamSmallIdeal.main_arg23)) (V0 (Proc.devRef .tc Cert.RefAdamSmallIdeal.main_arg24)) (V0 (Proc.devRef .tc Cert.RefAdamSmallIdeal.main_arg25)) (V0 (Proc.devRef .tc Cert.RefAdamSmallIdeal.main_arg26)) (V0 (Proc.devRef .tc Cert.RefAdamSmallIdeal.main_arg27)) (V0 (Proc.devRef .tc Cert.RefAdamSmallIdeal.main_arg28)) (V0 (Proc.devRef .tc Cert.RefAdamSmallIdeal.main_arg29)) (V0 (Proc.devRef .tc Cert.RefAdamSmallIdeal.main_arg30)) (V0 (Proc.devRef .tc Cert.RefAdamSmallIdeal.main_arg31)) (V0 (Proc.devRef .tc Cert.RefAdamSmallIdeal.main_arg32)) (V0 (Proc.devRef .tc Cert.RefAdamSmallIdeal.main_arg33)) (V0 (Proc.devRef .tc Cert.RefAdamSmallIdeal.main_arg34)) (V0 (Proc.devRef .tc Cert.RefAdamSmallIdeal.main_arg35)) (V0 (Proc.devRef .tc Cert.RefAdamSmallIdeal.main_arg36)) (V0 (Proc.devRef .tc Cert.RefAdamSmallIdeal.main_arg37)) (V0 (Proc.devRef .tc Cert.RefAdamSmallIdeal.main_arg38)) (V0 (Proc.devRef .tc Cert.RefAdamSmallIdeal.main_arg39)) (V0 (Proc.devRef .tc Cert.RefAdamSmallIdeal.main_arg40)) (V0 (Proc.devRef .tc Cert.RefAdamSmallIdeal.main_arg41)) (V0 (Proc.devRef .tc Cert.RefAdamSmallIdeal.main_arg42)) (V0 (Proc.devRef .tc Cert.RefAdamSmallIdeal.main_arg43)) (V0 (Proc.devRef .tc Cert.RefAdamSmallIdeal.main_arg44)) (V0 (Proc.devRef .tc Cert.RefAdamSmallIdeal.main_arg45)) (V0 (Proc.devRef .tc Cert.RefAdamSmallIdeal.main_arg46)) (V0 (Proc.devRef .tc Cert.RefAdamSmallIdeal.main_arg47)) := by
  rfl

/-- The reference's new second moments, element by element of each array. -/
theorem ref6 (V0 : Valuation τ sig (Elt Ideal)) : (shapeCast S2664x128 (((concatenate S340992 0 [⟨S2048, ((res_main_v10 V0) : (⟨S2048, .f32⟩ : BufTy).Contents (Elt Ideal))⟩, ⟨S49152, ((shapeCast _ (res_main_v34 V0) shapeCasts_S4x12288_S49152) : (⟨S49152, .f32⟩ : BufTy).Contents (Elt Ideal))⟩, ⟨S8192, ((shapeCast _ (res_main_v58 V0) shapeCasts_S4x2048_S8192) : (⟨S8192, .f32⟩ : BufTy).Contents (Elt Ideal))⟩, ⟨S8192, ((shapeCast _ (res_main_v82 V0) shapeCasts_S4x2048_S8192) : (⟨S8192, .f32⟩ : BufTy).Contents (Elt Ideal))⟩, ⟨S1024, ((shapeCast _ (res_main_v106 V0) shapeCasts_S2x2x256_S1024) : (⟨S1024, .f32⟩ : BufTy).Contents (Elt Ideal))⟩, ⟨S2048, ((shapeCast _ (res_main_v130 V0) shapeCasts_S2x1024_S2048) : (⟨S2048, .f32⟩ : BufTy).Contents (Elt Ideal))⟩, ⟨S262144, ((shapeCast _ (res_main_v154 V0) shapeCasts_S2x8x128x128_S262144) : (⟨S262144, .f32⟩ : BufTy).Contents (Elt Ideal))⟩, ⟨S2048, ((shapeCast _ (res_main_v178 V0) shapeCasts_S2x8x128_S2048) : (⟨S2048, .f32⟩ : BufTy).Contents (Elt Ideal))⟩, ⟨S2048, ((shapeCast _ (res_main_v202 V0) shapeCasts_S2x1024_S2048) : (⟨S2048, .f32⟩ : BufTy).Contents (Elt Ideal))⟩, ⟨S1024, ((shapeCast _ (res_main_v226 V0) shapeCasts_S2x4x128_S1024) : (⟨S1024, .f32⟩ : BufTy).Contents (Elt Ideal))⟩, ⟨S1024, ((shapeCast _ (res_main_v250 V0) shapeCasts_S2x512_S1024) : (⟨S1024, .f32⟩ : BufTy).Contents (Elt Ideal))⟩, ⟨S2048, ((res_main_v274 V0) : (⟨S2048, .f32⟩ : BufTy).Contents (Elt Ideal))⟩] concatenates_S2048_S49152_S8192_S8192_S1024_S2048_S262144_S2048_S2048_S1024_S1024_S2048_S340992_d0 : (⟨S340992, .f32⟩ : BufTy).Contents (Elt Ideal)))) shapeCasts_S340992_S2664x128 : FVec Ideal S2664x128 .f32)
    = UPD nv (V0 (Proc.devRef .tc Cert.RefAdamSmallIdeal.main_arg0)) (V0 (Proc.devRef .tc Cert.RefAdamSmallIdeal.main_arg1)) (V0 (Proc.devRef .tc Cert.RefAdamSmallIdeal.main_arg2)) (V0 (Proc.devRef .tc Cert.RefAdamSmallIdeal.main_arg3)) (V0 (Proc.devRef .tc Cert.RefAdamSmallIdeal.main_arg4)) (V0 (Proc.devRef .tc Cert.RefAdamSmallIdeal.main_arg5)) (V0 (Proc.devRef .tc Cert.RefAdamSmallIdeal.main_arg6)) (V0 (Proc.devRef .tc Cert.RefAdamSmallIdeal.main_arg7)) (V0 (Proc.devRef .tc Cert.RefAdamSmallIdeal.main_arg8)) (V0 (Proc.devRef .tc Cert.RefAdamSmallIdeal.main_arg9)) (V0 (Proc.devRef .tc Cert.RefAdamSmallIdeal.main_arg10)) (V0 (Proc.devRef .tc Cert.RefAdamSmallIdeal.main_arg11)) (V0 (Proc.devRef .tc Cert.RefAdamSmallIdeal.main_arg12)) (V0 (Proc.devRef .tc Cert.RefAdamSmallIdeal.main_arg13)) (V0 (Proc.devRef .tc Cert.RefAdamSmallIdeal.main_arg14)) (V0 (Proc.devRef .tc Cert.RefAdamSmallIdeal.main_arg15)) (V0 (Proc.devRef .tc Cert.RefAdamSmallIdeal.main_arg16)) (V0 (Proc.devRef .tc Cert.RefAdamSmallIdeal.main_arg17)) (V0 (Proc.devRef .tc Cert.RefAdamSmallIdeal.main_arg18)) (V0 (Proc.devRef .tc Cert.RefAdamSmallIdeal.main_arg19)) (V0 (Proc.devRef .tc Cert.RefAdamSmallIdeal.main_arg20)) (V0 (Proc.devRef .tc Cert.RefAdamSmallIdeal.main_arg21)) (V0 (Proc.devRef .tc Cert.RefAdamSmallIdeal.main_arg22)) (V0 (Proc.devRef .tc Cert.RefAdamSmallIdeal.main_arg23)) (V0 (Proc.devRef .tc Cert.RefAdamSmallIdeal.main_arg24)) (V0 (Proc.devRef .tc Cert.RefAdamSmallIdeal.main_arg25)) (V0 (Proc.devRef .tc Cert.RefAdamSmallIdeal.main_arg26)) (V0 (Proc.devRef .tc Cert.RefAdamSmallIdeal.main_arg27)) (V0 (Proc.devRef .tc Cert.RefAdamSmallIdeal.main_arg28)) (V0 (Proc.devRef .tc Cert.RefAdamSmallIdeal.main_arg29)) (V0 (Proc.devRef .tc Cert.RefAdamSmallIdeal.main_arg30)) (V0 (Proc.devRef .tc Cert.RefAdamSmallIdeal.main_arg31)) (V0 (Proc.devRef .tc Cert.RefAdamSmallIdeal.main_arg32)) (V0 (Proc.devRef .tc Cert.RefAdamSmallIdeal.main_arg33)) (V0 (Proc.devRef .tc Cert.RefAdamSmallIdeal.main_arg34)) (V0 (Proc.devRef .tc Cert.RefAdamSmallIdeal.main_arg35)) (V0 (Proc.devRef .tc Cert.RefAdamSmallIdeal.main_arg36)) (V0 (Proc.devRef .tc Cert.RefAdamSmallIdeal.main_arg37)) (V0 (Proc.devRef .tc Cert.RefAdamSmallIdeal.main_arg38)) (V0 (Proc.devRef .tc Cert.RefAdamSmallIdeal.main_arg39)) (V0 (Proc.devRef .tc Cert.RefAdamSmallIdeal.main_arg40)) (V0 (Proc.devRef .tc Cert.RefAdamSmallIdeal.main_arg41)) (V0 (Proc.devRef .tc Cert.RefAdamSmallIdeal.main_arg42)) (V0 (Proc.devRef .tc Cert.RefAdamSmallIdeal.main_arg43)) (V0 (Proc.devRef .tc Cert.RefAdamSmallIdeal.main_arg44)) (V0 (Proc.devRef .tc Cert.RefAdamSmallIdeal.main_arg45)) (V0 (Proc.devRef .tc Cert.RefAdamSmallIdeal.main_arg46)) (V0 (Proc.devRef .tc Cert.RefAdamSmallIdeal.main_arg47)) := by
  rfl

end Cert.RefAdamSmallIdeal.Hand

namespace Cert.AdamSmallIdeal.Hand

end Cert.AdamSmallIdeal.Hand

set_option maxHeartbeats 4000000 in
open Idealize.ShloMosaic Idealize.ShloMosaic.TcCoe in
/-- From equal arguments the kernel and the reference end with equal results. -/
theorem Cert.AdamSmallIdeal.Hand.algebraic : Cert.algebraic_AdamSmallIdeal_RefAdamSmallIdeal
    (hAdamSmallIdeal := Cert.AdamSmallIdeal.Gen.facts) (hRefAdamSmallIdeal := Cert.RefAdamSmallIdeal.Gen.facts) := by
  pair_intro
  · run_from Cert.AdamSmallIdeal.Value.run_blocks m g
  · run_from Cert.RefAdamSmallIdeal.Value.run m' g'
    · obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47⟩ := hagree c
      exact (Cert.RefAdamSmallIdeal.Hand.ref4 _).trans ((Cert.AdamSmallIdeal.Hand.upd_congr Cert.AdamSmallIdeal.Hand.dl h0 h1 h2 h3 h4 h5 h6 h7 h8 h9 h10 h11 h12 h13 h14 h15 h16 h17 h18 h19 h20 h21 h22 h23 h24 h25 h26 h27 h28 h29 h30 h31 h32 h33 h34 h35 h36 h37 h38 h39 h40 h41 h42 h43 h44 h45 h46 h47).trans (Cert.AdamSmallIdeal.Hand.final4 m c).symm)
    · obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47⟩ := hagree c
      exact (Cert.RefAdamSmallIdeal.Hand.ref5 _).trans ((Cert.AdamSmallIdeal.Hand.upd_congr Cert.AdamSmallIdeal.Hand.nm h0 h1 h2 h3 h4 h5 h6 h7 h8 h9 h10 h11 h12 h13 h14 h15 h16 h17 h18 h19 h20 h21 h22 h23 h24 h25 h26 h27 h28 h29 h30 h31 h32 h33 h34 h35 h36 h37 h38 h39 h40 h41 h42 h43 h44 h45 h46 h47).trans (Cert.AdamSmallIdeal.Hand.final5 m c).symm)
    · obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47⟩ := hagree c
      exact (Cert.RefAdamSmallIdeal.Hand.ref6 _).trans ((Cert.AdamSmallIdeal.Hand.upd_congr Cert.AdamSmallIdeal.Hand.nv h0 h1 h2 h3 h4 h5 h6 h7 h8 h9 h10 h11 h12 h13 h14 h15 h16 h17 h18 h19 h20 h21 h22 h23 h24 h25 h26 h27 h28 h29 h30 h31 h32 h33 h34 h35 h36 h37 h38 h39 h40 h41 h42 h43 h44 h45 h46 h47).trans (Cert.AdamSmallIdeal.Hand.final6 m c).symm)

end
-- ==== Proof.ChunkMlp.lean ====
module

public import proofs.«01_k».proof.Proof.Gen.ChunkMlpIdeal.Value
public import proofs.«01_k».proof.Proof.Gen.RefChunkMlpIdeal.Run
public import proofs.«01_k».proof.Defs
public import Idealize.ShloMosaic.Lib.Pipeline.ValueKit
public import Idealize.ShloMosaic.Lib.Tactic
public import Idealize.ShloMosaic.Lib.Pointwise
public import Idealize.ShloMosaic.PureOps.Ideal.Laws

/-! The chunk MLP: GELU of both halves, one normed in each group, the tokens of a chunk mixed, and the product. -/

@[expose] public section

set_option maxRecDepth 16384

noncomputable section

namespace Cert.ChunkMlp

open Idealize.ShloMosaic

/-- The exact GELU. -/
def gelu (x : EReal) : EReal := Ideal.ofBits .f32 0x3F000000#32 * x * (1 + Ideal.erf (x * Ideal.ofBits .f32 0x3F3504F3#32))

/-- The mean of a group's GELUs. -/
def mean (f : Fin 128 → EReal) : EReal := Ideal.div (∑ j : Fin 128, gelu (f j)) (Ideal.ofBits .f32 0x43000000#32)

/-- The group's channel normed: centred, over the root of the variance, times its gain. -/
def norm (f : Fin 128 → EReal) (g : EReal) (k : Fin 128) : EReal :=
  (gelu (f k) - mean f) * Ideal.rsqrt (Ideal.div (∑ j : Fin 128, (gelu (f j) - mean f) * (gelu (f j) - mean f)) (Ideal.ofBits .f32 0x43000000#32) + Ideal.ofBits .f32 0x358637BD#32) * g

/-- A token's channel: its GELU times the mix of the chunk's normed tokens and the bias. -/
def cell (u : EReal) (v : Fin 128 → Fin 128 → EReal) (w : Fin 128 → EReal) (g b : EReal) (k : Fin 128) : EReal :=
  gelu u * ((∑ s : Fin 128, w s * norm (v s) g k) + b)

/-- Equal data give equal elements. -/
theorem cell_congr {u u' : EReal} {v v' : Fin 128 → Fin 128 → EReal} {w w' : Fin 128 → EReal} {g g' b b' : EReal}
    (hu : u = u') (hv : ∀ s k, v s k = v' s k) (hw : ∀ s, w s = w' s) (hg : g = g') (hb : b = b') (k : Fin 128) :
    cell u v w g b k = cell u' v' w' g' b' k := by
  have ev : v = v' := funext fun s => funext fun k => hv s k
  have ew : w = w' := funext hw
  subst hu ev ew hg hb
  rfl

end Cert.ChunkMlp

namespace Cert.RefChunkMlpIdeal.Hand

open Idealize.ShloMosaic Idealize.ShloMosaic.TcCoe Idealize.SL.Sem
open Idealize.ShloMosaic.Pipeline (Dat)
open Cert.RefChunkMlpIdeal Cert.RefChunkMlpIdeal.Gen
open Cert.ChunkMlp (gelu mean norm cell cell_congr)

/-- The gating half of the projection, gelued. -/
def refU (P : FVec Ideal S8448x7168 .f32) : FVec Ideal S8448x1024 .f32 :=
  mulf (mulf (broadcastInDim S8448x1024 ![] bcast_S_S8448x1024 (constant S_ .f32 0x3F000000#32)) (extractStridedSlice S8448x1024 ![0, 5120] P slices_S8448x7168_S8448x1024_0_5120)) (Host.erfc (mulf (Host.negf (extractStridedSlice S8448x1024 ![0, 5120] P slices_S8448x7168_S8448x1024_0_5120)) (broadcastInDim S8448x1024 ![] bcast_S_S8448x1024 (constant S_ .f32 0x3F3504F3#32))))

/-- The half that is normed, gelued, by groups. -/
def refV (P : FVec Ideal S8448x7168 .f32) : FVec Ideal S8448x8x128 .f32 :=
  shapeCast _ (mulf (mulf (broadcastInDim S8448x1024 ![] bcast_S_S8448x1024 (constant S_ .f32 0x3F000000#32)) (extractStridedSlice S8448x1024 ![0, 6144] P slices_S8448x7168_S8448x1024_0_6144)) (Host.erfc (mulf (Host.negf (extractStridedSlice S8448x1024 ![0, 6144] P slices_S8448x7168_S8448x1024_0_6144)) (broadcastInDim S8448x1024 ![] bcast_S_S8448x1024 (constant S_ .f32 0x3F3504F3#32))))) shapeCasts_S8448x1024_S8448x8x128

/-- A group less its mean. -/
def refC (V : FVec Ideal S8448x8x128 .f32) : FVec Ideal S8448x8x128 .f32 :=
  subf V (broadcastInDim S8448x8x128 ![0, 1, 2] bcast_S8448x8x1_S8448x8x128_0_1_2 (Host.divf (broadcastInDim S8448x8x1 ![0, 1] bcast_S8448x8_S8448x8x1_0_1 (Host.reduceAdd V (constant S_ .f32 0x00000000#32) reducesTo_S8448x8x128_S8448x8_d2 h_S_)) (broadcastInDim S8448x8x1 ![] bcast_S_S8448x8x1 (constant S_ .f32 0x43000000#32))))

/-- A group normed, with its gain. -/
def refN (V : FVec Ideal S8448x8x128 .f32) (G : FVec Ideal S1024 .f32) : FVec Ideal S8448x8x128 .f32 :=
  mulf (mulf (refC V) (broadcastInDim S8448x8x128 ![0, 1, 2] bcast_S8448x8x1_S8448x8x128_0_1_2 (Host.rsqrt (addf (Host.divf (broadcastInDim S8448x8x1 ![0, 1] bcast_S8448x8_S8448x8x1_0_1 (Host.reduceAdd (mulf (refC V) (refC V)) (constant S_ .f32 0x00000000#32) reducesTo_S8448x8x128_S8448x8_d2 h_S_)) (broadcastInDim S8448x8x1 ![] bcast_S_S8448x8x1 (constant S_ .f32 0x43000000#32))) (broadcastInDim S8448x8x1 ![] bcast_S_S8448x8x1 (constant S_ .f32 0x358637BD#32)))))) (broadcastInDim S8448x8x128 ![0, 1, 2] bcast_S1x8x128_S8448x8x128_0_1_2 (broadcastInDim S1x8x128 ![1, 2] bcast_S8x128_S1x8x128_1_2 (shapeCast _ G shapeCasts_S1024_S8x128)))

/-- The tokens of every chunk mixed, with the bias. -/
def refM (N : FVec Ideal S8448x8x128 .f32) (W : FVec Ideal S8x128x128 .f32) (B : FVec Ideal S8x128 .f32) : FVec Ideal S8448x1024 .f32 :=
  shapeCast _ (addf (transpose S66x128x8x128 [1, 3, 0, 2] (Host.dotGeneral dot_S66x128x8x128_S8x128x128_S8x66x128x128_1_2_03_1_2_0 none (shapeCast _ N shapeCasts_S8448x8x128_S66x128x8x128) W) transposes_S8x66x128x128_S66x128x8x128_1_3_0_2) (broadcastInDim S66x128x8x128 ![0, 1, 2, 3] bcast_S1x128x8x1_S66x128x8x128_0_1_2_3 (broadcastInDim S1x128x8x1 ![1, 2, 3] bcast_S128x8x1_S1x128x8x1_1_2_3 (broadcastInDim S128x8x1 ![0, 1] bcast_S128x8_S128x8x1_0_1 (transpose S128x8 [1, 0] B transposes_S8x128_S128x8_1_0))))) shapeCasts_S66x128x8x128_S8448x1024

/-- The reference's result over variables. -/
def ref (P : FVec Ideal S8448x7168 .f32) (W : FVec Ideal S8x128x128 .f32) (B : FVec Ideal S8x128 .f32) (G : FVec Ideal S1024 .f32) : FVec Ideal S8448x1024 .bf16 :=
  truncf .bf16 (mulf (refU P) (refM (refN (refV P) G) W B)) bitsLt_bf16_f32

/-- The gating half at an index. -/
theorem u_at (P : FVec Ideal S8448x7168 .f32) (a : Fin 8448) (b : Fin 1024) :
    refU P (ix2 a b) = gelu (P (ix2 a ⟨5120 + (b : ℕ), by omega⟩)) := by
  pointwise [refU]
  simp only [neg_mul]
  exact congrArg _ (Ideal.erfc_neg _)

/-- The normed half at an index. -/
theorem v_at (P : FVec Ideal S8448x7168 .f32) (a : Fin 8448) (g : Fin 8) (k : Fin 128) :
    refV P (ix3 a g k) = gelu (P (ix2 a ⟨6144 + ((g : ℕ) * 128 + k), by omega⟩)) := by
  pointwise [refV]
  simp only [neg_mul]
  exact congrArg _ (Ideal.erfc_neg _)

/-- A group less its mean at an index. -/
theorem c_at (V : FVec Ideal S8448x8x128 .f32) (a : Fin 8448) (g : Fin 8) (k : Fin 128) :
    refC V (ix3 a g k) = V (ix3 a g k) - Ideal.div (∑ j : Fin 128, V (ix3 a g j)) (Ideal.ofBits .f32 0x43000000#32) := by
  pointwise [refC]

/-- A group normed at an index. -/
theorem n_at (V : FVec Ideal S8448x8x128 .f32) (G : FVec Ideal S1024 .f32) (a : Fin 8448) (g : Fin 8) (k : Fin 128) :
    refN V G (ix3 a g k) = refC V (ix3 a g k) * Ideal.rsqrt (Ideal.div (∑ j : Fin 128, refC V (ix3 a g j) * refC V (ix3 a g j)) (Ideal.ofBits .f32 0x43000000#32) + Ideal.ofBits .f32 0x358637BD#32)
      * G (ix1 ⟨(g : ℕ) * 128 + k, by omega⟩) := by
  pointwise [refN]

/-- The mix at an index. -/
theorem m_at (N : FVec Ideal S8448x8x128 .f32) (W : FVec Ideal S8x128x128 .f32) (B : FVec Ideal S8x128 .f32) (a : Fin 8448) (b : Fin 1024) :
    refM N W B (ix2 a b) = (∑ s : Fin 128, N (ix3 ⟨(a : ℕ) / 128 * 128 + s, by omega⟩ ⟨(b : ℕ) / 128, by omega⟩ ⟨(b : ℕ) % 128, by omega⟩)
        * W (ix3 ⟨(b : ℕ) / 128, by omega⟩ ⟨(a : ℕ) % 128, by omega⟩ s))
      + B (ix2 ⟨(b : ℕ) / 128, by omega⟩ ⟨(a : ℕ) % 128, by omega⟩) := by
  pointwise [refM]

/-- The reference at an index: the chunk of a row is the row over 128, the group of a column the column over 128. -/
theorem ref_at (P : FVec Ideal S8448x7168 .f32) (W : FVec Ideal S8x128x128 .f32) (B : FVec Ideal S8x128 .f32) (G : FVec Ideal S1024 .f32) (a : Fin 8448) (b : Fin 1024) :
    ref P W B G (ix2 a b) = cell (P (ix2 a ⟨5120 + (b : ℕ), by omega⟩))
      (fun s k => P (ix2 ⟨(a : ℕ) / 128 * 128 + s, by omega⟩ ⟨6144 + ((b : ℕ) / 128 * 128 + k), by omega⟩))
      (fun s => W (ix3 ⟨(b : ℕ) / 128, by omega⟩ ⟨(a : ℕ) % 128, by omega⟩ s)) (G (ix1 b))
      (B (ix2 ⟨(b : ℕ) / 128, by omega⟩ ⟨(a : ℕ) % 128, by omega⟩)) ⟨(b : ℕ) % 128, by omega⟩ := by
  have eb : (⟨(b : ℕ) / 128 * 128 + (b : ℕ) % 128, by omega⟩ : Fin 1024) = b := Fin.ext (Nat.div_add_mod' _ _)
  refine (show ref P W B G (ix2 a b) = refU P (ix2 a b) * refM (refN (refV P) G) W B (ix2 a b) from rfl).trans ?_
  rw [u_at, m_at]
  unfold cell Cert.ChunkMlp.norm mean
  simp only [n_at, c_at, v_at, eb]
  refine congrArg _ (congrArg (· + _) (Finset.sum_congr rfl fun s _ => mul_comm _ _))

end Cert.RefChunkMlpIdeal.Hand

namespace Cert.ChunkMlpIdeal.Hand

open Idealize.ShloMosaic Idealize.ShloMosaic.TcCoe Idealize.SL.Sem
open Idealize.ShloMosaic.Pipeline (Dat)
open Cert.ChunkMlpIdeal Cert.ChunkMlpIdeal.Gen
open Cert.ChunkMlp (gelu mean norm cell cell_congr)

variable (m : (ℓ : Loc nD τ sig) → Buf (Elt Ideal) ℓ)

/-- Every window's block index at a grid point. -/
theorem idx : ∀ t : Fin cfg0.N, win0_0.index t = ![t.val, 5]
    ∧ win0_1.index t = ![t.val, 6]
    ∧ win0_2.index t = ![0, 0, 0]
    ∧ win0_3.index t = ![0, 0, 0]
    ∧ win0_4.index t = ![0, 0]
    ∧ win0_5.index t = ![t.val, 0] :=
  (by decide +kernel : ∀ t : Fin grid0.N, _)

/-- One group's rows of one chunk at an index: what each of the sixteen stores holds. -/
theorem part_at (U V : FVec Ideal S128x128 .f32) (W : FVec Ideal S1x128x128 .f32) (B : FVec Ideal S1x128x1 .f32) (G : FVec Ideal S1x128 .f32) (a b : Fin 128) :
    k0_pay3 (F := Ideal) (k0_pay2 V G W B) U (ix2 a b)
      = cell (U (ix2 a b)) (fun s k => V (ix2 s k)) (fun s => W (ix3 0 a s)) (G (ix2 0 b)) (B (ix3 0 a 0)) b := by
  unfold cell gelu Cert.ChunkMlp.norm mean
  pointwise [k0_pay3, k0_pay2]
  rfl

/-- What an element of the block becomes. -/
def elt (U V : FVec Ideal S256x1024 .f32) (W : FVec Ideal S8x128x128 .f32) (B : FVec Ideal S8x128x1 .f32) (G : FVec Ideal S1x1024 .f32) (a : Fin 256) (b : Fin 1024) : EReal :=
  cell (U (ix2 a b)) (fun s k => V (ix2 ⟨(a : ℕ) / 128 * 128 + s, by omega⟩ ⟨(b : ℕ) / 128 * 128 + k, by omega⟩))
    (fun s => W (ix3 ⟨(b : ℕ) / 128, by omega⟩ ⟨(a : ℕ) % 128, by omega⟩ s)) (G (ix2 0 b))
    (B (ix3 ⟨(b : ℕ) / 128, by omega⟩ ⟨(a : ℕ) % 128, by omega⟩ 0)) ⟨(b : ℕ) % 128, by omega⟩

/-- One store at its own index is the block's formula at that chunk's row and that group's column. -/
theorem piece_at (U V : FVec Ideal S256x1024 .f32) (W : FVec Ideal S8x128x128 .f32) (B : FVec Ideal S8x128x1 .f32) (G : FVec Ideal S1x1024 .f32)
    (h n : ℕ) (hh : h < 2) (hn : n < 8)
    (U' V' : FVec Ideal S128x128 .f32) (W' : FVec Ideal S1x128x128 .f32) (B' : FVec Ideal S1x128x1 .f32) (G' : FVec Ideal S1x128 .f32)
    (hU : ∀ a b : Fin 128, U' (ix2 a b) = U (ix2 ⟨h * 128 + a, by omega⟩ ⟨n * 128 + b, by omega⟩))
    (hV : ∀ a b : Fin 128, V' (ix2 a b) = V (ix2 ⟨h * 128 + a, by omega⟩ ⟨n * 128 + b, by omega⟩))
    (hW : ∀ a b : Fin 128, W' (ix3 0 a b) = W (ix3 ⟨n, hn⟩ a b))
    (hB : ∀ a : Fin 128, B' (ix3 0 a 0) = B (ix3 ⟨n, hn⟩ a 0))
    (hG : ∀ b : Fin 128, G' (ix2 0 b) = G (ix2 0 ⟨n * 128 + b, by omega⟩))
    (a b : Fin 128) :
    k0_pay3 (F := Ideal) (k0_pay2 V' G' W' B') U' (ix2 a b) = elt U V W B G ⟨h * 128 + a, by omega⟩ ⟨n * 128 + b, by omega⟩ := by
  have e1 : ∀ k : Fin 128, (⟨(n * 128 + (b : ℕ)) / 128 * 128 + (k : ℕ), by omega⟩ : Fin 1024) = ⟨n * 128 + (k : ℕ), by omega⟩ :=
    fun k => Fin.ext (by dsimp only; omega)
  have e2 : ∀ k : Fin 128, (⟨(h * 128 + (a : ℕ)) / 128 * 128 + (k : ℕ), by omega⟩ : Fin 256) = ⟨h * 128 + (k : ℕ), by omega⟩ :=
    fun k => Fin.ext (by dsimp only; omega)
  have e3 : (⟨(n * 128 + (b : ℕ)) / 128, by omega⟩ : Fin 8) = ⟨n, hn⟩ := Fin.ext (by dsimp only; omega)
  have e4 : (⟨(h * 128 + (a : ℕ)) % 128, by omega⟩ : Fin 128) = a := Fin.ext (by dsimp only; omega)
  have e5 : (⟨(n * 128 + (b : ℕ)) % 128, by omega⟩ : Fin 128) = b := Fin.ext (by dsimp only; omega)
  rw [part_at]
  unfold elt
  simp only [hU, hV, hW, hB, hG, e1, e2, e3, e4, e5]

/-- One store is that chunk's and that group's part of the block. -/
theorem piece (U V : FVec Ideal S256x1024 .f32) (W : FVec Ideal S8x128x128 .f32) (B : FVec Ideal S8x128x1 .f32) (G : FVec Ideal S1x1024 .f32)
    (h n : ℕ) (hh : h < 2) (hn : n < 8)
    (U' V' : FVec Ideal S128x128 .f32) (W' : FVec Ideal S1x128x128 .f32) (B' : FVec Ideal S1x128x1 .f32) (G' : FVec Ideal S1x128 .f32)
    (hU : ∀ a b : Fin 128, U' (ix2 a b) = U (ix2 ⟨h * 128 + a, by omega⟩ ⟨n * 128 + b, by omega⟩))
    (hV : ∀ a b : Fin 128, V' (ix2 a b) = V (ix2 ⟨h * 128 + a, by omega⟩ ⟨n * 128 + b, by omega⟩))
    (hW : ∀ a b : Fin 128, W' (ix3 0 a b) = W (ix3 ⟨n, hn⟩ a b))
    (hB : ∀ a : Fin 128, B' (ix3 0 a 0) = B (ix3 ⟨n, hn⟩ a 0))
    (hG : ∀ b : Fin 128, G' (ix2 0 b) = G (ix2 0 ⟨n * 128 + b, by omega⟩))
    (y : S256x1024.Idx) (x : S128x128.Idx) (h0 : (y 0 : ℕ) = h * 128 + x 0) (h1 : (y 1 : ℕ) = n * 128 + x 1) :
    k0_pay3 (F := Ideal) (k0_pay2 V' G' W' B') U' x = elt U V W B G (y 0) (y 1) := by
  have hx0 : (x 0 : ℕ) < 128 := (x 0).isLt
  have hx1 : (x 1 : ℕ) < 128 := (x 1).isLt
  have ex : x = ix2 (x 0) (x 1) := by idx_vars x; rfl
  have e0 : (⟨h * 128 + (x 0 : ℕ), by omega⟩ : Fin 256) = y 0 := Fin.ext h0.symm
  have e1 : (⟨n * 128 + (x 1 : ℕ), by omega⟩ : Fin 1024) = y 1 := Fin.ext h1.symm
  refine Eq.trans ?_ (congrArg₂ (elt U V W B G) e0 e1)
  exact (congrArg _ ex).trans (piece_at U V W B G h n hh hn U' V' W' B' G' hU hV hW hB hG (x 0) (x 1))

/-- Chunk 0's rows and group 0's columns of a block. -/
theorem part0_0 (x : FVec Ideal S256x1024 .f32) (a b : Fin 128) :
    View.ld (Val := Elt Ideal) (e' := .f32) x r0_0 (ix2 a b) = x (ix2 ⟨0 * 128 + (a : ℕ), by omega⟩ ⟨0 * 128 + (b : ℕ), by omega⟩) := by
  blk_ext [View.ld] <;> first | rfl | simp [Rect.unit]

/-- Chunk 1's rows and group 0's columns of a block. -/
theorem part1_0 (x : FVec Ideal S256x1024 .f32) (a b : Fin 128) :
    View.ld (Val := Elt Ideal) (e' := .f32) x r0_32 (ix2 a b) = x (ix2 ⟨1 * 128 + (a : ℕ), by omega⟩ ⟨0 * 128 + (b : ℕ), by omega⟩) := by
  blk_ext [View.ld] <;> first | rfl | simp [Rect.unit]

/-- Group 0's columns of the gain. -/
theorem gain0 (x : FVec Ideal S1x1024 .f32) (b : Fin 128) :
    View.ld (Val := Elt Ideal) (e' := .f32) x r0_1 (ix2 0 b) = x (ix2 0 ⟨0 * 128 + (b : ℕ), by omega⟩) := by
  blk_ext [View.ld] <;> first | rfl | simp [Rect.unit]

/-- Group 0's mixing weight. -/
theorem mix0 (x : FVec Ideal S8x128x128 .f32) (a b : Fin 128) :
    View.ld (Val := Elt Ideal) (e' := .f32) x r0_2 (ix3 0 a b) = x (ix3 ⟨0, by omega⟩ a b) := by
  blk_ext [View.ld] <;> first | rfl | simp [Rect.unit]

/-- Group 0's bias. -/
theorem bias0 (x : FVec Ideal S8x128x1 .f32) (a : Fin 128) :
    View.ld (Val := Elt Ideal) (e' := .f32) x r0_3 (ix3 0 a 0) = x (ix3 ⟨0, by omega⟩ a 0) := by
  blk_ext [View.ld] <;> first | rfl | simp [Rect.unit]

/-- Chunk 0's rows and group 1's columns of a block. -/
theorem part0_1 (x : FVec Ideal S256x1024 .f32) (a b : Fin 128) :
    View.ld (Val := Elt Ideal) (e' := .f32) x r0_4 (ix2 a b) = x (ix2 ⟨0 * 128 + (a : ℕ), by omega⟩ ⟨1 * 128 + (b : ℕ), by omega⟩) := by
  blk_ext [View.ld] <;> first | rfl | simp [Rect.unit]

/-- Chunk 1's rows and group 1's columns of a block. -/
theorem part1_1 (x : FVec Ideal S256x1024 .f32) (a b : Fin 128) :
    View.ld (Val := Elt Ideal) (e' := .f32) x r0_33 (ix2 a b) = x (ix2 ⟨1 * 128 + (a : ℕ), by omega⟩ ⟨1 * 128 + (b : ℕ), by omega⟩) := by
  blk_ext [View.ld] <;> first | rfl | simp [Rect.unit]

/-- Group 1's columns of the gain. -/
theorem gain1 (x : FVec Ideal S1x1024 .f32) (b : Fin 128) :
    View.ld (Val := Elt Ideal) (e' := .f32) x r0_5 (ix2 0 b) = x (ix2 0 ⟨1 * 128 + (b : ℕ), by omega⟩) := by
  blk_ext [View.ld] <;> first | rfl | simp [Rect.unit]

/-- Group 1's mixing weight. -/
theorem mix1 (x : FVec Ideal S8x128x128 .f32) (a b : Fin 128) :
    View.ld (Val := Elt Ideal) (e' := .f32) x r0_6 (ix3 0 a b) = x (ix3 ⟨1, by omega⟩ a b) := by
  blk_ext [View.ld] <;> first | rfl | simp [Rect.unit]

/-- Group 1's bias. -/
theorem bias1 (x : FVec Ideal S8x128x1 .f32) (a : Fin 128) :
    View.ld (Val := Elt Ideal) (e' := .f32) x r0_7 (ix3 0 a 0) = x (ix3 ⟨1, by omega⟩ a 0) := by
  blk_ext [View.ld] <;> first | rfl | simp [Rect.unit]

/-- Chunk 0's rows and group 2's columns of a block. -/
theorem part0_2 (x : FVec Ideal S256x1024 .f32) (a b : Fin 128) :
    View.ld (Val := Elt Ideal) (e' := .f32) x r0_8 (ix2 a b) = x (ix2 ⟨0 * 128 + (a : ℕ), by omega⟩ ⟨2 * 128 + (b : ℕ), by omega⟩) := by
  blk_ext [View.ld] <;> first | rfl | simp [Rect.unit]

/-- Chunk 1's rows and group 2's columns of a block. -/
theorem part1_2 (x : FVec Ideal S256x1024 .f32) (a b : Fin 128) :
    View.ld (Val := Elt Ideal) (e' := .f32) x r0_34 (ix2 a b) = x (ix2 ⟨1 * 128 + (a : ℕ), by omega⟩ ⟨2 * 128 + (b : ℕ), by omega⟩) := by
  blk_ext [View.ld] <;> first | rfl | simp [Rect.unit]

/-- Group 2's columns of the gain. -/
theorem gain2 (x : FVec Ideal S1x1024 .f32) (b : Fin 128) :
    View.ld (Val := Elt Ideal) (e' := .f32) x r0_9 (ix2 0 b) = x (ix2 0 ⟨2 * 128 + (b : ℕ), by omega⟩) := by
  blk_ext [View.ld] <;> first | rfl | simp [Rect.unit]

/-- Group 2's mixing weight. -/
theorem mix2 (x : FVec Ideal S8x128x128 .f32) (a b : Fin 128) :
    View.ld (Val := Elt Ideal) (e' := .f32) x r0_10 (ix3 0 a b) = x (ix3 ⟨2, by omega⟩ a b) := by
  blk_ext [View.ld] <;> first | rfl | simp [Rect.unit]

/-- Group 2's bias. -/
theorem bias2 (x : FVec Ideal S8x128x1 .f32) (a : Fin 128) :
    View.ld (Val := Elt Ideal) (e' := .f32) x r0_11 (ix3 0 a 0) = x (ix3 ⟨2, by omega⟩ a 0) := by
  blk_ext [View.ld] <;> first | rfl | simp [Rect.unit]

/-- Chunk 0's rows and group 3's columns of a block. -/
theorem part0_3 (x : FVec Ideal S256x1024 .f32) (a b : Fin 128) :
    View.ld (Val := Elt Ideal) (e' := .f32) x r0_12 (ix2 a b) = x (ix2 ⟨0 * 128 + (a : ℕ), by omega⟩ ⟨3 * 128 + (b : ℕ), by omega⟩) := by
  blk_ext [View.ld] <;> first | rfl | simp [Rect.unit]

/-- Chunk 1's rows and group 3's columns of a block. -/
theorem part1_3 (x : FVec Ideal S256x1024 .f32) (a b : Fin 128) :
    View.ld (Val := Elt Ideal) (e' := .f32) x r0_35 (ix2 a b) = x (ix2 ⟨1 * 128 + (a : ℕ), by omega⟩ ⟨3 * 128 + (b : ℕ), by omega⟩) := by
  blk_ext [View.ld] <;> first | rfl | simp [Rect.unit]

/-- Group 3's columns of the gain. -/
theorem gain3 (x : FVec Ideal S1x1024 .f32) (b : Fin 128) :
    View.ld (Val := Elt Ideal) (e' := .f32) x r0_13 (ix2 0 b) = x (ix2 0 ⟨3 * 128 + (b : ℕ), by omega⟩) := by
  blk_ext [View.ld] <;> first | rfl | simp [Rect.unit]

/-- Group 3's mixing weight. -/
theorem mix3 (x : FVec Ideal S8x128x128 .f32) (a b : Fin 128) :
    View.ld (Val := Elt Ideal) (e' := .f32) x r0_14 (ix3 0 a b) = x (ix3 ⟨3, by omega⟩ a b) := by
  blk_ext [View.ld] <;> first | rfl | simp [Rect.unit]

/-- Group 3's bias. -/
theorem bias3 (x : FVec Ideal S8x128x1 .f32) (a : Fin 128) :
    View.ld (Val := Elt Ideal) (e' := .f32) x r0_15 (ix3 0 a 0) = x (ix3 ⟨3, by omega⟩ a 0) := by
  blk_ext [View.ld] <;> first | rfl | simp [Rect.unit]

/-- Chunk 0's rows and group 4's columns of a block. -/
theorem part0_4 (x : FVec Ideal S256x1024 .f32) (a b : Fin 128) :
    View.ld (Val := Elt Ideal) (e' := .f32) x r0_16 (ix2 a b) = x (ix2 ⟨0 * 128 + (a : ℕ), by omega⟩ ⟨4 * 128 + (b : ℕ), by omega⟩) := by
  blk_ext [View.ld] <;> first | rfl | simp [Rect.unit]

/-- Chunk 1's rows and group 4's columns of a block. -/
theorem part1_4 (x : FVec Ideal S256x1024 .f32) (a b : Fin 128) :
    View.ld (Val := Elt Ideal) (e' := .f32) x r0_36 (ix2 a b) = x (ix2 ⟨1 * 128 + (a : ℕ), by omega⟩ ⟨4 * 128 + (b : ℕ), by omega⟩) := by
  blk_ext [View.ld] <;> first | rfl | simp [Rect.unit]

/-- Group 4's columns of the gain. -/
theorem gain4 (x : FVec Ideal S1x1024 .f32) (b : Fin 128) :
    View.ld (Val := Elt Ideal) (e' := .f32) x r0_17 (ix2 0 b) = x (ix2 0 ⟨4 * 128 + (b : ℕ), by omega⟩) := by
  blk_ext [View.ld] <;> first | rfl | simp [Rect.unit]

/-- Group 4's mixing weight. -/
theorem mix4 (x : FVec Ideal S8x128x128 .f32) (a b : Fin 128) :
    View.ld (Val := Elt Ideal) (e' := .f32) x r0_18 (ix3 0 a b) = x (ix3 ⟨4, by omega⟩ a b) := by
  blk_ext [View.ld] <;> first | rfl | simp [Rect.unit]

/-- Group 4's bias. -/
theorem bias4 (x : FVec Ideal S8x128x1 .f32) (a : Fin 128) :
    View.ld (Val := Elt Ideal) (e' := .f32) x r0_19 (ix3 0 a 0) = x (ix3 ⟨4, by omega⟩ a 0) := by
  blk_ext [View.ld] <;> first | rfl | simp [Rect.unit]

/-- Chunk 0's rows and group 5's columns of a block. -/
theorem part0_5 (x : FVec Ideal S256x1024 .f32) (a b : Fin 128) :
    View.ld (Val := Elt Ideal) (e' := .f32) x r0_20 (ix2 a b) = x (ix2 ⟨0 * 128 + (a : ℕ), by omega⟩ ⟨5 * 128 + (b : ℕ), by omega⟩) := by
  blk_ext [View.ld] <;> first | rfl | simp [Rect.unit]

/-- Chunk 1's rows and group 5's columns of a block. -/
theorem part1_5 (x : FVec Ideal S256x1024 .f32) (a b : Fin 128) :
    View.ld (Val := Elt Ideal) (e' := .f32) x r0_37 (ix2 a b) = x (ix2 ⟨1 * 128 + (a : ℕ), by omega⟩ ⟨5 * 128 + (b : ℕ), by omega⟩) := by
  blk_ext [View.ld] <;> first | rfl | simp [Rect.unit]

/-- Group 5's columns of the gain. -/
theorem gain5 (x : FVec Ideal S1x1024 .f32) (b : Fin 128) :
    View.ld (Val := Elt Ideal) (e' := .f32) x r0_21 (ix2 0 b) = x (ix2 0 ⟨5 * 128 + (b : ℕ), by omega⟩) := by
  blk_ext [View.ld] <;> first | rfl | simp [Rect.unit]

/-- Group 5's mixing weight. -/
theorem mix5 (x : FVec Ideal S8x128x128 .f32) (a b : Fin 128) :
    View.ld (Val := Elt Ideal) (e' := .f32) x r0_22 (ix3 0 a b) = x (ix3 ⟨5, by omega⟩ a b) := by
  blk_ext [View.ld] <;> first | rfl | simp [Rect.unit]

/-- Group 5's bias. -/
theorem bias5 (x : FVec Ideal S8x128x1 .f32) (a : Fin 128) :
    View.ld (Val := Elt Ideal) (e' := .f32) x r0_23 (ix3 0 a 0) = x (ix3 ⟨5, by omega⟩ a 0) := by
  blk_ext [View.ld] <;> first | rfl | simp [Rect.unit]

/-- Chunk 0's rows and group 6's columns of a block. -/
theorem part0_6 (x : FVec Ideal S256x1024 .f32) (a b : Fin 128) :
    View.ld (Val := Elt Ideal) (e' := .f32) x r0_24 (ix2 a b) = x (ix2 ⟨0 * 128 + (a : ℕ), by omega⟩ ⟨6 * 128 + (b : ℕ), by omega⟩) := by
  blk_ext [View.ld] <;> first | rfl | simp [Rect.unit]

/-- Chunk 1's rows and group 6's columns of a block. -/
theorem part1_6 (x : FVec Ideal S256x1024 .f32) (a b : Fin 128) :
    View.ld (Val := Elt Ideal) (e' := .f32) x r0_38 (ix2 a b) = x (ix2 ⟨1 * 128 + (a : ℕ), by omega⟩ ⟨6 * 128 + (b : ℕ), by omega⟩) := by
  blk_ext [View.ld] <;> first | rfl | simp [Rect.unit]

/-- Group 6's columns of the gain. -/
theorem gain6 (x : FVec Ideal S1x1024 .f32) (b : Fin 128) :
    View.ld (Val := Elt Ideal) (e' := .f32) x r0_25 (ix2 0 b) = x (ix2 0 ⟨6 * 128 + (b : ℕ), by omega⟩) := by
  blk_ext [View.ld] <;> first | rfl | simp [Rect.unit]

/-- Group 6's mixing weight. -/
theorem mix6 (x : FVec Ideal S8x128x128 .f32) (a b : Fin 128) :
    View.ld (Val := Elt Ideal) (e' := .f32) x r0_26 (ix3 0 a b) = x (ix3 ⟨6, by omega⟩ a b) := by
  blk_ext [View.ld] <;> first | rfl | simp [Rect.unit]

/-- Group 6's bias. -/
theorem bias6 (x : FVec Ideal S8x128x1 .f32) (a : Fin 128) :
    View.ld (Val := Elt Ideal) (e' := .f32) x r0_27 (ix3 0 a 0) = x (ix3 ⟨6, by omega⟩ a 0) := by
  blk_ext [View.ld] <;> first | rfl | simp [Rect.unit]

/-- Chunk 0's rows and group 7's columns of a block. -/
theorem part0_7 (x : FVec Ideal S256x1024 .f32) (a b : Fin 128) :
    View.ld (Val := Elt Ideal) (e' := .f32) x r0_28 (ix2 a b) = x (ix2 ⟨0 * 128 + (a : ℕ), by omega⟩ ⟨7 * 128 + (b : ℕ), by omega⟩) := by
  blk_ext [View.ld] <;> first | rfl | simp [Rect.unit]

/-- Chunk 1's rows and group 7's columns of a block. -/
theorem part1_7 (x : FVec Ideal S256x1024 .f32) (a b : Fin 128) :
    View.ld (Val := Elt Ideal) (e' := .f32) x r0_39 (ix2 a b) = x (ix2 ⟨1 * 128 + (a : ℕ), by omega⟩ ⟨7 * 128 + (b : ℕ), by omega⟩) := by
  blk_ext [View.ld] <;> first | rfl | simp [Rect.unit]

/-- Group 7's columns of the gain. -/
theorem gain7 (x : FVec Ideal S1x1024 .f32) (b : Fin 128) :
    View.ld (Val := Elt Ideal) (e' := .f32) x r0_29 (ix2 0 b) = x (ix2 0 ⟨7 * 128 + (b : ℕ), by omega⟩) := by
  blk_ext [View.ld] <;> first | rfl | simp [Rect.unit]

/-- Group 7's mixing weight. -/
theorem mix7 (x : FVec Ideal S8x128x128 .f32) (a b : Fin 128) :
    View.ld (Val := Elt Ideal) (e' := .f32) x r0_30 (ix3 0 a b) = x (ix3 ⟨7, by omega⟩ a b) := by
  blk_ext [View.ld] <;> first | rfl | simp [Rect.unit]

/-- Group 7's bias. -/
theorem bias7 (x : FVec Ideal S8x128x1 .f32) (a : Fin 128) :
    View.ld (Val := Elt Ideal) (e' := .f32) x r0_31 (ix3 0 a 0) = x (ix3 ⟨7, by omega⟩ a 0) := by
  blk_ext [View.ld] <;> first | rfl | simp [Rect.unit]

/-- The block the body leaves, at an index: every chunk and group by the same formula. -/
theorem block_at (U V : FVec Ideal S256x1024 .f32) (W : FVec Ideal S8x128x128 .f32) (B : FVec Ideal S8x128x1 .f32) (G : FVec Ideal S1x1024 .f32) (y : S256x1024.Idx) :
    out0_5 (F := Ideal) U V W B G y = elt U V W B G (y 0) (y 1) := by
  unfold out0_5
  canon_tiles x h
  · exact piece U V W B G 1 7 (by omega) (by omega) (show FVec Ideal S128x128 .f32 from View.ld (Val := Elt Ideal) (e' := .f32) U r0_39) (show FVec Ideal S128x128 .f32 from View.ld (Val := Elt Ideal) (e' := .f32) V r0_39) (show FVec Ideal S1x128x128 .f32 from View.ld (Val := Elt Ideal) (e' := .f32) W r0_30) (show FVec Ideal S1x128x1 .f32 from View.ld (Val := Elt Ideal) (e' := .f32) B r0_31) (show FVec Ideal S1x128 .f32 from View.ld (Val := Elt Ideal) (e' := .f32) G r0_29) (part1_7 U) (part1_7 V) (mix7 W) (bias7 B) (gain7 G) y x (by omega) (by omega)
  · exact piece U V W B G 1 6 (by omega) (by omega) (show FVec Ideal S128x128 .f32 from View.ld (Val := Elt Ideal) (e' := .f32) U r0_38) (show FVec Ideal S128x128 .f32 from View.ld (Val := Elt Ideal) (e' := .f32) V r0_38) (show FVec Ideal S1x128x128 .f32 from View.ld (Val := Elt Ideal) (e' := .f32) W r0_26) (show FVec Ideal S1x128x1 .f32 from View.ld (Val := Elt Ideal) (e' := .f32) B r0_27) (show FVec Ideal S1x128 .f32 from View.ld (Val := Elt Ideal) (e' := .f32) G r0_25) (part1_6 U) (part1_6 V) (mix6 W) (bias6 B) (gain6 G) y x (by omega) (by omega)
  · exact piece U V W B G 1 5 (by omega) (by omega) (show FVec Ideal S128x128 .f32 from View.ld (Val := Elt Ideal) (e' := .f32) U r0_37) (show FVec Ideal S128x128 .f32 from View.ld (Val := Elt Ideal) (e' := .f32) V r0_37) (show FVec Ideal S1x128x128 .f32 from View.ld (Val := Elt Ideal) (e' := .f32) W r0_22) (show FVec Ideal S1x128x1 .f32 from View.ld (Val := Elt Ideal) (e' := .f32) B r0_23) (show FVec Ideal S1x128 .f32 from View.ld (Val := Elt Ideal) (e' := .f32) G r0_21) (part1_5 U) (part1_5 V) (mix5 W) (bias5 B) (gain5 G) y x (by omega) (by omega)
  · exact piece U V W B G 1 4 (by omega) (by omega) (show FVec Ideal S128x128 .f32 from View.ld (Val := Elt Ideal) (e' := .f32) U r0_36) (show FVec Ideal S128x128 .f32 from View.ld (Val := Elt Ideal) (e' := .f32) V r0_36) (show FVec Ideal S1x128x128 .f32 from View.ld (Val := Elt Ideal) (e' := .f32) W r0_18) (show FVec Ideal S1x128x1 .f32 from View.ld (Val := Elt Ideal) (e' := .f32) B r0_19) (show FVec Ideal S1x128 .f32 from View.ld (Val := Elt Ideal) (e' := .f32) G r0_17) (part1_4 U) (part1_4 V) (mix4 W) (bias4 B) (gain4 G) y x (by omega) (by omega)
  · exact piece U V W B G 1 3 (by omega) (by omega) (show FVec Ideal S128x128 .f32 from View.ld (Val := Elt Ideal) (e' := .f32) U r0_35) (show FVec Ideal S128x128 .f32 from View.ld (Val := Elt Ideal) (e' := .f32) V r0_35) (show FVec Ideal S1x128x128 .f32 from View.ld (Val := Elt Ideal) (e' := .f32) W r0_14) (show FVec Ideal S1x128x1 .f32 from View.ld (Val := Elt Ideal) (e' := .f32) B r0_15) (show FVec Ideal S1x128 .f32 from View.ld (Val := Elt Ideal) (e' := .f32) G r0_13) (part1_3 U) (part1_3 V) (mix3 W) (bias3 B) (gain3 G) y x (by omega) (by omega)
  · exact piece U V W B G 1 2 (by omega) (by omega) (show FVec Ideal S128x128 .f32 from View.ld (Val := Elt Ideal) (e' := .f32) U r0_34) (show FVec Ideal S128x128 .f32 from View.ld (Val := Elt Ideal) (e' := .f32) V r0_34) (show FVec Ideal S1x128x128 .f32 from View.ld (Val := Elt Ideal) (e' := .f32) W r0_10) (show FVec Ideal S1x128x1 .f32 from View.ld (Val := Elt Ideal) (e' := .f32) B r0_11) (show FVec Ideal S1x128 .f32 from View.ld (Val := Elt Ideal) (e' := .f32) G r0_9) (part1_2 U) (part1_2 V) (mix2 W) (bias2 B) (gain2 G) y x (by omega) (by omega)
  · exact piece U V W B G 1 1 (by omega) (by omega) (show FVec Ideal S128x128 .f32 from View.ld (Val := Elt Ideal) (e' := .f32) U r0_33) (show FVec Ideal S128x128 .f32 from View.ld (Val := Elt Ideal) (e' := .f32) V r0_33) (show FVec Ideal S1x128x128 .f32 from View.ld (Val := Elt Ideal) (e' := .f32) W r0_6) (show FVec Ideal S1x128x1 .f32 from View.ld (Val := Elt Ideal) (e' := .f32) B r0_7) (show FVec Ideal S1x128 .f32 from View.ld (Val := Elt Ideal) (e' := .f32) G r0_5) (part1_1 U) (part1_1 V) (mix1 W) (bias1 B) (gain1 G) y x (by omega) (by omega)
  · exact piece U V W B G 1 0 (by omega) (by omega) (show FVec Ideal S128x128 .f32 from View.ld (Val := Elt Ideal) (e' := .f32) U r0_32) (show FVec Ideal S128x128 .f32 from View.ld (Val := Elt Ideal) (e' := .f32) V r0_32) (show FVec Ideal S1x128x128 .f32 from View.ld (Val := Elt Ideal) (e' := .f32) W r0_2) (show FVec Ideal S1x128x1 .f32 from View.ld (Val := Elt Ideal) (e' := .f32) B r0_3) (show FVec Ideal S1x128 .f32 from View.ld (Val := Elt Ideal) (e' := .f32) G r0_1) (part1_0 U) (part1_0 V) (mix0 W) (bias0 B) (gain0 G) y x (by omega) (by omega)
  · exact piece U V W B G 0 7 (by omega) (by omega) (show FVec Ideal S128x128 .f32 from View.ld (Val := Elt Ideal) (e' := .f32) U r0_28) (show FVec Ideal S128x128 .f32 from View.ld (Val := Elt Ideal) (e' := .f32) V r0_28) (show FVec Ideal S1x128x128 .f32 from View.ld (Val := Elt Ideal) (e' := .f32) W r0_30) (show FVec Ideal S1x128x1 .f32 from View.ld (Val := Elt Ideal) (e' := .f32) B r0_31) (show FVec Ideal S1x128 .f32 from View.ld (Val := Elt Ideal) (e' := .f32) G r0_29) (part0_7 U) (part0_7 V) (mix7 W) (bias7 B) (gain7 G) y x (by omega) (by omega)
  · exact piece U V W B G 0 6 (by omega) (by omega) (show FVec Ideal S128x128 .f32 from View.ld (Val := Elt Ideal) (e' := .f32) U r0_24) (show FVec Ideal S128x128 .f32 from View.ld (Val := Elt Ideal) (e' := .f32) V r0_24) (show FVec Ideal S1x128x128 .f32 from View.ld (Val := Elt Ideal) (e' := .f32) W r0_26) (show FVec Ideal S1x128x1 .f32 from View.ld (Val := Elt Ideal) (e' := .f32) B r0_27) (show FVec Ideal S1x128 .f32 from View.ld (Val := Elt Ideal) (e' := .f32) G r0_25) (part0_6 U) (part0_6 V) (mix6 W) (bias6 B) (gain6 G) y x (by omega) (by omega)
  · exact piece U V W B G 0 5 (by omega) (by omega) (show FVec Ideal S128x128 .f32 from View.ld (Val := Elt Ideal) (e' := .f32) U r0_20) (show FVec Ideal S128x128 .f32 from View.ld (Val := Elt Ideal) (e' := .f32) V r0_20) (show FVec Ideal S1x128x128 .f32 from View.ld (Val := Elt Ideal) (e' := .f32) W r0_22) (show FVec Ideal S1x128x1 .f32 from View.ld (Val := Elt Ideal) (e' := .f32) B r0_23) (show FVec Ideal S1x128 .f32 from View.ld (Val := Elt Ideal) (e' := .f32) G r0_21) (part0_5 U) (part0_5 V) (mix5 W) (bias5 B) (gain5 G) y x (by omega) (by omega)
  · exact piece U V W B G 0 4 (by omega) (by omega) (show FVec Ideal S128x128 .f32 from View.ld (Val := Elt Ideal) (e' := .f32) U r0_16) (show FVec Ideal S128x128 .f32 from View.ld (Val := Elt Ideal) (e' := .f32) V r0_16) (show FVec Ideal S1x128x128 .f32 from View.ld (Val := Elt Ideal) (e' := .f32) W r0_18) (show FVec Ideal S1x128x1 .f32 from View.ld (Val := Elt Ideal) (e' := .f32) B r0_19) (show FVec Ideal S1x128 .f32 from View.ld (Val := Elt Ideal) (e' := .f32) G r0_17) (part0_4 U) (part0_4 V) (mix4 W) (bias4 B) (gain4 G) y x (by omega) (by omega)
  · exact piece U V W B G 0 3 (by omega) (by omega) (show FVec Ideal S128x128 .f32 from View.ld (Val := Elt Ideal) (e' := .f32) U r0_12) (show FVec Ideal S128x128 .f32 from View.ld (Val := Elt Ideal) (e' := .f32) V r0_12) (show FVec Ideal S1x128x128 .f32 from View.ld (Val := Elt Ideal) (e' := .f32) W r0_14) (show FVec Ideal S1x128x1 .f32 from View.ld (Val := Elt Ideal) (e' := .f32) B r0_15) (show FVec Ideal S1x128 .f32 from View.ld (Val := Elt Ideal) (e' := .f32) G r0_13) (part0_3 U) (part0_3 V) (mix3 W) (bias3 B) (gain3 G) y x (by omega) (by omega)
  · exact piece U V W B G 0 2 (by omega) (by omega) (show FVec Ideal S128x128 .f32 from View.ld (Val := Elt Ideal) (e' := .f32) U r0_8) (show FVec Ideal S128x128 .f32 from View.ld (Val := Elt Ideal) (e' := .f32) V r0_8) (show FVec Ideal S1x128x128 .f32 from View.ld (Val := Elt Ideal) (e' := .f32) W r0_10) (show FVec Ideal S1x128x1 .f32 from View.ld (Val := Elt Ideal) (e' := .f32) B r0_11) (show FVec Ideal S1x128 .f32 from View.ld (Val := Elt Ideal) (e' := .f32) G r0_9) (part0_2 U) (part0_2 V) (mix2 W) (bias2 B) (gain2 G) y x (by omega) (by omega)
  · exact piece U V W B G 0 1 (by omega) (by omega) (show FVec Ideal S128x128 .f32 from View.ld (Val := Elt Ideal) (e' := .f32) U r0_4) (show FVec Ideal S128x128 .f32 from View.ld (Val := Elt Ideal) (e' := .f32) V r0_4) (show FVec Ideal S1x128x128 .f32 from View.ld (Val := Elt Ideal) (e' := .f32) W r0_6) (show FVec Ideal S1x128x1 .f32 from View.ld (Val := Elt Ideal) (e' := .f32) B r0_7) (show FVec Ideal S1x128 .f32 from View.ld (Val := Elt Ideal) (e' := .f32) G r0_5) (part0_1 U) (part0_1 V) (mix1 W) (bias1 B) (gain1 G) y x (by omega) (by omega)
  · exact piece U V W B G 0 0 (by omega) (by omega) (show FVec Ideal S128x128 .f32 from View.ld (Val := Elt Ideal) (e' := .f32) U r0_0) (show FVec Ideal S128x128 .f32 from View.ld (Val := Elt Ideal) (e' := .f32) V r0_0) (show FVec Ideal S1x128x128 .f32 from View.ld (Val := Elt Ideal) (e' := .f32) W r0_2) (show FVec Ideal S1x128x1 .f32 from View.ld (Val := Elt Ideal) (e' := .f32) B r0_3) (show FVec Ideal S1x128 .f32 from View.ld (Val := Elt Ideal) (e' := .f32) G r0_1) (part0_0 U) (part0_0 V) (mix0 W) (bias0 B) (gain0 G) y x (by omega) (by omega)

/-- A block of the first half's columns of the projection, read in the array. -/
theorem blk0 (c : Dev nD) (t : Fin cfg0.N) (q : Fin 256) (k : Fin 1024) (i : S8448x7168.Idx)
    (h0 : (i 0 : ℕ) = t.val * 256 + q) (h1 : (i 1 : ℕ) = 5120 + k) :
    iblk m c 0 t (ix2 q k) = (m ((c : Thread nD τ).loc main_arg0)) i := by
  rw [← V_main_arg0 m c]
  blk_ext [iblk, idx t]

/-- A block of the second half's columns of the projection, read in the array. -/
theorem blk1 (c : Dev nD) (t : Fin cfg0.N) (q : Fin 256) (k : Fin 1024) (i : S8448x7168.Idx)
    (h0 : (i 0 : ℕ) = t.val * 256 + q) (h1 : (i 1 : ℕ) = 6144 + k) :
    iblk m c 1 t (ix2 q k) = (m ((c : Thread nD τ).loc main_arg0)) i := by
  rw [← V_main_arg0 m c]
  blk_ext [iblk, idx t]

/-- The mixing weights' block is the whole array. -/
theorem blk2 (c : Dev nD) (t : Fin cfg0.N) (g : Fin 8) (a b : Fin 128) :
    iblk m c 2 t (ix3 g a b) = (m ((c : Thread nD τ).loc main_arg1)) (ix3 g a b) := by
  rw [← V_main_arg1 m c]
  blk_ext [iblk, idx t]

/-- The bias as the region finds it: with a unit axis. -/
theorem bias_eq (c : Dev nD) : V m c main_v0 = broadcastInDim S8x128x1 ![0, 1] bcast_S8x128_S8x128x1_0_1 (m ((c : Thread nD τ).loc main_arg2)) := by
  unfold V
  after_results <;> rfl

/-- The bias with its unit axis at an index. -/
theorem bias_at (B : FVec Ideal S8x128 .f32) (g : Fin 8) (a : Fin 128) :
    broadcastInDim S8x128x1 ![0, 1] bcast_S8x128_S8x128x1_0_1 B (ix3 g a 0) = B (ix2 g a) := by
  pointwise

/-- The bias's block, read in the array. -/
theorem blk3 (c : Dev nD) (t : Fin cfg0.N) (g : Fin 8) (a : Fin 128) : iblk m c 3 t (ix3 g a 0) = (m ((c : Thread nD τ).loc main_arg2)) (ix2 g a) := by
  rw [← bias_at (m ((c : Thread nD τ).loc main_arg2)), ← bias_eq]
  blk_ext [iblk, idx t]

/-- The gain as the region finds it: one row. -/
theorem gain_eq (c : Dev nD) : V m c main_v1 = broadcastInDim S1x1024 ![1] bcast_S1024_S1x1024_1 (m ((c : Thread nD τ).loc main_arg3)) := by
  unfold V
  after_results <;> rfl

/-- The gain's row at an index. -/
theorem gain_at (G : FVec Ideal S1024 .f32) (b : Fin 1024) :
    broadcastInDim S1x1024 ![1] bcast_S1024_S1x1024_1 G (ix2 0 b) = G (ix1 b) := by
  pointwise

/-- The gain's block, read in the array. -/
theorem blk4 (c : Dev nD) (t : Fin cfg0.N) (k : Fin 1024) : iblk m c 4 t (ix2 0 k) = (m ((c : Thread nD τ).loc main_arg3)) (ix1 k) := by
  rw [← gain_at (m ((c : Thread nD τ).loc main_arg3)), ← gain_eq]
  blk_ext [iblk, idx t]

/-- The kernel's array is the reference's. -/
theorem final (c : Dev nD) : (dats m 0 c).arrAt 5 cfg0.N = Cert.RefChunkMlpIdeal.Hand.ref (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  have hy0 : (y 0 : ℕ) < 256 := (y 0).isLt
  have hy1 : (y 1 : ℕ) < 1024 := (y 1).isLt
  have ht : t.val < 33 := t.isLt
  have ey : y = ix2 (y 0) (y 1) := by idx_vars y; rfl
  have e : ((win0_5.blk t).view.emb y : S8448x1024.Idx) = ix2 ⟨t.val * 256 + (y 0 : ℕ), by omega⟩ (y 1) := by
    blk_ext [idx t]
  refine ((block_at (iblk m c 0 t) (iblk m c 1 t) (iblk m c 2 t) (iblk m c 3 t) (iblk m c 4 t) y).trans ?_).trans (congrArg _ e).symm
  refine Eq.trans ?_ (Cert.RefChunkMlpIdeal.Hand.ref_at _ _ _ _ ⟨t.val * 256 + (y 0 : ℕ), by omega⟩ (y 1)).symm
  have er : (⟨(t.val * 256 + (y 0 : ℕ)) % 128, by omega⟩ : Fin 128) = ⟨(y 0 : ℕ) % 128, by omega⟩ := Fin.ext (by dsimp only; omega)
  have e0 : iblk m c 0 t (ix2 (y 0) (y 1)) = (m ((c : Thread nD τ).loc main_arg0)) (ix2 ⟨t.val * 256 + (y 0 : ℕ), by omega⟩ ⟨5120 + (y 1 : ℕ), by omega⟩) := blk0 m c t (y 0) (y 1) _ rfl rfl
  have e1 : ∀ s k : Fin 128, iblk m c 1 t (ix2 ⟨(y 0 : ℕ) / 128 * 128 + s, by omega⟩ ⟨(y 1 : ℕ) / 128 * 128 + k, by omega⟩)
      = (m ((c : Thread nD τ).loc main_arg0)) (ix2 ⟨(t.val * 256 + (y 0 : ℕ)) / 128 * 128 + s, by omega⟩ ⟨6144 + ((y 1 : ℕ) / 128 * 128 + k), by omega⟩) :=
    fun s k => blk1 m c t ⟨(y 0 : ℕ) / 128 * 128 + s, by omega⟩ ⟨(y 1 : ℕ) / 128 * 128 + k, by omega⟩ _ (by show (t.val * 256 + (y 0 : ℕ)) / 128 * 128 + (s : ℕ) = t.val * 256 + ((y 0 : ℕ) / 128 * 128 + s); omega) rfl
  have e2 : ∀ s : Fin 128, iblk m c 2 t (ix3 ⟨(y 1 : ℕ) / 128, by omega⟩ ⟨(y 0 : ℕ) % 128, by omega⟩ s) = (m ((c : Thread nD τ).loc main_arg1)) (ix3 ⟨(y 1 : ℕ) / 128, by omega⟩ ⟨(t.val * 256 + (y 0 : ℕ)) % 128, by omega⟩ s) :=
    fun s => by rw [er]; exact blk2 m c t _ _ s
  have e3 : iblk m c 3 t (ix3 ⟨(y 1 : ℕ) / 128, by omega⟩ ⟨(y 0 : ℕ) % 128, by omega⟩ 0) = (m ((c : Thread nD τ).loc main_arg2)) (ix2 ⟨(y 1 : ℕ) / 128, by omega⟩ ⟨(t.val * 256 + (y 0 : ℕ)) % 128, by omega⟩) := by
    rw [er]; exact blk3 m c t _ _
  have e4 := blk4 m c t (y 1)
  exact cell_congr e0 e1 e2 e4 e3 _

end Cert.ChunkMlpIdeal.Hand

open Idealize.ShloMosaic Idealize.ShloMosaic.TcCoe in
/-- From equal arguments the kernel and the reference end with equal results. -/
theorem Cert.ChunkMlpIdeal.Hand.algebraic : Cert.algebraic_ChunkMlpIdeal_RefChunkMlpIdeal
    (hChunkMlpIdeal := Cert.ChunkMlpIdeal.Gen.facts) (hRefChunkMlpIdeal := Cert.RefChunkMlpIdeal.Gen.facts) := by
  pair_intro
  · run_from Cert.ChunkMlpIdeal.Value.run_blocks m g
  · run_from Cert.RefChunkMlpIdeal.Value.run m' g'
    have h := hagree c
    exact (congr (congr (congr (congrArg Cert.RefChunkMlpIdeal.Hand.ref h.1) h.2.1) h.2.2.1) h.2.2.2).trans (Cert.ChunkMlpIdeal.Hand.final m c).symm

end
-- ==== Proof.Da.lean ====
module

public import proofs.«01_k».proof.Proof.Gen.FfnDaIdeal.Value
public import proofs.«01_k».proof.Proof.Gen.RefDaIdeal.Run
public import proofs.«01_k».proof.Defs
public import Idealize.ShloMosaic.Lib.Pipeline.ValueKit
public import Idealize.ShloMosaic.Lib.Tactic
public import Idealize.ShloMosaic.Lib.Pointwise

/-! The gradient of the hidden units' pre-activation: the kernel's array is the reference's. -/

@[expose] public section

set_option maxRecDepth 16384

noncomputable section

namespace Cert.FfnDaIdeal.Hand

open Idealize.ShloMosaic Idealize.ShloMosaic.TcCoe Idealize.SL.Sem
open Idealize.ShloMosaic.Pipeline (Dat)
open Cert.FfnDaIdeal Cert.FfnDaIdeal.Gen

variable (m : (ℓ : Loc nD τ sig) → Buf (Elt Ideal) ℓ)

/-- The root of a square, of a number that is not negative. -/
theorem sqrt_mul_self (x : EReal) (h : 0 ≤ x) : Ideal.sqrt (x * x) = x := by
  induction x with
  | bot => exact absurd h (by simp)
  | top => rw [EReal.top_mul_top, Ideal.sqrt_top]
  | coe r =>
    have hr : 0 ≤ r := by exact_mod_cast h
    rw [← EReal.coe_mul, Ideal.sqrt_coe, if_neg (not_lt.mpr (mul_self_nonneg r)), Real.sqrt_mul_self hr]

/-- What the body stores at an index. -/
theorem pay_at (x w u j) : k0_pay1 (F := Ideal) x w u j
    = (∑ k : Fin 2048, x (ix2 (j 0) k) * w (ix4 0 0 (j 1) k)) * (Ideal.ofBits .f32 0x40000000#32 * Ideal.sqrt (u j)) := by
  pointwise [k0_pay1]

/-- Every window's block index at a grid point. -/
theorem idx : ∀ t : Fin cfg0.N, win0_0.index t = ![t.val / 8, 0]
    ∧ win0_1.index t = ![t.val % 8 / 2, 0, t.val % 2, 0]
    ∧ win0_2.index t = ![t.val / 8, t.val % 8]
    ∧ win0_3.index t = ![t.val / 8, t.val % 8] :=
  (by decide +kernel : ∀ t : Fin grid0.N, _)

/-- The reference's term over variables. -/
abbrev REF (X : FVec Ideal S8448x2048 .bf16) (W : FVec Ideal S8192x2048 .f32) (Z : FVec Ideal S8448x8192 .f32) : FVec Ideal S8448x8192 .bf16 :=
  truncf .bf16 (select (cmpf .ogt Z (broadcastInDim S8448x8192 ![] Cert.RefDaIdeal.Gen.bcast_S_S8448x8192 (constant Cert.RefDaIdeal.S_ .f32 0x00000000#32))) (mulf (Host.dotGeneral Cert.RefDaIdeal.dot_S8448x2048_S8192x2048_S8448x8192_1_1_0_0_n_n none (extf .f32 X Cert.RefDaIdeal.Gen.bitsLt_bf16_f32) W) (mulf (broadcastInDim S8448x8192 ![] Cert.RefDaIdeal.Gen.bcast_S_S8448x8192 (constant Cert.RefDaIdeal.S_ .f32 0x40000000#32)) (maximumf Z (broadcastInDim S8448x8192 ![] Cert.RefDaIdeal.Gen.bcast_S_S8448x8192 (constant Cert.RefDaIdeal.S_ .f32 0x00000000#32))))) (broadcastInDim S8448x8192 ![] Cert.RefDaIdeal.Gen.bcast_S_S8448x8192 (constant Cert.RefDaIdeal.S_ .f32 0x00000000#32))) Cert.RefDaIdeal.Gen.bitsLt_bf16_f32

/-- The activated rows the region finds: the square of the positive part of the saved pre-activation. -/
abbrev U (Z : FVec Ideal S8448x8192 .f32) : FVec Ideal S8448x8192 .bf16 :=
  truncf .bf16 (mulf (maximumf Z (broadcastInDim S8448x8192 ![] bcast_S_S8448x8192 (constant S_ .f32 0x00000000#32))) (maximumf Z (broadcastInDim S8448x8192 ![] bcast_S_S8448x8192 (constant S_ .f32 0x00000000#32)))) bitsLt_bf16_f32

/-- The reference at an index, its derivative of the squared positive part written with a root. -/
theorem ref_at (X W Z) (j : S8448x8192.Idx) :
    REF X W Z j = (∑ k : Fin 2048, X (ix2 (j 0) k) * W (ix2 (j 1) k)) * (Ideal.ofBits .f32 0x40000000#32 * Ideal.sqrt (U Z j)) := by
  pointwise [REF, U]
  rw [sqrt_mul_self _ (le_max_right _ _)]
  by_cases h : 0 < Z j
  · simp [h]
  · rw [max_eq_right (not_lt.mp h)]; simp [h]

/-- The weight as the region finds it: cut into four shards along its rows. -/
abbrev SH (W : FVec Ideal S8192x2048 .f32) : FVec Ideal S4x1x2048x2048 .bf16 :=
  truncf .bf16 (shapeCast S4x1x2048x2048 W shapeCasts_S8192x2048_S4x1x2048x2048) bitsLt_bf16_f32

/-- The shards at an index. -/
theorem sh_at (W) (s : Fin 4) (z : Fin 1) (p q : Fin 2048) (i : S8192x2048.Idx) (h0 : (i 0 : ℕ) = s * 2048 + p) (h1 : (i 1 : ℕ) = q) :
    SH W (ix4 s z p q) = W i := by
  pointwise [SH]
  blk_ext

/-- The host operations before the region leave the shards in the kernel's second operand. -/
theorem sh_eq (c : Dev nD) : V m c main_v4 = SH (m ((c : Thread nD τ).loc main_arg1)) := by
  unfold V
  simp only [hostOps0, hostOps0_1, StableHlo.TRef.binary, StableHlo.TRef.nullary, StableHlo.TRef.unary, StableHlo.TRef.toBuf, StableHlo.TRef.ofBuf, cast_eq, List.flatten_cons, List.flatten_nil, List.append_nil, List.cons_append, List.nil_append]
  after_results <;> rfl

/-- The host operations before the region leave the activated rows in the kernel's third operand. -/
theorem act_eq (c : Dev nD) : V m c main_v2 = U (m ((c : Thread nD τ).loc main_arg2)) := by
  unfold V
  simp only [hostOps0, hostOps0_1, StableHlo.TRef.binary, StableHlo.TRef.nullary, StableHlo.TRef.unary, StableHlo.TRef.toBuf, StableHlo.TRef.ofBuf, cast_eq, List.flatten_cons, List.flatten_nil, List.append_nil, List.cons_append, List.nil_append]
  after_results <;> rfl

/-- A block of the incoming gradient, read in the array. -/
theorem blk0 (c : Dev nD) (p : Fin cfg0.N) (q : Fin 1408) (k : Fin 2048) (i : S8448x2048.Idx)
    (h0 : (i 0 : ℕ) = p.val / 8 * 1408 + q) (h1 : (i 1 : ℕ) = k) :
    iblk m c 0 p (ix2 q k) = m ((c : Thread nD τ).loc main_arg0) i := by
  rw [← V_main_arg0 m c]
  blk_ext [iblk, idx p]

/-- A block of the weight's shards, read in the weight. -/
theorem blk1 (c : Dev nD) (p : Fin cfg0.N) (q : Fin 1024) (k : Fin 2048) (i : S8192x2048.Idx)
    (h0 : (i 0 : ℕ) = p.val % 8 * 1024 + q) (h1 : (i 1 : ℕ) = k) :
    iblk m c 1 p (ix4 0 0 q k) = m ((c : Thread nD τ).loc main_arg1) i := by
  rw [← sh_at (m ((c : Thread nD τ).loc main_arg1)) ⟨p.val % 8 / 2, by omega⟩ 0 ⟨p.val % 2 * 1024 + q, by omega⟩ k i (by dsimp only; omega) h1, ← sh_eq]
  blk_ext [iblk, idx p]

/-- A block of the activated rows, read in the array. -/
theorem blk2 (c : Dev nD) (p : Fin cfg0.N) (y : S1408x1024.Idx) (i : S8448x8192.Idx)
    (h0 : (i 0 : ℕ) = p.val / 8 * 1408 + y 0) (h1 : (i 1 : ℕ) = p.val % 8 * 1024 + y 1) :
    iblk m c 2 p y = U (m ((c : Thread nD τ).loc main_arg2)) i := by
  rw [← act_eq]
  blk_ext [iblk, idx p]

/-- The result array is the reference's term of the arguments. -/
theorem final (c : Dev nD) : (dats m 0 c).arrAt 3 cfg0.N
    = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  rw [pay_at, ref_at]
  refine Ideal.mul_congr (Fin.sum_fin_congr fun k => ?_) (Ideal.mul_congr rfl (congrArg Ideal.sqrt (blk2 m c _ _ _ ?_ ?_)))
  refine Ideal.mul_congr (blk0 m c _ _ _ _ ?_ ?_) (blk1 m c _ _ _ _ ?_ ?_)
  all_goals (blk_simp [idx t] <;> (try dsimp only) <;> omega)

end Cert.FfnDaIdeal.Hand

/-- From equal arguments the kernel and the reference end with equal results. -/
theorem Cert.FfnDaIdeal.Hand.algebraic : Cert.algebraic_FfnDaIdeal_RefDaIdeal
    (hFfnDaIdeal := Cert.FfnDaIdeal.Gen.facts) (hRefDaIdeal := Cert.RefDaIdeal.Gen.facts) := by
  pair_intro
  · run_from Cert.FfnDaIdeal.Value.run_blocks m g
  · run_from Cert.RefDaIdeal.Value.run m' g'
    exact (Cert.FfnDaIdeal.Hand.final m c).symm

end
-- ==== Proof.Dh.lean ====
module

public import proofs.«01_k».proof.Proof.Gen.FfnDhIdeal.Value
public import proofs.«01_k».proof.Proof.Gen.RefDhIdeal.Run
public import proofs.«01_k».proof.Defs
public import Idealize.ShloMosaic.Lib.Pipeline.ValueKit
public import Idealize.ShloMosaic.Lib.Tactic
public import Idealize.ShloMosaic.Lib.Pointwise

/-! The gradient of the feed-forward layer's input: the kernel's array is the reference's. -/

@[expose] public section

set_option maxRecDepth 16384

noncomputable section

namespace Cert.FfnDhIdeal.Hand

open Idealize.ShloMosaic Idealize.ShloMosaic.TcCoe Idealize.SL.Sem
open Idealize.ShloMosaic.Pipeline (Dat)
open Cert.FfnDhIdeal Cert.FfnDhIdeal.Gen

variable (m : (ℓ : Loc nD τ sig) → Buf (Elt Ideal) ℓ)

/-- The zero fill at an index. -/
theorem zero_at (j) : k0_pay1 (F := Ideal) j = 0 := by pointwise [k0_pay1]

/-- One step of the accumulation at an index: what was there, plus one shard's worth of the contraction. -/
theorem step_at (acc x y j) : k0_pay2 (F := Ideal) acc x y j
    = acc j + ∑ k : Fin 2048, x (ix2 (j 0) k) * y (ix4 0 0 (j 1) k) := by pointwise [k0_pay2]

/-- Every window's block index at a grid point. -/
theorem idx : ∀ t : Fin cfg0.N, win0_0.index t = ![t.val / 8, t.val % 4]
    ∧ win0_1.index t = ![t.val % 4, 0, t.val / 4 % 2, 0]
    ∧ win0_2.index t = ![t.val / 8, t.val / 4 % 2] :=
  (by decide +kernel : ∀ t : Fin grid0.N, _)

/-- The reference's term over variables. -/
abbrev REF (Y : FVec Ideal S8448x8192 .bf16) (W : FVec Ideal S2048x8192 .f32) : FVec Ideal S8448x2048 .f32 :=
  Host.dotGeneral Cert.RefDhIdeal.dot_S8448x8192_S2048x8192_S8448x2048_1_1_0_0_n_n none (extf .f32 Y Cert.RefDhIdeal.Gen.bitsLt_bf16_f32) W

/-- The reference at an index: the whole contraction over the hidden units. -/
theorem ref_at (Y W) (j : S8448x2048.Idx) :
    REF Y W j = ∑ k : Fin 8192, Y (ix2 (j 0) k) * W (ix2 (j 1) k) := by
  pointwise [REF]

/-- The weight as the region finds it: cut into four shards along its columns. -/
abbrev SH (W : FVec Ideal S2048x8192 .f32) : FVec Ideal S4x1x2048x2048 .bf16 :=
  truncf .bf16 (broadcastInDim S4x1x2048x2048 ![0, 2, 3] bcast_S4x2048x2048_S4x1x2048x2048_0_2_3 (transpose S4x2048x2048 [1, 0, 2] (shapeCast S2048x4x2048 W shapeCasts_S2048x8192_S2048x4x2048) transposes_S2048x4x2048_S4x2048x2048_1_0_2)) bitsLt_bf16_f32

/-- The shards at an index. -/
theorem sh_at (W) (s : Fin 4) (z : Fin 1) (p q : Fin 2048) (i : S2048x8192.Idx) (h0 : (i 0 : ℕ) = p) (h1 : (i 1 : ℕ) = s * 2048 + q) :
    SH W (ix4 s z p q) = W i := by
  pointwise [SH]
  blk_ext

/-- The host operations before the region leave the shards in the kernel's second operand. -/
theorem sh_eq (c : Dev nD) : V m c main_v3 = SH (m ((c : Thread nD τ).loc main_arg1)) := by
  unfold V
  after_results <;> rfl

/-- A block of the incoming gradient, read in the array. -/
theorem blk0 (c : Dev nD) (p : Fin cfg0.N) (q : Fin 1408) (k : Fin 2048) (i : S8448x8192.Idx)
    (h0 : (i 0 : ℕ) = p.val / 8 * 1408 + q) (h1 : (i 1 : ℕ) = p.val % 4 * 2048 + k) :
    iblk m c 0 p (ix2 q k) = m ((c : Thread nD τ).loc main_arg0) i := by
  rw [← V_main_arg0 m c]
  blk_ext [iblk, idx p]

/-- A block of the weight's shards, read in the weight. -/
theorem blk1 (c : Dev nD) (p : Fin cfg0.N) (q : Fin 1024) (k : Fin 2048) (i : S2048x8192.Idx)
    (h0 : (i 0 : ℕ) = p.val / 4 % 2 * 1024 + q) (h1 : (i 1 : ℕ) = p.val % 4 * 2048 + k) :
    iblk m c 1 p (ix4 0 0 q k) = m ((c : Thread nD τ).loc main_arg1) i := by
  rw [← sh_at (m ((c : Thread nD τ).loc main_arg1)) ⟨p.val % 4, by omega⟩ 0 ⟨p.val / 4 % 2 * 1024 + q, by omega⟩ k i h0 h1, ← sh_eq]
  blk_ext [iblk, idx p]

/-- The accumulator after the last point of a run, at an index. -/
theorem acc_at (c : Dev nD) (t : Fin cfg0.N) (hr : t.val % 4 = 3) (j) :
    (outsAt0 m c t.val t.isLt).2 j = 0 + ∑ s : Fin 4, ∑ k : Fin 2048,
      (show FVec Ideal S1408x2048 .bf16 from iblk m c 0 ⟨4 * (t.val / 4) + s.val, Pipeline.run_point_lt_of_flush t hr s⟩) (ix2 (j 0) k)
      * (show FVec Ideal S1x1x1024x2048 .bf16 from iblk m c 1 ⟨4 * (t.val / 4) + s.val, Pipeline.run_point_lt_of_flush t hr s⟩) (ix4 0 0 (j 1) k) :=
  Pipeline.eq_sum_fin_of_reset_step_apply_of_flush (fun n h => (outsAt0 m c n h).2) 4 (fun _ => 0)
    (fun p j => ∑ k : Fin 2048, (show FVec Ideal S1408x2048 .bf16 from iblk m c 0 p) (ix2 (j 0) k)
      * (show FVec Ideal S1x1x1024x2048 .bf16 from iblk m c 1 p) (ix4 0 0 (j 1) k))
    (fun t h j => by
      rw [outsAt0_A m c t h (by omega)]; frame_out; rw [step_at, zero_at])
    (fun t h j => by
      by_cases h1 : t.val % 4 = 3
      · rw [outsAt0_C m c t h h1]; frame_out; rw [step_at, (Memref.isWhole_whole _).read_unread]
      · rw [outsAt0_B m c t h h1]; frame_out; rw [step_at, (Memref.isWhole_whole _).read_unread]) t hr j

/-- What the last point of a run leaves in the output block: the accumulator it leaves. -/
theorem block_eq (c : Dev nD) (t : Fin cfg0.N) (hr : t.val % 4 = 3) :
    (outsAt0 m c t.val t.isLt).1 = (outsAt0 m c t.val t.isLt).2 := by
  rw [outsAt0_C m c t (by omega) hr]; frame_out

/-- The result array is the reference's term of the arguments. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t hf y => ?_
  blk_simp
  have hr := (flush0_2 t).mp hf
  rw [after0_2, block_eq m c t hr, acc_at m c t hr, zero_add, ref_at]
  refine Fin.sum_mul_add_congr fun s k hl => ?_
  refine Ideal.mul_congr (blk0 m c _ _ _ _ ?_ ?_) (blk1 m c _ _ _ _ ?_ ?_)
  all_goals (blk_simp [idx t] <;> (try dsimp only) <;> omega)

end Cert.FfnDhIdeal.Hand

/-- From equal arguments the kernel and the reference end with equal results. -/
theorem Cert.FfnDhIdeal.Hand.algebraic : Cert.algebraic_FfnDhIdeal_RefDhIdeal
    (hFfnDhIdeal := Cert.FfnDhIdeal.Gen.facts) (hRefDhIdeal := Cert.RefDhIdeal.Gen.facts) := by
  pair_intro
  · run_from Cert.FfnDhIdeal.Value.run_blocks m g
  · run_from Cert.RefDhIdeal.Value.run m' g'
    exact (Cert.FfnDhIdeal.Hand.final m c).symm

end
-- ==== Proof.FfnDown.lean ====
module

public import proofs.«01_k».proof.Proof.Gen.FfnDownIdeal.Value
public import proofs.«01_k».proof.Proof.Gen.RefFfnDownIdeal.Run
public import proofs.«01_k».proof.Defs
public import Idealize.ShloMosaic.Lib.Pipeline.ValueKit
public import Idealize.ShloMosaic.Lib.Tactic
public import Idealize.ShloMosaic.Lib.Pointwise

/-! The squared-ReLU layer's second product with its gated residual: the kernel's two arrays are the reference's. -/

@[expose] public section

set_option maxRecDepth 16384

noncomputable section

namespace Cert.FfnDownIdeal.Hand

open Idealize.ShloMosaic Idealize.ShloMosaic.TcCoe Idealize.SL.Sem
open Idealize.ShloMosaic.Pipeline (Dat)
open Cert.FfnDownIdeal Cert.FfnDownIdeal.Gen

variable (m : (ℓ : Loc nD τ sig) → Buf (Elt Ideal) ℓ)

/-- The zero fill at an index. -/
theorem zero_at (j) : k0_pay1 (F := Ideal) j = 0 := by pointwise [k0_pay1]

/-- One step of the accumulation at an index: what was there, plus a block's worth of the contraction. -/
theorem step_at (acc x y j) : k0_pay2 (F := Ideal) acc x y j
    = acc j + ∑ k : Fin 2048, x (ix2 (j 0) k) * y (ix4 0 0 k (j 1)) := by pointwise [k0_pay2]

/-- Whether a row lies below row 256, as the body asks it of 32-bit words. -/
theorem slt_at (n : ℕ) (h : n < 2 ^ 31) : (BitVec.ofNat 32 n).slt 256#32 = decide (n < 256) := by
  have h1 : (BitVec.ofNat 32 n).toInt = (n : ℤ) := by
    rw [BitVec.toInt_eq_toNat_cond, BitVec.toNat_ofNat, Nat.mod_eq_of_lt (by omega), if_pos (by omega)]
  have h2 : (256#32 : BitVec 32).toInt = 256 := by decide
  rw [BitVec.slt, h1, h2]
  exact decide_eq_decide.mpr (by omega)

/-- The gated sum the body stores at an index. -/
theorem gate_at (i : grid0.Coords) (acc res g0 g1 j) : k0_pay3 (F := Ideal) i acc res g0 g1 j
    = res j + (if (i 0 : ℕ) * 1056 + j 0 < 256 then g0 (ix3 0 0 (j 1)) else g1 (ix3 0 0 (j 1))) * acc j := by
  idx_vars j
  pointwise [k0_pay3]
  have h0 : (i 0 : ℕ) < 8 := (i 0).isLt
  have e : IntOp.addi (Scalar.muli (BitVec.ofNat 32 (i 0 : ℕ)) 1056#32) (BitVec.ofNat 32 (j0 : ℕ))
      = BitVec.ofNat 32 ((i 0 : ℕ) * 1056 + j0) := by
    rw [BitVec.ofNat_add, BitVec.ofNat_mul]; rfl
  have e' : IntOp.cmpi .slt (BitVec.ofNat 32 ((i 0 : ℕ) * 1056 + j0)) 256#32
      = BitVec.ofBool (decide ((i 0 : ℕ) * 1056 + j0 < 256)) := by
    rw [← slt_at _ (by omega)]; rfl
  rw [e, e']
  by_cases h : (i 0 : ℕ) * 1056 + j0 < 256 <;> simp [h, Scalar.select]

/-- The plain product the body stores at an index. -/
theorem plain_at (acc j) : k0_pay4 (F := Ideal) acc j = acc j := by pointwise [k0_pay4]

/-- Every window's block index at a grid point. -/
theorem idx : ∀ t : Fin cfg0.N, win0_0.index t = ![t.val / 8, t.val % 4]
    ∧ win0_1.index t = ![t.val % 4, 0, 0, t.val / 4 % 2]
    ∧ win0_2.index t = ![t.val / 8, t.val / 4 % 2]
    ∧ win0_3.index t = ![0, 0, t.val / 4 % 2]
    ∧ win0_4.index t = ![t.val / 8, t.val / 4 % 2]
    ∧ win0_5.index t = ![t.val / 8, t.val / 4 % 2] :=
  (by decide +kernel : ∀ t : Fin grid0.N, _)

/-- The first grid coordinate of a point. -/
theorem co : ∀ t : Fin cfg0.N, (grid0.coords t 0 : ℕ) = t.val / 8 :=
  (by decide +kernel : ∀ t : Fin grid0.N, _)

/-- The product alone, over variables. -/
abbrev Z (X : FVec Ideal S8448x8192 .bf16) (W : FVec Ideal S8192x2048 .f32) : FVec Ideal S8448x2048 .f32 :=
  Host.dotGeneral Cert.RefFfnDownIdeal.dot_S8448x8192_S8192x2048_S8448x2048_1_0_0_1_n_n none (extf .f32 X Cert.RefFfnDownIdeal.Gen.bitsLt_bf16_f32) W

/-- The reference's first result over variables: context rows and latent rows under their own gates. -/
abbrev REF (X : FVec Ideal S8448x8192 .bf16) (W : FVec Ideal S8192x2048 .f32) (H : FVec Ideal S8448x2048 .f32) (M : FVec Ideal S2x6x2048 .f32) : FVec Ideal S8448x2048 .f32 :=
  concatenate S8448x2048 0 [⟨Cert.RefFfnDownIdeal.S256x2048, (addf (extractStridedSlice Cert.RefFfnDownIdeal.S256x2048 ![0, 0] H Cert.RefFfnDownIdeal.Gen.slices_S8448x2048_S256x2048_0_0) (mulf (broadcastInDim Cert.RefFfnDownIdeal.S256x2048 ![0, 1] Cert.RefFfnDownIdeal.Gen.bcast_S1x2048_S256x2048_0_1 (broadcastInDim Cert.RefFfnDownIdeal.S1x2048 ![1] Cert.RefFfnDownIdeal.Gen.bcast_S2048_S1x2048_1 (shapeCast _ (extractStridedSlice Cert.RefFfnDownIdeal.S1x1x2048 ![0, 5, 0] M Cert.RefFfnDownIdeal.Gen.slices_S2x6x2048_S1x1x2048_0_5_0) Cert.RefFfnDownIdeal.Gen.shapeCasts_S1x1x2048_S2048))) (extractStridedSlice Cert.RefFfnDownIdeal.S256x2048 ![0, 0] (Z X W) Cert.RefFfnDownIdeal.Gen.slices_S8448x2048_S256x2048_0_0)))⟩, ⟨Cert.RefFfnDownIdeal.S8192x2048, (addf (extractStridedSlice Cert.RefFfnDownIdeal.S8192x2048 ![256, 0] H Cert.RefFfnDownIdeal.Gen.slices_S8448x2048_S8192x2048_256_0) (mulf (broadcastInDim Cert.RefFfnDownIdeal.S8192x2048 ![0, 1] Cert.RefFfnDownIdeal.Gen.bcast_S1x2048_S8192x2048_0_1 (broadcastInDim Cert.RefFfnDownIdeal.S1x2048 ![1] Cert.RefFfnDownIdeal.Gen.bcast_S2048_S1x2048_1 (shapeCast _ (extractStridedSlice Cert.RefFfnDownIdeal.S1x1x2048 ![1, 5, 0] M Cert.RefFfnDownIdeal.Gen.slices_S2x6x2048_S1x1x2048_1_5_0) Cert.RefFfnDownIdeal.Gen.shapeCasts_S1x1x2048_S2048))) (extractStridedSlice Cert.RefFfnDownIdeal.S8192x2048 ![256, 0] (Z X W) Cert.RefFfnDownIdeal.Gen.slices_S8448x2048_S8192x2048_256_0)))⟩] Cert.RefFfnDownIdeal.Gen.concatenates_S256x2048_S8192x2048_S8448x2048_d0

/-- The reference's second result over variables. -/
abbrev REF' (X : FVec Ideal S8448x8192 .bf16) (W : FVec Ideal S8192x2048 .f32) : FVec Ideal S8448x2048 .bf16 :=
  truncf .bf16 (Z X W) Cert.RefFfnDownIdeal.Gen.bitsLt_bf16_f32

/-- The second result at an index. -/
theorem ref'_at (X W) (j : S8448x2048.Idx) :
    REF' X W j = ∑ k : Fin 8192, X (ix2 (j 0) k) * W (ix2 k (j 1)) := by
  pointwise [REF', Z]

/-- The first result at an index: a context row takes the first gate, a latent row the second. -/
theorem ref_at (X W H M) (j : S8448x2048.Idx) :
    REF X W H M j = H j + (if (j 0 : ℕ) < 256 then M (ix3 0 5 (j 1)) else M (ix3 1 5 (j 1))) * ∑ k : Fin 8192, X (ix2 (j 0) k) * W (ix2 k (j 1)) := by
  idx_vars j
  pointwise [REF, Z]
  by_cases h : (j0 : ℕ) < 256
  · exact (dif_pos h).trans (Ideal.add_congr rfl (Ideal.mul_congr (if_pos h).symm rfl))
  · have e : ∀ hh, (⟨256 + ((j0 : ℕ) - 256), hh⟩ : Fin 8448) = j0 := fun _ => Fin.ext (by dsimp only; omega)
    refine (dif_neg h).trans ?_
    simp only [e]
    exact Ideal.add_congr rfl (Ideal.mul_congr (if_neg h).symm rfl)

/-- The weight as the region finds it: cut into four shards along its rows. -/
abbrev SH (W : FVec Ideal S8192x2048 .f32) : FVec Ideal S4x1x2048x2048 .bf16 :=
  truncf .bf16 (shapeCast S4x1x2048x2048 W shapeCasts_S8192x2048_S4x1x2048x2048) bitsLt_bf16_f32

/-- The shards at an index. -/
theorem sh_at (W) (s : Fin 4) (z : Fin 1) (p : Fin 2048) (q : Fin 2048) (i : S8192x2048.Idx) (h0 : (i 0 : ℕ) = s * 2048 + p) (h1 : (i 1 : ℕ) = q) :
    SH W (ix4 s z p q) = W i := by
  pointwise [SH]
  blk_ext

/-- The host operations before the region leave the shards in the kernel's second operand. -/
theorem sh_eq (c : Dev nD) : V m c main_v1 = SH (m ((c : Thread nD τ).loc main_arg1)) := by
  unfold V
  after_results <;> rfl

/-- A block of the product's input rows, read in the array. -/
theorem blk0 (c : Dev nD) (p : Fin cfg0.N) (q : Fin 1056) (k : Fin 2048) (i : S8448x8192.Idx)
    (h0 : (i 0 : ℕ) = p.val / 8 * 1056 + q) (h1 : (i 1 : ℕ) = p.val % 4 * 2048 + k) :
    iblk m c 0 p (ix2 q k) = m ((c : Thread nD τ).loc main_arg0) i := by
  rw [← V_main_arg0 m c]
  blk_ext [iblk, idx p]

/-- A block of the weight's shards, read in the weight. -/
theorem blk1 (c : Dev nD) (p : Fin cfg0.N) (q : Fin 2048) (k : Fin 1024) (i : S8192x2048.Idx)
    (h0 : (i 0 : ℕ) = p.val % 4 * 2048 + q) (h1 : (i 1 : ℕ) = p.val / 4 % 2 * 1024 + k) :
    iblk m c 1 p (ix4 0 0 q k) = m ((c : Thread nD τ).loc main_arg1) i := by
  rw [← sh_at (m ((c : Thread nD τ).loc main_arg1)) ⟨p.val % 4, by omega⟩ 0 q ⟨p.val / 4 % 2 * 1024 + k, by omega⟩ i (by dsimp only; omega) (by dsimp only; omega), ← sh_eq]
  blk_ext [iblk, idx p]

/-- A block of the residual, read in the array. -/
theorem blk2 (c : Dev nD) (p : Fin cfg0.N) (y : S1056x1024.Idx) (i : S8448x2048.Idx)
    (h0 : (i 0 : ℕ) = p.val / 8 * 1056 + y 0) (h1 : (i 1 : ℕ) = p.val / 4 % 2 * 1024 + y 1) :
    iblk m c 2 p y = m ((c : Thread nD τ).loc main_arg2) i := by
  rw [← V_main_arg2 m c]
  blk_ext [iblk, idx p]

/-- A block of the modulation, read in the array. -/
theorem blk3 (c : Dev nD) (p : Fin cfg0.N) (a : Fin 2) (b : Fin 6) (k : Fin 1024) (i : S2x6x2048.Idx)
    (h0 : (i 0 : ℕ) = a) (h1 : (i 1 : ℕ) = b) (h2 : (i 2 : ℕ) = p.val / 4 % 2 * 1024 + k) :
    iblk m c 3 p (ix3 a b k) = m ((c : Thread nD τ).loc main_arg3) i := by
  rw [← V_main_arg3 m c]
  blk_ext [iblk, idx p]

/-- The accumulator after the last point of a run, at an index. -/
theorem acc_at (c : Dev nD) (t : Fin cfg0.N) (hr : t.val % 4 = 3) (j) :
    (outsAt0 m c t.val t.isLt).2.2 j = 0 + ∑ s : Fin 4, ∑ k : Fin 2048,
      (show FVec Ideal S1056x2048 .bf16 from iblk m c 0 ⟨4 * (t.val / 4) + s.val, Pipeline.run_point_lt_of_flush t hr s⟩) (ix2 (j 0) k)
      * (show FVec Ideal S1x1x2048x1024 .bf16 from iblk m c 1 ⟨4 * (t.val / 4) + s.val, Pipeline.run_point_lt_of_flush t hr s⟩) (ix4 0 0 k (j 1)) :=
  Pipeline.eq_sum_fin_of_reset_step_apply_of_flush (fun n h => (outsAt0 m c n h).2.2) 4 (fun _ => 0)
    (fun p j => ∑ k : Fin 2048, (show FVec Ideal S1056x2048 .bf16 from iblk m c 0 p) (ix2 (j 0) k)
      * (show FVec Ideal S1x1x2048x1024 .bf16 from iblk m c 1 p) (ix4 0 0 k (j 1)))
    (fun t h j => by
      rw [outsAt0_A m c t h (by omega)]; frame_out; rw [step_at, zero_at])
    (fun t h j => by
      by_cases h1 : t.val % 4 = 3
      · rw [outsAt0_C m c t h h1]; frame_out; rw [step_at, (Memref.isWhole_whole _).read_unread]
      · rw [outsAt0_B m c t h h1]; frame_out; rw [step_at, (Memref.isWhole_whole _).read_unread]) t hr j

/-- What the last point of a run leaves in the first output block, at an index. -/
theorem block_eq (c : Dev nD) (t : Fin cfg0.N) (hr : t.val % 4 = 3) (j) :
    (outsAt0 m c t.val t.isLt).1 j = (show FVec Ideal S1056x1024 .f32 from iblk m c 2 t) j
      + (if t.val / 8 * 1056 + j 0 < 256 then (show FVec Ideal S2x6x1024 .f32 from iblk m c 3 t) (ix3 0 5 (j 1)) else (show FVec Ideal S2x6x1024 .f32 from iblk m c 3 t) (ix3 1 5 (j 1)))
      * (outsAt0 m c t.val t.isLt).2.2 j := by
  rw [outsAt0_C m c t (by omega) hr]; frame_out
  rw [gate_at, co]
  refine Ideal.add_congr rfl (Ideal.mul_congr (if_congr Iff.rfl ?_ ?_) rfl) <;> blk_ext [View.ld] <;> first | rfl | simp [Rect.unit]

/-- What the last point of a run leaves in the second output block. -/
theorem block_eq' (c : Dev nD) (t : Fin cfg0.N) (hr : t.val % 4 = 3) :
    (outsAt0 m c t.val t.isLt).2.1 = k0_pay4 (outsAt0 m c t.val t.isLt).2.2 := by
  rw [outsAt0_C m c t (by omega) hr]; frame_out

/-- The accumulated block after a run, at an index: the whole contraction. -/
theorem sum_eq (c : Dev nD) (t : Fin cfg0.N) (hr : t.val % 4 = 3) (y : S1056x1024.Idx) (i : S8448x2048.Idx)
    (h0 : (i 0 : ℕ) = t.val / 8 * 1056 + y 0) (h1 : (i 1 : ℕ) = t.val / 4 % 2 * 1024 + y 1) :
    (outsAt0 m c t.val t.isLt).2.2 y = ∑ k : Fin 8192, (show FVec Ideal S8448x8192 .bf16 from (m ((c : Thread nD τ).loc main_arg0))) (ix2 (i 0) k)
      * (show FVec Ideal S8192x2048 .f32 from (m ((c : Thread nD τ).loc main_arg1))) (ix2 k (i 1)) := by
  rw [acc_at m c t hr, zero_add]
  refine Fin.sum_mul_add_congr fun s k hl => ?_
  refine Ideal.mul_congr (blk0 m c _ _ _ _ ?_ ?_) (blk1 m c _ _ _ _ ?_ ?_)
  all_goals (blk_simp [idx t] <;> (try dsimp only) <;> omega)

/-- The second result array is the reference's term of the arguments. -/
theorem final' (c : Dev nD) : (dats m 0 c).arrAt 5 cfg0.N
    = REF' (m ((c : Thread nD τ).loc main_arg0)) (m ((c : Thread nD τ).loc main_arg1)) := by
  refine (dats m 0 c).arrAt_eq_of_covers 5 _ (by decide +kernel) fun t hf y => ?_
  blk_simp
  have hr := (flush0_5 t).mp hf
  rw [after0_5, block_eq' m c t hr, plain_at, ref'_at]
  refine sum_eq m c t hr y _ ?_ ?_ <;> blk_simp [idx t]

/-- The first result array is the reference's term of the arguments. -/
theorem final (c : Dev nD) : (dats m 0 c).arrAt 4 cfg0.N
    = REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  have hr := (flush0_4 t).mp hf
  rw [after0_4, block_eq m c t hr, ref_at]
  refine Ideal.add_congr (blk2 m c t y _ ?_ ?_) (Ideal.mul_congr (if_congr ?_ (blk3 m c t _ _ _ _ ?_ ?_ ?_) (blk3 m c t _ _ _ _ ?_ ?_ ?_)) (sum_eq m c t hr y _ ?_ ?_))
  all_goals (blk_simp [idx t] <;> (try rfl) <;> omega)

end Cert.FfnDownIdeal.Hand

/-- From equal arguments the kernel and the reference end with equal results. -/
theorem Cert.FfnDownIdeal.Hand.algebraic : Cert.algebraic_FfnDownIdeal_RefFfnDownIdeal
    (hFfnDownIdeal := Cert.FfnDownIdeal.Gen.facts) (hRefFfnDownIdeal := Cert.RefFfnDownIdeal.Gen.facts) := by
  pair_intro
  · run_from Cert.FfnDownIdeal.Value.run_blocks m g
  · run_from Cert.RefFfnDownIdeal.Value.run m' g'
    · rw [(hagree c).2.2.2]; exact (Cert.FfnDownIdeal.Hand.final m c).symm
    · exact (Cert.FfnDownIdeal.Hand.final' m c).symm

end
-- ==== Proof.FfnUp.lean ====
module

public import proofs.«01_k».proof.Proof.Gen.FfnUpIdeal.Value
public import proofs.«01_k».proof.Proof.Gen.RefFfnUpIdeal.Run
public import proofs.«01_k».proof.Defs
public import Idealize.ShloMosaic.Lib.Pipeline.ValueKit
public import Idealize.ShloMosaic.Lib.Tactic
public import Idealize.ShloMosaic.Lib.Pointwise

/-! The squared-ReLU layer's first product with its activation: the kernel's array is the reference's. -/

@[expose] public section

set_option maxRecDepth 16384

noncomputable section

namespace Cert.FfnUpIdeal.Hand

open Idealize.ShloMosaic Idealize.ShloMosaic.TcCoe Idealize.SL.Sem
open Idealize.ShloMosaic.Pipeline (Dat)
open Cert.FfnUpIdeal Cert.FfnUpIdeal.Gen

variable (m : (ℓ : Loc nD τ sig) → Buf (Elt Ideal) ℓ)

/-- What the body stores at an index. -/
theorem pay_at (x w j) : k0_pay1 (F := Ideal) x w j
    = max (∑ k : Fin 2048, x (ix2 (j 0) k) * w (ix4 0 0 k (j 1))) 0 * max (∑ k : Fin 2048, x (ix2 (j 0) k) * w (ix4 0 0 k (j 1))) 0 := by
  pointwise [k0_pay1]

/-- Every window's block index at a grid point. -/
theorem idx : ∀ t : Fin cfg0.N, win0_0.index t = ![t.val / 8, 0]
    ∧ win0_1.index t = ![t.val % 8 / 2, 0, 0, t.val % 2]
    ∧ win0_2.index t = ![t.val / 8, t.val % 8] :=
  (by decide +kernel : ∀ t : Fin grid0.N, _)

/-- The product before the activation. -/
abbrev Z (X : FVec Ideal S8448x2048 .bf16) (W : FVec Ideal S2048x8192 .f32) : FVec Ideal S8448x8192 .f32 :=
  Host.dotGeneral Cert.RefFfnUpIdeal.dot_S8448x2048_S2048x8192_S8448x8192_1_0_0_1_n_n none (extf .f32 X Cert.RefFfnUpIdeal.Gen.bitsLt_bf16_f32) W

/-- The reference's term over variables. -/
abbrev REF (X : FVec Ideal S8448x2048 .bf16) (W : FVec Ideal S2048x8192 .f32) : FVec Ideal S8448x8192 .bf16 :=
  truncf .bf16 (mulf (maximumf (Z X W) (broadcastInDim S8448x8192 ![] Cert.RefFfnUpIdeal.Gen.bcast_S_S8448x8192 (constant Cert.RefFfnUpIdeal.S_ .f32 0x00000000#32))) (maximumf (Z X W) (broadcastInDim S8448x8192 ![] Cert.RefFfnUpIdeal.Gen.bcast_S_S8448x8192 (constant Cert.RefFfnUpIdeal.S_ .f32 0x00000000#32)))) Cert.RefFfnUpIdeal.Gen.bitsLt_bf16_f32

/-- The reference at an index. -/
theorem ref_at (X W) (j : S8448x8192.Idx) :
    REF X W j = max (∑ k : Fin 2048, X (ix2 (j 0) k) * W (ix2 k (j 1))) 0 * max (∑ k : Fin 2048, X (ix2 (j 0) k) * W (ix2 k (j 1))) 0 := by
  pointwise [REF, Z]

/-- The weight as the region finds it: cut into four shards along its columns. -/
abbrev SH (W : FVec Ideal S2048x8192 .f32) : FVec Ideal S4x1x2048x2048 .bf16 :=
  truncf .bf16 (broadcastInDim S4x1x2048x2048 ![0, 2, 3] bcast_S4x2048x2048_S4x1x2048x2048_0_2_3 (transpose S4x2048x2048 [1, 0, 2] (shapeCast S2048x4x2048 W shapeCasts_S2048x8192_S2048x4x2048) transposes_S2048x4x2048_S4x2048x2048_1_0_2)) bitsLt_bf16_f32

/-- The shards at an index. -/
theorem sh_at (W) (s : Fin 4) (z : Fin 1) (p : Fin 2048) (q : Fin 2048) (i : S2048x8192.Idx) (h0 : (i 0 : ℕ) = p) (h1 : (i 1 : ℕ) = s * 2048 + q) :
    SH W (ix4 s z p q) = W i := by
  pointwise [SH]
  blk_ext

/-- The host operations before the region leave the shards in the kernel's second operand. -/
theorem sh_eq (c : Dev nD) : V m c main_v3 = SH (m ((c : Thread nD τ).loc main_arg1)) := by
  unfold V
  after_results <;> rfl

/-- A block of the layer's input rows, read in the array. -/
theorem blk0 (c : Dev nD) (p : Fin cfg0.N) (q : Fin 1408) (k : Fin 2048) (i : S8448x2048.Idx)
    (h0 : (i 0 : ℕ) = p.val / 8 * 1408 + q) (h1 : (i 1 : ℕ) = k) :
    iblk m c 0 p (ix2 q k) = m ((c : Thread nD τ).loc main_arg0) i := by
  rw [← V_main_arg0 m c]
  blk_ext [iblk, idx p]

/-- A block of the weight's shards, read in the weight. -/
theorem blk1 (c : Dev nD) (p : Fin cfg0.N) (q : Fin 2048) (k : Fin 1024) (i : S2048x8192.Idx)
    (h0 : (i 0 : ℕ) = q) (h1 : (i 1 : ℕ) = p.val % 8 * 1024 + k) :
    iblk m c 1 p (ix4 0 0 q k) = m ((c : Thread nD τ).loc main_arg1) i := by
  rw [← sh_at (m ((c : Thread nD τ).loc main_arg1)) ⟨p.val % 8 / 2, by omega⟩ 0 q ⟨p.val % 2 * 1024 + k, by omega⟩ i (by dsimp only; omega) (by dsimp only; omega), ← sh_eq]
  blk_ext [iblk, idx p]

/-- The result array is the reference's term of the arguments. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [pay_at, ref_at]
  have e : ∀ a b : EReal, a = b → max a 0 * max a 0 = max b 0 * max b 0 := fun a b h => by rw [h]
  refine e _ _ (Fin.sum_fin_congr fun k => ?_)
  refine Ideal.mul_congr (blk0 m c _ _ _ _ ?_ ?_) (blk1 m c _ _ _ _ ?_ ?_)
  all_goals (blk_simp [idx t] <;> (try dsimp only) <;> omega)

end Cert.FfnUpIdeal.Hand

/-- From equal arguments the kernel and the reference end with equal results. -/
theorem Cert.FfnUpIdeal.Hand.algebraic : Cert.algebraic_FfnUpIdeal_RefFfnUpIdeal
    (hFfnUpIdeal := Cert.FfnUpIdeal.Gen.facts) (hRefFfnUpIdeal := Cert.RefFfnUpIdeal.Gen.facts) := by
  pair_intro
  · run_from Cert.FfnUpIdeal.Value.run_blocks m g
  · run_from Cert.RefFfnUpIdeal.Value.run m' g'
    exact (Cert.FfnUpIdeal.Hand.final m c).symm

end
-- ==== Proof.Gdown.lean ====
module

public import proofs.«01_k».proof.Proof.Gen.FfnGdownIdeal.Value
public import proofs.«01_k».proof.Proof.Gen.RefGdownIdeal.Run
public import proofs.«01_k».proof.Defs
public import Idealize.ShloMosaic.Lib.Pipeline.ValueKit
public import Idealize.ShloMosaic.Lib.Tactic
public import Idealize.ShloMosaic.Lib.Pointwise

/-! The gradient of the second feed-forward weight: the kernel's array is the reference's. -/

@[expose] public section

set_option maxRecDepth 16384

noncomputable section

namespace Cert.FfnGdownIdeal.Hand

open Idealize.ShloMosaic Idealize.ShloMosaic.TcCoe Idealize.SL.Sem
open Idealize.ShloMosaic.Pipeline (Dat)
open Cert.FfnGdownIdeal Cert.FfnGdownIdeal.Gen

variable (m : (ℓ : Loc nD τ sig) → Buf (Elt Ideal) ℓ)

/-- The zero fill at an index. -/
theorem zero_at (j) : k0_pay1 (F := Ideal) j = 0 := by pointwise [k0_pay1]

/-- One step of the accumulation at an index: what was there, plus a block's worth of the contraction. -/
theorem step_at (acc x y j) : k0_pay2 (F := Ideal) acc x y j
    = acc j + ∑ k : Fin 768, x (ix2 k (j 0)) * y (ix2 k (j 1)) := by pointwise [k0_pay2]

/-- The block written back at an index: the accumulated block, its two unit axes dropped. -/
theorem out_at (acc j) : k0_pay3 (F := Ideal) acc j = acc (ix2 (j 2) (j 3)) := by pointwise [k0_pay3]

/-- Every window's block index at a grid point. -/
theorem idx : ∀ t : Fin cfg0.N, win0_0.index t = ![t.val % 11, t.val / 11]
    ∧ win0_1.index t = ![t.val % 11, 0]
    ∧ win0_2.index t = ![t.val / 22, 0, t.val / 11 % 2, 0] :=
  (by decide +kernel : ∀ t : Fin grid0.N, _)

/-- The reference's term over variables. -/
abbrev REF (X : FVec Ideal S8448x2048 .bf16) (Z : FVec Ideal S8448x8192 .f32) : FVec Ideal S4x1x2048x2048 .bf16 :=
  truncf .bf16 (shapeCast _ (transpose Cert.RefGdownIdeal.S8192x2048 [1, 0] (Host.dotGeneral Cert.RefGdownIdeal.dot_S8448x2048_S8448x8192_S2048x8192_0_0_1_1_n_n none (extf .f32 X Cert.RefGdownIdeal.Gen.bitsLt_bf16_f32) (mulf (maximumf Z (broadcastInDim S8448x8192 ![] Cert.RefGdownIdeal.Gen.bcast_S_S8448x8192 (constant Cert.RefGdownIdeal.S_ .f32 0x00000000#32))) (maximumf Z (broadcastInDim S8448x8192 ![] Cert.RefGdownIdeal.Gen.bcast_S_S8448x8192 (constant Cert.RefGdownIdeal.S_ .f32 0x00000000#32))))) Cert.RefGdownIdeal.Gen.transposes_S2048x8192_S8192x2048_1_0) Cert.RefGdownIdeal.Gen.shapeCasts_S8192x2048_S4x1x2048x2048) Cert.RefGdownIdeal.Gen.bitsLt_bf16_f32

/-- The activated rows the region finds: the square of the positive part of the saved pre-activation. -/
abbrev U (Z : FVec Ideal S8448x8192 .f32) : FVec Ideal S8448x8192 .bf16 :=
  truncf .bf16 (mulf (maximumf Z (broadcastInDim S8448x8192 ![] bcast_S_S8448x8192 (constant S_ .f32 0x00000000#32))) (maximumf Z (broadcastInDim S8448x8192 ![] bcast_S_S8448x8192 (constant S_ .f32 0x00000000#32)))) bitsLt_bf16_f32

/-- The reference at an index: the whole contraction over the rows. -/
theorem ref_at (X Z) (j : S4x1x2048x2048.Idx) :
    REF X Z j = ∑ k : Fin 8448, U Z (ix2 k ⟨(j 0 : ℕ) * 2048 + j 2, by
      have h0 : (j 0 : ℕ) < 4 := (j 0).isLt; have h2 : (j 2 : ℕ) < 2048 := (j 2).isLt; omega⟩) * X (ix2 k (j 3)) := by
  idx_vars j
  pointwise [REF, U]
  exact Finset.sum_congr rfl fun k _ => mul_comm _ _

/-- The host operations before the region leave the activated rows in the kernel's first operand. -/
theorem act_eq (c : Dev nD) : V m c main_v2 = U (m ((c : Thread nD τ).loc main_arg1)) := by
  unfold V
  simp only [hostOps0, hostOps0_1, StableHlo.TRef.binary, StableHlo.TRef.nullary, StableHlo.TRef.unary, StableHlo.TRef.toBuf, StableHlo.TRef.ofBuf, cast_eq, List.flatten_cons, List.flatten_nil, List.append_nil, List.cons_append, List.nil_append]
  after_results <;> rfl

/-- A block of the activated rows, read in the array. -/
theorem blk0 (c : Dev nD) (p : Fin cfg0.N) (k : Fin 768) (q : Fin 1024) (i : S8448x8192.Idx)
    (h0 : (i 0 : ℕ) = p.val % 11 * 768 + k) (h1 : (i 1 : ℕ) = p.val / 11 * 1024 + q) :
    iblk m c 0 p (ix2 k q) = U (m ((c : Thread nD τ).loc main_arg1)) i := by
  rw [← act_eq]
  blk_ext [iblk, idx p]

/-- A block of the incoming gradient, read in the array. -/
theorem blk1 (c : Dev nD) (p : Fin cfg0.N) (k : Fin 768) (q : Fin 2048) (i : S8448x2048.Idx)
    (h0 : (i 0 : ℕ) = p.val % 11 * 768 + k) (h1 : (i 1 : ℕ) = q) :
    iblk m c 1 p (ix2 k q) = m ((c : Thread nD τ).loc main_arg0) i := by
  rw [← V_main_arg0 m c]
  blk_ext [iblk, idx p]

/-- The accumulator after the last point of a run, at an index. -/
theorem acc_at (c : Dev nD) (t : Fin cfg0.N) (hr : t.val % 11 = 10) (j) :
    (outsAt0 m c t.val t.isLt).2 j = 0 + ∑ s : Fin 11, ∑ k : Fin 768,
      (show FVec Ideal S768x1024 .bf16 from iblk m c 0 ⟨11 * (t.val / 11) + s.val, Pipeline.run_point_lt_of_flush t hr s⟩) (ix2 k (j 0))
      * (show FVec Ideal S768x2048 .bf16 from iblk m c 1 ⟨11 * (t.val / 11) + s.val, Pipeline.run_point_lt_of_flush t hr s⟩) (ix2 k (j 1)) :=
  Pipeline.eq_sum_fin_of_reset_step_apply_of_flush (fun n h => (outsAt0 m c n h).2) 11 (fun _ => 0)
    (fun p j => ∑ k : Fin 768, (show FVec Ideal S768x1024 .bf16 from iblk m c 0 p) (ix2 k (j 0))
      * (show FVec Ideal S768x2048 .bf16 from iblk m c 1 p) (ix2 k (j 1)))
    (fun t h j => by
      rw [outsAt0_A m c t h (by omega)]; frame_out; rw [step_at, zero_at])
    (fun t h j => by
      by_cases h1 : t.val % 11 = 10
      · rw [outsAt0_C m c t h h1]; frame_out; rw [step_at, (Memref.isWhole_whole _).read_unread]
      · rw [outsAt0_B m c t h h1]; frame_out; rw [step_at, (Memref.isWhole_whole _).read_unread]) t hr j

/-- What the last point of a run leaves in the output block: the accumulator it leaves, reshaped. -/
theorem block_eq (c : Dev nD) (t : Fin cfg0.N) (hr : t.val % 11 = 10) :
    (outsAt0 m c t.val t.isLt).1 = k0_pay3 (outsAt0 m c t.val t.isLt).2 := by
  rw [outsAt0_C m c t (by omega) hr]; frame_out

/-- The result array is the reference's term of the arguments. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t hf y => ?_
  blk_simp
  have hr := (flush0_2 t).mp hf
  rw [after0_2, block_eq m c t hr, out_at, acc_at m c t hr, zero_add, ref_at]
  refine Fin.sum_mul_add_congr fun s k hl => ?_
  refine Ideal.mul_congr (blk0 m c _ _ _ _ ?_ ?_) (blk1 m c _ _ _ _ ?_ ?_)
  all_goals (blk_simp [idx t] <;> (try dsimp only) <;> omega)

end Cert.FfnGdownIdeal.Hand

/-- From equal arguments the kernel and the reference end with equal results. -/
theorem Cert.FfnGdownIdeal.Hand.algebraic : Cert.algebraic_FfnGdownIdeal_RefGdownIdeal
    (hFfnGdownIdeal := Cert.FfnGdownIdeal.Gen.facts) (hRefGdownIdeal := Cert.RefGdownIdeal.Gen.facts) := by
  pair_intro
  · run_from Cert.FfnGdownIdeal.Value.run_blocks m g
  · run_from Cert.RefGdownIdeal.Value.run m' g'
    exact (Cert.FfnGdownIdeal.Hand.final m c).symm

end
-- ==== Proof.Gup.lean ====
module

public import proofs.«01_k».proof.Proof.Gen.FfnGupIdeal.Value
public import proofs.«01_k».proof.Proof.Gen.RefGupIdeal.Run
public import proofs.«01_k».proof.Defs
public import Idealize.ShloMosaic.Lib.Pipeline.ValueKit
public import Idealize.ShloMosaic.Lib.Tactic
public import Idealize.ShloMosaic.Lib.Pointwise

/-! The gradient of the first feed-forward weight: the kernel's array is the reference's. -/

@[expose] public section

set_option maxRecDepth 16384

noncomputable section

namespace Cert.FfnGupIdeal.Hand

open Idealize.ShloMosaic Idealize.ShloMosaic.TcCoe Idealize.SL.Sem
open Idealize.ShloMosaic.Pipeline (Dat)
open Cert.FfnGupIdeal Cert.FfnGupIdeal.Gen

variable (m : (ℓ : Loc nD τ sig) → Buf (Elt Ideal) ℓ)

/-- The zero fill at an index. -/
theorem zero_at (j) : k0_pay1 (F := Ideal) j = 0 := by pointwise [k0_pay1]

/-- One step of the accumulation at an index: what was there, plus a block's worth of the contraction. -/
theorem step_at (acc x y j) : k0_pay2 (F := Ideal) acc x y j
    = acc j + ∑ k : Fin 768, x (ix2 k (j 0)) * y (ix2 k (j 1)) := by pointwise [k0_pay2]

/-- The block written back at an index: the accumulated block, its two unit axes dropped. -/
theorem out_at (acc j) : k0_pay3 (F := Ideal) acc j = acc (ix2 (j 2) (j 3)) := by pointwise [k0_pay3]

/-- Every window's block index at a grid point. -/
theorem idx : ∀ t : Fin cfg0.N, win0_0.index t = ![t.val % 11, t.val / 11 % 2]
    ∧ win0_1.index t = ![t.val % 11, t.val / 22]
    ∧ win0_2.index t = ![t.val / 22, 0, t.val / 11 % 2, 0] :=
  (by decide +kernel : ∀ t : Fin grid0.N, _)

/-- The reference's term over variables. -/
abbrev REF (H : FVec Ideal S8448x2048 .bf16) (Y : FVec Ideal S8448x8192 .bf16) : FVec Ideal S4x1x2048x2048 .bf16 :=
  truncf .bf16 (broadcastInDim S4x1x2048x2048 ![0, 2, 3] Cert.RefGupIdeal.Gen.bcast_S4x2048x2048_S4x1x2048x2048_0_2_3 (transpose Cert.RefGupIdeal.S4x2048x2048 [1, 0, 2] (shapeCast _ (transpose Cert.RefGupIdeal.S2048x8192 [1, 0] (Host.dotGeneral Cert.RefGupIdeal.dot_S8448x8192_S8448x2048_S8192x2048_0_0_1_1_n_n none (extf .f32 Y Cert.RefGupIdeal.Gen.bitsLt_bf16_f32) (extf .f32 H Cert.RefGupIdeal.Gen.bitsLt_bf16_f32)) Cert.RefGupIdeal.Gen.transposes_S8192x2048_S2048x8192_1_0) Cert.RefGupIdeal.Gen.shapeCasts_S2048x8192_S2048x4x2048) Cert.RefGupIdeal.Gen.transposes_S2048x4x2048_S4x2048x2048_1_0_2)) Cert.RefGupIdeal.Gen.bitsLt_bf16_f32

/-- The reference at an index: the whole contraction over the rows. -/
theorem ref_at (H Y) (j : S4x1x2048x2048.Idx) :
    REF H Y j = ∑ k : Fin 8448, H (ix2 k (j 2)) * Y (ix2 k ⟨(j 0 : ℕ) * 2048 + j 3, by
      have h0 : (j 0 : ℕ) < 4 := (j 0).isLt; have h3 : (j 3 : ℕ) < 2048 := (j 3).isLt; omega⟩) := by
  idx_vars j
  pointwise [REF]
  exact Finset.sum_congr rfl fun k _ => mul_comm _ _

/-- A block of the layer's input rows, read in the array. -/
theorem blk0 (c : Dev nD) (p : Fin cfg0.N) (k : Fin 768) (q : Fin 1024) (i : S8448x2048.Idx)
    (h0 : (i 0 : ℕ) = p.val % 11 * 768 + k) (h1 : (i 1 : ℕ) = p.val / 11 % 2 * 1024 + q) :
    iblk m c 0 p (ix2 k q) = m ((c : Thread nD τ).loc main_arg0) i := by
  rw [← V_main_arg0 m c]
  blk_ext [iblk, idx p]

/-- A block of the incoming gradient, read in the array. -/
theorem blk1 (c : Dev nD) (p : Fin cfg0.N) (k : Fin 768) (q : Fin 2048) (i : S8448x8192.Idx)
    (h0 : (i 0 : ℕ) = p.val % 11 * 768 + k) (h1 : (i 1 : ℕ) = p.val / 22 * 2048 + q) :
    iblk m c 1 p (ix2 k q) = m ((c : Thread nD τ).loc main_arg1) i := by
  rw [← V_main_arg1 m c]
  blk_ext [iblk, idx p]

/-- The accumulator after the last point of a run, at an index. -/
theorem acc_at (c : Dev nD) (t : Fin cfg0.N) (hr : t.val % 11 = 10) (j) :
    (outsAt0 m c t.val t.isLt).2 j = 0 + ∑ s : Fin 11, ∑ k : Fin 768,
      (show FVec Ideal S768x1024 .bf16 from iblk m c 0 ⟨11 * (t.val / 11) + s.val, Pipeline.run_point_lt_of_flush t hr s⟩) (ix2 k (j 0))
      * (show FVec Ideal S768x2048 .bf16 from iblk m c 1 ⟨11 * (t.val / 11) + s.val, Pipeline.run_point_lt_of_flush t hr s⟩) (ix2 k (j 1)) :=
  Pipeline.eq_sum_fin_of_reset_step_apply_of_flush (fun n h => (outsAt0 m c n h).2) 11 (fun _ => 0)
    (fun p j => ∑ k : Fin 768, (show FVec Ideal S768x1024 .bf16 from iblk m c 0 p) (ix2 k (j 0))
      * (show FVec Ideal S768x2048 .bf16 from iblk m c 1 p) (ix2 k (j 1)))
    (fun t h j => by
      rw [outsAt0_A m c t h (by omega)]; frame_out; rw [step_at, zero_at])
    (fun t h j => by
      by_cases h1 : t.val % 11 = 10
      · rw [outsAt0_C m c t h h1]; frame_out; rw [step_at, (Memref.isWhole_whole _).read_unread]
      · rw [outsAt0_B m c t h h1]; frame_out; rw [step_at, (Memref.isWhole_whole _).read_unread]) t hr j

/-- What the last point of a run leaves in the output block: the accumulator it leaves, reshaped. -/
theorem block_eq (c : Dev nD) (t : Fin cfg0.N) (hr : t.val % 11 = 10) :
    (outsAt0 m c t.val t.isLt).1 = k0_pay3 (outsAt0 m c t.val t.isLt).2 := by
  rw [outsAt0_C m c t (by omega) hr]; frame_out

/-- The result array is the reference's term of the arguments. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t hf y => ?_
  blk_simp
  have hr := (flush0_2 t).mp hf
  rw [after0_2, block_eq m c t hr, out_at, acc_at m c t hr, zero_add, ref_at]
  refine Fin.sum_mul_add_congr fun s k hl => ?_
  refine Ideal.mul_congr (blk0 m c _ _ _ _ ?_ ?_) (blk1 m c _ _ _ _ ?_ ?_)
  all_goals (blk_simp [idx t] <;> (try dsimp only) <;> omega)

end Cert.FfnGupIdeal.Hand

/-- From equal arguments the kernel and the reference end with equal results. -/
theorem Cert.FfnGupIdeal.Hand.algebraic : Cert.algebraic_FfnGupIdeal_RefGupIdeal
    (hFfnGupIdeal := Cert.FfnGupIdeal.Gen.facts) (hRefGupIdeal := Cert.RefGupIdeal.Gen.facts) := by
  pair_intro
  · run_from Cert.FfnGupIdeal.Value.run_blocks m g
  · run_from Cert.RefGupIdeal.Value.run m' g'
    exact (Cert.FfnGupIdeal.Hand.final m c).symm

end
-- ==== Proof.InDh.lean ====
module

public import proofs.«01_k».proof.Proof.Gen.InDhIdeal.Value
public import proofs.«01_k».proof.Proof.Gen.RefInDhIdeal.Run
public import proofs.«01_k».proof.Defs
public import Idealize.ShloMosaic.Lib.Pipeline.ValueKit
public import Idealize.ShloMosaic.Lib.Tactic
public import Idealize.ShloMosaic.Lib.Pointwise

/-! The gradient at the input of the even mixer's input product: the kernel's array is the reference's. -/

@[expose] public section

set_option maxRecDepth 16384

noncomputable section

namespace Cert.InDhIdeal.Hand

open Idealize.ShloMosaic Idealize.ShloMosaic.TcCoe Idealize.SL.Sem
open Idealize.ShloMosaic.Pipeline (Dat)
open Cert.InDhIdeal Cert.InDhIdeal.Gen

variable (m : (ℓ : Loc nD τ sig) → Buf (Elt Ideal) ℓ)

/-- The zero fill at an index. -/
theorem zero_at (j) : k0_pay1 (F := Ideal) j = 0 := by pointwise [k0_pay1]

/-- One step of the accumulation at an index: what was there, plus a block's worth of the contraction. -/
theorem step_at (acc x y j) : k0_pay2 (F := Ideal) acc x y j
    = acc j + ∑ k : Fin 1792, x (ix2 (j 0) k) * y (ix4 0 0 (j 1) k) := by pointwise [k0_pay2]

/-- Every window's block index at a grid point. -/
theorem idx : ∀ t : Fin cfg0.N, win0_0.index t = ![t.val / 8, t.val % 4]
    ∧ win0_1.index t = ![t.val % 4, 0, t.val / 4 % 2, 0]
    ∧ win0_2.index t = ![t.val / 8, t.val / 4 % 2] :=
  (by decide +kernel : ∀ t : Fin grid0.N, _)

/-- The reference's term over variables. -/
abbrev REF (X : FVec Ideal S8448x7168 .bf16) (W : FVec Ideal S2048x7168 .f32) : FVec Ideal S8448x2048 .f32 :=
  Host.dotGeneral Cert.RefInDhIdeal.dot_S8448x7168_S2048x7168_S8448x2048_1_1_0_0_n_n none (extf .f32 X Cert.RefInDhIdeal.Gen.bitsLt_bf16_f32) W

/-- The reference at an index. -/
theorem ref_at (X W) (j : S8448x2048.Idx) :
    REF X W j = ∑ k : Fin 7168, X (ix2 (j 0) k) * W (ix2 (j 1) k) := by
  pointwise [REF]

/-- The weight as the region finds it: cut into four shards along its columns. -/
abbrev SH (W : FVec Ideal S2048x7168 .f32) : FVec Ideal S4x1x2048x1792 .bf16 :=
  truncf .bf16 (broadcastInDim S4x1x2048x1792 ![0, 2, 3] bcast_S4x2048x1792_S4x1x2048x1792_0_2_3 (transpose S4x2048x1792 [1, 0, 2] (shapeCast S2048x4x1792 W shapeCasts_S2048x7168_S2048x4x1792) transposes_S2048x4x1792_S4x2048x1792_1_0_2)) bitsLt_bf16_f32

/-- The shards at an index. -/
theorem sh_at (W) (s : Fin 4) (z : Fin 1) (p : Fin 2048) (q : Fin 1792) (i : S2048x7168.Idx) (h0 : (i 0 : ℕ) = p) (h1 : (i 1 : ℕ) = s * 1792 + q) :
    SH W (ix4 s z p q) = W i := by
  pointwise [SH]
  blk_ext

/-- The host operations before the region leave the shards in the kernel's second operand. -/
theorem sh_eq (c : Dev nD) : V m c main_v3 = SH (m ((c : Thread nD τ).loc main_arg1)) := by
  unfold V
  after_results <;> rfl

/-- A block of the incoming gradient, read in the array. -/
theorem blk0 (c : Dev nD) (p : Fin cfg0.N) (q : Fin 1408) (k : Fin 1792) (i : S8448x7168.Idx)
    (h0 : (i 0 : ℕ) = p.val / 8 * 1408 + q) (h1 : (i 1 : ℕ) = p.val % 4 * 1792 + k) :
    iblk m c 0 p (ix2 q k) = m ((c : Thread nD τ).loc main_arg0) i := by
  rw [← V_main_arg0 m c]
  blk_ext [iblk, idx p]

/-- A block of the weight's shards, read in the weight. -/
theorem blk1 (c : Dev nD) (p : Fin cfg0.N) (q : Fin 1024) (k : Fin 1792) (i : S2048x7168.Idx)
    (h0 : (i 0 : ℕ) = p.val / 4 % 2 * 1024 + q) (h1 : (i 1 : ℕ) = p.val % 4 * 1792 + k) :
    iblk m c 1 p (ix4 0 0 q k) = m ((c : Thread nD τ).loc main_arg1) i := by
  rw [← sh_at (m ((c : Thread nD τ).loc main_arg1)) ⟨p.val % 4, by omega⟩ 0 ⟨p.val / 4 % 2 * 1024 + q, by omega⟩ k i (by dsimp only; omega) (by dsimp only; omega), ← sh_eq]
  blk_ext [iblk, idx p]

/-- The accumulator after the last point of a run, at an index. -/
theorem acc_at (c : Dev nD) (t : Fin cfg0.N) (hr : t.val % 4 = 3) (j) :
    (outsAt0 m c t.val t.isLt).2 j = 0 + ∑ s : Fin 4, ∑ k : Fin 1792,
      (show FVec Ideal S1408x1792 .bf16 from iblk m c 0 ⟨4 * (t.val / 4) + s.val, Pipeline.run_point_lt_of_flush t hr s⟩) (ix2 (j 0) k)
      * (show FVec Ideal S1x1x1024x1792 .bf16 from iblk m c 1 ⟨4 * (t.val / 4) + s.val, Pipeline.run_point_lt_of_flush t hr s⟩) (ix4 0 0 (j 1) k) :=
  Pipeline.eq_sum_fin_of_reset_step_apply_of_flush (fun n h => (outsAt0 m c n h).2) 4 (fun _ => 0)
    (fun p j => ∑ k : Fin 1792, (show FVec Ideal S1408x1792 .bf16 from iblk m c 0 p) (ix2 (j 0) k)
      * (show FVec Ideal S1x1x1024x1792 .bf16 from iblk m c 1 p) (ix4 0 0 (j 1) k))
    (fun t h j => by
      rw [outsAt0_A m c t h (by omega)]; frame_out; rw [step_at, zero_at])
    (fun t h j => by
      by_cases h1 : t.val % 4 = 3
      · rw [outsAt0_C m c t h h1]; frame_out; rw [step_at, (Memref.isWhole_whole _).read_unread]
      · rw [outsAt0_B m c t h h1]; frame_out; rw [step_at, (Memref.isWhole_whole _).read_unread]) t hr j

/-- What the last point of a run leaves in the output block. -/
theorem block_eq (c : Dev nD) (t : Fin cfg0.N) (hr : t.val % 4 = 3) :
    (outsAt0 m c t.val t.isLt).1 = (outsAt0 m c t.val t.isLt).2 := by
  rw [outsAt0_C m c t (by omega) hr]; frame_out

/-- The result array is the reference's term of the arguments. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t hf y => ?_
  blk_simp
  have hr := (flush0_2 t).mp hf
  rw [after0_2, block_eq m c t hr, acc_at m c t hr, zero_add, ref_at]
  refine Fin.sum_mul_add_congr fun s k hl => ?_
  refine Ideal.mul_congr (blk0 m c _ _ _ _ ?_ ?_) (blk1 m c _ _ _ _ ?_ ?_)
  all_goals (blk_simp [idx t] <;> (try dsimp only) <;> omega)

end Cert.InDhIdeal.Hand

/-- From equal arguments the kernel and the reference end with equal results. -/
theorem Cert.InDhIdeal.Hand.algebraic : Cert.algebraic_InDhIdeal_RefInDhIdeal
    (hInDhIdeal := Cert.InDhIdeal.Gen.facts) (hRefInDhIdeal := Cert.RefInDhIdeal.Gen.facts) := by
  pair_intro
  · run_from Cert.InDhIdeal.Value.run_blocks m g
  · run_from Cert.RefInDhIdeal.Value.run m' g'
    exact (Cert.InDhIdeal.Hand.final m c).symm

end
-- ==== Proof.InG.lean ====
module

public import proofs.«01_k».proof.Proof.Gen.InGIdeal.Value
public import proofs.«01_k».proof.Proof.Gen.RefInGIdeal.Run
public import proofs.«01_k».proof.Defs
public import Idealize.ShloMosaic.Lib.Pipeline.ValueKit
public import Idealize.ShloMosaic.Lib.Tactic
public import Idealize.ShloMosaic.Lib.Pointwise

/-! The gradient of the even mixer's input weight: the kernel's array is the reference's. -/

@[expose] public section

set_option maxRecDepth 16384

noncomputable section

namespace Cert.InGIdeal.Hand

open Idealize.ShloMosaic Idealize.ShloMosaic.TcCoe Idealize.SL.Sem
open Idealize.ShloMosaic.Pipeline (Dat)
open Cert.InGIdeal Cert.InGIdeal.Gen

variable (m : (ℓ : Loc nD τ sig) → Buf (Elt Ideal) ℓ)

/-- The zero fill at an index. -/
theorem zero_at (j) : k0_pay1 (F := Ideal) j = 0 := by pointwise [k0_pay1]

/-- One step of the accumulation at an index: what was there, plus a block's worth of the contraction. -/
theorem step_at (acc x y j) : k0_pay2 (F := Ideal) acc x y j
    = acc j + ∑ k : Fin 768, x (ix2 k (j 0)) * y (ix2 k (j 1)) := by pointwise [k0_pay2]

/-- The block written back at an index: the accumulated block, its two unit axes dropped. -/
theorem out_at (acc j) : k0_pay3 (F := Ideal) acc j = acc (ix2 (j 2) (j 3)) := by pointwise [k0_pay3]

/-- Every window's block index at a grid point. -/
theorem idx : ∀ t : Fin cfg0.N, win0_0.index t = ![t.val % 11, t.val / 11 % 2]
    ∧ win0_1.index t = ![t.val % 11, t.val / 22]
    ∧ win0_2.index t = ![t.val / 22, 0, t.val / 11 % 2, 0] :=
  (by decide +kernel : ∀ t : Fin grid0.N, _)

/-- The reference's term over variables. -/
abbrev REF (H : FVec Ideal S8448x2048 .bf16) (Y : FVec Ideal S8448x7168 .bf16) : FVec Ideal S4x1x2048x1792 .bf16 :=
  truncf .bf16 (broadcastInDim S4x1x2048x1792 ![0, 2, 3] Cert.RefInGIdeal.Gen.bcast_S4x2048x1792_S4x1x2048x1792_0_2_3 (transpose Cert.RefInGIdeal.S4x2048x1792 [1, 0, 2] (shapeCast _ (transpose Cert.RefInGIdeal.S2048x7168 [1, 0] (Host.dotGeneral Cert.RefInGIdeal.dot_S8448x7168_S8448x2048_S7168x2048_0_0_1_1_n_n none (extf .f32 Y Cert.RefInGIdeal.Gen.bitsLt_bf16_f32) (extf .f32 H Cert.RefInGIdeal.Gen.bitsLt_bf16_f32)) Cert.RefInGIdeal.Gen.transposes_S7168x2048_S2048x7168_1_0) Cert.RefInGIdeal.Gen.shapeCasts_S2048x7168_S2048x4x1792) Cert.RefInGIdeal.Gen.transposes_S2048x4x1792_S4x2048x1792_1_0_2)) Cert.RefInGIdeal.Gen.bitsLt_bf16_f32

/-- The reference at an index: the whole contraction over the rows. -/
theorem ref_at (H Y) (j : S4x1x2048x1792.Idx) :
    REF H Y j = ∑ k : Fin 8448, H (ix2 k (j 2)) * Y (ix2 k ⟨(j 0 : ℕ) * 1792 + j 3, by
      have h0 : (j 0 : ℕ) < 4 := (j 0).isLt; have h3 : (j 3 : ℕ) < 1792 := (j 3).isLt; omega⟩) := by
  idx_vars j
  pointwise [REF]
  exact Finset.sum_congr rfl fun k _ => mul_comm _ _

/-- A block of the mixer's input rows, read in the array. -/
theorem blk0 (c : Dev nD) (p : Fin cfg0.N) (k : Fin 768) (q : Fin 1024) (i : S8448x2048.Idx)
    (h0 : (i 0 : ℕ) = p.val % 11 * 768 + k) (h1 : (i 1 : ℕ) = p.val / 11 % 2 * 1024 + q) :
    iblk m c 0 p (ix2 k q) = m ((c : Thread nD τ).loc main_arg0) i := by
  rw [← V_main_arg0 m c]
  blk_ext [iblk, idx p]

/-- A block of the incoming gradient, read in the array. -/
theorem blk1 (c : Dev nD) (p : Fin cfg0.N) (k : Fin 768) (q : Fin 1792) (i : S8448x7168.Idx)
    (h0 : (i 0 : ℕ) = p.val % 11 * 768 + k) (h1 : (i 1 : ℕ) = p.val / 22 * 1792 + q) :
    iblk m c 1 p (ix2 k q) = m ((c : Thread nD τ).loc main_arg1) i := by
  rw [← V_main_arg1 m c]
  blk_ext [iblk, idx p]

/-- The accumulator after the last point of a run, at an index. -/
theorem acc_at (c : Dev nD) (t : Fin cfg0.N) (hr : t.val % 11 = 10) (j) :
    (outsAt0 m c t.val t.isLt).2 j = 0 + ∑ s : Fin 11, ∑ k : Fin 768,
      (show FVec Ideal S768x1024 .bf16 from iblk m c 0 ⟨11 * (t.val / 11) + s.val, Pipeline.run_point_lt_of_flush t hr s⟩) (ix2 k (j 0))
      * (show FVec Ideal S768x1792 .bf16 from iblk m c 1 ⟨11 * (t.val / 11) + s.val, Pipeline.run_point_lt_of_flush t hr s⟩) (ix2 k (j 1)) :=
  Pipeline.eq_sum_fin_of_reset_step_apply_of_flush (fun n h => (outsAt0 m c n h).2) 11 (fun _ => 0)
    (fun p j => ∑ k : Fin 768, (show FVec Ideal S768x1024 .bf16 from iblk m c 0 p) (ix2 k (j 0))
      * (show FVec Ideal S768x1792 .bf16 from iblk m c 1 p) (ix2 k (j 1)))
    (fun t h j => by
      rw [outsAt0_A m c t h (by omega)]; frame_out; rw [step_at, zero_at])
    (fun t h j => by
      by_cases h1 : t.val % 11 = 10
      · rw [outsAt0_C m c t h h1]; frame_out; rw [step_at, (Memref.isWhole_whole _).read_unread]
      · rw [outsAt0_B m c t h h1]; frame_out; rw [step_at, (Memref.isWhole_whole _).read_unread]) t hr j

/-- What the last point of a run leaves in the output block. -/
theorem block_eq (c : Dev nD) (t : Fin cfg0.N) (hr : t.val % 11 = 10) :
    (outsAt0 m c t.val t.isLt).1 = k0_pay3 (outsAt0 m c t.val t.isLt).2 := by
  rw [outsAt0_C m c t (by omega) hr]; frame_out

/-- The result array is the reference's term of the arguments. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t hf y => ?_
  blk_simp
  have hr := (flush0_2 t).mp hf
  rw [after0_2, block_eq m c t hr, out_at, acc_at m c t hr, zero_add, ref_at]
  refine Fin.sum_mul_add_congr fun s k hl => ?_
  refine Ideal.mul_congr (blk0 m c _ _ _ _ ?_ ?_) (blk1 m c _ _ _ _ ?_ ?_)
  all_goals (blk_simp [idx t] <;> (try dsimp only) <;> omega)

end Cert.InGIdeal.Hand

/-- From equal arguments the kernel and the reference end with equal results. -/
theorem Cert.InGIdeal.Hand.algebraic : Cert.algebraic_InGIdeal_RefInGIdeal
    (hInGIdeal := Cert.InGIdeal.Gen.facts) (hRefInGIdeal := Cert.RefInGIdeal.Gen.facts) := by
  pair_intro
  · run_from Cert.InGIdeal.Value.run_blocks m g
  · run_from Cert.RefInGIdeal.Value.run m' g'
    exact (Cert.InGIdeal.Hand.final m c).symm

end
-- ==== Proof.InProj.lean ====
module

public import proofs.«01_k».proof.Proof.Gen.InProjIdeal.Value
public import proofs.«01_k».proof.Proof.Gen.RefInProjIdeal.Run
public import proofs.«01_k».proof.Defs
public import Idealize.ShloMosaic.Lib.Pipeline.ValueKit
public import Idealize.ShloMosaic.Lib.Tactic
public import Idealize.ShloMosaic.Lib.Pointwise

/-! The even mixer's input product: the kernel's array is the reference's. -/

@[expose] public section

set_option maxRecDepth 16384

noncomputable section

namespace Cert.InProjIdeal.Hand

open Idealize.ShloMosaic Idealize.ShloMosaic.TcCoe Idealize.SL.Sem
open Idealize.ShloMosaic.Pipeline (Dat)
open Cert.InProjIdeal Cert.InProjIdeal.Gen

variable (m : (ℓ : Loc nD τ sig) → Buf (Elt Ideal) ℓ)

/-- What the body stores at an index. -/
theorem pay_at (x w j) : k0_pay1 (F := Ideal) x w j
    = ∑ k : Fin 2048, x (ix2 (j 0) k) * w (ix4 0 0 k (j 1)) := by
  pointwise [k0_pay1]

/-- Every window's block index at a grid point. -/
theorem idx : ∀ t : Fin cfg0.N, win0_0.index t = ![t.val / 4, 0]
    ∧ win0_1.index t = ![t.val % 4, 0, 0, 0]
    ∧ win0_2.index t = ![t.val / 4, t.val % 4] :=
  (by decide +kernel : ∀ t : Fin grid0.N, _)

/-- The reference's term over variables. -/
abbrev REF (X : FVec Ideal S8448x2048 .bf16) (W : FVec Ideal S2048x7168 .f32) : FVec Ideal S8448x7168 .f32 :=
  Host.dotGeneral Cert.RefInProjIdeal.dot_S8448x2048_S2048x7168_S8448x7168_1_0_0_1_n_n none (extf .f32 X Cert.RefInProjIdeal.Gen.bitsLt_bf16_f32) W

/-- The reference at an index. -/
theorem ref_at (X W) (j : S8448x7168.Idx) :
    REF X W j = ∑ k : Fin 2048, X (ix2 (j 0) k) * W (ix2 k (j 1)) := by
  pointwise [REF]

/-- The weight as the region finds it: cut into four shards along its columns. -/
abbrev SH (W : FVec Ideal S2048x7168 .f32) : FVec Ideal S4x1x2048x1792 .bf16 :=
  truncf .bf16 (broadcastInDim S4x1x2048x1792 ![0, 2, 3] bcast_S4x2048x1792_S4x1x2048x1792_0_2_3 (transpose S4x2048x1792 [1, 0, 2] (shapeCast S2048x4x1792 W shapeCasts_S2048x7168_S2048x4x1792) transposes_S2048x4x1792_S4x2048x1792_1_0_2)) bitsLt_bf16_f32

/-- The shards at an index. -/
theorem sh_at (W) (s : Fin 4) (z : Fin 1) (p : Fin 2048) (q : Fin 1792) (i : S2048x7168.Idx) (h0 : (i 0 : ℕ) = p) (h1 : (i 1 : ℕ) = s * 1792 + q) :
    SH W (ix4 s z p q) = W i := by
  pointwise [SH]
  blk_ext

/-- The host operations before the region leave the shards in the kernel's second operand. -/
theorem sh_eq (c : Dev nD) : V m c main_v3 = SH (m ((c : Thread nD τ).loc main_arg1)) := by
  unfold V
  after_results <;> rfl

/-- A block of the mixer's input rows, read in the array. -/
theorem blk0 (c : Dev nD) (p : Fin cfg0.N) (q : Fin 1408) (k : Fin 2048) (i : S8448x2048.Idx)
    (h0 : (i 0 : ℕ) = p.val / 4 * 1408 + q) (h1 : (i 1 : ℕ) = k) :
    iblk m c 0 p (ix2 q k) = m ((c : Thread nD τ).loc main_arg0) i := by
  rw [← V_main_arg0 m c]
  blk_ext [iblk, idx p]

/-- A block of the weight's shards, read in the weight. -/
theorem blk1 (c : Dev nD) (p : Fin cfg0.N) (q : Fin 2048) (k : Fin 1792) (i : S2048x7168.Idx)
    (h0 : (i 0 : ℕ) = q) (h1 : (i 1 : ℕ) = p.val % 4 * 1792 + k) :
    iblk m c 1 p (ix4 0 0 q k) = m ((c : Thread nD τ).loc main_arg1) i := by
  rw [← sh_at (m ((c : Thread nD τ).loc main_arg1)) ⟨p.val % 4, by omega⟩ 0 q k i (by dsimp only; omega) (by dsimp only; omega), ← sh_eq]
  blk_ext [iblk, idx p]

/-- The result array is the reference's term of the arguments. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [pay_at, ref_at]
  refine Fin.sum_fin_congr fun k => ?_
  refine Ideal.mul_congr (blk0 m c _ _ _ _ ?_ ?_) (blk1 m c _ _ _ _ ?_ ?_)
  all_goals (blk_simp [idx t] <;> (try dsimp only) <;> omega)

end Cert.InProjIdeal.Hand

/-- From equal arguments the kernel and the reference end with equal results. -/
theorem Cert.InProjIdeal.Hand.algebraic : Cert.algebraic_InProjIdeal_RefInProjIdeal
    (hInProjIdeal := Cert.InProjIdeal.Gen.facts) (hRefInProjIdeal := Cert.RefInProjIdeal.Gen.facts) := by
  pair_intro
  · run_from Cert.InProjIdeal.Value.run_blocks m g
  · run_from Cert.RefInProjIdeal.Value.run m' g'
    exact (Cert.InProjIdeal.Hand.final m c).symm

end
-- ==== Proof.Mods.lean ====
module

public import proofs.«01_k».proof.Proof.Gen.ModsIdeal.Value
public import proofs.«01_k».proof.Proof.Gen.RefModsIdeal.Run
public import proofs.«01_k».proof.Defs
public import Idealize.ShloMosaic.Lib.Pipeline.ValueKit
public import Idealize.ShloMosaic.Lib.Tactic
public import Idealize.ShloMosaic.Lib.Pointwise

/-! The modulation of every layer: SiLU of the conditioning against the weight, and the bias. -/

@[expose] public section

set_option maxRecDepth 16384

noncomputable section

namespace Cert.RefModsIdeal.Hand

open Idealize.ShloMosaic Idealize.ShloMosaic.TcCoe Idealize.SL.Sem
open Idealize.ShloMosaic.Pipeline (Dat)
open Cert.RefModsIdeal Cert.RefModsIdeal.Gen

/-- The reference's result over variables. -/
def ref (C : FVec Ideal S16x2048 .f32) (W : FVec Ideal S4x2048x3072 .f32) (B : FVec Ideal S4x3072 .f32) : FVec Ideal S4x16x3072 .f32 :=
  addf (transpose S4x16x3072 [0, 2, 1] (Host.dotGeneral dot_S4x2048x3072_S16x2048_S4x3072x16_1_1_02_0_n_n none W (mulf C (Host.divf (broadcastInDim S16x2048 ![] bcast_S_S16x2048 (constant S_ .f32 0x3F800000#32)) (addf (broadcastInDim S16x2048 ![] bcast_S_S16x2048 (constant S_ .f32 0x3F800000#32)) (Host.exp (Host.negf C)))))) transposes_S4x3072x16_S4x16x3072_0_2_1) (broadcastInDim S4x16x3072 ![0, 1, 2] bcast_S4x1x3072_S4x16x3072_0_1_2 (broadcastInDim S4x1x3072 ![0, 2] bcast_S4x3072_S4x1x3072_0_2 B))

/-- The reference at an index. -/
theorem ref_at (C : FVec Ideal S16x2048 .f32) (W : FVec Ideal S4x2048x3072 .f32) (B : FVec Ideal S4x3072 .f32) (l : Fin 4) (a : Fin 16) (b : Fin 3072) :
    ref C W B (ix3 l a b) = (∑ k : Fin 2048, C (ix2 a k) * Ideal.logistic (C (ix2 a k)) * W (ix3 l k b)) + B (ix2 l b) := by
  pointwise [ref]
  exact Ideal.add_congr (Finset.sum_congr rfl fun k _ => mul_comm _ _) rfl

end Cert.RefModsIdeal.Hand

namespace Cert.ModsIdeal.Hand

open Idealize.ShloMosaic Idealize.ShloMosaic.TcCoe Idealize.SL.Sem
open Idealize.ShloMosaic.Pipeline (Dat)
open Cert.ModsIdeal Cert.ModsIdeal.Gen

variable (m : (ℓ : Loc nD τ sig) → Buf (Elt Ideal) ℓ)

/-- Every window's block index at a grid point. -/
theorem idx : ∀ t : Fin cfg0.N, win0_0.index t = ![0, 0]
    ∧ win0_1.index t = ![t.val / 3, 0, t.val % 3]
    ∧ win0_2.index t = ![t.val / 3, 0, t.val % 3]
    ∧ win0_3.index t = ![t.val / 3, 0, t.val % 3] :=
  (by decide +kernel : ∀ t : Fin grid0.N, _)

/-- What the body stores at an index. -/
theorem pay_at (C : FVec Ideal S16x2048 .f32) (W : FVec Ideal S1x2048x1024 .f32) (B : FVec Ideal S1x1x1024 .f32) (z : Fin 1) (a : Fin 16) (b : Fin 1024) :
    k0_pay1 (F := Ideal) C W B (ix3 z a b) = (∑ k : Fin 2048, C (ix2 a k) * Ideal.logistic (C (ix2 a k)) * W (ix3 0 k b)) + B (ix3 0 0 b) := by
  pointwise [k0_pay1]

/-- The conditioning's block is the whole array. -/
theorem blk0 (c : Dev nD) (t : Fin cfg0.N) (q : Fin 16) (k : Fin 2048) :
    iblk m c 0 t (ix2 q k) = (m ((c : Thread nD τ).loc main_arg0)) (ix2 q k) := by
  rw [← V_main_arg0 m c]
  blk_ext [iblk, idx t]

/-- A block of the weight, read in the array. -/
theorem blk1 (c : Dev nD) (t : Fin cfg0.N) (q : Fin 2048) (k : Fin 1024) (i : S4x2048x3072.Idx)
    (hz : (i 0 : ℕ) = t.val / 3) (h0 : (i 1 : ℕ) = q) (h1 : (i 2 : ℕ) = t.val % 3 * 1024 + k) :
    iblk m c 1 t (ix3 0 q k) = (m ((c : Thread nD τ).loc main_arg1)) i := by
  rw [← V_main_arg1 m c]
  blk_ext [iblk, idx t]

/-- The bias as the region finds it: each layer's as a row. -/
theorem bias_eq (c : Dev nD) : V m c main_v0 = broadcastInDim S4x1x3072 ![0, 2] bcast_S4x3072_S4x1x3072_0_2 (m ((c : Thread nD τ).loc main_arg2)) := by
  unfold V
  after_results <;> rfl

/-- The bias's rows at an index. -/
theorem bias_at (B : FVec Ideal S4x3072 .f32) (l : Fin 4) (b : Fin 3072) :
    broadcastInDim S4x1x3072 ![0, 2] bcast_S4x3072_S4x1x3072_0_2 B (ix3 l 0 b) = B (ix2 l b) := by
  pointwise

/-- A block of the bias, read in the array. -/
theorem blk2 (c : Dev nD) (t : Fin cfg0.N) (k : Fin 1024) (l : Fin 4) (b : Fin 3072)
    (h0 : (l : ℕ) = t.val / 3) (h1 : (b : ℕ) = t.val % 3 * 1024 + k) :
    iblk m c 2 t (ix3 0 0 k) = (m ((c : Thread nD τ).loc main_arg2)) (ix2 l b) := by
  rw [← bias_at (m ((c : Thread nD τ).loc main_arg2)), ← bias_eq]
  blk_ext [iblk, idx t]

/-- The kernel's array is the reference's. -/
theorem final (c : Dev nD) : (dats m 0 c).arrAt 3 cfg0.N = Cert.RefModsIdeal.Hand.ref (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  have hy0 : (y 0 : ℕ) < 1 := (y 0).isLt
  have hy2 : (y 2 : ℕ) < 1024 := (y 2).isLt
  have ht : t.val < 12 := t.isLt
  have ey : y = ix3 (y 0) (y 1) (y 2) := by idx_vars y; rfl
  have e : ((win0_3.blk t).view.emb y : S4x16x3072.Idx) = ix3 ⟨t.val / 3, by omega⟩ (y 1) ⟨t.val % 3 * 1024 + (y 2 : ℕ), by omega⟩ := by
    blk_ext [idx t]
  refine ((congrArg _ ey).trans ?_).trans (congrArg _ e).symm
  refine (pay_at (iblk m c 0 t) (iblk m c 1 t) (iblk m c 2 t) (y 0) (y 1) (y 2)).trans ?_
  refine Eq.trans ?_ (Cert.RefModsIdeal.Hand.ref_at _ _ _ _ _ _).symm
  refine Ideal.add_congr (Finset.sum_congr rfl fun k _ => ?_) (blk2 m c t (y 2) _ _ rfl rfl)
  exact congrArg₂ (· * ·) (congrArg (fun x : EReal => x * Ideal.logistic x) (blk0 m c t (y 1) k)) (blk1 m c t k (y 2) _ rfl rfl rfl)

end Cert.ModsIdeal.Hand

/-- From equal arguments the kernel and the reference end with equal results. -/
theorem Cert.ModsIdeal.Hand.algebraic : Cert.algebraic_ModsIdeal_RefModsIdeal
    (hModsIdeal := Cert.ModsIdeal.Gen.facts) (hRefModsIdeal := Cert.RefModsIdeal.Gen.facts) := by
  pair_intro
  · run_from Cert.ModsIdeal.Value.run_blocks m g
  · run_from Cert.RefModsIdeal.Value.run m' g'
    exact (Cert.ModsIdeal.Hand.final m c).symm

end
-- ==== Proof.NormFfn.lean ====
module

public import proofs.«01_k».proof.Proof.Gen.NormFfnIdeal.Value
public import proofs.«01_k».proof.Proof.Gen.RefNormFfnIdeal.Run
public import proofs.«01_k».proof.Defs
public import Idealize.ShloMosaic.Lib.Pipeline.ValueKit
public import Idealize.ShloMosaic.Lib.Tactic
public import Idealize.ShloMosaic.Lib.Pointwise

/-! The MLP's norm and modulation: the kernel's array is the reference's. -/

@[expose] public section

set_option maxRecDepth 16384

noncomputable section

namespace Cert.RefNormFfnIdeal.Hand

open Idealize.ShloMosaic Idealize.ShloMosaic.TcCoe Idealize.SL.Sem
open Idealize.ShloMosaic.Pipeline (Dat)
open Cert.RefNormFfnIdeal Cert.RefNormFfnIdeal.Gen

/-- The reference's result over variables. -/
def ref (X : FVec Ideal S8448x2048 .f32) (G : FVec Ideal S2048 .f32) (M : FVec Ideal S2x6x2048 .f32) : FVec Ideal S8448x2048 .bf16 :=
  truncf .bf16 (concatenate S8448x2048 0 [⟨S256x2048, (addf (mulf (extractStridedSlice S256x2048 ![0, 0] (mulf (mulf X (broadcastInDim S8448x2048 ![0, 1] bcast_S8448x1_S8448x2048_0_1 (Host.rsqrt (addf (Host.divf (broadcastInDim S8448x1 ![0] bcast_S8448_S8448x1_0 (Host.reduceAdd (mulf X X) (constant S_ .f32 0x00000000#32) reducesTo_S8448x2048_S8448_d1 h_S_)) (broadcastInDim S8448x1 ![] bcast_S_S8448x1 (constant S_ .f32 0x45000000#32))) (broadcastInDim S8448x1 ![] bcast_S_S8448x1 (constant S_ .f32 0x358637BD#32)))))) (broadcastInDim S8448x2048 ![0, 1] bcast_S1x2048_S8448x2048_0_1 (broadcastInDim S1x2048 ![1] bcast_S2048_S1x2048_1 G))) slices_S8448x2048_S256x2048_0_0) (broadcastInDim S256x2048 ![0, 1] bcast_S1x2048_S256x2048_0_1 (broadcastInDim S1x2048 ![1] bcast_S2048_S1x2048_1 (addf (broadcastInDim S2048 ![] bcast_S_S2048 (constant S_ .f32 0x3F800000#32)) (shapeCast _ (extractStridedSlice S1x1x2048 ![0, 4, 0] M slices_S2x6x2048_S1x1x2048_0_4_0) shapeCasts_S1x1x2048_S2048))))) (broadcastInDim S256x2048 ![0, 1] bcast_S1x2048_S256x2048_0_1 (broadcastInDim S1x2048 ![1] bcast_S2048_S1x2048_1 (shapeCast _ (extractStridedSlice S1x1x2048 ![0, 3, 0] M slices_S2x6x2048_S1x1x2048_0_3_0) shapeCasts_S1x1x2048_S2048))))⟩, ⟨S8192x2048, (addf (mulf (extractStridedSlice S8192x2048 ![256, 0] (mulf (mulf X (broadcastInDim S8448x2048 ![0, 1] bcast_S8448x1_S8448x2048_0_1 (Host.rsqrt (addf (Host.divf (broadcastInDim S8448x1 ![0] bcast_S8448_S8448x1_0 (Host.reduceAdd (mulf X X) (constant S_ .f32 0x00000000#32) reducesTo_S8448x2048_S8448_d1 h_S_)) (broadcastInDim S8448x1 ![] bcast_S_S8448x1 (constant S_ .f32 0x45000000#32))) (broadcastInDim S8448x1 ![] bcast_S_S8448x1 (constant S_ .f32 0x358637BD#32)))))) (broadcastInDim S8448x2048 ![0, 1] bcast_S1x2048_S8448x2048_0_1 (broadcastInDim S1x2048 ![1] bcast_S2048_S1x2048_1 G))) slices_S8448x2048_S8192x2048_256_0) (broadcastInDim S8192x2048 ![0, 1] bcast_S1x2048_S8192x2048_0_1 (broadcastInDim S1x2048 ![1] bcast_S2048_S1x2048_1 (addf (broadcastInDim S2048 ![] bcast_S_S2048 (constant S_ .f32 0x3F800000#32)) (shapeCast _ (extractStridedSlice S1x1x2048 ![1, 4, 0] M slices_S2x6x2048_S1x1x2048_1_4_0) shapeCasts_S1x1x2048_S2048))))) (broadcastInDim S8192x2048 ![0, 1] bcast_S1x2048_S8192x2048_0_1 (broadcastInDim S1x2048 ![1] bcast_S2048_S1x2048_1 (shapeCast _ (extractStridedSlice S1x1x2048 ![1, 3, 0] M slices_S2x6x2048_S1x1x2048_1_3_0) shapeCasts_S1x1x2048_S2048))))⟩] concatenates_S256x2048_S8192x2048_S8448x2048_d0) bitsLt_bf16_f32

/-- A row's element over the row's root mean square, times its gain. -/
def scaled (X : FVec Ideal S8448x2048 .f32) (G : FVec Ideal S2048 .f32) (a : Fin 8448) (b : Fin 2048) : EReal :=
  X (ix2 a b) * Ideal.rsqrt (Ideal.div (∑ k : Fin 2048, X (ix2 a k) * X (ix2 a k)) (Ideal.ofBits .f32 0x45000000#32) + Ideal.ofBits .f32 0x358637BD#32) * G (ix1 b)

/-- The reference at an index: a context row takes the first modulation, a latent row the second. -/
theorem ref_at (X : FVec Ideal S8448x2048 .f32) (G : FVec Ideal S2048 .f32) (M : FVec Ideal S2x6x2048 .f32) (a : Fin 8448) (b : Fin 2048) (r : Fin 2) (hr : (r : ℕ) = min ((a : ℕ) / 256) 1) :
    ref X G M (ix2 a b) = scaled X G a b * (1 + M (ix3 r 4 b)) + M (ix3 r 3 b) := by
  pointwise [ref, scaled]
  by_cases h : (a : ℕ) < 256
  · have e : r = 0 := Fin.ext (by show (r : ℕ) = 0; omega)
    subst e
    exact (dif_pos h).trans rfl
  · have e : r = 1 := Fin.ext (by show (r : ℕ) = 1; omega)
    subst e
    have e : ∀ hh, (⟨256 + ((a : ℕ) - 256), hh⟩ : Fin 8448) = a := fun _ => Fin.ext (by dsimp only; omega)
    refine (dif_neg h).trans ?_
    simp only [e]

end Cert.RefNormFfnIdeal.Hand

namespace Cert.NormFfnIdeal.Hand

open Idealize.ShloMosaic Idealize.ShloMosaic.TcCoe Idealize.SL.Sem
open Idealize.ShloMosaic.Pipeline (Dat)
open Cert.NormFfnIdeal Cert.NormFfnIdeal.Gen

variable (m : (ℓ : Loc nD τ sig) → Buf (Elt Ideal) ℓ)

/-- Every window's block index at a grid point. -/
theorem idx : ∀ t : Fin cfg0.N, win0_0.index t = ![t.val, 0]
    ∧ win0_1.index t = ![0, 0]
    ∧ win0_2.index t = ![min t.val 1, 0, 0]
    ∧ win0_3.index t = ![t.val, 0] :=
  (by decide +kernel : ∀ t : Fin grid0.N, _)

/-- What the body stores at an index. -/
theorem pay_at (X : FVec Ideal S256x2048 .f32) (G : FVec Ideal S1x2048 .f32) (S B : FVec Ideal S1x1x2048 .f32) (a : Fin 256) (b : Fin 2048) :
    k0_pay1 (F := Ideal) X G S B (ix2 a b)
      = X (ix2 a b) * Ideal.rsqrt (Ideal.div (∑ k : Fin 2048, X (ix2 a k) * X (ix2 a k)) (Ideal.ofBits .f32 0x45000000#32) + Ideal.ofBits .f32 0x358637BD#32) * G (ix2 0 b) * (1 + S (ix3 0 0 b)) + B (ix3 0 0 b) := by
  pointwise [k0_pay1]

/-- A block of rows, read in the array. -/
theorem blk0 (c : Dev nD) (t : Fin cfg0.N) (q : Fin 256) (k : Fin 2048) (i : S8448x2048.Idx)
    (h0 : (i 0 : ℕ) = t.val * 256 + q) (h1 : (i 1 : ℕ) = k) :
    iblk m c 0 t (ix2 q k) = (m ((c : Thread nD τ).loc main_arg0)) i := by
  rw [← V_main_arg0 m c]
  blk_ext [iblk, idx t]

/-- The gain as the region finds it: one row. -/
theorem gain_eq (c : Dev nD) : V m c main_v0 = broadcastInDim S1x2048 ![1] bcast_S2048_S1x2048_1 (m ((c : Thread nD τ).loc main_arg1)) := by
  unfold V
  after_results <;> rfl

/-- The gain's row at an index. -/
theorem gain_at (G : FVec Ideal S2048 .f32) (b : Fin 2048) :
    broadcastInDim S1x2048 ![1] bcast_S2048_S1x2048_1 G (ix2 0 b) = G (ix1 b) := by
  pointwise

/-- The gain's block, read in the array. -/
theorem blk1 (c : Dev nD) (t : Fin cfg0.N) (k : Fin 2048) : iblk m c 1 t (ix2 0 k) = (m ((c : Thread nD τ).loc main_arg1)) (ix1 k) := by
  rw [← gain_at (m ((c : Thread nD τ).loc main_arg1)), ← gain_eq]
  blk_ext [iblk, idx t]

/-- A block of the modulation, read in the array: context rows' or latent rows'. -/
theorem blk2 (c : Dev nD) (t : Fin cfg0.N) (r : Fin 6) (k : Fin 2048) (i : S2x6x2048.Idx)
    (h0 : (i 0 : ℕ) = min t.val 1) (h1 : (i 1 : ℕ) = r) (h2 : (i 2 : ℕ) = k) :
    iblk m c 2 t (ix3 0 r k) = (m ((c : Thread nD τ).loc main_arg2)) i := by
  rw [← V_main_arg2 m c]
  blk_ext [iblk, idx t]

/-- The scale's row of the modulation's block. -/
theorem ld_scale (x : FVec Ideal S1x6x2048 .f32) (b : Fin 2048) : View.ld (Val := Elt Ideal) (e' := .f32) x r0_2 (ix3 0 0 b) = x (ix3 0 4 b) := by
  blk_ext [View.ld] <;> first | rfl | simp [Rect.unit]

/-- The shift's row of the modulation's block. -/
theorem ld_shift (x : FVec Ideal S1x6x2048 .f32) (b : Fin 2048) : View.ld (Val := Elt Ideal) (e' := .f32) x r0_3 (ix3 0 0 b) = x (ix3 0 3 b) := by
  blk_ext [View.ld] <;> first | rfl | simp [Rect.unit]

/-- The kernel's array is the reference's. -/
theorem final (c : Dev nD) : (dats m 0 c).arrAt 3 cfg0.N = Cert.RefNormFfnIdeal.Hand.ref (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  have hy0 : (y 0 : ℕ) < 256 := (y 0).isLt
  have ht : t.val < 33 := t.isLt
  have ey : y = ix2 (y 0) (y 1) := by idx_vars y; rfl
  have e : ((win0_3.blk t).view.emb y : S8448x2048.Idx) = ix2 ⟨t.val * 256 + (y 0 : ℕ), by omega⟩ (y 1) := by
    blk_ext [idx t]
  refine ((congrArg _ ey).trans ?_).trans (congrArg _ e).symm
  refine (pay_at (iblk m c 0 t) (iblk m c 1 t) (View.ld (iblk m c 2 t) r0_2) (View.ld (iblk m c 2 t) r0_3) (y 0) (y 1)).trans ?_
  refine Eq.trans ?_ (Cert.RefNormFfnIdeal.Hand.ref_at _ _ _ _ _ ⟨min t.val 1, by omega⟩ (by dsimp only; omega)).symm
  have e0 : ∀ k : Fin 2048, iblk m c 0 t (ix2 (y 0) k) = (m ((c : Thread nD τ).loc main_arg0)) (ix2 ⟨t.val * 256 + (y 0 : ℕ), by omega⟩ k) := fun k => blk0 m c t (y 0) k _ rfl rfl
  have e1 := blk1 m c t (y 1)
  have e2 := (ld_scale (iblk m c 2 t) (y 1)).trans (blk2 m c t 4 (y 1) (ix3 ⟨min t.val 1, by omega⟩ 4 (y 1)) rfl rfl rfl)
  have e3 := (ld_shift (iblk m c 2 t) (y 1)).trans (blk2 m c t 3 (y 1) (ix3 ⟨min t.val 1, by omega⟩ 3 (y 1)) rfl rfl rfl)
  refine Ideal.add_congr (Ideal.mul_congr (Ideal.mul_congr (Ideal.mul_congr (e0 (y 1)) (congrArg (fun z : EReal => Ideal.rsqrt (Ideal.div z (Ideal.ofBits .f32 0x45000000#32) + Ideal.ofBits .f32 0x358637BD#32)) ?_)) e1) (congrArg (fun z : EReal => 1 + z) e2)) e3
  exact Finset.sum_congr rfl fun k _ => Ideal.mul_congr (e0 k) (e0 k)

end Cert.NormFfnIdeal.Hand

open Idealize.ShloMosaic Idealize.ShloMosaic.TcCoe in
/-- From equal arguments the kernel and the reference end with equal results. -/
theorem Cert.NormFfnIdeal.Hand.algebraic : Cert.algebraic_NormFfnIdeal_RefNormFfnIdeal
    (hNormFfnIdeal := Cert.NormFfnIdeal.Gen.facts) (hRefNormFfnIdeal := Cert.RefNormFfnIdeal.Gen.facts) := by
  pair_intro
  · run_from Cert.NormFfnIdeal.Value.run_blocks m g
  · run_from Cert.RefNormFfnIdeal.Value.run m' g'
    have e : Cert.RefNormFfnIdeal.Hand.ref (m ((c : Thread Cert.NormFfnIdeal.nD Cert.NormFfnIdeal.τ).loc Cert.NormFfnIdeal.main_arg0)) (m ((c : Thread Cert.NormFfnIdeal.nD Cert.NormFfnIdeal.τ).loc Cert.NormFfnIdeal.main_arg1)) (m' ((c : Thread Cert.RefNormFfnIdeal.nD Cert.RefNormFfnIdeal.τ).loc Cert.RefNormFfnIdeal.main_arg2)) = Cert.RefNormFfnIdeal.Hand.ref (m ((c : Thread Cert.NormFfnIdeal.nD Cert.NormFfnIdeal.τ).loc Cert.NormFfnIdeal.main_arg0)) (m ((c : Thread Cert.NormFfnIdeal.nD Cert.NormFfnIdeal.τ).loc Cert.NormFfnIdeal.main_arg1)) (m ((c : Thread Cert.NormFfnIdeal.nD Cert.NormFfnIdeal.τ).loc Cert.NormFfnIdeal.main_arg2)) :=
      congrArg (Cert.RefNormFfnIdeal.Hand.ref (m ((c : Thread Cert.NormFfnIdeal.nD Cert.NormFfnIdeal.τ).loc Cert.NormFfnIdeal.main_arg0)) (m ((c : Thread Cert.NormFfnIdeal.nD Cert.NormFfnIdeal.τ).loc Cert.NormFfnIdeal.main_arg1))) (hagree c).2.2
    exact e.trans (Cert.NormFfnIdeal.Hand.final m c).symm

end
-- ==== Proof.NormMix.lean ====
module

public import proofs.«01_k».proof.Proof.Gen.NormMixIdeal.Value
public import proofs.«01_k».proof.Proof.Gen.RefNormMixIdeal.Run
public import proofs.«01_k».proof.Defs
public import Idealize.ShloMosaic.Lib.Pipeline.ValueKit
public import Idealize.ShloMosaic.Lib.Tactic
public import Idealize.ShloMosaic.Lib.Pointwise

/-! The mixer's norm and modulation: the kernel's array is the reference's. -/

@[expose] public section

set_option maxRecDepth 16384

noncomputable section

namespace Cert.RefNormMixIdeal.Hand

open Idealize.ShloMosaic Idealize.ShloMosaic.TcCoe Idealize.SL.Sem
open Idealize.ShloMosaic.Pipeline (Dat)
open Cert.RefNormMixIdeal Cert.RefNormMixIdeal.Gen

/-- The reference's result over variables. -/
def ref (X : FVec Ideal S8448x2048 .f32) (G : FVec Ideal S2048 .f32) (M : FVec Ideal S2x6x2048 .f32) : FVec Ideal S8448x2048 .bf16 :=
  truncf .bf16 (concatenate S8448x2048 0 [⟨S256x2048, (addf (mulf (extractStridedSlice S256x2048 ![0, 0] (mulf (mulf X (broadcastInDim S8448x2048 ![0, 1] bcast_S8448x1_S8448x2048_0_1 (Host.rsqrt (addf (Host.divf (broadcastInDim S8448x1 ![0] bcast_S8448_S8448x1_0 (Host.reduceAdd (mulf X X) (constant S_ .f32 0x00000000#32) reducesTo_S8448x2048_S8448_d1 h_S_)) (broadcastInDim S8448x1 ![] bcast_S_S8448x1 (constant S_ .f32 0x45000000#32))) (broadcastInDim S8448x1 ![] bcast_S_S8448x1 (constant S_ .f32 0x358637BD#32)))))) (broadcastInDim S8448x2048 ![0, 1] bcast_S1x2048_S8448x2048_0_1 (broadcastInDim S1x2048 ![1] bcast_S2048_S1x2048_1 G))) slices_S8448x2048_S256x2048_0_0) (broadcastInDim S256x2048 ![0, 1] bcast_S1x2048_S256x2048_0_1 (broadcastInDim S1x2048 ![1] bcast_S2048_S1x2048_1 (addf (broadcastInDim S2048 ![] bcast_S_S2048 (constant S_ .f32 0x3F800000#32)) (shapeCast _ (extractStridedSlice S1x1x2048 ![0, 1, 0] M slices_S2x6x2048_S1x1x2048_0_1_0) shapeCasts_S1x1x2048_S2048))))) (broadcastInDim S256x2048 ![0, 1] bcast_S1x2048_S256x2048_0_1 (broadcastInDim S1x2048 ![1] bcast_S2048_S1x2048_1 (shapeCast _ (extractStridedSlice S1x1x2048 ![0, 0, 0] M slices_S2x6x2048_S1x1x2048_0_0_0) shapeCasts_S1x1x2048_S2048))))⟩, ⟨S8192x2048, (addf (mulf (extractStridedSlice S8192x2048 ![256, 0] (mulf (mulf X (broadcastInDim S8448x2048 ![0, 1] bcast_S8448x1_S8448x2048_0_1 (Host.rsqrt (addf (Host.divf (broadcastInDim S8448x1 ![0] bcast_S8448_S8448x1_0 (Host.reduceAdd (mulf X X) (constant S_ .f32 0x00000000#32) reducesTo_S8448x2048_S8448_d1 h_S_)) (broadcastInDim S8448x1 ![] bcast_S_S8448x1 (constant S_ .f32 0x45000000#32))) (broadcastInDim S8448x1 ![] bcast_S_S8448x1 (constant S_ .f32 0x358637BD#32)))))) (broadcastInDim S8448x2048 ![0, 1] bcast_S1x2048_S8448x2048_0_1 (broadcastInDim S1x2048 ![1] bcast_S2048_S1x2048_1 G))) slices_S8448x2048_S8192x2048_256_0) (broadcastInDim S8192x2048 ![0, 1] bcast_S1x2048_S8192x2048_0_1 (broadcastInDim S1x2048 ![1] bcast_S2048_S1x2048_1 (addf (broadcastInDim S2048 ![] bcast_S_S2048 (constant S_ .f32 0x3F800000#32)) (shapeCast _ (extractStridedSlice S1x1x2048 ![1, 1, 0] M slices_S2x6x2048_S1x1x2048_1_1_0) shapeCasts_S1x1x2048_S2048))))) (broadcastInDim S8192x2048 ![0, 1] bcast_S1x2048_S8192x2048_0_1 (broadcastInDim S1x2048 ![1] bcast_S2048_S1x2048_1 (shapeCast _ (extractStridedSlice S1x1x2048 ![1, 0, 0] M slices_S2x6x2048_S1x1x2048_1_0_0) shapeCasts_S1x1x2048_S2048))))⟩] concatenates_S256x2048_S8192x2048_S8448x2048_d0) bitsLt_bf16_f32

/-- A row's element over the row's root mean square, times its gain. -/
def scaled (X : FVec Ideal S8448x2048 .f32) (G : FVec Ideal S2048 .f32) (a : Fin 8448) (b : Fin 2048) : EReal :=
  X (ix2 a b) * Ideal.rsqrt (Ideal.div (∑ k : Fin 2048, X (ix2 a k) * X (ix2 a k)) (Ideal.ofBits .f32 0x45000000#32) + Ideal.ofBits .f32 0x358637BD#32) * G (ix1 b)

/-- The reference at an index: a context row takes the first modulation, a latent row the second. -/
theorem ref_at (X : FVec Ideal S8448x2048 .f32) (G : FVec Ideal S2048 .f32) (M : FVec Ideal S2x6x2048 .f32) (a : Fin 8448) (b : Fin 2048) (r : Fin 2) (hr : (r : ℕ) = min ((a : ℕ) / 256) 1) :
    ref X G M (ix2 a b) = scaled X G a b * (1 + M (ix3 r 1 b)) + M (ix3 r 0 b) := by
  pointwise [ref, scaled]
  by_cases h : (a : ℕ) < 256
  · have e : r = 0 := Fin.ext (by show (r : ℕ) = 0; omega)
    subst e
    exact (dif_pos h).trans rfl
  · have e : r = 1 := Fin.ext (by show (r : ℕ) = 1; omega)
    subst e
    have e : ∀ hh, (⟨256 + ((a : ℕ) - 256), hh⟩ : Fin 8448) = a := fun _ => Fin.ext (by dsimp only; omega)
    refine (dif_neg h).trans ?_
    simp only [e]

end Cert.RefNormMixIdeal.Hand

namespace Cert.NormMixIdeal.Hand

open Idealize.ShloMosaic Idealize.ShloMosaic.TcCoe Idealize.SL.Sem
open Idealize.ShloMosaic.Pipeline (Dat)
open Cert.NormMixIdeal Cert.NormMixIdeal.Gen

variable (m : (ℓ : Loc nD τ sig) → Buf (Elt Ideal) ℓ)

/-- Every window's block index at a grid point. -/
theorem idx : ∀ t : Fin cfg0.N, win0_0.index t = ![t.val, 0]
    ∧ win0_1.index t = ![0, 0]
    ∧ win0_2.index t = ![min t.val 1, 0, 0]
    ∧ win0_3.index t = ![t.val, 0] :=
  (by decide +kernel : ∀ t : Fin grid0.N, _)

/-- What the body stores at an index. -/
theorem pay_at (X : FVec Ideal S256x2048 .f32) (G : FVec Ideal S1x2048 .f32) (S B : FVec Ideal S1x1x2048 .f32) (a : Fin 256) (b : Fin 2048) :
    k0_pay1 (F := Ideal) X G S B (ix2 a b)
      = X (ix2 a b) * Ideal.rsqrt (Ideal.div (∑ k : Fin 2048, X (ix2 a k) * X (ix2 a k)) (Ideal.ofBits .f32 0x45000000#32) + Ideal.ofBits .f32 0x358637BD#32) * G (ix2 0 b) * (1 + S (ix3 0 0 b)) + B (ix3 0 0 b) := by
  pointwise [k0_pay1]

/-- A block of rows, read in the array. -/
theorem blk0 (c : Dev nD) (t : Fin cfg0.N) (q : Fin 256) (k : Fin 2048) (i : S8448x2048.Idx)
    (h0 : (i 0 : ℕ) = t.val * 256 + q) (h1 : (i 1 : ℕ) = k) :
    iblk m c 0 t (ix2 q k) = (m ((c : Thread nD τ).loc main_arg0)) i := by
  rw [← V_main_arg0 m c]
  blk_ext [iblk, idx t]

/-- The gain as the region finds it: one row. -/
theorem gain_eq (c : Dev nD) : V m c main_v0 = broadcastInDim S1x2048 ![1] bcast_S2048_S1x2048_1 (m ((c : Thread nD τ).loc main_arg1)) := by
  unfold V
  after_results <;> rfl

/-- The gain's row at an index. -/
theorem gain_at (G : FVec Ideal S2048 .f32) (b : Fin 2048) :
    broadcastInDim S1x2048 ![1] bcast_S2048_S1x2048_1 G (ix2 0 b) = G (ix1 b) := by
  pointwise

/-- The gain's block, read in the array. -/
theorem blk1 (c : Dev nD) (t : Fin cfg0.N) (k : Fin 2048) : iblk m c 1 t (ix2 0 k) = (m ((c : Thread nD τ).loc main_arg1)) (ix1 k) := by
  rw [← gain_at (m ((c : Thread nD τ).loc main_arg1)), ← gain_eq]
  blk_ext [iblk, idx t]

/-- A block of the modulation, read in the array: context rows' or latent rows'. -/
theorem blk2 (c : Dev nD) (t : Fin cfg0.N) (r : Fin 6) (k : Fin 2048) (i : S2x6x2048.Idx)
    (h0 : (i 0 : ℕ) = min t.val 1) (h1 : (i 1 : ℕ) = r) (h2 : (i 2 : ℕ) = k) :
    iblk m c 2 t (ix3 0 r k) = (m ((c : Thread nD τ).loc main_arg2)) i := by
  rw [← V_main_arg2 m c]
  blk_ext [iblk, idx t]

/-- The scale's row of the modulation's block. -/
theorem ld_scale (x : FVec Ideal S1x6x2048 .f32) (b : Fin 2048) : View.ld (Val := Elt Ideal) (e' := .f32) x r0_2 (ix3 0 0 b) = x (ix3 0 1 b) := by
  blk_ext [View.ld] <;> first | rfl | simp [Rect.unit]

/-- The shift's row of the modulation's block. -/
theorem ld_shift (x : FVec Ideal S1x6x2048 .f32) (b : Fin 2048) : View.ld (Val := Elt Ideal) (e' := .f32) x r0_3 (ix3 0 0 b) = x (ix3 0 0 b) := by
  blk_ext [View.ld] <;> first | rfl | simp [Rect.unit]

/-- The kernel's array is the reference's. -/
theorem final (c : Dev nD) : (dats m 0 c).arrAt 3 cfg0.N = Cert.RefNormMixIdeal.Hand.ref (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  have hy0 : (y 0 : ℕ) < 256 := (y 0).isLt
  have ht : t.val < 33 := t.isLt
  have ey : y = ix2 (y 0) (y 1) := by idx_vars y; rfl
  have e : ((win0_3.blk t).view.emb y : S8448x2048.Idx) = ix2 ⟨t.val * 256 + (y 0 : ℕ), by omega⟩ (y 1) := by
    blk_ext [idx t]
  refine ((congrArg _ ey).trans ?_).trans (congrArg _ e).symm
  refine (pay_at (iblk m c 0 t) (iblk m c 1 t) (View.ld (iblk m c 2 t) r0_2) (View.ld (iblk m c 2 t) r0_3) (y 0) (y 1)).trans ?_
  refine Eq.trans ?_ (Cert.RefNormMixIdeal.Hand.ref_at _ _ _ _ _ ⟨min t.val 1, by omega⟩ (by dsimp only; omega)).symm
  have e0 : ∀ k : Fin 2048, iblk m c 0 t (ix2 (y 0) k) = (m ((c : Thread nD τ).loc main_arg0)) (ix2 ⟨t.val * 256 + (y 0 : ℕ), by omega⟩ k) := fun k => blk0 m c t (y 0) k _ rfl rfl
  have e1 := blk1 m c t (y 1)
  have e2 := (ld_scale (iblk m c 2 t) (y 1)).trans (blk2 m c t 1 (y 1) (ix3 ⟨min t.val 1, by omega⟩ 1 (y 1)) rfl rfl rfl)
  have e3 := (ld_shift (iblk m c 2 t) (y 1)).trans (blk2 m c t 0 (y 1) (ix3 ⟨min t.val 1, by omega⟩ 0 (y 1)) rfl rfl rfl)
  refine Ideal.add_congr (Ideal.mul_congr (Ideal.mul_congr (Ideal.mul_congr (e0 (y 1)) (congrArg (fun z : EReal => Ideal.rsqrt (Ideal.div z (Ideal.ofBits .f32 0x45000000#32) + Ideal.ofBits .f32 0x358637BD#32)) ?_)) e1) (congrArg (fun z : EReal => 1 + z) e2)) e3
  exact Finset.sum_congr rfl fun k _ => Ideal.mul_congr (e0 k) (e0 k)

end Cert.NormMixIdeal.Hand

open Idealize.ShloMosaic Idealize.ShloMosaic.TcCoe in
/-- From equal arguments the kernel and the reference end with equal results. -/
theorem Cert.NormMixIdeal.Hand.algebraic : Cert.algebraic_NormMixIdeal_RefNormMixIdeal
    (hNormMixIdeal := Cert.NormMixIdeal.Gen.facts) (hRefNormMixIdeal := Cert.RefNormMixIdeal.Gen.facts) := by
  pair_intro
  · run_from Cert.NormMixIdeal.Value.run_blocks m g
  · run_from Cert.RefNormMixIdeal.Value.run m' g'
    have e : Cert.RefNormMixIdeal.Hand.ref (m ((c : Thread Cert.NormMixIdeal.nD Cert.NormMixIdeal.τ).loc Cert.NormMixIdeal.main_arg0)) (m ((c : Thread Cert.NormMixIdeal.nD Cert.NormMixIdeal.τ).loc Cert.NormMixIdeal.main_arg1)) (m' ((c : Thread Cert.RefNormMixIdeal.nD Cert.RefNormMixIdeal.τ).loc Cert.RefNormMixIdeal.main_arg2)) = Cert.RefNormMixIdeal.Hand.ref (m ((c : Thread Cert.NormMixIdeal.nD Cert.NormMixIdeal.τ).loc Cert.NormMixIdeal.main_arg0)) (m ((c : Thread Cert.NormMixIdeal.nD Cert.NormMixIdeal.τ).loc Cert.NormMixIdeal.main_arg1)) (m ((c : Thread Cert.NormMixIdeal.nD Cert.NormMixIdeal.τ).loc Cert.NormMixIdeal.main_arg2)) :=
      congrArg (Cert.RefNormMixIdeal.Hand.ref (m ((c : Thread Cert.NormMixIdeal.nD Cert.NormMixIdeal.τ).loc Cert.NormMixIdeal.main_arg0)) (m ((c : Thread Cert.NormMixIdeal.nD Cert.NormMixIdeal.τ).loc Cert.NormMixIdeal.main_arg1))) (hagree c).2.2
    exact e.trans (Cert.NormMixIdeal.Hand.final m c).symm

end
-- ==== Proof.OutProj.lean ====
module

public import proofs.«01_k».proof.Proof.Gen.OutProjIdeal.Value
public import proofs.«01_k».proof.Proof.Gen.RefOutProjIdeal.Run
public import proofs.«01_k».proof.Defs
public import Idealize.ShloMosaic.Lib.Pipeline.ValueKit
public import Idealize.ShloMosaic.Lib.Tactic
public import Idealize.ShloMosaic.Lib.Pointwise

/-! The even mixer's output product with its gated residual: the kernel's two arrays are the reference's. -/

@[expose] public section

set_option maxRecDepth 16384

noncomputable section

namespace Cert.OutProjIdeal.Hand

open Idealize.ShloMosaic Idealize.ShloMosaic.TcCoe Idealize.SL.Sem
open Idealize.ShloMosaic.Pipeline (Dat)
open Cert.OutProjIdeal Cert.OutProjIdeal.Gen

variable (m : (ℓ : Loc nD τ sig) → Buf (Elt Ideal) ℓ)

/-- The zero fill at an index. -/
theorem zero_at (j) : k0_pay1 (F := Ideal) j = 0 := by pointwise [k0_pay1]

/-- One step of the accumulation at an index: what was there, plus a block's worth of the contraction. -/
theorem step_at (acc x y j) : k0_pay2 (F := Ideal) acc x y j
    = acc j + ∑ k : Fin 512, x (ix2 (j 0) k) * y (ix4 0 0 k (j 1)) := by pointwise [k0_pay2]

/-- Whether a row lies below row 256, as the body asks it of 32-bit words. -/
theorem slt_at (n : ℕ) (h : n < 2 ^ 31) : (BitVec.ofNat 32 n).slt 256#32 = decide (n < 256) := by
  have h1 : (BitVec.ofNat 32 n).toInt = (n : ℤ) := by
    rw [BitVec.toInt_eq_toNat_cond, BitVec.toNat_ofNat, Nat.mod_eq_of_lt (by omega), if_pos (by omega)]
  have h2 : (256#32 : BitVec 32).toInt = 256 := by decide
  rw [BitVec.slt, h1, h2]
  exact decide_eq_decide.mpr (by omega)

/-- The gated sum the body stores at an index. -/
theorem gate_at (i : grid0.Coords) (acc res g0 g1 j) : k0_pay3 (F := Ideal) i acc res g0 g1 j
    = res j + (if (i 0 : ℕ) * 1056 + j 0 < 256 then g0 (ix3 0 0 (j 1)) else g1 (ix3 0 0 (j 1))) * acc j := by
  idx_vars j
  pointwise [k0_pay3]
  have h0 : (i 0 : ℕ) < 8 := (i 0).isLt
  have e : IntOp.addi (Scalar.muli (BitVec.ofNat 32 (i 0 : ℕ)) 1056#32) (BitVec.ofNat 32 (j0 : ℕ))
      = BitVec.ofNat 32 ((i 0 : ℕ) * 1056 + j0) := by
    rw [BitVec.ofNat_add, BitVec.ofNat_mul]; rfl
  have e' : IntOp.cmpi .slt (BitVec.ofNat 32 ((i 0 : ℕ) * 1056 + j0)) 256#32
      = BitVec.ofBool (decide ((i 0 : ℕ) * 1056 + j0 < 256)) := by
    rw [← slt_at _ (by omega)]; rfl
  rw [e, e']
  by_cases h : (i 0 : ℕ) * 1056 + j0 < 256 <;> simp [h, Scalar.select]

/-- The plain product the body stores at an index. -/
theorem plain_at (acc j) : k0_pay4 (F := Ideal) acc j = acc j := by pointwise [k0_pay4]

/-- Every window's block index at a grid point. -/
theorem idx : ∀ t : Fin cfg0.N, win0_0.index t = ![t.val / 8, t.val % 4]
    ∧ win0_1.index t = ![t.val % 4, 0, 0, t.val / 4 % 2]
    ∧ win0_2.index t = ![t.val / 8, t.val / 4 % 2]
    ∧ win0_3.index t = ![0, 0, t.val / 4 % 2]
    ∧ win0_4.index t = ![t.val / 8, t.val / 4 % 2]
    ∧ win0_5.index t = ![t.val / 8, t.val / 4 % 2] :=
  (by decide +kernel : ∀ t : Fin grid0.N, _)

/-- The first grid coordinate of a point. -/
theorem co : ∀ t : Fin cfg0.N, (grid0.coords t 0 : ℕ) = t.val / 8 :=
  (by decide +kernel : ∀ t : Fin grid0.N, _)

/-- The product alone, over variables. -/
abbrev Z (X : FVec Ideal S8448x2048 .bf16) (W : FVec Ideal S2048x2048 .f32) : FVec Ideal S8448x2048 .f32 :=
  Host.dotGeneral Cert.RefOutProjIdeal.dot_S8448x2048_S2048x2048_S8448x2048_1_0_0_1_n_n none (extf .f32 X Cert.RefOutProjIdeal.Gen.bitsLt_bf16_f32) W

/-- The reference's first result over variables: context rows and latent rows under their own gates. -/
abbrev REF (X : FVec Ideal S8448x2048 .bf16) (W : FVec Ideal S2048x2048 .f32) (H : FVec Ideal S8448x2048 .f32) (M : FVec Ideal S2x6x2048 .f32) : FVec Ideal S8448x2048 .f32 :=
  concatenate S8448x2048 0 [⟨Cert.RefOutProjIdeal.S256x2048, (addf (extractStridedSlice Cert.RefOutProjIdeal.S256x2048 ![0, 0] H Cert.RefOutProjIdeal.Gen.slices_S8448x2048_S256x2048_0_0) (mulf (broadcastInDim Cert.RefOutProjIdeal.S256x2048 ![0, 1] Cert.RefOutProjIdeal.Gen.bcast_S1x2048_S256x2048_0_1 (broadcastInDim Cert.RefOutProjIdeal.S1x2048 ![1] Cert.RefOutProjIdeal.Gen.bcast_S2048_S1x2048_1 (shapeCast _ (extractStridedSlice Cert.RefOutProjIdeal.S1x1x2048 ![0, 2, 0] M Cert.RefOutProjIdeal.Gen.slices_S2x6x2048_S1x1x2048_0_2_0) Cert.RefOutProjIdeal.Gen.shapeCasts_S1x1x2048_S2048))) (extractStridedSlice Cert.RefOutProjIdeal.S256x2048 ![0, 0] (Z X W) Cert.RefOutProjIdeal.Gen.slices_S8448x2048_S256x2048_0_0)))⟩, ⟨Cert.RefOutProjIdeal.S8192x2048, (addf (extractStridedSlice Cert.RefOutProjIdeal.S8192x2048 ![256, 0] H Cert.RefOutProjIdeal.Gen.slices_S8448x2048_S8192x2048_256_0) (mulf (broadcastInDim Cert.RefOutProjIdeal.S8192x2048 ![0, 1] Cert.RefOutProjIdeal.Gen.bcast_S1x2048_S8192x2048_0_1 (broadcastInDim Cert.RefOutProjIdeal.S1x2048 ![1] Cert.RefOutProjIdeal.Gen.bcast_S2048_S1x2048_1 (shapeCast _ (extractStridedSlice Cert.RefOutProjIdeal.S1x1x2048 ![1, 2, 0] M Cert.RefOutProjIdeal.Gen.slices_S2x6x2048_S1x1x2048_1_2_0) Cert.RefOutProjIdeal.Gen.shapeCasts_S1x1x2048_S2048))) (extractStridedSlice Cert.RefOutProjIdeal.S8192x2048 ![256, 0] (Z X W) Cert.RefOutProjIdeal.Gen.slices_S8448x2048_S8192x2048_256_0)))⟩] Cert.RefOutProjIdeal.Gen.concatenates_S256x2048_S8192x2048_S8448x2048_d0

/-- The reference's second result over variables. -/
abbrev REF' (X : FVec Ideal S8448x2048 .bf16) (W : FVec Ideal S2048x2048 .f32) : FVec Ideal S8448x2048 .bf16 :=
  truncf .bf16 (Z X W) Cert.RefOutProjIdeal.Gen.bitsLt_bf16_f32

/-- The second result at an index. -/
theorem ref'_at (X W) (j : S8448x2048.Idx) :
    REF' X W j = ∑ k : Fin 2048, X (ix2 (j 0) k) * W (ix2 k (j 1)) := by
  pointwise [REF', Z]

/-- The first result at an index: a context row takes the first gate, a latent row the second. -/
theorem ref_at (X W H M) (j : S8448x2048.Idx) :
    REF X W H M j = H j + (if (j 0 : ℕ) < 256 then M (ix3 0 2 (j 1)) else M (ix3 1 2 (j 1))) * ∑ k : Fin 2048, X (ix2 (j 0) k) * W (ix2 k (j 1)) := by
  idx_vars j
  pointwise [REF, Z]
  by_cases h : (j0 : ℕ) < 256
  · exact (dif_pos h).trans (Ideal.add_congr rfl (Ideal.mul_congr (if_pos h).symm rfl))
  · have e : ∀ hh, (⟨256 + ((j0 : ℕ) - 256), hh⟩ : Fin 8448) = j0 := fun _ => Fin.ext (by dsimp only; omega)
    refine (dif_neg h).trans ?_
    simp only [e]
    exact Ideal.add_congr rfl (Ideal.mul_congr (if_neg h).symm rfl)

/-- The weight as the region finds it: cut into four shards along its rows. -/
abbrev SH (W : FVec Ideal S2048x2048 .f32) : FVec Ideal S4x1x512x2048 .bf16 :=
  truncf .bf16 (shapeCast S4x1x512x2048 W shapeCasts_S2048x2048_S4x1x512x2048) bitsLt_bf16_f32

/-- The shards at an index. -/
theorem sh_at (W) (s : Fin 4) (z : Fin 1) (p : Fin 512) (q : Fin 2048) (i : S2048x2048.Idx) (h0 : (i 0 : ℕ) = s * 512 + p) (h1 : (i 1 : ℕ) = q) :
    SH W (ix4 s z p q) = W i := by
  pointwise [SH]
  blk_ext

/-- The host operations before the region leave the shards in the kernel's second operand. -/
theorem sh_eq (c : Dev nD) : V m c main_v1 = SH (m ((c : Thread nD τ).loc main_arg1)) := by
  unfold V
  after_results <;> rfl

/-- A block of the product's input rows, read in the array. -/
theorem blk0 (c : Dev nD) (p : Fin cfg0.N) (q : Fin 1056) (k : Fin 512) (i : S8448x2048.Idx)
    (h0 : (i 0 : ℕ) = p.val / 8 * 1056 + q) (h1 : (i 1 : ℕ) = p.val % 4 * 512 + k) :
    iblk m c 0 p (ix2 q k) = m ((c : Thread nD τ).loc main_arg0) i := by
  rw [← V_main_arg0 m c]
  blk_ext [iblk, idx p]

/-- A block of the weight's shards, read in the weight. -/
theorem blk1 (c : Dev nD) (p : Fin cfg0.N) (q : Fin 512) (k : Fin 1024) (i : S2048x2048.Idx)
    (h0 : (i 0 : ℕ) = p.val % 4 * 512 + q) (h1 : (i 1 : ℕ) = p.val / 4 % 2 * 1024 + k) :
    iblk m c 1 p (ix4 0 0 q k) = m ((c : Thread nD τ).loc main_arg1) i := by
  rw [← sh_at (m ((c : Thread nD τ).loc main_arg1)) ⟨p.val % 4, by omega⟩ 0 q ⟨p.val / 4 % 2 * 1024 + k, by omega⟩ i (by dsimp only; omega) (by dsimp only; omega), ← sh_eq]
  blk_ext [iblk, idx p]

/-- A block of the residual, read in the array. -/
theorem blk2 (c : Dev nD) (p : Fin cfg0.N) (y : S1056x1024.Idx) (i : S8448x2048.Idx)
    (h0 : (i 0 : ℕ) = p.val / 8 * 1056 + y 0) (h1 : (i 1 : ℕ) = p.val / 4 % 2 * 1024 + y 1) :
    iblk m c 2 p y = m ((c : Thread nD τ).loc main_arg2) i := by
  rw [← V_main_arg2 m c]
  blk_ext [iblk, idx p]

/-- A block of the modulation, read in the array. -/
theorem blk3 (c : Dev nD) (p : Fin cfg0.N) (a : Fin 2) (b : Fin 6) (k : Fin 1024) (i : S2x6x2048.Idx)
    (h0 : (i 0 : ℕ) = a) (h1 : (i 1 : ℕ) = b) (h2 : (i 2 : ℕ) = p.val / 4 % 2 * 1024 + k) :
    iblk m c 3 p (ix3 a b k) = m ((c : Thread nD τ).loc main_arg3) i := by
  rw [← V_main_arg3 m c]
  blk_ext [iblk, idx p]

/-- The accumulator after the last point of a run, at an index. -/
theorem acc_at (c : Dev nD) (t : Fin cfg0.N) (hr : t.val % 4 = 3) (j) :
    (outsAt0 m c t.val t.isLt).2.2 j = 0 + ∑ s : Fin 4, ∑ k : Fin 512,
      (show FVec Ideal S1056x512 .bf16 from iblk m c 0 ⟨4 * (t.val / 4) + s.val, Pipeline.run_point_lt_of_flush t hr s⟩) (ix2 (j 0) k)
      * (show FVec Ideal S1x1x512x1024 .bf16 from iblk m c 1 ⟨4 * (t.val / 4) + s.val, Pipeline.run_point_lt_of_flush t hr s⟩) (ix4 0 0 k (j 1)) :=
  Pipeline.eq_sum_fin_of_reset_step_apply_of_flush (fun n h => (outsAt0 m c n h).2.2) 4 (fun _ => 0)
    (fun p j => ∑ k : Fin 512, (show FVec Ideal S1056x512 .bf16 from iblk m c 0 p) (ix2 (j 0) k)
      * (show FVec Ideal S1x1x512x1024 .bf16 from iblk m c 1 p) (ix4 0 0 k (j 1)))
    (fun t h j => by
      rw [outsAt0_A m c t h (by omega)]; frame_out; rw [step_at, zero_at])
    (fun t h j => by
      by_cases h1 : t.val % 4 = 3
      · rw [outsAt0_C m c t h h1]; frame_out; rw [step_at, (Memref.isWhole_whole _).read_unread]
      · rw [outsAt0_B m c t h h1]; frame_out; rw [step_at, (Memref.isWhole_whole _).read_unread]) t hr j

/-- What the last point of a run leaves in the first output block, at an index. -/
theorem block_eq (c : Dev nD) (t : Fin cfg0.N) (hr : t.val % 4 = 3) (j) :
    (outsAt0 m c t.val t.isLt).1 j = (show FVec Ideal S1056x1024 .f32 from iblk m c 2 t) j
      + (if t.val / 8 * 1056 + j 0 < 256 then (show FVec Ideal S2x6x1024 .f32 from iblk m c 3 t) (ix3 0 2 (j 1)) else (show FVec Ideal S2x6x1024 .f32 from iblk m c 3 t) (ix3 1 2 (j 1)))
      * (outsAt0 m c t.val t.isLt).2.2 j := by
  rw [outsAt0_C m c t (by omega) hr]; frame_out
  rw [gate_at, co]
  refine Ideal.add_congr rfl (Ideal.mul_congr (if_congr Iff.rfl ?_ ?_) rfl) <;> blk_ext [View.ld] <;> first | rfl | simp [Rect.unit]

/-- What the last point of a run leaves in the second output block. -/
theorem block_eq' (c : Dev nD) (t : Fin cfg0.N) (hr : t.val % 4 = 3) :
    (outsAt0 m c t.val t.isLt).2.1 = k0_pay4 (outsAt0 m c t.val t.isLt).2.2 := by
  rw [outsAt0_C m c t (by omega) hr]; frame_out

/-- The accumulated block after a run, at an index: the whole contraction. -/
theorem sum_eq (c : Dev nD) (t : Fin cfg0.N) (hr : t.val % 4 = 3) (y : S1056x1024.Idx) (i : S8448x2048.Idx)
    (h0 : (i 0 : ℕ) = t.val / 8 * 1056 + y 0) (h1 : (i 1 : ℕ) = t.val / 4 % 2 * 1024 + y 1) :
    (outsAt0 m c t.val t.isLt).2.2 y = ∑ k : Fin 2048, (show FVec Ideal S8448x2048 .bf16 from (m ((c : Thread nD τ).loc main_arg0))) (ix2 (i 0) k)
      * (show FVec Ideal S2048x2048 .f32 from (m ((c : Thread nD τ).loc main_arg1))) (ix2 k (i 1)) := by
  rw [acc_at m c t hr, zero_add]
  refine Fin.sum_mul_add_congr fun s k hl => ?_
  refine Ideal.mul_congr (blk0 m c _ _ _ _ ?_ ?_) (blk1 m c _ _ _ _ ?_ ?_)
  all_goals (blk_simp [idx t] <;> (try dsimp only) <;> omega)

/-- The second result array is the reference's term of the arguments. -/
theorem final' (c : Dev nD) : (dats m 0 c).arrAt 5 cfg0.N
    = REF' (m ((c : Thread nD τ).loc main_arg0)) (m ((c : Thread nD τ).loc main_arg1)) := by
  refine (dats m 0 c).arrAt_eq_of_covers 5 _ (by decide +kernel) fun t hf y => ?_
  blk_simp
  have hr := (flush0_5 t).mp hf
  rw [after0_5, block_eq' m c t hr, plain_at, ref'_at]
  refine sum_eq m c t hr y _ ?_ ?_ <;> blk_simp [idx t]

/-- The first result array is the reference's term of the arguments. -/
theorem final (c : Dev nD) : (dats m 0 c).arrAt 4 cfg0.N
    = REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  have hr := (flush0_4 t).mp hf
  rw [after0_4, block_eq m c t hr, ref_at]
  refine Ideal.add_congr (blk2 m c t y _ ?_ ?_) (Ideal.mul_congr (if_congr ?_ (blk3 m c t _ _ _ _ ?_ ?_ ?_) (blk3 m c t _ _ _ _ ?_ ?_ ?_)) (sum_eq m c t hr y _ ?_ ?_))
  all_goals (blk_simp [idx t] <;> (try rfl) <;> omega)

end Cert.OutProjIdeal.Hand

/-- From equal arguments the kernel and the reference end with equal results. -/
theorem Cert.OutProjIdeal.Hand.algebraic : Cert.algebraic_OutProjIdeal_RefOutProjIdeal
    (hOutProjIdeal := Cert.OutProjIdeal.Gen.facts) (hRefOutProjIdeal := Cert.RefOutProjIdeal.Gen.facts) := by
  pair_intro
  · run_from Cert.OutProjIdeal.Value.run_blocks m g
  · run_from Cert.RefOutProjIdeal.Value.run m' g'
    · rw [(hagree c).2.2.2]; exact (Cert.OutProjIdeal.Hand.final m c).symm
    · exact (Cert.OutProjIdeal.Hand.final' m c).symm

end
-- ==== Proof.PoolGrp.lean ====
module

public import proofs.«01_k».proof.Proof.Gen.PoolGrpIdeal.Value
public import proofs.«01_k».proof.Proof.Gen.RefPoolGrpIdeal.Run
public import proofs.«01_k».proof.Defs
public import Idealize.ShloMosaic.Lib.Pipeline.ValueKit
public import Idealize.ShloMosaic.Lib.Tactic
public import Idealize.ShloMosaic.Lib.Pointwise

/-! The pooling mixer's grouped product with its bias, scale and gated residual: the kernel's two arrays are the reference's. -/

@[expose] public section

set_option maxRecDepth 16384

noncomputable section

namespace Cert.PoolGrpIdeal.Hand

open Idealize.ShloMosaic Idealize.ShloMosaic.TcCoe Idealize.SL.Sem
open Idealize.ShloMosaic.Pipeline (Dat)
open Cert.PoolGrpIdeal Cert.PoolGrpIdeal.Gen

variable (m : (ℓ : Loc nD τ sig) → Buf (Elt Ideal) ℓ)

/-- The biased product at an index: a column's own row of the group's weight. -/
theorem pay_at (x w b j) : k0_pay1 (F := Ideal) x w b j
    = (∑ k : Fin 512, x (ix2 (j 0) k) * w (ix5 ⟨(k : ℕ) / 128, by omega⟩ 0 0 ⟨(k : ℕ) % 128, by omega⟩ (j 1))) + b (ix2 0 (j 1)) := by
  idx_vars j
  pointwise [k0_pay1]

/-- Whether a row lies below row 256, as the body asks it of 32-bit words. -/
theorem slt_at (n : ℕ) (h : n < 2 ^ 31) : (BitVec.ofNat 32 n).slt 256#32 = decide (n < 256) := by
  have h1 : (BitVec.ofNat 32 n).toInt = (n : ℤ) := by
    rw [BitVec.toInt_eq_toNat_cond, BitVec.toNat_ofNat, Nat.mod_eq_of_lt (by omega), if_pos (by omega)]
  have h2 : (256#32 : BitVec 32).toInt = 256 := by decide
  rw [BitVec.slt, h1, h2]
  exact decide_eq_decide.mpr (by omega)

/-- The gated sum the body stores at an index, over any product. -/
theorem gate_at (i : grid0.Coords) (x w b res g0 g1 s j) : k0_pay2 (F := Ideal) i x w b res g0 g1 s j
    = res j + (if (i 0 : ℕ) * 768 + j 0 < 256 then g0 (ix3 0 0 (j 1)) else g1 (ix3 0 0 (j 1))) * (k0_pay1 (F := Ideal) x w b j * s (ix2 0 (j 1))) := by
  idx_vars j
  generalize hP : k0_pay1 (F := Ideal) x w b = P
  unfold k0_pay2
  rw [hP]
  pointwise
  have h0 : (i 0 : ℕ) < 11 := (i 0).isLt
  have e : IntOp.addi (Scalar.muli (BitVec.ofNat 32 (i 0 : ℕ)) 768#32) (BitVec.ofNat 32 (j0 : ℕ))
      = BitVec.ofNat 32 ((i 0 : ℕ) * 768 + j0) := by
    rw [BitVec.ofNat_add, BitVec.ofNat_mul]; rfl
  have e' : IntOp.cmpi .slt (BitVec.ofNat 32 ((i 0 : ℕ) * 768 + j0)) 256#32
      = BitVec.ofBool (decide ((i 0 : ℕ) * 768 + j0 < 256)) := by
    rw [← slt_at _ (by omega)]; rfl
  rw [e, e']
  by_cases h : (i 0 : ℕ) * 768 + j0 < 256 <;> simp [h, Scalar.select]

/-- The plain product the body stores. -/
theorem plain_eq (x w b) : k0_pay3 (F := Ideal) x w b = k0_pay1 (F := Ideal) x w b := by
  funext j; unfold k0_pay3; pointwise

/-- Every window's block index at a grid point. -/
theorem idx : ∀ t : Fin cfg0.N, win0_0.index t = ![t.val / 4, t.val % 4]
    ∧ win0_1.index t = ![0, 0, t.val % 4, 0, 0]
    ∧ win0_2.index t = ![t.val / 4, t.val % 4]
    ∧ win0_3.index t = ![0, 0, t.val % 4]
    ∧ win0_4.index t = ![0, t.val % 4]
    ∧ win0_5.index t = ![0, t.val % 4]
    ∧ win0_6.index t = ![t.val / 4, t.val % 4]
    ∧ win0_7.index t = ![t.val / 4, t.val % 4] :=
  (by decide +kernel : ∀ t : Fin grid0.N, _)

/-- The first grid coordinate of a point. -/
theorem co : ∀ t : Fin cfg0.N, (grid0.coords t 0 : ℕ) = t.val / 4 :=
  (by decide +kernel : ∀ t : Fin grid0.N, _)

/-- The grouped product with its bias, over variables. -/
abbrev Z (X : FVec Ideal S8448x2048 .bf16) (W : FVec Ideal S4x512x512 .f32) (B : FVec Ideal S4x512 .f32) : FVec Ideal S8448x2048 .f32 :=
  shapeCast _ (addf (transpose Cert.RefPoolGrpIdeal.S8448x4x512 [2, 0, 1] (Host.dotGeneral Cert.RefPoolGrpIdeal.dot_S4x512x512_S8448x4x512_S4x512x8448_1_2_2_0_0_1 none W (shapeCast _ (extf .f32 X Cert.RefPoolGrpIdeal.Gen.bitsLt_bf16_f32) Cert.RefPoolGrpIdeal.Gen.shapeCasts_S8448x2048_S8448x4x512)) Cert.RefPoolGrpIdeal.Gen.transposes_S4x512x8448_S8448x4x512_2_0_1) (broadcastInDim Cert.RefPoolGrpIdeal.S8448x4x512 ![0, 1, 2] Cert.RefPoolGrpIdeal.Gen.bcast_S1x4x512_S8448x4x512_0_1_2 (broadcastInDim Cert.RefPoolGrpIdeal.S1x4x512 ![1, 2] Cert.RefPoolGrpIdeal.Gen.bcast_S4x512_S1x4x512_1_2 B))) Cert.RefPoolGrpIdeal.Gen.shapeCasts_S8448x4x512_S8448x2048

/-- The product with its bias and scale, over variables. -/
abbrev ZS (X : FVec Ideal S8448x2048 .bf16) (W : FVec Ideal S4x512x512 .f32) (B : FVec Ideal S4x512 .f32) (S : FVec Ideal S2048 .f32) : FVec Ideal S8448x2048 .f32 :=
  mulf (Z X W B) (broadcastInDim S8448x2048 ![0, 1] Cert.RefPoolGrpIdeal.Gen.bcast_S1x2048_S8448x2048_0_1 (broadcastInDim Cert.RefPoolGrpIdeal.S1x2048 ![1] Cert.RefPoolGrpIdeal.Gen.bcast_S2048_S1x2048_1 S))

/-- The reference's first result over a product: context rows and latent rows under their own gates. -/
abbrev GATED (P H : FVec Ideal S8448x2048 .f32) (M : FVec Ideal S2x6x2048 .f32) : FVec Ideal S8448x2048 .f32 :=
  concatenate S8448x2048 0 [⟨Cert.RefPoolGrpIdeal.S256x2048, (addf (extractStridedSlice Cert.RefPoolGrpIdeal.S256x2048 ![0, 0] H Cert.RefPoolGrpIdeal.Gen.slices_S8448x2048_S256x2048_0_0) (mulf (broadcastInDim Cert.RefPoolGrpIdeal.S256x2048 ![0, 1] Cert.RefPoolGrpIdeal.Gen.bcast_S1x2048_S256x2048_0_1 (broadcastInDim Cert.RefPoolGrpIdeal.S1x2048 ![1] Cert.RefPoolGrpIdeal.Gen.bcast_S2048_S1x2048_1 (shapeCast _ (extractStridedSlice Cert.RefPoolGrpIdeal.S1x1x2048 ![0, 2, 0] M Cert.RefPoolGrpIdeal.Gen.slices_S2x6x2048_S1x1x2048_0_2_0) Cert.RefPoolGrpIdeal.Gen.shapeCasts_S1x1x2048_S2048))) (extractStridedSlice Cert.RefPoolGrpIdeal.S256x2048 ![0, 0] P Cert.RefPoolGrpIdeal.Gen.slices_S8448x2048_S256x2048_0_0)))⟩, ⟨Cert.RefPoolGrpIdeal.S8192x2048, (addf (extractStridedSlice Cert.RefPoolGrpIdeal.S8192x2048 ![256, 0] H Cert.RefPoolGrpIdeal.Gen.slices_S8448x2048_S8192x2048_256_0) (mulf (broadcastInDim Cert.RefPoolGrpIdeal.S8192x2048 ![0, 1] Cert.RefPoolGrpIdeal.Gen.bcast_S1x2048_S8192x2048_0_1 (broadcastInDim Cert.RefPoolGrpIdeal.S1x2048 ![1] Cert.RefPoolGrpIdeal.Gen.bcast_S2048_S1x2048_1 (shapeCast _ (extractStridedSlice Cert.RefPoolGrpIdeal.S1x1x2048 ![1, 2, 0] M Cert.RefPoolGrpIdeal.Gen.slices_S2x6x2048_S1x1x2048_1_2_0) Cert.RefPoolGrpIdeal.Gen.shapeCasts_S1x1x2048_S2048))) (extractStridedSlice Cert.RefPoolGrpIdeal.S8192x2048 ![256, 0] P Cert.RefPoolGrpIdeal.Gen.slices_S8448x2048_S8192x2048_256_0)))⟩] Cert.RefPoolGrpIdeal.Gen.concatenates_S256x2048_S8192x2048_S8448x2048_d0

/-- The reference's first result over variables. -/
abbrev REF (X : FVec Ideal S8448x2048 .bf16) (W : FVec Ideal S4x512x512 .f32) (B : FVec Ideal S4x512 .f32) (S : FVec Ideal S2048 .f32) (H : FVec Ideal S8448x2048 .f32) (M : FVec Ideal S2x6x2048 .f32) : FVec Ideal S8448x2048 .f32 :=
  GATED (ZS X W B S) H M

/-- The reference's second result over variables. -/
abbrev REF' (X : FVec Ideal S8448x2048 .bf16) (W : FVec Ideal S4x512x512 .f32) (B : FVec Ideal S4x512 .f32) : FVec Ideal S8448x2048 .bf16 :=
  truncf .bf16 (Z X W B) Cert.RefPoolGrpIdeal.Gen.bitsLt_bf16_f32

/-- The biased product at an index: a column's group, then the contraction over that group's columns. -/
theorem z_at (X W B) (j : S8448x2048.Idx) :
    Z X W B j = (∑ k : Fin 512, X (ix2 (j 0) ⟨(j 1 : ℕ) / 512 * 512 + k, by have h : (j 1 : ℕ) < 2048 := (j 1).isLt; omega⟩)
      * W (ix3 ⟨(j 1 : ℕ) / 512, by have h : (j 1 : ℕ) < 2048 := (j 1).isLt; omega⟩ k ⟨(j 1 : ℕ) % 512, by omega⟩))
      + B (ix2 ⟨(j 1 : ℕ) / 512, by have h : (j 1 : ℕ) < 2048 := (j 1).isLt; omega⟩ ⟨(j 1 : ℕ) % 512, by omega⟩) := by
  idx_vars j
  pointwise [Z]
  exact Ideal.add_congr (Finset.sum_congr rfl fun k _ => mul_comm _ _) rfl

/-- The scaled product at an index. -/
theorem zs_at (X W B S) (j : S8448x2048.Idx) : ZS X W B S j = Z X W B j * S (ix1 (j 1)) := by
  generalize hP : Z X W B = P
  unfold ZS
  rw [hP]
  pointwise

/-- The gated sum at an index: a context row takes the first gate, a latent row the second. -/
theorem gated_at (P H M) (j : S8448x2048.Idx) :
    GATED P H M j = H j + (if (j 0 : ℕ) < 256 then M (ix3 0 2 (j 1)) else M (ix3 1 2 (j 1))) * P j := by
  idx_vars j
  pointwise [GATED]
  by_cases h : (j0 : ℕ) < 256
  · exact (dif_pos h).trans (Ideal.add_congr rfl (Ideal.mul_congr (if_pos h).symm rfl))
  · have e : ∀ hh, (⟨256 + ((j0 : ℕ) - 256), hh⟩ : Fin 8448) = j0 := fun _ => Fin.ext (by dsimp only; omega)
    refine (dif_neg h).trans ?_
    simp only [e]
    exact Ideal.add_congr rfl (Ideal.mul_congr (if_neg h).symm rfl)

/-- The grouped weight as the region finds it: each group cut into four shards along its rows. -/
abbrev SH (W : FVec Ideal S4x512x512 .f32) : FVec Ideal S4x1x4x128x512 .bf16 :=
  truncf .bf16 (broadcastInDim S4x1x4x128x512 ![0, 2, 3, 4] bcast_S4x4x128x512_S4x1x4x128x512_0_2_3_4 (transpose S4x4x128x512 [1, 0, 2, 3] (shapeCast S4x4x128x512 W shapeCasts_S4x512x512_S4x4x128x512) transposes_S4x4x128x512_S4x4x128x512_1_0_2_3)) bitsLt_bf16_f32

/-- The shards at an index. -/
theorem sh_at (W) (s : Fin 4) (z : Fin 1) (g : Fin 4) (p : Fin 128) (q : Fin 512) (i : S4x512x512.Idx)
    (h0 : (i 0 : ℕ) = g) (h1 : (i 1 : ℕ) = s * 128 + p) (h2 : (i 2 : ℕ) = q) :
    SH W (ix5 s z g p q) = W i := by
  pointwise [SH]
  blk_ext

/-- The host operations before the region leave the shards in the kernel's second operand. -/
theorem sh_eq (c : Dev nD) : V m c main_v3 = SH (m ((c : Thread nD τ).loc main_arg1)) := by
  unfold V
  after_results <;> rfl

/-- A block of the weight's shards, read in the weight. -/
theorem blk1 (c : Dev nD) (p : Fin cfg0.N) (s : Fin 4) (q : Fin 128) (k : Fin 512) (i : S4x512x512.Idx)
    (h0 : (i 0 : ℕ) = p.val % 4) (h1 : (i 1 : ℕ) = s * 128 + q) (h2 : (i 2 : ℕ) = k) :
    iblk m c 1 p (ix5 s 0 0 q k) = m ((c : Thread nD τ).loc main_arg1) i := by
  rw [← sh_at (m ((c : Thread nD τ).loc main_arg1)) s 0 ⟨p.val % 4, by omega⟩ q k i (by dsimp only; omega) (by dsimp only; omega) h2, ← sh_eq]
  blk_ext [iblk, idx p]

/-- A block of the mixer's inner rows, read in the array. -/
theorem blk0 (c : Dev nD) (p : Fin cfg0.N) (q : Fin 768) (k : Fin 512) (i : S8448x2048.Idx)
    (h0 : (i 0 : ℕ) = p.val / 4 * 768 + q) (h1 : (i 1 : ℕ) = p.val % 4 * 512 + k) :
    iblk m c 0 p (ix2 q k) = m ((c : Thread nD τ).loc main_arg0) i := by
  rw [← V_main_arg0 m c]
  blk_ext [iblk, idx p]

/-- A block of the residual, read in the array. -/
theorem blk2 (c : Dev nD) (p : Fin cfg0.N) (y : S768x512.Idx) (i : S8448x2048.Idx)
    (h0 : (i 0 : ℕ) = p.val / 4 * 768 + y 0) (h1 : (i 1 : ℕ) = p.val % 4 * 512 + y 1) :
    iblk m c 2 p y = m ((c : Thread nD τ).loc main_arg4) i := by
  rw [← V_main_arg4 m c]
  blk_ext [iblk, idx p]

/-- A block of the modulation, read in the array. -/
theorem blk3 (c : Dev nD) (p : Fin cfg0.N) (a : Fin 2) (b : Fin 6) (k : Fin 512) (i : S2x6x2048.Idx)
    (h0 : (i 0 : ℕ) = a) (h1 : (i 1 : ℕ) = b) (h2 : (i 2 : ℕ) = p.val % 4 * 512 + k) :
    iblk m c 3 p (ix3 a b k) = m ((c : Thread nD τ).loc main_arg5) i := by
  rw [← V_main_arg5 m c]
  blk_ext [iblk, idx p]

/-- The bias laid out as one row. -/
abbrev BROW (B : FVec Ideal S4x512 .f32) : FVec Ideal S1x2048 .f32 := shapeCast S1x2048 B shapeCasts_S4x512_S1x2048

/-- The row of the bias at an index. -/
theorem bias_at (B : FVec Ideal S4x512 .f32) (z : Fin 1) (q : Fin 2048) (i : S4x512.Idx) (h0 : (i 0 : ℕ) = (q : ℕ) / 512) (h1 : (i 1 : ℕ) = (q : ℕ) % 512) :
    BROW B (ix2 z q) = B i := by
  pointwise [BROW]
  blk_ext

/-- The host operations before the region leave the bias as one row. -/
theorem bias_eq (c : Dev nD) : V m c main_v4 = BROW (m ((c : Thread nD τ).loc main_arg2)) := by
  unfold V
  after_results <;> rfl

/-- A block of the bias, read in the bias. -/
theorem blk4 (c : Dev nD) (p : Fin cfg0.N) (z : Fin 1) (k : Fin 512) (i : S4x512.Idx)
    (h0 : (i 0 : ℕ) = p.val % 4) (h1 : (i 1 : ℕ) = k) :
    iblk m c 4 p (ix2 z k) = m ((c : Thread nD τ).loc main_arg2) i := by
  rw [← bias_at (m ((c : Thread nD τ).loc main_arg2)) 0 ⟨p.val % 4 * 512 + k, by omega⟩ i (by dsimp only; omega) (by dsimp only; omega), ← bias_eq]
  blk_ext [iblk, idx p]

/-- The scale laid out as one row. -/
abbrev SROW (S : FVec Ideal S2048 .f32) : FVec Ideal S1x2048 .f32 := broadcastInDim S1x2048 ![1] bcast_S2048_S1x2048_1 S

/-- The row of the scale at an index. -/
theorem scale_at (S : FVec Ideal S2048 .f32) (z : Fin 1) (q : Fin 2048) (i : S2048.Idx) (h0 : (i 0 : ℕ) = q) :
    SROW S (ix2 z q) = S i := by
  pointwise [SROW]
  blk_ext

/-- The host operations before the region leave the scale as one row. -/
theorem scale_eq (c : Dev nD) : V m c main_v5 = SROW (m ((c : Thread nD τ).loc main_arg3)) := by
  unfold V
  after_results <;> rfl

/-- A block of the scale, read in the scale. -/
theorem blk5 (c : Dev nD) (p : Fin cfg0.N) (z : Fin 1) (k : Fin 512) (i : S2048.Idx)
    (h0 : (i 0 : ℕ) = p.val % 4 * 512 + k) :
    iblk m c 5 p (ix2 z k) = m ((c : Thread nD τ).loc main_arg3) i := by
  rw [← scale_at (m ((c : Thread nD τ).loc main_arg3)) 0 ⟨p.val % 4 * 512 + k, by omega⟩ i (by dsimp only; omega), ← scale_eq]
  blk_ext [iblk, idx p]

/-- The biased product of a point's blocks, at an index of the array. -/
theorem sum_eq (c : Dev nD) (t : Fin cfg0.N) (y : S768x512.Idx) (i : S8448x2048.Idx)
    (h0 : (i 0 : ℕ) = t.val / 4 * 768 + y 0) (h1 : (i 1 : ℕ) = t.val % 4 * 512 + y 1) :
    k0_pay1 (F := Ideal) (iblk m c 0 t) (iblk m c 1 t) (iblk m c 4 t) y
      = Z (m ((c : Thread nD τ).loc main_arg0)) (m ((c : Thread nD τ).loc main_arg1)) (m ((c : Thread nD τ).loc main_arg2)) i := by
  rw [pay_at, z_at]
  have hy : (y 1 : ℕ) < 512 := (y 1).isLt
  refine Ideal.add_congr (Fin.sum_fin_congr fun k => Ideal.mul_congr (blk0 m c _ _ _ _ ?_ ?_) (blk1 m c _ _ _ _ _ ?_ ?_ ?_)) (blk4 m c _ _ _ _ ?_ ?_)
  all_goals (blk_simp [idx t] <;> (try dsimp only) <;> omega)

/-- What a point leaves in the first output block, at an index. -/
theorem block_eq (c : Dev nD) (t : Fin cfg0.N) (j) :
    out0_6 (F := Ideal) (grid0.coords t) (iblk m c 0 t) (iblk m c 1 t) (iblk m c 2 t) (iblk m c 3 t) (iblk m c 4 t) (iblk m c 5 t) j = (show FVec Ideal S768x512 .f32 from iblk m c 2 t) j
      + (if t.val / 4 * 768 + j 0 < 256 then (show FVec Ideal S2x6x512 .f32 from iblk m c 3 t) (ix3 0 2 (j 1)) else (show FVec Ideal S2x6x512 .f32 from iblk m c 3 t) (ix3 1 2 (j 1)))
      * (k0_pay1 (F := Ideal) (iblk m c 0 t) (iblk m c 1 t) (iblk m c 4 t) j * (show FVec Ideal S1x512 .f32 from iblk m c 5 t) (ix2 0 (j 1))) := by
  frame_out
  rw [gate_at, co]
  refine Ideal.add_congr rfl (Ideal.mul_congr (if_congr Iff.rfl ?_ ?_) rfl) <;> blk_ext [View.ld] <;> first | rfl | simp [Rect.unit]

/-- The second result array is the reference's term of the arguments. -/
theorem final' (c : Dev nD) : (dats m 0 c).arrAt 7 cfg0.N
    = REF' (m ((c : Thread nD τ).loc main_arg0)) (m ((c : Thread nD τ).loc main_arg1)) (m ((c : Thread nD τ).loc main_arg2)) := by
  refine (dats m 0 c).arrAt_eq_of_covers 7 _ (by decide +kernel) fun t hf y => ?_
  blk_simp
  rw [after0_7]
  frame_out
  rw [plain_eq]
  refine sum_eq m c t y _ ?_ ?_ <;> blk_simp [idx t]

/-- The first result array is the reference's term of the arguments. -/
theorem final (c : Dev nD) : (dats m 0 c).arrAt 6 cfg0.N
    = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6, block_eq m c t, REF, gated_at, zs_at]
  refine Ideal.add_congr (blk2 m c t y _ ?_ ?_) (Ideal.mul_congr (if_congr ?_ (blk3 m c t _ _ _ _ ?_ ?_ ?_) (blk3 m c t _ _ _ _ ?_ ?_ ?_)) (Ideal.mul_congr (sum_eq m c t y _ ?_ ?_) (blk5 m c t _ _ _ ?_)))
  all_goals (blk_simp [idx t] <;> (try rfl) <;> omega)

end Cert.PoolGrpIdeal.Hand

/-- From equal arguments the kernel and the reference end with equal results. -/
theorem Cert.PoolGrpIdeal.Hand.algebraic : Cert.algebraic_PoolGrpIdeal_RefPoolGrpIdeal
    (hPoolGrpIdeal := Cert.PoolGrpIdeal.Gen.facts) (hRefPoolGrpIdeal := Cert.RefPoolGrpIdeal.Gen.facts) := by
  pair_intro
  · run_from Cert.PoolGrpIdeal.Value.run_blocks m g
  · run_from Cert.RefPoolGrpIdeal.Value.run m' g'
    · rw [(hagree c).2.2.2.2.1, (hagree c).2.2.2.2.2]; exact (Cert.PoolGrpIdeal.Hand.final m c).symm
    · exact (Cert.PoolGrpIdeal.Hand.final' m c).symm

end
-- ==== Proof.PoolGrpG.lean ====
module

public import proofs.«01_k».proof.Proof.Gen.PoolGrpGIdeal.Value
public import proofs.«01_k».proof.Proof.Gen.RefPoolGrpGIdeal.Run
public import proofs.«01_k».proof.Defs
public import Idealize.ShloMosaic.Lib.Pipeline.ValueKit
public import Idealize.ShloMosaic.Lib.Tactic
public import Idealize.ShloMosaic.Lib.Pointwise

/-! The gradient of the pooling mixer's grouped weight: the kernel's array is the reference's. -/

@[expose] public section

set_option maxRecDepth 16384

noncomputable section

namespace Cert.PoolGrpGIdeal.Hand

open Idealize.ShloMosaic Idealize.ShloMosaic.TcCoe Idealize.SL.Sem
open Idealize.ShloMosaic.Pipeline (Dat)
open Cert.PoolGrpGIdeal Cert.PoolGrpGIdeal.Gen

variable (m : (ℓ : Loc nD τ sig) → Buf (Elt Ideal) ℓ)

/-- The zero fill at an index. -/
theorem zero_at (j) : k0_pay1 (F := Ideal) j = 0 := by pointwise [k0_pay1]

/-- One step of the accumulation at an index: what was there, plus a block's worth of the contraction. -/
theorem step_at (acc x y j) : k0_pay2 (F := Ideal) acc x y j
    = acc j + ∑ k : Fin 768, x (ix2 k (j 0)) * y (ix2 k (j 1)) := by pointwise [k0_pay2]

/-- Every window's block index at a grid point. -/
theorem idx : ∀ t : Fin cfg0.N, win0_0.index t = ![t.val % 11, t.val / 11]
    ∧ win0_1.index t = ![t.val % 11, t.val / 11]
    ∧ win0_2.index t = ![0, 0, t.val / 11, 0, 0] :=
  (by decide +kernel : ∀ t : Fin grid0.N, _)

/-- The reference's term over variables. -/
abbrev REF (H : FVec Ideal S8448x2048 .bf16) (Y : FVec Ideal S8448x2048 .bf16) : FVec Ideal S4x1x4x128x512 .bf16 :=
  truncf .bf16 (broadcastInDim S4x1x4x128x512 ![0, 2, 3, 4] Cert.RefPoolGrpGIdeal.Gen.bcast_S4x4x128x512_S4x1x4x128x512_0_2_3_4 (transpose Cert.RefPoolGrpGIdeal.S4x4x128x512 [1, 0, 2, 3] (shapeCast _ (transpose Cert.RefPoolGrpGIdeal.S4x512x512 [0, 2, 1] (Host.dotGeneral Cert.RefPoolGrpGIdeal.dot_S4x512x8448_S8448x4x512_S4x512x512_2_0_1_2_0_1 none (transpose Cert.RefPoolGrpGIdeal.S4x512x8448 [1, 2, 0] (shapeCast _ (extf .f32 Y Cert.RefPoolGrpGIdeal.Gen.bitsLt_bf16_f32) Cert.RefPoolGrpGIdeal.Gen.shapeCasts_S8448x2048_S8448x4x512) Cert.RefPoolGrpGIdeal.Gen.transposes_S8448x4x512_S4x512x8448_1_2_0) (shapeCast _ (extf .f32 H Cert.RefPoolGrpGIdeal.Gen.bitsLt_bf16_f32) Cert.RefPoolGrpGIdeal.Gen.shapeCasts_S8448x2048_S8448x4x512)) Cert.RefPoolGrpGIdeal.Gen.transposes_S4x512x512_S4x512x512_0_2_1) Cert.RefPoolGrpGIdeal.Gen.shapeCasts_S4x512x512_S4x4x128x512) Cert.RefPoolGrpGIdeal.Gen.transposes_S4x4x128x512_S4x4x128x512_1_0_2_3)) Cert.RefPoolGrpGIdeal.Gen.bitsLt_bf16_f32

/-- The reference at an index: the whole contraction over the rows, within one group. -/
theorem ref_at (H Y) (j : S4x1x4x128x512.Idx) :
    REF H Y j = ∑ k : Fin 8448, H (ix2 k ⟨(j 2 : ℕ) * 512 + ((j 0 : ℕ) * 128 + j 3), by
      have h0 : (j 0 : ℕ) < 4 := (j 0).isLt; have h2 : (j 2 : ℕ) < 4 := (j 2).isLt; have h3 : (j 3 : ℕ) < 128 := (j 3).isLt; omega⟩)
      * Y (ix2 k ⟨(j 2 : ℕ) * 512 + j 4, by have h2 : (j 2 : ℕ) < 4 := (j 2).isLt; have h4 : (j 4 : ℕ) < 512 := (j 4).isLt; omega⟩) := by
  idx_vars j
  pointwise [REF]
  exact Finset.sum_congr rfl fun k _ => mul_comm _ _

/-- A block of the product's input rows, read in the array. -/
theorem blk0 (c : Dev nD) (p : Fin cfg0.N) (k : Fin 768) (q : Fin 512) (i : S8448x2048.Idx)
    (h0 : (i 0 : ℕ) = p.val % 11 * 768 + k) (h1 : (i 1 : ℕ) = p.val / 11 * 512 + q) :
    iblk m c 0 p (ix2 k q) = m ((c : Thread nD τ).loc main_arg0) i := by
  rw [← V_main_arg0 m c]
  blk_ext [iblk, idx p]

/-- A block of the incoming gradient, read in the array. -/
theorem blk1 (c : Dev nD) (p : Fin cfg0.N) (k : Fin 768) (q : Fin 512) (i : S8448x2048.Idx)
    (h0 : (i 0 : ℕ) = p.val % 11 * 768 + k) (h1 : (i 1 : ℕ) = p.val / 11 * 512 + q) :
    iblk m c 1 p (ix2 k q) = m ((c : Thread nD τ).loc main_arg1) i := by
  rw [← V_main_arg1 m c]
  blk_ext [iblk, idx p]

/-- The accumulator after the last point of a run, at an index. -/
theorem acc_at (c : Dev nD) (t : Fin cfg0.N) (hr : t.val % 11 = 10) (j) :
    (outsAt0 m c t.val t.isLt).2 j = 0 + ∑ s : Fin 11, ∑ k : Fin 768,
      (show FVec Ideal S768x512 .bf16 from iblk m c 0 ⟨11 * (t.val / 11) + s.val, Pipeline.run_point_lt_of_flush t hr s⟩) (ix2 k (j 0))
      * (show FVec Ideal S768x512 .bf16 from iblk m c 1 ⟨11 * (t.val / 11) + s.val, Pipeline.run_point_lt_of_flush t hr s⟩) (ix2 k (j 1)) :=
  Pipeline.eq_sum_fin_of_reset_step_apply_of_flush (fun n h => (outsAt0 m c n h).2) 11 (fun _ => 0)
    (fun p j => ∑ k : Fin 768, (show FVec Ideal S768x512 .bf16 from iblk m c 0 p) (ix2 k (j 0))
      * (show FVec Ideal S768x512 .bf16 from iblk m c 1 p) (ix2 k (j 1)))
    (fun t h j => by
      rw [outsAt0_A m c t h (by omega)]; frame_out; rw [step_at, zero_at])
    (fun t h j => by
      by_cases h1 : t.val % 11 = 10
      · rw [outsAt0_C m c t h h1]; frame_out; rw [step_at, (Memref.isWhole_whole _).read_unread]
      · rw [outsAt0_B m c t h h1]; frame_out; rw [step_at, (Memref.isWhole_whole _).read_unread]) t hr j

/-- What the last point of a run leaves in the output block, at an index: a shard's rows of the accumulated block. -/
theorem block_eq (c : Dev nD) (t : Fin cfg0.N) (hr : t.val % 11 = 10) (j : S4x1x1x128x512.Idx) :
    (outsAt0 m c t.val t.isLt).1 j = (outsAt0 m c t.val t.isLt).2
      (ix2 ⟨(j 0 : ℕ) * 128 + j 3, by have h0 : (j 0 : ℕ) < 4 := (j 0).isLt; have h3 : (j 3 : ℕ) < 128 := (j 3).isLt; omega⟩ (j 4)) := by
  rw [outsAt0_C m c t (by omega) hr]; frame_out
  canon_tiles x h
  all_goals (pointwise [k0_pay3, k0_pay4, k0_pay5, k0_pay6] <;> blk_ext)

/-- The result array is the reference's term of the arguments. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t hf y => ?_
  blk_simp
  have hr := (flush0_2 t).mp hf
  rw [after0_2, block_eq m c t hr, acc_at m c t hr, zero_add, ref_at]
  refine Fin.sum_mul_add_congr fun s k hl => ?_
  refine Ideal.mul_congr (blk0 m c _ _ _ _ ?_ ?_) (blk1 m c _ _ _ _ ?_ ?_)
  all_goals (blk_simp [idx t] <;> (try dsimp only) <;> omega)

end Cert.PoolGrpGIdeal.Hand

/-- From equal arguments the kernel and the reference end with equal results. -/
theorem Cert.PoolGrpGIdeal.Hand.algebraic : Cert.algebraic_PoolGrpGIdeal_RefPoolGrpGIdeal
    (hPoolGrpGIdeal := Cert.PoolGrpGIdeal.Gen.facts) (hRefPoolGrpGIdeal := Cert.RefPoolGrpGIdeal.Gen.facts) := by
  pair_intro
  · run_from Cert.PoolGrpGIdeal.Value.run_blocks m g
  · run_from Cert.RefPoolGrpGIdeal.Value.run m' g'
    exact (Cert.PoolGrpGIdeal.Hand.final m c).symm

end
-- ==== Proof.PoolGrpT.lean ====
module

public import proofs.«01_k».proof.Proof.Gen.PoolGrpTIdeal.Value
public import proofs.«01_k».proof.Proof.Gen.RefPoolGrpTIdeal.Run
public import proofs.«01_k».proof.Defs
public import Idealize.ShloMosaic.Lib.Pipeline.ValueKit
public import Idealize.ShloMosaic.Lib.Tactic
public import Idealize.ShloMosaic.Lib.Pointwise

/-! The gradient at the input of the pooling mixer's grouped product: the kernel's array is the reference's. -/

@[expose] public section

set_option maxRecDepth 16384

noncomputable section

namespace Cert.PoolGrpTIdeal.Hand

open Idealize.ShloMosaic Idealize.ShloMosaic.TcCoe Idealize.SL.Sem
open Idealize.ShloMosaic.Pipeline (Dat)
open Cert.PoolGrpTIdeal Cert.PoolGrpTIdeal.Gen

variable (m : (ℓ : Loc nD τ sig) → Buf (Elt Ideal) ℓ)

/-- What the body stores at an index. -/
theorem pay_at (x w j) : k0_pay1 (F := Ideal) x w j
    = ∑ k : Fin 512, x (ix2 (j 0) k) * w (ix5 ⟨(j 1 : ℕ) / 128, by have h : (j 1 : ℕ) < 512 := (j 1).isLt; omega⟩ 0 0 ⟨(j 1 : ℕ) % 128, by omega⟩ k) := by
  idx_vars j
  pointwise [k0_pay1]

/-- Every window's block index at a grid point. -/
theorem idx : ∀ t : Fin cfg0.N, win0_0.index t = ![t.val / 4, t.val % 4]
    ∧ win0_1.index t = ![0, 0, t.val % 4, 0, 0]
    ∧ win0_2.index t = ![t.val / 4, t.val % 4] :=
  (by decide +kernel : ∀ t : Fin grid0.N, _)

/-- The reference's term over variables. -/
abbrev REF (X : FVec Ideal S8448x2048 .bf16) (W : FVec Ideal S4x512x512 .f32) : FVec Ideal S8448x2048 .f32 :=
  shapeCast _ (transpose Cert.RefPoolGrpTIdeal.S8448x4x512 [1, 0, 2] (Host.dotGeneral Cert.RefPoolGrpTIdeal.dot_S4x512x8448_S4x512x512_S4x8448x512_1_2_2_1_0_0 none (transpose Cert.RefPoolGrpTIdeal.S4x512x8448 [1, 2, 0] (shapeCast _ (extf .f32 X Cert.RefPoolGrpTIdeal.Gen.bitsLt_bf16_f32) Cert.RefPoolGrpTIdeal.Gen.shapeCasts_S8448x2048_S8448x4x512) Cert.RefPoolGrpTIdeal.Gen.transposes_S8448x4x512_S4x512x8448_1_2_0) W) Cert.RefPoolGrpTIdeal.Gen.transposes_S4x8448x512_S8448x4x512_1_0_2) Cert.RefPoolGrpTIdeal.Gen.shapeCasts_S8448x4x512_S8448x2048

/-- The reference at an index: a column's group, then the contraction over that group's columns. -/
theorem ref_at (X W) (j : S8448x2048.Idx) :
    REF X W j = ∑ k : Fin 512, X (ix2 (j 0) ⟨(j 1 : ℕ) / 512 * 512 + k, by have h : (j 1 : ℕ) < 2048 := (j 1).isLt; omega⟩)
      * W (ix3 ⟨(j 1 : ℕ) / 512, by have h : (j 1 : ℕ) < 2048 := (j 1).isLt; omega⟩ ⟨(j 1 : ℕ) % 512, by omega⟩ k) := by
  idx_vars j
  pointwise [REF]

/-- The grouped weight as the region finds it: each group cut into four shards along its rows. -/
abbrev SH (W : FVec Ideal S4x512x512 .f32) : FVec Ideal S4x1x4x128x512 .bf16 :=
  truncf .bf16 (broadcastInDim S4x1x4x128x512 ![0, 2, 3, 4] bcast_S4x4x128x512_S4x1x4x128x512_0_2_3_4 (transpose S4x4x128x512 [1, 0, 2, 3] (shapeCast S4x4x128x512 W shapeCasts_S4x512x512_S4x4x128x512) transposes_S4x4x128x512_S4x4x128x512_1_0_2_3)) bitsLt_bf16_f32

/-- The shards at an index. -/
theorem sh_at (W) (s : Fin 4) (z : Fin 1) (g : Fin 4) (p : Fin 128) (q : Fin 512) (i : S4x512x512.Idx)
    (h0 : (i 0 : ℕ) = g) (h1 : (i 1 : ℕ) = s * 128 + p) (h2 : (i 2 : ℕ) = q) :
    SH W (ix5 s z g p q) = W i := by
  pointwise [SH]
  blk_ext

/-- The host operations before the region leave the shards in the kernel's second operand. -/
theorem sh_eq (c : Dev nD) : V m c main_v3 = SH (m ((c : Thread nD τ).loc main_arg1)) := by
  unfold V
  after_results <;> rfl

/-- A block of the weight's shards, read in the weight. -/
theorem blk1 (c : Dev nD) (p : Fin cfg0.N) (s : Fin 4) (q : Fin 128) (k : Fin 512) (i : S4x512x512.Idx)
    (h0 : (i 0 : ℕ) = p.val % 4) (h1 : (i 1 : ℕ) = s * 128 + q) (h2 : (i 2 : ℕ) = k) :
    iblk m c 1 p (ix5 s 0 0 q k) = m ((c : Thread nD τ).loc main_arg1) i := by
  rw [← sh_at (m ((c : Thread nD τ).loc main_arg1)) s 0 ⟨p.val % 4, by omega⟩ q k i (by dsimp only; omega) (by dsimp only; omega) h2, ← sh_eq]
  blk_ext [iblk, idx p]

/-- A block of the incoming gradient, read in the array. -/
theorem blk0 (c : Dev nD) (p : Fin cfg0.N) (q : Fin 768) (k : Fin 512) (i : S8448x2048.Idx)
    (h0 : (i 0 : ℕ) = p.val / 4 * 768 + q) (h1 : (i 1 : ℕ) = p.val % 4 * 512 + k) :
    iblk m c 0 p (ix2 q k) = m ((c : Thread nD τ).loc main_arg0) i := by
  rw [← V_main_arg0 m c]
  blk_ext [iblk, idx p]

/-- The result array is the reference's term of the arguments. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [pay_at, ref_at]
  have hy : (y 1 : ℕ) < 512 := (y 1).isLt
  refine Fin.sum_fin_congr fun k => ?_
  refine Ideal.mul_congr (blk0 m c _ _ _ _ ?_ ?_) (blk1 m c _ _ _ _ _ ?_ ?_ ?_)
  all_goals (blk_simp [idx t] <;> (try dsimp only) <;> omega)

end Cert.PoolGrpTIdeal.Hand

/-- From equal arguments the kernel and the reference end with equal results. -/
theorem Cert.PoolGrpTIdeal.Hand.algebraic : Cert.algebraic_PoolGrpTIdeal_RefPoolGrpTIdeal
    (hPoolGrpTIdeal := Cert.PoolGrpTIdeal.Gen.facts) (hRefPoolGrpTIdeal := Cert.RefPoolGrpTIdeal.Gen.facts) := by
  pair_intro
  · run_from Cert.PoolGrpTIdeal.Value.run_blocks m g
  · run_from Cert.RefPoolGrpTIdeal.Value.run m' g'
    exact (Cert.PoolGrpTIdeal.Hand.final m c).symm

end
-- ==== Proof.PoolIn.lean ====
module

public import proofs.«01_k».proof.Proof.Gen.PoolInIdeal.Value
public import proofs.«01_k».proof.Proof.Gen.RefPoolInIdeal.Run
public import proofs.«01_k».proof.Defs
public import Idealize.ShloMosaic.Lib.Pipeline.ValueKit
public import Idealize.ShloMosaic.Lib.Tactic
public import Idealize.ShloMosaic.Lib.Pointwise

/-! The pooling mixer's input product: the kernel's array is the reference's. -/

@[expose] public section

set_option maxRecDepth 16384

noncomputable section

namespace Cert.PoolInIdeal.Hand

open Idealize.ShloMosaic Idealize.ShloMosaic.TcCoe Idealize.SL.Sem
open Idealize.ShloMosaic.Pipeline (Dat)
open Cert.PoolInIdeal Cert.PoolInIdeal.Gen

variable (m : (ℓ : Loc nD τ sig) → Buf (Elt Ideal) ℓ)

/-- The zero fill at an index. -/
theorem zero_at (j) : k0_pay1 (F := Ideal) j = 0 := by pointwise [k0_pay1]

/-- One step of the accumulation at an index: what was there, plus a block's worth of the contraction. -/
theorem step_at (acc x y j) : k0_pay2 (F := Ideal) acc x y j
    = acc j + ∑ k : Fin 512, x (ix2 (j 0) k) * y (ix4 0 0 k (j 1)) := by pointwise [k0_pay2]

/-- Every window's block index at a grid point. -/
theorem idx : ∀ t : Fin cfg0.N, win0_0.index t = ![t.val / 8, t.val % 4]
    ∧ win0_1.index t = ![t.val % 4, 0, 0, t.val / 4 % 2]
    ∧ win0_2.index t = ![t.val / 8, t.val / 4 % 2] :=
  (by decide +kernel : ∀ t : Fin grid0.N, _)

/-- The reference's term over variables. -/
abbrev REF (X : FVec Ideal S8448x2048 .bf16) (W : FVec Ideal S2048x2048 .f32) : FVec Ideal S8448x2048 .f32 :=
  Host.dotGeneral Cert.RefPoolInIdeal.dot_S8448x2048_S2048x2048_S8448x2048_1_0_0_1_n_n none (extf .f32 X Cert.RefPoolInIdeal.Gen.bitsLt_bf16_f32) W

/-- The reference at an index. -/
theorem ref_at (X W) (j : S8448x2048.Idx) :
    REF X W j = ∑ k : Fin 2048, X (ix2 (j 0) k) * W (ix2 k (j 1)) := by
  pointwise [REF]

/-- The weight as the region finds it: cut into four shards along its rows. -/
abbrev SH (W : FVec Ideal S2048x2048 .f32) : FVec Ideal S4x1x512x2048 .bf16 :=
  truncf .bf16 (shapeCast S4x1x512x2048 W shapeCasts_S2048x2048_S4x1x512x2048) bitsLt_bf16_f32

/-- The shards at an index. -/
theorem sh_at (W) (s : Fin 4) (z : Fin 1) (p : Fin 512) (q : Fin 2048) (i : S2048x2048.Idx) (h0 : (i 0 : ℕ) = s * 512 + p) (h1 : (i 1 : ℕ) = q) :
    SH W (ix4 s z p q) = W i := by
  pointwise [SH]
  blk_ext

/-- The host operations before the region leave the shards in the kernel's second operand. -/
theorem sh_eq (c : Dev nD) : V m c main_v1 = SH (m ((c : Thread nD τ).loc main_arg1)) := by
  unfold V
  after_results <;> rfl

/-- A block of the mixer's input rows, read in the array. -/
theorem blk0 (c : Dev nD) (p : Fin cfg0.N) (q : Fin 768) (k : Fin 512) (i : S8448x2048.Idx)
    (h0 : (i 0 : ℕ) = p.val / 8 * 768 + q) (h1 : (i 1 : ℕ) = p.val % 4 * 512 + k) :
    iblk m c 0 p (ix2 q k) = m ((c : Thread nD τ).loc main_arg0) i := by
  rw [← V_main_arg0 m c]
  blk_ext [iblk, idx p]

/-- A block of the weight's shards, read in the weight. -/
theorem blk1 (c : Dev nD) (p : Fin cfg0.N) (q : Fin 512) (k : Fin 1024) (i : S2048x2048.Idx)
    (h0 : (i 0 : ℕ) = p.val % 4 * 512 + q) (h1 : (i 1 : ℕ) = p.val / 4 % 2 * 1024 + k) :
    iblk m c 1 p (ix4 0 0 q k) = m ((c : Thread nD τ).loc main_arg1) i := by
  rw [← sh_at (m ((c : Thread nD τ).loc main_arg1)) ⟨p.val % 4, by omega⟩ 0 q ⟨p.val / 4 % 2 * 1024 + k, by omega⟩ i (by dsimp only; omega) (by dsimp only; omega), ← sh_eq]
  blk_ext [iblk, idx p]

/-- The accumulator after the last point of a run, at an index. -/
theorem acc_at (c : Dev nD) (t : Fin cfg0.N) (hr : t.val % 4 = 3) (j) :
    (outsAt0 m c t.val t.isLt).2 j = 0 + ∑ s : Fin 4, ∑ k : Fin 512,
      (show FVec Ideal S768x512 .bf16 from iblk m c 0 ⟨4 * (t.val / 4) + s.val, Pipeline.run_point_lt_of_flush t hr s⟩) (ix2 (j 0) k)
      * (show FVec Ideal S1x1x512x1024 .bf16 from iblk m c 1 ⟨4 * (t.val / 4) + s.val, Pipeline.run_point_lt_of_flush t hr s⟩) (ix4 0 0 k (j 1)) :=
  Pipeline.eq_sum_fin_of_reset_step_apply_of_flush (fun n h => (outsAt0 m c n h).2) 4 (fun _ => 0)
    (fun p j => ∑ k : Fin 512, (show FVec Ideal S768x512 .bf16 from iblk m c 0 p) (ix2 (j 0) k)
      * (show FVec Ideal S1x1x512x1024 .bf16 from iblk m c 1 p) (ix4 0 0 k (j 1)))
    (fun t h j => by
      rw [outsAt0_A m c t h (by omega)]; frame_out; rw [step_at, zero_at])
    (fun t h j => by
      by_cases h1 : t.val % 4 = 3
      · rw [outsAt0_C m c t h h1]; frame_out; rw [step_at, (Memref.isWhole_whole _).read_unread]
      · rw [outsAt0_B m c t h h1]; frame_out; rw [step_at, (Memref.isWhole_whole _).read_unread]) t hr j

/-- What the last point of a run leaves in the output block. -/
theorem block_eq (c : Dev nD) (t : Fin cfg0.N) (hr : t.val % 4 = 3) :
    (outsAt0 m c t.val t.isLt).1 = (outsAt0 m c t.val t.isLt).2 := by
  rw [outsAt0_C m c t (by omega) hr]; frame_out

/-- The result array is the reference's term of the arguments. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t hf y => ?_
  blk_simp
  have hr := (flush0_2 t).mp hf
  rw [after0_2, block_eq m c t hr, acc_at m c t hr, zero_add, ref_at]
  refine Fin.sum_mul_add_congr fun s k hl => ?_
  refine Ideal.mul_congr (blk0 m c _ _ _ _ ?_ ?_) (blk1 m c _ _ _ _ ?_ ?_)
  all_goals (blk_simp [idx t] <;> (try dsimp only) <;> omega)

end Cert.PoolInIdeal.Hand

/-- From equal arguments the kernel and the reference end with equal results. -/
theorem Cert.PoolInIdeal.Hand.algebraic : Cert.algebraic_PoolInIdeal_RefPoolInIdeal
    (hPoolInIdeal := Cert.PoolInIdeal.Gen.facts) (hRefPoolInIdeal := Cert.RefPoolInIdeal.Gen.facts) := by
  pair_intro
  · run_from Cert.PoolInIdeal.Value.run_blocks m g
  · run_from Cert.RefPoolInIdeal.Value.run m' g'
    exact (Cert.PoolInIdeal.Hand.final m c).symm

end
-- ==== Proof.Readout.lean ====
module

public import proofs.«01_k».proof.Proof.Gen.ReadoutIdeal.Value
public import proofs.«01_k».proof.Proof.Gen.RefReadoutIdeal.Run
public import proofs.«01_k».proof.Defs
public import Idealize.ShloMosaic.Lib.Pipeline.ValueKit
public import Idealize.ShloMosaic.Lib.Tactic
public import Idealize.ShloMosaic.Lib.Pointwise

/-! The readout of the scan: the two directions added, each head over its root mean square, the gain and the gate. -/

@[expose] public section

set_option maxRecDepth 16384

noncomputable section

namespace Cert.RefReadoutIdeal.Hand

open Idealize.ShloMosaic Idealize.ShloMosaic.TcCoe Idealize.SL.Sem
open Idealize.ShloMosaic.Pipeline (Dat)
open Cert.RefReadoutIdeal Cert.RefReadoutIdeal.Gen

/-- The reference's result over variables. -/
def ref (X : FVec Ideal S8448x1024 .f32) (Y : FVec Ideal S8448x1024 .f32) (P : FVec Ideal S8448x7168 .f32) (G : FVec Ideal S1024 .f32) : FVec Ideal S8448x1024 .bf16 :=
  truncf .bf16 (mulf (mulf (shapeCast _ (mulf (shapeCast _ (addf X Y) shapeCasts_S8448x1024_S8448x8x128) (broadcastInDim S8448x8x128 ![0, 1, 2] bcast_S8448x8x1_S8448x8x128_0_1_2 (Host.rsqrt (addf (Host.divf (broadcastInDim S8448x8x1 ![0, 1] bcast_S8448x8_S8448x8x1_0_1 (Host.reduceAdd (mulf (shapeCast _ (addf X Y) shapeCasts_S8448x1024_S8448x8x128) (shapeCast _ (addf X Y) shapeCasts_S8448x1024_S8448x8x128)) (constant S_ .f32 0x00000000#32) reducesTo_S8448x8x128_S8448x8_d2 h_S_)) (broadcastInDim S8448x8x1 ![] bcast_S_S8448x8x1 (constant S_ .f32 0x43000000#32))) (broadcastInDim S8448x8x1 ![] bcast_S_S8448x8x1 (constant S_ .f32 0x358637BD#32)))))) shapeCasts_S8448x8x128_S8448x1024) (broadcastInDim S8448x1024 ![0, 1] bcast_S1x1024_S8448x1024_0_1 (broadcastInDim S1x1024 ![1] bcast_S1024_S1x1024_1 G))) (mulf (extractStridedSlice S8448x1024 ![0, 4096] P slices_S8448x7168_S8448x1024_0_4096) (Host.divf (broadcastInDim S8448x1024 ![] bcast_S_S8448x1024 (constant S_ .f32 0x3F800000#32)) (addf (broadcastInDim S8448x1024 ![] bcast_S_S8448x1024 (constant S_ .f32 0x3F800000#32)) (Host.exp (Host.negf (extractStridedSlice S8448x1024 ![0, 4096] P slices_S8448x7168_S8448x1024_0_4096))))))) bitsLt_bf16_f32

/-- The reference at an index: the head of a column is the column over 128. -/
theorem ref_at (X : FVec Ideal S8448x1024 .f32) (Y : FVec Ideal S8448x1024 .f32) (P : FVec Ideal S8448x7168 .f32) (G : FVec Ideal S1024 .f32) (a : Fin 8448) (b : Fin 1024) :
    ref X Y P G (ix2 a b) = (X (ix2 a b) + Y (ix2 a b)) * Ideal.rsqrt (Ideal.div (∑ k : Fin 128, (X (ix2 a ⟨(b : ℕ) / 128 * 128 + k, by omega⟩) + Y (ix2 a ⟨(b : ℕ) / 128 * 128 + k, by omega⟩)) * (X (ix2 a ⟨(b : ℕ) / 128 * 128 + k, by omega⟩) + Y (ix2 a ⟨(b : ℕ) / 128 * 128 + k, by omega⟩))) (Ideal.ofBits .f32 0x43000000#32) + Ideal.ofBits .f32 0x358637BD#32) * G (ix1 b) * (P (ix2 a ⟨4096 + (b : ℕ), by omega⟩) * Ideal.logistic (P (ix2 a ⟨4096 + (b : ℕ), by omega⟩))) := by
  pointwise [ref]
  rfl

end Cert.RefReadoutIdeal.Hand

namespace Cert.ReadoutIdeal.Hand

open Idealize.ShloMosaic Idealize.ShloMosaic.TcCoe Idealize.SL.Sem
open Idealize.ShloMosaic.Pipeline (Dat)
open Cert.ReadoutIdeal Cert.ReadoutIdeal.Gen

variable (m : (ℓ : Loc nD τ sig) → Buf (Elt Ideal) ℓ)

/-- Every window's block index at a grid point. -/
theorem idx : ∀ t : Fin cfg0.N, win0_0.index t = ![t.val, 0]
    ∧ win0_1.index t = ![t.val, 0]
    ∧ win0_2.index t = ![t.val, 4]
    ∧ win0_3.index t = ![0, 0]
    ∧ win0_4.index t = ![t.val, 0] :=
  (by decide +kernel : ∀ t : Fin grid0.N, _)

/-- One head's columns at an index: what each of the eight stores holds. -/
theorem head_at (X Y : FVec Ideal S256x128 .f32) (G : FVec Ideal S1x128 .f32) (P : FVec Ideal S256x128 .f32) (a : Fin 256) (b : Fin 128) :
    k0_pay1 (F := Ideal) X Y G P (ix2 a b) = (X (ix2 a b) + Y (ix2 a b)) * Ideal.rsqrt (Ideal.div (∑ k : Fin 128, (X (ix2 a k) + Y (ix2 a k)) * (X (ix2 a k) + Y (ix2 a k))) (Ideal.ofBits .f32 0x43000000#32) + Ideal.ofBits .f32 0x358637BD#32) * G (ix2 0 b) * (P (ix2 a b) * Ideal.logistic (P (ix2 a b))) := by
  pointwise [k0_pay1]

/-- What a row's element of the block becomes. -/
def cell (X Y P : FVec Ideal S256x1024 .f32) (G : FVec Ideal S1x1024 .f32) (a : Fin 256) (b : Fin 1024) : EReal :=
  (X (ix2 a b) + Y (ix2 a b)) * Ideal.rsqrt (Ideal.div (∑ k : Fin 128, (X (ix2 a ⟨(b : ℕ) / 128 * 128 + k, by omega⟩) + Y (ix2 a ⟨(b : ℕ) / 128 * 128 + k, by omega⟩)) * (X (ix2 a ⟨(b : ℕ) / 128 * 128 + k, by omega⟩) + Y (ix2 a ⟨(b : ℕ) / 128 * 128 + k, by omega⟩))) (Ideal.ofBits .f32 0x43000000#32) + Ideal.ofBits .f32 0x358637BD#32) * G (ix2 0 b) * (P (ix2 a b) * Ideal.logistic (P (ix2 a b)))

/-- One head's store at its own index is the block's formula at that head's column. -/
theorem piece_at (X Y P : FVec Ideal S256x1024 .f32) (G : FVec Ideal S1x1024 .f32) (n : ℕ) (hn : n < 8)
    (X' Y' P' : FVec Ideal S256x128 .f32) (G' : FVec Ideal S1x128 .f32)
    (hX : ∀ (a : Fin 256) (b : Fin 128), X' (ix2 a b) = X (ix2 a ⟨n * 128 + b, by omega⟩))
    (hY : ∀ (a : Fin 256) (b : Fin 128), Y' (ix2 a b) = Y (ix2 a ⟨n * 128 + b, by omega⟩))
    (hP : ∀ (a : Fin 256) (b : Fin 128), P' (ix2 a b) = P (ix2 a ⟨n * 128 + b, by omega⟩))
    (hG : ∀ (b : Fin 128), G' (ix2 0 b) = G (ix2 0 ⟨n * 128 + b, by omega⟩))
    (a : Fin 256) (b : Fin 128) :
    k0_pay1 (F := Ideal) X' Y' G' P' (ix2 a b) = cell X Y P G a ⟨n * 128 + b, by omega⟩ := by
  have hk : ∀ k : Fin 128, (⟨(n * 128 + (b : ℕ)) / 128 * 128 + (k : ℕ), by omega⟩ : Fin 1024) = ⟨n * 128 + (k : ℕ), by omega⟩ :=
    fun k => Fin.ext (by dsimp only; omega)
  rw [head_at]
  unfold cell
  simp only [hX, hY, hP, hG, hk]

/-- One head's store is that head's part of the block. -/
theorem piece (X Y P : FVec Ideal S256x1024 .f32) (G : FVec Ideal S1x1024 .f32) (n : ℕ) (hn : n < 8)
    (X' Y' P' : FVec Ideal S256x128 .f32) (G' : FVec Ideal S1x128 .f32)
    (hX : ∀ (a : Fin 256) (b : Fin 128), X' (ix2 a b) = X (ix2 a ⟨n * 128 + b, by omega⟩))
    (hY : ∀ (a : Fin 256) (b : Fin 128), Y' (ix2 a b) = Y (ix2 a ⟨n * 128 + b, by omega⟩))
    (hP : ∀ (a : Fin 256) (b : Fin 128), P' (ix2 a b) = P (ix2 a ⟨n * 128 + b, by omega⟩))
    (hG : ∀ (b : Fin 128), G' (ix2 0 b) = G (ix2 0 ⟨n * 128 + b, by omega⟩))
    (y : S256x1024.Idx) (x : S256x128.Idx) (h0 : (y 0 : ℕ) = x 0) (h1 : (y 1 : ℕ) = n * 128 + x 1) :
    k0_pay1 (F := Ideal) X' Y' G' P' x = cell X Y P G (y 0) (y 1) := by
  have hx1 : (x 1 : ℕ) < 128 := (x 1).isLt
  have ex : x = ix2 (x 0) (x 1) := by idx_vars x; rfl
  have e1 : (⟨n * 128 + (x 1 : ℕ), by omega⟩ : Fin 1024) = y 1 := Fin.ext h1.symm
  have e0 : x 0 = y 0 := Fin.ext h0.symm
  refine Eq.trans ?_ (congrArg₂ (cell X Y P G) e0 e1)
  refine (congrArg _ ex).trans (piece_at X Y P G n hn X' Y' P' G' hX hY hP hG (x 0) (x 1))

/-- Head 0's columns of a block. -/
theorem cols0 (x : FVec Ideal S256x1024 .f32) (a : Fin 256) (b : Fin 128) :
    View.ld (Val := Elt Ideal) (e' := .f32) x r0_0 (ix2 a b) = x (ix2 a ⟨0 * 128 + (b : ℕ), by omega⟩) := by
  blk_ext [View.ld] <;> first | rfl | simp [Rect.unit]

/-- Head 0's columns of the gain. -/
theorem gain0 (x : FVec Ideal S1x1024 .f32) (b : Fin 128) :
    View.ld (Val := Elt Ideal) (e' := .f32) x r0_1 (ix2 0 b) = x (ix2 0 ⟨0 * 128 + (b : ℕ), by omega⟩) := by
  blk_ext [View.ld] <;> first | rfl | simp [Rect.unit]

/-- Head 1's columns of a block. -/
theorem cols1 (x : FVec Ideal S256x1024 .f32) (a : Fin 256) (b : Fin 128) :
    View.ld (Val := Elt Ideal) (e' := .f32) x r0_2 (ix2 a b) = x (ix2 a ⟨1 * 128 + (b : ℕ), by omega⟩) := by
  blk_ext [View.ld] <;> first | rfl | simp [Rect.unit]

/-- Head 1's columns of the gain. -/
theorem gain1 (x : FVec Ideal S1x1024 .f32) (b : Fin 128) :
    View.ld (Val := Elt Ideal) (e' := .f32) x r0_3 (ix2 0 b) = x (ix2 0 ⟨1 * 128 + (b : ℕ), by omega⟩) := by
  blk_ext [View.ld] <;> first | rfl | simp [Rect.unit]

/-- Head 2's columns of a block. -/
theorem cols2 (x : FVec Ideal S256x1024 .f32) (a : Fin 256) (b : Fin 128) :
    View.ld (Val := Elt Ideal) (e' := .f32) x r0_4 (ix2 a b) = x (ix2 a ⟨2 * 128 + (b : ℕ), by omega⟩) := by
  blk_ext [View.ld] <;> first | rfl | simp [Rect.unit]

/-- Head 2's columns of the gain. -/
theorem gain2 (x : FVec Ideal S1x1024 .f32) (b : Fin 128) :
    View.ld (Val := Elt Ideal) (e' := .f32) x r0_5 (ix2 0 b) = x (ix2 0 ⟨2 * 128 + (b : ℕ), by omega⟩) := by
  blk_ext [View.ld] <;> first | rfl | simp [Rect.unit]

/-- Head 3's columns of a block. -/
theorem cols3 (x : FVec Ideal S256x1024 .f32) (a : Fin 256) (b : Fin 128) :
    View.ld (Val := Elt Ideal) (e' := .f32) x r0_6 (ix2 a b) = x (ix2 a ⟨3 * 128 + (b : ℕ), by omega⟩) := by
  blk_ext [View.ld] <;> first | rfl | simp [Rect.unit]

/-- Head 3's columns of the gain. -/
theorem gain3 (x : FVec Ideal S1x1024 .f32) (b : Fin 128) :
    View.ld (Val := Elt Ideal) (e' := .f32) x r0_7 (ix2 0 b) = x (ix2 0 ⟨3 * 128 + (b : ℕ), by omega⟩) := by
  blk_ext [View.ld] <;> first | rfl | simp [Rect.unit]

/-- Head 4's columns of a block. -/
theorem cols4 (x : FVec Ideal S256x1024 .f32) (a : Fin 256) (b : Fin 128) :
    View.ld (Val := Elt Ideal) (e' := .f32) x r0_8 (ix2 a b) = x (ix2 a ⟨4 * 128 + (b : ℕ), by omega⟩) := by
  blk_ext [View.ld] <;> first | rfl | simp [Rect.unit]

/-- Head 4's columns of the gain. -/
theorem gain4 (x : FVec Ideal S1x1024 .f32) (b : Fin 128) :
    View.ld (Val := Elt Ideal) (e' := .f32) x r0_9 (ix2 0 b) = x (ix2 0 ⟨4 * 128 + (b : ℕ), by omega⟩) := by
  blk_ext [View.ld] <;> first | rfl | simp [Rect.unit]

/-- Head 5's columns of a block. -/
theorem cols5 (x : FVec Ideal S256x1024 .f32) (a : Fin 256) (b : Fin 128) :
    View.ld (Val := Elt Ideal) (e' := .f32) x r0_10 (ix2 a b) = x (ix2 a ⟨5 * 128 + (b : ℕ), by omega⟩) := by
  blk_ext [View.ld] <;> first | rfl | simp [Rect.unit]

/-- Head 5's columns of the gain. -/
theorem gain5 (x : FVec Ideal S1x1024 .f32) (b : Fin 128) :
    View.ld (Val := Elt Ideal) (e' := .f32) x r0_11 (ix2 0 b) = x (ix2 0 ⟨5 * 128 + (b : ℕ), by omega⟩) := by
  blk_ext [View.ld] <;> first | rfl | simp [Rect.unit]

/-- Head 6's columns of a block. -/
theorem cols6 (x : FVec Ideal S256x1024 .f32) (a : Fin 256) (b : Fin 128) :
    View.ld (Val := Elt Ideal) (e' := .f32) x r0_12 (ix2 a b) = x (ix2 a ⟨6 * 128 + (b : ℕ), by omega⟩) := by
  blk_ext [View.ld] <;> first | rfl | simp [Rect.unit]

/-- Head 6's columns of the gain. -/
theorem gain6 (x : FVec Ideal S1x1024 .f32) (b : Fin 128) :
    View.ld (Val := Elt Ideal) (e' := .f32) x r0_13 (ix2 0 b) = x (ix2 0 ⟨6 * 128 + (b : ℕ), by omega⟩) := by
  blk_ext [View.ld] <;> first | rfl | simp [Rect.unit]

/-- Head 7's columns of a block. -/
theorem cols7 (x : FVec Ideal S256x1024 .f32) (a : Fin 256) (b : Fin 128) :
    View.ld (Val := Elt Ideal) (e' := .f32) x r0_14 (ix2 a b) = x (ix2 a ⟨7 * 128 + (b : ℕ), by omega⟩) := by
  blk_ext [View.ld] <;> first | rfl | simp [Rect.unit]

/-- Head 7's columns of the gain. -/
theorem gain7 (x : FVec Ideal S1x1024 .f32) (b : Fin 128) :
    View.ld (Val := Elt Ideal) (e' := .f32) x r0_15 (ix2 0 b) = x (ix2 0 ⟨7 * 128 + (b : ℕ), by omega⟩) := by
  blk_ext [View.ld] <;> first | rfl | simp [Rect.unit]

/-- The block the body leaves, at an index: every head by the same formula. -/
theorem block_at (X Y P : FVec Ideal S256x1024 .f32) (G : FVec Ideal S1x1024 .f32) (y : S256x1024.Idx) :
    out0_4 (F := Ideal) X Y P G y = cell X Y P G (y 0) (y 1) := by
  unfold out0_4
  canon_tiles x h
  · exact piece X Y P G 7 (by omega) (show FVec Ideal S256x128 .f32 from View.ld (Val := Elt Ideal) (e' := .f32) X r0_14) (show FVec Ideal S256x128 .f32 from View.ld (Val := Elt Ideal) (e' := .f32) Y r0_14) (show FVec Ideal S256x128 .f32 from View.ld (Val := Elt Ideal) (e' := .f32) P r0_14) (show FVec Ideal S1x128 .f32 from View.ld (Val := Elt Ideal) (e' := .f32) G r0_15) (cols7 X) (cols7 Y) (cols7 P) (gain7 G) y x (by omega) (by omega)
  · exact piece X Y P G 6 (by omega) (show FVec Ideal S256x128 .f32 from View.ld (Val := Elt Ideal) (e' := .f32) X r0_12) (show FVec Ideal S256x128 .f32 from View.ld (Val := Elt Ideal) (e' := .f32) Y r0_12) (show FVec Ideal S256x128 .f32 from View.ld (Val := Elt Ideal) (e' := .f32) P r0_12) (show FVec Ideal S1x128 .f32 from View.ld (Val := Elt Ideal) (e' := .f32) G r0_13) (cols6 X) (cols6 Y) (cols6 P) (gain6 G) y x (by omega) (by omega)
  · exact piece X Y P G 5 (by omega) (show FVec Ideal S256x128 .f32 from View.ld (Val := Elt Ideal) (e' := .f32) X r0_10) (show FVec Ideal S256x128 .f32 from View.ld (Val := Elt Ideal) (e' := .f32) Y r0_10) (show FVec Ideal S256x128 .f32 from View.ld (Val := Elt Ideal) (e' := .f32) P r0_10) (show FVec Ideal S1x128 .f32 from View.ld (Val := Elt Ideal) (e' := .f32) G r0_11) (cols5 X) (cols5 Y) (cols5 P) (gain5 G) y x (by omega) (by omega)
  · exact piece X Y P G 4 (by omega) (show FVec Ideal S256x128 .f32 from View.ld (Val := Elt Ideal) (e' := .f32) X r0_8) (show FVec Ideal S256x128 .f32 from View.ld (Val := Elt Ideal) (e' := .f32) Y r0_8) (show FVec Ideal S256x128 .f32 from View.ld (Val := Elt Ideal) (e' := .f32) P r0_8) (show FVec Ideal S1x128 .f32 from View.ld (Val := Elt Ideal) (e' := .f32) G r0_9) (cols4 X) (cols4 Y) (cols4 P) (gain4 G) y x (by omega) (by omega)
  · exact piece X Y P G 3 (by omega) (show FVec Ideal S256x128 .f32 from View.ld (Val := Elt Ideal) (e' := .f32) X r0_6) (show FVec Ideal S256x128 .f32 from View.ld (Val := Elt Ideal) (e' := .f32) Y r0_6) (show FVec Ideal S256x128 .f32 from View.ld (Val := Elt Ideal) (e' := .f32) P r0_6) (show FVec Ideal S1x128 .f32 from View.ld (Val := Elt Ideal) (e' := .f32) G r0_7) (cols3 X) (cols3 Y) (cols3 P) (gain3 G) y x (by omega) (by omega)
  · exact piece X Y P G 2 (by omega) (show FVec Ideal S256x128 .f32 from View.ld (Val := Elt Ideal) (e' := .f32) X r0_4) (show FVec Ideal S256x128 .f32 from View.ld (Val := Elt Ideal) (e' := .f32) Y r0_4) (show FVec Ideal S256x128 .f32 from View.ld (Val := Elt Ideal) (e' := .f32) P r0_4) (show FVec Ideal S1x128 .f32 from View.ld (Val := Elt Ideal) (e' := .f32) G r0_5) (cols2 X) (cols2 Y) (cols2 P) (gain2 G) y x (by omega) (by omega)
  · exact piece X Y P G 1 (by omega) (show FVec Ideal S256x128 .f32 from View.ld (Val := Elt Ideal) (e' := .f32) X r0_2) (show FVec Ideal S256x128 .f32 from View.ld (Val := Elt Ideal) (e' := .f32) Y r0_2) (show FVec Ideal S256x128 .f32 from View.ld (Val := Elt Ideal) (e' := .f32) P r0_2) (show FVec Ideal S1x128 .f32 from View.ld (Val := Elt Ideal) (e' := .f32) G r0_3) (cols1 X) (cols1 Y) (cols1 P) (gain1 G) y x (by omega) (by omega)
  · exact piece X Y P G 0 (by omega) (show FVec Ideal S256x128 .f32 from View.ld (Val := Elt Ideal) (e' := .f32) X r0_0) (show FVec Ideal S256x128 .f32 from View.ld (Val := Elt Ideal) (e' := .f32) Y r0_0) (show FVec Ideal S256x128 .f32 from View.ld (Val := Elt Ideal) (e' := .f32) P r0_0) (show FVec Ideal S1x128 .f32 from View.ld (Val := Elt Ideal) (e' := .f32) G r0_1) (cols0 X) (cols0 Y) (cols0 P) (gain0 G) y x (by omega) (by omega)

/-- A block of the forward direction's scan, read in the array. -/
theorem blk0 (c : Dev nD) (t : Fin cfg0.N) (q : Fin 256) (k : Fin 1024) (i : S8448x1024.Idx)
    (h0 : (i 0 : ℕ) = t.val * 256 + q) (h1 : (i 1 : ℕ) = k) :
    iblk m c 0 t (ix2 q k) = (m ((c : Thread nD τ).loc main_arg0)) i := by
  rw [← V_main_arg0 m c]
  blk_ext [iblk, idx t]

/-- A block of the backward direction's scan, read in the array. -/
theorem blk1 (c : Dev nD) (t : Fin cfg0.N) (q : Fin 256) (k : Fin 1024) (i : S8448x1024.Idx)
    (h0 : (i 0 : ℕ) = t.val * 256 + q) (h1 : (i 1 : ℕ) = k) :
    iblk m c 1 t (ix2 q k) = (m ((c : Thread nD τ).loc main_arg1)) i := by
  rw [← V_main_arg1 m c]
  blk_ext [iblk, idx t]

/-- A block of the gate's columns of the projection, read in the array. -/
theorem blk2 (c : Dev nD) (t : Fin cfg0.N) (q : Fin 256) (k : Fin 1024) (i : S8448x7168.Idx)
    (h0 : (i 0 : ℕ) = t.val * 256 + q) (h1 : (i 1 : ℕ) = 4096 + k) :
    iblk m c 2 t (ix2 q k) = (m ((c : Thread nD τ).loc main_arg2)) i := by
  rw [← V_main_arg2 m c]
  blk_ext [iblk, idx t]

/-- The gain as the region finds it: one row. -/
theorem gain_eq (c : Dev nD) : V m c main_v0 = broadcastInDim S1x1024 ![1] bcast_S1024_S1x1024_1 (m ((c : Thread nD τ).loc main_arg3)) := by
  unfold V
  after_results <;> rfl

/-- The gain's row at an index. -/
theorem gain_at (G : FVec Ideal S1024 .f32) (b : Fin 1024) :
    broadcastInDim S1x1024 ![1] bcast_S1024_S1x1024_1 G (ix2 0 b) = G (ix1 b) := by
  pointwise

/-- The gain's block, read in the array. -/
theorem blk3 (c : Dev nD) (t : Fin cfg0.N) (k : Fin 1024) : iblk m c 3 t (ix2 0 k) = (m ((c : Thread nD τ).loc main_arg3)) (ix1 k) := by
  rw [← gain_at (m ((c : Thread nD τ).loc main_arg3)), ← gain_eq]
  blk_ext [iblk, idx t]

/-- The kernel's array is the reference's. -/
theorem final (c : Dev nD) : (dats m 0 c).arrAt 4 cfg0.N = Cert.RefReadoutIdeal.Hand.ref (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  have hy0 : (y 0 : ℕ) < 256 := (y 0).isLt
  have hy1 : (y 1 : ℕ) < 1024 := (y 1).isLt
  have ht : t.val < 33 := t.isLt
  have ey : y = ix2 (y 0) (y 1) := by idx_vars y; rfl
  have e : ((win0_4.blk t).view.emb y : S8448x1024.Idx) = ix2 ⟨t.val * 256 + (y 0 : ℕ), by omega⟩ (y 1) := by
    blk_ext [idx t]
  refine ((block_at (iblk m c 0 t) (iblk m c 1 t) (iblk m c 2 t) (iblk m c 3 t) y).trans ?_).trans (congrArg _ e).symm
  refine Eq.trans ?_ (Cert.RefReadoutIdeal.Hand.ref_at _ _ _ _ ⟨t.val * 256 + (y 0 : ℕ), by omega⟩ (y 1)).symm
  have e0 : ∀ k : Fin 1024, iblk m c 0 t (ix2 (y 0) k) = (m ((c : Thread nD τ).loc main_arg0)) (ix2 ⟨t.val * 256 + (y 0 : ℕ), by omega⟩ k) := fun k => blk0 m c t (y 0) k _ rfl rfl
  have e1 : ∀ k : Fin 1024, iblk m c 1 t (ix2 (y 0) k) = (m ((c : Thread nD τ).loc main_arg1)) (ix2 ⟨t.val * 256 + (y 0 : ℕ), by omega⟩ k) := fun k => blk1 m c t (y 0) k _ rfl rfl
  have e2 : iblk m c 2 t (ix2 (y 0) (y 1)) = (m ((c : Thread nD τ).loc main_arg2)) (ix2 ⟨t.val * 256 + (y 0 : ℕ), by omega⟩ ⟨4096 + (y 1 : ℕ), by omega⟩) := (blk2 m c t (y 0) (y 1) _ rfl rfl)
  have e3 := blk3 m c t (y 1)
  unfold cell
  refine Ideal.mul_congr (Ideal.mul_congr (Ideal.mul_congr (Ideal.add_congr (e0 (y 1)) (e1 (y 1))) (congrArg (fun z : EReal => Ideal.rsqrt (Ideal.div z (Ideal.ofBits .f32 0x43000000#32) + Ideal.ofBits .f32 0x358637BD#32)) ?_)) e3) (congrArg (fun z : EReal => z * Ideal.logistic z) e2)
  exact Finset.sum_congr rfl fun k _ => Ideal.mul_congr (Ideal.add_congr (e0 _) (e1 _)) (Ideal.add_congr (e0 _) (e1 _))

end Cert.ReadoutIdeal.Hand

open Idealize.ShloMosaic Idealize.ShloMosaic.TcCoe in
/-- From equal arguments the kernel and the reference end with equal results. -/
theorem Cert.ReadoutIdeal.Hand.algebraic : Cert.algebraic_ReadoutIdeal_RefReadoutIdeal
    (hReadoutIdeal := Cert.ReadoutIdeal.Gen.facts) (hRefReadoutIdeal := Cert.RefReadoutIdeal.Gen.facts) := by
  pair_intro
  · run_from Cert.ReadoutIdeal.Value.run_blocks m g
  · run_from Cert.RefReadoutIdeal.Value.run m' g'
    exact (Cert.ReadoutIdeal.Hand.final m c).symm

end
-- ==== Proof.RowsG.lean ====
module

public import proofs.«01_k».proof.Proof.Gen.RowsGIdeal.Value
public import proofs.«01_k».proof.Proof.Gen.RefRowsGIdeal.Run
public import proofs.«01_k».proof.Defs
public import Idealize.ShloMosaic.Lib.Pipeline.ValueKit
public import Idealize.ShloMosaic.Lib.Tactic
public import Idealize.ShloMosaic.Lib.Pointwise

/-! The gradient of a square weight: the kernel's array is the reference's. -/

@[expose] public section

set_option maxRecDepth 16384

noncomputable section

namespace Cert.RowsGIdeal.Hand

open Idealize.ShloMosaic Idealize.ShloMosaic.TcCoe Idealize.SL.Sem
open Idealize.ShloMosaic.Pipeline (Dat)
open Cert.RowsGIdeal Cert.RowsGIdeal.Gen

variable (m : (ℓ : Loc nD τ sig) → Buf (Elt Ideal) ℓ)

/-- The zero fill at an index. -/
theorem zero_at (j) : k0_pay1 (F := Ideal) j = 0 := by pointwise [k0_pay1]

/-- One step of the accumulation at an index: what was there, plus a block's worth of the contraction. -/
theorem step_at (acc x y j) : k0_pay2 (F := Ideal) acc x y j
    = acc j + ∑ k : Fin 768, x (ix2 k (j 0)) * y (ix2 k (j 1)) := by pointwise [k0_pay2]

/-- The block written back at an index: the accumulated block, its two unit axes dropped. -/
theorem out_at (acc j) : k0_pay3 (F := Ideal) acc j = acc (ix2 (j 2) (j 3)) := by pointwise [k0_pay3]

/-- Every window's block index at a grid point. -/
theorem idx : ∀ t : Fin cfg0.N, win0_0.index t = ![t.val % 11, t.val / 11]
    ∧ win0_1.index t = ![t.val % 11, 0]
    ∧ win0_2.index t = ![t.val / 11, 0, 0, 0] :=
  (by decide +kernel : ∀ t : Fin grid0.N, _)

/-- The reference's term over variables. -/
abbrev REF (H : FVec Ideal S8448x2048 .bf16) (Y : FVec Ideal S8448x2048 .bf16) : FVec Ideal S4x1x512x2048 .bf16 :=
  truncf .bf16 (shapeCast _ (transpose Cert.RefRowsGIdeal.S2048x2048 [1, 0] (Host.dotGeneral Cert.RefRowsGIdeal.dot_S8448x2048_S8448x2048_S2048x2048_0_0_1_1_n_n none (extf .f32 Y Cert.RefRowsGIdeal.Gen.bitsLt_bf16_f32) (extf .f32 H Cert.RefRowsGIdeal.Gen.bitsLt_bf16_f32)) Cert.RefRowsGIdeal.Gen.transposes_S2048x2048_S2048x2048_1_0) Cert.RefRowsGIdeal.Gen.shapeCasts_S2048x2048_S4x1x512x2048) Cert.RefRowsGIdeal.Gen.bitsLt_bf16_f32

/-- The reference at an index: the whole contraction over the rows. -/
theorem ref_at (H Y) (j : S4x1x512x2048.Idx) :
    REF H Y j = ∑ k : Fin 8448, H (ix2 k ⟨(j 0 : ℕ) * 512 + j 2, by
      have h0 : (j 0 : ℕ) < 4 := (j 0).isLt; have h2 : (j 2 : ℕ) < 512 := (j 2).isLt; omega⟩) * Y (ix2 k (j 3)) := by
  idx_vars j
  pointwise [REF]
  exact Finset.sum_congr rfl fun k _ => mul_comm _ _

/-- A block of the product's input rows, read in the array. -/
theorem blk0 (c : Dev nD) (p : Fin cfg0.N) (k : Fin 768) (q : Fin 512) (i : S8448x2048.Idx)
    (h0 : (i 0 : ℕ) = p.val % 11 * 768 + k) (h1 : (i 1 : ℕ) = p.val / 11 * 512 + q) :
    iblk m c 0 p (ix2 k q) = m ((c : Thread nD τ).loc main_arg0) i := by
  rw [← V_main_arg0 m c]
  blk_ext [iblk, idx p]

/-- A block of the incoming gradient, read in the array. -/
theorem blk1 (c : Dev nD) (p : Fin cfg0.N) (k : Fin 768) (q : Fin 2048) (i : S8448x2048.Idx)
    (h0 : (i 0 : ℕ) = p.val % 11 * 768 + k) (h1 : (i 1 : ℕ) = q) :
    iblk m c 1 p (ix2 k q) = m ((c : Thread nD τ).loc main_arg1) i := by
  rw [← V_main_arg1 m c]
  blk_ext [iblk, idx p]

/-- The accumulator after the last point of a run, at an index. -/
theorem acc_at (c : Dev nD) (t : Fin cfg0.N) (hr : t.val % 11 = 10) (j) :
    (outsAt0 m c t.val t.isLt).2 j = 0 + ∑ s : Fin 11, ∑ k : Fin 768,
      (show FVec Ideal S768x512 .bf16 from iblk m c 0 ⟨11 * (t.val / 11) + s.val, Pipeline.run_point_lt_of_flush t hr s⟩) (ix2 k (j 0))
      * (show FVec Ideal S768x2048 .bf16 from iblk m c 1 ⟨11 * (t.val / 11) + s.val, Pipeline.run_point_lt_of_flush t hr s⟩) (ix2 k (j 1)) :=
  Pipeline.eq_sum_fin_of_reset_step_apply_of_flush (fun n h => (outsAt0 m c n h).2) 11 (fun _ => 0)
    (fun p j => ∑ k : Fin 768, (show FVec Ideal S768x512 .bf16 from iblk m c 0 p) (ix2 k (j 0))
      * (show FVec Ideal S768x2048 .bf16 from iblk m c 1 p) (ix2 k (j 1)))
    (fun t h j => by
      rw [outsAt0_A m c t h (by omega)]; frame_out; rw [step_at, zero_at])
    (fun t h j => by
      by_cases h1 : t.val % 11 = 10
      · rw [outsAt0_C m c t h h1]; frame_out; rw [step_at, (Memref.isWhole_whole _).read_unread]
      · rw [outsAt0_B m c t h h1]; frame_out; rw [step_at, (Memref.isWhole_whole _).read_unread]) t hr j

/-- What the last point of a run leaves in the output block. -/
theorem block_eq (c : Dev nD) (t : Fin cfg0.N) (hr : t.val % 11 = 10) :
    (outsAt0 m c t.val t.isLt).1 = k0_pay3 (outsAt0 m c t.val t.isLt).2 := by
  rw [outsAt0_C m c t (by omega) hr]; frame_out

/-- The result array is the reference's term of the arguments. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t hf y => ?_
  blk_simp
  have hr := (flush0_2 t).mp hf
  rw [after0_2, block_eq m c t hr, out_at, acc_at m c t hr, zero_add, ref_at]
  refine Fin.sum_mul_add_congr fun s k hl => ?_
  refine Ideal.mul_congr (blk0 m c _ _ _ _ ?_ ?_) (blk1 m c _ _ _ _ ?_ ?_)
  all_goals (blk_simp [idx t] <;> (try dsimp only) <;> omega)

end Cert.RowsGIdeal.Hand

/-- From equal arguments the kernel and the reference end with equal results. -/
theorem Cert.RowsGIdeal.Hand.algebraic : Cert.algebraic_RowsGIdeal_RefRowsGIdeal
    (hRowsGIdeal := Cert.RowsGIdeal.Gen.facts) (hRefRowsGIdeal := Cert.RefRowsGIdeal.Gen.facts) := by
  pair_intro
  · run_from Cert.RowsGIdeal.Value.run_blocks m g
  · run_from Cert.RefRowsGIdeal.Value.run m' g'
    exact (Cert.RowsGIdeal.Hand.final m c).symm

end
-- ==== Proof.RowsT.lean ====
module

public import proofs.«01_k».proof.Proof.Gen.RowsTIdeal.Value
public import proofs.«01_k».proof.Proof.Gen.RefRowsTIdeal.Run
public import proofs.«01_k».proof.Defs
public import Idealize.ShloMosaic.Lib.Pipeline.ValueKit
public import Idealize.ShloMosaic.Lib.Tactic
public import Idealize.ShloMosaic.Lib.Pointwise

/-! The gradient at the input of a square product: the kernel's array is the reference's. -/

@[expose] public section

set_option maxRecDepth 16384

noncomputable section

namespace Cert.RowsTIdeal.Hand

open Idealize.ShloMosaic Idealize.ShloMosaic.TcCoe Idealize.SL.Sem
open Idealize.ShloMosaic.Pipeline (Dat)
open Cert.RowsTIdeal Cert.RowsTIdeal.Gen

variable (m : (ℓ : Loc nD τ sig) → Buf (Elt Ideal) ℓ)

/-- What the body stores at an index. -/
theorem pay_at (x w j) : k0_pay1 (F := Ideal) x w j
    = ∑ k : Fin 2048, x (ix2 (j 0) k) * w (ix4 0 0 (j 1) k) := by
  pointwise [k0_pay1]

/-- Every window's block index at a grid point. -/
theorem idx : ∀ t : Fin cfg0.N, win0_0.index t = ![t.val / 4, 0]
    ∧ win0_1.index t = ![t.val % 4, 0, 0, 0]
    ∧ win0_2.index t = ![t.val / 4, t.val % 4] :=
  (by decide +kernel : ∀ t : Fin grid0.N, _)

/-- The reference's term over variables. -/
abbrev REF (X : FVec Ideal S8448x2048 .bf16) (W : FVec Ideal S2048x2048 .f32) : FVec Ideal S8448x2048 .f32 :=
  Host.dotGeneral Cert.RefRowsTIdeal.dot_S8448x2048_S2048x2048_S8448x2048_1_1_0_0_n_n none (extf .f32 X Cert.RefRowsTIdeal.Gen.bitsLt_bf16_f32) W

/-- The reference at an index. -/
theorem ref_at (X W) (j : S8448x2048.Idx) :
    REF X W j = ∑ k : Fin 2048, X (ix2 (j 0) k) * W (ix2 (j 1) k) := by
  pointwise [REF]

/-- The weight as the region finds it: cut into four shards along its rows. -/
abbrev SH (W : FVec Ideal S2048x2048 .f32) : FVec Ideal S4x1x512x2048 .bf16 :=
  truncf .bf16 (shapeCast S4x1x512x2048 W shapeCasts_S2048x2048_S4x1x512x2048) bitsLt_bf16_f32

/-- The shards at an index. -/
theorem sh_at (W) (s : Fin 4) (z : Fin 1) (p : Fin 512) (q : Fin 2048) (i : S2048x2048.Idx) (h0 : (i 0 : ℕ) = s * 512 + p) (h1 : (i 1 : ℕ) = q) :
    SH W (ix4 s z p q) = W i := by
  pointwise [SH]
  blk_ext

/-- The host operations before the region leave the shards in the kernel's second operand. -/
theorem sh_eq (c : Dev nD) : V m c main_v1 = SH (m ((c : Thread nD τ).loc main_arg1)) := by
  unfold V
  after_results <;> rfl

/-- A block of the incoming gradient, read in the array. -/
theorem blk0 (c : Dev nD) (p : Fin cfg0.N) (q : Fin 1408) (k : Fin 2048) (i : S8448x2048.Idx)
    (h0 : (i 0 : ℕ) = p.val / 4 * 1408 + q) (h1 : (i 1 : ℕ) = k) :
    iblk m c 0 p (ix2 q k) = m ((c : Thread nD τ).loc main_arg0) i := by
  rw [← V_main_arg0 m c]
  blk_ext [iblk, idx p]

/-- A block of the weight's shards, read in the weight. -/
theorem blk1 (c : Dev nD) (p : Fin cfg0.N) (q : Fin 512) (k : Fin 2048) (i : S2048x2048.Idx)
    (h0 : (i 0 : ℕ) = p.val % 4 * 512 + q) (h1 : (i 1 : ℕ) = k) :
    iblk m c 1 p (ix4 0 0 q k) = m ((c : Thread nD τ).loc main_arg1) i := by
  rw [← sh_at (m ((c : Thread nD τ).loc main_arg1)) ⟨p.val % 4, by omega⟩ 0 q k i (by dsimp only; omega) (by dsimp only; omega), ← sh_eq]
  blk_ext [iblk, idx p]

/-- The result array is the reference's term of the arguments. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [pay_at, ref_at]
  refine Fin.sum_fin_congr fun k => ?_
  refine Ideal.mul_congr (blk0 m c _ _ _ _ ?_ ?_) (blk1 m c _ _ _ _ ?_ ?_)
  all_goals (blk_simp [idx t] <;> (try dsimp only) <;> omega)

end Cert.RowsTIdeal.Hand

/-- From equal arguments the kernel and the reference end with equal results. -/
theorem Cert.RowsTIdeal.Hand.algebraic : Cert.algebraic_RowsTIdeal_RefRowsTIdeal
    (hRowsTIdeal := Cert.RowsTIdeal.Gen.facts) (hRefRowsTIdeal := Cert.RefRowsTIdeal.Gen.facts) := by
  pair_intro
  · run_from Cert.RowsTIdeal.Value.run_blocks m g
  · run_from Cert.RefRowsTIdeal.Value.run m' g'
    exact (Cert.RowsTIdeal.Hand.final m c).symm

end
-- ==== Proof.SumSmall.lean ====
module

public import proofs.«01_k».proof.Proof.Gen.SumSmallIdeal.Value
public import proofs.«01_k».proof.Proof.Gen.RefSumSmallIdeal.Run
public import proofs.«01_k».proof.Defs
public import Idealize.ShloMosaic.Lib.Pipeline.ValueKit
public import Idealize.ShloMosaic.Lib.Tactic
public import Idealize.ShloMosaic.Lib.Pointwise

/-! The sum of the eight devices' small gradients. -/

@[expose] public section

set_option maxRecDepth 16384

noncomputable section

namespace Cert.RefSumSmallIdeal.Hand

open Idealize.ShloMosaic Idealize.ShloMosaic.TcCoe Idealize.SL.Sem
open Idealize.ShloMosaic.Pipeline (Dat)
open Cert.RefSumSmallIdeal Cert.RefSumSmallIdeal.Gen

/-- The reference's result over variables. -/
def ref (X : FVec Ideal S8x2664x128 .f32) : FVec Ideal S2664x128 .f32 :=
  Host.reduceAdd X (constant S_ .f32 0x00000000#32) reducesTo_S8x2664x128_S2664x128_d0 h_S_

/-- The reference at an index: the eight devices' elements added. -/
theorem ref_at (X : FVec Ideal S8x2664x128 .f32) (a : Fin 2664) (b : Fin 128) : ref X (ix2 a b) = ∑ k : Fin 8, X (ix3 k a b) := by
  pointwise [ref]

end Cert.RefSumSmallIdeal.Hand

namespace Cert.SumSmallIdeal.Hand

open Idealize.ShloMosaic Idealize.ShloMosaic.TcCoe Idealize.SL.Sem
open Idealize.ShloMosaic.Pipeline (Dat)
open Cert.SumSmallIdeal Cert.SumSmallIdeal.Gen

variable (m : (ℓ : Loc nD τ sig) → Buf (Elt Ideal) ℓ)

/-- Every window's block index at a grid point. -/
theorem idx : ∀ t : Fin cfg0.N, win0_0.index t = ![0, 0, 0]
    ∧ win0_1.index t = ![0, 0] :=
  (by decide +kernel : ∀ t : Fin grid0.N, _)

/-- What the body stores at an index. -/
theorem pay_at (x0 x1 x2 x3 x4 x5 x6 x7 : FVec Ideal S1x2664x128 .f32) (a : Fin 2664) (b : Fin 128) :
    k0_pay1 (F := Ideal) x0 x1 x2 x3 x4 x5 x6 x7 (ix2 a b)
      = x0 (ix3 0 a b) + x1 (ix3 0 a b) + x2 (ix3 0 a b) + x3 (ix3 0 a b) + x4 (ix3 0 a b) + x5 (ix3 0 a b) + x6 (ix3 0 a b) + x7 (ix3 0 a b) := by
  pointwise [k0_pay1]

/-- The block is the whole array. -/
theorem blk0 (c : Dev nD) (t : Fin cfg0.N) (d : Fin 8) (a : Fin 2664) (b : Fin 128) :
    iblk m c 0 t (ix3 d a b) = (m ((c : Thread nD τ).loc main_arg0)) (ix3 d a b) := by
  rw [← V_main_arg0 m c]
  blk_ext [iblk, idx t]

/-- Device 0's part of the block. -/
theorem ld0 (x : FVec Ideal S8x2664x128 .f32) (a : Fin 2664) (b : Fin 128) : View.ld (Val := Elt Ideal) (e' := .f32) x r0_0 (ix3 0 a b) = x (ix3 0 a b) := by
  blk_ext [View.ld] <;> first | rfl | simp [Rect.unit]

/-- Device 1's part of the block. -/
theorem ld1 (x : FVec Ideal S8x2664x128 .f32) (a : Fin 2664) (b : Fin 128) : View.ld (Val := Elt Ideal) (e' := .f32) x r0_1 (ix3 0 a b) = x (ix3 1 a b) := by
  blk_ext [View.ld] <;> first | rfl | simp [Rect.unit]

/-- Device 2's part of the block. -/
theorem ld2 (x : FVec Ideal S8x2664x128 .f32) (a : Fin 2664) (b : Fin 128) : View.ld (Val := Elt Ideal) (e' := .f32) x r0_2 (ix3 0 a b) = x (ix3 2 a b) := by
  blk_ext [View.ld] <;> first | rfl | simp [Rect.unit]

/-- Device 3's part of the block. -/
theorem ld3 (x : FVec Ideal S8x2664x128 .f32) (a : Fin 2664) (b : Fin 128) : View.ld (Val := Elt Ideal) (e' := .f32) x r0_3 (ix3 0 a b) = x (ix3 3 a b) := by
  blk_ext [View.ld] <;> first | rfl | simp [Rect.unit]

/-- Device 4's part of the block. -/
theorem ld4 (x : FVec Ideal S8x2664x128 .f32) (a : Fin 2664) (b : Fin 128) : View.ld (Val := Elt Ideal) (e' := .f32) x r0_4 (ix3 0 a b) = x (ix3 4 a b) := by
  blk_ext [View.ld] <;> first | rfl | simp [Rect.unit]

/-- Device 5's part of the block. -/
theorem ld5 (x : FVec Ideal S8x2664x128 .f32) (a : Fin 2664) (b : Fin 128) : View.ld (Val := Elt Ideal) (e' := .f32) x r0_5 (ix3 0 a b) = x (ix3 5 a b) := by
  blk_ext [View.ld] <;> first | rfl | simp [Rect.unit]

/-- Device 6's part of the block. -/
theorem ld6 (x : FVec Ideal S8x2664x128 .f32) (a : Fin 2664) (b : Fin 128) : View.ld (Val := Elt Ideal) (e' := .f32) x r0_6 (ix3 0 a b) = x (ix3 6 a b) := by
  blk_ext [View.ld] <;> first | rfl | simp [Rect.unit]

/-- Device 7's part of the block. -/
theorem ld7 (x : FVec Ideal S8x2664x128 .f32) (a : Fin 2664) (b : Fin 128) : View.ld (Val := Elt Ideal) (e' := .f32) x r0_7 (ix3 0 a b) = x (ix3 7 a b) := by
  blk_ext [View.ld] <;> first | rfl | simp [Rect.unit]

/-- The kernel's array is the reference's. -/
theorem final (c : Dev nD) : (dats m 0 c).arrAt 1 cfg0.N = Cert.RefSumSmallIdeal.Hand.ref (m ((c : Thread nD τ).loc main_arg0)) := by
  refine (dats m 0 c).arrAt_eq_of_covers 1 _ (by decide +kernel) fun t hf y => ?_
  blk_simp
  rw [after0_1]
  frame_out
  have ey : y = ix2 (y 0) (y 1) := by idx_vars y; rfl
  have e : ((win0_1.blk t).view.emb y : S2664x128.Idx) = ix2 (y 0) (y 1) := by
    blk_ext [idx t]
  refine ((congrArg _ ey).trans ?_).trans (congrArg _ e).symm
  refine (pay_at (View.ld (iblk m c 0 t) r0_0) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7) (y 0) (y 1)).trans ?_
  refine Eq.trans ?_ (Cert.RefSumSmallIdeal.Hand.ref_at _ _ _).symm
  refine Eq.trans ?_ (Fin.sum_univ_eight _).symm
  have h := fun d => blk0 m c t d (y 0) (y 1)
  exact Ideal.add_congr (Ideal.add_congr (Ideal.add_congr (Ideal.add_congr (Ideal.add_congr (Ideal.add_congr (Ideal.add_congr ((ld0 _ _ _).trans (h 0)) ((ld1 _ _ _).trans (h 1))) ((ld2 _ _ _).trans (h 2))) ((ld3 _ _ _).trans (h 3))) ((ld4 _ _ _).trans (h 4))) ((ld5 _ _ _).trans (h 5))) ((ld6 _ _ _).trans (h 6))) ((ld7 _ _ _).trans (h 7))

end Cert.SumSmallIdeal.Hand

open Idealize.ShloMosaic Idealize.ShloMosaic.TcCoe in
/-- From equal arguments the kernel and the reference end with equal results. -/
theorem Cert.SumSmallIdeal.Hand.algebraic : Cert.algebraic_SumSmallIdeal_RefSumSmallIdeal
    (hSumSmallIdeal := Cert.SumSmallIdeal.Gen.facts) (hRefSumSmallIdeal := Cert.RefSumSmallIdeal.Gen.facts) := by
  pair_intro
  · run_from Cert.SumSmallIdeal.Value.run_blocks m g
  · refine (Idealize.ShloMosaic.θ_run_mono (Cert.RefSumSmallIdeal.Value.run m' g') ?_)
    intro r hr c
    have e : Cert.RefSumSmallIdeal.Hand.ref (m' ((c : Thread Cert.RefSumSmallIdeal.nD Cert.RefSumSmallIdeal.τ).loc Cert.RefSumSmallIdeal.main_arg0)) = Cert.RefSumSmallIdeal.Hand.ref (m ((c : Thread Cert.SumSmallIdeal.nD Cert.SumSmallIdeal.τ).loc Cert.SumSmallIdeal.main_arg0)) :=
      congrArg Cert.RefSumSmallIdeal.Hand.ref (hagree c)
    exact ⟨(hr c).1.trans (e.trans (Cert.SumSmallIdeal.Hand.final m c).symm), (hr c).2⟩

end
-- ==== Proof.lean ====
module

public import proofs.«01_k».proof.Defs
public import proofs.«01_k».proof.Proof.Gen.FfnDa
public import proofs.«01_k».proof.Proof.Gen.FfnDa.Skeleton
public import proofs.«01_k».proof.Proof.Gen.FfnDa.Launch
public import proofs.«01_k».proof.Proof.Gen.FfnDa.Points
public import proofs.«01_k».proof.Proof.Gen.FfnDa.Frame
public import proofs.«01_k».proof.Proof.Gen.FfnDaIdeal
public import proofs.«01_k».proof.Proof.Gen.FfnDaIdeal.Skeleton
public import proofs.«01_k».proof.Proof.Gen.FfnDaIdeal.Launch
public import proofs.«01_k».proof.Proof.Gen.FfnDaIdeal.Points
public import proofs.«01_k».proof.Proof.Gen.FfnDaIdeal.Frame
public import proofs.«01_k».proof.Proof.Gen.FfnDaIdeal.Value
public import proofs.«01_k».proof.Proof.Gen.RefDaIdeal
public import proofs.«01_k».proof.Proof.Gen.RefDaIdeal.Run
public import proofs.«01_k».proof.Proof.Gen.RefDaIdeal.Read
public import proofs.«01_k».proof.Proof.Gen.FfnGdown
public import proofs.«01_k».proof.Proof.Gen.FfnGdown.Skeleton
public import proofs.«01_k».proof.Proof.Gen.FfnGdown.Launch
public import proofs.«01_k».proof.Proof.Gen.FfnGdown.Points
public import proofs.«01_k».proof.Proof.Gen.FfnGdown.Frame
public import proofs.«01_k».proof.Proof.Gen.FfnGdownIdeal
public import proofs.«01_k».proof.Proof.Gen.FfnGdownIdeal.Skeleton
public import proofs.«01_k».proof.Proof.Gen.FfnGdownIdeal.Launch
public import proofs.«01_k».proof.Proof.Gen.FfnGdownIdeal.Points
public import proofs.«01_k».proof.Proof.Gen.FfnGdownIdeal.Frame
public import proofs.«01_k».proof.Proof.Gen.FfnGdownIdeal.Value
public import proofs.«01_k».proof.Proof.Gen.RefGdownIdeal
public import proofs.«01_k».proof.Proof.Gen.RefGdownIdeal.Run
public import proofs.«01_k».proof.Proof.Gen.RefGdownIdeal.Read
public import proofs.«01_k».proof.Proof.Gen.FfnDh
public import proofs.«01_k».proof.Proof.Gen.FfnDh.Skeleton
public import proofs.«01_k».proof.Proof.Gen.FfnDh.Launch
public import proofs.«01_k».proof.Proof.Gen.FfnDh.Points
public import proofs.«01_k».proof.Proof.Gen.FfnDh.Frame
public import proofs.«01_k».proof.Proof.Gen.FfnDhIdeal
public import proofs.«01_k».proof.Proof.Gen.FfnDhIdeal.Skeleton
public import proofs.«01_k».proof.Proof.Gen.FfnDhIdeal.Launch
public import proofs.«01_k».proof.Proof.Gen.FfnDhIdeal.Points
public import proofs.«01_k».proof.Proof.Gen.FfnDhIdeal.Frame
public import proofs.«01_k».proof.Proof.Gen.FfnDhIdeal.Value
public import proofs.«01_k».proof.Proof.Gen.RefDhIdeal
public import proofs.«01_k».proof.Proof.Gen.RefDhIdeal.Run
public import proofs.«01_k».proof.Proof.Gen.RefDhIdeal.Read
public import proofs.«01_k».proof.Proof.Gen.FfnGup
public import proofs.«01_k».proof.Proof.Gen.FfnGup.Skeleton
public import proofs.«01_k».proof.Proof.Gen.FfnGup.Launch
public import proofs.«01_k».proof.Proof.Gen.FfnGup.Points
public import proofs.«01_k».proof.Proof.Gen.FfnGup.Frame
public import proofs.«01_k».proof.Proof.Gen.FfnGupIdeal
public import proofs.«01_k».proof.Proof.Gen.FfnGupIdeal.Skeleton
public import proofs.«01_k».proof.Proof.Gen.FfnGupIdeal.Launch
public import proofs.«01_k».proof.Proof.Gen.FfnGupIdeal.Points
public import proofs.«01_k».proof.Proof.Gen.FfnGupIdeal.Frame
public import proofs.«01_k».proof.Proof.Gen.FfnGupIdeal.Value
public import proofs.«01_k».proof.Proof.Gen.RefGupIdeal
public import proofs.«01_k».proof.Proof.Gen.RefGupIdeal.Run
public import proofs.«01_k».proof.Proof.Gen.RefGupIdeal.Read
public import proofs.«01_k».proof.Proof.Gen.FfnUp
public import proofs.«01_k».proof.Proof.Gen.FfnUp.Skeleton
public import proofs.«01_k».proof.Proof.Gen.FfnUp.Launch
public import proofs.«01_k».proof.Proof.Gen.FfnUp.Points
public import proofs.«01_k».proof.Proof.Gen.FfnUp.Frame
public import proofs.«01_k».proof.Proof.Gen.FfnUpIdeal
public import proofs.«01_k».proof.Proof.Gen.FfnUpIdeal.Skeleton
public import proofs.«01_k».proof.Proof.Gen.FfnUpIdeal.Launch
public import proofs.«01_k».proof.Proof.Gen.FfnUpIdeal.Points
public import proofs.«01_k».proof.Proof.Gen.FfnUpIdeal.Frame
public import proofs.«01_k».proof.Proof.Gen.FfnUpIdeal.Value
public import proofs.«01_k».proof.Proof.Gen.RefFfnUpIdeal
public import proofs.«01_k».proof.Proof.Gen.RefFfnUpIdeal.Run
public import proofs.«01_k».proof.Proof.Gen.RefFfnUpIdeal.Read
public import proofs.«01_k».proof.Proof.Gen.FfnDown
public import proofs.«01_k».proof.Proof.Gen.FfnDown.Skeleton
public import proofs.«01_k».proof.Proof.Gen.FfnDown.Launch
public import proofs.«01_k».proof.Proof.Gen.FfnDown.Points
public import proofs.«01_k».proof.Proof.Gen.FfnDown.Frame
public import proofs.«01_k».proof.Proof.Gen.FfnDownIdeal
public import proofs.«01_k».proof.Proof.Gen.FfnDownIdeal.Skeleton
public import proofs.«01_k».proof.Proof.Gen.FfnDownIdeal.Launch
public import proofs.«01_k».proof.Proof.Gen.FfnDownIdeal.Points
public import proofs.«01_k».proof.Proof.Gen.FfnDownIdeal.Frame
public import proofs.«01_k».proof.Proof.Gen.FfnDownIdeal.Value
public import proofs.«01_k».proof.Proof.Gen.RefFfnDownIdeal
public import proofs.«01_k».proof.Proof.Gen.RefFfnDownIdeal.Run
public import proofs.«01_k».proof.Proof.Gen.RefFfnDownIdeal.Read
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjIdeal.Value
public import proofs.«01_k».proof.Proof.Gen.RefInProjIdeal
public import proofs.«01_k».proof.Proof.Gen.RefInProjIdeal.Run
public import proofs.«01_k».proof.Proof.Gen.RefInProjIdeal.Read
public import proofs.«01_k».proof.Proof.Gen.InDh
public import proofs.«01_k».proof.Proof.Gen.InDh.Skeleton
public import proofs.«01_k».proof.Proof.Gen.InDh.Launch
public import proofs.«01_k».proof.Proof.Gen.InDh.Points
public import proofs.«01_k».proof.Proof.Gen.InDh.Frame
public import proofs.«01_k».proof.Proof.Gen.InDhIdeal
public import proofs.«01_k».proof.Proof.Gen.InDhIdeal.Skeleton
public import proofs.«01_k».proof.Proof.Gen.InDhIdeal.Launch
public import proofs.«01_k».proof.Proof.Gen.InDhIdeal.Points
public import proofs.«01_k».proof.Proof.Gen.InDhIdeal.Frame
public import proofs.«01_k».proof.Proof.Gen.InDhIdeal.Value
public import proofs.«01_k».proof.Proof.Gen.RefInDhIdeal
public import proofs.«01_k».proof.Proof.Gen.RefInDhIdeal.Run
public import proofs.«01_k».proof.Proof.Gen.RefInDhIdeal.Read
public import proofs.«01_k».proof.Proof.Gen.InG
public import proofs.«01_k».proof.Proof.Gen.InG.Skeleton
public import proofs.«01_k».proof.Proof.Gen.InG.Launch
public import proofs.«01_k».proof.Proof.Gen.InG.Points
public import proofs.«01_k».proof.Proof.Gen.InG.Frame
public import proofs.«01_k».proof.Proof.Gen.InGIdeal
public import proofs.«01_k».proof.Proof.Gen.InGIdeal.Skeleton
public import proofs.«01_k».proof.Proof.Gen.InGIdeal.Launch
public import proofs.«01_k».proof.Proof.Gen.InGIdeal.Points
public import proofs.«01_k».proof.Proof.Gen.InGIdeal.Frame
public import proofs.«01_k».proof.Proof.Gen.InGIdeal.Value
public import proofs.«01_k».proof.Proof.Gen.RefInGIdeal
public import proofs.«01_k».proof.Proof.Gen.RefInGIdeal.Run
public import proofs.«01_k».proof.Proof.Gen.RefInGIdeal.Read
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjIdeal.Value
public import proofs.«01_k».proof.Proof.Gen.RefOutProjIdeal
public import proofs.«01_k».proof.Proof.Gen.RefOutProjIdeal.Run
public import proofs.«01_k».proof.Proof.Gen.RefOutProjIdeal.Read
public import proofs.«01_k».proof.Proof.Gen.RowsT
public import proofs.«01_k».proof.Proof.Gen.RowsT.Skeleton
public import proofs.«01_k».proof.Proof.Gen.RowsT.Launch
public import proofs.«01_k».proof.Proof.Gen.RowsT.Points
public import proofs.«01_k».proof.Proof.Gen.RowsT.Frame
public import proofs.«01_k».proof.Proof.Gen.RowsTIdeal
public import proofs.«01_k».proof.Proof.Gen.RowsTIdeal.Skeleton
public import proofs.«01_k».proof.Proof.Gen.RowsTIdeal.Launch
public import proofs.«01_k».proof.Proof.Gen.RowsTIdeal.Points
public import proofs.«01_k».proof.Proof.Gen.RowsTIdeal.Frame
public import proofs.«01_k».proof.Proof.Gen.RowsTIdeal.Value
public import proofs.«01_k».proof.Proof.Gen.RefRowsTIdeal
public import proofs.«01_k».proof.Proof.Gen.RefRowsTIdeal.Run
public import proofs.«01_k».proof.Proof.Gen.RefRowsTIdeal.Read
public import proofs.«01_k».proof.Proof.Gen.RowsG
public import proofs.«01_k».proof.Proof.Gen.RowsG.Skeleton
public import proofs.«01_k».proof.Proof.Gen.RowsG.Launch
public import proofs.«01_k».proof.Proof.Gen.RowsG.Points
public import proofs.«01_k».proof.Proof.Gen.RowsG.Frame
public import proofs.«01_k».proof.Proof.Gen.RowsGIdeal
public import proofs.«01_k».proof.Proof.Gen.RowsGIdeal.Skeleton
public import proofs.«01_k».proof.Proof.Gen.RowsGIdeal.Launch
public import proofs.«01_k».proof.Proof.Gen.RowsGIdeal.Points
public import proofs.«01_k».proof.Proof.Gen.RowsGIdeal.Frame
public import proofs.«01_k».proof.Proof.Gen.RowsGIdeal.Value
public import proofs.«01_k».proof.Proof.Gen.RefRowsGIdeal
public import proofs.«01_k».proof.Proof.Gen.RefRowsGIdeal.Run
public import proofs.«01_k».proof.Proof.Gen.RefRowsGIdeal.Read
public import proofs.«01_k».proof.Proof.Gen.PoolIn
public import proofs.«01_k».proof.Proof.Gen.PoolIn.Skeleton
public import proofs.«01_k».proof.Proof.Gen.PoolIn.Launch
public import proofs.«01_k».proof.Proof.Gen.PoolIn.Points
public import proofs.«01_k».proof.Proof.Gen.PoolIn.Frame
public import proofs.«01_k».proof.Proof.Gen.PoolInIdeal
public import proofs.«01_k».proof.Proof.Gen.PoolInIdeal.Skeleton
public import proofs.«01_k».proof.Proof.Gen.PoolInIdeal.Launch
public import proofs.«01_k».proof.Proof.Gen.PoolInIdeal.Points
public import proofs.«01_k».proof.Proof.Gen.PoolInIdeal.Frame
public import proofs.«01_k».proof.Proof.Gen.PoolInIdeal.Value
public import proofs.«01_k».proof.Proof.Gen.RefPoolInIdeal
public import proofs.«01_k».proof.Proof.Gen.RefPoolInIdeal.Run
public import proofs.«01_k».proof.Proof.Gen.RefPoolInIdeal.Read
public import proofs.«01_k».proof.Proof.Gen.PoolGrp
public import proofs.«01_k».proof.Proof.Gen.PoolGrp.Skeleton
public import proofs.«01_k».proof.Proof.Gen.PoolGrp.Launch
public import proofs.«01_k».proof.Proof.Gen.PoolGrp.Points
public import proofs.«01_k».proof.Proof.Gen.PoolGrp.Frame
public import proofs.«01_k».proof.Proof.Gen.PoolGrpIdeal
public import proofs.«01_k».proof.Proof.Gen.PoolGrpIdeal.Skeleton
public import proofs.«01_k».proof.Proof.Gen.PoolGrpIdeal.Launch
public import proofs.«01_k».proof.Proof.Gen.PoolGrpIdeal.Points
public import proofs.«01_k».proof.Proof.Gen.PoolGrpIdeal.Frame
public import proofs.«01_k».proof.Proof.Gen.PoolGrpIdeal.Value
public import proofs.«01_k».proof.Proof.Gen.RefPoolGrpIdeal
public import proofs.«01_k».proof.Proof.Gen.RefPoolGrpIdeal.Run
public import proofs.«01_k».proof.Proof.Gen.RefPoolGrpIdeal.Read
public import proofs.«01_k».proof.Proof.Gen.PoolGrpT
public import proofs.«01_k».proof.Proof.Gen.PoolGrpT.Skeleton
public import proofs.«01_k».proof.Proof.Gen.PoolGrpT.Launch
public import proofs.«01_k».proof.Proof.Gen.PoolGrpT.Points
public import proofs.«01_k».proof.Proof.Gen.PoolGrpT.Frame
public import proofs.«01_k».proof.Proof.Gen.PoolGrpTIdeal
public import proofs.«01_k».proof.Proof.Gen.PoolGrpTIdeal.Skeleton
public import proofs.«01_k».proof.Proof.Gen.PoolGrpTIdeal.Launch
public import proofs.«01_k».proof.Proof.Gen.PoolGrpTIdeal.Points
public import proofs.«01_k».proof.Proof.Gen.PoolGrpTIdeal.Frame
public import proofs.«01_k».proof.Proof.Gen.PoolGrpTIdeal.Value
public import proofs.«01_k».proof.Proof.Gen.RefPoolGrpTIdeal
public import proofs.«01_k».proof.Proof.Gen.RefPoolGrpTIdeal.Run
public import proofs.«01_k».proof.Proof.Gen.RefPoolGrpTIdeal.Read
public import proofs.«01_k».proof.Proof.Gen.PoolGrpG
public import proofs.«01_k».proof.Proof.Gen.PoolGrpG.Skeleton
public import proofs.«01_k».proof.Proof.Gen.PoolGrpG.Launch
public import proofs.«01_k».proof.Proof.Gen.PoolGrpG.Points
public import proofs.«01_k».proof.Proof.Gen.PoolGrpG.Frame
public import proofs.«01_k».proof.Proof.Gen.PoolGrpGIdeal
public import proofs.«01_k».proof.Proof.Gen.PoolGrpGIdeal.Skeleton
public import proofs.«01_k».proof.Proof.Gen.PoolGrpGIdeal.Launch
public import proofs.«01_k».proof.Proof.Gen.PoolGrpGIdeal.Points
public import proofs.«01_k».proof.Proof.Gen.PoolGrpGIdeal.Frame
public import proofs.«01_k».proof.Proof.Gen.PoolGrpGIdeal.Value
public import proofs.«01_k».proof.Proof.Gen.RefPoolGrpGIdeal
public import proofs.«01_k».proof.Proof.Gen.RefPoolGrpGIdeal.Run
public import proofs.«01_k».proof.Proof.Gen.RefPoolGrpGIdeal.Read
public import proofs.«01_k».proof.Proof.Gen.AdamSmall
public import proofs.«01_k».proof.Proof.Gen.AdamSmall.Skeleton
public import proofs.«01_k».proof.Proof.Gen.AdamSmall.Launch
public import proofs.«01_k».proof.Proof.Gen.AdamSmall.Points
public import proofs.«01_k».proof.Proof.Gen.AdamSmall.Frame
public import proofs.«01_k».proof.Proof.Gen.AdamSmallIdeal
public import proofs.«01_k».proof.Proof.Gen.AdamSmallIdeal.Skeleton
public import proofs.«01_k».proof.Proof.Gen.AdamSmallIdeal.Launch
public import proofs.«01_k».proof.Proof.Gen.AdamSmallIdeal.Points
public import proofs.«01_k».proof.Proof.Gen.AdamSmallIdeal.Frame
public import proofs.«01_k».proof.Proof.Gen.AdamSmallIdeal.Value
public import proofs.«01_k».proof.Proof.Gen.RefAdamSmallIdeal
public import proofs.«01_k».proof.Proof.Gen.RefAdamSmallIdeal.Run
public import proofs.«01_k».proof.Proof.Gen.RefAdamSmallIdeal.Read
public import proofs.«01_k».proof.Proof.Gen.AdaStep
public import proofs.«01_k».proof.Proof.Gen.AdaStep.Skeleton
public import proofs.«01_k».proof.Proof.Gen.AdaStep.Launch
public import proofs.«01_k».proof.Proof.Gen.AdaStep.Points
public import proofs.«01_k».proof.Proof.Gen.AdaStep.Frame
public import proofs.«01_k».proof.Proof.Gen.AdaStepIdeal
public import proofs.«01_k».proof.Proof.Gen.AdaStepIdeal.Skeleton
public import proofs.«01_k».proof.Proof.Gen.AdaStepIdeal.Launch
public import proofs.«01_k».proof.Proof.Gen.AdaStepIdeal.Points
public import proofs.«01_k».proof.Proof.Gen.AdaStepIdeal.Frame
public import proofs.«01_k».proof.Proof.Gen.AdaStepIdeal.Value
public import proofs.«01_k».proof.Proof.Gen.RefAdaStepIdeal
public import proofs.«01_k».proof.Proof.Gen.RefAdaStepIdeal.Run
public import proofs.«01_k».proof.Proof.Gen.RefAdaStepIdeal.Read
public import proofs.«01_k».proof.Proof.Gen.AdamFfn
public import proofs.«01_k».proof.Proof.Gen.AdamFfn.Skeleton
public import proofs.«01_k».proof.Proof.Gen.AdamFfn.Launch
public import proofs.«01_k».proof.Proof.Gen.AdamFfn.Points
public import proofs.«01_k».proof.Proof.Gen.AdamFfn.Frame
public import proofs.«01_k».proof.Proof.Gen.AdamFfnIdeal
public import proofs.«01_k».proof.Proof.Gen.AdamFfnIdeal.Skeleton
public import proofs.«01_k».proof.Proof.Gen.AdamFfnIdeal.Launch
public import proofs.«01_k».proof.Proof.Gen.AdamFfnIdeal.Points
public import proofs.«01_k».proof.Proof.Gen.AdamFfnIdeal.Frame
public import proofs.«01_k».proof.Proof.Gen.AdamFfnIdeal.Value
public import proofs.«01_k».proof.Proof.Gen.RefAdamFfnIdeal
public import proofs.«01_k».proof.Proof.Gen.RefAdamFfnIdeal.Run
public import proofs.«01_k».proof.Proof.Gen.RefAdamFfnIdeal.Read
public import proofs.«01_k».proof.Proof.Gen.AdamIn
public import proofs.«01_k».proof.Proof.Gen.AdamIn.Skeleton
public import proofs.«01_k».proof.Proof.Gen.AdamIn.Launch
public import proofs.«01_k».proof.Proof.Gen.AdamIn.Points
public import proofs.«01_k».proof.Proof.Gen.AdamIn.Frame
public import proofs.«01_k».proof.Proof.Gen.AdamInIdeal
public import proofs.«01_k».proof.Proof.Gen.AdamInIdeal.Skeleton
public import proofs.«01_k».proof.Proof.Gen.AdamInIdeal.Launch
public import proofs.«01_k».proof.Proof.Gen.AdamInIdeal.Points
public import proofs.«01_k».proof.Proof.Gen.AdamInIdeal.Frame
public import proofs.«01_k».proof.Proof.Gen.AdamInIdeal.Value
public import proofs.«01_k».proof.Proof.Gen.RefAdamInIdeal
public import proofs.«01_k».proof.Proof.Gen.RefAdamInIdeal.Run
public import proofs.«01_k».proof.Proof.Gen.RefAdamInIdeal.Read
public import proofs.«01_k».proof.Proof.Gen.AdamOut
public import proofs.«01_k».proof.Proof.Gen.AdamOut.Skeleton
public import proofs.«01_k».proof.Proof.Gen.AdamOut.Launch
public import proofs.«01_k».proof.Proof.Gen.AdamOut.Points
public import proofs.«01_k».proof.Proof.Gen.AdamOut.Frame
public import proofs.«01_k».proof.Proof.Gen.AdamOutIdeal
public import proofs.«01_k».proof.Proof.Gen.AdamOutIdeal.Skeleton
public import proofs.«01_k».proof.Proof.Gen.AdamOutIdeal.Launch
public import proofs.«01_k».proof.Proof.Gen.AdamOutIdeal.Points
public import proofs.«01_k».proof.Proof.Gen.AdamOutIdeal.Frame
public import proofs.«01_k».proof.Proof.Gen.AdamOutIdeal.Value
public import proofs.«01_k».proof.Proof.Gen.RefAdamOutIdeal
public import proofs.«01_k».proof.Proof.Gen.RefAdamOutIdeal.Run
public import proofs.«01_k».proof.Proof.Gen.RefAdamOutIdeal.Read
public import proofs.«01_k».proof.Proof.Gen.AdamGrp
public import proofs.«01_k».proof.Proof.Gen.AdamGrp.Skeleton
public import proofs.«01_k».proof.Proof.Gen.AdamGrp.Launch
public import proofs.«01_k».proof.Proof.Gen.AdamGrp.Points
public import proofs.«01_k».proof.Proof.Gen.AdamGrp.Frame
public import proofs.«01_k».proof.Proof.Gen.AdamGrpIdeal
public import proofs.«01_k».proof.Proof.Gen.AdamGrpIdeal.Skeleton
public import proofs.«01_k».proof.Proof.Gen.AdamGrpIdeal.Launch
public import proofs.«01_k».proof.Proof.Gen.AdamGrpIdeal.Points
public import proofs.«01_k».proof.Proof.Gen.AdamGrpIdeal.Frame
public import proofs.«01_k».proof.Proof.Gen.AdamGrpIdeal.Value
public import proofs.«01_k».proof.Proof.Gen.RefAdamGrpIdeal
public import proofs.«01_k».proof.Proof.Gen.RefAdamGrpIdeal.Run
public import proofs.«01_k».proof.Proof.Gen.RefAdamGrpIdeal.Read
public import proofs.«01_k».proof.Proof.Gen.Mods
public import proofs.«01_k».proof.Proof.Gen.Mods.Skeleton
public import proofs.«01_k».proof.Proof.Gen.Mods.Launch
public import proofs.«01_k».proof.Proof.Gen.Mods.Points
public import proofs.«01_k».proof.Proof.Gen.Mods.Frame
public import proofs.«01_k».proof.Proof.Gen.ModsIdeal
public import proofs.«01_k».proof.Proof.Gen.ModsIdeal.Skeleton
public import proofs.«01_k».proof.Proof.Gen.ModsIdeal.Launch
public import proofs.«01_k».proof.Proof.Gen.ModsIdeal.Points
public import proofs.«01_k».proof.Proof.Gen.ModsIdeal.Frame
public import proofs.«01_k».proof.Proof.Gen.ModsIdeal.Value
public import proofs.«01_k».proof.Proof.Gen.RefModsIdeal
public import proofs.«01_k».proof.Proof.Gen.RefModsIdeal.Run
public import proofs.«01_k».proof.Proof.Gen.RefModsIdeal.Read
public import proofs.«01_k».proof.Proof.Gen.NormMix
public import proofs.«01_k».proof.Proof.Gen.NormMix.Skeleton
public import proofs.«01_k».proof.Proof.Gen.NormMix.Launch
public import proofs.«01_k».proof.Proof.Gen.NormMix.Points
public import proofs.«01_k».proof.Proof.Gen.NormMix.Frame
public import proofs.«01_k».proof.Proof.Gen.NormMixIdeal
public import proofs.«01_k».proof.Proof.Gen.NormMixIdeal.Skeleton
public import proofs.«01_k».proof.Proof.Gen.NormMixIdeal.Launch
public import proofs.«01_k».proof.Proof.Gen.NormMixIdeal.Points
public import proofs.«01_k».proof.Proof.Gen.NormMixIdeal.Frame
public import proofs.«01_k».proof.Proof.Gen.NormMixIdeal.Value
public import proofs.«01_k».proof.Proof.Gen.RefNormMixIdeal
public import proofs.«01_k».proof.Proof.Gen.RefNormMixIdeal.Run
public import proofs.«01_k».proof.Proof.Gen.RefNormMixIdeal.Read
public import proofs.«01_k».proof.Proof.Gen.NormFfn
public import proofs.«01_k».proof.Proof.Gen.NormFfn.Skeleton
public import proofs.«01_k».proof.Proof.Gen.NormFfn.Launch
public import proofs.«01_k».proof.Proof.Gen.NormFfn.Points
public import proofs.«01_k».proof.Proof.Gen.NormFfn.Frame
public import proofs.«01_k».proof.Proof.Gen.NormFfnIdeal
public import proofs.«01_k».proof.Proof.Gen.NormFfnIdeal.Skeleton
public import proofs.«01_k».proof.Proof.Gen.NormFfnIdeal.Launch
public import proofs.«01_k».proof.Proof.Gen.NormFfnIdeal.Points
public import proofs.«01_k».proof.Proof.Gen.NormFfnIdeal.Frame
public import proofs.«01_k».proof.Proof.Gen.NormFfnIdeal.Value
public import proofs.«01_k».proof.Proof.Gen.RefNormFfnIdeal
public import proofs.«01_k».proof.Proof.Gen.RefNormFfnIdeal.Run
public import proofs.«01_k».proof.Proof.Gen.RefNormFfnIdeal.Read
public import proofs.«01_k».proof.Proof.Gen.Readout
public import proofs.«01_k».proof.Proof.Gen.Readout.Skeleton
public import proofs.«01_k».proof.Proof.Gen.Readout.Launch
public import proofs.«01_k».proof.Proof.Gen.Readout.Points
public import proofs.«01_k».proof.Proof.Gen.Readout.Frame
public import proofs.«01_k».proof.Proof.Gen.ReadoutIdeal
public import proofs.«01_k».proof.Proof.Gen.ReadoutIdeal.Skeleton
public import proofs.«01_k».proof.Proof.Gen.ReadoutIdeal.Launch
public import proofs.«01_k».proof.Proof.Gen.ReadoutIdeal.Points
public import proofs.«01_k».proof.Proof.Gen.ReadoutIdeal.Frame
public import proofs.«01_k».proof.Proof.Gen.ReadoutIdeal.Value
public import proofs.«01_k».proof.Proof.Gen.RefReadoutIdeal
public import proofs.«01_k».proof.Proof.Gen.RefReadoutIdeal.Run
public import proofs.«01_k».proof.Proof.Gen.RefReadoutIdeal.Read
public import proofs.«01_k».proof.Proof.Gen.ChunkMlp
public import proofs.«01_k».proof.Proof.Gen.ChunkMlp.Skeleton
public import proofs.«01_k».proof.Proof.Gen.ChunkMlp.Launch
public import proofs.«01_k».proof.Proof.Gen.ChunkMlp.Points
public import proofs.«01_k».proof.Proof.Gen.ChunkMlp.Frame
public import proofs.«01_k».proof.Proof.Gen.ChunkMlpIdeal
public import proofs.«01_k».proof.Proof.Gen.ChunkMlpIdeal.Skeleton
public import proofs.«01_k».proof.Proof.Gen.ChunkMlpIdeal.Launch
public import proofs.«01_k».proof.Proof.Gen.ChunkMlpIdeal.Points
public import proofs.«01_k».proof.Proof.Gen.ChunkMlpIdeal.Frame
public import proofs.«01_k».proof.Proof.Gen.ChunkMlpIdeal.Value
public import proofs.«01_k».proof.Proof.Gen.RefChunkMlpIdeal
public import proofs.«01_k».proof.Proof.Gen.RefChunkMlpIdeal.Run
public import proofs.«01_k».proof.Proof.Gen.RefChunkMlpIdeal.Read
public import proofs.«01_k».proof.Proof.Gen.SumSmall
public import proofs.«01_k».proof.Proof.Gen.SumSmall.Skeleton
public import proofs.«01_k».proof.Proof.Gen.SumSmall.Launch
public import proofs.«01_k».proof.Proof.Gen.SumSmall.Points
public import proofs.«01_k».proof.Proof.Gen.SumSmall.Frame
public import proofs.«01_k».proof.Proof.Gen.SumSmallIdeal
public import proofs.«01_k».proof.Proof.Gen.SumSmallIdeal.Skeleton
public import proofs.«01_k».proof.Proof.Gen.SumSmallIdeal.Launch
public import proofs.«01_k».proof.Proof.Gen.SumSmallIdeal.Points
public import proofs.«01_k».proof.Proof.Gen.SumSmallIdeal.Frame
public import proofs.«01_k».proof.Proof.Gen.SumSmallIdeal.Value
public import proofs.«01_k».proof.Proof.Gen.RefSumSmallIdeal
public import proofs.«01_k».proof.Proof.Gen.RefSumSmallIdeal.Run
public import proofs.«01_k».proof.Proof.Gen.RefSumSmallIdeal.Read
public import proofs.«01_k».proof.Proof.AdaStep
public import proofs.«01_k».proof.Proof.Adam
public import proofs.«01_k».proof.Proof.AdamFfn
public import proofs.«01_k».proof.Proof.AdamGrp
public import proofs.«01_k».proof.Proof.AdamIn
public import proofs.«01_k».proof.Proof.AdamOut
public import proofs.«01_k».proof.Proof.AdamSmall
public import proofs.«01_k».proof.Proof.ChunkMlp
public import proofs.«01_k».proof.Proof.Da
public import proofs.«01_k».proof.Proof.Dh
public import proofs.«01_k».proof.Proof.FfnDown
public import proofs.«01_k».proof.Proof.FfnUp
public import proofs.«01_k».proof.Proof.Gdown
public import proofs.«01_k».proof.Proof.Gup
public import proofs.«01_k».proof.Proof.InDh
public import proofs.«01_k».proof.Proof.InG
public import proofs.«01_k».proof.Proof.InProj
public import proofs.«01_k».proof.Proof.Mods
public import proofs.«01_k».proof.Proof.NormFfn
public import proofs.«01_k».proof.Proof.NormMix
public import proofs.«01_k».proof.Proof.OutProj
public import proofs.«01_k».proof.Proof.PoolGrp
public import proofs.«01_k».proof.Proof.PoolGrpG
public import proofs.«01_k».proof.Proof.PoolGrpT
public import proofs.«01_k».proof.Proof.PoolIn
public import proofs.«01_k».proof.Proof.Readout
public import proofs.«01_k».proof.Proof.RowsG
public import proofs.«01_k».proof.Proof.RowsT
public import proofs.«01_k».proof.Proof.SumSmall
public import Idealize.ShloMosaic.Lib.Tactic

@[expose] public section

set_option maxRecDepth 16384

noncomputable section

namespace Cert.Proof

open Idealize.ShloMosaic Idealize.SL.Sem

/-- The reference `RefDaIdeal` runs and leaves its arguments unchanged. -/
theorem frame_RefDaIdeal : Cert.quiescent_RefDaIdeal (hRefDaIdeal := Cert.RefDaIdeal.Gen.facts) :=
  fun m g _ => (θ_run Cert.RefDaIdeal.defs _ _).mono
    (fun _ h => ⟨fun c => (h c).2, funext fun s => nomatch s⟩) (Cert.RefDaIdeal.Value.run m g)

/-- The reference `RefGdownIdeal` runs and leaves its arguments unchanged. -/
theorem frame_RefGdownIdeal : Cert.quiescent_RefGdownIdeal (hRefGdownIdeal := Cert.RefGdownIdeal.Gen.facts) :=
  fun m g _ => (θ_run Cert.RefGdownIdeal.defs _ _).mono
    (fun _ h => ⟨fun c => (h c).2, funext fun s => nomatch s⟩) (Cert.RefGdownIdeal.Value.run m g)

/-- The reference `RefDhIdeal` runs and leaves its arguments unchanged. -/
theorem frame_RefDhIdeal : Cert.quiescent_RefDhIdeal (hRefDhIdeal := Cert.RefDhIdeal.Gen.facts) :=
  fun m g _ => (θ_run Cert.RefDhIdeal.defs _ _).mono
    (fun _ h => ⟨fun c => (h c).2, funext fun s => nomatch s⟩) (Cert.RefDhIdeal.Value.run m g)

/-- The reference `RefGupIdeal` runs and leaves its arguments unchanged. -/
theorem frame_RefGupIdeal : Cert.quiescent_RefGupIdeal (hRefGupIdeal := Cert.RefGupIdeal.Gen.facts) :=
  fun m g _ => (θ_run Cert.RefGupIdeal.defs _ _).mono
    (fun _ h => ⟨fun c => (h c).2, funext fun s => nomatch s⟩) (Cert.RefGupIdeal.Value.run m g)

/-- The reference `RefFfnUpIdeal` runs and leaves its arguments unchanged. -/
theorem frame_RefFfnUpIdeal : Cert.quiescent_RefFfnUpIdeal (hRefFfnUpIdeal := Cert.RefFfnUpIdeal.Gen.facts) :=
  fun m g _ => (θ_run Cert.RefFfnUpIdeal.defs _ _).mono
    (fun _ h => ⟨fun c => (h c).2, funext fun s => nomatch s⟩) (Cert.RefFfnUpIdeal.Value.run m g)

/-- The reference `RefFfnDownIdeal` runs and leaves its arguments unchanged. -/
theorem frame_RefFfnDownIdeal : Cert.quiescent_RefFfnDownIdeal (hRefFfnDownIdeal := Cert.RefFfnDownIdeal.Gen.facts) :=
  fun m g _ => (θ_run Cert.RefFfnDownIdeal.defs _ _).mono
    (fun _ h => ⟨fun c => (h c).2.2, funext fun s => nomatch s⟩) (Cert.RefFfnDownIdeal.Value.run m g)

/-- The reference `RefInProjIdeal` runs and leaves its arguments unchanged. -/
theorem frame_RefInProjIdeal : Cert.quiescent_RefInProjIdeal (hRefInProjIdeal := Cert.RefInProjIdeal.Gen.facts) :=
  fun m g _ => (θ_run Cert.RefInProjIdeal.defs _ _).mono
    (fun _ h => ⟨fun c => (h c).2, funext fun s => nomatch s⟩) (Cert.RefInProjIdeal.Value.run m g)

/-- The reference `RefInDhIdeal` runs and leaves its arguments unchanged. -/
theorem frame_RefInDhIdeal : Cert.quiescent_RefInDhIdeal (hRefInDhIdeal := Cert.RefInDhIdeal.Gen.facts) :=
  fun m g _ => (θ_run Cert.RefInDhIdeal.defs _ _).mono
    (fun _ h => ⟨fun c => (h c).2, funext fun s => nomatch s⟩) (Cert.RefInDhIdeal.Value.run m g)

/-- The reference `RefInGIdeal` runs and leaves its arguments unchanged. -/
theorem frame_RefInGIdeal : Cert.quiescent_RefInGIdeal (hRefInGIdeal := Cert.RefInGIdeal.Gen.facts) :=
  fun m g _ => (θ_run Cert.RefInGIdeal.defs _ _).mono
    (fun _ h => ⟨fun c => (h c).2, funext fun s => nomatch s⟩) (Cert.RefInGIdeal.Value.run m g)

/-- The reference `RefOutProjIdeal` runs and leaves its arguments unchanged. -/
theorem frame_RefOutProjIdeal : Cert.quiescent_RefOutProjIdeal (hRefOutProjIdeal := Cert.RefOutProjIdeal.Gen.facts) :=
  fun m g _ => (θ_run Cert.RefOutProjIdeal.defs _ _).mono
    (fun _ h => ⟨fun c => (h c).2.2, funext fun s => nomatch s⟩) (Cert.RefOutProjIdeal.Value.run m g)

/-- The reference `RefRowsTIdeal` runs and leaves its arguments unchanged. -/
theorem frame_RefRowsTIdeal : Cert.quiescent_RefRowsTIdeal (hRefRowsTIdeal := Cert.RefRowsTIdeal.Gen.facts) :=
  fun m g _ => (θ_run Cert.RefRowsTIdeal.defs _ _).mono
    (fun _ h => ⟨fun c => (h c).2, funext fun s => nomatch s⟩) (Cert.RefRowsTIdeal.Value.run m g)

/-- The reference `RefRowsGIdeal` runs and leaves its arguments unchanged. -/
theorem frame_RefRowsGIdeal : Cert.quiescent_RefRowsGIdeal (hRefRowsGIdeal := Cert.RefRowsGIdeal.Gen.facts) :=
  fun m g _ => (θ_run Cert.RefRowsGIdeal.defs _ _).mono
    (fun _ h => ⟨fun c => (h c).2, funext fun s => nomatch s⟩) (Cert.RefRowsGIdeal.Value.run m g)

/-- The reference `RefPoolInIdeal` runs and leaves its arguments unchanged. -/
theorem frame_RefPoolInIdeal : Cert.quiescent_RefPoolInIdeal (hRefPoolInIdeal := Cert.RefPoolInIdeal.Gen.facts) :=
  fun m g _ => (θ_run Cert.RefPoolInIdeal.defs _ _).mono
    (fun _ h => ⟨fun c => (h c).2, funext fun s => nomatch s⟩) (Cert.RefPoolInIdeal.Value.run m g)

/-- The reference `RefPoolGrpIdeal` runs and leaves its arguments unchanged. -/
theorem frame_RefPoolGrpIdeal : Cert.quiescent_RefPoolGrpIdeal (hRefPoolGrpIdeal := Cert.RefPoolGrpIdeal.Gen.facts) :=
  fun m g _ => (θ_run Cert.RefPoolGrpIdeal.defs _ _).mono
    (fun _ h => ⟨fun c => (h c).2.2, funext fun s => nomatch s⟩) (Cert.RefPoolGrpIdeal.Value.run m g)

/-- The reference `RefPoolGrpTIdeal` runs and leaves its arguments unchanged. -/
theorem frame_RefPoolGrpTIdeal : Cert.quiescent_RefPoolGrpTIdeal (hRefPoolGrpTIdeal := Cert.RefPoolGrpTIdeal.Gen.facts) :=
  fun m g _ => (θ_run Cert.RefPoolGrpTIdeal.defs _ _).mono
    (fun _ h => ⟨fun c => (h c).2, funext fun s => nomatch s⟩) (Cert.RefPoolGrpTIdeal.Value.run m g)

/-- The reference `RefPoolGrpGIdeal` runs and leaves its arguments unchanged. -/
theorem frame_RefPoolGrpGIdeal : Cert.quiescent_RefPoolGrpGIdeal (hRefPoolGrpGIdeal := Cert.RefPoolGrpGIdeal.Gen.facts) :=
  fun m g _ => (θ_run Cert.RefPoolGrpGIdeal.defs _ _).mono
    (fun _ h => ⟨fun c => (h c).2, funext fun s => nomatch s⟩) (Cert.RefPoolGrpGIdeal.Value.run m g)

/-- The reference `RefAdamSmallIdeal` runs and leaves its arguments unchanged. -/
theorem frame_RefAdamSmallIdeal : Cert.quiescent_RefAdamSmallIdeal (hRefAdamSmallIdeal := Cert.RefAdamSmallIdeal.Gen.facts) :=
  fun m g _ => (θ_run Cert.RefAdamSmallIdeal.defs _ _).mono
    (fun _ h => ⟨fun c => (h c).2.2.2, funext fun s => nomatch s⟩) (Cert.RefAdamSmallIdeal.Value.run m g)

/-- The reference `RefAdaStepIdeal` runs and leaves its arguments unchanged. -/
theorem frame_RefAdaStepIdeal : Cert.quiescent_RefAdaStepIdeal (hRefAdaStepIdeal := Cert.RefAdaStepIdeal.Gen.facts) :=
  fun m g _ => (θ_run Cert.RefAdaStepIdeal.defs _ _).mono
    (fun _ h => ⟨fun c => (h c).2.2.2.2.2, funext fun s => nomatch s⟩) (Cert.RefAdaStepIdeal.Value.run m g)

/-- The reference `RefAdamFfnIdeal` runs and leaves its arguments unchanged. -/
theorem frame_RefAdamFfnIdeal : Cert.quiescent_RefAdamFfnIdeal (hRefAdamFfnIdeal := Cert.RefAdamFfnIdeal.Gen.facts) :=
  fun m g _ => (θ_run Cert.RefAdamFfnIdeal.defs _ _).mono
    (fun _ h => ⟨fun c => (h c).2.2.2.2, funext fun s => nomatch s⟩) (Cert.RefAdamFfnIdeal.Value.run m g)

/-- The reference `RefAdamInIdeal` runs and leaves its arguments unchanged. -/
theorem frame_RefAdamInIdeal : Cert.quiescent_RefAdamInIdeal (hRefAdamInIdeal := Cert.RefAdamInIdeal.Gen.facts) :=
  fun m g _ => (θ_run Cert.RefAdamInIdeal.defs _ _).mono
    (fun _ h => ⟨fun c => (h c).2.2.2.2, funext fun s => nomatch s⟩) (Cert.RefAdamInIdeal.Value.run m g)

/-- The reference `RefAdamOutIdeal` runs and leaves its arguments unchanged. -/
theorem frame_RefAdamOutIdeal : Cert.quiescent_RefAdamOutIdeal (hRefAdamOutIdeal := Cert.RefAdamOutIdeal.Gen.facts) :=
  fun m g _ => (θ_run Cert.RefAdamOutIdeal.defs _ _).mono
    (fun _ h => ⟨fun c => (h c).2.2.2.2, funext fun s => nomatch s⟩) (Cert.RefAdamOutIdeal.Value.run m g)

/-- The reference `RefAdamGrpIdeal` runs and leaves its arguments unchanged. -/
theorem frame_RefAdamGrpIdeal : Cert.quiescent_RefAdamGrpIdeal (hRefAdamGrpIdeal := Cert.RefAdamGrpIdeal.Gen.facts) :=
  fun m g _ => (θ_run Cert.RefAdamGrpIdeal.defs _ _).mono
    (fun _ h => ⟨fun c => (h c).2.2.2.2, funext fun s => nomatch s⟩) (Cert.RefAdamGrpIdeal.Value.run m g)

/-- The reference `RefModsIdeal` runs and leaves its arguments unchanged. -/
theorem frame_RefModsIdeal : Cert.quiescent_RefModsIdeal (hRefModsIdeal := Cert.RefModsIdeal.Gen.facts) :=
  fun m g _ => (θ_run Cert.RefModsIdeal.defs _ _).mono
    (fun _ h => ⟨fun c => (h c).2, funext fun s => nomatch s⟩) (Cert.RefModsIdeal.Value.run m g)

/-- The reference `RefNormMixIdeal` runs and leaves its arguments unchanged. -/
theorem frame_RefNormMixIdeal : Cert.quiescent_RefNormMixIdeal (hRefNormMixIdeal := Cert.RefNormMixIdeal.Gen.facts) :=
  fun m g _ => (θ_run Cert.RefNormMixIdeal.defs _ _).mono
    (fun _ h => ⟨fun c => (h c).2, funext fun s => nomatch s⟩) (Cert.RefNormMixIdeal.Value.run m g)

/-- The reference `RefNormFfnIdeal` runs and leaves its arguments unchanged. -/
theorem frame_RefNormFfnIdeal : Cert.quiescent_RefNormFfnIdeal (hRefNormFfnIdeal := Cert.RefNormFfnIdeal.Gen.facts) :=
  fun m g _ => (θ_run Cert.RefNormFfnIdeal.defs _ _).mono
    (fun _ h => ⟨fun c => (h c).2, funext fun s => nomatch s⟩) (Cert.RefNormFfnIdeal.Value.run m g)

/-- The reference `RefReadoutIdeal` runs and leaves its arguments unchanged. -/
theorem frame_RefReadoutIdeal : Cert.quiescent_RefReadoutIdeal (hRefReadoutIdeal := Cert.RefReadoutIdeal.Gen.facts) :=
  fun m g _ => (θ_run Cert.RefReadoutIdeal.defs _ _).mono
    (fun _ h => ⟨fun c => (h c).2, funext fun s => nomatch s⟩) (Cert.RefReadoutIdeal.Value.run m g)

/-- The reference `RefChunkMlpIdeal` runs and leaves its arguments unchanged. -/
theorem frame_RefChunkMlpIdeal : Cert.quiescent_RefChunkMlpIdeal (hRefChunkMlpIdeal := Cert.RefChunkMlpIdeal.Gen.facts) :=
  fun m g _ => (θ_run Cert.RefChunkMlpIdeal.defs _ _).mono
    (fun _ h => ⟨fun c => (h c).2, funext fun s => nomatch s⟩) (Cert.RefChunkMlpIdeal.Value.run m g)

/-- The reference `RefSumSmallIdeal` runs and leaves its arguments unchanged. -/
theorem frame_RefSumSmallIdeal : Cert.quiescent_RefSumSmallIdeal (hRefSumSmallIdeal := Cert.RefSumSmallIdeal.Gen.facts) :=
  fun m g _ => (θ_run Cert.RefSumSmallIdeal.defs _ _).mono
    (fun _ h => ⟨fun c => (h c).2, funext fun s => nomatch s⟩) (Cert.RefSumSmallIdeal.Value.run m g)

/-- Everything the certificate claims. -/
theorem claim : Cert.Claim := ⟨Cert.FfnDa.Gen.facts, Cert.FfnDaIdeal.Gen.facts, Cert.RefDaIdeal.Gen.facts, Cert.FfnGdown.Gen.facts, Cert.FfnGdownIdeal.Gen.facts, Cert.RefGdownIdeal.Gen.facts, Cert.FfnDh.Gen.facts, Cert.FfnDhIdeal.Gen.facts, Cert.RefDhIdeal.Gen.facts, Cert.FfnGup.Gen.facts, Cert.FfnGupIdeal.Gen.facts, Cert.RefGupIdeal.Gen.facts, Cert.FfnUp.Gen.facts, Cert.FfnUpIdeal.Gen.facts, Cert.RefFfnUpIdeal.Gen.facts, Cert.FfnDown.Gen.facts, Cert.FfnDownIdeal.Gen.facts, Cert.RefFfnDownIdeal.Gen.facts, Cert.InProj.Gen.facts, Cert.InProjIdeal.Gen.facts, Cert.RefInProjIdeal.Gen.facts, Cert.InDh.Gen.facts, Cert.InDhIdeal.Gen.facts, Cert.RefInDhIdeal.Gen.facts, Cert.InG.Gen.facts, Cert.InGIdeal.Gen.facts, Cert.RefInGIdeal.Gen.facts, Cert.OutProj.Gen.facts, Cert.OutProjIdeal.Gen.facts, Cert.RefOutProjIdeal.Gen.facts, Cert.RowsT.Gen.facts, Cert.RowsTIdeal.Gen.facts, Cert.RefRowsTIdeal.Gen.facts, Cert.RowsG.Gen.facts, Cert.RowsGIdeal.Gen.facts, Cert.RefRowsGIdeal.Gen.facts, Cert.PoolIn.Gen.facts, Cert.PoolInIdeal.Gen.facts, Cert.RefPoolInIdeal.Gen.facts, Cert.PoolGrp.Gen.facts, Cert.PoolGrpIdeal.Gen.facts, Cert.RefPoolGrpIdeal.Gen.facts, Cert.PoolGrpT.Gen.facts, Cert.PoolGrpTIdeal.Gen.facts, Cert.RefPoolGrpTIdeal.Gen.facts, Cert.PoolGrpG.Gen.facts, Cert.PoolGrpGIdeal.Gen.facts, Cert.RefPoolGrpGIdeal.Gen.facts, Cert.AdamSmall.Gen.facts, Cert.AdamSmallIdeal.Gen.facts, Cert.RefAdamSmallIdeal.Gen.facts, Cert.AdaStep.Gen.facts, Cert.AdaStepIdeal.Gen.facts, Cert.RefAdaStepIdeal.Gen.facts, Cert.AdamFfn.Gen.facts, Cert.AdamFfnIdeal.Gen.facts, Cert.RefAdamFfnIdeal.Gen.facts, Cert.AdamIn.Gen.facts, Cert.AdamInIdeal.Gen.facts, Cert.RefAdamInIdeal.Gen.facts, Cert.AdamOut.Gen.facts, Cert.AdamOutIdeal.Gen.facts, Cert.RefAdamOutIdeal.Gen.facts, Cert.AdamGrp.Gen.facts, Cert.AdamGrpIdeal.Gen.facts, Cert.RefAdamGrpIdeal.Gen.facts, Cert.Mods.Gen.facts, Cert.ModsIdeal.Gen.facts, Cert.RefModsIdeal.Gen.facts, Cert.NormMix.Gen.facts, Cert.NormMixIdeal.Gen.facts, Cert.RefNormMixIdeal.Gen.facts, Cert.NormFfn.Gen.facts, Cert.NormFfnIdeal.Gen.facts, Cert.RefNormFfnIdeal.Gen.facts, Cert.Readout.Gen.facts, Cert.ReadoutIdeal.Gen.facts, Cert.RefReadoutIdeal.Gen.facts, Cert.ChunkMlp.Gen.facts, Cert.ChunkMlpIdeal.Gen.facts, Cert.RefChunkMlpIdeal.Gen.facts, Cert.SumSmall.Gen.facts, Cert.SumSmallIdeal.Gen.facts, Cert.RefSumSmallIdeal.Gen.facts,
  fun m ρ _ => Cert.FfnDa.Gen.frame m ρ,
  fun m ρ _ => Cert.FfnDaIdeal.Gen.frame m ρ,
  frame_RefDaIdeal,
  fun m ρ _ => Cert.FfnGdown.Gen.frame m ρ,
  fun m ρ _ => Cert.FfnGdownIdeal.Gen.frame m ρ,
  frame_RefGdownIdeal,
  fun m ρ _ => Cert.FfnDh.Gen.frame m ρ,
  fun m ρ _ => Cert.FfnDhIdeal.Gen.frame m ρ,
  frame_RefDhIdeal,
  fun m ρ _ => Cert.FfnGup.Gen.frame m ρ,
  fun m ρ _ => Cert.FfnGupIdeal.Gen.frame m ρ,
  frame_RefGupIdeal,
  fun m ρ _ => Cert.FfnUp.Gen.frame m ρ,
  fun m ρ _ => Cert.FfnUpIdeal.Gen.frame m ρ,
  frame_RefFfnUpIdeal,
  fun m ρ _ => Cert.FfnDown.Gen.frame m ρ,
  fun m ρ _ => Cert.FfnDownIdeal.Gen.frame m ρ,
  frame_RefFfnDownIdeal,
  fun m ρ _ => Cert.InProj.Gen.frame m ρ,
  fun m ρ _ => Cert.InProjIdeal.Gen.frame m ρ,
  frame_RefInProjIdeal,
  fun m ρ _ => Cert.InDh.Gen.frame m ρ,
  fun m ρ _ => Cert.InDhIdeal.Gen.frame m ρ,
  frame_RefInDhIdeal,
  fun m ρ _ => Cert.InG.Gen.frame m ρ,
  fun m ρ _ => Cert.InGIdeal.Gen.frame m ρ,
  frame_RefInGIdeal,
  fun m ρ _ => Cert.OutProj.Gen.frame m ρ,
  fun m ρ _ => Cert.OutProjIdeal.Gen.frame m ρ,
  frame_RefOutProjIdeal,
  fun m ρ _ => Cert.RowsT.Gen.frame m ρ,
  fun m ρ _ => Cert.RowsTIdeal.Gen.frame m ρ,
  frame_RefRowsTIdeal,
  fun m ρ _ => Cert.RowsG.Gen.frame m ρ,
  fun m ρ _ => Cert.RowsGIdeal.Gen.frame m ρ,
  frame_RefRowsGIdeal,
  fun m ρ _ => Cert.PoolIn.Gen.frame m ρ,
  fun m ρ _ => Cert.PoolInIdeal.Gen.frame m ρ,
  frame_RefPoolInIdeal,
  fun m ρ _ => Cert.PoolGrp.Gen.frame m ρ,
  fun m ρ _ => Cert.PoolGrpIdeal.Gen.frame m ρ,
  frame_RefPoolGrpIdeal,
  fun m ρ _ => Cert.PoolGrpT.Gen.frame m ρ,
  fun m ρ _ => Cert.PoolGrpTIdeal.Gen.frame m ρ,
  frame_RefPoolGrpTIdeal,
  fun m ρ _ => Cert.PoolGrpG.Gen.frame m ρ,
  fun m ρ _ => Cert.PoolGrpGIdeal.Gen.frame m ρ,
  frame_RefPoolGrpGIdeal,
  fun m ρ _ => Cert.AdamSmall.Gen.frame m ρ,
  fun m ρ _ => Cert.AdamSmallIdeal.Gen.frame m ρ,
  frame_RefAdamSmallIdeal,
  fun m ρ _ => Cert.AdaStep.Gen.frame m ρ,
  fun m ρ _ => Cert.AdaStepIdeal.Gen.frame m ρ,
  frame_RefAdaStepIdeal,
  fun m ρ _ => Cert.AdamFfn.Gen.frame m ρ,
  fun m ρ _ => Cert.AdamFfnIdeal.Gen.frame m ρ,
  frame_RefAdamFfnIdeal,
  fun m ρ _ => Cert.AdamIn.Gen.frame m ρ,
  fun m ρ _ => Cert.AdamInIdeal.Gen.frame m ρ,
  frame_RefAdamInIdeal,
  fun m ρ _ => Cert.AdamOut.Gen.frame m ρ,
  fun m ρ _ => Cert.AdamOutIdeal.Gen.frame m ρ,
  frame_RefAdamOutIdeal,
  fun m ρ _ => Cert.AdamGrp.Gen.frame m ρ,
  fun m ρ _ => Cert.AdamGrpIdeal.Gen.frame m ρ,
  frame_RefAdamGrpIdeal,
  fun m ρ _ => Cert.Mods.Gen.frame m ρ,
  fun m ρ _ => Cert.ModsIdeal.Gen.frame m ρ,
  frame_RefModsIdeal,
  fun m ρ _ => Cert.NormMix.Gen.frame m ρ,
  fun m ρ _ => Cert.NormMixIdeal.Gen.frame m ρ,
  frame_RefNormMixIdeal,
  fun m ρ _ => Cert.NormFfn.Gen.frame m ρ,
  fun m ρ _ => Cert.NormFfnIdeal.Gen.frame m ρ,
  frame_RefNormFfnIdeal,
  fun m ρ _ => Cert.Readout.Gen.frame m ρ,
  fun m ρ _ => Cert.ReadoutIdeal.Gen.frame m ρ,
  frame_RefReadoutIdeal,
  fun m ρ _ => Cert.ChunkMlp.Gen.frame m ρ,
  fun m ρ _ => Cert.ChunkMlpIdeal.Gen.frame m ρ,
  frame_RefChunkMlpIdeal,
  fun m ρ _ => Cert.SumSmall.Gen.frame m ρ,
  fun m ρ _ => Cert.SumSmallIdeal.Gen.frame m ρ,
  frame_RefSumSmallIdeal,
  trivial,
  Cert.FfnDaIdeal.Hand.algebraic,
  trivial,
  Cert.FfnGdownIdeal.Hand.algebraic,
  trivial,
  Cert.FfnDhIdeal.Hand.algebraic,
  trivial,
  Cert.FfnGupIdeal.Hand.algebraic,
  trivial,
  Cert.FfnUpIdeal.Hand.algebraic,
  trivial,
  Cert.FfnDownIdeal.Hand.algebraic,
  trivial,
  Cert.InProjIdeal.Hand.algebraic,
  trivial,
  Cert.InDhIdeal.Hand.algebraic,
  trivial,
  Cert.InGIdeal.Hand.algebraic,
  trivial,
  Cert.OutProjIdeal.Hand.algebraic,
  trivial,
  Cert.RowsTIdeal.Hand.algebraic,
  trivial,
  Cert.RowsGIdeal.Hand.algebraic,
  trivial,
  Cert.PoolInIdeal.Hand.algebraic,
  trivial,
  Cert.PoolGrpIdeal.Hand.algebraic,
  trivial,
  Cert.PoolGrpTIdeal.Hand.algebraic,
  trivial,
  Cert.PoolGrpGIdeal.Hand.algebraic,
  trivial,
  Cert.AdamSmallIdeal.Hand.algebraic,
  trivial,
  Cert.AdaStepIdeal.Hand.algebraic,
  trivial,
  Cert.AdamFfnIdeal.Hand.algebraic,
  trivial,
  Cert.AdamInIdeal.Hand.algebraic,
  trivial,
  Cert.AdamOutIdeal.Hand.algebraic,
  trivial,
  Cert.AdamGrpIdeal.Hand.algebraic,
  trivial,
  Cert.ModsIdeal.Hand.algebraic,
  trivial,
  Cert.NormMixIdeal.Hand.algebraic,
  trivial,
  Cert.NormFfnIdeal.Hand.algebraic,
  trivial,
  Cert.ReadoutIdeal.Hand.algebraic,
  trivial,
  Cert.ChunkMlpIdeal.Hand.algebraic,
  trivial,
  Cert.SumSmallIdeal.Hand.algebraic⟩

end Cert.Proof

end
